-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Kernel38Ideal_finite [hPre_finite : Cert.Pre_finite.Facts] (m : (ℓ : Loc Cert.Kernel38Ideal.nD Cert.Kernel38Ideal.τ Cert.Kernel38Ideal.sig) → Buf (Elt Ideal) ℓ) : Prop :=
  ∀ c : Dev Cert.Kernel38Ideal.nD,
    (Cert.Pre_finite.fn (F := Ideal) (m ((c.tc : Thread Cert.Kernel38Ideal.nD Cert.Kernel38Ideal.τ).loc Cert.Kernel38Ideal.main_arg0)) (m ((c.tc : Thread Cert.Kernel38Ideal.nD Cert.Kernel38Ideal.τ).loc Cert.Kernel38Ideal.main_arg1)) (m ((c.tc : Thread Cert.Kernel38Ideal.nD Cert.Kernel38Ideal.τ).loc Cert.Kernel38Ideal.main_arg2)) (m ((c.tc : Thread Cert.Kernel38Ideal.nD Cert.Kernel38Ideal.τ).loc Cert.Kernel38Ideal.main_arg3)) (m ((c.tc : Thread Cert.Kernel38Ideal.nD Cert.Kernel38Ideal.τ).loc Cert.Kernel38Ideal.main_arg4))) = (fun _ => 1#1)

def Pre_Reference38Ideal (m : (ℓ : Loc Cert.Reference38Ideal.nD Cert.Reference38Ideal.τ Cert.Reference38Ideal.sig) → Buf (Elt Ideal) ℓ) : Prop :=
  True

def Pre_Reference38Ideal_finite [hPre_finite : Cert.Pre_finite.Facts] (m : (ℓ : Loc Cert.Reference38Ideal.nD Cert.Reference38Ideal.τ Cert.Reference38Ideal.sig) → Buf (Elt Ideal) ℓ) : Prop :=
  ∀ c : Dev Cert.Reference38Ideal.nD,
    (Cert.Pre_finite.fn (F := Ideal) (m ((c.tc : Thread Cert.Reference38Ideal.nD Cert.Reference38Ideal.τ).loc Cert.Reference38Ideal.main_arg0)) (m ((c.tc : Thread Cert.Reference38Ideal.nD Cert.Reference38Ideal.τ).loc Cert.Reference38Ideal.main_arg1)) (m ((c.tc : Thread Cert.Reference38Ideal.nD Cert.Reference38Ideal.τ).loc Cert.Reference38Ideal.main_arg2)) (m ((c.tc : Thread Cert.Reference38Ideal.nD Cert.Reference38Ideal.τ).loc Cert.Reference38Ideal.main_arg3)) (m ((c.tc : Thread Cert.Reference38Ideal.nD Cert.Reference38Ideal.τ).loc Cert.Reference38Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6)
      ∧ r.2.mem ((c.tc : Thread Cert.Kernel23.nD Cert.Kernel23.τ).loc Cert.Kernel23.main_arg7) = m ((c.tc : Thread Cert.Kernel23.nD Cert.Kernel23.τ).loc Cert.Kernel23.main_arg7))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
      ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6)
      ∧ r.2.mem ((c.tc : Thread Cert.Reference23Ideal.nD Cert.Reference23Ideal.τ).loc Cert.Reference23Ideal.main_arg7) = m ((c.tc : Thread Cert.Reference23Ideal.nD Cert.Reference23Ideal.τ).loc Cert.Reference23Ideal.main_arg7))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3)
      ∧ r.2.mem ((c.tc : Thread Cert.Kernel38.nD Cert.Kernel38.τ).loc Cert.Kernel38.main_arg4) = m ((c.tc : Thread Cert.Kernel38.nD Cert.Kernel38.τ).loc Cert.Kernel38.main_arg4))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
      ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4))
      ∧ r.2.sem = fun _ => 0)

def quiescent_Kernel38Ideal_pre_finite [hKernel38Ideal : Cert.Kernel38Ideal.Facts] [hPre_finite : Cert.Pre_finite.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal_finite m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
      ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3)
      ∧ r.2.mem ((c.tc : Thread Cert.Reference38Ideal.nD Cert.Reference38Ideal.τ).loc Cert.Reference38Ideal.main_arg4) = m ((c.tc : Thread Cert.Reference38Ideal.nD Cert.Reference38Ideal.τ).loc Cert.Reference38Ideal.main_arg4))
      ∧ r.2.sem = fun _ => 0)

def quiescent_Reference38Ideal_pre_finite [hReference38Ideal : Cert.Reference38Ideal.Facts] [hPre_finite : Cert.Pre_finite.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal_finite m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3)
      ∧ r.2.mem ((c.tc : Thread Cert.Reference38Ideal.nD Cert.Reference38Ideal.τ).loc Cert.Reference38Ideal.main_arg4) = m ((c.tc : Thread Cert.Reference38Ideal.nD Cert.Reference38Ideal.τ).loc Cert.Reference38Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_v32) = v3 c
          ∧ r.2.mem ((c.tc : Thread Cert.ReferenceIdeal.nD Cert.ReferenceIdeal.τ).loc Cert.ReferenceIdeal.main_v29) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v48) = v0 c
          ∧ r.2.mem ((c.tc : Thread Cert.Reference22Ideal.nD Cert.Reference22Ideal.τ).loc Cert.Reference22Ideal.main_v31) = v1 c
          ∧ r.2.mem ((c.tc : Thread Cert.Reference22Ideal.nD Cert.Reference22Ideal.τ).loc Cert.Reference22Ideal.main_v23) = v2 c
          ∧ r.2.mem ((c.tc : Thread Cert.Reference22Ideal.nD Cert.Reference22Ideal.τ).loc Cert.Reference22Ideal.main_v26) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)
      ∧ m' ((c.tc : Thread Cert.Reference23Ideal.nD Cert.Reference23Ideal.τ).loc Cert.Reference23Ideal.main_arg7) = m ((c.tc : Thread Cert.Kernel23Ideal.nD Cert.Kernel23Ideal.τ).loc Cert.Kernel23Ideal.main_arg7)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)) (v4 : (c : Dev Cert.Kernel23Ideal.nD) → Buf (Elt Ideal) ((c.tc : Thread Cert.Kernel23Ideal.nD Cert.Kernel23Ideal.τ).loc Cert.Kernel23Ideal.main_v0_4)) (v5 : (c : Dev Cert.Kernel23Ideal.nD) → Buf (Elt Ideal) ((c.tc : Thread Cert.Kernel23Ideal.nD Cert.Kernel23Ideal.τ).loc Cert.Kernel23Ideal.main_v0_5)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_v0_4) = v4 c
          ∧ r.2.mem ((c.tc : Thread Cert.Kernel23Ideal.nD Cert.Kernel23Ideal.τ).loc Cert.Kernel23Ideal.main_v0_5) = v5 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
          ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v51) = v0 c
          ∧ r.2.mem ((c.tc : Thread Cert.Reference23Ideal.nD Cert.Reference23Ideal.τ).loc Cert.Reference23Ideal.main_v58) = v1 c
          ∧ r.2.mem ((c.tc : Thread Cert.Reference23Ideal.nD Cert.Reference23Ideal.τ).loc Cert.Reference23Ideal.main_v57) = v2 c
          ∧ r.2.mem ((c.tc : Thread Cert.Reference23Ideal.nD Cert.Reference23Ideal.τ).loc Cert.Reference23Ideal.main_v34) = v3 c
          ∧ r.2.mem ((c.tc : Thread Cert.Reference23Ideal.nD Cert.Reference23Ideal.τ).loc Cert.Reference23Ideal.main_v26) = v4 c
          ∧ r.2.mem ((c.tc : Thread Cert.Reference23Ideal.nD Cert.Reference23Ideal.τ).loc Cert.Reference23Ideal.main_v29) = v5 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6)
          ∧ r.2.mem ((c.tc : Thread Cert.Reference23Ideal.nD Cert.Reference23Ideal.τ).loc Cert.Reference23Ideal.main_arg7) = m' ((c.tc : Thread Cert.Reference23Ideal.nD Cert.Reference23Ideal.τ).loc Cert.Reference23Ideal.main_arg7))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v9_0)) (v1 : (c : Dev Cert.Kernel24Ideal.nD) → Buf (Elt Ideal) ((c.tc : Thread Cert.Kernel24Ideal.nD Cert.Kernel24Ideal.τ).loc Cert.Kernel24Ideal.main_v9_1)) (v2 : (c : Dev Cert.Kernel24Ideal.nD) → Buf (Elt Ideal) ((c.tc : Thread Cert.Kernel24Ideal.nD Cert.Kernel24Ideal.τ).loc Cert.Kernel24Ideal.main_v9_2)) (v3 : (c : Dev Cert.Kernel24Ideal.nD) → Buf (Elt Ideal) ((c.tc : Thread Cert.Kernel24Ideal.nD Cert.Kernel24Ideal.τ).loc Cert.Kernel24Ideal.main_v9_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v9_0) = v0 c
          ∧ r.2.mem ((c.tc : Thread Cert.Kernel24Ideal.nD Cert.Kernel24Ideal.τ).loc Cert.Kernel24Ideal.main_v9_1) = v1 c
          ∧ r.2.mem ((c.tc : Thread Cert.Kernel24Ideal.nD Cert.Kernel24Ideal.τ).loc Cert.Kernel24Ideal.main_v9_2) = v2 c
          ∧ r.2.mem ((c.tc : Thread Cert.Kernel24Ideal.nD Cert.Kernel24Ideal.τ).loc Cert.Kernel24Ideal.main_v9_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v55) = v0 c
          ∧ r.2.mem ((c.tc : Thread Cert.Reference24Ideal.nD Cert.Reference24Ideal.τ).loc Cert.Reference24Ideal.main_v56) = v1 c
          ∧ r.2.mem ((c.tc : Thread Cert.Reference24Ideal.nD Cert.Reference24Ideal.τ).loc Cert.Reference24Ideal.main_v57) = v2 c
          ∧ r.2.mem ((c.tc : Thread Cert.Reference24Ideal.nD Cert.Reference24Ideal.τ).loc Cert.Reference24Ideal.main_v58) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)) (v4 : (c : Dev Cert.Kernel25Ideal.nD) → Buf (Elt Ideal) ((c.tc : Thread Cert.Kernel25Ideal.nD Cert.Kernel25Ideal.τ).loc Cert.Kernel25Ideal.main_v0_4)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_v0_4) = v4 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v51) = v0 c
          ∧ r.2.mem ((c.tc : Thread Cert.Reference25Ideal.nD Cert.Reference25Ideal.τ).loc Cert.Reference25Ideal.main_v57) = v1 c
          ∧ r.2.mem ((c.tc : Thread Cert.Reference25Ideal.nD Cert.Reference25Ideal.τ).loc Cert.Reference25Ideal.main_v56) = v2 c
          ∧ r.2.mem ((c.tc : Thread Cert.Reference25Ideal.nD Cert.Reference25Ideal.τ).loc Cert.Reference25Ideal.main_v35) = v3 c
          ∧ r.2.mem ((c.tc : Thread Cert.Reference25Ideal.nD Cert.Reference25Ideal.τ).loc Cert.Reference25Ideal.main_v58) = v4 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v6) = v0 c
          ∧ r.2.mem ((c.tc : Thread Cert.Reference26Ideal.nD Cert.Reference26Ideal.τ).loc Cert.Reference26Ideal.main_v12) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v18) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v2) = v0 c
          ∧ r.2.mem ((c.tc : Thread Cert.Reference28Ideal.nD Cert.Reference28Ideal.τ).loc Cert.Reference28Ideal.main_v21) = v1 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v9)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v9) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v21) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v17) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v0) = v0 c
          ∧ r.2.mem ((c.tc : Thread Cert.Reference31Ideal.nD Cert.Reference31Ideal.τ).loc Cert.Reference31Ideal.main_v3) = v1 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v1) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v36) = v0 c
          ∧ r.2.mem ((c.tc : Thread Cert.Reference32Ideal.nD Cert.Reference32Ideal.τ).loc Cert.Reference32Ideal.main_v37) = v1 c
          ∧ r.2.mem ((c.tc : Thread Cert.Reference32Ideal.nD Cert.Reference32Ideal.τ).loc Cert.Reference32Ideal.main_v73) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v2) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v2) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v2) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v2) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v2) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v2) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)) →
    ∃ (v0 : (c : Dev Cert.Kernel36Ideal.nD) → Buf (Elt Ideal) ((c.tc : Thread Cert.Kernel36Ideal.nD Cert.Kernel36Ideal.τ).loc Cert.Kernel36Ideal.main_v2)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v2) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v2) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)) →
    ∃ (v0 : (c : Dev Cert.Kernel37Ideal.nD) → Buf (Elt Ideal) ((c.tc : Thread Cert.Kernel37Ideal.nD Cert.Kernel37Ideal.τ).loc Cert.Kernel37Ideal.main_v2)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v2) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v2) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1))

def preserves_Kernel38_Kernel38Ideal : Prop :=
  True

def algebraic_Kernel38Ideal_Reference38Ideal_pre_finite [hKernel38Ideal : Cert.Kernel38Ideal.Facts] [hReference38Ideal : Cert.Reference38Ideal.Facts] [hPre_finite : Cert.Pre_finite.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal_finite m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)
      ∧ m' ((c.tc : Thread Cert.Reference38Ideal.nD Cert.Reference38Ideal.τ).loc Cert.Reference38Ideal.main_arg4) = m ((c.tc : Thread Cert.Kernel38Ideal.nD Cert.Kernel38Ideal.τ).loc Cert.Kernel38Ideal.main_arg4)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)) (v2 : (c : Dev Cert.Kernel38Ideal.nD) → Buf (Elt Ideal) ((c.tc : Thread Cert.Kernel38Ideal.nD Cert.Kernel38Ideal.τ).loc Cert.Kernel38Ideal.main_v0_2)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_v0_2) = v2 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
          ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v18) = v0 c
          ∧ r.2.mem ((c.tc : Thread Cert.Reference38Ideal.nD Cert.Reference38Ideal.τ).loc Cert.Reference38Ideal.main_v16_8) = v1 c
          ∧ r.2.mem ((c.tc : Thread Cert.Reference38Ideal.nD Cert.Reference38Ideal.τ).loc Cert.Reference38Ideal.main_v16_9) = v2 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3)
          ∧ r.2.mem ((c.tc : Thread Cert.Reference38Ideal.nD Cert.Reference38Ideal.τ).loc Cert.Reference38Ideal.main_arg4) = m' ((c.tc : Thread Cert.Reference38Ideal.nD Cert.Reference38Ideal.τ).loc Cert.Reference38Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Kernel38Ideal_pre_finite (hKernel38Ideal := hKernel38Ideal) (hPre_finite := hPre_finite)
    ∧ quiescent_Reference38Ideal (hReference38Ideal := hReference38Ideal)
    ∧ quiescent_Reference38Ideal_pre_finite (hReference38Ideal := hReference38Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal_pre_finite (hKernel38Ideal := hKernel38Ideal) (hReference38Ideal := hReference38Ideal) (hPre_finite := hPre_finite)
-- ==== Pre_finite.lean ====
abbrev S4096x512 : Shape := ⟨2, ![4096, 512]⟩
abbrev S4096x128 : Shape := ⟨2, ![4096, 128]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_

variable [Facts]

def fn {F : FTy → Type} [FloatOps F] (main_arg0 : FVec F S4096x512 .f32) (main_arg1 : FVec F S4096x512 .f32) (main_arg2 : FVec F S4096x512 .f32) (main_arg3 : FVec F S4096x128 .f32) (main_arg4 : FVec F S4096x128 .f32) : IVec S_ 1 :=
  let main_v0 : FVec F S4096x512 .f32 := Host.absf main_arg1
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x128 .f32 := Host.absf main_arg3
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x128 .f32 := Host.absf main_arg4
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  main_v13
-- ==== Kernel.lean ====
abbrev S4096x512 : Shape := ⟨2, ![4096, 512]⟩
abbrev S4096x128 : Shape := ⟨2, ![4096, 128]⟩
abbrev S64x8x64x64 : Shape := ⟨4, ![64, 8, 64, 64]⟩
abbrev S128x512 : Shape := ⟨2, ![128, 512]⟩
abbrev S128x128 : Shape := ⟨2, ![128, 128]⟩
abbrev S2x8x64x64 : Shape := ⟨4, ![2, 8, 64, 64]⟩
abbrev S8x64x64 : Shape := ⟨3, ![8, 64, 64]⟩
abbrev S64x64 : Shape := ⟨2, ![64, 64]⟩
abbrev S1x64x64 : Shape := ⟨3, ![1, 64, 64]⟩
abbrev S64x128 : Shape := ⟨2, ![64, 128]⟩
abbrev S128x64 : Shape := ⟨2, ![128, 64]⟩
abbrev S64x1 : Shape := ⟨2, ![64, 1]⟩
abbrev S1x64x1 : Shape := ⟨3, ![1, 64, 1]⟩
abbrev S8x64x1 : Shape := ⟨3, ![8, 64, 1]⟩
abbrev S1x64 : Shape := ⟨2, ![1, 64]⟩
abbrev S1x1x64 : Shape := ⟨3, ![1, 1, 64]⟩
abbrev S8x1x64 : Shape := ⟨3, ![8, 1, 64]⟩
abbrev S1x1 : Shape := ⟨2, ![1, 1]⟩
abbrev S1x1x1 : Shape := ⟨3, ![1, 1, 1]⟩
abbrev S8x1x1 : Shape := ⟨3, ![8, 1, 1]⟩
abbrev S1x8x64x64 : Shape := ⟨4, ![1, 8, 64, 64]⟩
abbrev S8 : Shape := ⟨1, ![8]⟩
abbrev S8x64 : Shape := ⟨2, ![8, 64]⟩
abbrev S8x1 : Shape := ⟨2, ![8, 1]⟩

abbrev nBuf : Space → Nat
  | .hbm => 13
  | .vmem => 27
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x128, .f32⟩
  | .hbm, ⟨4, _⟩ => ⟨S4096x128, .f32⟩
  | .hbm, ⟨5, _⟩ => ⟨S64x8x64x64, .f32⟩
  | .hbm, ⟨6, _⟩ => ⟨S64x8x64x64, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x128, .f32⟩
  | .hbm, ⟨12, _⟩ => ⟨S4096x128, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S2x8x64x64, .f32⟩
  | .local _ .vmem, ⟨11, _⟩ => ⟨S2x8x64x64, .f32⟩
  | .local _ .vmem, ⟨12, _⟩ => ⟨S2x8x64x64, .f32⟩
  | .local _ .vmem, ⟨13, _⟩ => ⟨S2x8x64x64, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S8x64x64, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x8x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x8x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S4096x512 : Shape := ⟨2, ![4096, 512]⟩
abbrev S4096x128 : Shape := ⟨2, ![4096, 128]⟩
abbrev S64x8x64x64 : Shape := ⟨4, ![64, 8, 64, 64]⟩
abbrev S4096x8 : Shape := ⟨2, ![4096, 8]⟩
abbrev S64x64x8 : Shape := ⟨3, ![64, 64, 8]⟩
abbrev S64x8x64 : Shape := ⟨3, ![64, 8, 64]⟩
abbrev S64x64x8x64 : Shape := ⟨4, ![64, 64, 8, 64]⟩
abbrev S_ : Shape := ⟨0, ![]⟩
abbrev S8x64x64 : Shape := ⟨3, ![8, 64, 64]⟩
abbrev S1x8x64x64 : Shape := ⟨4, ![1, 8, 64, 64]⟩
abbrev S1x8x64 : Shape := ⟨3, ![1, 8, 64]⟩
abbrev S8x64 : Shape := ⟨2, ![8, 64]⟩
abbrev S64x64 : Shape := ⟨2, ![64, 64]⟩
abbrev S8x64x1 : Shape := ⟨3, ![8, 64, 1]⟩
abbrev S8x1x64 : Shape := ⟨3, ![8, 1, 64]⟩
abbrev S8x1 : Shape := ⟨2, ![8, 1]⟩
abbrev S8 : Shape := ⟨1, ![8]⟩
abbrev S8x1x1 : Shape := ⟨3, ![8, 1, 1]⟩

abbrev nBuf : Space → Nat
  | .hbm => 342
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x128, .f32⟩
  | 4 => ⟨S4096x128, .f32⟩
  | 5 => ⟨S64x8x64x64, .f32⟩
  | 6 => ⟨S64x8x64x64, .f32⟩
  | 7 => ⟨S4096x512, .f32⟩
  | 8 => ⟨S4096x8, .f32⟩
  | 9 => ⟨S64x64x8, .f32⟩
  | 10 => ⟨S64x8x64, .f32⟩
  | 11 => ⟨S4096x8, .f32⟩
  | 12 => ⟨S64x64x8, .f32⟩
  | 13 => ⟨S64x8x64, .f32⟩
  | 14 => ⟨S64x64x8x64, .f32⟩
  | 15 => ⟨S64x8x64x64, .f32⟩
  | 16 => ⟨S64x64x8x64, .f32⟩
  | 17 => ⟨S64x8x64x64, .f32⟩
  | 18 => ⟨S64x64x8x64, .f32⟩
  | 19 => ⟨S64x8x64x64, .f32⟩
  | 20 => ⟨S64x64x8x64, .f32⟩
  | 21 => ⟨S64x8x64x64, .f32⟩
  | 22 => ⟨S_, .f32⟩
  | 23 => ⟨S8x64x64, .f32⟩
  | 24 => ⟨S_, .f32⟩
  | 25 => ⟨S64x8x64x64, .f32⟩
  | 26 => ⟨S_, .f32⟩
  | 27 => ⟨S64x8x64x64, .f32⟩
  | 28 => ⟨S_, .f32⟩
  | 29 => ⟨S64x8x64x64, .f32⟩
  | 30 => ⟨S_, .f32⟩
  | 31 => ⟨S64x8x64, .f32⟩
  | 32 => ⟨S_, .f32⟩
  | 33 => ⟨S64x8x64, .f32⟩
  | 34 => ⟨S_, .i32⟩
  | 35 => ⟨S64x8x64x64, .f32⟩
  | 36 => ⟨S64x8x64x64, .f32⟩
  | 37 => ⟨S64x8x64x64, .f32⟩
  | 38 => ⟨S64x8x64x64, .f32⟩
  | 39 => ⟨S64x8x64x64, .f32⟩
  | 40 => ⟨S64x8x64x64, .f32⟩
  | 41 => ⟨S64x8x64, .f32⟩
  | 42 => ⟨S64x8x64, .f32⟩
  | 43 => ⟨S_, .i32⟩
  | 44 => ⟨S8x64x64, .f32⟩
  | 45 => ⟨S64x8x64x64, .f32⟩
  | 46 => ⟨S64x8x64x64, .f32⟩
  | 47 => ⟨S64x8x64x64, .f32⟩
  | 48 => ⟨S64x8x64, .f32⟩
  | 49 => ⟨S64x8x64, .f32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S1x8x64x64, .f32⟩
  | 60 => ⟨S8x64x64, .f32⟩
  | 61 => ⟨S_, .i32⟩
  | 62 => ⟨S_, .i32⟩
  | 63 => ⟨S_, .i32⟩
  | 64 => ⟨S1x8x64x64, .f32⟩
  | 65 => ⟨S8x64x64, .f32⟩
  | 66 => ⟨S_, .i32⟩
  | 67 => ⟨S_, .i32⟩
  | 68 => ⟨S_, .i32⟩
  | 69 => ⟨S1x8x64x64, .f32⟩
  | 70 => ⟨S8x64x64, .f32⟩
  | 71 => ⟨S_, .i32⟩
  | 72 => ⟨S_, .i32⟩
  | 73 => ⟨S_, .i32⟩
  | 74 => ⟨S1x8x64x64, .f32⟩
  | 75 => ⟨S8x64x64, .f32⟩
  | 76 => ⟨S_, .i32⟩
  | 77 => ⟨S_, .i32⟩
  | 78 => ⟨S_, .i32⟩
  | 79 => ⟨S1x8x64x64, .f32⟩
  | 80 => ⟨S8x64x64, .f32⟩
  | 81 => ⟨S_, .i32⟩
  | 82 => ⟨S_, .i32⟩
  | 83 => ⟨S_, .i32⟩
  | 84 => ⟨S1x8x64x64, .f32⟩
  | 85 => ⟨S8x64x64, .f32⟩
  | 86 => ⟨S_, .i32⟩
  | 87 => ⟨S_, .i32⟩
  | 88 => ⟨S1x8x64, .f32⟩
  | 89 => ⟨S8x64, .f32⟩
  | 90 => ⟨S_, .i32⟩
  | 91 => ⟨S_, .i32⟩
  | 92 => ⟨S1x8x64, .f32⟩
  | 93 => ⟨S8x64, .f32⟩
  | 94 => ⟨S64x64, .i32⟩
  | 95 => ⟨S64x64, .i32⟩
  | 96 => ⟨S64x64, .i1⟩
  | 97 => ⟨S64x64, .i1⟩
  | 98 => ⟨S8x64x1, .f32⟩
  | 99 => ⟨S8x1x64, .f32⟩
  | 100 => ⟨S8x64x64, .f32⟩
  | 101 => ⟨S8x64x64, .f32⟩
  | 102 => ⟨S8x64x64, .f32⟩
  | 103 => ⟨S_, .f32⟩
  | 104 => ⟨S_, .f32⟩
  | 105 => ⟨S8x64x64, .i1⟩
  | 106 => ⟨S8x64x64, .f32⟩
  | 107 => ⟨S8x64x64, .f32⟩
  | 108 => ⟨S_, .f32⟩
  | 109 => ⟨S8x64x64, .f32⟩
  | 110 => ⟨S8x64x64, .f32⟩
  | 111 => ⟨S_, .f32⟩
  | 112 => ⟨S_, .f32⟩
  | 113 => ⟨S8x64x64, .i1⟩
  | 114 => ⟨S8x64x64, .f32⟩
  | 115 => ⟨S8x64x64, .f32⟩
  | 116 => ⟨S_, .f32⟩
  | 117 => ⟨S8x64x64, .f32⟩
  | 118 => ⟨S8x64x1, .f32⟩
  | 119 => ⟨S8x64x64, .f32⟩
  | 120 => ⟨S8x64x64, .f32⟩
  | 121 => ⟨S8x64x1, .f32⟩
  | 122 => ⟨S8x64x64, .f32⟩
  | 123 => ⟨S8x64x64, .f32⟩
  | 124 => ⟨S8x64x64, .f32⟩
  | 125 => ⟨S8x64x64, .f32⟩
  | 126 => ⟨S_, .f32⟩
  | 127 => ⟨S_, .f32⟩
  | _ => ⟨S4096x512, .f32⟩

abbrev hbmTy0_1 (i : Nat) : BufTy := match i % 128 with
  | 0 => ⟨S8x64x64, .i1⟩
  | 1 => ⟨S8x64x64, .f32⟩
  | 2 => ⟨S8x64x64, .f32⟩
  | 3 => ⟨S_, .f32⟩
  | 4 => ⟨S8x64x64, .f32⟩
  | 5 => ⟨S8x64, .f32⟩
  | 6 => ⟨S8x64x1, .f32⟩
  | 7 => ⟨S8x64x64, .f32⟩
  | 8 => ⟨S8x64x64, .f32⟩
  | 9 => ⟨S8x64x64, .f32⟩
  | 10 => ⟨S8x64x64, .f32⟩
  | 11 => ⟨S8x64x64, .f32⟩
  | 12 => ⟨S8x64x64, .f32⟩
  | 13 => ⟨S_, .f32⟩
  | 14 => ⟨S_, .f32⟩
  | 15 => ⟨S8x64x64, .i1⟩
  | 16 => ⟨S8x64x64, .f32⟩
  | 17 => ⟨S8x64x64, .f32⟩
  | 18 => ⟨S_, .f32⟩
  | 19 => ⟨S8x64x64, .f32⟩
  | 20 => ⟨S8x64x64, .f32⟩
  | 21 => ⟨S8x64x64, .f32⟩
  | 22 => ⟨S8x64x64, .f32⟩
  | 23 => ⟨S8x64x64, .f32⟩
  | 24 => ⟨S8x64x64, .f32⟩
  | 25 => ⟨S8x64x64, .f32⟩
  | 26 => ⟨S8x64x64, .f32⟩
  | 27 => ⟨S8x1, .f32⟩
  | 28 => ⟨S8, .f32⟩
  | 29 => ⟨S8x1, .f32⟩
  | 30 => ⟨S8x64, .f32⟩
  | 31 => ⟨S8x64, .f32⟩
  | 32 => ⟨S8x64, .f32⟩
  | 33 => ⟨S8x64x1, .f32⟩
  | 34 => ⟨S8x64x64, .f32⟩
  | 35 => ⟨S8x64x64, .f32⟩
  | 36 => ⟨S8, .f32⟩
  | 37 => ⟨S8x1x1, .f32⟩
  | 38 => ⟨S8x64x64, .f32⟩
  | 39 => ⟨S8x64x64, .f32⟩
  | 40 => ⟨S8x64x64, .f32⟩
  | 41 => ⟨S8x64x64, .f32⟩
  | 42 => ⟨S8x64x64, .f32⟩
  | 43 => ⟨S8x64x64, .f32⟩
  | 44 => ⟨S8x64x64, .f32⟩
  | 45 => ⟨S8x64x64, .f32⟩
  | 46 => ⟨S8x64x64, .f32⟩
  | 47 => ⟨S_, .f32⟩
  | 48 => ⟨S8, .f32⟩
  | 49 => ⟨S8x1x1, .f32⟩
  | 50 => ⟨S8x64x64, .f32⟩
  | 51 => ⟨S8x64x64, .f32⟩
  | 52 => ⟨S_, .f32⟩
  | 53 => ⟨S8, .f32⟩
  | 54 => ⟨S8, .f32⟩
  | 55 => ⟨S8x64x64, .f32⟩
  | 56 => ⟨S_, .f32⟩
  | 57 => ⟨S8x64, .f32⟩
  | 58 => ⟨S8x64x1, .f32⟩
  | 59 => ⟨S8x64x64, .f32⟩
  | 60 => ⟨S8x64x64, .f32⟩
  | 61 => ⟨S_, .f32⟩
  | 62 => ⟨S8x64, .f32⟩
  | 63 => ⟨S8x64, .f32⟩
  | 64 => ⟨S_, .f32⟩
  | 65 => ⟨S8, .f32⟩
  | 66 => ⟨S8x1, .f32⟩
  | 67 => ⟨S8x64, .f32⟩
  | 68 => ⟨S_, .f32⟩
  | 69 => ⟨S8, .f32⟩
  | 70 => ⟨S8, .f32⟩
  | 71 => ⟨S8x1, .f32⟩
  | 72 => ⟨S_, .f32⟩
  | 73 => ⟨S8x64, .f32⟩
  | 74 => ⟨S8x64, .f32⟩
  | 75 => ⟨S8x64x64, .f32⟩
  | 76 => ⟨S8x64x64, .f32⟩
  | 77 => ⟨S8x64x64, .f32⟩
  | 78 => ⟨S8x64x64, .f32⟩
  | 79 => ⟨S8x64x64, .f32⟩
  | 80 => ⟨S8x64x64, .f32⟩
  | 81 => ⟨S8x64x64, .f32⟩
  | 82 => ⟨S8x64x64, .f32⟩
  | 83 => ⟨S8x64x64, .f32⟩
  | 84 => ⟨S_, .f32⟩
  | 85 => ⟨S8x64, .f32⟩
  | 86 => ⟨S8x64x1, .f32⟩
  | 87 => ⟨S8x64x64, .f32⟩
  | 88 => ⟨S8x64x64, .f32⟩
  | 89 => ⟨S8x64x64, .f32⟩
  | 90 => ⟨S8x64x64, .f32⟩
  | 91 => ⟨S8x64x64, .f32⟩
  | 92 => ⟨S8x64x64, .f32⟩
  | 93 => ⟨S8x64x64, .f32⟩
  | 94 => ⟨S_, .f32⟩
  | 95 => ⟨S8x64x64, .f32⟩
  | 96 => ⟨S8x64x64, .f32⟩
  | 97 => ⟨S8x64x64, .f32⟩
  | 98 => ⟨S8x64x64, .f32⟩
  | 99 => ⟨S8x64x64, .f32⟩
  | 100 => ⟨S8x64x64, .f32⟩
  | 101 => ⟨S8x64x64, .f32⟩
  | 102 => ⟨S8x64x64, .f32⟩
  | 103 => ⟨S8x64x64, .f32⟩
  | 104 => ⟨S8x64x64, .f32⟩
  | 105 => ⟨S8x64x64, .f32⟩
  | 106 => ⟨S8x64x64, .f32⟩
  | 107 => ⟨S_, .f32⟩
  | 108 => ⟨S8x64, .f32⟩
  | 109 => ⟨S8x64x1, .f32⟩
  | 110 => ⟨S8x64x1, .f32⟩
  | 111 => ⟨S8x64x64, .f32⟩
  | 112 => ⟨S8x64x64, .f32⟩
  | 113 => ⟨S8x64x64, .f32⟩
  | 114 => ⟨S8x64x64, .f32⟩
  | 115 => ⟨S8x64x64, .f32⟩
  | 116 => ⟨S8x64x64, .f32⟩
  | 117 => ⟨S_, .f32⟩
  | 118 => ⟨S8x64, .f32⟩
  | 119 => ⟨S8x64, .f32⟩
  | 120 => ⟨S8x64, .f32⟩
  | 121 => ⟨S8x64x64, .f32⟩
  | 122 => ⟨S8x64x64, .f32⟩
  | 123 => ⟨S8x64x64, .f32⟩
  | 124 => ⟨S8x64x64, .f32⟩
  | 125 => ⟨S_, .f32⟩
  | 126 => ⟨S8x64x64, .f32⟩
  | 127 => ⟨S_, .f32⟩
  | _ => ⟨S4096x512, .f32⟩

abbrev hbmTy0_2 (i : Nat) : BufTy := match i % 128 with
  | 0 => ⟨S8x64x64, .f32⟩
  | 1 => ⟨S8x64x64, .f32⟩
  | 2 => ⟨S8x64x64, .f32⟩
  | 3 => ⟨S8x64x64, .f32⟩
  | 4 => ⟨S8x64x64, .f32⟩
  | 5 => ⟨S8x64x64, .f32⟩
  | 6 => ⟨S8x64x64, .f32⟩
  | 7 => ⟨S8x64x64, .f32⟩
  | 8 => ⟨S8x64x64, .f32⟩
  | 9 => ⟨S8x64x64, .f32⟩
  | 10 => ⟨S_, .f32⟩
  | 11 => ⟨S8x64, .f32⟩
  | 12 => ⟨S8x64x1, .f32⟩
  | 13 => ⟨S8x64x64, .f32⟩
  | 14 => ⟨S8x64x64, .f32⟩
  | 15 => ⟨S_, .f32⟩
  | 16 => ⟨S8x64, .f32⟩
  | 17 => ⟨S8x64x64, .f32⟩
  | 18 => ⟨S_, .f32⟩
  | 19 => ⟨S8x64, .f32⟩
  | 20 => ⟨S8x64x1, .f32⟩
  | 21 => ⟨S8x64x64, .f32⟩
  | 22 => ⟨S8x64x64, .f32⟩
  | 23 => ⟨S8x64x64, .f32⟩
  | 24 => ⟨S_, .f32⟩
  | 25 => ⟨S8x64, .f32⟩
  | 26 => ⟨S8x64, .f32⟩
  | 27 => ⟨S_, .f32⟩
  | 28 => ⟨S8x64x64, .f32⟩
  | 29 => ⟨S8x64x64, .f32⟩
  | 30 => ⟨S8x64x64, .f32⟩
  | 31 => ⟨S_, .f32⟩
  | 32 => ⟨S8x64x64, .f32⟩
  | 33 => ⟨S8x64x64, .f32⟩
  | 34 => ⟨S_, .f32⟩
  | 35 => ⟨S8x64, .f32⟩
  | 36 => ⟨S8x64x1, .f32⟩
  | 37 => ⟨S8x64x64, .f32⟩
  | 38 => ⟨S_, .f32⟩
  | 39 => ⟨S8x64, .f32⟩
  | 40 => ⟨S8x1x64, .f32⟩
  | 41 => ⟨S_, .f32⟩
  | 42 => ⟨S8x64, .f32⟩
  | 43 => ⟨S8x64, .f32⟩
  | 44 => ⟨S_, .f32⟩
  | 45 => ⟨S8x64, .f32⟩
  | 46 => ⟨S8x64, .f32⟩
  | 47 => ⟨S1x8x64x64, .f32⟩
  | 48 => ⟨S_, .i32⟩
  | 49 => ⟨S_, .i32⟩
  | 50 => ⟨S_, .i32⟩
  | 51 => ⟨S64x8x64x64, .f32⟩
  | 52 => ⟨S1x8x64x64, .f32⟩
  | 53 => ⟨S_, .i32⟩
  | 54 => ⟨S_, .i32⟩
  | 55 => ⟨S_, .i32⟩
  | 56 => ⟨S64x8x64x64, .f32⟩
  | 57 => ⟨S1x8x64x64, .f32⟩
  | 58 => ⟨S_, .i32⟩
  | 59 => ⟨S_, .i32⟩
  | 60 => ⟨S_, .i32⟩
  | 61 => ⟨S64x8x64x64, .f32⟩
  | 62 => ⟨S1x8x64, .f32⟩
  | 63 => ⟨S_, .i32⟩
  | 64 => ⟨S_, .i32⟩
  | 65 => ⟨S64x8x64, .f32⟩
  | 66 => ⟨S1x8x64, .f32⟩
  | 67 => ⟨S_, .i32⟩
  | 68 => ⟨S_, .i32⟩
  | 69 => ⟨S64x8x64, .f32⟩
  | 70 => ⟨S_, .i32⟩
  | 71 => ⟨S_, .i32⟩
  | 72 => ⟨S64x64x8x64, .f32⟩
  | 73 => ⟨S4096x512, .f32⟩
  | 74 => ⟨S64x64x8x64, .f32⟩
  | 75 => ⟨S4096x512, .f32⟩
  | 76 => ⟨S64x64x8x64, .f32⟩
  | 77 => ⟨S4096x512, .f32⟩
  | 78 => ⟨S64x64x8, .f32⟩
  | 79 => ⟨S4096x8, .f32⟩
  | 80 => ⟨S_, .f32⟩
  | 81 => ⟨S4096x128, .f32⟩
  | 82 => ⟨S64x64x8, .f32⟩
  | 83 => ⟨S4096x8, .f32⟩
  | 84 => ⟨S_, .f32⟩
  | 85 => ⟨S4096x128, .f32⟩
  | _ => ⟨S4096x512, .f32⟩

abbrev hbmTy (i : Nat) : BufTy := match i / 128 with
  | 0 => hbmTy0_0 i
  | 1 => hbmTy0_1 i
  | 2 => hbmTy0_2 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_c : Ref sig .tc := ⟨.hbm, 34, rfl⟩
abbrev main_v20_0 : Ref sig .tc := ⟨.hbm, 35, rfl⟩
abbrev main_v20_1 : Ref sig .tc := ⟨.hbm, 36, rfl⟩
abbrev main_v20_2 : Ref sig .tc := ⟨.hbm, 37, rfl⟩
abbrev main_v20_3 : Ref sig .tc := ⟨.hbm, 38, rfl⟩
abbrev main_v20_4 : Ref sig .tc := ⟨.hbm, 39, rfl⟩
abbrev main_v20_5 : Ref sig .tc := ⟨.hbm, 40, rfl⟩
abbrev main_v20_6 : Ref sig .tc := ⟨.hbm, 41, rfl⟩
abbrev main_v20_7 : Ref sig .tc := ⟨.hbm, 42, rfl⟩
abbrev main_v20_8 : Ref sig .tc := ⟨.hbm, 43, rfl⟩
abbrev main_v20_9 : Ref sig .tc := ⟨.hbm, 44, rfl⟩
abbrev main_v20_10 : Ref sig .tc := ⟨.hbm, 45, rfl⟩
abbrev main_v20_11 : Ref sig .tc := ⟨.hbm, 46, rfl⟩
abbrev main_v20_12 : Ref sig .tc := ⟨.hbm, 47, rfl⟩
abbrev main_v20_13 : Ref sig .tc := ⟨.hbm, 48, rfl⟩
abbrev main_v20_14 : Ref sig .tc := ⟨.hbm, 49, rfl⟩
abbrev main_while0c_c_21 : Ref sig .tc := ⟨.hbm, 50, rfl⟩
abbrev main_while0c_v33 : Ref sig .tc := ⟨.hbm, 51, rfl⟩
abbrev main_while0b_c_21 : Ref sig .tc := ⟨.hbm, 52, rfl⟩
abbrev main_while0b_v33 : Ref sig .tc := ⟨.hbm, 53, rfl⟩
abbrev main_while0b_c_22 : Ref sig .tc := ⟨.hbm, 54, rfl⟩
abbrev main_while0b_v34 : Ref sig .tc := ⟨.hbm, 55, rfl⟩
abbrev main_while0b_call0_c : Ref sig .tc := ⟨.hbm, 56, rfl⟩
abbrev main_while0b_call0_c_0 : Ref sig .tc := ⟨.hbm, 57, rfl⟩
abbrev main_while0b_call0_c_1 : Ref sig .tc := ⟨.hbm, 58, rfl⟩
abbrev main_while0b_call0_v0 : Ref sig .tc := ⟨.hbm, 59, rfl⟩
abbrev main_while0b_v35 : Ref sig .tc := ⟨.hbm, 60, rfl⟩
abbrev main_while0b_call1_c : Ref sig .tc := ⟨.hbm, 61, rfl⟩
abbrev main_while0b_call1_c_0 : Ref sig .tc := ⟨.hbm, 62, rfl⟩
abbrev main_while0b_call1_c_1 : Ref sig .tc := ⟨.hbm, 63, rfl⟩
abbrev main_while0b_call1_v0 : Ref sig .tc := ⟨.hbm, 64, rfl⟩
abbrev main_while0b_v36 : Ref sig .tc := ⟨.hbm, 65, rfl⟩
abbrev main_while0b_call2_c : Ref sig .tc := ⟨.hbm, 66, rfl⟩
abbrev main_while0b_call2_c_0 : Ref sig .tc := ⟨.hbm, 67, rfl⟩
abbrev main_while0b_call2_c_1 : Ref sig .tc := ⟨.hbm, 68, rfl⟩
abbrev main_while0b_call2_v0 : Ref sig .tc := ⟨.hbm, 69, rfl⟩
abbrev main_while0b_v37 : Ref sig .tc := ⟨.hbm, 70, rfl⟩
abbrev main_while0b_call3_c : Ref sig .tc := ⟨.hbm, 71, rfl⟩
abbrev main_while0b_call3_c_0 : Ref sig .tc := ⟨.hbm, 72, rfl⟩
abbrev main_while0b_call3_c_1 : Ref sig .tc := ⟨.hbm, 73, rfl⟩
abbrev main_while0b_call3_v0 : Ref sig .tc := ⟨.hbm, 74, rfl⟩
abbrev main_while0b_v38 : Ref sig .tc := ⟨.hbm, 75, rfl⟩
abbrev main_while0b_call4_c : Ref sig .tc := ⟨.hbm, 76, rfl⟩
abbrev main_while0b_call4_c_0 : Ref sig .tc := ⟨.hbm, 77, rfl⟩
abbrev main_while0b_call4_c_1 : Ref sig .tc := ⟨.hbm, 78, rfl⟩
abbrev main_while0b_call4_v0 : Ref sig .tc := ⟨.hbm, 79, rfl⟩
abbrev main_while0b_v39 : Ref sig .tc := ⟨.hbm, 80, rfl⟩
abbrev main_while0b_call5_c : Ref sig .tc := ⟨.hbm, 81, rfl⟩
abbrev main_while0b_call5_c_0 : Ref sig .tc := ⟨.hbm, 82, rfl⟩
abbrev main_while0b_call5_c_1 : Ref sig .tc := ⟨.hbm, 83, rfl⟩
abbrev main_while0b_call5_v0 : Ref sig .tc := ⟨.hbm, 84, rfl⟩
abbrev main_while0b_v40 : Ref sig .tc := ⟨.hbm, 85, rfl⟩
abbrev main_while0b_call6_c : Ref sig .tc := ⟨.hbm, 86, rfl⟩
abbrev main_while0b_call6_c_0 : Ref sig .tc := ⟨.hbm, 87, rfl⟩
abbrev main_while0b_call6_v0 : Ref sig .tc := ⟨.hbm, 88, rfl⟩
abbrev main_while0b_v41 : Ref sig .tc := ⟨.hbm, 89, rfl⟩
abbrev main_while0b_call7_c : Ref sig .tc := ⟨.hbm, 90, rfl⟩
abbrev main_while0b_call7_c_0 : Ref sig .tc := ⟨.hbm, 91, rfl⟩
abbrev main_while0b_call7_v0 : Ref sig .tc := ⟨.hbm, 92, rfl⟩
abbrev main_while0b_v42 : Ref sig .tc := ⟨.hbm, 93, rfl⟩
abbrev main_while0b_v43 : Ref sig .tc := ⟨.hbm, 94, rfl⟩
abbrev main_while0b_v44 : Ref sig .tc := ⟨.hbm, 95, rfl⟩
abbrev main_while0b_v45 : Ref sig .tc := ⟨.hbm, 96, rfl⟩
abbrev main_while0b_v46 : Ref sig .tc := ⟨.hbm, 97, rfl⟩
abbrev main_while0b_v47 : Ref sig .tc := ⟨.hbm, 98, rfl⟩
abbrev main_while0b_v48 : Ref sig .tc := ⟨.hbm, 99, rfl⟩
abbrev main_while0b_v49 : Ref sig .tc := ⟨.hbm, 100, rfl⟩
abbrev main_while0b_v50 : Ref sig .tc := ⟨.hbm, 101, rfl⟩
abbrev main_while0b_v51 : Ref sig .tc := ⟨.hbm, 102, rfl⟩
abbrev main_while0b_cst_23 : Ref sig .tc := ⟨.hbm, 103, rfl⟩
abbrev main_while0b_call8_v0 : Ref sig .tc := ⟨.hbm, 104, rfl⟩
abbrev main_while0b_v52_1 : Ref sig .tc := ⟨.hbm, 105, rfl⟩
abbrev main_while0b_call8_v2 : Ref sig .tc := ⟨.hbm, 106, rfl⟩
abbrev main_while0b_v52_0 : Ref sig .tc := ⟨.hbm, 107, rfl⟩
abbrev main_while0b_call8_cst : Ref sig .tc := ⟨.hbm, 108, rfl⟩
abbrev main_while0b_v52_2 : Ref sig .tc := ⟨.hbm, 109, rfl⟩
abbrev main_while0b_v53 : Ref sig .tc := ⟨.hbm, 110, rfl⟩
abbrev main_while0b_cst_24 : Ref sig .tc := ⟨.hbm, 111, rfl⟩
abbrev main_while0b_call9_v0 : Ref sig .tc := ⟨.hbm, 112, rfl⟩
abbrev main_while0b_v54_1 : Ref sig .tc := ⟨.hbm, 113, rfl⟩
abbrev main_while0b_call9_v2 : Ref sig .tc := ⟨.hbm, 114, rfl⟩
abbrev main_while0b_v54_0 : Ref sig .tc := ⟨.hbm, 115, rfl⟩
abbrev main_while0b_call9_cst : Ref sig .tc := ⟨.hbm, 116, rfl⟩
abbrev main_while0b_v54_2 : Ref sig .tc := ⟨.hbm, 117, rfl⟩
abbrev main_while0b_v55 : Ref sig .tc := ⟨.hbm, 118, rfl⟩
abbrev main_while0b_v56 : Ref sig .tc := ⟨.hbm, 119, rfl⟩
abbrev main_while0b_v57 : Ref sig .tc := ⟨.hbm, 120, rfl⟩
abbrev main_while0b_v58 : Ref sig .tc := ⟨.hbm, 121, rfl⟩
abbrev main_while0b_v59 : Ref sig .tc := ⟨.hbm, 122, rfl⟩
abbrev main_while0b_v60 : Ref sig .tc := ⟨.hbm, 123, rfl⟩
abbrev main_while0b_v61 : Ref sig .tc := ⟨.hbm, 124, rfl⟩
abbrev main_while0b_v62 : Ref sig .tc := ⟨.hbm, 125, rfl⟩
abbrev main_while0b_cst_25 : Ref sig .tc := ⟨.hbm, 126, rfl⟩
abbrev main_while0b_call10_v0 : Ref sig .tc := ⟨.hbm, 127, rfl⟩
abbrev main_while0b_v63_1 : Ref sig .tc := ⟨.hbm, 128, rfl⟩
abbrev main_while0b_call10_v2 : Ref sig .tc := ⟨.hbm, 129, rfl⟩
abbrev main_while0b_v63_0 : Ref sig .tc := ⟨.hbm, 130, rfl⟩
abbrev main_while0b_call10_cst : Ref sig .tc := ⟨.hbm, 131, rfl⟩
abbrev main_while0b_v63_2 : Ref sig .tc := ⟨.hbm, 132, rfl⟩
abbrev main_while0b_v64 : Ref sig .tc := ⟨.hbm, 133, rfl⟩
abbrev main_while0b_v65 : Ref sig .tc := ⟨.hbm, 134, rfl⟩
abbrev main_while0b_v66 : Ref sig .tc := ⟨.hbm, 135, rfl⟩
abbrev main_while0b_v67 : Ref sig .tc := ⟨.hbm, 136, rfl⟩
abbrev main_while0b_v68 : Ref sig .tc := ⟨.hbm, 137, rfl⟩
abbrev main_while0b_v69 : Ref sig .tc := ⟨.hbm, 138, rfl⟩
abbrev main_while0b_v70 : Ref sig .tc := ⟨.hbm, 139, rfl⟩
abbrev main_while0b_v71 : Ref sig .tc := ⟨.hbm, 140, rfl⟩
abbrev main_while0b_cst_26 : Ref sig .tc := ⟨.hbm, 141, rfl⟩
abbrev main_while0b_call11_v0 : Ref sig .tc := ⟨.hbm, 142, rfl⟩
abbrev main_while0b_v72_1 : Ref sig .tc := ⟨.hbm, 143, rfl⟩
abbrev main_while0b_call11_v2 : Ref sig .tc := ⟨.hbm, 144, rfl⟩
abbrev main_while0b_v72_0 : Ref sig .tc := ⟨.hbm, 145, rfl⟩
abbrev main_while0b_call11_cst : Ref sig .tc := ⟨.hbm, 146, rfl⟩
abbrev main_while0b_v72_2 : Ref sig .tc := ⟨.hbm, 147, rfl⟩
abbrev main_while0b_v73 : Ref sig .tc := ⟨.hbm, 148, rfl⟩
abbrev main_while0b_v74 : Ref sig .tc := ⟨.hbm, 149, rfl⟩
abbrev main_while0b_v75 : Ref sig .tc := ⟨.hbm, 150, rfl⟩
abbrev main_while0b_v76 : Ref sig .tc := ⟨.hbm, 151, rfl⟩
abbrev main_while0b_v77 : Ref sig .tc := ⟨.hbm, 152, rfl⟩
abbrev main_while0b_v78 : Ref sig .tc := ⟨.hbm, 153, rfl⟩
abbrev main_while0b_v79 : Ref sig .tc := ⟨.hbm, 154, rfl⟩
abbrev main_while0b_v80 : Ref sig .tc := ⟨.hbm, 155, rfl⟩
abbrev main_while0b_v81 : Ref sig .tc := ⟨.hbm, 156, rfl⟩
abbrev main_while0b_v82 : Ref sig .tc := ⟨.hbm, 157, rfl⟩
abbrev main_while0b_v83 : Ref sig .tc := ⟨.hbm, 158, rfl⟩
abbrev main_while0b_v84 : Ref sig .tc := ⟨.hbm, 159, rfl⟩
abbrev main_while0b_v85 : Ref sig .tc := ⟨.hbm, 160, rfl⟩
abbrev main_while0b_v86 : Ref sig .tc := ⟨.hbm, 161, rfl⟩
abbrev main_while0b_v87 : Ref sig .tc := ⟨.hbm, 162, rfl⟩
abbrev main_while0b_v88 : Ref sig .tc := ⟨.hbm, 163, rfl⟩
abbrev main_while0b_v89 : Ref sig .tc := ⟨.hbm, 164, rfl⟩
abbrev main_while0b_v90 : Ref sig .tc := ⟨.hbm, 165, rfl⟩
abbrev main_while0b_v91 : Ref sig .tc := ⟨.hbm, 166, rfl⟩
abbrev main_while0b_v92 : Ref sig .tc := ⟨.hbm, 167, rfl⟩
abbrev main_while0b_v93 : Ref sig .tc := ⟨.hbm, 168, rfl⟩
abbrev main_while0b_v94 : Ref sig .tc := ⟨.hbm, 169, rfl⟩
abbrev main_while0b_v95 : Ref sig .tc := ⟨.hbm, 170, rfl⟩
abbrev main_while0b_v96 : Ref sig .tc := ⟨.hbm, 171, rfl⟩
abbrev main_while0b_v97 : Ref sig .tc := ⟨.hbm, 172, rfl⟩
abbrev main_while0b_v98 : Ref sig .tc := ⟨.hbm, 173, rfl⟩
abbrev main_while0b_v99 : Ref sig .tc := ⟨.hbm, 174, rfl⟩
abbrev main_while0b_cst_27 : Ref sig .tc := ⟨.hbm, 175, rfl⟩
abbrev main_while0b_v100 : Ref sig .tc := ⟨.hbm, 176, rfl⟩
abbrev main_while0b_v101 : Ref sig .tc := ⟨.hbm, 177, rfl⟩
abbrev main_while0b_v102 : Ref sig .tc := ⟨.hbm, 178, rfl⟩
abbrev main_while0b_v103 : Ref sig .tc := ⟨.hbm, 179, rfl⟩
abbrev main_while0b_cst_28 : Ref sig .tc := ⟨.hbm, 180, rfl⟩
abbrev main_while0b_v104 : Ref sig .tc := ⟨.hbm, 181, rfl⟩
abbrev main_while0b_v105 : Ref sig .tc := ⟨.hbm, 182, rfl⟩
abbrev main_while0b_v106 : Ref sig .tc := ⟨.hbm, 183, rfl⟩
abbrev main_while0b_cst_29 : Ref sig .tc := ⟨.hbm, 184, rfl⟩
abbrev main_while0b_v107 : Ref sig .tc := ⟨.hbm, 185, rfl⟩
abbrev main_while0b_v108 : Ref sig .tc := ⟨.hbm, 186, rfl⟩
abbrev main_while0b_v109 : Ref sig .tc := ⟨.hbm, 187, rfl⟩
abbrev main_while0b_v110 : Ref sig .tc := ⟨.hbm, 188, rfl⟩
abbrev main_while0b_cst_30 : Ref sig .tc := ⟨.hbm, 189, rfl⟩
abbrev main_while0b_v111 : Ref sig .tc := ⟨.hbm, 190, rfl⟩
abbrev main_while0b_v112 : Ref sig .tc := ⟨.hbm, 191, rfl⟩
abbrev main_while0b_cst_31 : Ref sig .tc := ⟨.hbm, 192, rfl⟩
abbrev main_while0b_v113 : Ref sig .tc := ⟨.hbm, 193, rfl⟩
abbrev main_while0b_v114 : Ref sig .tc := ⟨.hbm, 194, rfl⟩
abbrev main_while0b_v115 : Ref sig .tc := ⟨.hbm, 195, rfl⟩
abbrev main_while0b_cst_32 : Ref sig .tc := ⟨.hbm, 196, rfl⟩
abbrev main_while0b_v116 : Ref sig .tc := ⟨.hbm, 197, rfl⟩
abbrev main_while0b_v117 : Ref sig .tc := ⟨.hbm, 198, rfl⟩
abbrev main_while0b_v118 : Ref sig .tc := ⟨.hbm, 199, rfl⟩
abbrev main_while0b_cst_33 : Ref sig .tc := ⟨.hbm, 200, rfl⟩
abbrev main_while0b_v119 : Ref sig .tc := ⟨.hbm, 201, rfl⟩
abbrev main_while0b_v120 : Ref sig .tc := ⟨.hbm, 202, rfl⟩
abbrev main_while0b_v121 : Ref sig .tc := ⟨.hbm, 203, rfl⟩
abbrev main_while0b_v122 : Ref sig .tc := ⟨.hbm, 204, rfl⟩
abbrev main_while0b_v123 : Ref sig .tc := ⟨.hbm, 205, rfl⟩
abbrev main_while0b_v124 : Ref sig .tc := ⟨.hbm, 206, rfl⟩
abbrev main_while0b_v125 : Ref sig .tc := ⟨.hbm, 207, rfl⟩
abbrev main_while0b_v126 : Ref sig .tc := ⟨.hbm, 208, rfl⟩
abbrev main_while0b_v127 : Ref sig .tc := ⟨.hbm, 209, rfl⟩
abbrev main_while0b_v128 : Ref sig .tc := ⟨.hbm, 210, rfl⟩
abbrev main_while0b_v129 : Ref sig .tc := ⟨.hbm, 211, rfl⟩
abbrev main_while0b_cst_34 : Ref sig .tc := ⟨.hbm, 212, rfl⟩
abbrev main_while0b_v130 : Ref sig .tc := ⟨.hbm, 213, rfl⟩
abbrev main_while0b_v131 : Ref sig .tc := ⟨.hbm, 214, rfl⟩
abbrev main_while0b_v132 : Ref sig .tc := ⟨.hbm, 215, rfl⟩
abbrev main_while0b_v133 : Ref sig .tc := ⟨.hbm, 216, rfl⟩
abbrev main_while0b_v134 : Ref sig .tc := ⟨.hbm, 217, rfl⟩
abbrev main_while0b_v135 : Ref sig .tc := ⟨.hbm, 218, rfl⟩
abbrev main_while0b_v136 : Ref sig .tc := ⟨.hbm, 219, rfl⟩
abbrev main_while0b_v137 : Ref sig .tc := ⟨.hbm, 220, rfl⟩
abbrev main_while0b_v138 : Ref sig .tc := ⟨.hbm, 221, rfl⟩
abbrev main_while0b_call12_cst : Ref sig .tc := ⟨.hbm, 222, rfl⟩
abbrev main_while0b_call12_v0 : Ref sig .tc := ⟨.hbm, 223, rfl⟩
abbrev main_while0b_v139 : Ref sig .tc := ⟨.hbm, 224, rfl⟩
abbrev main_while0b_v140 : Ref sig .tc := ⟨.hbm, 225, rfl⟩
abbrev main_while0b_v141 : Ref sig .tc := ⟨.hbm, 226, rfl⟩
abbrev main_while0b_v142 : Ref sig .tc := ⟨.hbm, 227, rfl⟩
abbrev main_while0b_v143 : Ref sig .tc := ⟨.hbm, 228, rfl⟩
abbrev main_while0b_v144 : Ref sig .tc := ⟨.hbm, 229, rfl⟩
abbrev main_while0b_v145 : Ref sig .tc := ⟨.hbm, 230, rfl⟩
abbrev main_while0b_v146 : Ref sig .tc := ⟨.hbm, 231, rfl⟩
abbrev main_while0b_v147 : Ref sig .tc := ⟨.hbm, 232, rfl⟩
abbrev main_while0b_v148 : Ref sig .tc := ⟨.hbm, 233, rfl⟩
abbrev main_while0b_v149 : Ref sig .tc := ⟨.hbm, 234, rfl⟩
abbrev main_while0b_cst_35 : Ref sig .tc := ⟨.hbm, 235, rfl⟩
abbrev main_while0b_v150 : Ref sig .tc := ⟨.hbm, 236, rfl⟩
abbrev main_while0b_v151 : Ref sig .tc := ⟨.hbm, 237, rfl⟩
abbrev main_while0b_v152 : Ref sig .tc := ⟨.hbm, 238, rfl⟩
abbrev main_while0b_v153 : Ref sig .tc := ⟨.hbm, 239, rfl⟩
abbrev main_while0b_v154 : Ref sig .tc := ⟨.hbm, 240, rfl⟩
abbrev main_while0b_v155 : Ref sig .tc := ⟨.hbm, 241, rfl⟩
abbrev main_while0b_v156 : Ref sig .tc := ⟨.hbm, 242, rfl⟩
abbrev main_while0b_v157 : Ref sig .tc := ⟨.hbm, 243, rfl⟩
abbrev main_while0b_v158 : Ref sig .tc := ⟨.hbm, 244, rfl⟩
abbrev main_while0b_cst_36 : Ref sig .tc := ⟨.hbm, 245, rfl⟩
abbrev main_while0b_v159 : Ref sig .tc := ⟨.hbm, 246, rfl⟩
abbrev main_while0b_v160 : Ref sig .tc := ⟨.hbm, 247, rfl⟩
abbrev main_while0b_v161 : Ref sig .tc := ⟨.hbm, 248, rfl⟩
abbrev main_while0b_v162 : Ref sig .tc := ⟨.hbm, 249, rfl⟩
abbrev main_while0b_v163 : Ref sig .tc := ⟨.hbm, 250, rfl⟩
abbrev main_while0b_v164 : Ref sig .tc := ⟨.hbm, 251, rfl⟩
abbrev main_while0b_v165 : Ref sig .tc := ⟨.hbm, 252, rfl⟩
abbrev main_while0b_cst_37 : Ref sig .tc := ⟨.hbm, 253, rfl⟩
abbrev main_while0b_v166 : Ref sig .tc := ⟨.hbm, 254, rfl⟩
abbrev main_while0b_call13_cst : Ref sig .tc := ⟨.hbm, 255, rfl⟩
abbrev main_while0b_call13_v0 : Ref sig .tc := ⟨.hbm, 256, rfl⟩
abbrev main_while0b_v167 : Ref sig .tc := ⟨.hbm, 257, rfl⟩
abbrev main_while0b_v168 : Ref sig .tc := ⟨.hbm, 258, rfl⟩
abbrev main_while0b_v169 : Ref sig .tc := ⟨.hbm, 259, rfl⟩
abbrev main_while0b_v170 : Ref sig .tc := ⟨.hbm, 260, rfl⟩
abbrev main_while0b_v171 : Ref sig .tc := ⟨.hbm, 261, rfl⟩
abbrev main_while0b_v172 : Ref sig .tc := ⟨.hbm, 262, rfl⟩
abbrev main_while0b_v173 : Ref sig .tc := ⟨.hbm, 263, rfl⟩
abbrev main_while0b_v174 : Ref sig .tc := ⟨.hbm, 264, rfl⟩
abbrev main_while0b_v175 : Ref sig .tc := ⟨.hbm, 265, rfl⟩
abbrev main_while0b_cst_38 : Ref sig .tc := ⟨.hbm, 266, rfl⟩
abbrev main_while0b_v176 : Ref sig .tc := ⟨.hbm, 267, rfl⟩
abbrev main_while0b_v177 : Ref sig .tc := ⟨.hbm, 268, rfl⟩
abbrev main_while0b_v178 : Ref sig .tc := ⟨.hbm, 269, rfl⟩
abbrev main_while0b_v179 : Ref sig .tc := ⟨.hbm, 270, rfl⟩
abbrev main_while0b_cst_39 : Ref sig .tc := ⟨.hbm, 271, rfl⟩
abbrev main_while0b_v180 : Ref sig .tc := ⟨.hbm, 272, rfl⟩
abbrev main_while0b_v181 : Ref sig .tc := ⟨.hbm, 273, rfl⟩
abbrev main_while0b_cst_40 : Ref sig .tc := ⟨.hbm, 274, rfl⟩
abbrev main_while0b_v182 : Ref sig .tc := ⟨.hbm, 275, rfl⟩
abbrev main_while0b_v183 : Ref sig .tc := ⟨.hbm, 276, rfl⟩
abbrev main_while0b_v184 : Ref sig .tc := ⟨.hbm, 277, rfl⟩
abbrev main_while0b_v185 : Ref sig .tc := ⟨.hbm, 278, rfl⟩
abbrev main_while0b_v186 : Ref sig .tc := ⟨.hbm, 279, rfl⟩
abbrev main_while0b_cst_41 : Ref sig .tc := ⟨.hbm, 280, rfl⟩
abbrev main_while0b_v187 : Ref sig .tc := ⟨.hbm, 281, rfl⟩
abbrev main_while0b_v188 : Ref sig .tc := ⟨.hbm, 282, rfl⟩
abbrev main_while0b_call14_cst : Ref sig .tc := ⟨.hbm, 283, rfl⟩
abbrev main_while0b_call14_v0 : Ref sig .tc := ⟨.hbm, 284, rfl⟩
abbrev main_while0b_v189 : Ref sig .tc := ⟨.hbm, 285, rfl⟩
abbrev main_while0b_v190 : Ref sig .tc := ⟨.hbm, 286, rfl⟩
abbrev main_while0b_call15_cst : Ref sig .tc := ⟨.hbm, 287, rfl⟩
abbrev main_while0b_call15_v0 : Ref sig .tc := ⟨.hbm, 288, rfl⟩
abbrev main_while0b_v191 : Ref sig .tc := ⟨.hbm, 289, rfl⟩
abbrev main_while0b_cst_42 : Ref sig .tc := ⟨.hbm, 290, rfl⟩
abbrev main_while0b_v192 : Ref sig .tc := ⟨.hbm, 291, rfl⟩
abbrev main_while0b_v193 : Ref sig .tc := ⟨.hbm, 292, rfl⟩
abbrev main_while0b_v194 : Ref sig .tc := ⟨.hbm, 293, rfl⟩
abbrev main_while0b_cst_43 : Ref sig .tc := ⟨.hbm, 294, rfl⟩
abbrev main_while0b_v195 : Ref sig .tc := ⟨.hbm, 295, rfl⟩
abbrev main_while0b_v196 : Ref sig .tc := ⟨.hbm, 296, rfl⟩
abbrev main_while0b_cst_44 : Ref sig .tc := ⟨.hbm, 297, rfl⟩
abbrev main_while0b_v197 : Ref sig .tc := ⟨.hbm, 298, rfl⟩
abbrev main_while0b_v198 : Ref sig .tc := ⟨.hbm, 299, rfl⟩
abbrev main_while0b_cst_45 : Ref sig .tc := ⟨.hbm, 300, rfl⟩
abbrev main_while0b_v199 : Ref sig .tc := ⟨.hbm, 301, rfl⟩
abbrev main_while0b_v200 : Ref sig .tc := ⟨.hbm, 302, rfl⟩
abbrev main_while0b_call16_v0 : Ref sig .tc := ⟨.hbm, 303, rfl⟩
abbrev main_while0b_call16_c : Ref sig .tc := ⟨.hbm, 304, rfl⟩
abbrev main_while0b_call16_c_0 : Ref sig .tc := ⟨.hbm, 305, rfl⟩
abbrev main_while0b_call16_c_1 : Ref sig .tc := ⟨.hbm, 306, rfl⟩
abbrev main_while0b_v201 : Ref sig .tc := ⟨.hbm, 307, rfl⟩
abbrev main_while0b_call17_v0 : Ref sig .tc := ⟨.hbm, 308, rfl⟩
abbrev main_while0b_call17_c : Ref sig .tc := ⟨.hbm, 309, rfl⟩
abbrev main_while0b_call17_c_0 : Ref sig .tc := ⟨.hbm, 310, rfl⟩
abbrev main_while0b_call17_c_1 : Ref sig .tc := ⟨.hbm, 311, rfl⟩
abbrev main_while0b_v202 : Ref sig .tc := ⟨.hbm, 312, rfl⟩
abbrev main_while0b_call18_v0 : Ref sig .tc := ⟨.hbm, 313, rfl⟩
abbrev main_while0b_call18_c : Ref sig .tc := ⟨.hbm, 314, rfl⟩
abbrev main_while0b_call18_c_0 : Ref sig .tc := ⟨.hbm, 315, rfl⟩
abbrev main_while0b_call18_c_1 : Ref sig .tc := ⟨.hbm, 316, rfl⟩
abbrev main_while0b_v203 : Ref sig .tc := ⟨.hbm, 317, rfl⟩
abbrev main_while0b_call19_v0 : Ref sig .tc := ⟨.hbm, 318, rfl⟩
abbrev main_while0b_call19_c : Ref sig .tc := ⟨.hbm, 319, rfl⟩
abbrev main_while0b_call19_c_0 : Ref sig .tc := ⟨.hbm, 320, rfl⟩
abbrev main_while0b_v204 : Ref sig .tc := ⟨.hbm, 321, rfl⟩
abbrev main_while0b_call20_v0 : Ref sig .tc := ⟨.hbm, 322, rfl⟩
abbrev main_while0b_call20_c : Ref sig .tc := ⟨.hbm, 323, rfl⟩
abbrev main_while0b_call20_c_0 : Ref sig .tc := ⟨.hbm, 324, rfl⟩
abbrev main_while0b_v205 : Ref sig .tc := ⟨.hbm, 325, rfl⟩
abbrev main_while0b_c_46 : Ref sig .tc := ⟨.hbm, 326, rfl⟩
abbrev main_while0b_v206 : Ref sig .tc := ⟨.hbm, 327, rfl⟩
abbrev main_v21 : Ref sig .tc := ⟨.hbm, 328, rfl⟩
abbrev main_v22 : Ref sig .tc := ⟨.hbm, 329, rfl⟩
abbrev main_v23 : Ref sig .tc := ⟨.hbm, 330, rfl⟩
abbrev main_v24 : Ref sig .tc := ⟨.hbm, 331, rfl⟩
abbrev main_v25 : Ref sig .tc := ⟨.hbm, 332, rfl⟩
abbrev main_v26 : Ref sig .tc := ⟨.hbm, 333, rfl⟩
abbrev main_v27 : Ref sig .tc := ⟨.hbm, 334, rfl⟩
abbrev main_v28 : Ref sig .tc := ⟨.hbm, 335, rfl⟩
abbrev main_cst_5 : Ref sig .tc := ⟨.hbm, 336, rfl⟩
abbrev main_v29 : Ref sig .tc := ⟨.hbm, 337, rfl⟩
abbrev main_v30 : Ref sig .tc := ⟨.hbm, 338, rfl⟩
abbrev main_v31 : Ref sig .tc := ⟨.hbm, 339, rfl⟩
abbrev main_cst_6 : Ref sig .tc := ⟨.hbm, 340, rfl⟩
abbrev main_v32 : Ref sig .tc := ⟨.hbm, 341, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4096x1024 : Shape := ⟨2, ![4096, 1024]⟩
abbrev S4096x5632 : Shape := ⟨2, ![4096, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S2816x1024 : Shape := ⟨2, ![2816, 1024]⟩
abbrev S4096x1024 : Shape := ⟨2, ![4096, 1024]⟩
abbrev S4096x2816 : Shape := ⟨2, ![4096, 2816]⟩
abbrev S1024x1024 : Shape := ⟨2, ![1024, 1024]⟩
abbrev S1024x2816 : Shape := ⟨2, ![1024, 2816]⟩

abbrev nBuf : Space → Nat
  | .hbm => 4
  | .vmem => 5
  | .smem => 0
  | _ => 0

abbrev bufTy : (tb : Table) → Fin (tcTables nBuf tb) → BufTy
  | .hbm, ⟨0, _⟩ => ⟨S2816x1024, .f32⟩
  | .hbm, ⟨1, _⟩ => ⟨S4096x1024, .bf16⟩
  | .hbm, ⟨2, _⟩ => ⟨S2816x1024, .bf16⟩
  | .hbm, ⟨3, _⟩ => ⟨S4096x2816, .f32⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S1024x2816, .f32⟩
  | .local _ .vmem, ⟨4, _⟩ => ⟨S1024x2816, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2816x1024 : Shape := ⟨2, ![2816, 1024]⟩
abbrev S4096x1024 : Shape := ⟨2, ![4096, 1024]⟩
abbrev S_ : Shape := ⟨0, ![]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S4096x1024, .bf16⟩
  | .hbm, ⟨2, _⟩ => ⟨S_, .f32⟩
  | .hbm, ⟨3, _⟩ => ⟨S4096x2816, .f32⟩
  | .hbm, ⟨4, _⟩ => ⟨S4096x1024, .f32⟩
  | .hbm, ⟨5, _⟩ => ⟨S4096x1024, .f32⟩
  | .hbm, ⟨6, _⟩ => ⟨S4096x2816, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S1024x1024 : Shape := ⟨2, ![1024, 1024]⟩
abbrev S4096x1024 : Shape := ⟨2, ![4096, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S4096x1024, .bf16⟩
  | .hbm, ⟨2, _⟩ => ⟨S1024x1024, .bf16⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S1024x1024 : Shape := ⟨2, ![1024, 1024]⟩
abbrev S4096x1024 : Shape := ⟨2, ![4096, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4096x512 : Shape := ⟨2, ![4096, 512]⟩
abbrev S4096x1024 : Shape := ⟨2, ![4096, 1024]⟩
abbrev S4x512x256 : Shape := ⟨3, ![4, 512, 256]⟩
abbrev S4096x256 : Shape := ⟨2, ![4096, 256]⟩
abbrev S1x512x256 : Shape := ⟨3, ![1, 512, 256]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4x512x256, .f32⟩
  | .local _ .vmem, ⟨0, _⟩ => ⟨S4096x512, .bf16⟩
  | .local _ .vmem, ⟨1, _⟩ => ⟨S4096x256, .bf16⟩
  | .local _ .vmem, ⟨2, _⟩ => ⟨S4096x256, .bf16⟩
  | .local _ .vmem, ⟨3, _⟩ => ⟨S1x512x256, .f32⟩
  | .local _ .vmem, ⟨4, _⟩ => ⟨S1x512x256, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 11
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x4x256, .f32⟩
  | .hbm, ⟨10, _⟩ => ⟨S4x512x256, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S4x512x256 : Shape := ⟨3, ![4, 512, 256]⟩
abbrev S4096x1024 : Shape := ⟨2, ![4096, 1024]⟩
abbrev S4096x512 : Shape := ⟨2, ![4096, 512]⟩
abbrev S1024x256 : Shape := ⟨2, ![1024, 256]⟩
abbrev S1x512x256 : Shape := ⟨3, ![1, 512, 256]⟩
abbrev S1024x512 : Shape := ⟨2, ![1024, 512]⟩
abbrev S512x256 : Shape := ⟨2, ![512, 256]⟩

abbrev nBuf : Space → Nat
  | .hbm => 4
  | .vmem => 7
  | .smem => 0
  | _ => 0

abbrev bufTy : (tb : Table) → Fin (tcTables nBuf tb) → BufTy
  | .hbm, ⟨0, _⟩ => ⟨S4x512x256, .f32⟩
  | .hbm, ⟨1, _⟩ => ⟨S4096x1024, .bf16⟩
  | .hbm, ⟨2, _⟩ => ⟨S4x512x256, .bf16⟩
  | .hbm, ⟨3, _⟩ => ⟨S4096x512, .f32⟩
  | .local _ .vmem, ⟨0, _⟩ => ⟨S1024x256, .bf16⟩
  | .local _ .vmem, ⟨1, _⟩ => ⟨S1024x256, .bf16⟩
  | .local _ .vmem, ⟨2, _⟩ => ⟨S1x512x256, .bf16⟩
  | .local _ .vmem, ⟨3, _⟩ => ⟨S1x512x256, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4x512x256 : Shape := ⟨3, ![4, 512, 256]⟩
abbrev S4096x1024 : Shape := ⟨2, ![4096, 1024]⟩
abbrev S512x4x256 : Shape := ⟨3, ![512, 4, 256]⟩
abbrev S512x1024 : Shape := ⟨2, ![512, 1024]⟩
abbrev S_ : Shape := ⟨0, ![]⟩
abbrev S4096x512 : Shape := ⟨2, ![4096, 512]⟩

abbrev nBuf : Space → Nat
  | .hbm => 9
  | .vmem => 0
  | .smem => 0
  | _ => 0

abbrev bufTy : (tb : Table) → Fin (tcTables nBuf tb) → BufTy
  | .hbm, ⟨0, _⟩ => ⟨S4x512x256, .f32⟩
  | .hbm, ⟨1, _⟩ => ⟨S4096x1024, .bf16⟩
  | .hbm, ⟨2, _⟩ => ⟨S512x4x256, .f32⟩
  | .hbm, ⟨3, _⟩ => ⟨S512x1024, .f32⟩
  | .hbm, ⟨4, _⟩ => ⟨S_, .f32⟩
  | .hbm, ⟨5, _⟩ => ⟨S4096x512, .f32⟩
  | .hbm, ⟨6, _⟩ => ⟨S4096x1024, .f32⟩
  | .hbm, ⟨7, _⟩ => ⟨S4096x1024, .f32⟩
  | .hbm, ⟨8, _⟩ => ⟨S4096x512, .f32⟩
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S16x1024 : Shape := ⟨2, ![16, 1024]⟩
abbrev S16x1536 : Shape := ⟨2, ![16, 1536]⟩
abbrev S1024x1536 : Shape := ⟨2, ![1024, 1536]⟩
abbrev S16x768 : Shape := ⟨2, ![16, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S16x1536, .f32⟩
  | .hbm, ⟨2, _⟩ => ⟨S1024x1536, .f32⟩
  | .local _ .vmem, ⟨0, _⟩ => ⟨S16x1024, .f32⟩
  | .local _ .vmem, ⟨1, _⟩ => ⟨S16x768, .f32⟩
  | .local _ .vmem, ⟨2, _⟩ => ⟨S16x768, .f32⟩
  | .local _ .vmem, ⟨3, _⟩ => ⟨S1024x768, .f32⟩
  | .local _ .vmem, ⟨4, _⟩ => ⟨S1024x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S16x1024 : Shape := ⟨2, ![16, 1024]⟩
abbrev S16x1536 : Shape := ⟨2, ![16, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1536, .f32⟩
  | .hbm, ⟨2, _⟩ => ⟨S_, .f32⟩
  | .hbm, ⟨3, _⟩ => ⟨S1024x1536, .f32⟩
  | .hbm, ⟨4, _⟩ => ⟨S16x1536, .f32⟩
  | .hbm, ⟨5, _⟩ => ⟨S1536x1024, .f32⟩
  | .hbm, ⟨6, _⟩ => ⟨S1024x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S4096x1024 : Shape := ⟨2, ![4096, 1024]⟩
abbrev S1024x6144 : Shape := ⟨2, ![1024, 6144]⟩
abbrev S4096x6144 : Shape := ⟨2, ![4096, 6144]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .f32⟩
  | .hbm, ⟨2, _⟩ => ⟨S1024x6144, .bf16⟩
  | .hbm, ⟨3, _⟩ => ⟨S4096x6144, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S1024x6144 : Shape := ⟨2, ![1024, 6144]⟩
abbrev S4096x6144 : Shape := ⟨2, ![4096, 6144]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .f32⟩
  | .hbm, ⟨2, _⟩ => ⟨S4096x1024, .f32⟩
  | .hbm, ⟨3, _⟩ => ⟨S4096x6144, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel11.lean ====
abbrev S4096x1024 : Shape := ⟨2, ![4096, 1024]⟩
abbrev S4x1024x1408 : Shape := ⟨3, ![4, 1024, 1408]⟩
abbrev S4096x5632 : Shape := ⟨2, ![4096, 5632]⟩
abbrev S2048x1024 : Shape := ⟨2, ![2048, 1024]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .f32⟩
  | .hbm, ⟨2, _⟩ => ⟨S4x1024x1408, .bf16⟩
  | .hbm, ⟨3, _⟩ => ⟨S4096x5632, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S2048x1408, .f32⟩
  | .local _ .vmem, ⟨5, _⟩ => ⟨S2048x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .f32⟩
  | .hbm, ⟨2, _⟩ => ⟨S4096x1024, .f32⟩
  | .hbm, ⟨3, _⟩ => ⟨S1024x4x1408, .f32⟩
  | .hbm, ⟨4, _⟩ => ⟨S1024x5632, .f32⟩
  | .hbm, ⟨5, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S2816x1024, .bf16⟩
  | .hbm, ⟨3, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x2816, .f32⟩
  | .hbm, ⟨3, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel14.lean ====
abbrev S4096x512 : Shape := ⟨2, ![4096, 512]⟩
abbrev S4x512x256 : Shape := ⟨3, ![4, 512, 256]⟩
abbrev S4096x1024 : Shape := ⟨2, ![4096, 1024]⟩
abbrev S1024x512 : Shape := ⟨2, ![1024, 512]⟩
abbrev S1x512x256 : Shape := ⟨3, ![1, 512, 256]⟩
abbrev S1024x256 : Shape := ⟨2, ![1024, 256]⟩
abbrev S512x256 : Shape := ⟨2, ![512, 256]⟩

abbrev nBuf : Space → Nat
  | .hbm => 4
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4x512x256, .f32⟩
  | .hbm, ⟨2, _⟩ => ⟨S4x512x256, .bf16⟩
  | .hbm, ⟨3, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S1x512x256, .bf16⟩
  | .local _ .vmem, ⟨3, _⟩ => ⟨S1x512x256, .bf16⟩
  | .local _ .vmem, ⟨4, _⟩ => ⟨S1024x256, .f32⟩
  | .local _ .vmem, ⟨5, _⟩ => ⟨S1024x256, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x512 : Shape := ⟨2, ![4096, 512]⟩
abbrev S4x512x256 : Shape := ⟨3, ![4, 512, 256]⟩
abbrev S512x4x256 : Shape := ⟨3, ![512, 4, 256]⟩
abbrev S512x1024 : Shape := ⟨2, ![512, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4x512x256, .f32⟩
  | .hbm, ⟨2, _⟩ => ⟨S4096x512, .f32⟩
  | .hbm, ⟨3, _⟩ => ⟨S512x4x256, .f32⟩
  | .hbm, ⟨4, _⟩ => ⟨S512x1024, .f32⟩
  | .hbm, ⟨5, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S1024x1484 : Shape := ⟨2, ![1024, 1484]⟩
abbrev S256x1484 : Shape := ⟨2, ![256, 1484]⟩

abbrev nBuf : Space → Nat
  | .hbm => 7
  | .vmem => 14
  | .smem => 0
  | _ => 0

abbrev bufTy : (tb : Table) → Fin (tcTables nBuf tb) → BufTy
  | .hbm, ⟨0, _⟩ => ⟨S1024x1484, .f32⟩
  | .hbm, ⟨1, _⟩ => ⟨S1024x1484, .f32⟩
  | .hbm, ⟨2, _⟩ => ⟨S1024x1484, .f32⟩
  | .hbm, ⟨3, _⟩ => ⟨S1024x1484, .f32⟩
  | .hbm, ⟨4, _⟩ => ⟨S1024x1484, .f32⟩
  | .hbm, ⟨5, _⟩ => ⟨S1024x1484, .f32⟩
  | .hbm, ⟨6, _⟩ => ⟨S1024x1484, .f32⟩
  | .local _ .vmem, ⟨0, _⟩ => ⟨S256x1484, .f32⟩
  | .local _ .vmem, ⟨1, _⟩ => ⟨S256x1484, .f32⟩
  | .local _ .vmem, ⟨2, _⟩ => ⟨S256x1484, .f32⟩
  | .local _ .vmem, ⟨3, _⟩ => ⟨S256x1484, .f32⟩
  | .local _ .vmem, ⟨4, _⟩ => ⟨S256x1484, .f32⟩
  | .local _ .vmem, ⟨5, _⟩ => ⟨S256x1484, .f32⟩
  | .local _ .vmem, ⟨6, _⟩ => ⟨S256x1484, .f32⟩
  | .local _ .vmem, ⟨7, _⟩ => ⟨S256x1484, .f32⟩
  | .local _ .vmem, ⟨8, _⟩ => ⟨S256x1484, .f32⟩
  | .local _ .vmem, ⟨9, _⟩ => ⟨S256x1484, .f32⟩
  | .local _ .vmem, ⟨10, _⟩ => ⟨S256x1484, .f32⟩
  | .local _ .vmem, ⟨11, _⟩ => ⟨S256x1484, .f32⟩
  | .local _ .vmem, ⟨12, _⟩ => ⟨S256x1484, .f32⟩
  | .local _ .vmem, ⟨13, _⟩ => ⟨S256x1484, .f32⟩
  | _, _ => ⟨S1024x1484, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1484 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1484 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1484 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1484 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1484 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1484 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1484 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S1024x1484 : Shape := ⟨2, ![1024, 1484]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1484, .f32⟩
  | .hbm, ⟨1, _⟩ => ⟨S1024x1484, .f32⟩
  | .hbm, ⟨2, _⟩ => ⟨S1024x1484, .f32⟩
  | .hbm, ⟨3, _⟩ => ⟨S1024x1484, .f32⟩
  | .hbm, ⟨4, _⟩ => ⟨S_, .f32⟩
  | .hbm, ⟨5, _⟩ => ⟨S1024x1484, .f32⟩
  | .hbm, ⟨6, _⟩ => ⟨S1024x1484, .f32⟩
  | .hbm, ⟨7, _⟩ => ⟨S_, .f32⟩
  | .hbm, ⟨8, _⟩ => ⟨S1024x1484, .f32⟩
  | .hbm, ⟨9, _⟩ => ⟨S1024x1484, .f32⟩
  | .hbm, ⟨10, _⟩ => ⟨S1024x1484, .f32⟩
  | .hbm, ⟨11, _⟩ => ⟨S_, .f32⟩
  | .hbm, ⟨12, _⟩ => ⟨S1024x1484, .f32⟩
  | .hbm, ⟨13, _⟩ => ⟨S1024x1484, .f32⟩
  | .hbm, ⟨14, _⟩ => ⟨S1024x1484, .f32⟩
  | .hbm, ⟨15, _⟩ => ⟨S_, .f32⟩
  | .hbm, ⟨16, _⟩ => ⟨S1024x1484, .f32⟩
  | .hbm, ⟨17, _⟩ => ⟨S1024x1484, .f32⟩
  | .hbm, ⟨18, _⟩ => ⟨S1024x1484, .f32⟩
  | .hbm, ⟨19, _⟩ => ⟨S_, .f32⟩
  | .hbm, ⟨20, _⟩ => ⟨S1024x1484, .f32⟩
  | .hbm, ⟨21, _⟩ => ⟨S1024x1484, .f32⟩
  | .hbm, ⟨22, _⟩ => ⟨S_, .f32⟩
  | .hbm, ⟨23, _⟩ => ⟨S1024x1484, .f32⟩
  | .hbm, ⟨24, _⟩ => ⟨S1024x1484, .f32⟩
  | .hbm, ⟨25, _⟩ => ⟨S1024x1484, .f32⟩
  | .hbm, ⟨26, _⟩ => ⟨S_, .f32⟩
  | .hbm, ⟨27, _⟩ => ⟨S1024x1484, .f32⟩
  | .hbm, ⟨28, _⟩ => ⟨S1024x1484, .f32⟩
  | .hbm, ⟨29, _⟩ => ⟨S1024x1484, .f32⟩
  | .hbm, ⟨30, _⟩ => ⟨S_, .f32⟩
  | .hbm, ⟨31, _⟩ => ⟨S1024x1484, .f32⟩
  | .hbm, ⟨32, _⟩ => ⟨S1024x1484, .f32⟩
  | .hbm, ⟨33, _⟩ => ⟨S1024x1484, .f32⟩
  | .hbm, ⟨34, _⟩ => ⟨S_, .f32⟩
  | .hbm, ⟨35, _⟩ => ⟨S1024x1484, .f32⟩
  | .hbm, ⟨36, _⟩ => ⟨S1024x1484, .f32⟩
  | _, _ => ⟨S1024x1484, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S512x256 : Shape := ⟨2, ![512, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference17Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S1024x1408 : Shape := ⟨2, ![1024, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S1024x1536 : Shape := ⟨2, ![1024, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S1024x1536 : Shape := ⟨2, ![1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S_, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S56x1024 : Shape := ⟨2, ![56, 1024]⟩

abbrev nBuf : Space → Nat
  | .hbm => 7
  | .vmem => 7
  | .smem => 0
  | _ => 0

abbrev bufTy : (tb : Table) → Fin (tcTables nBuf tb) → BufTy
  | .hbm, ⟨0, _⟩ => ⟨S56x1024, .f32⟩
  | .hbm, ⟨1, _⟩ => ⟨S56x1024, .f32⟩
  | .hbm, ⟨2, _⟩ => ⟨S56x1024, .f32⟩
  | .hbm, ⟨3, _⟩ => ⟨S56x1024, .f32⟩
  | .hbm, ⟨4, _⟩ => ⟨S56x1024, .f32⟩
  | .hbm, ⟨5, _⟩ => ⟨S56x1024, .f32⟩
  | .hbm, ⟨6, _⟩ => ⟨S56x1024, .f32⟩
  | .local _ .vmem, ⟨0, _⟩ => ⟨S56x1024, .f32⟩
  | .local _ .vmem, ⟨1, _⟩ => ⟨S56x1024, .f32⟩
  | .local _ .vmem, ⟨2, _⟩ => ⟨S56x1024, .f32⟩
  | .local _ .vmem, ⟨3, _⟩ => ⟨S56x1024, .f32⟩
  | .local _ .vmem, ⟨4, _⟩ => ⟨S56x1024, .f32⟩
  | .local _ .vmem, ⟨5, _⟩ => ⟨S56x1024, .f32⟩
  | .local _ .vmem, ⟨6, _⟩ => ⟨S56x1024, .f32⟩
  | _, _ => ⟨S56x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S56x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S56x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S56x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S56x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S56x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S56x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S56x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference21Ideal.lean ====
abbrev S56x1024 : Shape := ⟨2, ![56, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S56x1024, .f32⟩
  | .hbm, ⟨1, _⟩ => ⟨S56x1024, .f32⟩
  | .hbm, ⟨2, _⟩ => ⟨S56x1024, .f32⟩
  | .hbm, ⟨3, _⟩ => ⟨S56x1024, .f32⟩
  | .hbm, ⟨4, _⟩ => ⟨S_, .f32⟩
  | .hbm, ⟨5, _⟩ => ⟨S56x1024, .f32⟩
  | .hbm, ⟨6, _⟩ => ⟨S56x1024, .f32⟩
  | .hbm, ⟨7, _⟩ => ⟨S_, .f32⟩
  | .hbm, ⟨8, _⟩ => ⟨S56x1024, .f32⟩
  | .hbm, ⟨9, _⟩ => ⟨S56x1024, .f32⟩
  | .hbm, ⟨10, _⟩ => ⟨S56x1024, .f32⟩
  | .hbm, ⟨11, _⟩ => ⟨S_, .f32⟩
  | .hbm, ⟨12, _⟩ => ⟨S56x1024, .f32⟩
  | .hbm, ⟨13, _⟩ => ⟨S56x1024, .f32⟩
  | .hbm, ⟨14, _⟩ => ⟨S56x1024, .f32⟩
  | .hbm, ⟨15, _⟩ => ⟨S_, .f32⟩
  | .hbm, ⟨16, _⟩ => ⟨S56x1024, .f32⟩
  | .hbm, ⟨17, _⟩ => ⟨S56x1024, .f32⟩
  | .hbm, ⟨18, _⟩ => ⟨S56x1024, .f32⟩
  | .hbm, ⟨19, _⟩ => ⟨S_, .f32⟩
  | .hbm, ⟨20, _⟩ => ⟨S56x1024, .f32⟩
  | .hbm, ⟨21, _⟩ => ⟨S56x1024, .f32⟩
  | .hbm, ⟨22, _⟩ => ⟨S_, .f32⟩
  | .hbm, ⟨23, _⟩ => ⟨S56x1024, .f32⟩
  | .hbm, ⟨24, _⟩ => ⟨S56x1024, .f32⟩
  | .hbm, ⟨25, _⟩ => ⟨S56x1024, .f32⟩
  | .hbm, ⟨26, _⟩ => ⟨S_, .f32⟩
  | .hbm, ⟨27, _⟩ => ⟨S56x1024, .f32⟩
  | .hbm, ⟨28, _⟩ => ⟨S56x1024, .f32⟩
  | .hbm, ⟨29, _⟩ => ⟨S56x1024, .f32⟩
  | .hbm, ⟨30, _⟩ => ⟨S_, .f32⟩
  | .hbm, ⟨31, _⟩ => ⟨S56x1024, .f32⟩
  | .hbm, ⟨32, _⟩ => ⟨S56x1024, .f32⟩
  | .hbm, ⟨33, _⟩ => ⟨S56x1024, .f32⟩
  | .hbm, ⟨34, _⟩ => ⟨S_, .f32⟩
  | .hbm, ⟨35, _⟩ => ⟨S56x1024, .f32⟩
  | .hbm, ⟨36, _⟩ => ⟨S56x1024, .f32⟩
  | _, _ => ⟨S56x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference22Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Kernel23.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference23Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 79
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== Kernel24.lean ====
abbrev S4096x5632 : Shape := ⟨2, ![4096, 5632]⟩
abbrev S3x2816 : Shape := ⟨2, ![3, 2816]⟩
abbrev S4096x2816 : Shape := ⟨2, ![4096, 2816]⟩
abbrev S1x2816 : Shape := ⟨2, ![1, 2816]⟩
abbrev S2816 : Shape := ⟨1, ![2816]⟩
abbrev S128x2816 : Shape := ⟨2, ![128, 2816]⟩
abbrev S8x2816 : Shape := ⟨2, ![8, 2816]⟩
abbrev S128x5632 : Shape := ⟨2, ![128, 5632]⟩
abbrev S120x2816 : Shape := ⟨2, ![120, 2816]⟩

abbrev nBuf : Space → Nat
  | .hbm => 16
  | .vmem => 17
  | .smem => 0
  | _ => 0

abbrev bufTy : (tb : Table) → Fin (tcTables nBuf tb) → BufTy
  | .hbm, ⟨0, _⟩ => ⟨S4096x5632, .f32⟩
  | .hbm, ⟨1, _⟩ => ⟨S3x2816, .f32⟩
  | .hbm, ⟨2, _⟩ => ⟨S4096x2816, .f32⟩
  | .hbm, ⟨3, _⟩ => ⟨S1x2816, .f32⟩
  | .hbm, ⟨4, _⟩ => ⟨S2816, .f32⟩
  | .hbm, ⟨5, _⟩ => ⟨S1x2816, .f32⟩
  | .hbm, ⟨6, _⟩ => ⟨S1x2816, .f32⟩
  | .hbm, ⟨7, _⟩ => ⟨S2816, .f32⟩
  | .hbm, ⟨8, _⟩ => ⟨S1x2816, .f32⟩
  | .hbm, ⟨9, _⟩ => ⟨S1x2816, .f32⟩
  | .hbm, ⟨10, _⟩ => ⟨S2816, .f32⟩
  | .hbm, ⟨11, _⟩ => ⟨S1x2816, .f32⟩
  | .hbm, ⟨12, _⟩ => ⟨S4096x5632, .bf16⟩
  | .hbm, ⟨13, _⟩ => ⟨S1x2816, .f32⟩
  | .hbm, ⟨14, _⟩ => ⟨S1x2816, .f32⟩
  | .hbm, ⟨15, _⟩ => ⟨S1x2816, .f32⟩
  | .local _ .vmem, ⟨0, _⟩ => ⟨S128x2816, .f32⟩
  | .local _ .vmem, ⟨1, _⟩ => ⟨S128x2816, .f32⟩
  | .local _ .vmem, ⟨2, _⟩ => ⟨S8x2816, .f32⟩
  | .local _ .vmem, ⟨3, _⟩ => ⟨S8x2816, .f32⟩
  | .local _ .vmem, ⟨4, _⟩ => ⟨S128x2816, .f32⟩
  | .local _ .vmem, ⟨5, _⟩ => ⟨S128x2816, .f32⟩
  | .local _ .vmem, ⟨6, _⟩ => ⟨S1x2816, .f32⟩
  | .local _ .vmem, ⟨7, _⟩ => ⟨S1x2816, .f32⟩
  | .local _ .vmem, ⟨8, _⟩ => ⟨S1x2816, .f32⟩
  | .local _ .vmem, ⟨9, _⟩ => ⟨S128x2816, .f32⟩
  | .local _ .vmem, ⟨10, _⟩ => ⟨S128x2816, .f32⟩
  | .local _ .vmem, ⟨11, _⟩ => ⟨S128x5632, .bf16⟩
  | .local _ .vmem, ⟨12, _⟩ => ⟨S128x5632, .bf16⟩
  | .local _ .vmem, ⟨13, _⟩ => ⟨S1x2816, .f32⟩
  | .local _ .vmem, ⟨14, _⟩ => ⟨S1x2816, .f32⟩
  | .local _ .vmem, ⟨15, _⟩ => ⟨S1x2816, .f32⟩
  | .local _ .vmem, ⟨16, _⟩ => ⟨S8x2816, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v9_2 : Ref sig .tc := ⟨.hbm, 14, rfl⟩
abbrev main_v9_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference24Ideal.lean ====
abbrev S4096x5632 : Shape := ⟨2, ![4096, 5632]⟩
abbrev S3x2816 : Shape := ⟨2, ![3, 2816]⟩
abbrev S4096x2816 : Shape := ⟨2, ![4096, 2816]⟩
abbrev S1x2816 : Shape := ⟨2, ![1, 2816]⟩
abbrev S_ : Shape := ⟨0, ![]⟩
abbrev S4095x2816 : Shape := ⟨2, ![4095, 2816]⟩
abbrev S2x2816 : Shape := ⟨2, ![2, 2816]⟩
abbrev S4094x2816 : Shape := ⟨2, ![4094, 2816]⟩
abbrev S2816 : Shape := ⟨1, ![2816]⟩

abbrev nBuf : Space → Nat
  | .hbm => 89
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S3x2816, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S1x2816, .f32⟩
  | .hbm, ⟨6, _⟩ => ⟨S4096x2816, .f32⟩
  | .hbm, ⟨7, _⟩ => ⟨S4096x2816, .f32⟩
  | .hbm, ⟨8, _⟩ => ⟨S1x2816, .f32⟩
  | .hbm, ⟨9, _⟩ => ⟨S_, .f32⟩
  | .hbm, ⟨10, _⟩ => ⟨S1x2816, .f32⟩
  | .hbm, ⟨11, _⟩ => ⟨S4095x2816, .f32⟩
  | .hbm, ⟨12, _⟩ => ⟨S4096x2816, .f32⟩
  | .hbm, ⟨13, _⟩ => ⟨S_, .f32⟩
  | .hbm, ⟨14, _⟩ => ⟨S1x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S1x2816, .f32⟩
  | .hbm, ⟨19, _⟩ => ⟨S_, .f32⟩
  | .hbm, ⟨20, _⟩ => ⟨S2x2816, .f32⟩
  | .hbm, ⟨21, _⟩ => ⟨S4094x2816, .f32⟩
  | .hbm, ⟨22, _⟩ => ⟨S4096x2816, .f32⟩
  | .hbm, ⟨23, _⟩ => ⟨S_, .f32⟩
  | .hbm, ⟨24, _⟩ => ⟨S2x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S_, .f32⟩
  | .hbm, ⟨52, _⟩ => ⟨S2816, .f32⟩
  | .hbm, ⟨53, _⟩ => ⟨S1x2816, .f32⟩
  | .hbm, ⟨54, _⟩ => ⟨S2x2816, .f32⟩
  | .hbm, ⟨55, _⟩ => ⟨S4094x2816, .f32⟩
  | .hbm, ⟨56, _⟩ => ⟨S_, .f32⟩
  | .hbm, ⟨57, _⟩ => ⟨S4096x2816, .f32⟩
  | .hbm, ⟨58, _⟩ => ⟨S_, .f32⟩
  | .hbm, ⟨59, _⟩ => ⟨S3x2816, .f32⟩
  | .hbm, ⟨60, _⟩ => ⟨S4096x2816, .f32⟩
  | .hbm, ⟨61, _⟩ => ⟨S4096x2816, .f32⟩
  | .hbm, ⟨62, _⟩ => ⟨S4096x2816, .f32⟩
  | .hbm, ⟨63, _⟩ => ⟨S_, .f32⟩
  | .hbm, ⟨64, _⟩ => ⟨S2816, .f32⟩
  | .hbm, ⟨65, _⟩ => ⟨S1x2816, .f32⟩
  | .hbm, ⟨66, _⟩ => ⟨S1x2816, .f32⟩
  | .hbm, ⟨67, _⟩ => ⟨S4095x2816, .f32⟩
  | .hbm, ⟨68, _⟩ => ⟨S_, .f32⟩
  | .hbm, ⟨69, _⟩ => ⟨S4096x2816, .f32⟩
  | .hbm, ⟨70, _⟩ => ⟨S4096x2816, .f32⟩
  | .hbm, ⟨71, _⟩ => ⟨S_, .f32⟩
  | .hbm, ⟨72, _⟩ => ⟨S3x2816, .f32⟩
  | .hbm, ⟨73, _⟩ => ⟨S3x2816, .f32⟩
  | .hbm, ⟨74, _⟩ => ⟨S4096x2816, .f32⟩
  | .hbm, ⟨75, _⟩ => ⟨S4096x2816, .f32⟩
  | .hbm, ⟨76, _⟩ => ⟨S4096x2816, .f32⟩
  | .hbm, ⟨77, _⟩ => ⟨S4096x2816, .f32⟩
  | .hbm, ⟨78, _⟩ => ⟨S_, .f32⟩
  | .hbm, ⟨79, _⟩ => ⟨S2816, .f32⟩
  | .hbm, ⟨80, _⟩ => ⟨S1x2816, .f32⟩
  | .hbm, ⟨81, _⟩ => ⟨S_, .f32⟩
  | .hbm, ⟨82, _⟩ => ⟨S3x2816, .f32⟩
  | .hbm, ⟨83, _⟩ => ⟨S3x2816, .f32⟩
  | .hbm, ⟨84, _⟩ => ⟨S4096x5632, .f32⟩
  | .hbm, ⟨85, _⟩ => ⟨S4096x5632, .bf16⟩
  | .hbm, ⟨86, _⟩ => ⟨S1x2816, .f32⟩
  | .hbm, ⟨87, _⟩ => ⟨S1x2816, .f32⟩
  | .hbm, ⟨88, _⟩ => ⟨S1x2816, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v21_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v21_1 : Ref sig .tc := ⟨.hbm, 39, rfl⟩
abbrev main_v21_0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_4 : Ref sig .tc := ⟨.hbm, 56, rfl⟩
abbrev main_v33 : Ref sig .tc := ⟨.hbm, 57, rfl⟩
abbrev main_cst_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_7 : Ref sig .tc := ⟨.hbm, 68, rfl⟩
abbrev main_v42 : Ref sig .tc := ⟨.hbm, 69, rfl⟩
abbrev main_v43 : Ref sig .tc := ⟨.hbm, 70, rfl⟩
abbrev main_cst_8 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev main_v51 : Ref sig .tc := ⟨.hbm, 80, rfl⟩
abbrev main_cst_10 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩

abbrev nD : Nat := 1
abbrev τ : Topo := Topo.v7x

variable {F : FTy → Type} [FloatOps F]
-- ==== Kernel25.lean ====
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x1x1 : Shape := ⟨3, ![1, 1, 1]⟩
abbrev S1024 : Shape := ⟨1, ![1024]⟩

abbrev nBuf : Space → Nat
  | .hbm => 10
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S1x1024, .f32⟩
  | .hbm, ⟨9, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | .local _ .vmem, ⟨14, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference25Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S4096x1024, .bf16⟩
  | .hbm, ⟨80, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Kernel26.lean ====
abbrev S8x176x1024 : Shape := ⟨3, ![8, 176, 1024]⟩
abbrev S8x8x1024 : Shape := ⟨3, ![8, 8, 1024]⟩
abbrev S176x1024 : Shape := ⟨2, ![176, 1024]⟩
abbrev S8x128 : Shape := ⟨2, ![8, 128]⟩
abbrev S1x176x1024 : Shape := ⟨3, ![1, 176, 1024]⟩
abbrev S1x8x1024 : Shape := ⟨3, ![1, 8, 1024]⟩
abbrev S8x1024 : Shape := ⟨2, ![8, 1024]⟩
abbrev S1x1024 : Shape := ⟨2, ![1, 1024]⟩
abbrev S1x64 : Shape := ⟨2, ![1, 64]⟩

abbrev nBuf : Space → Nat
  | .hbm => 4
  | .vmem => 4
  | .smem => 0
  | _ => 0

abbrev bufTy : (tb : Table) → Fin (tcTables nBuf tb) → BufTy
  | .hbm, ⟨0, _⟩ => ⟨S8x176x1024, .f32⟩
  | .hbm, ⟨1, _⟩ => ⟨S8x8x1024, .f32⟩
  | .hbm, ⟨2, _⟩ => ⟨S176x1024, .f32⟩
  | .hbm, ⟨3, _⟩ => ⟨S8x128, .f32⟩
  | .local _ .vmem, ⟨0, _⟩ => ⟨S8x176x1024, .f32⟩
  | .local _ .vmem, ⟨1, _⟩ => ⟨S8x8x1024, .f32⟩
  | .local _ .vmem, ⟨2, _⟩ => ⟨S176x1024, .f32⟩
  | .local _ .vmem, ⟨3, _⟩ => ⟨S8x128, .f32⟩
  | _, _ => ⟨S8x176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x176x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S176x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference26Ideal.lean ====
abbrev S8x176x1024 : Shape := ⟨3, ![8, 176, 1024]⟩
abbrev S8x8x1024 : Shape := ⟨3, ![8, 8, 1024]⟩
abbrev S_ : Shape := ⟨0, ![]⟩
abbrev S176x1024 : Shape := ⟨2, ![176, 1024]⟩
abbrev S8x1024 : Shape := ⟨2, ![8, 1024]⟩
abbrev S2x1024 : Shape := ⟨2, ![2, 1024]⟩
abbrev S4x1024 : Shape := ⟨2, ![4, 1024]⟩
abbrev S1x1024 : Shape := ⟨2, ![1, 1024]⟩
abbrev S169x1024 : Shape := ⟨2, ![169, 1024]⟩
abbrev S1x512 : Shape := ⟨2, ![1, 512]⟩
abbrev S512 : Shape := ⟨1, ![512]⟩
abbrev S8x64 : Shape := ⟨2, ![8, 64]⟩
abbrev S64 : Shape := ⟨1, ![64]⟩
abbrev S1x64 : Shape := ⟨2, ![1, 64]⟩
abbrev S8x128 : Shape := ⟨2, ![8, 128]⟩

abbrev nBuf : Space → Nat
  | .hbm => 20
  | .vmem => 0
  | .smem => 0
  | _ => 0

abbrev bufTy : (tb : Table) → Fin (tcTables nBuf tb) → BufTy
  | .hbm, ⟨0, _⟩ => ⟨S8x176x1024, .f32⟩
  | .hbm, ⟨1, _⟩ => ⟨S8x8x1024, .f32⟩
  | .hbm, ⟨2, _⟩ => ⟨S_, .f32⟩
  | .hbm, ⟨3, _⟩ => ⟨S176x1024, .f32⟩
  | .hbm, ⟨4, _⟩ => ⟨S_, .f32⟩
  | .hbm, ⟨5, _⟩ => ⟨S8x1024, .f32⟩
  | .hbm, ⟨6, _⟩ => ⟨S2x1024, .f32⟩
  | .hbm, ⟨7, _⟩ => ⟨S4x1024, .f32⟩
  | .hbm, ⟨8, _⟩ => ⟨S1x1024, .f32⟩
  | .hbm, ⟨9, _⟩ => ⟨S169x1024, .f32⟩
  | .hbm, ⟨10, _⟩ => ⟨S176x1024, .f32⟩
  | .hbm, ⟨11, _⟩ => ⟨S1x512, .f32⟩
  | .hbm, ⟨12, _⟩ => ⟨S512, .f32⟩
  | .hbm, ⟨13, _⟩ => ⟨S8x64, .f32⟩
  | .hbm, ⟨14, _⟩ => ⟨S_, .f32⟩
  | .hbm, ⟨15, _⟩ => ⟨S64, .f32⟩
  | .hbm, ⟨16, _⟩ => ⟨S1x64, .f32⟩
  | .hbm, ⟨17, _⟩ => ⟨S_, .i32⟩
  | .hbm, ⟨18, _⟩ => ⟨S_, .f32⟩
  | .hbm, ⟨19, _⟩ => ⟨S8x128, .f32⟩
  | _, _ => ⟨S8x176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_call0_v0 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Kernel27.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference27Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel28.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference28Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel29.lean ====
abbrev S4096x5632 : Shape := ⟨2, ![4096, 5632]⟩
abbrev S3x2816 : Shape := ⟨2, ![3, 2816]⟩
abbrev S1x2816 : Shape := ⟨2, ![1, 2816]⟩
abbrev S2816 : Shape := ⟨1, ![2816]⟩
abbrev S4096x2816 : Shape := ⟨2, ![4096, 2816]⟩
abbrev S128x2816 : Shape := ⟨2, ![128, 2816]⟩
abbrev S8x2816 : Shape := ⟨2, ![8, 2816]⟩
abbrev S120x2816 : Shape := ⟨2, ![120, 2816]⟩

abbrev nBuf : Space → Nat
  | .hbm => 12
  | .vmem => 11
  | .smem => 0
  | _ => 0

abbrev bufTy : (tb : Table) → Fin (tcTables nBuf tb) → BufTy
  | .hbm, ⟨0, _⟩ => ⟨S4096x5632, .f32⟩
  | .hbm, ⟨1, _⟩ => ⟨S3x2816, .f32⟩
  | .hbm, ⟨2, _⟩ => ⟨S1x2816, .f32⟩
  | .hbm, ⟨3, _⟩ => ⟨S2816, .f32⟩
  | .hbm, ⟨4, _⟩ => ⟨S1x2816, .f32⟩
  | .hbm, ⟨5, _⟩ => ⟨S1x2816, .f32⟩
  | .hbm, ⟨6, _⟩ => ⟨S2816, .f32⟩
  | .hbm, ⟨7, _⟩ => ⟨S1x2816, .f32⟩
  | .hbm, ⟨8, _⟩ => ⟨S1x2816, .f32⟩
  | .hbm, ⟨9, _⟩ => ⟨S2816, .f32⟩
  | .hbm, ⟨10, _⟩ => ⟨S1x2816, .f32⟩
  | .hbm, ⟨11, _⟩ => ⟨S4096x2816, .bf16⟩
  | .local _ .vmem, ⟨0, _⟩ => ⟨S128x2816, .f32⟩
  | .local _ .vmem, ⟨1, _⟩ => ⟨S128x2816, .f32⟩
  | .local _ .vmem, ⟨2, _⟩ => ⟨S8x2816, .f32⟩
  | .local _ .vmem, ⟨3, _⟩ => ⟨S8x2816, .f32⟩
  | .local _ .vmem, ⟨4, _⟩ => ⟨S128x2816, .f32⟩
  | .local _ .vmem, ⟨5, _⟩ => ⟨S128x2816, .f32⟩
  | .local _ .vmem, ⟨6, _⟩ => ⟨S1x2816, .f32⟩
  | .local _ .vmem, ⟨7, _⟩ => ⟨S1x2816, .f32⟩
  | .local _ .vmem, ⟨8, _⟩ => ⟨S1x2816, .f32⟩
  | .local _ .vmem, ⟨9, _⟩ => ⟨S128x2816, .bf16⟩
  | .local _ .vmem, ⟨10, _⟩ => ⟨S128x2816, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference29Ideal.lean ====
abbrev S4096x5632 : Shape := ⟨2, ![4096, 5632]⟩
abbrev S3x2816 : Shape := ⟨2, ![3, 2816]⟩
abbrev S4096x2816 : Shape := ⟨2, ![4096, 2816]⟩
abbrev S1x2816 : Shape := ⟨2, ![1, 2816]⟩
abbrev S_ : Shape := ⟨0, ![]⟩
abbrev S4095x2816 : Shape := ⟨2, ![4095, 2816]⟩
abbrev S2x2816 : Shape := ⟨2, ![2, 2816]⟩
abbrev S4094x2816 : Shape := ⟨2, ![4094, 2816]⟩

abbrev nBuf : Space → Nat
  | .hbm => 34
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S3x2816, .f32⟩
  | .hbm, ⟨2, _⟩ => ⟨S4096x2816, .f32⟩
  | .hbm, ⟨3, _⟩ => ⟨S4096x2816, .f32⟩
  | .hbm, ⟨4, _⟩ => ⟨S1x2816, .f32⟩
  | .hbm, ⟨5, _⟩ => ⟨S4096x2816, .f32⟩
  | .hbm, ⟨6, _⟩ => ⟨S4096x2816, .f32⟩
  | .hbm, ⟨7, _⟩ => ⟨S1x2816, .f32⟩
  | .hbm, ⟨8, _⟩ => ⟨S_, .f32⟩
  | .hbm, ⟨9, _⟩ => ⟨S1x2816, .f32⟩
  | .hbm, ⟨10, _⟩ => ⟨S4095x2816, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S1x2816, .f32⟩
  | .hbm, ⟨16, _⟩ => ⟨S_, .f32⟩
  | .hbm, ⟨17, _⟩ => ⟨S2x2816, .f32⟩
  | .hbm, ⟨18, _⟩ => ⟨S4094x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Kernel30.lean ====
abbrev S4096x6144 : Shape := ⟨2, ![4096, 6144]⟩
abbrev S4096x1024 : Shape := ⟨2, ![4096, 1024]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S4096x6144, .f32⟩
  | .hbm, ⟨1, _⟩ => ⟨S4096x1024, .f32⟩
  | .hbm, ⟨2, _⟩ => ⟨S4096x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference30Ideal.lean ====
abbrev S4096x6144 : Shape := ⟨2, ![4096, 6144]⟩
abbrev S4096x1024 : Shape := ⟨2, ![4096, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel31.lean ====
abbrev S16x1024 : Shape := ⟨2, ![16, 1024]⟩
abbrev S1024x1536 : Shape := ⟨2, ![1024, 1536]⟩
abbrev S1x1536 : Shape := ⟨2, ![1, 1536]⟩
abbrev S16x1536 : Shape := ⟨2, ![16, 1536]⟩

abbrev nBuf : Space → Nat
  | .hbm => 5
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S1024x1536, .f32⟩
  | .hbm, ⟨2, _⟩ => ⟨S1x1536, .f32⟩
  | .hbm, ⟨3, _⟩ => ⟨S16x1024, .f32⟩
  | .hbm, ⟨4, _⟩ => ⟨S16x1536, .f32⟩
  | .local _ .vmem, ⟨0, _⟩ => ⟨S16x1024, .f32⟩
  | .local _ .vmem, ⟨1, _⟩ => ⟨S1024x1536, .f32⟩
  | .local _ .vmem, ⟨2, _⟩ => ⟨S1x1536, .f32⟩
  | .local _ .vmem, ⟨3, _⟩ => ⟨S16x1024, .f32⟩
  | .local _ .vmem, ⟨4, _⟩ => ⟨S16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference31Ideal.lean ====
abbrev S16x1024 : Shape := ⟨2, ![16, 1024]⟩
abbrev S1024x1536 : Shape := ⟨2, ![1024, 1536]⟩
abbrev S1x1536 : Shape := ⟨2, ![1, 1536]⟩
abbrev S_ : Shape := ⟨0, ![]⟩
abbrev S16x1536 : Shape := ⟨2, ![16, 1536]⟩

abbrev nBuf : Space → Nat
  | .hbm => 15
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x1536, .f32⟩
  | .hbm, ⟨2, _⟩ => ⟨S1x1536, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x1536, .f32⟩
  | .hbm, ⟨13, _⟩ => ⟨S16x1536, .f32⟩
  | .hbm, ⟨14, _⟩ => ⟨S16x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Kernel32.lean ====
abbrev S4096x6144 : Shape := ⟨2, ![4096, 6144]⟩
abbrev S4096x1024 : Shape := ⟨2, ![4096, 1024]⟩
abbrev S512x1024 : Shape := ⟨2, ![512, 1024]⟩
abbrev S512x2048 : Shape := ⟨2, ![512, 2048]⟩
abbrev S4096x2048 : Shape := ⟨2, ![4096, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4096x6144, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S4096x1024, .bf16⟩
  | .hbm, ⟨6, _⟩ => ⟨S4096x6144, .bf16⟩
  | .hbm, ⟨7, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x2048, .bf16⟩
  | .local _ .vmem, ⟨15, _⟩ => ⟨S512x2048, .bf16⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c4_i32 : BitVec 32 := 4#32
  let c0_i32 : BitVec 32 := 0#32
  ![v0.toNat, c4_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c5_i32 : BitVec 32 := 5#32
  let c0_i32 : BitVec 32 := 0#32
  ![v0.toNat, c5_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c2_i32 : BitVec 32 := 2#32
  let c0_i32 : BitVec 32 := 0#32
  ![v0.toNat, c2_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference32Ideal.lean ====
abbrev S4096x6144 : Shape := ⟨2, ![4096, 6144]⟩
abbrev S4096x1024 : Shape := ⟨2, ![4096, 1024]⟩
abbrev S4096x2048 : Shape := ⟨2, ![4096, 2048]⟩
abbrev S_ : Shape := ⟨0, ![]⟩

abbrev nBuf : Space → Nat
  | .hbm => 94
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x2048, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S4096x2048, .bf16⟩
  | .hbm, ⟨48, _⟩ => ⟨S4096x1024, .bf16⟩
  | .hbm, ⟨49, _⟩ => ⟨S4096x1024, .bf16⟩
  | .hbm, ⟨50, _⟩ => ⟨S4096x2048, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S4096x2048, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S_, .f32⟩
  | .hbm, ⟨91, _⟩ => ⟨S4096x2048, .f32⟩
  | .hbm, ⟨92, _⟩ => ⟨S4096x2048, .f32⟩
  | .hbm, ⟨93, _⟩ => ⟨S4096x2048, .bf16⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_7 : Ref sig .tc := ⟨.hbm, 54, rfl⟩
abbrev main_v42 : Ref sig .tc := ⟨.hbm, 55, rfl⟩
abbrev main_v43 : Ref sig .tc := ⟨.hbm, 56, rfl⟩
abbrev main_cst_8 : Ref sig .tc := ⟨.hbm, 57, rfl⟩
abbrev main_v44 : Ref sig .tc := ⟨.hbm, 58, rfl⟩
abbrev main_v45 : Ref sig .tc := ⟨.hbm, 59, rfl⟩
abbrev main_cst_9 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_10 : Ref sig .tc := ⟨.hbm, 68, rfl⟩
abbrev main_v53 : Ref sig .tc := ⟨.hbm, 69, rfl⟩
abbrev main_v54 : Ref sig .tc := ⟨.hbm, 70, rfl⟩
abbrev main_cst_11 : Ref sig .tc := ⟨.hbm, 71, rfl⟩
abbrev main_v55 : Ref sig .tc := ⟨.hbm, 72, rfl⟩
abbrev main_v56 : Ref sig .tc := ⟨.hbm, 73, rfl⟩
abbrev main_cst_12 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_13 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_14 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩

abbrev nD : Nat := 1
abbrev τ : Topo := Topo.v7x

variable {F : FTy → Type} [FloatOps F]
-- ==== Kernel33.lean ====
abbrev S512x1484 : Shape := ⟨2, ![512, 1484]⟩
abbrev S3x512x1484 : Shape := ⟨3, ![3, 512, 1484]⟩
abbrev S_ : Shape := ⟨0, ![]⟩
abbrev S1 : Shape := ⟨1, ![1]⟩
abbrev S1024x1484 : Shape := ⟨2, ![1024, 1484]⟩
abbrev S256x1484 : Shape := ⟨2, ![256, 1484]⟩
abbrev S3x256x1484 : Shape := ⟨3, ![3, 256, 1484]⟩
abbrev S1x256x1484 : Shape := ⟨3, ![1, 256, 1484]⟩

abbrev nBuf : Space → Nat
  | .hbm => 5
  | .vmem => 6
  | .smem => 1
  | _ => 0

abbrev bufTy : (tb : Table) → Fin (tcTables nBuf tb) → BufTy
  | .hbm, ⟨0, _⟩ => ⟨S512x1484, .f32⟩
  | .hbm, ⟨1, _⟩ => ⟨S3x512x1484, .bf16⟩
  | .hbm, ⟨2, _⟩ => ⟨S_, .i32⟩
  | .hbm, ⟨3, _⟩ => ⟨S1024x1484, .f32⟩
  | .hbm, ⟨4, _⟩ => ⟨S512x1484, .f32⟩
  | .local _ .vmem, ⟨0, _⟩ => ⟨S256x1484, .f32⟩
  | .local _ .vmem, ⟨1, _⟩ => ⟨S256x1484, .f32⟩
  | .local _ .vmem, ⟨2, _⟩ => ⟨S3x256x1484, .bf16⟩
  | .local _ .vmem, ⟨3, _⟩ => ⟨S3x256x1484, .bf16⟩
  | .local _ .vmem, ⟨4, _⟩ => ⟨S256x1484, .f32⟩
  | .local _ .vmem, ⟨5, _⟩ => ⟨S256x1484, .f32⟩
  | .local _ .smem, ⟨0, _⟩ => ⟨S1, .i32⟩
  | _, _ => ⟨S512x1484, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S256x1484 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1484 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1484 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference33Ideal.lean ====
abbrev S512x1484 : Shape := ⟨2, ![512, 1484]⟩
abbrev S3x512x1484 : Shape := ⟨3, ![3, 512, 1484]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S512x1484, .f32⟩
  | .hbm, ⟨1, _⟩ => ⟨S3x512x1484, .bf16⟩
  | .hbm, ⟨2, _⟩ => ⟨S3x512x1484, .f32⟩
  | .hbm, ⟨3, _⟩ => ⟨S_, .f32⟩
  | .hbm, ⟨4, _⟩ => ⟨S512x1484, .f32⟩
  | .hbm, ⟨5, _⟩ => ⟨S512x1484, .f32⟩
  | _, _ => ⟨S512x1484, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel34.lean ====
abbrev S256x256 : Shape := ⟨2, ![256, 256]⟩
abbrev S3x256x256 : Shape := ⟨3, ![3, 256, 256]⟩
abbrev S_ : Shape := ⟨0, ![]⟩
abbrev S1 : Shape := ⟨1, ![1]⟩
abbrev S512x256 : Shape := ⟨2, ![512, 256]⟩
abbrev S1x256x256 : Shape := ⟨3, ![1, 256, 256]⟩

abbrev nBuf : Space → Nat
  | .hbm => 5
  | .vmem => 3
  | .smem => 1
  | _ => 0

abbrev bufTy : (tb : Table) → Fin (tcTables nBuf tb) → BufTy
  | .hbm, ⟨0, _⟩ => ⟨S256x256, .f32⟩
  | .hbm, ⟨1, _⟩ => ⟨S3x256x256, .bf16⟩
  | .hbm, ⟨2, _⟩ => ⟨S_, .i32⟩
  | .hbm, ⟨3, _⟩ => ⟨S512x256, .f32⟩
  | .hbm, ⟨4, _⟩ => ⟨S256x256, .f32⟩
  | .local _ .vmem, ⟨0, _⟩ => ⟨S256x256, .f32⟩
  | .local _ .vmem, ⟨1, _⟩ => ⟨S3x256x256, .bf16⟩
  | .local _ .vmem, ⟨2, _⟩ => ⟨S256x256, .f32⟩
  | .local _ .smem, ⟨0, _⟩ => ⟨S1, .i32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference34Ideal.lean ====
abbrev S256x256 : Shape := ⟨2, ![256, 256]⟩
abbrev S3x256x256 : Shape := ⟨3, ![3, 256, 256]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S3x256x256, .bf16⟩
  | .hbm, ⟨2, _⟩ => ⟨S3x256x256, .f32⟩
  | .hbm, ⟨3, _⟩ => ⟨S_, .f32⟩
  | .hbm, ⟨4, _⟩ => ⟨S256x256, .f32⟩
  | .hbm, ⟨5, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel35.lean ====
abbrev S128x1024 : Shape := ⟨2, ![128, 1024]⟩
abbrev S3x128x1024 : Shape := ⟨3, ![3, 128, 1024]⟩
abbrev S_ : Shape := ⟨0, ![]⟩
abbrev S1 : Shape := ⟨1, ![1]⟩
abbrev S256x1024 : Shape := ⟨2, ![256, 1024]⟩
abbrev S1x128x1024 : Shape := ⟨3, ![1, 128, 1024]⟩

abbrev nBuf : Space → Nat
  | .hbm => 5
  | .vmem => 3
  | .smem => 1
  | _ => 0

abbrev bufTy : (tb : Table) → Fin (tcTables nBuf tb) → BufTy
  | .hbm, ⟨0, _⟩ => ⟨S128x1024, .f32⟩
  | .hbm, ⟨1, _⟩ => ⟨S3x128x1024, .bf16⟩
  | .hbm, ⟨2, _⟩ => ⟨S_, .i32⟩
  | .hbm, ⟨3, _⟩ => ⟨S256x1024, .f32⟩
  | .hbm, ⟨4, _⟩ => ⟨S128x1024, .f32⟩
  | .local _ .vmem, ⟨0, _⟩ => ⟨S128x1024, .f32⟩
  | .local _ .vmem, ⟨1, _⟩ => ⟨S3x128x1024, .bf16⟩
  | .local _ .vmem, ⟨2, _⟩ => ⟨S128x1024, .f32⟩
  | .local _ .smem, ⟨0, _⟩ => ⟨S1, .i32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference35Ideal.lean ====
abbrev S128x1024 : Shape := ⟨2, ![128, 1024]⟩
abbrev S3x128x1024 : Shape := ⟨3, ![3, 128, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S3x128x1024, .bf16⟩
  | .hbm, ⟨2, _⟩ => ⟨S3x128x1024, .f32⟩
  | .hbm, ⟨3, _⟩ => ⟨S_, .f32⟩
  | .hbm, ⟨4, _⟩ => ⟨S128x1024, .f32⟩
  | .hbm, ⟨5, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel36.lean ====
abbrev S512x1408 : Shape := ⟨2, ![512, 1408]⟩
abbrev S3x512x1408 : Shape := ⟨3, ![3, 512, 1408]⟩
abbrev S_ : Shape := ⟨0, ![]⟩
abbrev S1 : Shape := ⟨1, ![1]⟩
abbrev S1024x1408 : Shape := ⟨2, ![1024, 1408]⟩
abbrev S256x1408 : Shape := ⟨2, ![256, 1408]⟩
abbrev S3x256x1408 : Shape := ⟨3, ![3, 256, 1408]⟩
abbrev S1x256x1408 : Shape := ⟨3, ![1, 256, 1408]⟩

abbrev nBuf : Space → Nat
  | .hbm => 5
  | .vmem => 6
  | .smem => 1
  | _ => 0

abbrev bufTy : (tb : Table) → Fin (tcTables nBuf tb) → BufTy
  | .hbm, ⟨0, _⟩ => ⟨S512x1408, .f32⟩
  | .hbm, ⟨1, _⟩ => ⟨S3x512x1408, .bf16⟩
  | .hbm, ⟨2, _⟩ => ⟨S_, .i32⟩
  | .hbm, ⟨3, _⟩ => ⟨S1024x1408, .f32⟩
  | .hbm, ⟨4, _⟩ => ⟨S512x1408, .f32⟩
  | .local _ .vmem, ⟨0, _⟩ => ⟨S256x1408, .f32⟩
  | .local _ .vmem, ⟨1, _⟩ => ⟨S256x1408, .f32⟩
  | .local _ .vmem, ⟨2, _⟩ => ⟨S3x256x1408, .bf16⟩
  | .local _ .vmem, ⟨3, _⟩ => ⟨S3x256x1408, .bf16⟩
  | .local _ .vmem, ⟨4, _⟩ => ⟨S256x1408, .f32⟩
  | .local _ .vmem, ⟨5, _⟩ => ⟨S256x1408, .f32⟩
  | .local _ .smem, ⟨0, _⟩ => ⟨S1, .i32⟩
  | _, _ => ⟨S512x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference36Ideal.lean ====
abbrev S512x1408 : Shape := ⟨2, ![512, 1408]⟩
abbrev S3x512x1408 : Shape := ⟨3, ![3, 512, 1408]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S512x1408, .f32⟩
  | .hbm, ⟨1, _⟩ => ⟨S3x512x1408, .bf16⟩
  | .hbm, ⟨2, _⟩ => ⟨S3x512x1408, .f32⟩
  | .hbm, ⟨3, _⟩ => ⟨S_, .f32⟩
  | .hbm, ⟨4, _⟩ => ⟨S512x1408, .f32⟩
  | .hbm, ⟨5, _⟩ => ⟨S512x1408, .f32⟩
  | _, _ => ⟨S512x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel37.lean ====
abbrev S352x1024 : Shape := ⟨2, ![352, 1024]⟩
abbrev S3x352x1024 : Shape := ⟨3, ![3, 352, 1024]⟩
abbrev S_ : Shape := ⟨0, ![]⟩
abbrev S1 : Shape := ⟨1, ![1]⟩
abbrev S704x1024 : Shape := ⟨2, ![704, 1024]⟩
abbrev S176x1024 : Shape := ⟨2, ![176, 1024]⟩
abbrev S3x176x1024 : Shape := ⟨3, ![3, 176, 1024]⟩
abbrev S1x176x1024 : Shape := ⟨3, ![1, 176, 1024]⟩

abbrev nBuf : Space → Nat
  | .hbm => 5
  | .vmem => 6
  | .smem => 1
  | _ => 0

abbrev bufTy : (tb : Table) → Fin (tcTables nBuf tb) → BufTy
  | .hbm, ⟨0, _⟩ => ⟨S352x1024, .f32⟩
  | .hbm, ⟨1, _⟩ => ⟨S3x352x1024, .bf16⟩
  | .hbm, ⟨2, _⟩ => ⟨S_, .i32⟩
  | .hbm, ⟨3, _⟩ => ⟨S704x1024, .f32⟩
  | .hbm, ⟨4, _⟩ => ⟨S352x1024, .f32⟩
  | .local _ .vmem, ⟨0, _⟩ => ⟨S176x1024, .f32⟩
  | .local _ .vmem, ⟨1, _⟩ => ⟨S176x1024, .f32⟩
  | .local _ .vmem, ⟨2, _⟩ => ⟨S3x176x1024, .bf16⟩
  | .local _ .vmem, ⟨3, _⟩ => ⟨S3x176x1024, .bf16⟩
  | .local _ .vmem, ⟨4, _⟩ => ⟨S176x1024, .f32⟩
  | .local _ .vmem, ⟨5, _⟩ => ⟨S176x1024, .f32⟩
  | .local _ .smem, ⟨0, _⟩ => ⟨S1, .i32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference37Ideal.lean ====
abbrev S352x1024 : Shape := ⟨2, ![352, 1024]⟩
abbrev S3x352x1024 : Shape := ⟨3, ![3, 352, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S3x352x1024, .bf16⟩
  | .hbm, ⟨2, _⟩ => ⟨S3x352x1024, .f32⟩
  | .hbm, ⟨3, _⟩ => ⟨S_, .f32⟩
  | .hbm, ⟨4, _⟩ => ⟨S352x1024, .f32⟩
  | .hbm, ⟨5, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel38.lean ====
abbrev S4096x512 : Shape := ⟨2, ![4096, 512]⟩
abbrev S4096x128 : Shape := ⟨2, ![4096, 128]⟩
abbrev S64x8x64x64 : Shape := ⟨4, ![64, 8, 64, 64]⟩
abbrev S128x512 : Shape := ⟨2, ![128, 512]⟩
abbrev S128x128 : Shape := ⟨2, ![128, 128]⟩
abbrev S2x8x64x64 : Shape := ⟨4, ![2, 8, 64, 64]⟩
abbrev S8x64x64 : Shape := ⟨3, ![8, 64, 64]⟩
abbrev S1x8x64x64 : Shape := ⟨4, ![1, 8, 64, 64]⟩
abbrev S64x64 : Shape := ⟨2, ![64, 64]⟩
abbrev S1x64x64 : Shape := ⟨3, ![1, 64, 64]⟩
abbrev S64x128 : Shape := ⟨2, ![64, 128]⟩
abbrev S128x64 : Shape := ⟨2, ![128, 64]⟩
abbrev S64x1 : Shape := ⟨2, ![64, 1]⟩
abbrev S1x64x1 : Shape := ⟨3, ![1, 64, 1]⟩
abbrev S8x64x1 : Shape := ⟨3, ![8, 64, 1]⟩
abbrev S1x64 : Shape := ⟨2, ![1, 64]⟩
abbrev S1x1x64 : Shape := ⟨3, ![1, 1, 64]⟩
abbrev S8x1x64 : Shape := ⟨3, ![8, 1, 64]⟩
abbrev S1x1 : Shape := ⟨2, ![1, 1]⟩
abbrev S1x1x1 : Shape := ⟨3, ![1, 1, 1]⟩
abbrev S8x1x1 : Shape := ⟨3, ![8, 1, 1]⟩

abbrev nBuf : Space → Nat
  | .hbm => 8
  | .vmem => 17
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x128, .f32⟩
  | .hbm, ⟨4, _⟩ => ⟨S4096x128, .f32⟩
  | .hbm, ⟨5, _⟩ => ⟨S4096x512, .f32⟩
  | .hbm, ⟨6, _⟩ => ⟨S64x8x64x64, .f32⟩
  | .hbm, ⟨7, _⟩ => ⟨S64x8x64x64, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x512, .f32⟩
  | .local _ .vmem, ⟨11, _⟩ => ⟨S128x512, .f32⟩
  | .local _ .vmem, ⟨12, _⟩ => ⟨S2x8x64x64, .f32⟩
  | .local _ .vmem, ⟨13, _⟩ => ⟨S2x8x64x64, .f32⟩
  | .local _ .vmem, ⟨14, _⟩ => ⟨S2x8x64x64, .f32⟩
  | .local _ .vmem, ⟨15, _⟩ => ⟨S2x8x64x64, .f32⟩
  | .local _ .vmem, ⟨16, _⟩ => ⟨S8x64x64, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x8x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x8x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference38Ideal.lean ====
abbrev S4096x512 : Shape := ⟨2, ![4096, 512]⟩
abbrev S4096x128 : Shape := ⟨2, ![4096, 128]⟩
abbrev S_ : Shape := ⟨0, ![]⟩
abbrev S8x64x64 : Shape := ⟨3, ![8, 64, 64]⟩
abbrev S4096x8 : Shape := ⟨2, ![4096, 8]⟩
abbrev S64x64x8 : Shape := ⟨3, ![64, 64, 8]⟩
abbrev S64x8x64 : Shape := ⟨3, ![64, 8, 64]⟩
abbrev S64x64x8x64 : Shape := ⟨4, ![64, 64, 8, 64]⟩
abbrev S64x8x64x64 : Shape := ⟨4, ![64, 8, 64, 64]⟩
abbrev S1x8x64x64 : Shape := ⟨4, ![1, 8, 64, 64]⟩
abbrev S1x8x64 : Shape := ⟨3, ![1, 8, 64]⟩
abbrev S8x64 : Shape := ⟨2, ![8, 64]⟩
abbrev S64x64 : Shape := ⟨2, ![64, 64]⟩
abbrev S8x64x1 : Shape := ⟨3, ![8, 64, 1]⟩
abbrev S8x1x64 : Shape := ⟨3, ![8, 1, 64]⟩
abbrev S8x1 : Shape := ⟨2, ![8, 1]⟩
abbrev S8 : Shape := ⟨1, ![8]⟩
abbrev S8x1x1 : Shape := ⟨3, ![8, 1, 1]⟩

abbrev nBuf : Space → Nat
  | .hbm => 282
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x128, .f32⟩
  | 4 => ⟨S4096x128, .f32⟩
  | 5 => ⟨S_, .f32⟩
  | 6 => ⟨S8x64x64, .f32⟩
  | 7 => ⟨S4096x8, .f32⟩
  | 8 => ⟨S64x64x8, .f32⟩
  | 9 => ⟨S64x8x64, .f32⟩
  | 10 => ⟨S4096x8, .f32⟩
  | 11 => ⟨S64x64x8, .f32⟩
  | 12 => ⟨S64x8x64, .f32⟩
  | 13 => ⟨S64x64x8x64, .f32⟩
  | 14 => ⟨S64x8x64x64, .f32⟩
  | 15 => ⟨S64x64x8x64, .f32⟩
  | 16 => ⟨S64x8x64x64, .f32⟩
  | 17 => ⟨S64x64x8x64, .f32⟩
  | 18 => ⟨S64x8x64x64, .f32⟩
  | 19 => ⟨S_, .f32⟩
  | 20 => ⟨S64x8x64x64, .f32⟩
  | 21 => ⟨S_, .f32⟩
  | 22 => ⟨S64x8x64x64, .f32⟩
  | 23 => ⟨S_, .f32⟩
  | 24 => ⟨S64x8x64x64, .f32⟩
  | 25 => ⟨S_, .i32⟩
  | 26 => ⟨S64x8x64x64, .f32⟩
  | 27 => ⟨S64x8x64x64, .f32⟩
  | 28 => ⟨S64x8x64x64, .f32⟩
  | 29 => ⟨S64x8x64, .f32⟩
  | 30 => ⟨S64x8x64, .f32⟩
  | 31 => ⟨S_, .i32⟩
  | 32 => ⟨S8x64x64, .f32⟩
  | 33 => ⟨S64x8x64x64, .f32⟩
  | 34 => ⟨S64x8x64x64, .f32⟩
  | 35 => ⟨S64x8x64x64, .f32⟩
  | 36 => ⟨S_, .i32⟩
  | 37 => ⟨S_, .i1⟩
  | 38 => ⟨S_, .i32⟩
  | 39 => ⟨S_, .i32⟩
  | 40 => ⟨S_, .i32⟩
  | 41 => ⟨S1x8x64x64, .f32⟩
  | 42 => ⟨S8x64x64, .f32⟩
  | 43 => ⟨S_, .i32⟩
  | 44 => ⟨S_, .i32⟩
  | 45 => ⟨S_, .i32⟩
  | 46 => ⟨S1x8x64x64, .f32⟩
  | 47 => ⟨S8x64x64, .f32⟩
  | 48 => ⟨S_, .i32⟩
  | 49 => ⟨S_, .i32⟩
  | 50 => ⟨S_, .i32⟩
  | 51 => ⟨S1x8x64x64, .f32⟩
  | 52 => ⟨S8x64x64, .f32⟩
  | 53 => ⟨S_, .i32⟩
  | 54 => ⟨S_, .i32⟩
  | 55 => ⟨S1x8x64, .f32⟩
  | 56 => ⟨S8x64, .f32⟩
  | 57 => ⟨S_, .i32⟩
  | 58 => ⟨S_, .i32⟩
  | 59 => ⟨S1x8x64, .f32⟩
  | 60 => ⟨S8x64, .f32⟩
  | 61 => ⟨S64x64, .i32⟩
  | 62 => ⟨S64x64, .i32⟩
  | 63 => ⟨S64x64, .i1⟩
  | 64 => ⟨S64x64, .i1⟩
  | 65 => ⟨S8x64x1, .f32⟩
  | 66 => ⟨S8x1x64, .f32⟩
  | 67 => ⟨S8x64x64, .f32⟩
  | 68 => ⟨S8x64x64, .f32⟩
  | 69 => ⟨S8x64x64, .f32⟩
  | 70 => ⟨S_, .f32⟩
  | 71 => ⟨S_, .f32⟩
  | 72 => ⟨S8x64x64, .i1⟩
  | 73 => ⟨S8x64x64, .f32⟩
  | 74 => ⟨S8x64x64, .f32⟩
  | 75 => ⟨S8x64x64, .f32⟩
  | 76 => ⟨S_, .f32⟩
  | 77 => ⟨S_, .f32⟩
  | 78 => ⟨S8x64x64, .i1⟩
  | 79 => ⟨S8x64x64, .f32⟩
  | 80 => ⟨S8x64x64, .f32⟩
  | 81 => ⟨S8x64x1, .f32⟩
  | 82 => ⟨S8x64x64, .f32⟩
  | 83 => ⟨S8x64x64, .f32⟩
  | 84 => ⟨S8x64x1, .f32⟩
  | 85 => ⟨S8x64x64, .f32⟩
  | 86 => ⟨S8x64x64, .f32⟩
  | 87 => ⟨S8x64x64, .f32⟩
  | 88 => ⟨S8x64x64, .f32⟩
  | 89 => ⟨S_, .f32⟩
  | 90 => ⟨S_, .f32⟩
  | 91 => ⟨S8x64x64, .i1⟩
  | 92 => ⟨S8x64x64, .f32⟩
  | 93 => ⟨S8x64x64, .f32⟩
  | 94 => ⟨S64x64, .i32⟩
  | 95 => ⟨S64x64, .i32⟩
  | 96 => ⟨S_, .i32⟩
  | 97 => ⟨S64x64, .i32⟩
  | 98 => ⟨S64x64, .i32⟩
  | 99 => ⟨S64x64, .i1⟩
  | 100 => ⟨S64x64, .f32⟩
  | 101 => ⟨S8x64x64, .f32⟩
  | 102 => ⟨S8x64x64, .f32⟩
  | 103 => ⟨S8x64x64, .f32⟩
  | 104 => ⟨S8x64x64, .f32⟩
  | 105 => ⟨S8x64x64, .f32⟩
  | 106 => ⟨S8x64x64, .f32⟩
  | 107 => ⟨S8x64x64, .f32⟩
  | 108 => ⟨S8x64x64, .f32⟩
  | 109 => ⟨S8x64x64, .f32⟩
  | 110 => ⟨S8x64x64, .f32⟩
  | 111 => ⟨S8x64x64, .f32⟩
  | 112 => ⟨S8x64x64, .f32⟩
  | 113 => ⟨S8x64x64, .f32⟩
  | 114 => ⟨S8x64x64, .f32⟩
  | 115 => ⟨S8x64x64, .f32⟩
  | 116 => ⟨S8x64x64, .f32⟩
  | 117 => ⟨S8x64x64, .f32⟩
  | 118 => ⟨S8x64x64, .f32⟩
  | 119 => ⟨S8x64x64, .f32⟩
  | 120 => ⟨S8x64x64, .f32⟩
  | 121 => ⟨S8x64x64, .f32⟩
  | 122 => ⟨S8x64x64, .f32⟩
  | 123 => ⟨S8x64x64, .f32⟩
  | 124 => ⟨S8x64x64, .f32⟩
  | 125 => ⟨S8x64x64, .f32⟩
  | 126 => ⟨S8x64x64, .f32⟩
  | 127 => ⟨S8x64x64, .f32⟩
  | _ => ⟨S4096x512, .f32⟩

abbrev hbmTy0_1 (i : Nat) : BufTy := match i % 128 with
  | 0 => ⟨S8x64x64, .f32⟩
  | 1 => ⟨S8x64x64, .f32⟩
  | 2 => ⟨S8x64x64, .f32⟩
  | 3 => ⟨S8x64x64, .f32⟩
  | 4 => ⟨S8x64x64, .f32⟩
  | 5 => ⟨S8x64x64, .f32⟩
  | 6 => ⟨S8x64x64, .f32⟩
  | 7 => ⟨S8x64x64, .f32⟩
  | 8 => ⟨S8x64x64, .f32⟩
  | 9 => ⟨S8x64x64, .f32⟩
  | 10 => ⟨S8x64x64, .f32⟩
  | 11 => ⟨S8x64x64, .f32⟩
  | 12 => ⟨S8x64x64, .f32⟩
  | 13 => ⟨S8x64x64, .f32⟩
  | 14 => ⟨S8x64x64, .f32⟩
  | 15 => ⟨S8x64x64, .f32⟩
  | 16 => ⟨S8x64x64, .f32⟩
  | 17 => ⟨S8x64x64, .f32⟩
  | 18 => ⟨S8x64x64, .f32⟩
  | 19 => ⟨S8x64x64, .f32⟩
  | 20 => ⟨S8x64x64, .f32⟩
  | 21 => ⟨S8x64x64, .f32⟩
  | 22 => ⟨S8x64x64, .f32⟩
  | 23 => ⟨S8x64x64, .f32⟩
  | 24 => ⟨S8x64x64, .f32⟩
  | 25 => ⟨S8x64x64, .f32⟩
  | 26 => ⟨S8x64x64, .f32⟩
  | 27 => ⟨S8x64x64, .f32⟩
  | 28 => ⟨S8x64x64, .f32⟩
  | 29 => ⟨S8x64x64, .f32⟩
  | 30 => ⟨S8x64x64, .f32⟩
  | 31 => ⟨S8x64x64, .f32⟩
  | 32 => ⟨S8x64x64, .f32⟩
  | 33 => ⟨S8x64x64, .f32⟩
  | 34 => ⟨S8x64x64, .f32⟩
  | 35 => ⟨S8x64x64, .f32⟩
  | 36 => ⟨S8x64x64, .f32⟩
  | 37 => ⟨S8x64x64, .f32⟩
  | 38 => ⟨S8x64x64, .f32⟩
  | 39 => ⟨S8x64x64, .f32⟩
  | 40 => ⟨S8x64x64, .f32⟩
  | 41 => ⟨S8x64x64, .f32⟩
  | 42 => ⟨S8x64x64, .f32⟩
  | 43 => ⟨S8x64x64, .f32⟩
  | 44 => ⟨S8x64x64, .f32⟩
  | 45 => ⟨S8x64x64, .f32⟩
  | 46 => ⟨S8x64x64, .f32⟩
  | 47 => ⟨S8x64x64, .f32⟩
  | 48 => ⟨S8x64x64, .f32⟩
  | 49 => ⟨S8x64x64, .f32⟩
  | 50 => ⟨S8x64x64, .f32⟩
  | 51 => ⟨S8x64x64, .f32⟩
  | 52 => ⟨S8x64x64, .f32⟩
  | 53 => ⟨S8x64x64, .f32⟩
  | 54 => ⟨S8x64x64, .f32⟩
  | 55 => ⟨S8x64x64, .f32⟩
  | 56 => ⟨S8x64x64, .f32⟩
  | 57 => ⟨S8x64x64, .f32⟩
  | 58 => ⟨S8x64x64, .f32⟩
  | 59 => ⟨S8x64x64, .f32⟩
  | 60 => ⟨S8x64x64, .f32⟩
  | 61 => ⟨S8x64x64, .f32⟩
  | 62 => ⟨S8x64x64, .f32⟩
  | 63 => ⟨S8x64x64, .f32⟩
  | 64 => ⟨S8x64x64, .f32⟩
  | 65 => ⟨S8x64x64, .f32⟩
  | 66 => ⟨S8x64x64, .f32⟩
  | 67 => ⟨S8x64x64, .f32⟩
  | 68 => ⟨S8x64x64, .f32⟩
  | 69 => ⟨S8x64x64, .f32⟩
  | 70 => ⟨S8x64x64, .f32⟩
  | 71 => ⟨S8x64x64, .f32⟩
  | 72 => ⟨S8x64x64, .f32⟩
  | 73 => ⟨S8x64x64, .f32⟩
  | 74 => ⟨S8x64x64, .f32⟩
  | 75 => ⟨S8x64x64, .f32⟩
  | 76 => ⟨S8x64x64, .f32⟩
  | 77 => ⟨S8x64x64, .f32⟩
  | 78 => ⟨S8x64x64, .f32⟩
  | 79 => ⟨S8x64x64, .f32⟩
  | 80 => ⟨S8x64x64, .f32⟩
  | 81 => ⟨S8x64x64, .f32⟩
  | 82 => ⟨S8x64x64, .f32⟩
  | 83 => ⟨S8x64x64, .f32⟩
  | 84 => ⟨S8x64x64, .f32⟩
  | 85 => ⟨S8x64x64, .f32⟩
  | 86 => ⟨S8x64x64, .f32⟩
  | 87 => ⟨S8x64x64, .f32⟩
  | 88 => ⟨S8x64x64, .f32⟩
  | 89 => ⟨S8x64x64, .f32⟩
  | 90 => ⟨S8x64x64, .f32⟩
  | 91 => ⟨S8x64x64, .f32⟩
  | 92 => ⟨S8x64x64, .f32⟩
  | 93 => ⟨S8x64x64, .f32⟩
  | 94 => ⟨S8x64x64, .f32⟩
  | 95 => ⟨S8x64x64, .f32⟩
  | 96 => ⟨S8x64x64, .f32⟩
  | 97 => ⟨S8x64x64, .f32⟩
  | 98 => ⟨S8x64x64, .f32⟩
  | 99 => ⟨S8x64x64, .f32⟩
  | 100 => ⟨S8x64, .f32⟩
  | 101 => ⟨S8x64x1, .f32⟩
  | 102 => ⟨S8x64x64, .f32⟩
  | 103 => ⟨S8x64x64, .f32⟩
  | 104 => ⟨S8x64x64, .f32⟩
  | 105 => ⟨S8x64x64, .f32⟩
  | 106 => ⟨S8x64x64, .f32⟩
  | 107 => ⟨S8x64x64, .f32⟩
  | 108 => ⟨S_, .f32⟩
  | 109 => ⟨S_, .f32⟩
  | 110 => ⟨S8x64x64, .i1⟩
  | 111 => ⟨S8x64x64, .f32⟩
  | 112 => ⟨S8x64x64, .f32⟩
  | 113 => ⟨S8x64x64, .f32⟩
  | 114 => ⟨S8x64x64, .f32⟩
  | 115 => ⟨S8x64x64, .f32⟩
  | 116 => ⟨S8x64x64, .f32⟩
  | 117 => ⟨S8x64x64, .f32⟩
  | 118 => ⟨S8x64x64, .f32⟩
  | 119 => ⟨S8x64x64, .f32⟩
  | 120 => ⟨S8x1, .f32⟩
  | 121 => ⟨S8, .f32⟩
  | 122 => ⟨S8x1, .f32⟩
  | 123 => ⟨S8x64, .f32⟩
  | 124 => ⟨S8x64, .f32⟩
  | 125 => ⟨S8x64, .f32⟩
  | 126 => ⟨S8x64x1, .f32⟩
  | 127 => ⟨S8x64x64, .f32⟩
  | _ => ⟨S4096x512, .f32⟩

abbrev hbmTy0_2 (i : Nat) : BufTy := match i % 128 with
  | 0 => ⟨S8x64x64, .f32⟩
  | 1 => ⟨S8, .f32⟩
  | 2 => ⟨S8x1x1, .f32⟩
  | 3 => ⟨S8x64x64, .f32⟩
  | 4 => ⟨S8x64x64, .f32⟩
  | 5 => ⟨S8x64x64, .f32⟩
  | 6 => ⟨S8x64x64, .f32⟩
  | 7 => ⟨S1x8x64x64, .f32⟩
  | 8 => ⟨S_, .i32⟩
  | 9 => ⟨S_, .i32⟩
  | 10 => ⟨S_, .i32⟩
  | 11 => ⟨S64x8x64x64, .f32⟩
  | 12 => ⟨S1x8x64x64, .f32⟩
  | 13 => ⟨S_, .i32⟩
  | 14 => ⟨S_, .i32⟩
  | 15 => ⟨S_, .i32⟩
  | 16 => ⟨S64x8x64x64, .f32⟩
  | 17 => ⟨S1x8x64x64, .f32⟩
  | 18 => ⟨S_, .i32⟩
  | 19 => ⟨S_, .i32⟩
  | 20 => ⟨S_, .i32⟩
  | 21 => ⟨S64x8x64x64, .f32⟩
  | 22 => ⟨S_, .i32⟩
  | 23 => ⟨S_, .i32⟩
  | 24 => ⟨S64x64x8x64, .f32⟩
  | 25 => ⟨S4096x512, .f32⟩
  | _ => ⟨S4096x512, .f32⟩

abbrev hbmTy (i : Nat) : BufTy := match i / 128 with
  | 0 => hbmTy0_0 i
  | 1 => hbmTy0_1 i
  | 2 => hbmTy0_2 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_c : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev main_v16_4 : Ref sig .tc := ⟨.hbm, 30, rfl⟩
abbrev main_v16_5 : Ref sig .tc := ⟨.hbm, 31, rfl⟩
abbrev main_v16_6 : Ref sig .tc := ⟨.hbm, 32, rfl⟩
abbrev main_v16_7 : Ref sig .tc := ⟨.hbm, 33, rfl⟩
abbrev main_v16_8 : Ref sig .tc := ⟨.hbm, 34, rfl⟩
abbrev main_v16_9 : Ref sig .tc := ⟨.hbm, 35, rfl⟩
abbrev main_while0c_c_12 : Ref sig .tc := ⟨.hbm, 36, rfl⟩
abbrev main_while0c_v19 : Ref sig .tc := ⟨.hbm, 37, rfl⟩
abbrev main_while0b_call0_c : Ref sig .tc := ⟨.hbm, 38, rfl⟩
abbrev main_while0b_call0_c_0 : Ref sig .tc := ⟨.hbm, 39, rfl⟩
abbrev main_while0b_call0_c_1 : Ref sig .tc := ⟨.hbm, 40, rfl⟩
abbrev main_while0b_call0_v0 : Ref sig .tc := ⟨.hbm, 41, rfl⟩
abbrev main_while0b_v19 : Ref sig .tc := ⟨.hbm, 42, rfl⟩
abbrev main_while0b_call1_c : Ref sig .tc := ⟨.hbm, 43, rfl⟩
abbrev main_while0b_call1_c_0 : Ref sig .tc := ⟨.hbm, 44, rfl⟩
abbrev main_while0b_call1_c_1 : Ref sig .tc := ⟨.hbm, 45, rfl⟩
abbrev main_while0b_call1_v0 : Ref sig .tc := ⟨.hbm, 46, rfl⟩
abbrev main_while0b_v20 : Ref sig .tc := ⟨.hbm, 47, rfl⟩
abbrev main_while0b_call2_c : Ref sig .tc := ⟨.hbm, 48, rfl⟩
abbrev main_while0b_call2_c_0 : Ref sig .tc := ⟨.hbm, 49, rfl⟩
abbrev main_while0b_call2_c_1 : Ref sig .tc := ⟨.hbm, 50, rfl⟩
abbrev main_while0b_call2_v0 : Ref sig .tc := ⟨.hbm, 51, rfl⟩
abbrev main_while0b_v21 : Ref sig .tc := ⟨.hbm, 52, rfl⟩
abbrev main_while0b_call3_c : Ref sig .tc := ⟨.hbm, 53, rfl⟩
abbrev main_while0b_call3_c_0 : Ref sig .tc := ⟨.hbm, 54, rfl⟩
abbrev main_while0b_call3_v0 : Ref sig .tc := ⟨.hbm, 55, rfl⟩
abbrev main_while0b_v22 : Ref sig .tc := ⟨.hbm, 56, rfl⟩
abbrev main_while0b_call4_c : Ref sig .tc := ⟨.hbm, 57, rfl⟩
abbrev main_while0b_call4_c_0 : Ref sig .tc := ⟨.hbm, 58, rfl⟩
abbrev main_while0b_call4_v0 : Ref sig .tc := ⟨.hbm, 59, rfl⟩
abbrev main_while0b_v23 : Ref sig .tc := ⟨.hbm, 60, rfl⟩
abbrev main_while0b_v24 : Ref sig .tc := ⟨.hbm, 61, rfl⟩
abbrev main_while0b_v25 : Ref sig .tc := ⟨.hbm, 62, rfl⟩
abbrev main_while0b_v26 : Ref sig .tc := ⟨.hbm, 63, rfl⟩
abbrev main_while0b_v27 : Ref sig .tc := ⟨.hbm, 64, rfl⟩
abbrev main_while0b_v28 : Ref sig .tc := ⟨.hbm, 65, rfl⟩
abbrev main_while0b_v29 : Ref sig .tc := ⟨.hbm, 66, rfl⟩
abbrev main_while0b_v30 : Ref sig .tc := ⟨.hbm, 67, rfl⟩
abbrev main_while0b_v31 : Ref sig .tc := ⟨.hbm, 68, rfl⟩
abbrev main_while0b_v32 : Ref sig .tc := ⟨.hbm, 69, rfl⟩
abbrev main_while0b_cst_12 : Ref sig .tc := ⟨.hbm, 70, rfl⟩
abbrev main_while0b_call5_v0 : Ref sig .tc := ⟨.hbm, 71, rfl⟩
abbrev main_while0b_call5_v1 : Ref sig .tc := ⟨.hbm, 72, rfl⟩
abbrev main_while0b_call5_v2 : Ref sig .tc := ⟨.hbm, 73, rfl⟩
abbrev main_while0b_v33 : Ref sig .tc := ⟨.hbm, 74, rfl⟩
abbrev main_while0b_v34 : Ref sig .tc := ⟨.hbm, 75, rfl⟩
abbrev main_while0b_cst_13 : Ref sig .tc := ⟨.hbm, 76, rfl⟩
abbrev main_while0b_call6_v0 : Ref sig .tc := ⟨.hbm, 77, rfl⟩
abbrev main_while0b_call6_v1 : Ref sig .tc := ⟨.hbm, 78, rfl⟩
abbrev main_while0b_call6_v2 : Ref sig .tc := ⟨.hbm, 79, rfl⟩
abbrev main_while0b_v35 : Ref sig .tc := ⟨.hbm, 80, rfl⟩
abbrev main_while0b_v36 : Ref sig .tc := ⟨.hbm, 81, rfl⟩
abbrev main_while0b_v37 : Ref sig .tc := ⟨.hbm, 82, rfl⟩
abbrev main_while0b_v38 : Ref sig .tc := ⟨.hbm, 83, rfl⟩
abbrev main_while0b_v39 : Ref sig .tc := ⟨.hbm, 84, rfl⟩
abbrev main_while0b_v40 : Ref sig .tc := ⟨.hbm, 85, rfl⟩
abbrev main_while0b_v41 : Ref sig .tc := ⟨.hbm, 86, rfl⟩
abbrev main_while0b_v42 : Ref sig .tc := ⟨.hbm, 87, rfl⟩
abbrev main_while0b_v43 : Ref sig .tc := ⟨.hbm, 88, rfl⟩
abbrev main_while0b_cst_14 : Ref sig .tc := ⟨.hbm, 89, rfl⟩
abbrev main_while0b_call7_v0 : Ref sig .tc := ⟨.hbm, 90, rfl⟩
abbrev main_while0b_call7_v1 : Ref sig .tc := ⟨.hbm, 91, rfl⟩
abbrev main_while0b_call7_v2 : Ref sig .tc := ⟨.hbm, 92, rfl⟩
abbrev main_while0b_v44 : Ref sig .tc := ⟨.hbm, 93, rfl⟩
abbrev main_while0b_v45 : Ref sig .tc := ⟨.hbm, 94, rfl⟩
abbrev main_while0b_v46 : Ref sig .tc := ⟨.hbm, 95, rfl⟩
abbrev main_while0b_c_15 : Ref sig .tc := ⟨.hbm, 96, rfl⟩
abbrev main_while0b_v47 : Ref sig .tc := ⟨.hbm, 97, rfl⟩
abbrev main_while0b_v48 : Ref sig .tc := ⟨.hbm, 98, rfl⟩
abbrev main_while0b_v49 : Ref sig .tc := ⟨.hbm, 99, rfl⟩
abbrev main_while0b_v50 : Ref sig .tc := ⟨.hbm, 100, rfl⟩
abbrev main_while0b_v51 : Ref sig .tc := ⟨.hbm, 101, rfl⟩
abbrev main_while0b_v52 : Ref sig .tc := ⟨.hbm, 102, rfl⟩
abbrev main_while0b_v53 : Ref sig .tc := ⟨.hbm, 103, rfl⟩
abbrev main_while0b_v54 : Ref sig .tc := ⟨.hbm, 104, rfl⟩
abbrev main_while0b_v55 : Ref sig .tc := ⟨.hbm, 105, rfl⟩
abbrev main_while0b_v56 : Ref sig .tc := ⟨.hbm, 106, rfl⟩
abbrev main_while0b_v57 : Ref sig .tc := ⟨.hbm, 107, rfl⟩
abbrev main_while0b_v58 : Ref sig .tc := ⟨.hbm, 108, rfl⟩
abbrev main_while0b_v59 : Ref sig .tc := ⟨.hbm, 109, rfl⟩
abbrev main_while0b_v60 : Ref sig .tc := ⟨.hbm, 110, rfl⟩
abbrev main_while0b_v61 : Ref sig .tc := ⟨.hbm, 111, rfl⟩
abbrev main_while0b_v62 : Ref sig .tc := ⟨.hbm, 112, rfl⟩
abbrev main_while0b_v63 : Ref sig .tc := ⟨.hbm, 113, rfl⟩
abbrev main_while0b_v64 : Ref sig .tc := ⟨.hbm, 114, rfl⟩
abbrev main_while0b_v65 : Ref sig .tc := ⟨.hbm, 115, rfl⟩
abbrev main_while0b_v66 : Ref sig .tc := ⟨.hbm, 116, rfl⟩
abbrev main_while0b_v67 : Ref sig .tc := ⟨.hbm, 117, rfl⟩
abbrev main_while0b_v68 : Ref sig .tc := ⟨.hbm, 118, rfl⟩
abbrev main_while0b_v69 : Ref sig .tc := ⟨.hbm, 119, rfl⟩
abbrev main_while0b_v70 : Ref sig .tc := ⟨.hbm, 120, rfl⟩
abbrev main_while0b_v71 : Ref sig .tc := ⟨.hbm, 121, rfl⟩
abbrev main_while0b_v72 : Ref sig .tc := ⟨.hbm, 122, rfl⟩
abbrev main_while0b_v73 : Ref sig .tc := ⟨.hbm, 123, rfl⟩
abbrev main_while0b_v74 : Ref sig .tc := ⟨.hbm, 124, rfl⟩
abbrev main_while0b_v75 : Ref sig .tc := ⟨.hbm, 125, rfl⟩
abbrev main_while0b_v76 : Ref sig .tc := ⟨.hbm, 126, rfl⟩
abbrev main_while0b_v77 : Ref sig .tc := ⟨.hbm, 127, rfl⟩
abbrev main_while0b_v78 : Ref sig .tc := ⟨.hbm, 128, rfl⟩
abbrev main_while0b_v79 : Ref sig .tc := ⟨.hbm, 129, rfl⟩
abbrev main_while0b_v80 : Ref sig .tc := ⟨.hbm, 130, rfl⟩
abbrev main_while0b_v81 : Ref sig .tc := ⟨.hbm, 131, rfl⟩
abbrev main_while0b_v82 : Ref sig .tc := ⟨.hbm, 132, rfl⟩
abbrev main_while0b_v83 : Ref sig .tc := ⟨.hbm, 133, rfl⟩
abbrev main_while0b_v84 : Ref sig .tc := ⟨.hbm, 134, rfl⟩
abbrev main_while0b_v85 : Ref sig .tc := ⟨.hbm, 135, rfl⟩
abbrev main_while0b_v86 : Ref sig .tc := ⟨.hbm, 136, rfl⟩
abbrev main_while0b_v87 : Ref sig .tc := ⟨.hbm, 137, rfl⟩
abbrev main_while0b_v88 : Ref sig .tc := ⟨.hbm, 138, rfl⟩
abbrev main_while0b_v89 : Ref sig .tc := ⟨.hbm, 139, rfl⟩
abbrev main_while0b_v90 : Ref sig .tc := ⟨.hbm, 140, rfl⟩
abbrev main_while0b_v91 : Ref sig .tc := ⟨.hbm, 141, rfl⟩
abbrev main_while0b_v92 : Ref sig .tc := ⟨.hbm, 142, rfl⟩
abbrev main_while0b_v93 : Ref sig .tc := ⟨.hbm, 143, rfl⟩
abbrev main_while0b_v94 : Ref sig .tc := ⟨.hbm, 144, rfl⟩
abbrev main_while0b_v95 : Ref sig .tc := ⟨.hbm, 145, rfl⟩
abbrev main_while0b_v96 : Ref sig .tc := ⟨.hbm, 146, rfl⟩
abbrev main_while0b_v97 : Ref sig .tc := ⟨.hbm, 147, rfl⟩
abbrev main_while0b_v98 : Ref sig .tc := ⟨.hbm, 148, rfl⟩
abbrev main_while0b_v99 : Ref sig .tc := ⟨.hbm, 149, rfl⟩
abbrev main_while0b_v100 : Ref sig .tc := ⟨.hbm, 150, rfl⟩
abbrev main_while0b_v101 : Ref sig .tc := ⟨.hbm, 151, rfl⟩
abbrev main_while0b_v102 : Ref sig .tc := ⟨.hbm, 152, rfl⟩
abbrev main_while0b_v103 : Ref sig .tc := ⟨.hbm, 153, rfl⟩
abbrev main_while0b_v104 : Ref sig .tc := ⟨.hbm, 154, rfl⟩
abbrev main_while0b_v105 : Ref sig .tc := ⟨.hbm, 155, rfl⟩
abbrev main_while0b_v106 : Ref sig .tc := ⟨.hbm, 156, rfl⟩
abbrev main_while0b_v107 : Ref sig .tc := ⟨.hbm, 157, rfl⟩
abbrev main_while0b_v108 : Ref sig .tc := ⟨.hbm, 158, rfl⟩
abbrev main_while0b_v109 : Ref sig .tc := ⟨.hbm, 159, rfl⟩
abbrev main_while0b_v110 : Ref sig .tc := ⟨.hbm, 160, rfl⟩
abbrev main_while0b_v111 : Ref sig .tc := ⟨.hbm, 161, rfl⟩
abbrev main_while0b_v112 : Ref sig .tc := ⟨.hbm, 162, rfl⟩
abbrev main_while0b_v113 : Ref sig .tc := ⟨.hbm, 163, rfl⟩
abbrev main_while0b_v114 : Ref sig .tc := ⟨.hbm, 164, rfl⟩
abbrev main_while0b_v115 : Ref sig .tc := ⟨.hbm, 165, rfl⟩
abbrev main_while0b_v116 : Ref sig .tc := ⟨.hbm, 166, rfl⟩
abbrev main_while0b_v117 : Ref sig .tc := ⟨.hbm, 167, rfl⟩
abbrev main_while0b_v118 : Ref sig .tc := ⟨.hbm, 168, rfl⟩
abbrev main_while0b_v119 : Ref sig .tc := ⟨.hbm, 169, rfl⟩
abbrev main_while0b_v120 : Ref sig .tc := ⟨.hbm, 170, rfl⟩
abbrev main_while0b_v121 : Ref sig .tc := ⟨.hbm, 171, rfl⟩
abbrev main_while0b_v122 : Ref sig .tc := ⟨.hbm, 172, rfl⟩
abbrev main_while0b_v123 : Ref sig .tc := ⟨.hbm, 173, rfl⟩
abbrev main_while0b_v124 : Ref sig .tc := ⟨.hbm, 174, rfl⟩
abbrev main_while0b_v125 : Ref sig .tc := ⟨.hbm, 175, rfl⟩
abbrev main_while0b_v126 : Ref sig .tc := ⟨.hbm, 176, rfl⟩
abbrev main_while0b_v127 : Ref sig .tc := ⟨.hbm, 177, rfl⟩
abbrev main_while0b_v128 : Ref sig .tc := ⟨.hbm, 178, rfl⟩
abbrev main_while0b_v129 : Ref sig .tc := ⟨.hbm, 179, rfl⟩
abbrev main_while0b_v130 : Ref sig .tc := ⟨.hbm, 180, rfl⟩
abbrev main_while0b_v131 : Ref sig .tc := ⟨.hbm, 181, rfl⟩
abbrev main_while0b_v132 : Ref sig .tc := ⟨.hbm, 182, rfl⟩
abbrev main_while0b_v133 : Ref sig .tc := ⟨.hbm, 183, rfl⟩
abbrev main_while0b_v134 : Ref sig .tc := ⟨.hbm, 184, rfl⟩
abbrev main_while0b_v135 : Ref sig .tc := ⟨.hbm, 185, rfl⟩
abbrev main_while0b_v136 : Ref sig .tc := ⟨.hbm, 186, rfl⟩
abbrev main_while0b_v137 : Ref sig .tc := ⟨.hbm, 187, rfl⟩
abbrev main_while0b_v138 : Ref sig .tc := ⟨.hbm, 188, rfl⟩
abbrev main_while0b_v139 : Ref sig .tc := ⟨.hbm, 189, rfl⟩
abbrev main_while0b_v140 : Ref sig .tc := ⟨.hbm, 190, rfl⟩
abbrev main_while0b_v141 : Ref sig .tc := ⟨.hbm, 191, rfl⟩
abbrev main_while0b_v142 : Ref sig .tc := ⟨.hbm, 192, rfl⟩
abbrev main_while0b_v143 : Ref sig .tc := ⟨.hbm, 193, rfl⟩
abbrev main_while0b_v144 : Ref sig .tc := ⟨.hbm, 194, rfl⟩
abbrev main_while0b_v145 : Ref sig .tc := ⟨.hbm, 195, rfl⟩
abbrev main_while0b_v146 : Ref sig .tc := ⟨.hbm, 196, rfl⟩
abbrev main_while0b_v147 : Ref sig .tc := ⟨.hbm, 197, rfl⟩
abbrev main_while0b_v148 : Ref sig .tc := ⟨.hbm, 198, rfl⟩
abbrev main_while0b_v149 : Ref sig .tc := ⟨.hbm, 199, rfl⟩
abbrev main_while0b_v150 : Ref sig .tc := ⟨.hbm, 200, rfl⟩
abbrev main_while0b_v151 : Ref sig .tc := ⟨.hbm, 201, rfl⟩
abbrev main_while0b_v152 : Ref sig .tc := ⟨.hbm, 202, rfl⟩
abbrev main_while0b_v153 : Ref sig .tc := ⟨.hbm, 203, rfl⟩
abbrev main_while0b_v154 : Ref sig .tc := ⟨.hbm, 204, rfl⟩
abbrev main_while0b_v155 : Ref sig .tc := ⟨.hbm, 205, rfl⟩
abbrev main_while0b_v156 : Ref sig .tc := ⟨.hbm, 206, rfl⟩
abbrev main_while0b_v157 : Ref sig .tc := ⟨.hbm, 207, rfl⟩
abbrev main_while0b_v158 : Ref sig .tc := ⟨.hbm, 208, rfl⟩
abbrev main_while0b_v159 : Ref sig .tc := ⟨.hbm, 209, rfl⟩
abbrev main_while0b_v160 : Ref sig .tc := ⟨.hbm, 210, rfl⟩
abbrev main_while0b_v161 : Ref sig .tc := ⟨.hbm, 211, rfl⟩
abbrev main_while0b_v162 : Ref sig .tc := ⟨.hbm, 212, rfl⟩
abbrev main_while0b_v163 : Ref sig .tc := ⟨.hbm, 213, rfl⟩
abbrev main_while0b_v164 : Ref sig .tc := ⟨.hbm, 214, rfl⟩
abbrev main_while0b_v165 : Ref sig .tc := ⟨.hbm, 215, rfl⟩
abbrev main_while0b_v166 : Ref sig .tc := ⟨.hbm, 216, rfl⟩
abbrev main_while0b_v167 : Ref sig .tc := ⟨.hbm, 217, rfl⟩
abbrev main_while0b_v168 : Ref sig .tc := ⟨.hbm, 218, rfl⟩
abbrev main_while0b_v169 : Ref sig .tc := ⟨.hbm, 219, rfl⟩
abbrev main_while0b_v170 : Ref sig .tc := ⟨.hbm, 220, rfl⟩
abbrev main_while0b_v171 : Ref sig .tc := ⟨.hbm, 221, rfl⟩
abbrev main_while0b_v172 : Ref sig .tc := ⟨.hbm, 222, rfl⟩
abbrev main_while0b_v173 : Ref sig .tc := ⟨.hbm, 223, rfl⟩
abbrev main_while0b_v174 : Ref sig .tc := ⟨.hbm, 224, rfl⟩
abbrev main_while0b_v175 : Ref sig .tc := ⟨.hbm, 225, rfl⟩
abbrev main_while0b_v176 : Ref sig .tc := ⟨.hbm, 226, rfl⟩
abbrev main_while0b_v177 : Ref sig .tc := ⟨.hbm, 227, rfl⟩
abbrev main_while0b_v178 : Ref sig .tc := ⟨.hbm, 228, rfl⟩
abbrev main_while0b_v179 : Ref sig .tc := ⟨.hbm, 229, rfl⟩
abbrev main_while0b_v180 : Ref sig .tc := ⟨.hbm, 230, rfl⟩
abbrev main_while0b_v181 : Ref sig .tc := ⟨.hbm, 231, rfl⟩
abbrev main_while0b_v182 : Ref sig .tc := ⟨.hbm, 232, rfl⟩
abbrev main_while0b_v183 : Ref sig .tc := ⟨.hbm, 233, rfl⟩
abbrev main_while0b_v184 : Ref sig .tc := ⟨.hbm, 234, rfl⟩
abbrev main_while0b_v185 : Ref sig .tc := ⟨.hbm, 235, rfl⟩
abbrev main_while0b_cst_16 : Ref sig .tc := ⟨.hbm, 236, rfl⟩
abbrev main_while0b_call8_v0 : Ref sig .tc := ⟨.hbm, 237, rfl⟩
abbrev main_while0b_call8_v1 : Ref sig .tc := ⟨.hbm, 238, rfl⟩
abbrev main_while0b_call8_v2 : Ref sig .tc := ⟨.hbm, 239, rfl⟩
abbrev main_while0b_v186 : Ref sig .tc := ⟨.hbm, 240, rfl⟩
abbrev main_while0b_v187 : Ref sig .tc := ⟨.hbm, 241, rfl⟩
abbrev main_while0b_v188 : Ref sig .tc := ⟨.hbm, 242, rfl⟩
abbrev main_while0b_v189 : Ref sig .tc := ⟨.hbm, 243, rfl⟩
abbrev main_while0b_v190 : Ref sig .tc := ⟨.hbm, 244, rfl⟩
abbrev main_while0b_v191 : Ref sig .tc := ⟨.hbm, 245, rfl⟩
abbrev main_while0b_v192 : Ref sig .tc := ⟨.hbm, 246, rfl⟩
abbrev main_while0b_v193 : Ref sig .tc := ⟨.hbm, 247, rfl⟩
abbrev main_while0b_v194 : Ref sig .tc := ⟨.hbm, 248, rfl⟩
abbrev main_while0b_v195 : Ref sig .tc := ⟨.hbm, 249, rfl⟩
abbrev main_while0b_v196 : Ref sig .tc := ⟨.hbm, 250, rfl⟩
abbrev main_while0b_v197 : Ref sig .tc := ⟨.hbm, 251, rfl⟩
abbrev main_while0b_v198 : Ref sig .tc := ⟨.hbm, 252, rfl⟩
abbrev main_while0b_v199 : Ref sig .tc := ⟨.hbm, 253, rfl⟩
abbrev main_while0b_v200 : Ref sig .tc := ⟨.hbm, 254, rfl⟩
abbrev main_while0b_v201 : Ref sig .tc := ⟨.hbm, 255, rfl⟩
abbrev main_while0b_v202 : Ref sig .tc := ⟨.hbm, 256, rfl⟩
abbrev main_while0b_v203 : Ref sig .tc := ⟨.hbm, 257, rfl⟩
abbrev main_while0b_v204 : Ref sig .tc := ⟨.hbm, 258, rfl⟩
abbrev main_while0b_v205 : Ref sig .tc := ⟨.hbm, 259, rfl⟩
abbrev main_while0b_v206 : Ref sig .tc := ⟨.hbm, 260, rfl⟩
abbrev main_while0b_v207 : Ref sig .tc := ⟨.hbm, 261, rfl⟩
abbrev main_while0b_v208 : Ref sig .tc := ⟨.hbm, 262, rfl⟩
abbrev main_while0b_call9_v0 : Ref sig .tc := ⟨.hbm, 263, rfl⟩
abbrev main_while0b_call9_c : Ref sig .tc := ⟨.hbm, 264, rfl⟩
abbrev main_while0b_call9_c_0 : Ref sig .tc := ⟨.hbm, 265, rfl⟩
abbrev main_while0b_call9_c_1 : Ref sig .tc := ⟨.hbm, 266, rfl⟩
abbrev main_while0b_v209 : Ref sig .tc := ⟨.hbm, 267, rfl⟩
abbrev main_while0b_call10_v0 : Ref sig .tc := ⟨.hbm, 268, rfl⟩
abbrev main_while0b_call10_c : Ref sig .tc := ⟨.hbm, 269, rfl⟩
abbrev main_while0b_call10_c_0 : Ref sig .tc := ⟨.hbm, 270, rfl⟩
abbrev main_while0b_call10_c_1 : Ref sig .tc := ⟨.hbm, 271, rfl⟩
abbrev main_while0b_v210 : Ref sig .tc := ⟨.hbm, 272, rfl⟩
abbrev main_while0b_call11_v0 : Ref sig .tc := ⟨.hbm, 273, rfl⟩
abbrev main_while0b_call11_c : Ref sig .tc := ⟨.hbm, 274, rfl⟩
abbrev main_while0b_call11_c_0 : Ref sig .tc := ⟨.hbm, 275, rfl⟩
abbrev main_while0b_call11_c_1 : Ref sig .tc := ⟨.hbm, 276, rfl⟩
abbrev main_while0b_v211 : Ref sig .tc := ⟨.hbm, 277, rfl⟩
abbrev main_while0b_c_17 : Ref sig .tc := ⟨.hbm, 278, rfl⟩
abbrev main_while0b_v212 : Ref sig .tc := ⟨.hbm, 279, rfl⟩
abbrev main_v17 : Ref sig .tc := ⟨.hbm, 280, rfl⟩
abbrev main_v18 : Ref sig .tc := ⟨.hbm, 281, rfl⟩

abbrev nD : Nat := 1
abbrev τ : Topo := Topo.v7x

variable {F : FTy → Type} [FloatOps F]

abbrev main_while0_count : Scf.Loop 32 := ⟨0#32, 64#32, 1#32⟩
-- ==== Proof.Chain.lean ====
module

public import proofs.«01_k».proof.Proof.Gen.KernelIdeal.Skeleton

@[expose] public section

/-! One chunk of the kernel's body as a chain of named arrays, all heads at once: the operations the body does
on the chunk's queries, keys, values, gates, saved inverse, incoming state and incoming gradients, in its order. -/

set_option maxRecDepth 16384

noncomputable section

namespace Cert.KernelIdeal.Chain

open Idealize.ShloMosaic Idealize.ShloMosaic.TcCoe Cert.KernelIdeal Cert.KernelIdeal.Gen

variable {F : FTy → Type} [FloatOps F]

/-- What the body reads for one chunk: heads first, then rows, then lanes; the gate as a column, as a row, and its
last row alone. -/
structure Raw (F : FTy → Type) where
  q : FVec F S8x64x64 .f32
  k : FVec F S8x64x64 .f32
  v : FVec F S8x64x64 .f32
  beta : FVec F S8x64x1 .f32
  gc : FVec F S8x64x1 .f32
  gr : FVec F S8x1x64 .f32
  gl : FVec F S8x1x1 .f32
  T : FVec F S8x64x64 .f32
  S : FVec F S8x64x64 .f32
  dO : FVec F S8x64x64 .f32
  dS : FVec F S8x64x64 .f32

/-- The decay factors before the mask, `exp (g_i - g_j)` below the diagonal. -/
def E (c : Raw F) : FVec F S8x64x64 .f32 :=
  exp (select (broadcastTo S8x64x64 (shapeCast S1x64x64 (shapeCast S1x64x64 (cmpi .sge (iota .tc S64x64 32 [0] iota_S64x64_d0_w32) (iota .tc S64x64 32 [1] iota_S64x64_d1_w32)) shapeCasts_S64x64_S1x64x64) shapeCasts_S1x64x64_S1x64x64) broadcasts_S1x64x64_S8x64x64) (subf (broadcastTo S8x64x64 c.gc broadcasts_S8x64x1_S8x64x64) (broadcastTo S8x64x64 c.gr broadcasts_S8x1x64_S8x64x64)) (broadcast S8x64x64 (Scalar.ofBits .f32 0x00000000#32)))

/-- The masked decay factors. -/
def D (c : Raw F) : FVec F S8x64x64 .f32 :=
  select (broadcastTo S8x64x64 (shapeCast S1x64x64 (shapeCast S1x64x64 (cmpi .sge (iota .tc S64x64 32 [0] iota_S64x64_d0_w32) (iota .tc S64x64 32 [1] iota_S64x64_d1_w32)) shapeCasts_S64x64_S1x64x64) shapeCasts_S1x64x64_S1x64x64) broadcasts_S1x64x64_S8x64x64) (E c) (broadcast S8x64x64 (Scalar.ofBits .f32 0x00000000#32))

/-- The keys times beta. -/
def kb (c : Raw F) : FVec F S8x64x64 .f32 :=
  mulf c.k (broadcastTo S8x64x64 c.beta broadcasts_S8x64x1_S8x64x64)

/-- The values times beta. -/
def vb (c : Raw F) : FVec F S8x64x64 .f32 :=
  mulf c.v (broadcastTo S8x64x64 c.beta broadcasts_S8x64x1_S8x64x64)

/-- The products of the keys times beta with the keys. -/
def KK (c : Raw F) : FVec F S8x64x64 .f32 :=
  matmul dot_S8x64x64_S8x64x64_S8x64x64_2_2_1_1_0_0 none (truncf .bf16 (kb c) bitsLt_bf16_f32) (truncf .bf16 c.k bitsLt_bf16_f32) (constant S8x64x64 .f32 0x00000000#32)

/-- `exp g`. -/
def eg (c : Raw F) : FVec F S8x64x1 .f32 :=
  exp c.gc

/-- The inverse times the values times beta. -/
def u (c : Raw F) : FVec F S8x64x64 .f32 :=
  matmul dot_S8x64x64_S8x64x64_S8x64x64_2_1_1_2_0_0 none (truncf .bf16 c.T bitsLt_bf16_f32) (truncf .bf16 (vb c) bitsLt_bf16_f32) (constant S8x64x64 .f32 0x00000000#32)

/-- The keys times beta times `exp g`. -/
def kbe (c : Raw F) : FVec F S8x64x64 .f32 :=
  mulf (kb c) (broadcastTo S8x64x64 (eg c) broadcasts_S8x64x1_S8x64x64)

/-- The inverse times `kbe`. -/
def w (c : Raw F) : FVec F S8x64x64 .f32 :=
  matmul dot_S8x64x64_S8x64x64_S8x64x64_2_1_1_2_0_0 none (truncf .bf16 c.T bitsLt_bf16_f32) (truncf .bf16 (kbe c) bitsLt_bf16_f32) (constant S8x64x64 .f32 0x00000000#32)

/-- The products of the queries with the keys. -/
def QK (c : Raw F) : FVec F S8x64x64 .f32 :=
  matmul dot_S8x64x64_S8x64x64_S8x64x64_2_2_1_1_0_0 none (truncf .bf16 c.q bitsLt_bf16_f32) (truncf .bf16 c.k bitsLt_bf16_f32) (constant S8x64x64 .f32 0x00000000#32)

/-- The masked attention of the chunk. -/
def A (c : Raw F) : FVec F S8x64x64 .f32 :=
  select (broadcastTo S8x64x64 (shapeCast S1x64x64 (shapeCast S1x64x64 (cmpi .sge (iota .tc S64x64 32 [0] iota_S64x64_d0_w32) (iota .tc S64x64 32 [1] iota_S64x64_d1_w32)) shapeCasts_S64x64_S1x64x64) shapeCasts_S1x64x64_S1x64x64) broadcasts_S1x64x64_S8x64x64) (mulf (QK c) (D c)) (broadcast S8x64x64 (Scalar.ofBits .f32 0x00000000#32))

/-- The new values. -/
def vn (c : Raw F) : FVec F S8x64x64 .f32 :=
  subf (u c) (matmul dot_S8x64x64_S8x64x64_S8x64x64_2_1_1_2_0_0 none (truncf .bf16 (w c) bitsLt_bf16_f32) (truncf .bf16 c.S bitsLt_bf16_f32) (constant S8x64x64 .f32 0x00000000#32))

/-- The queries times `exp g`. -/
def qe (c : Raw F) : FVec F S8x64x64 .f32 :=
  mulf c.q (broadcastTo S8x64x64 (eg c) broadcasts_S8x64x1_S8x64x64)

/-- The decay from a row to the chunk's end. -/
def ed (c : Raw F) : FVec F S8x64x1 .f32 :=
  exp (subf (broadcastTo S8x64x1 c.gl broadcasts_S8x1x1_S8x64x1) c.gc)

/-- The keys times that decay. -/
def kd (c : Raw F) : FVec F S8x64x64 .f32 :=
  mulf c.k (broadcastTo S8x64x64 (ed c) broadcasts_S8x64x1_S8x64x64)

/-- The decay over the chunk. -/
def egl (c : Raw F) : FVec F S8x1x1 .f32 :=
  exp c.gl

/-- The gradient of the decayed keys. -/
def dkd (c : Raw F) : FVec F S8x64x64 .f32 :=
  matmul dot_S8x64x64_S8x64x64_S8x64x64_2_2_1_1_0_0 none (truncf .bf16 (vn c) bitsLt_bf16_f32) (truncf .bf16 c.dS bitsLt_bf16_f32) (constant S8x64x64 .f32 0x00000000#32)

/-- The gradient of the exponent of `ed`. -/
def kdk (c : Raw F) : FVec F S8x64x1 .f32 :=
  mulf (shapeCast S8x64x1 (multiReduction .add [2] S8x64 (mulf c.k (dkd c)) 0x00000000#32 reduces_S8x64x64_S8x64 (.inl rfl) rfl) shapeCasts_S8x64_S8x64x1) (ed c)

/-- The gradient of the last row's `g` through the decays to the end. -/
def dgl (c : Raw F) : FVec F S8x1x1 .f32 :=
  addf (mulf (shapeCast S8x1x1 (multiReduction .add [1, 2] S8 (mulf c.S c.dS) 0x00000000#32 reduces_S8x64x64_S8 (.inl rfl) rfl) shapeCasts_S8_S8x1x1) (egl c)) (shapeCast S8x1x1 (multiReduction .add [1] S8x1 (kdk c) 0x00000000#32 reduces_S8x64x1_S8x1 (.inl rfl) rfl) shapeCasts_S8x1_S8x1x1)

/-- The gradient of the attention before its mask. -/
def dA0 (c : Raw F) : FVec F S8x64x64 .f32 :=
  matmul dot_S8x64x64_S8x64x64_S8x64x64_2_2_1_1_0_0 none (truncf .bf16 c.dO bitsLt_bf16_f32) (truncf .bf16 (vn c) bitsLt_bf16_f32) (constant S8x64x64 .f32 0x00000000#32)

/-- The gradient of the new values. -/
def dvn (c : Raw F) : FVec F S8x64x64 .f32 :=
  addf (matmul dot_S8x64x64_S8x64x64_S8x64x64_2_1_1_2_0_0 none (truncf .bf16 (kd c) bitsLt_bf16_f32) (truncf .bf16 c.dS bitsLt_bf16_f32) (constant S8x64x64 .f32 0x00000000#32)) (matmul dot_S8x64x64_S8x64x64_S8x64x64_1_1_2_2_0_0 none (truncf .bf16 (A c) bitsLt_bf16_f32) (truncf .bf16 c.dO bitsLt_bf16_f32) (constant S8x64x64 .f32 0x00000000#32))

/-- The gradient of `qe`. -/
def dqe (c : Raw F) : FVec F S8x64x64 .f32 :=
  matmul dot_S8x64x64_S8x64x64_S8x64x64_2_2_1_1_0_0 none (truncf .bf16 c.dO bitsLt_bf16_f32) (truncf .bf16 c.S bitsLt_bf16_f32) (constant S8x64x64 .f32 0x00000000#32)

/-- The gradient of the incoming state, its first two terms. -/
def dS0 (c : Raw F) : FVec F S8x64x64 .f32 :=
  addf (mulf c.dS (broadcastTo S8x64x64 (egl c) broadcasts_S8x1x1_S8x64x64)) (matmul dot_S8x64x64_S8x64x64_S8x64x64_1_1_2_2_0_0 none (truncf .bf16 (qe c) bitsLt_bf16_f32) (truncf .bf16 c.dO bitsLt_bf16_f32) (constant S8x64x64 .f32 0x00000000#32))

/-- The gradient of `exp g` through the queries. -/
def qdq (c : Raw F) : FVec F S8x64x1 .f32 :=
  shapeCast S8x64x1 (multiReduction .add [2] S8x64 (mulf c.q (dqe c)) 0x00000000#32 reduces_S8x64x64_S8x64 (.inl rfl) rfl) shapeCasts_S8x64_S8x64x1

/-- Minus the gradient of the new values. -/
def ndvn (c : Raw F) : FVec F S8x64x64 .f32 :=
  subf (broadcast S8x64x64 (Scalar.ofBits .f32 0x00000000#32)) (dvn c)

/-- The gradient of `w`. -/
def dw (c : Raw F) : FVec F S8x64x64 .f32 :=
  matmul dot_S8x64x64_S8x64x64_S8x64x64_2_2_1_1_0_0 none (truncf .bf16 (ndvn c) bitsLt_bf16_f32) (truncf .bf16 c.S bitsLt_bf16_f32) (constant S8x64x64 .f32 0x00000000#32)

/-- The gradient of the incoming state. -/
def dSin (c : Raw F) : FVec F S8x64x64 .f32 :=
  addf (dS0 c) (matmul dot_S8x64x64_S8x64x64_S8x64x64_1_1_2_2_0_0 none (truncf .bf16 (w c) bitsLt_bf16_f32) (truncf .bf16 (ndvn c) bitsLt_bf16_f32) (constant S8x64x64 .f32 0x00000000#32))

/-- The gradient of the attention. -/
def dA (c : Raw F) : FVec F S8x64x64 .f32 :=
  select (broadcastTo S8x64x64 (shapeCast S1x64x64 (shapeCast S1x64x64 (cmpi .sge (iota .tc S64x64 32 [0] iota_S64x64_d0_w32) (iota .tc S64x64 32 [1] iota_S64x64_d1_w32)) shapeCasts_S64x64_S1x64x64) shapeCasts_S1x64x64_S1x64x64) broadcasts_S1x64x64_S8x64x64) (dA0 c) (broadcast S8x64x64 (Scalar.ofBits .f32 0x00000000#32))

/-- The gradient of `QK`. -/
def dAD (c : Raw F) : FVec F S8x64x64 .f32 :=
  mulf (dA c) (D c)

/-- The gradient of the queries. -/
def dq (c : Raw F) : FVec F S8x64x64 .f32 :=
  addf (mulf (dqe c) (broadcastTo S8x64x64 (eg c) broadcasts_S8x64x1_S8x64x64)) (matmul dot_S8x64x64_S8x64x64_S8x64x64_2_1_1_2_0_0 none (truncf .bf16 (dAD c) bitsLt_bf16_f32) (truncf .bf16 c.k bitsLt_bf16_f32) (constant S8x64x64 .f32 0x00000000#32))

/-- The gradient of the keys, its first two terms. -/
def dk1 (c : Raw F) : FVec F S8x64x64 .f32 :=
  addf (mulf (dkd c) (broadcastTo S8x64x64 (ed c) broadcasts_S8x64x1_S8x64x64)) (matmul dot_S8x64x64_S8x64x64_S8x64x64_1_1_2_2_0_0 none (truncf .bf16 (dAD c) bitsLt_bf16_f32) (truncf .bf16 c.q bitsLt_bf16_f32) (constant S8x64x64 .f32 0x00000000#32))

/-- The gradient of `kbe`. -/
def dkbe (c : Raw F) : FVec F S8x64x64 .f32 :=
  matmul dot_S8x64x64_S8x64x64_S8x64x64_1_1_2_2_0_0 none (truncf .bf16 c.T bitsLt_bf16_f32) (truncf .bf16 (dw c) bitsLt_bf16_f32) (constant S8x64x64 .f32 0x00000000#32)

/-- The gradient of `vb`. -/
def dvb (c : Raw F) : FVec F S8x64x64 .f32 :=
  matmul dot_S8x64x64_S8x64x64_S8x64x64_1_1_2_2_0_0 none (truncf .bf16 c.T bitsLt_bf16_f32) (truncf .bf16 (dvn c) bitsLt_bf16_f32) (constant S8x64x64 .f32 0x00000000#32)

/-- The gradient of the inverse. -/
def dT (c : Raw F) : FVec F S8x64x64 .f32 :=
  addf (matmul dot_S8x64x64_S8x64x64_S8x64x64_2_2_1_1_0_0 none (truncf .bf16 (dw c) bitsLt_bf16_f32) (truncf .bf16 (kbe c) bitsLt_bf16_f32) (constant S8x64x64 .f32 0x00000000#32)) (matmul dot_S8x64x64_S8x64x64_S8x64x64_2_2_1_1_0_0 none (truncf .bf16 (dvn c) bitsLt_bf16_f32) (truncf .bf16 (vb c) bitsLt_bf16_f32) (constant S8x64x64 .f32 0x00000000#32))

/-- The gradient of `g` by rows, its first two terms. -/
def dg1 (c : Raw F) : FVec F S8x64x1 .f32 :=
  addf (subf (broadcast S8x64x1 (Scalar.ofBits .f32 0x00000000#32)) (kdk c)) (mulf (addf (qdq c) (shapeCast S8x64x1 (multiReduction .add [2] S8x64 (mulf (kb c) (dkbe c)) 0x00000000#32 reduces_S8x64x64_S8x64 (.inl rfl) rfl) shapeCasts_S8x64_S8x64x1)) (eg c))

/-- That gradient times the inverse's transpose. -/
def dTT (c : Raw F) : FVec F S8x64x64 .f32 :=
  matmul dot_S8x64x64_S8x64x64_S8x64x64_2_2_1_1_0_0 none (truncf .bf16 (dT c) bitsLt_bf16_f32) (truncf .bf16 c.T bitsLt_bf16_f32) (constant S8x64x64 .f32 0x00000000#32)

/-- The gradient of the strictly lower matrix. -/
def dL (c : Raw F) : FVec F S8x64x64 .f32 :=
  select (broadcastTo S8x64x64 (shapeCast S1x64x64 (shapeCast S1x64x64 (cmpi .sgt (iota .tc S64x64 32 [0] iota_S64x64_d0_w32) (iota .tc S64x64 32 [1] iota_S64x64_d1_w32)) shapeCasts_S64x64_S1x64x64) shapeCasts_S1x64x64_S1x64x64) broadcasts_S1x64x64_S8x64x64) (subf (broadcast S8x64x64 (Scalar.ofBits .f32 0x00000000#32)) (matmul dot_S8x64x64_S8x64x64_S8x64x64_1_1_2_2_0_0 none (truncf .bf16 c.T bitsLt_bf16_f32) (truncf .bf16 (dTT c) bitsLt_bf16_f32) (constant S8x64x64 .f32 0x00000000#32))) (broadcast S8x64x64 (Scalar.ofBits .f32 0x00000000#32))

/-- The gradient of the decay factors. -/
def dLA (c : Raw F) : FVec F S8x64x64 .f32 :=
  addf (mulf (QK c) (dA c)) (mulf (KK c) (dL c))

/-- The gradient of `KK`. -/
def dLD (c : Raw F) : FVec F S8x64x64 .f32 :=
  mulf (dL c) (D c)

/-- The gradient of the keys times beta. -/
def dkb (c : Raw F) : FVec F S8x64x64 .f32 :=
  addf (mulf (dkbe c) (broadcastTo S8x64x64 (eg c) broadcasts_S8x64x1_S8x64x64)) (matmul dot_S8x64x64_S8x64x64_S8x64x64_2_1_1_2_0_0 none (truncf .bf16 (dLD c) bitsLt_bf16_f32) (truncf .bf16 c.k bitsLt_bf16_f32) (constant S8x64x64 .f32 0x00000000#32))

/-- The gradient of the values. -/
def dv (c : Raw F) : FVec F S8x64x64 .f32 :=
  mulf (dvb c) (broadcastTo S8x64x64 c.beta broadcasts_S8x64x1_S8x64x64)

/-- The gradient of beta. -/
def dbeta (c : Raw F) : FVec F S8x64x1 .f32 :=
  addf (shapeCast S8x64x1 (multiReduction .add [2] S8x64 (mulf c.v (dvb c)) 0x00000000#32 reduces_S8x64x64_S8x64 (.inl rfl) rfl) shapeCasts_S8x64_S8x64x1) (shapeCast S8x64x1 (multiReduction .add [2] S8x64 (mulf c.k (dkb c)) 0x00000000#32 reduces_S8x64x64_S8x64 (.inl rfl) rfl) shapeCasts_S8x64_S8x64x1)

/-- The gradient of the keys. -/
def dk (c : Raw F) : FVec F S8x64x64 .f32 :=
  addf (addf (dk1 c) (matmul dot_S8x64x64_S8x64x64_S8x64x64_1_1_2_2_0_0 none (truncf .bf16 (dLD c) bitsLt_bf16_f32) (truncf .bf16 (kb c) bitsLt_bf16_f32) (constant S8x64x64 .f32 0x00000000#32))) (mulf (dkb c) (broadcastTo S8x64x64 c.beta broadcasts_S8x64x1_S8x64x64))

/-- The gradient of the exponents of `E`. -/
def dE (c : Raw F) : FVec F S8x64x64 .f32 :=
  select (broadcastTo S8x64x64 (shapeCast S1x64x64 (shapeCast S1x64x64 (cmpi .sge (iota .tc S64x64 32 [0] iota_S64x64_d0_w32) (iota .tc S64x64 32 [1] iota_S64x64_d1_w32)) shapeCasts_S64x64_S1x64x64) shapeCasts_S1x64x64_S1x64x64) broadcasts_S1x64x64_S8x64x64) (mulf (select (broadcastTo S8x64x64 (shapeCast S1x64x64 (shapeCast S1x64x64 (cmpi .sge (iota .tc S64x64 32 [0] iota_S64x64_d0_w32) (iota .tc S64x64 32 [1] iota_S64x64_d1_w32)) shapeCasts_S64x64_S1x64x64) shapeCasts_S1x64x64_S1x64x64) broadcasts_S1x64x64_S8x64x64) (dLA c) (broadcast S8x64x64 (Scalar.ofBits .f32 0x00000000#32))) (E c)) (broadcast S8x64x64 (Scalar.ofBits .f32 0x00000000#32))

/-- The gradient of `g` through the columns of `E`. -/
def dgr (c : Raw F) : FVec F S8x1x64 .f32 :=
  shapeCast S8x1x64 (multiReduction .add [1] S8x64 (subf (broadcast S8x64x64 (Scalar.ofBits .f32 0x00000000#32)) (dE c)) 0x00000000#32 reduces_S8x64x64_S8x64_2 (.inl rfl) rfl) shapeCasts_S8x64_S8x1x64

/-- The gradient of `g` by rows, without the last row's. -/
def dgc (c : Raw F) : FVec F S8x64x1 .f32 :=
  addf (dg1 c) (shapeCast S8x64x1 (multiReduction .add [2] S8x64 (dE c) 0x00000000#32 reduces_S8x64x64_S8x64 (.inl rfl) rfl) shapeCasts_S8x64_S8x64x1)

end Cert.KernelIdeal.Chain

end
-- ==== Proof.Assembly.lean ====
module

public import proofs.«01_k».proof.Proof.Chain
public import Idealize.ShloMosaic.Lib.Pipeline.ValueKit

@[expose] public section

/-! What the body does with its blocks before and after the chain of one chunk: heads stacked from lanes, the gates
read out of their lanes, and the gradients laid back. -/

set_option maxRecDepth 16384

noncomputable section

namespace Cert.KernelIdeal.Chain

open Idealize.ShloMosaic Idealize.ShloMosaic.TcCoe Cert.KernelIdeal Cert.KernelIdeal.Gen

variable {F : FTy → Type} [FloatOps F]

/-- Eight heads of 64 lanes, stacked. -/
def heads (a0 a1 a2 a3 a4 a5 a6 a7 : FVec F S64x64 .f32) : FVec F S8x64x64 .f32 :=
  concatenate S8x64x64 0 [⟨S1x64x64, (shapeCast S1x64x64 a0 shapeCasts_S64x64_S1x64x64)⟩, ⟨S1x64x64, (shapeCast S1x64x64 a1 shapeCasts_S64x64_S1x64x64)⟩, ⟨S1x64x64, (shapeCast S1x64x64 a2 shapeCasts_S64x64_S1x64x64)⟩, ⟨S1x64x64, (shapeCast S1x64x64 a3 shapeCasts_S64x64_S1x64x64)⟩, ⟨S1x64x64, (shapeCast S1x64x64 a4 shapeCasts_S64x64_S1x64x64)⟩, ⟨S1x64x64, (shapeCast S1x64x64 a5 shapeCasts_S64x64_S1x64x64)⟩, ⟨S1x64x64, (shapeCast S1x64x64 a6 shapeCasts_S64x64_S1x64x64)⟩, ⟨S1x64x64, (shapeCast S1x64x64 a7 shapeCasts_S64x64_S1x64x64)⟩] concatenates_S1x64x64_S1x64x64_S1x64x64_S1x64x64_S1x64x64_S1x64x64_S1x64x64_S1x64x64_S8x64x64_d0

/-- The first eight lanes, a head each, as columns. -/
def betaOf (x : FVec F S64x128 .f32) : FVec F S8x64x1 .f32 :=
  concatenate S8x64x1 0 [⟨S1x64x1, (shapeCast S1x64x1 (extractStridedSlice S64x1 ![0, 0] x slices_S64x128_o0_0_S64x1) shapeCasts_S64x1_S1x64x1)⟩, ⟨S1x64x1, (shapeCast S1x64x1 (extractStridedSlice S64x1 ![0, 1] x slices_S64x128_o0_1_S64x1) shapeCasts_S64x1_S1x64x1)⟩, ⟨S1x64x1, (shapeCast S1x64x1 (extractStridedSlice S64x1 ![0, 2] x slices_S64x128_o0_2_S64x1) shapeCasts_S64x1_S1x64x1)⟩, ⟨S1x64x1, (shapeCast S1x64x1 (extractStridedSlice S64x1 ![0, 3] x slices_S64x128_o0_3_S64x1) shapeCasts_S64x1_S1x64x1)⟩, ⟨S1x64x1, (shapeCast S1x64x1 (extractStridedSlice S64x1 ![0, 4] x slices_S64x128_o0_4_S64x1) shapeCasts_S64x1_S1x64x1)⟩, ⟨S1x64x1, (shapeCast S1x64x1 (extractStridedSlice S64x1 ![0, 5] x slices_S64x128_o0_5_S64x1) shapeCasts_S64x1_S1x64x1)⟩, ⟨S1x64x1, (shapeCast S1x64x1 (extractStridedSlice S64x1 ![0, 6] x slices_S64x128_o0_6_S64x1) shapeCasts_S64x1_S1x64x1)⟩, ⟨S1x64x1, (shapeCast S1x64x1 (extractStridedSlice S64x1 ![0, 7] x slices_S64x128_o0_7_S64x1) shapeCasts_S64x1_S1x64x1)⟩] concatenates_S1x64x1_S1x64x1_S1x64x1_S1x64x1_S1x64x1_S1x64x1_S1x64x1_S1x64x1_S8x64x1_d0

/-- The next eight lanes, a head each, as columns. -/
def gcOf (x : FVec F S64x128 .f32) : FVec F S8x64x1 .f32 :=
  concatenate S8x64x1 0 [⟨S1x64x1, (shapeCast S1x64x1 (extractStridedSlice S64x1 ![0, 8] x slices_S64x128_o0_8_S64x1) shapeCasts_S64x1_S1x64x1)⟩, ⟨S1x64x1, (shapeCast S1x64x1 (extractStridedSlice S64x1 ![0, 9] x slices_S64x128_o0_9_S64x1) shapeCasts_S64x1_S1x64x1)⟩, ⟨S1x64x1, (shapeCast S1x64x1 (extractStridedSlice S64x1 ![0, 10] x slices_S64x128_o0_10_S64x1) shapeCasts_S64x1_S1x64x1)⟩, ⟨S1x64x1, (shapeCast S1x64x1 (extractStridedSlice S64x1 ![0, 11] x slices_S64x128_o0_11_S64x1) shapeCasts_S64x1_S1x64x1)⟩, ⟨S1x64x1, (shapeCast S1x64x1 (extractStridedSlice S64x1 ![0, 12] x slices_S64x128_o0_12_S64x1) shapeCasts_S64x1_S1x64x1)⟩, ⟨S1x64x1, (shapeCast S1x64x1 (extractStridedSlice S64x1 ![0, 13] x slices_S64x128_o0_13_S64x1) shapeCasts_S64x1_S1x64x1)⟩, ⟨S1x64x1, (shapeCast S1x64x1 (extractStridedSlice S64x1 ![0, 14] x slices_S64x128_o0_14_S64x1) shapeCasts_S64x1_S1x64x1)⟩, ⟨S1x64x1, (shapeCast S1x64x1 (extractStridedSlice S64x1 ![0, 15] x slices_S64x128_o0_15_S64x1) shapeCasts_S64x1_S1x64x1)⟩] concatenates_S1x64x1_S1x64x1_S1x64x1_S1x64x1_S1x64x1_S1x64x1_S1x64x1_S1x64x1_S8x64x1_d0

/-- The same lanes as rows. -/
def grOf (x : FVec F S64x128 .f32) : FVec F S8x1x64 .f32 :=
  concatenate S8x1x64 0 [⟨S1x1x64, (shapeCast S1x1x64 (extractStridedSlice S1x64 ![8, 0] (transpose S128x64 [1, 0] x transposes_S64x128_p1_0_S128x64) slices_S128x64_o8_0_S1x64) shapeCasts_S1x64_S1x1x64)⟩, ⟨S1x1x64, (shapeCast S1x1x64 (extractStridedSlice S1x64 ![9, 0] (transpose S128x64 [1, 0] x transposes_S64x128_p1_0_S128x64) slices_S128x64_o9_0_S1x64) shapeCasts_S1x64_S1x1x64)⟩, ⟨S1x1x64, (shapeCast S1x1x64 (extractStridedSlice S1x64 ![10, 0] (transpose S128x64 [1, 0] x transposes_S64x128_p1_0_S128x64) slices_S128x64_o10_0_S1x64) shapeCasts_S1x64_S1x1x64)⟩, ⟨S1x1x64, (shapeCast S1x1x64 (extractStridedSlice S1x64 ![11, 0] (transpose S128x64 [1, 0] x transposes_S64x128_p1_0_S128x64) slices_S128x64_o11_0_S1x64) shapeCasts_S1x64_S1x1x64)⟩, ⟨S1x1x64, (shapeCast S1x1x64 (extractStridedSlice S1x64 ![12, 0] (transpose S128x64 [1, 0] x transposes_S64x128_p1_0_S128x64) slices_S128x64_o12_0_S1x64) shapeCasts_S1x64_S1x1x64)⟩, ⟨S1x1x64, (shapeCast S1x1x64 (extractStridedSlice S1x64 ![13, 0] (transpose S128x64 [1, 0] x transposes_S64x128_p1_0_S128x64) slices_S128x64_o13_0_S1x64) shapeCasts_S1x64_S1x1x64)⟩, ⟨S1x1x64, (shapeCast S1x1x64 (extractStridedSlice S1x64 ![14, 0] (transpose S128x64 [1, 0] x transposes_S64x128_p1_0_S128x64) slices_S128x64_o14_0_S1x64) shapeCasts_S1x64_S1x1x64)⟩, ⟨S1x1x64, (shapeCast S1x1x64 (extractStridedSlice S1x64 ![15, 0] (transpose S128x64 [1, 0] x transposes_S64x128_p1_0_S128x64) slices_S128x64_o15_0_S1x64) shapeCasts_S1x64_S1x1x64)⟩] concatenates_S1x1x64_S1x1x64_S1x1x64_S1x1x64_S1x1x64_S1x1x64_S1x1x64_S1x1x64_S8x1x64_d0

/-- Their last entries. -/
def glOf (x : FVec F S64x128 .f32) : FVec F S8x1x1 .f32 :=
  concatenate S8x1x1 0 [⟨S1x1x1, (shapeCast S1x1x1 (extractStridedSlice S1x1 ![63, 8] x slices_S64x128_o63_8_S1x1) shapeCasts_S1x1_S1x1x1)⟩, ⟨S1x1x1, (shapeCast S1x1x1 (extractStridedSlice S1x1 ![63, 9] x slices_S64x128_o63_9_S1x1) shapeCasts_S1x1_S1x1x1)⟩, ⟨S1x1x1, (shapeCast S1x1x1 (extractStridedSlice S1x1 ![63, 10] x slices_S64x128_o63_10_S1x1) shapeCasts_S1x1_S1x1x1)⟩, ⟨S1x1x1, (shapeCast S1x1x1 (extractStridedSlice S1x1 ![63, 11] x slices_S64x128_o63_11_S1x1) shapeCasts_S1x1_S1x1x1)⟩, ⟨S1x1x1, (shapeCast S1x1x1 (extractStridedSlice S1x1 ![63, 12] x slices_S64x128_o63_12_S1x1) shapeCasts_S1x1_S1x1x1)⟩, ⟨S1x1x1, (shapeCast S1x1x1 (extractStridedSlice S1x1 ![63, 13] x slices_S64x128_o63_13_S1x1) shapeCasts_S1x1_S1x1x1)⟩, ⟨S1x1x1, (shapeCast S1x1x1 (extractStridedSlice S1x1 ![63, 14] x slices_S64x128_o63_14_S1x1) shapeCasts_S1x1_S1x1x1)⟩, ⟨S1x1x1, (shapeCast S1x1x1 (extractStridedSlice S1x1 ![63, 15] x slices_S64x128_o63_15_S1x1) shapeCasts_S1x1_S1x1x1)⟩] concatenates_S1x1x1_S1x1x1_S1x1x1_S1x1x1_S1x1x1_S1x1x1_S1x1x1_S1x1x1_S8x1x1_d0

/-- One chunk of a saved array. -/
def stateOf (x : FVec F S1x8x64x64 .f32) : FVec F S8x64x64 .f32 :=
  shapeCast S8x64x64 x shapeCasts_S1x8x64x64_S8x64x64

/-- Head 0 of a stack. -/
def head0 (x : FVec F S8x64x64 .f32) : FVec F S64x64 .f32 :=
  shapeCast S64x64 (extractStridedSlice S1x64x64 ![0, 0, 0] x slices_S8x64x64_o0_0_0_S1x64x64) shapeCasts_S1x64x64_S64x64

/-- Head 1 of a stack. -/
def head1 (x : FVec F S8x64x64 .f32) : FVec F S64x64 .f32 :=
  shapeCast S64x64 (extractStridedSlice S1x64x64 ![1, 0, 0] x slices_S8x64x64_o1_0_0_S1x64x64) shapeCasts_S1x64x64_S64x64

/-- Head 2 of a stack. -/
def head2 (x : FVec F S8x64x64 .f32) : FVec F S64x64 .f32 :=
  shapeCast S64x64 (extractStridedSlice S1x64x64 ![2, 0, 0] x slices_S8x64x64_o2_0_0_S1x64x64) shapeCasts_S1x64x64_S64x64

/-- Head 3 of a stack. -/
def head3 (x : FVec F S8x64x64 .f32) : FVec F S64x64 .f32 :=
  shapeCast S64x64 (extractStridedSlice S1x64x64 ![3, 0, 0] x slices_S8x64x64_o3_0_0_S1x64x64) shapeCasts_S1x64x64_S64x64

/-- Head 4 of a stack. -/
def head4 (x : FVec F S8x64x64 .f32) : FVec F S64x64 .f32 :=
  shapeCast S64x64 (extractStridedSlice S1x64x64 ![4, 0, 0] x slices_S8x64x64_o4_0_0_S1x64x64) shapeCasts_S1x64x64_S64x64

/-- Head 5 of a stack. -/
def head5 (x : FVec F S8x64x64 .f32) : FVec F S64x64 .f32 :=
  shapeCast S64x64 (extractStridedSlice S1x64x64 ![5, 0, 0] x slices_S8x64x64_o5_0_0_S1x64x64) shapeCasts_S1x64x64_S64x64

/-- Head 6 of a stack. -/
def head6 (x : FVec F S8x64x64 .f32) : FVec F S64x64 .f32 :=
  shapeCast S64x64 (extractStridedSlice S1x64x64 ![6, 0, 0] x slices_S8x64x64_o6_0_0_S1x64x64) shapeCasts_S1x64x64_S64x64

/-- Head 7 of a stack. -/
def head7 (x : FVec F S8x64x64 .f32) : FVec F S64x64 .f32 :=
  shapeCast S64x64 (extractStridedSlice S1x64x64 ![7, 0, 0] x slices_S8x64x64_o7_0_0_S1x64x64) shapeCasts_S1x64x64_S64x64

/-- Eight columns placed in the first eight lanes. -/
def betaOut (x : FVec F S8x64x1 .f32) : FVec F S64x128 .f32 :=
  select (cmpi .eq (iota .tc S64x128 32 [1] iota_S64x128_d1_w32) (broadcast S64x128 7#32)) (broadcastTo S64x128 (shapeCast S64x1 (shapeCast S64x1 (extractStridedSlice S1x64x1 ![7, 0, 0] x slices_S8x64x1_o7_0_0_S1x64x1) shapeCasts_S1x64x1_S64x1) shapeCasts_S64x1_S64x1) broadcasts_S64x1_S64x128) (select (cmpi .eq (iota .tc S64x128 32 [1] iota_S64x128_d1_w32) (broadcast S64x128 6#32)) (broadcastTo S64x128 (shapeCast S64x1 (shapeCast S64x1 (extractStridedSlice S1x64x1 ![6, 0, 0] x slices_S8x64x1_o6_0_0_S1x64x1) shapeCasts_S1x64x1_S64x1) shapeCasts_S64x1_S64x1) broadcasts_S64x1_S64x128) (select (cmpi .eq (iota .tc S64x128 32 [1] iota_S64x128_d1_w32) (broadcast S64x128 5#32)) (broadcastTo S64x128 (shapeCast S64x1 (shapeCast S64x1 (extractStridedSlice S1x64x1 ![5, 0, 0] x slices_S8x64x1_o5_0_0_S1x64x1) shapeCasts_S1x64x1_S64x1) shapeCasts_S64x1_S64x1) broadcasts_S64x1_S64x128) (select (cmpi .eq (iota .tc S64x128 32 [1] iota_S64x128_d1_w32) (broadcast S64x128 4#32)) (broadcastTo S64x128 (shapeCast S64x1 (shapeCast S64x1 (extractStridedSlice S1x64x1 ![4, 0, 0] x slices_S8x64x1_o4_0_0_S1x64x1) shapeCasts_S1x64x1_S64x1) shapeCasts_S64x1_S64x1) broadcasts_S64x1_S64x128) (select (cmpi .eq (iota .tc S64x128 32 [1] iota_S64x128_d1_w32) (broadcast S64x128 3#32)) (broadcastTo S64x128 (shapeCast S64x1 (shapeCast S64x1 (extractStridedSlice S1x64x1 ![3, 0, 0] x slices_S8x64x1_o3_0_0_S1x64x1) shapeCasts_S1x64x1_S64x1) shapeCasts_S64x1_S64x1) broadcasts_S64x1_S64x128) (select (cmpi .eq (iota .tc S64x128 32 [1] iota_S64x128_d1_w32) (broadcast S64x128 2#32)) (broadcastTo S64x128 (shapeCast S64x1 (shapeCast S64x1 (extractStridedSlice S1x64x1 ![2, 0, 0] x slices_S8x64x1_o2_0_0_S1x64x1) shapeCasts_S1x64x1_S64x1) shapeCasts_S64x1_S64x1) broadcasts_S64x1_S64x128) (select (cmpi .eq (iota .tc S64x128 32 [1] iota_S64x128_d1_w32) (broadcast S64x128 1#32)) (broadcastTo S64x128 (shapeCast S64x1 (shapeCast S64x1 (extractStridedSlice S1x64x1 ![1, 0, 0] x slices_S8x64x1_o1_0_0_S1x64x1) shapeCasts_S1x64x1_S64x1) shapeCasts_S64x1_S64x1) broadcasts_S64x1_S64x128) (select (cmpi .eq (iota .tc S64x128 32 [1] iota_S64x128_d1_w32) (broadcast S64x128 0#32)) (broadcastTo S64x128 (shapeCast S64x1 (shapeCast S64x1 (extractStridedSlice S1x64x1 ![0, 0, 0] x slices_S8x64x1_o0_0_0_S1x64x1) shapeCasts_S1x64x1_S64x1) shapeCasts_S64x1_S64x1) broadcasts_S64x1_S64x128) (broadcast S64x128 (Scalar.ofBits .f32 0x00000000#32)))))))))

/-- Eight columns, with their last entries and rows added, placed in the next eight lanes. -/
def gateOut (l : FVec F S8x1x1 .f32) (r : FVec F S8x1x64 .f32) (x : FVec F S8x64x1 .f32) : FVec F S64x128 .f32 :=
  addf (select (cmpi .eq (iota .tc S64x128 32 [1] iota_S64x128_d1_w32) (broadcast S64x128 15#32)) (addf (broadcastTo S64x128 (shapeCast S64x1 (extractStridedSlice S1x64x1 ![7, 0, 0] x slices_S8x64x1_o7_0_0_S1x64x1) shapeCasts_S1x64x1_S64x1) broadcasts_S64x1_S64x128) (select (cmpi .eq (iota .tc S64x128 32 [0] iota_S64x128_d0_w32) (broadcast S64x128 63#32)) (broadcastTo S64x128 (shapeCast S1x1 (shapeCast S1x1 (extractStridedSlice S1x1x1 ![7, 0, 0] l slices_S8x1x1_o7_0_0_S1x1x1) shapeCasts_S1x1x1_S1x1) shapeCasts_S1x1_S1x1) broadcasts_S1x1_S64x128) (broadcast S64x128 (Scalar.ofBits .f32 0x00000000#32)))) (select (cmpi .eq (iota .tc S64x128 32 [1] iota_S64x128_d1_w32) (broadcast S64x128 14#32)) (addf (broadcastTo S64x128 (shapeCast S64x1 (extractStridedSlice S1x64x1 ![6, 0, 0] x slices_S8x64x1_o6_0_0_S1x64x1) shapeCasts_S1x64x1_S64x1) broadcasts_S64x1_S64x128) (select (cmpi .eq (iota .tc S64x128 32 [0] iota_S64x128_d0_w32) (broadcast S64x128 63#32)) (broadcastTo S64x128 (shapeCast S1x1 (shapeCast S1x1 (extractStridedSlice S1x1x1 ![6, 0, 0] l slices_S8x1x1_o6_0_0_S1x1x1) shapeCasts_S1x1x1_S1x1) shapeCasts_S1x1_S1x1) broadcasts_S1x1_S64x128) (broadcast S64x128 (Scalar.ofBits .f32 0x00000000#32)))) (select (cmpi .eq (iota .tc S64x128 32 [1] iota_S64x128_d1_w32) (broadcast S64x128 13#32)) (addf (broadcastTo S64x128 (shapeCast S64x1 (extractStridedSlice S1x64x1 ![5, 0, 0] x slices_S8x64x1_o5_0_0_S1x64x1) shapeCasts_S1x64x1_S64x1) broadcasts_S64x1_S64x128) (select (cmpi .eq (iota .tc S64x128 32 [0] iota_S64x128_d0_w32) (broadcast S64x128 63#32)) (broadcastTo S64x128 (shapeCast S1x1 (shapeCast S1x1 (extractStridedSlice S1x1x1 ![5, 0, 0] l slices_S8x1x1_o5_0_0_S1x1x1) shapeCasts_S1x1x1_S1x1) shapeCasts_S1x1_S1x1) broadcasts_S1x1_S64x128) (broadcast S64x128 (Scalar.ofBits .f32 0x00000000#32)))) (select (cmpi .eq (iota .tc S64x128 32 [1] iota_S64x128_d1_w32) (broadcast S64x128 12#32)) (addf (broadcastTo S64x128 (shapeCast S64x1 (extractStridedSlice S1x64x1 ![4, 0, 0] x slices_S8x64x1_o4_0_0_S1x64x1) shapeCasts_S1x64x1_S64x1) broadcasts_S64x1_S64x128) (select (cmpi .eq (iota .tc S64x128 32 [0] iota_S64x128_d0_w32) (broadcast S64x128 63#32)) (broadcastTo S64x128 (shapeCast S1x1 (shapeCast S1x1 (extractStridedSlice S1x1x1 ![4, 0, 0] l slices_S8x1x1_o4_0_0_S1x1x1) shapeCasts_S1x1x1_S1x1) shapeCasts_S1x1_S1x1) broadcasts_S1x1_S64x128) (broadcast S64x128 (Scalar.ofBits .f32 0x00000000#32)))) (select (cmpi .eq (iota .tc S64x128 32 [1] iota_S64x128_d1_w32) (broadcast S64x128 11#32)) (addf (broadcastTo S64x128 (shapeCast S64x1 (extractStridedSlice S1x64x1 ![3, 0, 0] x slices_S8x64x1_o3_0_0_S1x64x1) shapeCasts_S1x64x1_S64x1) broadcasts_S64x1_S64x128) (select (cmpi .eq (iota .tc S64x128 32 [0] iota_S64x128_d0_w32) (broadcast S64x128 63#32)) (broadcastTo S64x128 (shapeCast S1x1 (shapeCast S1x1 (extractStridedSlice S1x1x1 ![3, 0, 0] l slices_S8x1x1_o3_0_0_S1x1x1) shapeCasts_S1x1x1_S1x1) shapeCasts_S1x1_S1x1) broadcasts_S1x1_S64x128) (broadcast S64x128 (Scalar.ofBits .f32 0x00000000#32)))) (select (cmpi .eq (iota .tc S64x128 32 [1] iota_S64x128_d1_w32) (broadcast S64x128 10#32)) (addf (broadcastTo S64x128 (shapeCast S64x1 (extractStridedSlice S1x64x1 ![2, 0, 0] x slices_S8x64x1_o2_0_0_S1x64x1) shapeCasts_S1x64x1_S64x1) broadcasts_S64x1_S64x128) (select (cmpi .eq (iota .tc S64x128 32 [0] iota_S64x128_d0_w32) (broadcast S64x128 63#32)) (broadcastTo S64x128 (shapeCast S1x1 (shapeCast S1x1 (extractStridedSlice S1x1x1 ![2, 0, 0] l slices_S8x1x1_o2_0_0_S1x1x1) shapeCasts_S1x1x1_S1x1) shapeCasts_S1x1_S1x1) broadcasts_S1x1_S64x128) (broadcast S64x128 (Scalar.ofBits .f32 0x00000000#32)))) (select (cmpi .eq (iota .tc S64x128 32 [1] iota_S64x128_d1_w32) (broadcast S64x128 9#32)) (addf (broadcastTo S64x128 (shapeCast S64x1 (extractStridedSlice S1x64x1 ![1, 0, 0] x slices_S8x64x1_o1_0_0_S1x64x1) shapeCasts_S1x64x1_S64x1) broadcasts_S64x1_S64x128) (select (cmpi .eq (iota .tc S64x128 32 [0] iota_S64x128_d0_w32) (broadcast S64x128 63#32)) (broadcastTo S64x128 (shapeCast S1x1 (shapeCast S1x1 (extractStridedSlice S1x1x1 ![1, 0, 0] l slices_S8x1x1_o1_0_0_S1x1x1) shapeCasts_S1x1x1_S1x1) shapeCasts_S1x1_S1x1) broadcasts_S1x1_S64x128) (broadcast S64x128 (Scalar.ofBits .f32 0x00000000#32)))) (select (cmpi .eq (iota .tc S64x128 32 [1] iota_S64x128_d1_w32) (broadcast S64x128 8#32)) (addf (broadcastTo S64x128 (shapeCast S64x1 (extractStridedSlice S1x64x1 ![0, 0, 0] x slices_S8x64x1_o0_0_0_S1x64x1) shapeCasts_S1x64x1_S64x1) broadcasts_S64x1_S64x128) (select (cmpi .eq (iota .tc S64x128 32 [0] iota_S64x128_d0_w32) (broadcast S64x128 63#32)) (broadcastTo S64x128 (shapeCast S1x1 (shapeCast S1x1 (extractStridedSlice S1x1x1 ![0, 0, 0] l slices_S8x1x1_o0_0_0_S1x1x1) shapeCasts_S1x1x1_S1x1) shapeCasts_S1x1_S1x1) broadcasts_S1x1_S64x128) (broadcast S64x128 (Scalar.ofBits .f32 0x00000000#32)))) (broadcast S64x128 (Scalar.ofBits .f32 0x00000000#32)))))))))) (transpose S64x128 [1, 0] (select (cmpi .eq (iota .tc S128x64 32 [0] iota_S128x64_d0_w32) (broadcast S128x64 15#32)) (broadcastTo S128x64 (shapeCast S1x64 (shapeCast S1x64 (extractStridedSlice S1x1x64 ![7, 0, 0] r slices_S8x1x64_o7_0_0_S1x1x64) shapeCasts_S1x1x64_S1x64) shapeCasts_S1x64_S1x64) broadcasts_S1x64_S128x64) (select (cmpi .eq (iota .tc S128x64 32 [0] iota_S128x64_d0_w32) (broadcast S128x64 14#32)) (broadcastTo S128x64 (shapeCast S1x64 (shapeCast S1x64 (extractStridedSlice S1x1x64 ![6, 0, 0] r slices_S8x1x64_o6_0_0_S1x1x64) shapeCasts_S1x1x64_S1x64) shapeCasts_S1x64_S1x64) broadcasts_S1x64_S128x64) (select (cmpi .eq (iota .tc S128x64 32 [0] iota_S128x64_d0_w32) (broadcast S128x64 13#32)) (broadcastTo S128x64 (shapeCast S1x64 (shapeCast S1x64 (extractStridedSlice S1x1x64 ![5, 0, 0] r slices_S8x1x64_o5_0_0_S1x1x64) shapeCasts_S1x1x64_S1x64) shapeCasts_S1x64_S1x64) broadcasts_S1x64_S128x64) (select (cmpi .eq (iota .tc S128x64 32 [0] iota_S128x64_d0_w32) (broadcast S128x64 12#32)) (broadcastTo S128x64 (shapeCast S1x64 (shapeCast S1x64 (extractStridedSlice S1x1x64 ![4, 0, 0] r slices_S8x1x64_o4_0_0_S1x1x64) shapeCasts_S1x1x64_S1x64) shapeCasts_S1x64_S1x64) broadcasts_S1x64_S128x64) (select (cmpi .eq (iota .tc S128x64 32 [0] iota_S128x64_d0_w32) (broadcast S128x64 11#32)) (broadcastTo S128x64 (shapeCast S1x64 (shapeCast S1x64 (extractStridedSlice S1x1x64 ![3, 0, 0] r slices_S8x1x64_o3_0_0_S1x1x64) shapeCasts_S1x1x64_S1x64) shapeCasts_S1x64_S1x64) broadcasts_S1x64_S128x64) (select (cmpi .eq (iota .tc S128x64 32 [0] iota_S128x64_d0_w32) (broadcast S128x64 10#32)) (broadcastTo S128x64 (shapeCast S1x64 (shapeCast S1x64 (extractStridedSlice S1x1x64 ![2, 0, 0] r slices_S8x1x64_o2_0_0_S1x1x64) shapeCasts_S1x1x64_S1x64) shapeCasts_S1x64_S1x64) broadcasts_S1x64_S128x64) (select (cmpi .eq (iota .tc S128x64 32 [0] iota_S128x64_d0_w32) (broadcast S128x64 9#32)) (broadcastTo S128x64 (shapeCast S1x64 (shapeCast S1x64 (extractStridedSlice S1x1x64 ![1, 0, 0] r slices_S8x1x64_o1_0_0_S1x1x64) shapeCasts_S1x1x64_S1x64) shapeCasts_S1x64_S1x64) broadcasts_S1x64_S128x64) (select (cmpi .eq (iota .tc S128x64 32 [0] iota_S128x64_d0_w32) (broadcast S128x64 8#32)) (broadcastTo S128x64 (shapeCast S1x64 (shapeCast S1x64 (extractStridedSlice S1x1x64 ![0, 0, 0] r slices_S8x1x64_o0_0_0_S1x1x64) shapeCasts_S1x1x64_S1x64) shapeCasts_S1x64_S1x64) broadcasts_S1x64_S128x64) (broadcast S128x64 (Scalar.ofBits .f32 0x00000000#32)))))))))) transposes_S128x64_p1_0_S64x128)

/-- The later chunk of a block pair, which the body takes first. -/
def late (x0 x1 x2 : FVec F S128x512 .f32) (x3 x4 : FVec F S128x128 .f32) (x5 x6 : FVec F S2x8x64x64 .f32)
    (x7 : FVec F S128x512 .f32) (dS : FVec F S8x64x64 .f32) : Raw F where
  q := heads (View.ld (Val := Elt F) (e' := .f32) x0 (Rect.unit ![64, 0] S64x64.size inb_S128x512_S64x64_64_0)) (View.ld (Val := Elt F) (e' := .f32) x0 (Rect.unit ![64, 64] S64x64.size inb_S128x512_S64x64_64_64)) (View.ld (Val := Elt F) (e' := .f32) x0 (Rect.unit ![64, 128] S64x64.size inb_S128x512_S64x64_64_128)) (View.ld (Val := Elt F) (e' := .f32) x0 (Rect.unit ![64, 192] S64x64.size inb_S128x512_S64x64_64_192)) (View.ld (Val := Elt F) (e' := .f32) x0 (Rect.unit ![64, 256] S64x64.size inb_S128x512_S64x64_64_256)) (View.ld (Val := Elt F) (e' := .f32) x0 (Rect.unit ![64, 320] S64x64.size inb_S128x512_S64x64_64_320)) (View.ld (Val := Elt F) (e' := .f32) x0 (Rect.unit ![64, 384] S64x64.size inb_S128x512_S64x64_64_384)) (View.ld (Val := Elt F) (e' := .f32) x0 (Rect.unit ![64, 448] S64x64.size inb_S128x512_S64x64_64_448))
  k := heads (View.ld (Val := Elt F) (e' := .f32) x1 (Rect.unit ![64, 0] S64x64.size inb_S128x512_S64x64_64_0)) (View.ld (Val := Elt F) (e' := .f32) x1 (Rect.unit ![64, 64] S64x64.size inb_S128x512_S64x64_64_64)) (View.ld (Val := Elt F) (e' := .f32) x1 (Rect.unit ![64, 128] S64x64.size inb_S128x512_S64x64_64_128)) (View.ld (Val := Elt F) (e' := .f32) x1 (Rect.unit ![64, 192] S64x64.size inb_S128x512_S64x64_64_192)) (View.ld (Val := Elt F) (e' := .f32) x1 (Rect.unit ![64, 256] S64x64.size inb_S128x512_S64x64_64_256)) (View.ld (Val := Elt F) (e' := .f32) x1 (Rect.unit ![64, 320] S64x64.size inb_S128x512_S64x64_64_320)) (View.ld (Val := Elt F) (e' := .f32) x1 (Rect.unit ![64, 384] S64x64.size inb_S128x512_S64x64_64_384)) (View.ld (Val := Elt F) (e' := .f32) x1 (Rect.unit ![64, 448] S64x64.size inb_S128x512_S64x64_64_448))
  v := heads (View.ld (Val := Elt F) (e' := .f32) x2 (Rect.unit ![64, 0] S64x64.size inb_S128x512_S64x64_64_0)) (View.ld (Val := Elt F) (e' := .f32) x2 (Rect.unit ![64, 64] S64x64.size inb_S128x512_S64x64_64_64)) (View.ld (Val := Elt F) (e' := .f32) x2 (Rect.unit ![64, 128] S64x64.size inb_S128x512_S64x64_64_128)) (View.ld (Val := Elt F) (e' := .f32) x2 (Rect.unit ![64, 192] S64x64.size inb_S128x512_S64x64_64_192)) (View.ld (Val := Elt F) (e' := .f32) x2 (Rect.unit ![64, 256] S64x64.size inb_S128x512_S64x64_64_256)) (View.ld (Val := Elt F) (e' := .f32) x2 (Rect.unit ![64, 320] S64x64.size inb_S128x512_S64x64_64_320)) (View.ld (Val := Elt F) (e' := .f32) x2 (Rect.unit ![64, 384] S64x64.size inb_S128x512_S64x64_64_384)) (View.ld (Val := Elt F) (e' := .f32) x2 (Rect.unit ![64, 448] S64x64.size inb_S128x512_S64x64_64_448))
  beta := betaOf (View.ld (Val := Elt F) (e' := .f32) x3 (Rect.unit ![64, 0] S64x128.size inb_S128x128_S64x128_64_0))
  gc := gcOf (View.ld (Val := Elt F) (e' := .f32) x4 (Rect.unit ![64, 0] S64x128.size inb_S128x128_S64x128_64_0))
  gr := grOf (View.ld (Val := Elt F) (e' := .f32) x4 (Rect.unit ![64, 0] S64x128.size inb_S128x128_S64x128_64_0))
  gl := glOf (View.ld (Val := Elt F) (e' := .f32) x4 (Rect.unit ![64, 0] S64x128.size inb_S128x128_S64x128_64_0))
  S := stateOf (View.ld (Val := Elt F) (e' := .f32) x5 (Rect.unit ![1, 0, 0, 0] S1x8x64x64.size inb_S2x8x64x64_S1x8x64x64_1_0_0_0))
  T := stateOf (View.ld (Val := Elt F) (e' := .f32) x6 (Rect.unit ![1, 0, 0, 0] S1x8x64x64.size inb_S2x8x64x64_S1x8x64x64_1_0_0_0))
  dO := heads (View.ld (Val := Elt F) (e' := .f32) x7 (Rect.unit ![64, 0] S64x64.size inb_S128x512_S64x64_64_0)) (View.ld (Val := Elt F) (e' := .f32) x7 (Rect.unit ![64, 64] S64x64.size inb_S128x512_S64x64_64_64)) (View.ld (Val := Elt F) (e' := .f32) x7 (Rect.unit ![64, 128] S64x64.size inb_S128x512_S64x64_64_128)) (View.ld (Val := Elt F) (e' := .f32) x7 (Rect.unit ![64, 192] S64x64.size inb_S128x512_S64x64_64_192)) (View.ld (Val := Elt F) (e' := .f32) x7 (Rect.unit ![64, 256] S64x64.size inb_S128x512_S64x64_64_256)) (View.ld (Val := Elt F) (e' := .f32) x7 (Rect.unit ![64, 320] S64x64.size inb_S128x512_S64x64_64_320)) (View.ld (Val := Elt F) (e' := .f32) x7 (Rect.unit ![64, 384] S64x64.size inb_S128x512_S64x64_64_384)) (View.ld (Val := Elt F) (e' := .f32) x7 (Rect.unit ![64, 448] S64x64.size inb_S128x512_S64x64_64_448))
  dS := dS

/-- The earlier chunk of a block pair. -/
def early (x0 x1 x2 : FVec F S128x512 .f32) (x3 x4 : FVec F S128x128 .f32) (x5 x6 : FVec F S2x8x64x64 .f32)
    (x7 : FVec F S128x512 .f32) (dS : FVec F S8x64x64 .f32) : Raw F where
  q := heads (View.ld (Val := Elt F) (e' := .f32) x0 (Rect.unit ![0, 0] S64x64.size inb_S128x512_S64x64_0_0)) (View.ld (Val := Elt F) (e' := .f32) x0 (Rect.unit ![0, 64] S64x64.size inb_S128x512_S64x64_0_64)) (View.ld (Val := Elt F) (e' := .f32) x0 (Rect.unit ![0, 128] S64x64.size inb_S128x512_S64x64_0_128)) (View.ld (Val := Elt F) (e' := .f32) x0 (Rect.unit ![0, 192] S64x64.size inb_S128x512_S64x64_0_192)) (View.ld (Val := Elt F) (e' := .f32) x0 (Rect.unit ![0, 256] S64x64.size inb_S128x512_S64x64_0_256)) (View.ld (Val := Elt F) (e' := .f32) x0 (Rect.unit ![0, 320] S64x64.size inb_S128x512_S64x64_0_320)) (View.ld (Val := Elt F) (e' := .f32) x0 (Rect.unit ![0, 384] S64x64.size inb_S128x512_S64x64_0_384)) (View.ld (Val := Elt F) (e' := .f32) x0 (Rect.unit ![0, 448] S64x64.size inb_S128x512_S64x64_0_448))
  k := heads (View.ld (Val := Elt F) (e' := .f32) x1 (Rect.unit ![0, 0] S64x64.size inb_S128x512_S64x64_0_0)) (View.ld (Val := Elt F) (e' := .f32) x1 (Rect.unit ![0, 64] S64x64.size inb_S128x512_S64x64_0_64)) (View.ld (Val := Elt F) (e' := .f32) x1 (Rect.unit ![0, 128] S64x64.size inb_S128x512_S64x64_0_128)) (View.ld (Val := Elt F) (e' := .f32) x1 (Rect.unit ![0, 192] S64x64.size inb_S128x512_S64x64_0_192)) (View.ld (Val := Elt F) (e' := .f32) x1 (Rect.unit ![0, 256] S64x64.size inb_S128x512_S64x64_0_256)) (View.ld (Val := Elt F) (e' := .f32) x1 (Rect.unit ![0, 320] S64x64.size inb_S128x512_S64x64_0_320)) (View.ld (Val := Elt F) (e' := .f32) x1 (Rect.unit ![0, 384] S64x64.size inb_S128x512_S64x64_0_384)) (View.ld (Val := Elt F) (e' := .f32) x1 (Rect.unit ![0, 448] S64x64.size inb_S128x512_S64x64_0_448))
  v := heads (View.ld (Val := Elt F) (e' := .f32) x2 (Rect.unit ![0, 0] S64x64.size inb_S128x512_S64x64_0_0)) (View.ld (Val := Elt F) (e' := .f32) x2 (Rect.unit ![0, 64] S64x64.size inb_S128x512_S64x64_0_64)) (View.ld (Val := Elt F) (e' := .f32) x2 (Rect.unit ![0, 128] S64x64.size inb_S128x512_S64x64_0_128)) (View.ld (Val := Elt F) (e' := .f32) x2 (Rect.unit ![0, 192] S64x64.size inb_S128x512_S64x64_0_192)) (View.ld (Val := Elt F) (e' := .f32) x2 (Rect.unit ![0, 256] S64x64.size inb_S128x512_S64x64_0_256)) (View.ld (Val := Elt F) (e' := .f32) x2 (Rect.unit ![0, 320] S64x64.size inb_S128x512_S64x64_0_320)) (View.ld (Val := Elt F) (e' := .f32) x2 (Rect.unit ![0, 384] S64x64.size inb_S128x512_S64x64_0_384)) (View.ld (Val := Elt F) (e' := .f32) x2 (Rect.unit ![0, 448] S64x64.size inb_S128x512_S64x64_0_448))
  beta := betaOf (View.ld (Val := Elt F) (e' := .f32) x3 (Rect.unit ![0, 0] S64x128.size inb_S128x128_S64x128_0_0))
  gc := gcOf (View.ld (Val := Elt F) (e' := .f32) x4 (Rect.unit ![0, 0] S64x128.size inb_S128x128_S64x128_0_0))
  gr := grOf (View.ld (Val := Elt F) (e' := .f32) x4 (Rect.unit ![0, 0] S64x128.size inb_S128x128_S64x128_0_0))
  gl := glOf (View.ld (Val := Elt F) (e' := .f32) x4 (Rect.unit ![0, 0] S64x128.size inb_S128x128_S64x128_0_0))
  S := stateOf (View.ld (Val := Elt F) (e' := .f32) x5 (Rect.unit ![0, 0, 0, 0] S1x8x64x64.size inb_S2x8x64x64_S1x8x64x64_0_0_0_0))
  T := stateOf (View.ld (Val := Elt F) (e' := .f32) x6 (Rect.unit ![0, 0, 0, 0] S1x8x64x64.size inb_S2x8x64x64_S1x8x64x64_0_0_0_0))
  dO := heads (View.ld (Val := Elt F) (e' := .f32) x7 (Rect.unit ![0, 0] S64x64.size inb_S128x512_S64x64_0_0)) (View.ld (Val := Elt F) (e' := .f32) x7 (Rect.unit ![0, 64] S64x64.size inb_S128x512_S64x64_0_64)) (View.ld (Val := Elt F) (e' := .f32) x7 (Rect.unit ![0, 128] S64x64.size inb_S128x512_S64x64_0_128)) (View.ld (Val := Elt F) (e' := .f32) x7 (Rect.unit ![0, 192] S64x64.size inb_S128x512_S64x64_0_192)) (View.ld (Val := Elt F) (e' := .f32) x7 (Rect.unit ![0, 256] S64x64.size inb_S128x512_S64x64_0_256)) (View.ld (Val := Elt F) (e' := .f32) x7 (Rect.unit ![0, 320] S64x64.size inb_S128x512_S64x64_0_320)) (View.ld (Val := Elt F) (e' := .f32) x7 (Rect.unit ![0, 384] S64x64.size inb_S128x512_S64x64_0_384)) (View.ld (Val := Elt F) (e' := .f32) x7 (Rect.unit ![0, 448] S64x64.size inb_S128x512_S64x64_0_448))
  dS := dS

end Cert.KernelIdeal.Chain

end
-- ==== Proof.Points.lean ====
module

public import proofs.«01_k».proof.Proof.Gen.KernelIdeal.Value
public import proofs.«01_k».proof.Proof.Assembly
public import Idealize.ShloMosaic.Lib.Pipeline.ReadBack

@[expose] public section

/-! What the body leaves after each grid point, in the terms of the chain of one chunk: the carried gradient of the
state, and the five output blocks, each a list of the pieces stored in it. -/

set_option maxRecDepth 16384
set_option maxHeartbeats 4000000

noncomputable section

namespace Cert.KernelIdeal.Chain

open Idealize.ShloMosaic Idealize.ShloMosaic.TcCoe Idealize.SL.Sem Idealize.ShloMosaic.Tactic
open Cert.KernelIdeal Cert.KernelIdeal.Gen

variable {F : FTy → Type} [FloatOps F]
variable (m : (ℓ : Loc nD τ sig) → Buf (Elt F) ℓ)

/-- The later chunk of point `t`'s blocks, `dS` the gradient carried into it. -/
def lateAt (c : Dev nD) (t : Fin cfg0.N) (dS : FVec F S8x64x64 .f32) : Raw F := late (iblk m c 0 t) (iblk m c 1 t) (iblk m c 2 t) (iblk m c 3 t) (iblk m c 4 t) (iblk m c 5 t) (iblk m c 6 t) (iblk m c 7 t) dS

/-- The earlier chunk of point `t`'s blocks, after the later one. -/
def earlyAt (c : Dev nD) (t : Fin cfg0.N) (dS : FVec F S8x64x64 .f32) : Raw F := early (iblk m c 0 t) (iblk m c 1 t) (iblk m c 2 t) (iblk m c 3 t) (iblk m c 4 t) (iblk m c 5 t) (iblk m c 6 t) (iblk m c 7 t) (dSin (lateAt m c t dS))

/-- The gradient carried into a first point, and into another. -/
def carry0 : FVec F S8x64x64 .f32 := k0_pay48 k0_pay2
def carry (x : FVec F S8x64x64 .f32) : FVec F S8x64x64 .f32 := k0_pay48 x

/-- The block of the gradient of the queries. -/
def dqBlk (c : Dev nD) (t : Fin cfg0.N) (dS : FVec F S8x64x64 .f32) : Vec F S128x512 .f32 :=
  View.canon (Val := Elt F) (s := S128x512) (e := .f32)
    [ ⟨Rect.unit (s := S128x512) ![0, 448] S64x64.size inb_S128x512_S64x64_0_448, head7 (dq (earlyAt m c t dS))⟩,
      ⟨Rect.unit (s := S128x512) ![0, 384] S64x64.size inb_S128x512_S64x64_0_384, head6 (dq (earlyAt m c t dS))⟩,
      ⟨Rect.unit (s := S128x512) ![0, 320] S64x64.size inb_S128x512_S64x64_0_320, head5 (dq (earlyAt m c t dS))⟩,
      ⟨Rect.unit (s := S128x512) ![0, 256] S64x64.size inb_S128x512_S64x64_0_256, head4 (dq (earlyAt m c t dS))⟩,
      ⟨Rect.unit (s := S128x512) ![0, 192] S64x64.size inb_S128x512_S64x64_0_192, head3 (dq (earlyAt m c t dS))⟩,
      ⟨Rect.unit (s := S128x512) ![0, 128] S64x64.size inb_S128x512_S64x64_0_128, head2 (dq (earlyAt m c t dS))⟩,
      ⟨Rect.unit (s := S128x512) ![0, 64] S64x64.size inb_S128x512_S64x64_0_64, head1 (dq (earlyAt m c t dS))⟩,
      ⟨Rect.unit (s := S128x512) ![0, 0] S64x64.size inb_S128x512_S64x64_0_0, head0 (dq (earlyAt m c t dS))⟩,
      ⟨Rect.unit (s := S128x512) ![64, 448] S64x64.size inb_S128x512_S64x64_64_448, head7 (dq (lateAt m c t dS))⟩,
      ⟨Rect.unit (s := S128x512) ![64, 384] S64x64.size inb_S128x512_S64x64_64_384, head6 (dq (lateAt m c t dS))⟩,
      ⟨Rect.unit (s := S128x512) ![64, 320] S64x64.size inb_S128x512_S64x64_64_320, head5 (dq (lateAt m c t dS))⟩,
      ⟨Rect.unit (s := S128x512) ![64, 256] S64x64.size inb_S128x512_S64x64_64_256, head4 (dq (lateAt m c t dS))⟩,
      ⟨Rect.unit (s := S128x512) ![64, 192] S64x64.size inb_S128x512_S64x64_64_192, head3 (dq (lateAt m c t dS))⟩,
      ⟨Rect.unit (s := S128x512) ![64, 128] S64x64.size inb_S128x512_S64x64_64_128, head2 (dq (lateAt m c t dS))⟩,
      ⟨Rect.unit (s := S128x512) ![64, 64] S64x64.size inb_S128x512_S64x64_64_64, head1 (dq (lateAt m c t dS))⟩,
      ⟨Rect.unit (s := S128x512) ![64, 0] S64x64.size inb_S128x512_S64x64_64_0, head0 (dq (lateAt m c t dS))⟩]

/-- The block of the gradient of the keys. -/
def dkBlk (c : Dev nD) (t : Fin cfg0.N) (dS : FVec F S8x64x64 .f32) : Vec F S128x512 .f32 :=
  View.canon (Val := Elt F) (s := S128x512) (e := .f32)
    [ ⟨Rect.unit (s := S128x512) ![0, 448] S64x64.size inb_S128x512_S64x64_0_448, head7 (dk (earlyAt m c t dS))⟩,
      ⟨Rect.unit (s := S128x512) ![0, 384] S64x64.size inb_S128x512_S64x64_0_384, head6 (dk (earlyAt m c t dS))⟩,
      ⟨Rect.unit (s := S128x512) ![0, 320] S64x64.size inb_S128x512_S64x64_0_320, head5 (dk (earlyAt m c t dS))⟩,
      ⟨Rect.unit (s := S128x512) ![0, 256] S64x64.size inb_S128x512_S64x64_0_256, head4 (dk (earlyAt m c t dS))⟩,
      ⟨Rect.unit (s := S128x512) ![0, 192] S64x64.size inb_S128x512_S64x64_0_192, head3 (dk (earlyAt m c t dS))⟩,
      ⟨Rect.unit (s := S128x512) ![0, 128] S64x64.size inb_S128x512_S64x64_0_128, head2 (dk (earlyAt m c t dS))⟩,
      ⟨Rect.unit (s := S128x512) ![0, 64] S64x64.size inb_S128x512_S64x64_0_64, head1 (dk (earlyAt m c t dS))⟩,
      ⟨Rect.unit (s := S128x512) ![0, 0] S64x64.size inb_S128x512_S64x64_0_0, head0 (dk (earlyAt m c t dS))⟩,
      ⟨Rect.unit (s := S128x512) ![64, 448] S64x64.size inb_S128x512_S64x64_64_448, head7 (dk (lateAt m c t dS))⟩,
      ⟨Rect.unit (s := S128x512) ![64, 384] S64x64.size inb_S128x512_S64x64_64_384, head6 (dk (lateAt m c t dS))⟩,
      ⟨Rect.unit (s := S128x512) ![64, 320] S64x64.size inb_S128x512_S64x64_64_320, head5 (dk (lateAt m c t dS))⟩,
      ⟨Rect.unit (s := S128x512) ![64, 256] S64x64.size inb_S128x512_S64x64_64_256, head4 (dk (lateAt m c t dS))⟩,
      ⟨Rect.unit (s := S128x512) ![64, 192] S64x64.size inb_S128x512_S64x64_64_192, head3 (dk (lateAt m c t dS))⟩,
      ⟨Rect.unit (s := S128x512) ![64, 128] S64x64.size inb_S128x512_S64x64_64_128, head2 (dk (lateAt m c t dS))⟩,
      ⟨Rect.unit (s := S128x512) ![64, 64] S64x64.size inb_S128x512_S64x64_64_64, head1 (dk (lateAt m c t dS))⟩,
      ⟨Rect.unit (s := S128x512) ![64, 0] S64x64.size inb_S128x512_S64x64_64_0, head0 (dk (lateAt m c t dS))⟩]

/-- The block of the gradient of the values. -/
def dvBlk (c : Dev nD) (t : Fin cfg0.N) (dS : FVec F S8x64x64 .f32) : Vec F S128x512 .f32 :=
  View.canon (Val := Elt F) (s := S128x512) (e := .f32)
    [ ⟨Rect.unit (s := S128x512) ![0, 448] S64x64.size inb_S128x512_S64x64_0_448, head7 (dv (earlyAt m c t dS))⟩,
      ⟨Rect.unit (s := S128x512) ![0, 384] S64x64.size inb_S128x512_S64x64_0_384, head6 (dv (earlyAt m c t dS))⟩,
      ⟨Rect.unit (s := S128x512) ![0, 320] S64x64.size inb_S128x512_S64x64_0_320, head5 (dv (earlyAt m c t dS))⟩,
      ⟨Rect.unit (s := S128x512) ![0, 256] S64x64.size inb_S128x512_S64x64_0_256, head4 (dv (earlyAt m c t dS))⟩,
      ⟨Rect.unit (s := S128x512) ![0, 192] S64x64.size inb_S128x512_S64x64_0_192, head3 (dv (earlyAt m c t dS))⟩,
      ⟨Rect.unit (s := S128x512) ![0, 128] S64x64.size inb_S128x512_S64x64_0_128, head2 (dv (earlyAt m c t dS))⟩,
      ⟨Rect.unit (s := S128x512) ![0, 64] S64x64.size inb_S128x512_S64x64_0_64, head1 (dv (earlyAt m c t dS))⟩,
      ⟨Rect.unit (s := S128x512) ![0, 0] S64x64.size inb_S128x512_S64x64_0_0, head0 (dv (earlyAt m c t dS))⟩,
      ⟨Rect.unit (s := S128x512) ![64, 448] S64x64.size inb_S128x512_S64x64_64_448, head7 (dv (lateAt m c t dS))⟩,
      ⟨Rect.unit (s := S128x512) ![64, 384] S64x64.size inb_S128x512_S64x64_64_384, head6 (dv (lateAt m c t dS))⟩,
      ⟨Rect.unit (s := S128x512) ![64, 320] S64x64.size inb_S128x512_S64x64_64_320, head5 (dv (lateAt m c t dS))⟩,
      ⟨Rect.unit (s := S128x512) ![64, 256] S64x64.size inb_S128x512_S64x64_64_256, head4 (dv (lateAt m c t dS))⟩,
      ⟨Rect.unit (s := S128x512) ![64, 192] S64x64.size inb_S128x512_S64x64_64_192, head3 (dv (lateAt m c t dS))⟩,
      ⟨Rect.unit (s := S128x512) ![64, 128] S64x64.size inb_S128x512_S64x64_64_128, head2 (dv (lateAt m c t dS))⟩,
      ⟨Rect.unit (s := S128x512) ![64, 64] S64x64.size inb_S128x512_S64x64_64_64, head1 (dv (lateAt m c t dS))⟩,
      ⟨Rect.unit (s := S128x512) ![64, 0] S64x64.size inb_S128x512_S64x64_64_0, head0 (dv (lateAt m c t dS))⟩]

/-- The block of the gradient of beta. -/
def dbBlk (c : Dev nD) (t : Fin cfg0.N) (dS : FVec F S8x64x64 .f32) : Vec F S128x128 .f32 :=
  View.canon (Val := Elt F) (s := S128x128) (e := .f32)
    [ ⟨Rect.unit (s := S128x128) ![0, 0] S64x128.size inb_S128x128_S64x128_0_0, betaOut (dbeta (earlyAt m c t dS))⟩,
      ⟨Rect.unit (s := S128x128) ![64, 0] S64x128.size inb_S128x128_S64x128_64_0, betaOut (dbeta (lateAt m c t dS))⟩]

/-- The block of the gradient of the rows' `g`. -/
def dgBlk (c : Dev nD) (t : Fin cfg0.N) (dS : FVec F S8x64x64 .f32) : Vec F S128x128 .f32 :=
  View.canon (Val := Elt F) (s := S128x128) (e := .f32)
    [ ⟨Rect.unit (s := S128x128) ![0, 0] S64x128.size inb_S128x128_S64x128_0_0, gateOut (dgl (earlyAt m c t dS)) (dgr (earlyAt m c t dS)) (dgc (earlyAt m c t dS))⟩,
      ⟨Rect.unit (s := S128x128) ![64, 0] S64x128.size inb_S128x128_S64x128_64_0, gateOut (dgl (lateAt m c t dS)) (dgr (lateAt m c t dS)) (dgc (lateAt m c t dS))⟩]

theorem left8_A (c : Dev nD) (t : Fin cfg0.N) (h0 : t.val % 32 = 0) :
    (outsAt0 m c t.val t.isLt).1 = dqBlk m c t carry0 := by
  rw [outsAt0_A m c t h0]
  frame_out
  have e0 : View.read (Elt F) (ms0_0 t).view ((hs0_0 t).unread (iblk m c 0 t)) = iblk m c 0 t := (hs0_0 t).read_unread _
  have e1 : View.read (Elt F) (ms0_1 t).view ((hs0_1 t).unread (iblk m c 1 t)) = iblk m c 1 t := (hs0_1 t).read_unread _
  have e2 : View.read (Elt F) (ms0_2 t).view ((hs0_2 t).unread (iblk m c 2 t)) = iblk m c 2 t := (hs0_2 t).read_unread _
  have e3 : View.read (Elt F) (ms0_3 t).view ((hs0_3 t).unread (iblk m c 3 t)) = iblk m c 3 t := (hs0_3 t).read_unread _
  have e4 : View.read (Elt F) (ms0_4 t).view ((hs0_4 t).unread (iblk m c 4 t)) = iblk m c 4 t := (hs0_4 t).read_unread _
  have e5 : View.read (Elt F) (ms0_5 t).view ((hs0_5 t).unread (iblk m c 5 t)) = iblk m c 5 t := (hs0_5 t).read_unread _
  have e6 : View.read (Elt F) (ms0_6 t).view ((hs0_6 t).unread (iblk m c 6 t)) = iblk m c 6 t := (hs0_6 t).read_unread _
  have e7 : View.read (Elt F) (ms0_7 t).view ((hs0_7 t).unread (iblk m c 7 t)) = iblk m c 7 t := (hs0_7 t).read_unread _
  try rw [e0]
  try rw [e1]
  try rw [e2]
  try rw [e3]
  try rw [e4]
  try rw [e5]
  try rw [e6]
  try rw [e7]
  try simp only [Idealize.ShloMosaic.read_unread_whole]
  rfl

theorem left9_A (c : Dev nD) (t : Fin cfg0.N) (h0 : t.val % 32 = 0) :
    (outsAt0 m c t.val t.isLt).2.1 = dkBlk m c t carry0 := by
  rw [outsAt0_A m c t h0]
  frame_out
  have e0 : View.read (Elt F) (ms0_0 t).view ((hs0_0 t).unread (iblk m c 0 t)) = iblk m c 0 t := (hs0_0 t).read_unread _
  have e1 : View.read (Elt F) (ms0_1 t).view ((hs0_1 t).unread (iblk m c 1 t)) = iblk m c 1 t := (hs0_1 t).read_unread _
  have e2 : View.read (Elt F) (ms0_2 t).view ((hs0_2 t).unread (iblk m c 2 t)) = iblk m c 2 t := (hs0_2 t).read_unread _
  have e3 : View.read (Elt F) (ms0_3 t).view ((hs0_3 t).unread (iblk m c 3 t)) = iblk m c 3 t := (hs0_3 t).read_unread _
  have e4 : View.read (Elt F) (ms0_4 t).view ((hs0_4 t).unread (iblk m c 4 t)) = iblk m c 4 t := (hs0_4 t).read_unread _
  have e5 : View.read (Elt F) (ms0_5 t).view ((hs0_5 t).unread (iblk m c 5 t)) = iblk m c 5 t := (hs0_5 t).read_unread _
  have e6 : View.read (Elt F) (ms0_6 t).view ((hs0_6 t).unread (iblk m c 6 t)) = iblk m c 6 t := (hs0_6 t).read_unread _
  have e7 : View.read (Elt F) (ms0_7 t).view ((hs0_7 t).unread (iblk m c 7 t)) = iblk m c 7 t := (hs0_7 t).read_unread _
  try rw [e0]
  try rw [e1]
  try rw [e2]
  try rw [e3]
  try rw [e4]
  try rw [e5]
  try rw [e6]
  try rw [e7]
  try simp only [Idealize.ShloMosaic.read_unread_whole]
  rfl

theorem left10_A (c : Dev nD) (t : Fin cfg0.N) (h0 : t.val % 32 = 0) :
    (outsAt0 m c t.val t.isLt).2.2.1 = dvBlk m c t carry0 := by
  rw [outsAt0_A m c t h0]
  frame_out
  have e0 : View.read (Elt F) (ms0_0 t).view ((hs0_0 t).unread (iblk m c 0 t)) = iblk m c 0 t := (hs0_0 t).read_unread _
  have e1 : View.read (Elt F) (ms0_1 t).view ((hs0_1 t).unread (iblk m c 1 t)) = iblk m c 1 t := (hs0_1 t).read_unread _
  have e2 : View.read (Elt F) (ms0_2 t).view ((hs0_2 t).unread (iblk m c 2 t)) = iblk m c 2 t := (hs0_2 t).read_unread _
  have e3 : View.read (Elt F) (ms0_3 t).view ((hs0_3 t).unread (iblk m c 3 t)) = iblk m c 3 t := (hs0_3 t).read_unread _
  have e4 : View.read (Elt F) (ms0_4 t).view ((hs0_4 t).unread (iblk m c 4 t)) = iblk m c 4 t := (hs0_4 t).read_unread _
  have e5 : View.read (Elt F) (ms0_5 t).view ((hs0_5 t).unread (iblk m c 5 t)) = iblk m c 5 t := (hs0_5 t).read_unread _
  have e6 : View.read (Elt F) (ms0_6 t).view ((hs0_6 t).unread (iblk m c 6 t)) = iblk m c 6 t := (hs0_6 t).read_unread _
  have e7 : View.read (Elt F) (ms0_7 t).view ((hs0_7 t).unread (iblk m c 7 t)) = iblk m c 7 t := (hs0_7 t).read_unread _
  try rw [e0]
  try rw [e1]
  try rw [e2]
  try rw [e3]
  try rw [e4]
  try rw [e5]
  try rw [e6]
  try rw [e7]
  try simp only [Idealize.ShloMosaic.read_unread_whole]
  rfl

theorem left11_A (c : Dev nD) (t : Fin cfg0.N) (h0 : t.val % 32 = 0) :
    (outsAt0 m c t.val t.isLt).2.2.2.1 = dbBlk m c t carry0 := by
  rw [outsAt0_A m c t h0]
  frame_out
  have e0 : View.read (Elt F) (ms0_0 t).view ((hs0_0 t).unread (iblk m c 0 t)) = iblk m c 0 t := (hs0_0 t).read_unread _
  have e1 : View.read (Elt F) (ms0_1 t).view ((hs0_1 t).unread (iblk m c 1 t)) = iblk m c 1 t := (hs0_1 t).read_unread _
  have e2 : View.read (Elt F) (ms0_2 t).view ((hs0_2 t).unread (iblk m c 2 t)) = iblk m c 2 t := (hs0_2 t).read_unread _
  have e3 : View.read (Elt F) (ms0_3 t).view ((hs0_3 t).unread (iblk m c 3 t)) = iblk m c 3 t := (hs0_3 t).read_unread _
  have e4 : View.read (Elt F) (ms0_4 t).view ((hs0_4 t).unread (iblk m c 4 t)) = iblk m c 4 t := (hs0_4 t).read_unread _
  have e5 : View.read (Elt F) (ms0_5 t).view ((hs0_5 t).unread (iblk m c 5 t)) = iblk m c 5 t := (hs0_5 t).read_unread _
  have e6 : View.read (Elt F) (ms0_6 t).view ((hs0_6 t).unread (iblk m c 6 t)) = iblk m c 6 t := (hs0_6 t).read_unread _
  have e7 : View.read (Elt F) (ms0_7 t).view ((hs0_7 t).unread (iblk m c 7 t)) = iblk m c 7 t := (hs0_7 t).read_unread _
  try rw [e0]
  try rw [e1]
  try rw [e2]
  try rw [e3]
  try rw [e4]
  try rw [e5]
  try rw [e6]
  try rw [e7]
  try simp only [Idealize.ShloMosaic.read_unread_whole]
  rfl

theorem left12_A (c : Dev nD) (t : Fin cfg0.N) (h0 : t.val % 32 = 0) :
    (outsAt0 m c t.val t.isLt).2.2.2.2.1 = dgBlk m c t carry0 := by
  rw [outsAt0_A m c t h0]
  frame_out
  have e0 : View.read (Elt F) (ms0_0 t).view ((hs0_0 t).unread (iblk m c 0 t)) = iblk m c 0 t := (hs0_0 t).read_unread _
  have e1 : View.read (Elt F) (ms0_1 t).view ((hs0_1 t).unread (iblk m c 1 t)) = iblk m c 1 t := (hs0_1 t).read_unread _
  have e2 : View.read (Elt F) (ms0_2 t).view ((hs0_2 t).unread (iblk m c 2 t)) = iblk m c 2 t := (hs0_2 t).read_unread _
  have e3 : View.read (Elt F) (ms0_3 t).view ((hs0_3 t).unread (iblk m c 3 t)) = iblk m c 3 t := (hs0_3 t).read_unread _
  have e4 : View.read (Elt F) (ms0_4 t).view ((hs0_4 t).unread (iblk m c 4 t)) = iblk m c 4 t := (hs0_4 t).read_unread _
  have e5 : View.read (Elt F) (ms0_5 t).view ((hs0_5 t).unread (iblk m c 5 t)) = iblk m c 5 t := (hs0_5 t).read_unread _
  have e6 : View.read (Elt F) (ms0_6 t).view ((hs0_6 t).unread (iblk m c 6 t)) = iblk m c 6 t := (hs0_6 t).read_unread _
  have e7 : View.read (Elt F) (ms0_7 t).view ((hs0_7 t).unread (iblk m c 7 t)) = iblk m c 7 t := (hs0_7 t).read_unread _
  try rw [e0]
  try rw [e1]
  try rw [e2]
  try rw [e3]
  try rw [e4]
  try rw [e5]
  try rw [e6]
  try rw [e7]
  try simp only [Idealize.ShloMosaic.read_unread_whole]
  rfl

theorem lefts_A (c : Dev nD) (t : Fin cfg0.N) (h0 : t.val % 32 = 0) :
    (outsAt0 m c t.val t.isLt).2.2.2.2.2 = k0_pay1 (dSin (earlyAt m c t carry0)) := by
  rw [outsAt0_A m c t h0]
  frame_out
  have e0 : View.read (Elt F) (ms0_0 t).view ((hs0_0 t).unread (iblk m c 0 t)) = iblk m c 0 t := (hs0_0 t).read_unread _
  have e1 : View.read (Elt F) (ms0_1 t).view ((hs0_1 t).unread (iblk m c 1 t)) = iblk m c 1 t := (hs0_1 t).read_unread _
  have e2 : View.read (Elt F) (ms0_2 t).view ((hs0_2 t).unread (iblk m c 2 t)) = iblk m c 2 t := (hs0_2 t).read_unread _
  have e3 : View.read (Elt F) (ms0_3 t).view ((hs0_3 t).unread (iblk m c 3 t)) = iblk m c 3 t := (hs0_3 t).read_unread _
  have e4 : View.read (Elt F) (ms0_4 t).view ((hs0_4 t).unread (iblk m c 4 t)) = iblk m c 4 t := (hs0_4 t).read_unread _
  have e5 : View.read (Elt F) (ms0_5 t).view ((hs0_5 t).unread (iblk m c 5 t)) = iblk m c 5 t := (hs0_5 t).read_unread _
  have e6 : View.read (Elt F) (ms0_6 t).view ((hs0_6 t).unread (iblk m c 6 t)) = iblk m c 6 t := (hs0_6 t).read_unread _
  have e7 : View.read (Elt F) (ms0_7 t).view ((hs0_7 t).unread (iblk m c 7 t)) = iblk m c 7 t := (hs0_7 t).read_unread _
  try rw [e0]
  try rw [e1]
  try rw [e2]
  try rw [e3]
  try rw [e4]
  try rw [e5]
  try rw [e6]
  try rw [e7]
  try simp only [Idealize.ShloMosaic.read_unread_whole]
  rfl

theorem left8_B (c : Dev nD) (t : Fin cfg0.N) (h0 : ¬t.val % 32 = 0) :
    (outsAt0 m c t.val t.isLt).1 = dqBlk m c t (carry (outsAt0 m c (t.val - 1) (by have := t.isLt; omega)).2.2.2.2.2) := by
  rw [outsAt0_B m c t h0]
  frame_out
  have e0 : View.read (Elt F) (ms0_0 t).view ((hs0_0 t).unread (iblk m c 0 t)) = iblk m c 0 t := (hs0_0 t).read_unread _
  have e1 : View.read (Elt F) (ms0_1 t).view ((hs0_1 t).unread (iblk m c 1 t)) = iblk m c 1 t := (hs0_1 t).read_unread _
  have e2 : View.read (Elt F) (ms0_2 t).view ((hs0_2 t).unread (iblk m c 2 t)) = iblk m c 2 t := (hs0_2 t).read_unread _
  have e3 : View.read (Elt F) (ms0_3 t).view ((hs0_3 t).unread (iblk m c 3 t)) = iblk m c 3 t := (hs0_3 t).read_unread _
  have e4 : View.read (Elt F) (ms0_4 t).view ((hs0_4 t).unread (iblk m c 4 t)) = iblk m c 4 t := (hs0_4 t).read_unread _
  have e5 : View.read (Elt F) (ms0_5 t).view ((hs0_5 t).unread (iblk m c 5 t)) = iblk m c 5 t := (hs0_5 t).read_unread _
  have e6 : View.read (Elt F) (ms0_6 t).view ((hs0_6 t).unread (iblk m c 6 t)) = iblk m c 6 t := (hs0_6 t).read_unread _
  have e7 : View.read (Elt F) (ms0_7 t).view ((hs0_7 t).unread (iblk m c 7 t)) = iblk m c 7 t := (hs0_7 t).read_unread _
  try rw [e0]
  try rw [e1]
  try rw [e2]
  try rw [e3]
  try rw [e4]
  try rw [e5]
  try rw [e6]
  try rw [e7]
  try simp only [Idealize.ShloMosaic.read_unread_whole]
  rfl

theorem left9_B (c : Dev nD) (t : Fin cfg0.N) (h0 : ¬t.val % 32 = 0) :
    (outsAt0 m c t.val t.isLt).2.1 = dkBlk m c t (carry (outsAt0 m c (t.val - 1) (by have := t.isLt; omega)).2.2.2.2.2) := by
  rw [outsAt0_B m c t h0]
  frame_out
  have e0 : View.read (Elt F) (ms0_0 t).view ((hs0_0 t).unread (iblk m c 0 t)) = iblk m c 0 t := (hs0_0 t).read_unread _
  have e1 : View.read (Elt F) (ms0_1 t).view ((hs0_1 t).unread (iblk m c 1 t)) = iblk m c 1 t := (hs0_1 t).read_unread _
  have e2 : View.read (Elt F) (ms0_2 t).view ((hs0_2 t).unread (iblk m c 2 t)) = iblk m c 2 t := (hs0_2 t).read_unread _
  have e3 : View.read (Elt F) (ms0_3 t).view ((hs0_3 t).unread (iblk m c 3 t)) = iblk m c 3 t := (hs0_3 t).read_unread _
  have e4 : View.read (Elt F) (ms0_4 t).view ((hs0_4 t).unread (iblk m c 4 t)) = iblk m c 4 t := (hs0_4 t).read_unread _
  have e5 : View.read (Elt F) (ms0_5 t).view ((hs0_5 t).unread (iblk m c 5 t)) = iblk m c 5 t := (hs0_5 t).read_unread _
  have e6 : View.read (Elt F) (ms0_6 t).view ((hs0_6 t).unread (iblk m c 6 t)) = iblk m c 6 t := (hs0_6 t).read_unread _
  have e7 : View.read (Elt F) (ms0_7 t).view ((hs0_7 t).unread (iblk m c 7 t)) = iblk m c 7 t := (hs0_7 t).read_unread _
  try rw [e0]
  try rw [e1]
  try rw [e2]
  try rw [e3]
  try rw [e4]
  try rw [e5]
  try rw [e6]
  try rw [e7]
  try simp only [Idealize.ShloMosaic.read_unread_whole]
  rfl

theorem left10_B (c : Dev nD) (t : Fin cfg0.N) (h0 : ¬t.val % 32 = 0) :
    (outsAt0 m c t.val t.isLt).2.2.1 = dvBlk m c t (carry (outsAt0 m c (t.val - 1) (by have := t.isLt; omega)).2.2.2.2.2) := by
  rw [outsAt0_B m c t h0]
  frame_out
  have e0 : View.read (Elt F) (ms0_0 t).view ((hs0_0 t).unread (iblk m c 0 t)) = iblk m c 0 t := (hs0_0 t).read_unread _
  have e1 : View.read (Elt F) (ms0_1 t).view ((hs0_1 t).unread (iblk m c 1 t)) = iblk m c 1 t := (hs0_1 t).read_unread _
  have e2 : View.read (Elt F) (ms0_2 t).view ((hs0_2 t).unread (iblk m c 2 t)) = iblk m c 2 t := (hs0_2 t).read_unread _
  have e3 : View.read (Elt F) (ms0_3 t).view ((hs0_3 t).unread (iblk m c 3 t)) = iblk m c 3 t := (hs0_3 t).read_unread _
  have e4 : View.read (Elt F) (ms0_4 t).view ((hs0_4 t).unread (iblk m c 4 t)) = iblk m c 4 t := (hs0_4 t).read_unread _
  have e5 : View.read (Elt F) (ms0_5 t).view ((hs0_5 t).unread (iblk m c 5 t)) = iblk m c 5 t := (hs0_5 t).read_unread _
  have e6 : View.read (Elt F) (ms0_6 t).view ((hs0_6 t).unread (iblk m c 6 t)) = iblk m c 6 t := (hs0_6 t).read_unread _
  have e7 : View.read (Elt F) (ms0_7 t).view ((hs0_7 t).unread (iblk m c 7 t)) = iblk m c 7 t := (hs0_7 t).read_unread _
  try rw [e0]
  try rw [e1]
  try rw [e2]
  try rw [e3]
  try rw [e4]
  try rw [e5]
  try rw [e6]
  try rw [e7]
  try simp only [Idealize.ShloMosaic.read_unread_whole]
  rfl

theorem left11_B (c : Dev nD) (t : Fin cfg0.N) (h0 : ¬t.val % 32 = 0) :
    (outsAt0 m c t.val t.isLt).2.2.2.1 = dbBlk m c t (carry (outsAt0 m c (t.val - 1) (by have := t.isLt; omega)).2.2.2.2.2) := by
  rw [outsAt0_B m c t h0]
  frame_out
  have e0 : View.read (Elt F) (ms0_0 t).view ((hs0_0 t).unread (iblk m c 0 t)) = iblk m c 0 t := (hs0_0 t).read_unread _
  have e1 : View.read (Elt F) (ms0_1 t).view ((hs0_1 t).unread (iblk m c 1 t)) = iblk m c 1 t := (hs0_1 t).read_unread _
  have e2 : View.read (Elt F) (ms0_2 t).view ((hs0_2 t).unread (iblk m c 2 t)) = iblk m c 2 t := (hs0_2 t).read_unread _
  have e3 : View.read (Elt F) (ms0_3 t).view ((hs0_3 t).unread (iblk m c 3 t)) = iblk m c 3 t := (hs0_3 t).read_unread _
  have e4 : View.read (Elt F) (ms0_4 t).view ((hs0_4 t).unread (iblk m c 4 t)) = iblk m c 4 t := (hs0_4 t).read_unread _
  have e5 : View.read (Elt F) (ms0_5 t).view ((hs0_5 t).unread (iblk m c 5 t)) = iblk m c 5 t := (hs0_5 t).read_unread _
  have e6 : View.read (Elt F) (ms0_6 t).view ((hs0_6 t).unread (iblk m c 6 t)) = iblk m c 6 t := (hs0_6 t).read_unread _
  have e7 : View.read (Elt F) (ms0_7 t).view ((hs0_7 t).unread (iblk m c 7 t)) = iblk m c 7 t := (hs0_7 t).read_unread _
  try rw [e0]
  try rw [e1]
  try rw [e2]
  try rw [e3]
  try rw [e4]
  try rw [e5]
  try rw [e6]
  try rw [e7]
  try simp only [Idealize.ShloMosaic.read_unread_whole]
  rfl

theorem left12_B (c : Dev nD) (t : Fin cfg0.N) (h0 : ¬t.val % 32 = 0) :
    (outsAt0 m c t.val t.isLt).2.2.2.2.1 = dgBlk m c t (carry (outsAt0 m c (t.val - 1) (by have := t.isLt; omega)).2.2.2.2.2) := by
  rw [outsAt0_B m c t h0]
  frame_out
  have e0 : View.read (Elt F) (ms0_0 t).view ((hs0_0 t).unread (iblk m c 0 t)) = iblk m c 0 t := (hs0_0 t).read_unread _
  have e1 : View.read (Elt F) (ms0_1 t).view ((hs0_1 t).unread (iblk m c 1 t)) = iblk m c 1 t := (hs0_1 t).read_unread _
  have e2 : View.read (Elt F) (ms0_2 t).view ((hs0_2 t).unread (iblk m c 2 t)) = iblk m c 2 t := (hs0_2 t).read_unread _
  have e3 : View.read (Elt F) (ms0_3 t).view ((hs0_3 t).unread (iblk m c 3 t)) = iblk m c 3 t := (hs0_3 t).read_unread _
  have e4 : View.read (Elt F) (ms0_4 t).view ((hs0_4 t).unread (iblk m c 4 t)) = iblk m c 4 t := (hs0_4 t).read_unread _
  have e5 : View.read (Elt F) (ms0_5 t).view ((hs0_5 t).unread (iblk m c 5 t)) = iblk m c 5 t := (hs0_5 t).read_unread _
  have e6 : View.read (Elt F) (ms0_6 t).view ((hs0_6 t).unread (iblk m c 6 t)) = iblk m c 6 t := (hs0_6 t).read_unread _
  have e7 : View.read (Elt F) (ms0_7 t).view ((hs0_7 t).unread (iblk m c 7 t)) = iblk m c 7 t := (hs0_7 t).read_unread _
  try rw [e0]
  try rw [e1]
  try rw [e2]
  try rw [e3]
  try rw [e4]
  try rw [e5]
  try rw [e6]
  try rw [e7]
  try simp only [Idealize.ShloMosaic.read_unread_whole]
  rfl

theorem lefts_B (c : Dev nD) (t : Fin cfg0.N) (h0 : ¬t.val % 32 = 0) :
    (outsAt0 m c t.val t.isLt).2.2.2.2.2 = k0_pay1 (dSin (earlyAt m c t (carry (outsAt0 m c (t.val - 1) (by have := t.isLt; omega)).2.2.2.2.2))) := by
  rw [outsAt0_B m c t h0]
  frame_out
  have e0 : View.read (Elt F) (ms0_0 t).view ((hs0_0 t).unread (iblk m c 0 t)) = iblk m c 0 t := (hs0_0 t).read_unread _
  have e1 : View.read (Elt F) (ms0_1 t).view ((hs0_1 t).unread (iblk m c 1 t)) = iblk m c 1 t := (hs0_1 t).read_unread _
  have e2 : View.read (Elt F) (ms0_2 t).view ((hs0_2 t).unread (iblk m c 2 t)) = iblk m c 2 t := (hs0_2 t).read_unread _
  have e3 : View.read (Elt F) (ms0_3 t).view ((hs0_3 t).unread (iblk m c 3 t)) = iblk m c 3 t := (hs0_3 t).read_unread _
  have e4 : View.read (Elt F) (ms0_4 t).view ((hs0_4 t).unread (iblk m c 4 t)) = iblk m c 4 t := (hs0_4 t).read_unread _
  have e5 : View.read (Elt F) (ms0_5 t).view ((hs0_5 t).unread (iblk m c 5 t)) = iblk m c 5 t := (hs0_5 t).read_unread _
  have e6 : View.read (Elt F) (ms0_6 t).view ((hs0_6 t).unread (iblk m c 6 t)) = iblk m c 6 t := (hs0_6 t).read_unread _
  have e7 : View.read (Elt F) (ms0_7 t).view ((hs0_7 t).unread (iblk m c 7 t)) = iblk m c 7 t := (hs0_7 t).read_unread _
  try rw [e0]
  try rw [e1]
  try rw [e2]
  try rw [e3]
  try rw [e4]
  try rw [e5]
  try rw [e6]
  try rw [e7]
  try simp only [Idealize.ShloMosaic.read_unread_whole]
  rfl

end Cert.KernelIdeal.Chain

end
-- ==== Proof.ChunkMath.lean ====
module

public import Idealize.ShloMosaic.PureOps.Ideal

@[expose] public section

/-! The gradient of one chunk of the gated delta rule over the extended reals: every value of the chunk's forward
rule that its gradient uses, and the gradients, each a function of head, row and lane. -/

noncomputable section

namespace Cert

open Idealize.ShloMosaic

/-- What one chunk's gradient takes: queries, keys, values, the saved inverse `T`, the state `S` before the chunk,
the gradients of its output and of the state after it, and the rows' `g` (summed log decays) and `beta`. -/
structure Chunk where
  q : Fin 8 → Fin 64 → Fin 64 → EReal
  k : Fin 8 → Fin 64 → Fin 64 → EReal
  v : Fin 8 → Fin 64 → Fin 64 → EReal
  T : Fin 8 → Fin 64 → Fin 64 → EReal
  S : Fin 8 → Fin 64 → Fin 64 → EReal
  dO : Fin 8 → Fin 64 → Fin 64 → EReal
  dS : Fin 8 → Fin 64 → Fin 64 → EReal
  g : Fin 8 → Fin 64 → EReal
  beta : Fin 8 → Fin 64 → EReal

namespace Chunk

variable (c : Chunk) (h : Fin 8) (i j d : Fin 64)

def E : EReal := Ideal.exp (if j ≤ i then c.g h i - c.g h j else 0)
def D : EReal := if j ≤ i then c.E h i j else 0
def kb : EReal := c.k h i d * c.beta h i
def vb : EReal := c.v h i d * c.beta h i
def KK : EReal := ∑ x, c.kb h i x * c.k h j x
def eg : EReal := Ideal.exp (c.g h i)
def u : EReal := ∑ x, c.T h i x * c.vb h x d
def kbe : EReal := c.kb h i d * c.eg h i
def w : EReal := ∑ x, c.T h i x * c.kbe h x d
def QK : EReal := ∑ x, c.q h i x * c.k h j x
def A : EReal := if j ≤ i then c.QK h i j * c.D h i j else 0
def vn : EReal := c.u h i d - ∑ x, c.w h i x * c.S h x d
def qe : EReal := c.q h i d * c.eg h i
def ed : EReal := Ideal.exp (c.g h 63 - c.g h i)
def kd : EReal := c.k h i d * c.ed h i
def egl : EReal := Ideal.exp (c.g h 63)
def dkd : EReal := ∑ x, c.vn h i x * c.dS h d x
def kdk : EReal := (∑ x, c.k h i x * c.dkd h i x) * c.ed h i
def dgl : EReal := (∑ x, ∑ y, c.S h x y * c.dS h x y) * c.egl h + ∑ x, c.kdk h x
def dA0 : EReal := ∑ x, c.dO h i x * c.vn h j x
def dvn : EReal := (∑ x, c.kd h i x * c.dS h x d) + ∑ x, c.A h x i * c.dO h x d
def dqe : EReal := ∑ x, c.dO h i x * c.S h d x
def dS0 : EReal := c.dS h i d * c.egl h + ∑ x, c.qe h x i * c.dO h x d
def qdq : EReal := ∑ x, c.q h i x * c.dqe h i x
def ndvn : EReal := 0 - c.dvn h i d
def dw : EReal := ∑ x, c.ndvn h i x * c.S h d x
def dSin : EReal := c.dS0 h i d + ∑ x, c.w h x i * c.ndvn h x d
def dA : EReal := if j ≤ i then c.dA0 h i j else 0
def dAD : EReal := c.dA h i j * c.D h i j
def dq : EReal := c.dqe h i d * c.eg h i + ∑ x, c.dAD h i x * c.k h x d
def dk1 : EReal := c.dkd h i d * c.ed h i + ∑ x, c.dAD h x i * c.q h x d
def dkbe : EReal := ∑ x, c.T h x i * c.dw h x d
def dvb : EReal := ∑ x, c.T h x i * c.dvn h x d
def dg1 : EReal := (0 - c.kdk h i) + (c.qdq h i + ∑ x, c.kb h i x * c.dkbe h i x) * c.eg h i
def dT : EReal := (∑ x, c.dw h i x * c.kbe h j x) + ∑ x, c.dvn h i x * c.vb h j x
def dTT : EReal := ∑ x, c.dT h i x * c.T h j x
def dL : EReal := if j < i then 0 - ∑ x, c.T h x i * c.dTT h x j else 0
def dLA : EReal := c.QK h i j * c.dA h i j + c.KK h i j * c.dL h i j
def dLD : EReal := c.dL h i j * c.D h i j
def dkb : EReal := c.dkbe h i d * c.eg h i + ∑ x, c.dLD h i x * c.k h x d
def dv : EReal := c.dvb h i d * c.beta h i
def dbeta : EReal := (∑ x, c.v h i x * c.dvb h i x) + ∑ x, c.k h i x * c.dkb h i x
def dk : EReal := c.dk1 h i d + (∑ x, c.dLD h x i * c.kb h x d) + c.dkb h i d * c.beta h i
def dE : EReal := if j ≤ i then (if j ≤ i then c.dLA h i j else 0) * c.E h i j else 0
def dgr : EReal := ∑ x, (0 - c.dE h x i)
def dgc : EReal := c.dg1 h i + ∑ x, c.dE h i x
/-- The gradient of the rows' `g`. -/
def dg : EReal := (c.dgc h i + if i = 63 then c.dgl h else 0) + c.dgr h i

end Chunk

end Cert

end
-- ==== Proof.ChainAt.lean ====
module

public import proofs.«01_k».proof.Proof.Chain
public import proofs.«01_k».proof.Proof.ChunkMath
public import Idealize.ShloMosaic.Lib.Pipeline.ValueKit

@[expose] public section

/-! The chain of named arrays at an index, over the extended reals: each is the chunk's function of that name. -/

set_option maxRecDepth 16384

noncomputable section

namespace Cert

open Idealize.ShloMosaic

theorem cmpi_ge (i j : Fin 64) : IntOp.cmpi .sge (BitVec.ofNat 32 i.val) (BitVec.ofNat 32 j.val) = BitVec.ofBool (decide (j ≤ i)) := by
  revert i j; decide +kernel

theorem cmpi_gt (i j : Fin 64) : IntOp.cmpi .sgt (BitVec.ofNat 32 i.val) (BitVec.ofNat 32 j.val) = BitVec.ofBool (decide (j < i)) := by
  revert i j; decide +kernel

theorem select_ge (i j : Fin 64) (a b : EReal) :
    Scalar.select (IntOp.cmpi .sge (BitVec.ofNat 32 i.val) (BitVec.ofNat 32 j.val)) a b = if j ≤ i then a else b := by
  rw [cmpi_ge]; by_cases h : j ≤ i <;> simp [h, Scalar.select]

theorem select_gt (i j : Fin 64) (a b : EReal) :
    Scalar.select (IntOp.cmpi .sgt (BitVec.ofNat 32 i.val) (BitVec.ofNat 32 j.val)) a b = if j < i then a else b := by
  rw [cmpi_gt]; by_cases h : j < i <;> simp [h, Scalar.select]

end Cert

namespace Cert.KernelIdeal.Chain

open Idealize.ShloMosaic Idealize.ShloMosaic.TcCoe Idealize.ShloMosaic.Tactic Cert.KernelIdeal Cert.KernelIdeal.Gen

/-- The gate's row and its last row hold the gate's column. -/
def Tied (c : Raw Ideal) : Prop :=
  (∀ (h : Fin 8) (j : Fin 64), c.gr (ix3 h 0 j) = c.gc (ix3 h j 0)) ∧ ∀ h : Fin 8, c.gl (ix3 h 0 0) = c.gc (ix3 h 63 0)

/-- The chunk's values read off the arrays. -/
def toChunk (c : Raw Ideal) : Chunk where
  q h i d := c.q (ix3 h i d)
  k h i d := c.k (ix3 h i d)
  v h i d := c.v (ix3 h i d)
  T h i d := c.T (ix3 h i d)
  S h i d := c.S (ix3 h i d)
  dO h i d := c.dO (ix3 h i d)
  dS h i d := c.dS (ix3 h i d)
  g h i := c.gc (ix3 h i 0)
  beta h i := c.beta (ix3 h i 0)

theorem E_at (c : Raw Ideal) (hc : Tied c) (h : Fin 8) (i j : Fin 64) : E c (ix3 h i j) = (toChunk c).E h i j := by
  unfold E; pointwise; simp only [Chunk.E, toChunk, Cert.select_ge, Cert.select_gt, hc.1, hc.2]

theorem D_at (c : Raw Ideal) (hc : Tied c) (h : Fin 8) (i j : Fin 64) : D c (ix3 h i j) = (toChunk c).D h i j := by
  unfold D; pointwise; simp only [Chunk.D, toChunk, Cert.select_ge, Cert.select_gt, E_at c hc]

theorem kb_at (c : Raw Ideal) (hc : Tied c) (h : Fin 8) (i j : Fin 64) : kb c (ix3 h i j) = (toChunk c).kb h i j := by
  unfold kb; pointwise; simp only [Chunk.kb, toChunk]

theorem vb_at (c : Raw Ideal) (hc : Tied c) (h : Fin 8) (i j : Fin 64) : vb c (ix3 h i j) = (toChunk c).vb h i j := by
  unfold vb; pointwise; simp only [Chunk.vb, toChunk]

theorem KK_at (c : Raw Ideal) (hc : Tied c) (h : Fin 8) (i j : Fin 64) : KK c (ix3 h i j) = (toChunk c).KK h i j := by
  unfold KK; pointwise; simp only [Chunk.KK, toChunk, kb_at c hc]

theorem eg_at (c : Raw Ideal) (hc : Tied c) (h : Fin 8) (i : Fin 64) : eg c (ix3 h i 0) = (toChunk c).eg h i := by
  unfold eg; pointwise; simp only [Chunk.eg, toChunk]

theorem u_at (c : Raw Ideal) (hc : Tied c) (h : Fin 8) (i j : Fin 64) : u c (ix3 h i j) = (toChunk c).u h i j := by
  unfold u; pointwise; simp only [Chunk.u, toChunk, vb_at c hc]

theorem kbe_at (c : Raw Ideal) (hc : Tied c) (h : Fin 8) (i j : Fin 64) : kbe c (ix3 h i j) = (toChunk c).kbe h i j := by
  unfold kbe; pointwise; simp only [Chunk.kbe, toChunk, eg_at c hc, kb_at c hc]

theorem w_at (c : Raw Ideal) (hc : Tied c) (h : Fin 8) (i j : Fin 64) : w c (ix3 h i j) = (toChunk c).w h i j := by
  unfold w; pointwise; simp only [Chunk.w, toChunk, kbe_at c hc]

theorem QK_at (c : Raw Ideal) (hc : Tied c) (h : Fin 8) (i j : Fin 64) : QK c (ix3 h i j) = (toChunk c).QK h i j := by
  unfold QK; pointwise; simp only [Chunk.QK, toChunk]

theorem A_at (c : Raw Ideal) (hc : Tied c) (h : Fin 8) (i j : Fin 64) : A c (ix3 h i j) = (toChunk c).A h i j := by
  unfold A; pointwise; simp only [Chunk.A, toChunk, Cert.select_ge, Cert.select_gt, D_at c hc, QK_at c hc]

theorem vn_at (c : Raw Ideal) (hc : Tied c) (h : Fin 8) (i j : Fin 64) : vn c (ix3 h i j) = (toChunk c).vn h i j := by
  unfold vn; pointwise; simp only [Chunk.vn, toChunk, u_at c hc, w_at c hc]

theorem qe_at (c : Raw Ideal) (hc : Tied c) (h : Fin 8) (i j : Fin 64) : qe c (ix3 h i j) = (toChunk c).qe h i j := by
  unfold qe; pointwise; simp only [Chunk.qe, toChunk, eg_at c hc]

theorem ed_at (c : Raw Ideal) (hc : Tied c) (h : Fin 8) (i : Fin 64) : ed c (ix3 h i 0) = (toChunk c).ed h i := by
  unfold ed; pointwise; simp only [Chunk.ed, toChunk, hc.1, hc.2]

theorem kd_at (c : Raw Ideal) (hc : Tied c) (h : Fin 8) (i j : Fin 64) : kd c (ix3 h i j) = (toChunk c).kd h i j := by
  unfold kd; pointwise; simp only [Chunk.kd, toChunk, ed_at c hc]

theorem egl_at (c : Raw Ideal) (hc : Tied c) (h : Fin 8) : egl c (ix3 h 0 0) = (toChunk c).egl h := by
  unfold egl; pointwise; simp only [Chunk.egl, toChunk, hc.1, hc.2]

theorem dkd_at (c : Raw Ideal) (hc : Tied c) (h : Fin 8) (i j : Fin 64) : dkd c (ix3 h i j) = (toChunk c).dkd h i j := by
  unfold dkd; pointwise; simp only [Chunk.dkd, toChunk, vn_at c hc]

theorem kdk_at (c : Raw Ideal) (hc : Tied c) (h : Fin 8) (i : Fin 64) : kdk c (ix3 h i 0) = (toChunk c).kdk h i := by
  unfold kdk; pointwise; simp only [Chunk.kdk, toChunk, dkd_at c hc, ed_at c hc]

theorem dgl_at (c : Raw Ideal) (hc : Tied c) (h : Fin 8) : dgl c (ix3 h 0 0) = (toChunk c).dgl h := by
  unfold dgl; pointwise; simp only [Chunk.dgl, toChunk, egl_at c hc, kdk_at c hc]

theorem dA0_at (c : Raw Ideal) (hc : Tied c) (h : Fin 8) (i j : Fin 64) : dA0 c (ix3 h i j) = (toChunk c).dA0 h i j := by
  unfold dA0; pointwise; simp only [Chunk.dA0, toChunk, vn_at c hc]

theorem dvn_at (c : Raw Ideal) (hc : Tied c) (h : Fin 8) (i j : Fin 64) : dvn c (ix3 h i j) = (toChunk c).dvn h i j := by
  unfold dvn; pointwise; simp only [Chunk.dvn, toChunk, A_at c hc, kd_at c hc]

theorem dqe_at (c : Raw Ideal) (hc : Tied c) (h : Fin 8) (i j : Fin 64) : dqe c (ix3 h i j) = (toChunk c).dqe h i j := by
  unfold dqe; pointwise; simp only [Chunk.dqe, toChunk]

theorem dS0_at (c : Raw Ideal) (hc : Tied c) (h : Fin 8) (i j : Fin 64) : dS0 c (ix3 h i j) = (toChunk c).dS0 h i j := by
  unfold dS0; pointwise; simp only [Chunk.dS0, toChunk, egl_at c hc, qe_at c hc]

theorem qdq_at (c : Raw Ideal) (hc : Tied c) (h : Fin 8) (i : Fin 64) : qdq c (ix3 h i 0) = (toChunk c).qdq h i := by
  unfold qdq; pointwise; simp only [Chunk.qdq, toChunk, dqe_at c hc]

theorem ndvn_at (c : Raw Ideal) (hc : Tied c) (h : Fin 8) (i j : Fin 64) : ndvn c (ix3 h i j) = (toChunk c).ndvn h i j := by
  unfold ndvn; pointwise; simp only [Chunk.ndvn, toChunk, dvn_at c hc]

theorem dw_at (c : Raw Ideal) (hc : Tied c) (h : Fin 8) (i j : Fin 64) : dw c (ix3 h i j) = (toChunk c).dw h i j := by
  unfold dw; pointwise; simp only [Chunk.dw, toChunk, ndvn_at c hc]

theorem dSin_at (c : Raw Ideal) (hc : Tied c) (h : Fin 8) (i j : Fin 64) : dSin c (ix3 h i j) = (toChunk c).dSin h i j := by
  unfold dSin; pointwise; simp only [Chunk.dSin, toChunk, dS0_at c hc, ndvn_at c hc, w_at c hc]

theorem dA_at (c : Raw Ideal) (hc : Tied c) (h : Fin 8) (i j : Fin 64) : dA c (ix3 h i j) = (toChunk c).dA h i j := by
  unfold dA; pointwise; simp only [Chunk.dA, toChunk, Cert.select_ge, Cert.select_gt, dA0_at c hc]

theorem dAD_at (c : Raw Ideal) (hc : Tied c) (h : Fin 8) (i j : Fin 64) : dAD c (ix3 h i j) = (toChunk c).dAD h i j := by
  unfold dAD; pointwise; simp only [Chunk.dAD, toChunk, D_at c hc, dA_at c hc]

theorem dq_at (c : Raw Ideal) (hc : Tied c) (h : Fin 8) (i j : Fin 64) : dq c (ix3 h i j) = (toChunk c).dq h i j := by
  unfold dq; pointwise; simp only [Chunk.dq, toChunk, dAD_at c hc, dqe_at c hc, eg_at c hc]

theorem dk1_at (c : Raw Ideal) (hc : Tied c) (h : Fin 8) (i j : Fin 64) : dk1 c (ix3 h i j) = (toChunk c).dk1 h i j := by
  unfold dk1; pointwise; simp only [Chunk.dk1, toChunk, dAD_at c hc, dkd_at c hc, ed_at c hc]

theorem dkbe_at (c : Raw Ideal) (hc : Tied c) (h : Fin 8) (i j : Fin 64) : dkbe c (ix3 h i j) = (toChunk c).dkbe h i j := by
  unfold dkbe; pointwise; simp only [Chunk.dkbe, toChunk, dw_at c hc]

theorem dvb_at (c : Raw Ideal) (hc : Tied c) (h : Fin 8) (i j : Fin 64) : dvb c (ix3 h i j) = (toChunk c).dvb h i j := by
  unfold dvb; pointwise; simp only [Chunk.dvb, toChunk, dvn_at c hc]

theorem dT_at (c : Raw Ideal) (hc : Tied c) (h : Fin 8) (i j : Fin 64) : dT c (ix3 h i j) = (toChunk c).dT h i j := by
  unfold dT; pointwise; simp only [Chunk.dT, toChunk, dvn_at c hc, dw_at c hc, kbe_at c hc, vb_at c hc]

theorem dg1_at (c : Raw Ideal) (hc : Tied c) (h : Fin 8) (i : Fin 64) : dg1 c (ix3 h i 0) = (toChunk c).dg1 h i := by
  unfold dg1; pointwise; simp only [Chunk.dg1, toChunk, dkbe_at c hc, eg_at c hc, kb_at c hc, kdk_at c hc, qdq_at c hc]

theorem dTT_at (c : Raw Ideal) (hc : Tied c) (h : Fin 8) (i j : Fin 64) : dTT c (ix3 h i j) = (toChunk c).dTT h i j := by
  unfold dTT; pointwise; simp only [Chunk.dTT, toChunk, dT_at c hc]

theorem dL_at (c : Raw Ideal) (hc : Tied c) (h : Fin 8) (i j : Fin 64) : dL c (ix3 h i j) = (toChunk c).dL h i j := by
  unfold dL; pointwise; simp only [Chunk.dL, toChunk, Cert.select_ge, Cert.select_gt, dTT_at c hc]

theorem dLA_at (c : Raw Ideal) (hc : Tied c) (h : Fin 8) (i j : Fin 64) : dLA c (ix3 h i j) = (toChunk c).dLA h i j := by
  unfold dLA; pointwise; simp only [Chunk.dLA, toChunk, KK_at c hc, QK_at c hc, dA_at c hc, dL_at c hc]

theorem dLD_at (c : Raw Ideal) (hc : Tied c) (h : Fin 8) (i j : Fin 64) : dLD c (ix3 h i j) = (toChunk c).dLD h i j := by
  unfold dLD; pointwise; simp only [Chunk.dLD, toChunk, D_at c hc, dL_at c hc]

theorem dkb_at (c : Raw Ideal) (hc : Tied c) (h : Fin 8) (i j : Fin 64) : dkb c (ix3 h i j) = (toChunk c).dkb h i j := by
  unfold dkb; pointwise; simp only [Chunk.dkb, toChunk, dLD_at c hc, dkbe_at c hc, eg_at c hc]

theorem dv_at (c : Raw Ideal) (hc : Tied c) (h : Fin 8) (i j : Fin 64) : dv c (ix3 h i j) = (toChunk c).dv h i j := by
  unfold dv; pointwise; simp only [Chunk.dv, toChunk, dvb_at c hc]

theorem dbeta_at (c : Raw Ideal) (hc : Tied c) (h : Fin 8) (i : Fin 64) : dbeta c (ix3 h i 0) = (toChunk c).dbeta h i := by
  unfold dbeta; pointwise; simp only [Chunk.dbeta, toChunk, dkb_at c hc, dvb_at c hc]

theorem dk_at (c : Raw Ideal) (hc : Tied c) (h : Fin 8) (i j : Fin 64) : dk c (ix3 h i j) = (toChunk c).dk h i j := by
  unfold dk; pointwise; simp only [Chunk.dk, toChunk, dLD_at c hc, dk1_at c hc, dkb_at c hc, kb_at c hc]

theorem dE_at (c : Raw Ideal) (hc : Tied c) (h : Fin 8) (i j : Fin 64) : dE c (ix3 h i j) = (toChunk c).dE h i j := by
  unfold dE; pointwise; simp only [Chunk.dE, toChunk, Cert.select_ge, Cert.select_gt, E_at c hc, dLA_at c hc]
  by_cases hji : j ≤ i <;> simp only [hji, if_true, if_false]

theorem dgr_at (c : Raw Ideal) (hc : Tied c) (h : Fin 8) (i : Fin 64) : dgr c (ix3 h 0 i) = (toChunk c).dgr h i := by
  unfold dgr; pointwise; simp only [Chunk.dgr, toChunk, dE_at c hc]

theorem dgc_at (c : Raw Ideal) (hc : Tied c) (h : Fin 8) (i : Fin 64) : dgc c (ix3 h i 0) = (toChunk c).dgc h i := by
  unfold dgc; pointwise; simp only [Chunk.dgc, toChunk, dE_at c hc, dg1_at c hc]

end Cert.KernelIdeal.Chain

end
-- ==== Proof.Sweep.lean ====
module

public import proofs.«01_k».proof.Proof.ChunkMath

@[expose] public section

/-! The chunks of one sequence, last to first: which rows and lanes each takes, and the state's gradient carried from a
chunk to the one before it. -/

noncomputable section

namespace Cert

open Idealize.ShloMosaic

/-- The arrays a sequence's gradient takes: queries, keys and values with a head's 64 lanes side by side, the two gates
in a head's lane each, the state before every chunk, the saved inverse of every chunk, and the output's gradient. -/
structure Inputs where
  q : Fin 4096 → Fin 512 → EReal
  k : Fin 4096 → Fin 512 → EReal
  v : Fin 4096 → Fin 512 → EReal
  bt : Fin 4096 → Fin 128 → EReal
  gt : Fin 4096 → Fin 128 → EReal
  sh : Fin 64 → Fin 8 → Fin 64 → Fin 64 → EReal
  ph : Fin 64 → Fin 8 → Fin 64 → Fin 64 → EReal
  dO : Fin 4096 → Fin 512 → EReal

namespace Inputs

/-- Row `i` of chunk `n`, lane `d` of head `h`. -/
def row (n i : Fin 64) : Fin 4096 := ⟨64 * n.val + i.val, by omega⟩
def lane (h : Fin 8) (d : Fin 64) : Fin 512 := ⟨64 * h.val + d.val, by omega⟩

variable (x : Inputs)

/-- Chunk `n` of the sequence, the gradient of the state after it `dS`. -/
def chunk (n : Fin 64) (dS : Fin 8 → Fin 64 → Fin 64 → EReal) : Chunk where
  q h i d := x.q (row n i) (lane h d)
  k h i d := x.k (row n i) (lane h d)
  v h i d := x.v (row n i) (lane h d)
  T h i d := x.ph n h i d
  S h i d := x.sh n h i d
  dO h i d := x.dO (row n i) (lane h d)
  dS := dS
  g h i := x.gt (row n i) ⟨8 + h.val, by omega⟩
  beta h i := x.bt (row n i) ⟨h.val, by omega⟩

/-- The chunk taken `s`-th, from the last. -/
def nth (s : ℕ) : Fin 64 := ⟨63 - s, by omega⟩

/-- The gradient of the state after the chunk taken `s`-th. -/
def dState : ℕ → Fin 8 → Fin 64 → Fin 64 → EReal
  | 0 => fun _ _ _ => 0
  | s + 1 => (x.chunk (nth s) (dState s)).dSin

/-- Chunk `n` with the gradient the later chunks carry into it. -/
def at' (n : Fin 64) : Chunk := x.chunk n (x.dState (63 - n.val))

theorem at'_nth (s : ℕ) (hs : s < 64) : x.at' (nth s) = x.chunk (nth s) (x.dState s) := by
  have h : 63 - (63 - s) = s := by omega
  simp only [at', nth, h]

/-- The chunk, row in it, head and lane of a row and lane of the sequence. -/
def chunkOf (r : Fin 4096) : Fin 64 := ⟨r.val / 64, by omega⟩
def rowOf (r : Fin 4096) : Fin 64 := ⟨r.val % 64, by omega⟩
def headOf (l : Fin 512) : Fin 8 := ⟨l.val / 64, by omega⟩
def laneOf (l : Fin 512) : Fin 64 := ⟨l.val % 64, by omega⟩

/-- The gradients of the sequence's arrays. -/
def dq (r : Fin 4096) (l : Fin 512) : EReal := (x.at' (chunkOf r)).dq (headOf l) (rowOf r) (laneOf l)
def dk (r : Fin 4096) (l : Fin 512) : EReal := (x.at' (chunkOf r)).dk (headOf l) (rowOf r) (laneOf l)
def dv (r : Fin 4096) (l : Fin 512) : EReal := (x.at' (chunkOf r)).dv (headOf l) (rowOf r) (laneOf l)
def dbt (r : Fin 4096) (l : Fin 128) : EReal :=
  if h : l.val < 8 then (x.at' (chunkOf r)).dbeta ⟨l.val, h⟩ (rowOf r) else 0
def dgt (r : Fin 4096) (l : Fin 128) : EReal :=
  if h : 8 ≤ l.val ∧ l.val < 16 then (x.at' (chunkOf r)).dg ⟨l.val - 8, by omega⟩ (rowOf r) else 0

end Inputs

end Cert

end
-- ==== Proof.Blocks.lean ====
module

public import proofs.«01_k».proof.Proof.ChainAt
public import proofs.«01_k».proof.Proof.Assembly
public import proofs.«01_k».proof.Proof.Sweep
public import Idealize.ShloMosaic.Lib.Pipeline.ValueKit

@[expose] public section

/-! What the body reads and stores around the chain of one chunk, at an index. -/

set_option maxRecDepth 16384

noncomputable section

namespace Cert.KernelIdeal.Chain

open Idealize.ShloMosaic Idealize.ShloMosaic.TcCoe Idealize.ShloMosaic.Tactic Cert.KernelIdeal Cert.KernelIdeal.Gen

theorem select_eq32 (n k : ℕ) (hn : n < 128) (hk : k < 128) (a b : EReal) :
    Scalar.select (IntOp.cmpi .eq (BitVec.ofNat 32 n) (BitVec.ofNat 32 k)) a b = if n = k then a else b := by
  have e : IntOp.cmpi .eq (BitVec.ofNat 32 n) (BitVec.ofNat 32 k) = BitVec.ofBool (decide (n = k)) := by
    simp only [IntOp.cmpi]
    congr 1
    simp only [beq_eq_decide, BitVec.toNat_eq, BitVec.toNat_ofNat, decide_eq_decide]
    omega
  rw [e]; by_cases h : n = k <;> simp [h, Scalar.select]

/-! ## Loads -/

theorem ld_tile (x : FVec Ideal S128x512 .f32) (r l : ℕ) (inb) (i d : Fin 64) (hr : r + 64 ≤ 128) (hl : l + 64 ≤ 512) :
    View.ld (Val := Elt Ideal) (e' := .f32) x (Rect.unit ![r, l] S64x64.size inb) (ix2 i d) = x (ix2 ⟨r + i.val, by omega⟩ ⟨l + d.val, by omega⟩) := by
  refine congrArg x (funext fun a => ?_)
  match a with
  | 0 => exact Fin.ext (by simp [LoadRect.idx])
  | 1 => exact Fin.ext (by simp [LoadRect.idx])

theorem ld_lanes (x : FVec Ideal S128x128 .f32) (r : ℕ) (inb) (i : Fin 64) (j : Fin 128) (hr : r + 64 ≤ 128) :
    View.ld (Val := Elt Ideal) (e' := .f32) x (Rect.unit ![r, 0] S64x128.size inb) (ix2 i j) = x (ix2 ⟨r + i.val, by omega⟩ j) := by
  refine congrArg x (funext fun a => ?_)
  match a with
  | 0 => exact Fin.ext (by simp [LoadRect.idx])
  | 1 => exact Fin.ext (by simp [LoadRect.idx])

theorem ld_state (x : FVec Ideal S2x8x64x64 .f32) (s : ℕ) (inb) (hs : s < 2) (h : Fin 8) (i d : Fin 64) :
    View.ld (Val := Elt Ideal) (e' := .f32) x (Rect.unit ![s, 0, 0, 0] S1x8x64x64.size inb) (ix4 0 h i d) = x (ix4 ⟨s, hs⟩ h i d) := by
  refine congrArg x (funext fun a => ?_)
  match a with
  | 0 => exact Fin.ext (by simp [LoadRect.idx])
  | 1 => exact Fin.ext (by simp [LoadRect.idx])
  | 2 => exact Fin.ext (by simp [LoadRect.idx])
  | 3 => exact Fin.ext (by simp [LoadRect.idx])

theorem heads_at (a0 a1 a2 a3 a4 a5 a6 a7 : FVec Ideal S64x64 .f32) (h : Fin 8) (i d : Fin 64) :
    heads a0 a1 a2 a3 a4 a5 a6 a7 (ix3 h i d) = (![a0, a1, a2, a3, a4, a5, a6, a7] h) (ix2 i d) := by
  unfold heads; pointwise
  fin_cases h <;> rfl

theorem betaOf_at (x : FVec Ideal S64x128 .f32) (h : Fin 8) (i : Fin 64) :
    betaOf x (ix3 h i 0) = x (ix2 i ⟨h.val, by omega⟩) := by
  unfold betaOf; pointwise
  fin_cases h <;> rfl

theorem gcOf_at (x : FVec Ideal S64x128 .f32) (h : Fin 8) (i : Fin 64) :
    gcOf x (ix3 h i 0) = x (ix2 i ⟨8 + h.val, by omega⟩) := by
  unfold gcOf; pointwise
  fin_cases h <;> rfl

theorem grOf_at (x : FVec Ideal S64x128 .f32) (h : Fin 8) (i : Fin 64) :
    grOf x (ix3 h 0 i) = x (ix2 i ⟨8 + h.val, by omega⟩) := by
  unfold grOf; pointwise
  fin_cases h <;> rfl

theorem glOf_at (x : FVec Ideal S64x128 .f32) (h : Fin 8) :
    glOf x (ix3 h 0 0) = x (ix2 63 ⟨8 + h.val, by omega⟩) := by
  unfold glOf; pointwise
  fin_cases h <;> rfl

theorem stateOf_at (x : FVec Ideal S1x8x64x64 .f32) (h : Fin 8) (i d : Fin 64) :
    stateOf x (ix3 h i d) = x (ix4 0 h i d) := by
  unfold stateOf; pointwise

/-- The heads of rows 64 to 127 of a block. -/
theorem late_heads (x : FVec Ideal S128x512 .f32) (h : Fin 8) (i d : Fin 64) :
    heads (View.ld (Val := Elt Ideal) (e' := .f32) x (Rect.unit ![64, 0] S64x64.size inb_S128x512_S64x64_64_0)) (View.ld (Val := Elt Ideal) (e' := .f32) x (Rect.unit ![64, 64] S64x64.size inb_S128x512_S64x64_64_64)) (View.ld (Val := Elt Ideal) (e' := .f32) x (Rect.unit ![64, 128] S64x64.size inb_S128x512_S64x64_64_128)) (View.ld (Val := Elt Ideal) (e' := .f32) x (Rect.unit ![64, 192] S64x64.size inb_S128x512_S64x64_64_192)) (View.ld (Val := Elt Ideal) (e' := .f32) x (Rect.unit ![64, 256] S64x64.size inb_S128x512_S64x64_64_256)) (View.ld (Val := Elt Ideal) (e' := .f32) x (Rect.unit ![64, 320] S64x64.size inb_S128x512_S64x64_64_320)) (View.ld (Val := Elt Ideal) (e' := .f32) x (Rect.unit ![64, 384] S64x64.size inb_S128x512_S64x64_64_384)) (View.ld (Val := Elt Ideal) (e' := .f32) x (Rect.unit ![64, 448] S64x64.size inb_S128x512_S64x64_64_448)) (ix3 h i d)
      = x (ix2 ⟨64 + i.val, by omega⟩ (Inputs.lane h d)) := by
  rw [heads_at]
  match h with
  | 0 => exact ld_tile x 64 0 _ i d (by decide) (by decide)
  | 1 => exact ld_tile x 64 64 _ i d (by decide) (by decide)
  | 2 => exact ld_tile x 64 128 _ i d (by decide) (by decide)
  | 3 => exact ld_tile x 64 192 _ i d (by decide) (by decide)
  | 4 => exact ld_tile x 64 256 _ i d (by decide) (by decide)
  | 5 => exact ld_tile x 64 320 _ i d (by decide) (by decide)
  | 6 => exact ld_tile x 64 384 _ i d (by decide) (by decide)
  | 7 => exact ld_tile x 64 448 _ i d (by decide) (by decide)

theorem late_tied (x0 x1 x2 : FVec Ideal S128x512 .f32) (x3 x4 : FVec Ideal S128x128 .f32)
    (x5 x6 : FVec Ideal S2x8x64x64 .f32) (x7 : FVec Ideal S128x512 .f32) (dS : FVec Ideal S8x64x64 .f32) : Tied (late x0 x1 x2 x3 x4 x5 x6 x7 dS) := by
  constructor
  · intro h j; unfold late; dsimp only; rw [grOf_at, gcOf_at]
  · intro h; unfold late; dsimp only; rw [glOf_at, gcOf_at]

/-- The chunk read off a point's blocks is the one whose arrays those blocks hold. -/
theorem toChunk_late (x : Inputs) (n : Fin 64) (x0 x1 x2 : FVec Ideal S128x512 .f32) (x3 x4 : FVec Ideal S128x128 .f32)
    (x5 x6 : FVec Ideal S2x8x64x64 .f32) (x7 : FVec Ideal S128x512 .f32) (dS : FVec Ideal S8x64x64 .f32)
    (h0 : ∀ (i : Fin 64) l, x0 (ix2 ⟨64 + i.val, by omega⟩ l) = x.q (Inputs.row n i) l)
    (h1 : ∀ (i : Fin 64) l, x1 (ix2 ⟨64 + i.val, by omega⟩ l) = x.k (Inputs.row n i) l)
    (h2 : ∀ (i : Fin 64) l, x2 (ix2 ⟨64 + i.val, by omega⟩ l) = x.v (Inputs.row n i) l)
    (h3 : ∀ (i : Fin 64) l, x3 (ix2 ⟨64 + i.val, by omega⟩ l) = x.bt (Inputs.row n i) l)
    (h4 : ∀ (i : Fin 64) l, x4 (ix2 ⟨64 + i.val, by omega⟩ l) = x.gt (Inputs.row n i) l)
    (h5 : ∀ h i d, x5 (ix4 1 h i d) = x.sh n h i d)
    (h6 : ∀ h i d, x6 (ix4 1 h i d) = x.ph n h i d)
    (h7 : ∀ (i : Fin 64) l, x7 (ix2 ⟨64 + i.val, by omega⟩ l) = x.dO (Inputs.row n i) l) :
    toChunk (late x0 x1 x2 x3 x4 x5 x6 x7 dS) = x.chunk n fun h i d => dS (ix3 h i d) := by
  unfold toChunk late Inputs.chunk
  simp only [Chunk.mk.injEq]
  refine ⟨?_, ?_, ?_, ?_, ?_, ?_, trivial, ?_, ?_⟩
  · funext h i d; rw [late_heads, h0]
  · funext h i d; rw [late_heads, h1]
  · funext h i d; rw [late_heads, h2]
  · funext h i d; rw [stateOf_at, ld_state _ 1 _ (by decide)]; exact h6 h i d
  · funext h i d; rw [stateOf_at, ld_state _ 1 _ (by decide)]; exact h5 h i d
  · funext h i d; rw [late_heads, h7]
  · funext h i; rw [gcOf_at, ld_lanes _ 64 _ _ _ (by decide), h4]
  · funext h i; rw [betaOf_at, ld_lanes _ 64 _ _ _ (by decide), h3]

/-- The heads of rows 0 to 63 of a block. -/
theorem early_heads (x : FVec Ideal S128x512 .f32) (h : Fin 8) (i d : Fin 64) :
    heads (View.ld (Val := Elt Ideal) (e' := .f32) x (Rect.unit ![0, 0] S64x64.size inb_S128x512_S64x64_0_0)) (View.ld (Val := Elt Ideal) (e' := .f32) x (Rect.unit ![0, 64] S64x64.size inb_S128x512_S64x64_0_64)) (View.ld (Val := Elt Ideal) (e' := .f32) x (Rect.unit ![0, 128] S64x64.size inb_S128x512_S64x64_0_128)) (View.ld (Val := Elt Ideal) (e' := .f32) x (Rect.unit ![0, 192] S64x64.size inb_S128x512_S64x64_0_192)) (View.ld (Val := Elt Ideal) (e' := .f32) x (Rect.unit ![0, 256] S64x64.size inb_S128x512_S64x64_0_256)) (View.ld (Val := Elt Ideal) (e' := .f32) x (Rect.unit ![0, 320] S64x64.size inb_S128x512_S64x64_0_320)) (View.ld (Val := Elt Ideal) (e' := .f32) x (Rect.unit ![0, 384] S64x64.size inb_S128x512_S64x64_0_384)) (View.ld (Val := Elt Ideal) (e' := .f32) x (Rect.unit ![0, 448] S64x64.size inb_S128x512_S64x64_0_448)) (ix3 h i d)
      = x (ix2 ⟨0 + i.val, by omega⟩ (Inputs.lane h d)) := by
  rw [heads_at]
  match h with
  | 0 => exact ld_tile x 0 0 _ i d (by decide) (by decide)
  | 1 => exact ld_tile x 0 64 _ i d (by decide) (by decide)
  | 2 => exact ld_tile x 0 128 _ i d (by decide) (by decide)
  | 3 => exact ld_tile x 0 192 _ i d (by decide) (by decide)
  | 4 => exact ld_tile x 0 256 _ i d (by decide) (by decide)
  | 5 => exact ld_tile x 0 320 _ i d (by decide) (by decide)
  | 6 => exact ld_tile x 0 384 _ i d (by decide) (by decide)
  | 7 => exact ld_tile x 0 448 _ i d (by decide) (by decide)

theorem early_tied (x0 x1 x2 : FVec Ideal S128x512 .f32) (x3 x4 : FVec Ideal S128x128 .f32)
    (x5 x6 : FVec Ideal S2x8x64x64 .f32) (x7 : FVec Ideal S128x512 .f32) (dS : FVec Ideal S8x64x64 .f32) : Tied (early x0 x1 x2 x3 x4 x5 x6 x7 dS) := by
  constructor
  · intro h j; unfold early; dsimp only; rw [grOf_at, gcOf_at]
  · intro h; unfold early; dsimp only; rw [glOf_at, gcOf_at]

/-- The chunk read off a point's blocks is the one whose arrays those blocks hold. -/
theorem toChunk_early (x : Inputs) (n : Fin 64) (x0 x1 x2 : FVec Ideal S128x512 .f32) (x3 x4 : FVec Ideal S128x128 .f32)
    (x5 x6 : FVec Ideal S2x8x64x64 .f32) (x7 : FVec Ideal S128x512 .f32) (dS : FVec Ideal S8x64x64 .f32)
    (h0 : ∀ (i : Fin 64) l, x0 (ix2 ⟨0 + i.val, by omega⟩ l) = x.q (Inputs.row n i) l)
    (h1 : ∀ (i : Fin 64) l, x1 (ix2 ⟨0 + i.val, by omega⟩ l) = x.k (Inputs.row n i) l)
    (h2 : ∀ (i : Fin 64) l, x2 (ix2 ⟨0 + i.val, by omega⟩ l) = x.v (Inputs.row n i) l)
    (h3 : ∀ (i : Fin 64) l, x3 (ix2 ⟨0 + i.val, by omega⟩ l) = x.bt (Inputs.row n i) l)
    (h4 : ∀ (i : Fin 64) l, x4 (ix2 ⟨0 + i.val, by omega⟩ l) = x.gt (Inputs.row n i) l)
    (h5 : ∀ h i d, x5 (ix4 0 h i d) = x.sh n h i d)
    (h6 : ∀ h i d, x6 (ix4 0 h i d) = x.ph n h i d)
    (h7 : ∀ (i : Fin 64) l, x7 (ix2 ⟨0 + i.val, by omega⟩ l) = x.dO (Inputs.row n i) l) :
    toChunk (early x0 x1 x2 x3 x4 x5 x6 x7 dS) = x.chunk n fun h i d => dS (ix3 h i d) := by
  unfold toChunk early Inputs.chunk
  simp only [Chunk.mk.injEq]
  refine ⟨?_, ?_, ?_, ?_, ?_, ?_, trivial, ?_, ?_⟩
  · funext h i d; rw [early_heads, h0]
  · funext h i d; rw [early_heads, h1]
  · funext h i d; rw [early_heads, h2]
  · funext h i d; rw [stateOf_at, ld_state _ 0 _ (by decide)]; exact h6 h i d
  · funext h i d; rw [stateOf_at, ld_state _ 0 _ (by decide)]; exact h5 h i d
  · funext h i d; rw [early_heads, h7]
  · funext h i; rw [gcOf_at, ld_lanes _ 0 _ _ _ (by decide), h4]
  · funext h i; rw [betaOf_at, ld_lanes _ 0 _ _ _ (by decide), h3]

/-! ## Stores -/

theorem head0_at (x : FVec Ideal S8x64x64 .f32) (y : S64x64.Idx) (h : Fin 8) (i d : Fin 64) (hh : h.val = 0) (hi : i.val = (y 0).val)
    (hd : d.val = (y 1).val) : head0 x y = x (ix3 h i d) := by
  obtain rfl : h = 0 := Fin.ext hh
  obtain rfl : i = y 0 := Fin.ext hi
  obtain rfl : d = y 1 := Fin.ext hd
  have e : y = ix2 (y 0) (y 1) := by funext a; match a with | 0 => rfl | 1 => rfl
  rw [e]; unfold head0; pointwise

theorem head1_at (x : FVec Ideal S8x64x64 .f32) (y : S64x64.Idx) (h : Fin 8) (i d : Fin 64) (hh : h.val = 1) (hi : i.val = (y 0).val)
    (hd : d.val = (y 1).val) : head1 x y = x (ix3 h i d) := by
  obtain rfl : h = 1 := Fin.ext hh
  obtain rfl : i = y 0 := Fin.ext hi
  obtain rfl : d = y 1 := Fin.ext hd
  have e : y = ix2 (y 0) (y 1) := by funext a; match a with | 0 => rfl | 1 => rfl
  rw [e]; unfold head1; pointwise

theorem head2_at (x : FVec Ideal S8x64x64 .f32) (y : S64x64.Idx) (h : Fin 8) (i d : Fin 64) (hh : h.val = 2) (hi : i.val = (y 0).val)
    (hd : d.val = (y 1).val) : head2 x y = x (ix3 h i d) := by
  obtain rfl : h = 2 := Fin.ext hh
  obtain rfl : i = y 0 := Fin.ext hi
  obtain rfl : d = y 1 := Fin.ext hd
  have e : y = ix2 (y 0) (y 1) := by funext a; match a with | 0 => rfl | 1 => rfl
  rw [e]; unfold head2; pointwise

theorem head3_at (x : FVec Ideal S8x64x64 .f32) (y : S64x64.Idx) (h : Fin 8) (i d : Fin 64) (hh : h.val = 3) (hi : i.val = (y 0).val)
    (hd : d.val = (y 1).val) : head3 x y = x (ix3 h i d) := by
  obtain rfl : h = 3 := Fin.ext hh
  obtain rfl : i = y 0 := Fin.ext hi
  obtain rfl : d = y 1 := Fin.ext hd
  have e : y = ix2 (y 0) (y 1) := by funext a; match a with | 0 => rfl | 1 => rfl
  rw [e]; unfold head3; pointwise

theorem head4_at (x : FVec Ideal S8x64x64 .f32) (y : S64x64.Idx) (h : Fin 8) (i d : Fin 64) (hh : h.val = 4) (hi : i.val = (y 0).val)
    (hd : d.val = (y 1).val) : head4 x y = x (ix3 h i d) := by
  obtain rfl : h = 4 := Fin.ext hh
  obtain rfl : i = y 0 := Fin.ext hi
  obtain rfl : d = y 1 := Fin.ext hd
  have e : y = ix2 (y 0) (y 1) := by funext a; match a with | 0 => rfl | 1 => rfl
  rw [e]; unfold head4; pointwise

theorem head5_at (x : FVec Ideal S8x64x64 .f32) (y : S64x64.Idx) (h : Fin 8) (i d : Fin 64) (hh : h.val = 5) (hi : i.val = (y 0).val)
    (hd : d.val = (y 1).val) : head5 x y = x (ix3 h i d) := by
  obtain rfl : h = 5 := Fin.ext hh
  obtain rfl : i = y 0 := Fin.ext hi
  obtain rfl : d = y 1 := Fin.ext hd
  have e : y = ix2 (y 0) (y 1) := by funext a; match a with | 0 => rfl | 1 => rfl
  rw [e]; unfold head5; pointwise

theorem head6_at (x : FVec Ideal S8x64x64 .f32) (y : S64x64.Idx) (h : Fin 8) (i d : Fin 64) (hh : h.val = 6) (hi : i.val = (y 0).val)
    (hd : d.val = (y 1).val) : head6 x y = x (ix3 h i d) := by
  obtain rfl : h = 6 := Fin.ext hh
  obtain rfl : i = y 0 := Fin.ext hi
  obtain rfl : d = y 1 := Fin.ext hd
  have e : y = ix2 (y 0) (y 1) := by funext a; match a with | 0 => rfl | 1 => rfl
  rw [e]; unfold head6; pointwise

theorem head7_at (x : FVec Ideal S8x64x64 .f32) (y : S64x64.Idx) (h : Fin 8) (i d : Fin 64) (hh : h.val = 7) (hi : i.val = (y 0).val)
    (hd : d.val = (y 1).val) : head7 x y = x (ix3 h i d) := by
  obtain rfl : h = 7 := Fin.ext hh
  obtain rfl : i = y 0 := Fin.ext hi
  obtain rfl : d = y 1 := Fin.ext hd
  have e : y = ix2 (y 0) (y 1) := by funext a; match a with | 0 => rfl | 1 => rfl
  rw [e]; unfold head7; pointwise

/-- Two stacks of heads laid into a block: the first in its upper rows, the second in its lower rows. -/
theorem canon_heads (E L : FVec Ideal S8x64x64 .f32) (r : Fin 128) (l : Fin 512) :
    View.canon (Val := Elt Ideal) (s := S128x512) (e := .f32)
      [ ⟨Rect.unit (s := S128x512) ![0, 448] S64x64.size inb_S128x512_S64x64_0_448, head7 E⟩,
        ⟨Rect.unit (s := S128x512) ![0, 384] S64x64.size inb_S128x512_S64x64_0_384, head6 E⟩,
        ⟨Rect.unit (s := S128x512) ![0, 320] S64x64.size inb_S128x512_S64x64_0_320, head5 E⟩,
        ⟨Rect.unit (s := S128x512) ![0, 256] S64x64.size inb_S128x512_S64x64_0_256, head4 E⟩,
        ⟨Rect.unit (s := S128x512) ![0, 192] S64x64.size inb_S128x512_S64x64_0_192, head3 E⟩,
        ⟨Rect.unit (s := S128x512) ![0, 128] S64x64.size inb_S128x512_S64x64_0_128, head2 E⟩,
        ⟨Rect.unit (s := S128x512) ![0, 64] S64x64.size inb_S128x512_S64x64_0_64, head1 E⟩,
        ⟨Rect.unit (s := S128x512) ![0, 0] S64x64.size inb_S128x512_S64x64_0_0, head0 E⟩,
        ⟨Rect.unit (s := S128x512) ![64, 448] S64x64.size inb_S128x512_S64x64_64_448, head7 L⟩,
        ⟨Rect.unit (s := S128x512) ![64, 384] S64x64.size inb_S128x512_S64x64_64_384, head6 L⟩,
        ⟨Rect.unit (s := S128x512) ![64, 320] S64x64.size inb_S128x512_S64x64_64_320, head5 L⟩,
        ⟨Rect.unit (s := S128x512) ![64, 256] S64x64.size inb_S128x512_S64x64_64_256, head4 L⟩,
        ⟨Rect.unit (s := S128x512) ![64, 192] S64x64.size inb_S128x512_S64x64_64_192, head3 L⟩,
        ⟨Rect.unit (s := S128x512) ![64, 128] S64x64.size inb_S128x512_S64x64_64_128, head2 L⟩,
        ⟨Rect.unit (s := S128x512) ![64, 64] S64x64.size inb_S128x512_S64x64_64_64, head1 L⟩,
        ⟨Rect.unit (s := S128x512) ![64, 0] S64x64.size inb_S128x512_S64x64_64_0, head0 L⟩] (ix2 r l)
      = (if r.val < 64 then E else L) (ix3 (Inputs.headOf l) ⟨r.val % 64, by omega⟩ (Inputs.laneOf l)) := by
  canon_tiles x h
  · have h0 : r.val = 0 + (x 0).val := by simpa using h0
    have h1 : l.val = 448 + (x 1).val := by simpa using h1
    rw [if_pos (by omega)]
    exact head7_at _ _ _ _ _ (show l.val / 64 = 7 by omega) (show r.val % 64 = _ by omega) (show l.val % 64 = _ by omega)
  · have h0 : r.val = 0 + (x 0).val := by simpa using h0
    have h1 : l.val = 384 + (x 1).val := by simpa using h1
    rw [if_pos (by omega)]
    exact head6_at _ _ _ _ _ (show l.val / 64 = 6 by omega) (show r.val % 64 = _ by omega) (show l.val % 64 = _ by omega)
  · have h0 : r.val = 0 + (x 0).val := by simpa using h0
    have h1 : l.val = 320 + (x 1).val := by simpa using h1
    rw [if_pos (by omega)]
    exact head5_at _ _ _ _ _ (show l.val / 64 = 5 by omega) (show r.val % 64 = _ by omega) (show l.val % 64 = _ by omega)
  · have h0 : r.val = 0 + (x 0).val := by simpa using h0
    have h1 : l.val = 256 + (x 1).val := by simpa using h1
    rw [if_pos (by omega)]
    exact head4_at _ _ _ _ _ (show l.val / 64 = 4 by omega) (show r.val % 64 = _ by omega) (show l.val % 64 = _ by omega)
  · have h0 : r.val = 0 + (x 0).val := by simpa using h0
    have h1 : l.val = 192 + (x 1).val := by simpa using h1
    rw [if_pos (by omega)]
    exact head3_at _ _ _ _ _ (show l.val / 64 = 3 by omega) (show r.val % 64 = _ by omega) (show l.val % 64 = _ by omega)
  · have h0 : r.val = 0 + (x 0).val := by simpa using h0
    have h1 : l.val = 128 + (x 1).val := by simpa using h1
    rw [if_pos (by omega)]
    exact head2_at _ _ _ _ _ (show l.val / 64 = 2 by omega) (show r.val % 64 = _ by omega) (show l.val % 64 = _ by omega)
  · have h0 : r.val = 0 + (x 0).val := by simpa using h0
    have h1 : l.val = 64 + (x 1).val := by simpa using h1
    rw [if_pos (by omega)]
    exact head1_at _ _ _ _ _ (show l.val / 64 = 1 by omega) (show r.val % 64 = _ by omega) (show l.val % 64 = _ by omega)
  · have h0 : r.val = 0 + (x 0).val := by simpa using h0
    have h1 : l.val = 0 + (x 1).val := by simpa using h1
    rw [if_pos (by omega)]
    exact head0_at _ _ _ _ _ (show l.val / 64 = 0 by omega) (show r.val % 64 = _ by omega) (show l.val % 64 = _ by omega)
  · have h0 : r.val = 64 + (x 0).val := by simpa using h0
    have h1 : l.val = 448 + (x 1).val := by simpa using h1
    rw [if_neg (by omega)]
    exact head7_at _ _ _ _ _ (show l.val / 64 = 7 by omega) (show r.val % 64 = _ by omega) (show l.val % 64 = _ by omega)
  · have h0 : r.val = 64 + (x 0).val := by simpa using h0
    have h1 : l.val = 384 + (x 1).val := by simpa using h1
    rw [if_neg (by omega)]
    exact head6_at _ _ _ _ _ (show l.val / 64 = 6 by omega) (show r.val % 64 = _ by omega) (show l.val % 64 = _ by omega)
  · have h0 : r.val = 64 + (x 0).val := by simpa using h0
    have h1 : l.val = 320 + (x 1).val := by simpa using h1
    rw [if_neg (by omega)]
    exact head5_at _ _ _ _ _ (show l.val / 64 = 5 by omega) (show r.val % 64 = _ by omega) (show l.val % 64 = _ by omega)
  · have h0 : r.val = 64 + (x 0).val := by simpa using h0
    have h1 : l.val = 256 + (x 1).val := by simpa using h1
    rw [if_neg (by omega)]
    exact head4_at _ _ _ _ _ (show l.val / 64 = 4 by omega) (show r.val % 64 = _ by omega) (show l.val % 64 = _ by omega)
  · have h0 : r.val = 64 + (x 0).val := by simpa using h0
    have h1 : l.val = 192 + (x 1).val := by simpa using h1
    rw [if_neg (by omega)]
    exact head3_at _ _ _ _ _ (show l.val / 64 = 3 by omega) (show r.val % 64 = _ by omega) (show l.val % 64 = _ by omega)
  · have h0 : r.val = 64 + (x 0).val := by simpa using h0
    have h1 : l.val = 128 + (x 1).val := by simpa using h1
    rw [if_neg (by omega)]
    exact head2_at _ _ _ _ _ (show l.val / 64 = 2 by omega) (show r.val % 64 = _ by omega) (show l.val % 64 = _ by omega)
  · have h0 : r.val = 64 + (x 0).val := by simpa using h0
    have h1 : l.val = 64 + (x 1).val := by simpa using h1
    rw [if_neg (by omega)]
    exact head1_at _ _ _ _ _ (show l.val / 64 = 1 by omega) (show r.val % 64 = _ by omega) (show l.val % 64 = _ by omega)
  · have h0 : r.val = 64 + (x 0).val := by simpa using h0
    have h1 : l.val = 0 + (x 1).val := by simpa using h1
    rw [if_neg (by omega)]
    exact head0_at _ _ _ _ _ (show l.val / 64 = 0 by omega) (show r.val % 64 = _ by omega) (show l.val % 64 = _ by omega)

/-- Two arrays of lanes laid into a block. -/
theorem canon_lanes (E L : FVec Ideal S64x128 .f32) (r : Fin 128) (l : Fin 128) :
    View.canon (Val := Elt Ideal) (s := S128x128) (e := .f32)
      [⟨Rect.unit (s := S128x128) ![0, 0] S64x128.size inb_S128x128_S64x128_0_0, E⟩,
        ⟨Rect.unit (s := S128x128) ![64, 0] S64x128.size inb_S128x128_S64x128_64_0, L⟩] (ix2 r l)
      = (if r.val < 64 then E else L) (ix2 ⟨r.val % 64, by omega⟩ l) := by
  canon_tiles x h
  · have h0 : r.val = 0 + (x 0).val := by simpa using h0
    have h1 : l.val = (x 1).val := by simpa using h1
    rw [if_pos (by omega)]
    refine congrArg _ (funext fun a => ?_)
    match a with
    | 0 => exact Fin.ext (show (x 0).val = r.val % 64 by omega)
    | 1 => exact Fin.ext (show (x 1).val = l.val by omega)
  · have h0 : r.val = 64 + (x 0).val := by simpa using h0
    have h1 : l.val = (x 1).val := by simpa using h1
    rw [if_neg (by omega)]
    refine congrArg _ (funext fun a => ?_)
    match a with
    | 0 => exact Fin.ext (show (x 0).val = r.val % 64 by omega)
    | 1 => exact Fin.ext (show (x 1).val = l.val by omega)

theorem betaOut_at (x : FVec Ideal S8x64x1 .f32) (i : Fin 64) (j : Fin 128) :
    betaOut x (ix2 i j) = if h : j.val < 8 then x (ix3 ⟨j.val, h⟩ i 0) else 0 := by
  unfold betaOut; pointwise
  simp only [select_eq32 _ _ j.isLt (by decide : (0 : ℕ) < 128), select_eq32 _ _ j.isLt (by decide : (1 : ℕ) < 128), select_eq32 _ _ j.isLt (by decide : (2 : ℕ) < 128), select_eq32 _ _ j.isLt (by decide : (3 : ℕ) < 128), select_eq32 _ _ j.isLt (by decide : (4 : ℕ) < 128), select_eq32 _ _ j.isLt (by decide : (5 : ℕ) < 128), select_eq32 _ _ j.isLt (by decide : (6 : ℕ) < 128), select_eq32 _ _ j.isLt (by decide : (7 : ℕ) < 128)]
  obtain ⟨j, hj⟩ := j
  by_cases h : j < 8
  · rw [dif_pos h]; dsimp only
    interval_cases j <;> rfl
  · rw [dif_neg h]
    repeat' rw [if_neg (by dsimp only; omega)]

theorem gateOut_at (l : FVec Ideal S8x1x1 .f32) (r : FVec Ideal S8x1x64 .f32) (x : FVec Ideal S8x64x1 .f32) (i : Fin 64) (j : Fin 128) :
    gateOut l r x (ix2 i j) = if h : 8 ≤ j.val ∧ j.val < 16 then
      (x (ix3 ⟨j.val - 8, by omega⟩ i 0) + if i = 63 then l (ix3 ⟨j.val - 8, by omega⟩ 0 0) else 0) + r (ix3 ⟨j.val - 8, by omega⟩ 0 i) else 0 := by
  unfold gateOut; pointwise
  have hi : ∀ a b : EReal, Scalar.select (IntOp.cmpi .eq (BitVec.ofNat 32 i.val) (BitVec.ofNat 32 63)) a b = if i = 63 then a else b := by
    intro a b
    rw [select_eq32 _ _ (by omega) (by decide)]
    exact if_congr ⟨fun h => Fin.ext h, fun h => congrArg Fin.val h⟩ rfl rfl
  simp only [hi, select_eq32 _ _ j.isLt (by decide : (8 : ℕ) < 128), select_eq32 _ _ j.isLt (by decide : (9 : ℕ) < 128), select_eq32 _ _ j.isLt (by decide : (10 : ℕ) < 128), select_eq32 _ _ j.isLt (by decide : (11 : ℕ) < 128), select_eq32 _ _ j.isLt (by decide : (12 : ℕ) < 128), select_eq32 _ _ j.isLt (by decide : (13 : ℕ) < 128), select_eq32 _ _ j.isLt (by decide : (14 : ℕ) < 128), select_eq32 _ _ j.isLt (by decide : (15 : ℕ) < 128)]
  obtain ⟨j, hj⟩ := j
  by_cases h : 8 ≤ j ∧ j < 16
  · rw [dif_pos h]; dsimp only
    obtain ⟨h8, h16⟩ := h
    interval_cases j <;> rfl
  · rw [dif_neg h]
    repeat' rw [if_neg (by dsimp only; omega)]
    exact add_zero _

end Cert.KernelIdeal.Chain

end
-- ==== Proof.KernelAt.lean ====
module

public import proofs.«01_k».proof.Proof.Points
public import proofs.«01_k».proof.Proof.Blocks

@[expose] public section

/-! What the kernel leaves in its output arrays: the gradients of the sequence's arrays. -/

set_option maxRecDepth 16384

noncomputable section

namespace Cert.KernelIdeal.Chain

open Idealize.ShloMosaic Idealize.ShloMosaic.TcCoe Idealize.SL.Sem Idealize.ShloMosaic.Tactic
open Cert.KernelIdeal Cert.KernelIdeal.Gen

variable (m : (ℓ : Loc nD τ sig) → Buf (Elt Ideal) ℓ)

/-- The sequence's arrays on device `c`. -/
def inputs (c : Dev nD) : Inputs where
  q r l := m ((c : Thread nD τ).loc main_arg0) (ix2 r l)
  k r l := m ((c : Thread nD τ).loc main_arg1) (ix2 r l)
  v r l := m ((c : Thread nD τ).loc main_arg2) (ix2 r l)
  bt r l := m ((c : Thread nD τ).loc main_arg3) (ix2 r l)
  gt r l := m ((c : Thread nD τ).loc main_arg4) (ix2 r l)
  sh n h i d := m ((c : Thread nD τ).loc main_arg5) (ix4 n h i d)
  ph n h i d := m ((c : Thread nD τ).loc main_arg6) (ix4 n h i d)
  dO r l := m ((c : Thread nD τ).loc main_arg7) (ix2 r l)

/-- Point `t` takes block `31 - t` of every array. -/
theorem idx : ∀ t : Fin cfg0.N, win0_0.index t = ![31 - t.val, 0] ∧ win0_1.index t = ![31 - t.val, 0] ∧ win0_2.index t = ![31 - t.val, 0] ∧ win0_3.index t = ![31 - t.val, 0] ∧ win0_4.index t = ![31 - t.val, 0] ∧ win0_5.index t = ![31 - t.val, 0, 0, 0] ∧ win0_6.index t = ![31 - t.val, 0, 0, 0] ∧ win0_7.index t = ![31 - t.val, 0] ∧ win0_8.index t = ![31 - t.val, 0] ∧ win0_9.index t = ![31 - t.val, 0] ∧ win0_10.index t = ![31 - t.val, 0] ∧ win0_11.index t = ![31 - t.val, 0] ∧ win0_12.index t = ![31 - t.val, 0] :=
  (by decide +kernel : ∀ t : Fin grid0.N, win0_0.index t = ![31 - t.val, 0] ∧ win0_1.index t = ![31 - t.val, 0] ∧ win0_2.index t = ![31 - t.val, 0] ∧ win0_3.index t = ![31 - t.val, 0] ∧ win0_4.index t = ![31 - t.val, 0] ∧ win0_5.index t = ![31 - t.val, 0, 0, 0] ∧ win0_6.index t = ![31 - t.val, 0, 0, 0] ∧ win0_7.index t = ![31 - t.val, 0] ∧ win0_8.index t = ![31 - t.val, 0] ∧ win0_9.index t = ![31 - t.val, 0] ∧ win0_10.index t = ![31 - t.val, 0] ∧ win0_11.index t = ![31 - t.val, 0] ∧ win0_12.index t = ![31 - t.val, 0])

theorem points (t : Fin cfg0.N) : t.val < 32 := lt_of_lt_of_eq t.isLt (show cfg0.N = 32 from N_0)

theorem iblk0_at (c : Dev nD) (t : Fin cfg0.N) (r : Fin 128) (l : Fin 512) (R : Fin 4096) (hR : R.val = 128 * (31 - t.val) + r.val) :
    iblk m c 0 t (ix2 r l) = m ((c : Thread nD τ).loc main_arg0) (ix2 R l) := by
  blk_ext [iblk, V, idx t]

theorem iblk1_at (c : Dev nD) (t : Fin cfg0.N) (r : Fin 128) (l : Fin 512) (R : Fin 4096) (hR : R.val = 128 * (31 - t.val) + r.val) :
    iblk m c 1 t (ix2 r l) = m ((c : Thread nD τ).loc main_arg1) (ix2 R l) := by
  blk_ext [iblk, V, idx t]

theorem iblk2_at (c : Dev nD) (t : Fin cfg0.N) (r : Fin 128) (l : Fin 512) (R : Fin 4096) (hR : R.val = 128 * (31 - t.val) + r.val) :
    iblk m c 2 t (ix2 r l) = m ((c : Thread nD τ).loc main_arg2) (ix2 R l) := by
  blk_ext [iblk, V, idx t]

theorem iblk3_at (c : Dev nD) (t : Fin cfg0.N) (r : Fin 128) (l : Fin 128) (R : Fin 4096) (hR : R.val = 128 * (31 - t.val) + r.val) :
    iblk m c 3 t (ix2 r l) = m ((c : Thread nD τ).loc main_arg3) (ix2 R l) := by
  blk_ext [iblk, V, idx t]

theorem iblk4_at (c : Dev nD) (t : Fin cfg0.N) (r : Fin 128) (l : Fin 128) (R : Fin 4096) (hR : R.val = 128 * (31 - t.val) + r.val) :
    iblk m c 4 t (ix2 r l) = m ((c : Thread nD τ).loc main_arg4) (ix2 R l) := by
  blk_ext [iblk, V, idx t]

theorem iblk7_at (c : Dev nD) (t : Fin cfg0.N) (r : Fin 128) (l : Fin 512) (R : Fin 4096) (hR : R.val = 128 * (31 - t.val) + r.val) :
    iblk m c 7 t (ix2 r l) = m ((c : Thread nD τ).loc main_arg7) (ix2 R l) := by
  blk_ext [iblk, V, idx t]

theorem iblk5_at (c : Dev nD) (t : Fin cfg0.N) (s : Fin 2) (h : Fin 8) (i d : Fin 64) (n : Fin 64) (hn : n.val = 2 * (31 - t.val) + s.val) :
    iblk m c 5 t (ix4 s h i d) = m ((c : Thread nD τ).loc main_arg5) (ix4 n h i d) := by
  blk_ext [iblk, V, idx t]

theorem iblk6_at (c : Dev nD) (t : Fin cfg0.N) (s : Fin 2) (h : Fin 8) (i d : Fin 64) (n : Fin 64) (hn : n.val = 2 * (31 - t.val) + s.val) :
    iblk m c 6 t (ix4 s h i d) = m ((c : Thread nD τ).loc main_arg6) (ix4 n h i d) := by
  blk_ext [iblk, V, idx t]

theorem lateAt_tied (c : Dev nD) (t : Fin cfg0.N) (dS : FVec Ideal S8x64x64 .f32) : Tied (lateAt m c t dS) :=
  late_tied _ _ _ _ _ _ _ _ _

theorem toChunk_lateAt (c : Dev nD) (t : Fin cfg0.N) (dS : FVec Ideal S8x64x64 .f32) :
    toChunk (lateAt m c t dS) = (inputs m c).chunk (Inputs.nth (2 * t.val)) fun h i d => dS (ix3 h i d) := by
  have ht := points t
  refine toChunk_late (inputs m c) (Inputs.nth (2 * t.val)) _ _ _ _ _ _ _ _ _ ?_ ?_ ?_ ?_ ?_ ?_ ?_ ?_
  · exact fun i l => iblk0_at m c t _ l _ (by simp only [Inputs.row, Inputs.nth]; omega)
  · exact fun i l => iblk1_at m c t _ l _ (by simp only [Inputs.row, Inputs.nth]; omega)
  · exact fun i l => iblk2_at m c t _ l _ (by simp only [Inputs.row, Inputs.nth]; omega)
  · exact fun i l => iblk3_at m c t _ l _ (by simp only [Inputs.row, Inputs.nth]; omega)
  · exact fun i l => iblk4_at m c t _ l _ (by simp only [Inputs.row, Inputs.nth]; omega)
  · exact fun h i d => iblk5_at m c t _ h i d _ (by simp only [Inputs.nth]; omega)
  · exact fun h i d => iblk6_at m c t _ h i d _ (by simp only [Inputs.nth]; omega)
  · exact fun i l => iblk7_at m c t _ l _ (by simp only [Inputs.row, Inputs.nth]; omega)

theorem earlyAt_tied (c : Dev nD) (t : Fin cfg0.N) (dS : FVec Ideal S8x64x64 .f32) : Tied (earlyAt m c t dS) :=
  early_tied _ _ _ _ _ _ _ _ _

theorem toChunk_earlyAt (c : Dev nD) (t : Fin cfg0.N) (dS : FVec Ideal S8x64x64 .f32) :
    toChunk (earlyAt m c t dS) = (inputs m c).chunk (Inputs.nth (2 * t.val + 1)) fun h i d => (dSin (lateAt m c t dS)) (ix3 h i d) := by
  have ht := points t
  refine toChunk_early (inputs m c) (Inputs.nth (2 * t.val + 1)) _ _ _ _ _ _ _ _ _ ?_ ?_ ?_ ?_ ?_ ?_ ?_ ?_
  · exact fun i l => iblk0_at m c t _ l _ (by simp only [Inputs.row, Inputs.nth]; omega)
  · exact fun i l => iblk1_at m c t _ l _ (by simp only [Inputs.row, Inputs.nth]; omega)
  · exact fun i l => iblk2_at m c t _ l _ (by simp only [Inputs.row, Inputs.nth]; omega)
  · exact fun i l => iblk3_at m c t _ l _ (by simp only [Inputs.row, Inputs.nth]; omega)
  · exact fun i l => iblk4_at m c t _ l _ (by simp only [Inputs.row, Inputs.nth]; omega)
  · exact fun h i d => iblk5_at m c t _ h i d _ (by simp only [Inputs.nth]; omega)
  · exact fun h i d => iblk6_at m c t _ h i d _ (by simp only [Inputs.nth]; omega)
  · exact fun i l => iblk7_at m c t _ l _ (by simp only [Inputs.row, Inputs.nth]; omega)

/-- What is carried into point `t`. -/
def carried (c : Dev nD) (t : Fin cfg0.N) : FVec Ideal S8x64x64 .f32 :=
  if t.val % 32 = 0 then carry0 else carry (outsAt0 m c (t.val - 1) (by have := t.isLt; omega)).2.2.2.2.2

theorem left (c : Dev nD) (t : Fin cfg0.N) :
    (outsAt0 m c t.val t.isLt).1 = dqBlk m c t (carried m c t)
    ∧ (outsAt0 m c t.val t.isLt).2.1 = dkBlk m c t (carried m c t)
    ∧ (outsAt0 m c t.val t.isLt).2.2.1 = dvBlk m c t (carried m c t)
    ∧ (outsAt0 m c t.val t.isLt).2.2.2.1 = dbBlk m c t (carried m c t)
    ∧ (outsAt0 m c t.val t.isLt).2.2.2.2.1 = dgBlk m c t (carried m c t)
    ∧ (outsAt0 m c t.val t.isLt).2.2.2.2.2 = k0_pay1 (dSin (earlyAt m c t (carried m c t))) := by
  by_cases h0 : t.val % 32 = 0
  · have e : carried m c t = carry0 := if_pos h0
    rw [e]
    exact ⟨left8_A m c t h0, left9_A m c t h0, left10_A m c t h0, left11_A m c t h0, left12_A m c t h0, lefts_A m c t h0⟩
  · have e : carried m c t = carry (outsAt0 m c (t.val - 1) (by have := t.isLt; omega)).2.2.2.2.2 := if_neg h0
    rw [e]
    exact ⟨left8_B m c t h0, left9_B m c t h0, left10_B m c t h0, left11_B m c t h0, left12_B m c t h0, lefts_B m c t h0⟩

theorem carry0_at (h : Fin 8) (i d : Fin 64) : carry0 (F := Ideal) (ix3 h i d) = 0 := by
  unfold carry0 k0_pay48 k0_pay2; pointwise

theorem carry_at (x : FVec Ideal S8x64x64 .f32) (h : Fin 8) (i d : Fin 64) : carry x (ix3 h i d) = x (ix3 h i d) := by
  unfold carry k0_pay48; pointwise

theorem pay1_at (x : FVec Ideal S8x64x64 .f32) (h : Fin 8) (i d : Fin 64) : k0_pay1 x (ix3 h i d) = x (ix3 h i d) := by
  unfold k0_pay1; pointwise

/-- The later chunk's gradient into the earlier one, from what is carried in. -/
theorem late_dSin (c : Dev nD) (t : Fin cfg0.N) (dS : FVec Ideal S8x64x64 .f32)
    (hS : (fun h i d => dS (ix3 h i d)) = (inputs m c).dState (2 * t.val)) :
    (fun h i d => dSin (lateAt m c t dS) (ix3 h i d)) = (inputs m c).dState (2 * t.val + 1) := by
  funext h i d
  rw [dSin_at _ (lateAt_tied m c t dS), toChunk_lateAt, hS]; rfl

theorem early_dSin (c : Dev nD) (t : Fin cfg0.N) (dS : FVec Ideal S8x64x64 .f32)
    (hS : (fun h i d => dS (ix3 h i d)) = (inputs m c).dState (2 * t.val)) :
    (fun h i d => dSin (earlyAt m c t dS) (ix3 h i d)) = (inputs m c).dState (2 * t.val + 2) := by
  funext h i d
  rw [dSin_at _ (earlyAt_tied m c t dS), toChunk_earlyAt, late_dSin m c t dS hS]; rfl

/-- The gradient carried into point `t` is that of the state after its later chunk. -/
theorem carried_at (c : Dev nD) : ∀ (n : ℕ) (hn : n < cfg0.N),
    (fun h i d => carried m c ⟨n, hn⟩ (ix3 h i d)) = (inputs m c).dState (2 * n) := by
  intro n
  induction n with
  | zero =>
    intro hn
    funext h i d
    have e : carried m c ⟨0, hn⟩ = carry0 := if_pos rfl
    rw [e, carry0_at]; rfl
  | succ n ih =>
    intro hn
    have hN := points ⟨n + 1, hn⟩
    have hn' : n < cfg0.N := by omega
    have e : carried m c ⟨n + 1, hn⟩ = carry (outsAt0 m c n hn').2.2.2.2.2 := if_neg (by dsimp only at hN ⊢; omega)
    have e2 := (left m c ⟨n, hn'⟩).2.2.2.2.2
    funext h i d
    rw [e, carry_at]
    rw [show (outsAt0 m c n hn').2.2.2.2.2 = _ from e2, pay1_at]
    exact congrFun (congrFun (congrFun (early_dSin m c ⟨n, hn'⟩ _ (ih hn')) h) i) d

theorem chunk_late (c : Dev nD) (t : Fin cfg0.N) :
    toChunk (lateAt m c t (carried m c t)) = (inputs m c).at' (Inputs.nth (2 * t.val)) := by
  rw [toChunk_lateAt, carried_at m c t.val t.isLt, Inputs.at'_nth _ _ (by have := points t; omega)]

theorem chunk_early (c : Dev nD) (t : Fin cfg0.N) :
    toChunk (earlyAt m c t (carried m c t)) = (inputs m c).at' (Inputs.nth (2 * t.val + 1)) := by
  rw [toChunk_earlyAt, late_dSin m c t _ (carried_at m c t.val t.isLt), Inputs.at'_nth _ _ (by have := points t; omega)]

theorem dqBlk_at (c : Dev nD) (t : Fin cfg0.N) (r : Fin 128) (l : Fin 512) (R : Fin 4096) (hR : R.val = 128 * (31 - t.val) + r.val) :
    dqBlk m c t (carried m c t) (ix2 r l) = (inputs m c).dq R l := by
  have ht := points t
  refine (canon_heads _ _ r l).trans ?_
  unfold Inputs.dq
  by_cases h : r.val < 64
  · rw [if_pos h, dq_at _ (earlyAt_tied m c t _), chunk_early]
    rw [show Inputs.nth (2 * t.val + 1) = Inputs.chunkOf R from Fin.ext (by simp only [Inputs.nth, Inputs.chunkOf]; omega),
      show (⟨r.val % 64, by omega⟩ : Fin 64) = Inputs.rowOf R from Fin.ext (by simp only [Inputs.rowOf]; omega)]
  · rw [if_neg h, dq_at _ (lateAt_tied m c t _), chunk_late]
    rw [show Inputs.nth (2 * t.val) = Inputs.chunkOf R from Fin.ext (by simp only [Inputs.nth, Inputs.chunkOf]; omega),
      show (⟨r.val % 64, by omega⟩ : Fin 64) = Inputs.rowOf R from Fin.ext (by simp only [Inputs.rowOf]; omega)]

theorem dkBlk_at (c : Dev nD) (t : Fin cfg0.N) (r : Fin 128) (l : Fin 512) (R : Fin 4096) (hR : R.val = 128 * (31 - t.val) + r.val) :
    dkBlk m c t (carried m c t) (ix2 r l) = (inputs m c).dk R l := by
  have ht := points t
  refine (canon_heads _ _ r l).trans ?_
  unfold Inputs.dk
  by_cases h : r.val < 64
  · rw [if_pos h, dk_at _ (earlyAt_tied m c t _), chunk_early]
    rw [show Inputs.nth (2 * t.val + 1) = Inputs.chunkOf R from Fin.ext (by simp only [Inputs.nth, Inputs.chunkOf]; omega),
      show (⟨r.val % 64, by omega⟩ : Fin 64) = Inputs.rowOf R from Fin.ext (by simp only [Inputs.rowOf]; omega)]
  · rw [if_neg h, dk_at _ (lateAt_tied m c t _), chunk_late]
    rw [show Inputs.nth (2 * t.val) = Inputs.chunkOf R from Fin.ext (by simp only [Inputs.nth, Inputs.chunkOf]; omega),
      show (⟨r.val % 64, by omega⟩ : Fin 64) = Inputs.rowOf R from Fin.ext (by simp only [Inputs.rowOf]; omega)]

theorem dvBlk_at (c : Dev nD) (t : Fin cfg0.N) (r : Fin 128) (l : Fin 512) (R : Fin 4096) (hR : R.val = 128 * (31 - t.val) + r.val) :
    dvBlk m c t (carried m c t) (ix2 r l) = (inputs m c).dv R l := by
  have ht := points t
  refine (canon_heads _ _ r l).trans ?_
  unfold Inputs.dv
  by_cases h : r.val < 64
  · rw [if_pos h, dv_at _ (earlyAt_tied m c t _), chunk_early]
    rw [show Inputs.nth (2 * t.val + 1) = Inputs.chunkOf R from Fin.ext (by simp only [Inputs.nth, Inputs.chunkOf]; omega),
      show (⟨r.val % 64, by omega⟩ : Fin 64) = Inputs.rowOf R from Fin.ext (by simp only [Inputs.rowOf]; omega)]
  · rw [if_neg h, dv_at _ (lateAt_tied m c t _), chunk_late]
    rw [show Inputs.nth (2 * t.val) = Inputs.chunkOf R from Fin.ext (by simp only [Inputs.nth, Inputs.chunkOf]; omega),
      show (⟨r.val % 64, by omega⟩ : Fin 64) = Inputs.rowOf R from Fin.ext (by simp only [Inputs.rowOf]; omega)]

theorem dbBlk_at (c : Dev nD) (t : Fin cfg0.N) (r : Fin 128) (l : Fin 128) (R : Fin 4096) (hR : R.val = 128 * (31 - t.val) + r.val) :
    dbBlk m c t (carried m c t) (ix2 r l) = (inputs m c).dbt R l := by
  have ht := points t
  refine (canon_lanes _ _ r l).trans ?_
  unfold Inputs.dbt
  by_cases h : r.val < 64
  · rw [if_pos h, betaOut_at]
    simp only [dbeta_at _ (earlyAt_tied m c t _), chunk_early]
    rw [show Inputs.nth (2 * t.val + 1) = Inputs.chunkOf R from Fin.ext (by simp only [Inputs.nth, Inputs.chunkOf]; omega),
      show (⟨r.val % 64, by omega⟩ : Fin 64) = Inputs.rowOf R from Fin.ext (by simp only [Inputs.rowOf]; omega)]
    try rfl
  · rw [if_neg h, betaOut_at]
    simp only [dbeta_at _ (lateAt_tied m c t _), chunk_late]
    rw [show Inputs.nth (2 * t.val) = Inputs.chunkOf R from Fin.ext (by simp only [Inputs.nth, Inputs.chunkOf]; omega),
      show (⟨r.val % 64, by omega⟩ : Fin 64) = Inputs.rowOf R from Fin.ext (by simp only [Inputs.rowOf]; omega)]
    try rfl

theorem dgBlk_at (c : Dev nD) (t : Fin cfg0.N) (r : Fin 128) (l : Fin 128) (R : Fin 4096) (hR : R.val = 128 * (31 - t.val) + r.val) :
    dgBlk m c t (carried m c t) (ix2 r l) = (inputs m c).dgt R l := by
  have ht := points t
  refine (canon_lanes _ _ r l).trans ?_
  unfold Inputs.dgt
  by_cases h : r.val < 64
  · rw [if_pos h, gateOut_at]
    simp only [dgc_at _ (earlyAt_tied m c t _), dgl_at _ (earlyAt_tied m c t _), dgr_at _ (earlyAt_tied m c t _), chunk_early]
    rw [show Inputs.nth (2 * t.val + 1) = Inputs.chunkOf R from Fin.ext (by simp only [Inputs.nth, Inputs.chunkOf]; omega),
      show (⟨r.val % 64, by omega⟩ : Fin 64) = Inputs.rowOf R from Fin.ext (by simp only [Inputs.rowOf]; omega)]
    try rfl
  · rw [if_neg h, gateOut_at]
    simp only [dgc_at _ (lateAt_tied m c t _), dgl_at _ (lateAt_tied m c t _), dgr_at _ (lateAt_tied m c t _), chunk_late]
    rw [show Inputs.nth (2 * t.val) = Inputs.chunkOf R from Fin.ext (by simp only [Inputs.nth, Inputs.chunkOf]; omega),
      show (⟨r.val % 64, by omega⟩ : Fin 64) = Inputs.rowOf R from Fin.ext (by simp only [Inputs.rowOf]; omega)]
    try rfl

theorem dqBlk_place (c : Dev nD) (t : Fin cfg0.N) (y : S128x512.Idx) (Y : S4096x512.Idx) (h0 : (Y 0).val = 128 * (31 - t.val) + (y 0).val)
    (h1 : (Y 1).val = (y 1).val) : dqBlk m c t (carried m c t) y = (inputs m c).dq (Y 0) (Y 1) := by
  have hy : y = ix2 (y 0) (y 1) := by funext a; match a with | 0 => rfl | 1 => rfl
  have e : (Y 1 : Fin 512) = y 1 := Fin.ext h1
  rw [hy]
  exact (dqBlk_at m c t (y 0) (y 1) (Y 0) h0).trans (by rw [e])

theorem final8 (c : Dev nD) : (dats m 0 c).arrAt 8 cfg0.N = fun y : S4096x512.Idx => (inputs m c).dq (y 0) (y 1) := by
  refine (dats m 0 c).arrAt_eq_of_covers 8 _ (by decide +kernel) fun t hf y => ?_
  have ht := points t
  blk_simp
  rw [after0_8, (left m c t).1]
  exact dqBlk_place m c t _ _ (by blk_simp [idx t]; omega) (by blk_simp [idx t])

theorem dkBlk_place (c : Dev nD) (t : Fin cfg0.N) (y : S128x512.Idx) (Y : S4096x512.Idx) (h0 : (Y 0).val = 128 * (31 - t.val) + (y 0).val)
    (h1 : (Y 1).val = (y 1).val) : dkBlk m c t (carried m c t) y = (inputs m c).dk (Y 0) (Y 1) := by
  have hy : y = ix2 (y 0) (y 1) := by funext a; match a with | 0 => rfl | 1 => rfl
  have e : (Y 1 : Fin 512) = y 1 := Fin.ext h1
  rw [hy]
  exact (dkBlk_at m c t (y 0) (y 1) (Y 0) h0).trans (by rw [e])

theorem final9 (c : Dev nD) : (dats m 0 c).arrAt 9 cfg0.N = fun y : S4096x512.Idx => (inputs m c).dk (y 0) (y 1) := by
  refine (dats m 0 c).arrAt_eq_of_covers 9 _ (by decide +kernel) fun t hf y => ?_
  have ht := points t
  blk_simp
  rw [after0_9, (left m c t).2.1]
  exact dkBlk_place m c t _ _ (by blk_simp [idx t]; omega) (by blk_simp [idx t])

theorem dvBlk_place (c : Dev nD) (t : Fin cfg0.N) (y : S128x512.Idx) (Y : S4096x512.Idx) (h0 : (Y 0).val = 128 * (31 - t.val) + (y 0).val)
    (h1 : (Y 1).val = (y 1).val) : dvBlk m c t (carried m c t) y = (inputs m c).dv (Y 0) (Y 1) := by
  have hy : y = ix2 (y 0) (y 1) := by funext a; match a with | 0 => rfl | 1 => rfl
  have e : (Y 1 : Fin 512) = y 1 := Fin.ext h1
  rw [hy]
  exact (dvBlk_at m c t (y 0) (y 1) (Y 0) h0).trans (by rw [e])

theorem final10 (c : Dev nD) : (dats m 0 c).arrAt 10 cfg0.N = fun y : S4096x512.Idx => (inputs m c).dv (y 0) (y 1) := by
  refine (dats m 0 c).arrAt_eq_of_covers 10 _ (by decide +kernel) fun t hf y => ?_
  have ht := points t
  blk_simp
  rw [after0_10, (left m c t).2.2.1]
  exact dvBlk_place m c t _ _ (by blk_simp [idx t]; omega) (by blk_simp [idx t])

theorem dbBlk_place (c : Dev nD) (t : Fin cfg0.N) (y : S128x128.Idx) (Y : S4096x128.Idx) (h0 : (Y 0).val = 128 * (31 - t.val) + (y 0).val)
    (h1 : (Y 1).val = (y 1).val) : dbBlk m c t (carried m c t) y = (inputs m c).dbt (Y 0) (Y 1) := by
  have hy : y = ix2 (y 0) (y 1) := by funext a; match a with | 0 => rfl | 1 => rfl
  have e : (Y 1 : Fin 128) = y 1 := Fin.ext h1
  rw [hy]
  exact (dbBlk_at m c t (y 0) (y 1) (Y 0) h0).trans (by rw [e])

theorem final11 (c : Dev nD) : (dats m 0 c).arrAt 11 cfg0.N = fun y : S4096x128.Idx => (inputs m c).dbt (y 0) (y 1) := by
  refine (dats m 0 c).arrAt_eq_of_covers 11 _ (by decide +kernel) fun t hf y => ?_
  have ht := points t
  blk_simp
  rw [after0_11, (left m c t).2.2.2.1]
  exact dbBlk_place m c t _ _ (by blk_simp [idx t]; omega) (by blk_simp [idx t])

theorem dgBlk_place (c : Dev nD) (t : Fin cfg0.N) (y : S128x128.Idx) (Y : S4096x128.Idx) (h0 : (Y 0).val = 128 * (31 - t.val) + (y 0).val)
    (h1 : (Y 1).val = (y 1).val) : dgBlk m c t (carried m c t) y = (inputs m c).dgt (Y 0) (Y 1) := by
  have hy : y = ix2 (y 0) (y 1) := by funext a; match a with | 0 => rfl | 1 => rfl
  have e : (Y 1 : Fin 128) = y 1 := Fin.ext h1
  rw [hy]
  exact (dgBlk_at m c t (y 0) (y 1) (Y 0) h0).trans (by rw [e])

theorem final12 (c : Dev nD) : (dats m 0 c).arrAt 12 cfg0.N = fun y : S4096x128.Idx => (inputs m c).dgt (y 0) (y 1) := by
  refine (dats m 0 c).arrAt_eq_of_covers 12 _ (by decide +kernel) fun t hf y => ?_
  have ht := points t
  blk_simp
  rw [after0_12, (left m c t).2.2.2.2.1]
  exact dgBlk_place m c t _ _ (by blk_simp [idx t]; omega) (by blk_simp [idx t])

end Cert.KernelIdeal.Chain

end
-- ==== Proof.TripAt.lean ====
module

public import proofs.«01_k».proof.Proof.Gen.ReferenceIdeal.Run
public import proofs.«01_k».proof.Proof.Sweep
public import proofs.«01_k».proof.Proof.ChainAt
public import Idealize.ShloMosaic.Lib.Pipeline.ValueKit
public import Idealize.ShloMosaic.Lib.WordCmp

@[expose] public section

/-! One trip of the reference's loop, its values at an index: each is the chunk's own function of the arrays the loop
carries. -/

set_option maxRecDepth 16384

noncomputable section

namespace Cert.ReferenceIdeal.Trip

open Idealize.ShloMosaic Idealize.ShloMosaic.TcCoe Idealize.SL.Sem Idealize.ShloMosaic.Tactic
open Cert.ReferenceIdeal Cert.ReferenceIdeal.Gen Cert.ReferenceIdeal.Value
open Cert.Inputs (row lane nth)

/-- What the loop carries before the trip numbered `s`: the arrays chunk by chunk, the trip's number and the state's
gradient. -/
structure Holds (x : Inputs) (s : ℕ) (V : Valuation τ sig (Elt Ideal)) : Prop where
  ctr : V (Proc.devRef .tc main_v20_8) = fun _ => BitVec.ofNat 32 s
  sh (n h i d) : V (Proc.devRef .tc main_v20_0) (ix4 n h i d) = x.sh n h i d
  ph (n h i d) : V (Proc.devRef .tc main_v20_1) (ix4 n h i d) = x.ph n h i d
  dO (n h i d) : V (Proc.devRef .tc main_v20_2) (ix4 n h i d) = x.dO (row n i) (lane h d)
  q (n h i d) : V (Proc.devRef .tc main_v20_3) (ix4 n h i d) = x.q (row n i) (lane h d)
  k (n h i d) : V (Proc.devRef .tc main_v20_4) (ix4 n h i d) = x.k (row n i) (lane h d)
  v (n h i d) : V (Proc.devRef .tc main_v20_5) (ix4 n h i d) = x.v (row n i) (lane h d)
  g (n h i) : V (Proc.devRef .tc main_v20_6) (ix3 n h i) = x.gt (row n i) ⟨8 + h.val, by omega⟩
  beta (n h i) : V (Proc.devRef .tc main_v20_7) (ix3 n h i) = x.bt (row n i) ⟨h.val, by omega⟩
  dS (h i d) : V (Proc.devRef .tc main_v20_9) (ix3 h i d) = x.dState s h i d

/-- The chunk of the trip numbered `s`. -/
def cur (x : Inputs) (s : ℕ) : Chunk := x.chunk (nth s) (x.dState s)

theorem slab4 (X : FVec Ideal S64x8x64x64 .f32) (w : IVec S_ 32) (n : Fin 64) (hw : w = fun _ => BitVec.ofNat 32 n.val)
    (h : Fin 8) (i d : Fin 64) :
    shapeCast S8x64x64 (Host.dynamicSlice S1x8x64x64 X (fun k => (((![w, constantI S_ 32 0#32, constantI S_ 32 0#32, constantI S_ 32 0#32] : Fin 4 → (⟨S_, .i32⟩ : BufTy).Contents (Elt Ideal))) k (Shape.Idx.first h_S_)).toInt) sliceFits_S64x8x64x64_S1x8x64x64) shapeCasts_S1x8x64x64_S8x64x64 (ix3 h i d)
      = X (ix4 n h i d) := by
  subst hw
  rw [Idealize.ShloMosaic.WordCmp.dynamicSlice_eq_extract S1x8x64x64 X _ _ ![n.val, 0, 0, 0]
    ⟨by decide, by intro a; fin_cases a <;> simp [S1x8x64x64, S64x8x64x64] <;> omega⟩
    (by
      intro a
      have hn : (BitVec.ofNat 32 n.val).toInt = (n.val : Int) := by revert n; decide +kernel
      fin_cases a
      · exact hn
      · rfl
      · rfl
      · rfl)]
  pointwise

theorem slab3 (X : FVec Ideal S64x8x64 .f32) (w : IVec S_ 32) (n : Fin 64) (hw : w = fun _ => BitVec.ofNat 32 n.val)
    (h : Fin 8) (i : Fin 64) :
    shapeCast S8x64 (Host.dynamicSlice S1x8x64 X (fun k => (((![w, constantI S_ 32 0#32, constantI S_ 32 0#32] : Fin 3 → (⟨S_, .i32⟩ : BufTy).Contents (Elt Ideal))) k (Shape.Idx.first h_S_)).toInt) sliceFits_S64x8x64_S1x8x64) shapeCasts_S1x8x64_S8x64 (ix2 h i)
      = X (ix3 n h i) := by
  subst hw
  rw [Idealize.ShloMosaic.WordCmp.dynamicSlice_eq_extract S1x8x64 X _ _ ![n.val, 0, 0]
    ⟨by decide, by intro a; fin_cases a <;> simp [S1x8x64, S64x8x64] <;> omega⟩
    (by
      intro a
      have hn : (BitVec.ofNat 32 n.val).toInt = (n.val : Int) := by revert n; decide +kernel
      fin_cases a
      · exact hn
      · rfl
      · rfl)]
  pointwise

theorem index_eq (x : Inputs) (s : ℕ) (V : Valuation τ sig (Elt Ideal)) (H : Holds x s V) (hs : s < 64) :
    res_main_while0b_v34 V = fun _ => BitVec.ofNat 32 (nth s).val := by
  unfold res_main_while0b_v34
  rw [H.ctr]
  funext y
  have : ∀ s : Fin 64, (64#32 - BitVec.ofNat 32 s.val) - 1#32 = BitVec.ofNat 32 (63 - s.val) := by decide +kernel
  exact this ⟨s, hs⟩

theorem mask45 (V : Valuation τ sig (Elt Ideal)) (i j : Fin 64) :
    res_main_while0b_v45 V (ix2 i j) = IntOp.cmpi .sge (BitVec.ofNat 32 i.val) (BitVec.ofNat 32 j.val) := by
  unfold res_main_while0b_v45 res_main_while0b_v43 res_main_while0b_v44; pointwise
theorem mask52 (V : Valuation τ sig (Elt Ideal)) (h : Fin 8) (i j : Fin 64) :
    res_main_while0b_v52_1 V (ix3 h i j) = IntOp.cmpi .sge (BitVec.ofNat 32 i.val) (BitVec.ofNat 32 j.val) := by
  unfold res_main_while0b_v52_1; pointwise; exact mask45 V i j
theorem mask54 (V : Valuation τ sig (Elt Ideal)) (h : Fin 8) (i j : Fin 64) :
    res_main_while0b_v54_1 V (ix3 h i j) = IntOp.cmpi .sge (BitVec.ofNat 32 i.val) (BitVec.ofNat 32 j.val) := by
  unfold res_main_while0b_v54_1; pointwise; exact mask45 V i j
theorem mask72 (V : Valuation τ sig (Elt Ideal)) (h : Fin 8) (i j : Fin 64) :
    res_main_while0b_v72_1 V (ix3 h i j) = IntOp.cmpi .sge (BitVec.ofNat 32 i.val) (BitVec.ofNat 32 j.val) := by
  unfold res_main_while0b_v72_1; pointwise; exact mask45 V i j
theorem mask63 (V : Valuation τ sig (Elt Ideal)) (h : Fin 8) (i j : Fin 64) :
    res_main_while0b_v63_1 V (ix3 h i j) = IntOp.cmpi .sgt (BitVec.ofNat 32 i.val) (BitVec.ofNat 32 j.val) := by
  unfold res_main_while0b_v63_1 res_main_while0b_v43 res_main_while0b_v44; pointwise

theorem sel_ge {α : Type} (i j : Fin 64) (a b : α) :
    Scalar.select (IntOp.cmpi .sge (BitVec.ofNat 32 i.val) (BitVec.ofNat 32 j.val)) a b = if j ≤ i then a else b := by
  rw [Cert.cmpi_ge]; by_cases h : j ≤ i <;> simp [h, Scalar.select]

theorem sel_gt {α : Type} (i j : Fin 64) (a b : α) :
    Scalar.select (IntOp.cmpi .sgt (BitVec.ofNat 32 i.val) (BitVec.ofNat 32 j.val)) a b = if j < i then a else b := by
  rw [Cert.cmpi_gt]; by_cases h : j < i <;> simp [h, Scalar.select]

theorem neg_eq (a : EReal) : -a = 0 - a := by
  rw [sub_eq_add_neg, zero_add]

section

variable {x : Inputs} {s : ℕ} {V : Valuation τ sig (Elt Ideal)} (H : Holds x s V) (hs : s < 64)
include H hs

theorem dS_at (h : Fin 8) (i d : Fin 64) : V (Proc.devRef .tc main_v20_9) (ix3 h i d) = (cur x s).dS h i d := H.dS h i d

theorem v35_at (h : Fin 8) (i d : Fin 64) : res_main_while0b_v35 V (ix3 h i d) = (cur x s).S h i d := by
  unfold res_main_while0b_v35; exact (slab4 _ _ (nth s) (index_eq x s V H hs) h i d).trans (H.sh _ _ _ _)

theorem v36_at (h : Fin 8) (i d : Fin 64) : res_main_while0b_v36 V (ix3 h i d) = (cur x s).T h i d := by
  unfold res_main_while0b_v36; exact (slab4 _ _ (nth s) (index_eq x s V H hs) h i d).trans (H.ph _ _ _ _)

theorem v37_at (h : Fin 8) (i d : Fin 64) : res_main_while0b_v37 V (ix3 h i d) = (cur x s).dO h i d := by
  unfold res_main_while0b_v37; exact (slab4 _ _ (nth s) (index_eq x s V H hs) h i d).trans (H.dO _ _ _ _)

theorem v38_at (h : Fin 8) (i d : Fin 64) : res_main_while0b_v38 V (ix3 h i d) = (cur x s).q h i d := by
  unfold res_main_while0b_v38; exact (slab4 _ _ (nth s) (index_eq x s V H hs) h i d).trans (H.q _ _ _ _)

theorem v39_at (h : Fin 8) (i d : Fin 64) : res_main_while0b_v39 V (ix3 h i d) = (cur x s).k h i d := by
  unfold res_main_while0b_v39; exact (slab4 _ _ (nth s) (index_eq x s V H hs) h i d).trans (H.k _ _ _ _)

theorem v40_at (h : Fin 8) (i d : Fin 64) : res_main_while0b_v40 V (ix3 h i d) = (cur x s).v h i d := by
  unfold res_main_while0b_v40; exact (slab4 _ _ (nth s) (index_eq x s V H hs) h i d).trans (H.v _ _ _ _)

theorem v41_at (h : Fin 8) (i : Fin 64) : res_main_while0b_v41 V (ix2 h i) = (cur x s).g h i := by
  unfold res_main_while0b_v41; exact (slab3 _ _ (nth s) (index_eq x s V H hs) h i).trans (H.g _ _ _)

theorem v42_at (h : Fin 8) (i : Fin 64) : res_main_while0b_v42 V (ix2 h i) = (cur x s).beta h i := by
  unfold res_main_while0b_v42; exact (slab3 _ _ (nth s) (index_eq x s V H hs) h i).trans (H.beta _ _ _)

theorem v53_at (h : Fin 8) (i j : Fin 64) : res_main_while0b_v53 V (ix3 h i j) = (cur x s).E h i j := by
  unfold res_main_while0b_v53; simp only [id]; pointwise; simp only [Chunk.E, v41_at H hs, mask52, sel_ge, sel_gt]

theorem v54_0_at (h : Fin 8) (i j : Fin 64) : res_main_while0b_v54_0 V (ix3 h i j) = (cur x s).D h i j := by
  unfold res_main_while0b_v54_0; simp only [id]; pointwise; simp only [Chunk.D, v53_at H hs, mask54, sel_ge, sel_gt]

theorem v55_at (h : Fin 8) (i : Fin 64) : res_main_while0b_v55 V (ix3 h i 0) = (cur x s).beta h i := by
  unfold res_main_while0b_v55; pointwise; simp only [v42_at H hs]

theorem v57_at (h : Fin 8) (i j : Fin 64) : res_main_while0b_v57 V (ix3 h i j) = (cur x s).kb h i j := by
  unfold res_main_while0b_v57; pointwise; simp only [Chunk.kb, v39_at H hs, v55_at H hs]

theorem v58_at (h : Fin 8) (i : Fin 64) : res_main_while0b_v58 V (ix3 h i 0) = (cur x s).beta h i := by
  unfold res_main_while0b_v58; pointwise; simp only [v42_at H hs]

theorem v60_at (h : Fin 8) (i j : Fin 64) : res_main_while0b_v60 V (ix3 h i j) = (cur x s).vb h i j := by
  unfold res_main_while0b_v60; pointwise; simp only [Chunk.vb, v40_at H hs, v58_at H hs]

theorem v61_at (h : Fin 8) (i j : Fin 64) : res_main_while0b_v61 V (ix3 h i j) = (cur x s).KK h i j := by
  unfold res_main_while0b_v61; pointwise; simp only [Chunk.KK, v39_at H hs, v57_at H hs]

theorem v64_at (h : Fin 8) (i : Fin 64) : res_main_while0b_v64 V (ix2 h i) = (cur x s).eg h i := by
  unfold res_main_while0b_v64; pointwise; simp only [Chunk.eg, v41_at H hs]

theorem v65_at (h : Fin 8) (i : Fin 64) : res_main_while0b_v65 V (ix3 h i 0) = (cur x s).eg h i := by
  unfold res_main_while0b_v65; pointwise; simp only [v64_at H hs]

theorem v68_at (h : Fin 8) (i j : Fin 64) : res_main_while0b_v68 V (ix3 h i j) = (cur x s).kbe h i j := by
  unfold res_main_while0b_v68; pointwise; simp only [Chunk.kbe, v57_at H hs, v65_at H hs]

theorem v69_at (h : Fin 8) (i j : Fin 64) : res_main_while0b_v69 V (ix3 h i j) = (cur x s).w h i j := by
  unfold res_main_while0b_v69; pointwise; simp only [Chunk.w, v36_at H hs, v68_at H hs]

theorem v70_at (h : Fin 8) (i j : Fin 64) : res_main_while0b_v70 V (ix3 h i j) = (cur x s).QK h i j := by
  unfold res_main_while0b_v70; pointwise; simp only [Chunk.QK, v38_at H hs, v39_at H hs]

theorem v72_0_at (h : Fin 8) (i j : Fin 64) : res_main_while0b_v72_0 V (ix3 h i j) = (cur x s).A h i j := by
  unfold res_main_while0b_v72_0; simp only [id]; pointwise; simp only [Chunk.A, v54_0_at H hs, v70_at H hs, mask72, sel_ge, sel_gt]

theorem v74_at (h : Fin 8) (i j : Fin 64) : res_main_while0b_v74 V (ix3 h i j) = (cur x s).vn h i j := by
  unfold res_main_while0b_v74; pointwise; simp only [Chunk.vn, Chunk.u, v35_at H hs, v36_at H hs, v60_at H hs, v69_at H hs]

theorem v76_at (h : Fin 8) (i j : Fin 64) : res_main_while0b_v76 V (ix3 h i j) = (cur x s).qe h i j := by
  unfold res_main_while0b_v76; pointwise; simp only [Chunk.qe, v38_at H hs, v65_at H hs]

theorem v81_at (h : Fin 8) : res_main_while0b_v81 V (ix1 h) = (cur x s).g h 63 := by
  unfold res_main_while0b_v81; pointwise; simp only [v41_at H hs]

theorem v85_at (h : Fin 8) (i : Fin 64) : res_main_while0b_v85 V (ix2 h i) = (cur x s).ed h i := by
  unfold res_main_while0b_v85; pointwise; simp only [Chunk.ed, v41_at H hs, v81_at H hs]

theorem v86_at (h : Fin 8) (i : Fin 64) : res_main_while0b_v86 V (ix3 h i 0) = (cur x s).ed h i := by
  unfold res_main_while0b_v86; pointwise; simp only [v85_at H hs]

theorem v88_at (h : Fin 8) (i j : Fin 64) : res_main_while0b_v88 V (ix3 h i j) = (cur x s).kd h i j := by
  unfold res_main_while0b_v88; pointwise; simp only [Chunk.kd, v39_at H hs, v86_at H hs]

theorem v89_at (h : Fin 8) : res_main_while0b_v89 V (ix1 h) = (cur x s).egl h := by
  unfold res_main_while0b_v89; pointwise; simp only [Chunk.egl, v81_at H hs]

theorem v90_at (h : Fin 8) : res_main_while0b_v90 V (ix3 h 0 0) = (cur x s).egl h := by
  unfold res_main_while0b_v90; pointwise; simp only [v89_at H hs]

theorem v98_at (h : Fin 8) (i j : Fin 64) : res_main_while0b_v98 V (ix3 h i j) = (cur x s).dkd h i j := by
  unfold res_main_while0b_v98; pointwise; simp only [Chunk.dkd, dS_at H hs, v74_at H hs]; simp only [mul_comm]

theorem v112_at (h : Fin 8) (i : Fin 64) : res_main_while0b_v112 V (ix2 h i) = (cur x s).kdk h i := by
  unfold res_main_while0b_v112; pointwise; simp only [Chunk.kdk, v39_at H hs, v85_at H hs, v98_at H hs, Fin.sum_univ_one]

theorem v123_at (h : Fin 8) (i j : Fin 64) : res_main_while0b_v123 V (ix3 h i j) = (cur x s).dvn h i j := by
  unfold res_main_while0b_v123; pointwise; simp only [Chunk.dvn, dS_at H hs, v37_at H hs, v72_0_at H hs, v88_at H hs]; simp only [mul_comm]

theorem v128_at (h : Fin 8) (i j : Fin 64) : res_main_while0b_v128 V (ix3 h i j) = (cur x s).dqe h i j := by
  unfold res_main_while0b_v128; pointwise; simp only [Chunk.dqe, v35_at H hs, v37_at H hs]

theorem v134_at (h : Fin 8) (i j : Fin 64) : res_main_while0b_v134 V (ix3 h i j) = (cur x s).ndvn h i j := by
  unfold res_main_while0b_v134; pointwise; simp only [Chunk.ndvn, v123_at H hs, neg_eq]

theorem v138_at (h : Fin 8) (i j : Fin 64) : res_main_while0b_v138 V (ix3 h i j) = (cur x s).dw h i j := by
  unfold res_main_while0b_v138; pointwise; simp only [Chunk.dw, v134_at H hs, v35_at H hs]

theorem v139_at (h : Fin 8) (i j : Fin 64) : res_main_while0b_v139 V (ix3 h i j) = (cur x s).dA h i j := by
  unfold res_main_while0b_v139; pointwise; simp only [Chunk.dA, Chunk.dA0, v37_at H hs, mask72, v74_at H hs, sel_ge, sel_gt]

theorem v141_at (h : Fin 8) (i j : Fin 64) : res_main_while0b_v141 V (ix3 h i j) = (cur x s).dAD h i j := by
  unfold res_main_while0b_v141; pointwise; simp only [Chunk.dAD, v139_at H hs, v54_0_at H hs]

theorem v147_at (h : Fin 8) (i j : Fin 64) : res_main_while0b_v147 V (ix3 h i j) = (cur x s).dkbe h i j := by
  unfold res_main_while0b_v147; pointwise; simp only [Chunk.dkbe, v138_at H hs, v36_at H hs]; simp only [mul_comm]

theorem v156_at (h : Fin 8) (i j : Fin 64) : res_main_while0b_v156 V (ix3 h i j) = (cur x s).dvb h i j := by
  unfold res_main_while0b_v156; pointwise; simp only [Chunk.dvb, v123_at H hs, v36_at H hs]; simp only [mul_comm]

theorem v162_at (h : Fin 8) (i j : Fin 64) : res_main_while0b_v162 V (ix3 h i j) = (cur x s).T h j i := by
  unfold res_main_while0b_v162; pointwise; simp only [v36_at H hs]

theorem v167_at (h : Fin 8) (i j : Fin 64) : res_main_while0b_v167 V (ix3 h i j) = (cur x s).dL h i j := by
  unfold res_main_while0b_v167; pointwise; simp only [Chunk.dL, Chunk.dTT, Chunk.dT, v123_at H hs, v138_at H hs, v162_at H hs, v60_at H hs, mask63, v68_at H hs, sel_ge, sel_gt, neg_eq]

theorem v170_at (h : Fin 8) (i j : Fin 64) : res_main_while0b_v170 V (ix3 h i j) = (cur x s).dLD h i j := by
  unfold res_main_while0b_v170; pointwise; simp only [Chunk.dLD, v167_at H hs, v54_0_at H hs]

theorem v174_at (h : Fin 8) (i j : Fin 64) : res_main_while0b_v174 V (ix3 h i j) = (cur x s).dkb h i j := by
  unfold res_main_while0b_v174; pointwise; simp only [Chunk.dkb, v147_at H hs, v170_at H hs, v39_at H hs, v65_at H hs]

theorem v191_at (h : Fin 8) (i j : Fin 64) : res_main_while0b_v191 V (ix3 h i j) = (cur x s).dE h i j := by
  unfold res_main_while0b_v191; pointwise; simp only [Chunk.dE, Chunk.dLA, v139_at H hs, v167_at H hs, mask52, v53_at H hs, mask54, v61_at H hs, v70_at H hs, sel_ge, sel_gt]; by_cases hji : j ≤ i <;> simp only [hji, if_true, if_false]

end

end Cert.ReferenceIdeal.Trip

end
-- ==== Proof.LoopAt.lean ====
module

public import proofs.«01_k».proof.Proof.TripAt

@[expose] public section

/-! The reference's loop: what it carries before every trip, and the results it leaves. -/

set_option maxRecDepth 16384

noncomputable section

namespace Cert.ReferenceIdeal.Trip

open Idealize.ShloMosaic Idealize.ShloMosaic.TcCoe Idealize.SL.Sem Idealize.ShloMosaic.Tactic
open Cert.ReferenceIdeal Cert.ReferenceIdeal.Gen Cert.ReferenceIdeal.Value
open Idealize.ShloMosaic.StableHlo
open Cert.Inputs (row lane nth)

/-- A chunk's array put at its place of a history. -/
theorem put4 (X : FVec Ideal S64x8x64x64 .f32) (U : FVec Ideal S8x64x64 .f32) (w : IVec S_ 32) (n : Fin 64)
    (hw : w = fun _ => BitVec.ofNat 32 n.val) (n' : Fin 64) (h : Fin 8) (i d : Fin 64) :
    Host.dynamicUpdateSlice X (broadcastInDim S1x8x64x64 ![1, 2, 3] bcast_S8x64x64_S1x8x64x64_1_2_3 U) (fun k => (((![w, constantI S_ 32 0#32, constantI S_ 32 0#32, constantI S_ 32 0#32] : Fin 4 → (⟨S_, .i32⟩ : BufTy).Contents (Elt Ideal))) k (Shape.Idx.first h_S_)).toInt) updateFits_S64x8x64x64_S1x8x64x64 (ix4 n' h i d)
      = if n' = n then U (ix3 h i d) else X (ix4 n' h i d) := by
  subst hw
  rw [Idealize.ShloMosaic.WordCmp.dynamicUpdateSlice_eq_update X _ _ _ ![n.val, 0, 0, 0]
    ⟨by decide, by intro a; fin_cases a <;> simp [S1x8x64x64, S64x8x64x64] <;> omega⟩
    (by
      intro a
      have hn : (BitVec.ofNat 32 n.val).toInt = (n.val : Int) := by revert n; decide +kernel
      fin_cases a
      · exact hn
      · rfl
      · rfl
      · rfl)]
  pointwise
  by_cases e : n' = n
  · subst e; simp
  · rw [if_neg e]
    have hne : ¬ (n ≤ n' ∧ n' ≤ n) := fun hh => e (le_antisymm hh.2 hh.1)
    simp
    intro h1 h2
    exact absurd ⟨h1, h2⟩ hne

/-- A chunk's rows put at their place of a history. -/
theorem put3 (X : FVec Ideal S64x8x64 .f32) (U : FVec Ideal S8x64 .f32) (w : IVec S_ 32) (n : Fin 64)
    (hw : w = fun _ => BitVec.ofNat 32 n.val) (n' : Fin 64) (h : Fin 8) (i : Fin 64) :
    Host.dynamicUpdateSlice X (broadcastInDim S1x8x64 ![1, 2] bcast_S8x64_S1x8x64_1_2 U) (fun k => (((![w, constantI S_ 32 0#32, constantI S_ 32 0#32] : Fin 3 → (⟨S_, .i32⟩ : BufTy).Contents (Elt Ideal))) k (Shape.Idx.first h_S_)).toInt) updateFits_S64x8x64_S1x8x64 (ix3 n' h i)
      = if n' = n then U (ix2 h i) else X (ix3 n' h i) := by
  subst hw
  rw [Idealize.ShloMosaic.WordCmp.dynamicUpdateSlice_eq_update X _ _ _ ![n.val, 0, 0]
    ⟨by decide, by intro a; fin_cases a <;> simp [S1x8x64, S64x8x64] <;> omega⟩
    (by
      intro a
      have hn : (BitVec.ofNat 32 n.val).toInt = (n.val : Int) := by revert n; decide +kernel
      fin_cases a
      · exact hn
      · rfl
      · rfl)]
  pointwise
  by_cases e : n' = n
  · subst e; simp
  · rw [if_neg e]
    have hne : ¬ (n ≤ n' ∧ n' ≤ n) := fun hh => e (le_antisymm hh.2 hh.1)
    simp
    intro h1 h2
    exact absurd ⟨h1, h2⟩ hne

section

variable {x : Inputs} {s : ℕ} {V : Valuation τ sig (Elt Ideal)} (H : Holds x s V) (hs : s < 64)
include H hs

theorem step9 (h : Fin 8) (i j : Fin 64) : step_main_v20_9 V (ix3 h i j) = x.dState (s + 1) h i j := by
  show _ = (cur x s).dSin h i j
  unfold step_main_v20_9; simp only [id]; pointwise
  simp only [Chunk.dSin, Chunk.dS0, dS_at H hs, v90_at H hs, v37_at H hs, v76_at H hs, v134_at H hs, v69_at H hs]
  simp only [mul_comm]

theorem step10 (n : Fin 64) (h : Fin 8) (i d : Fin 64) : step_main_v20_10 V (ix4 n h i d)
    = if n = nth s then (cur x s).dq h i d else V (Proc.devRef .tc main_v20_10) (ix4 n h i d) := by
  unfold step_main_v20_10; simp only [id]
  refine (put4 _ _ _ (nth s) (index_eq x s V H hs) n h i d).trans ?_
  congr 1
  pointwise
  simp only [Chunk.dq, v128_at H hs, v65_at H hs, v141_at H hs, v39_at H hs]

theorem step11 (n : Fin 64) (h : Fin 8) (i d : Fin 64) : step_main_v20_11 V (ix4 n h i d)
    = if n = nth s then (cur x s).dk h i d else V (Proc.devRef .tc main_v20_11) (ix4 n h i d) := by
  unfold step_main_v20_11; simp only [id]
  refine (put4 _ _ _ (nth s) (index_eq x s V H hs) n h i d).trans ?_
  congr 1
  pointwise
  simp only [Chunk.dk, Chunk.dk1, v98_at H hs, v86_at H hs, v141_at H hs, v38_at H hs, v170_at H hs, v57_at H hs, v174_at H hs, v55_at H hs]

theorem step12 (n : Fin 64) (h : Fin 8) (i d : Fin 64) : step_main_v20_12 V (ix4 n h i d)
    = if n = nth s then (cur x s).dv h i d else V (Proc.devRef .tc main_v20_12) (ix4 n h i d) := by
  unfold step_main_v20_12; simp only [id]
  refine (put4 _ _ _ (nth s) (index_eq x s V H hs) n h i d).trans ?_
  congr 1
  pointwise
  simp only [Chunk.dv, v156_at H hs, v58_at H hs]

theorem step13 (n : Fin 64) (h : Fin 8) (i : Fin 64) : step_main_v20_13 V (ix3 n h i)
    = if n = nth s then (cur x s).dg h i else V (Proc.devRef .tc main_v20_13) (ix3 n h i) := by
  unfold step_main_v20_13; simp only [id]
  refine (put3 _ _ _ (nth s) (index_eq x s V H hs) n h i).trans ?_
  congr 1
  pointwise
  simp only [Chunk.dg, Chunk.dgc, Chunk.dg1, Chunk.dgl, Chunk.dgr, Chunk.qdq, dS_at H hs, v112_at H hs, v35_at H hs, v89_at H hs, v38_at H hs, v128_at H hs, v57_at H hs, v147_at H hs, v64_at H hs, v191_at H hs, Fin.sum_univ_one, neg_eq]
  have h63 : (63 ≤ i.val ∧ i.val - 63 < 1) ↔ i = 63 := by revert i; decide +kernel
  simp only [h63]
  split_ifs <;> ac_rfl

theorem step14 (n : Fin 64) (h : Fin 8) (i : Fin 64) : step_main_v20_14 V (ix3 n h i)
    = if n = nth s then (cur x s).dbeta h i else V (Proc.devRef .tc main_v20_14) (ix3 n h i) := by
  unfold step_main_v20_14; simp only [id]
  refine (put3 _ _ _ (nth s) (index_eq x s V H hs) n h i).trans ?_
  congr 1
  pointwise
  simp only [Chunk.dbeta, v40_at H hs, v156_at H hs, v39_at H hs, v174_at H hs, Fin.sum_univ_one]

end

variable (m : (ℓ : Loc nD τ sig) → Buf (Elt Ideal) ℓ) (c : Dev nD)

/-- The arguments' contents, an array's coordinates one by one. -/
def inputs : Inputs where
  q r l := m ((c.tc : Thread nD τ).loc main_arg0) (ix2 r l)
  k r l := m ((c.tc : Thread nD τ).loc main_arg1) (ix2 r l)
  v r l := m ((c.tc : Thread nD τ).loc main_arg2) (ix2 r l)
  bt r l := m ((c.tc : Thread nD τ).loc main_arg3) (ix2 r l)
  gt r l := m ((c.tc : Thread nD τ).loc main_arg4) (ix2 r l)
  sh n h i d := m ((c.tc : Thread nD τ).loc main_arg5) (ix4 n h i d)
  ph n h i d := m ((c.tc : Thread nD τ).loc main_arg6) (ix4 n h i d)
  dO r l := m ((c.tc : Thread nD τ).loc main_arg7) (ix2 r l)

theorem entry_sh (n : Fin 64) (h : Fin 8) (i d : Fin 64) :
    entryContents preI m c (Proc.devRef .tc main_v20_0) (ix4 n h i d) = (inputs m c).sh n h i d := by
  simp only [entryContents, afterL_cons, afterL_nil]
  after_reads_simp
  simp only [id]
  pointwise
  rfl

theorem entry_ph (n : Fin 64) (h : Fin 8) (i d : Fin 64) :
    entryContents preI m c (Proc.devRef .tc main_v20_1) (ix4 n h i d) = (inputs m c).ph n h i d := by
  simp only [entryContents, afterL_cons, afterL_nil]
  after_reads_simp
  simp only [id]
  pointwise
  rfl

theorem entry_dO (n : Fin 64) (h : Fin 8) (i d : Fin 64) :
    entryContents preI m c (Proc.devRef .tc main_v20_2) (ix4 n h i d) = (inputs m c).dO (row n i) (lane h d) := by
  simp only [entryContents, afterL_cons, afterL_nil]
  after_reads_simp
  simp only [id]
  pointwise
  exact congrArg₂ (fun a b => m ((c.tc : Thread nD τ).loc main_arg7) (ix2 a b)) (Fin.ext (by simp only [row]; omega))
    (Fin.ext (by simp only [lane]; omega))

theorem entry_q (n : Fin 64) (h : Fin 8) (i d : Fin 64) :
    entryContents preI m c (Proc.devRef .tc main_v20_3) (ix4 n h i d) = (inputs m c).q (row n i) (lane h d) := by
  simp only [entryContents, afterL_cons, afterL_nil]
  after_reads_simp
  simp only [id]
  pointwise
  exact congrArg₂ (fun a b => m ((c.tc : Thread nD τ).loc main_arg0) (ix2 a b)) (Fin.ext (by simp only [row]; omega))
    (Fin.ext (by simp only [lane]; omega))

theorem entry_k (n : Fin 64) (h : Fin 8) (i d : Fin 64) :
    entryContents preI m c (Proc.devRef .tc main_v20_4) (ix4 n h i d) = (inputs m c).k (row n i) (lane h d) := by
  simp only [entryContents, afterL_cons, afterL_nil]
  after_reads_simp
  simp only [id]
  pointwise
  exact congrArg₂ (fun a b => m ((c.tc : Thread nD τ).loc main_arg1) (ix2 a b)) (Fin.ext (by simp only [row]; omega))
    (Fin.ext (by simp only [lane]; omega))

theorem entry_v (n : Fin 64) (h : Fin 8) (i d : Fin 64) :
    entryContents preI m c (Proc.devRef .tc main_v20_5) (ix4 n h i d) = (inputs m c).v (row n i) (lane h d) := by
  simp only [entryContents, afterL_cons, afterL_nil]
  after_reads_simp
  simp only [id]
  pointwise
  exact congrArg₂ (fun a b => m ((c.tc : Thread nD τ).loc main_arg2) (ix2 a b)) (Fin.ext (by simp only [row]; omega))
    (Fin.ext (by simp only [lane]; omega))

theorem entry_gt (n : Fin 64) (h : Fin 8) (i : Fin 64) :
    entryContents preI m c (Proc.devRef .tc main_v20_6) (ix3 n h i) = (inputs m c).gt (row n i) ⟨8 + h.val, by omega⟩ := by
  simp only [entryContents, afterL_cons, afterL_nil]
  after_reads_simp
  simp only [id]
  pointwise
  exact congrArg (fun a => m ((c.tc : Thread nD τ).loc main_arg4) (ix2 a ⟨8 + h.val, by omega⟩)) (Fin.ext (by simp only [row]; omega))

theorem entry_bt (n : Fin 64) (h : Fin 8) (i : Fin 64) :
    entryContents preI m c (Proc.devRef .tc main_v20_7) (ix3 n h i) = (inputs m c).bt (row n i) ⟨h.val, by omega⟩ := by
  simp only [entryContents, afterL_cons, afterL_nil]
  after_reads_simp
  simp only [id]
  pointwise
  exact congrArg (fun a => m ((c.tc : Thread nD τ).loc main_arg3) (ix2 a ⟨h.val, by omega⟩)) (Fin.ext (by simp only [row]; omega))

theorem entry_dS (h : Fin 8) (i d : Fin 64) :
    entryContents preI m c (Proc.devRef .tc main_v20_9) (ix3 h i d) = (inputs m c).dState 0 h i d := by
  simp only [entryContents, afterL_cons, afterL_nil]
  after_reads_simp
  simp only [id]
  pointwise
  rfl

/-- What the loop carries before the trip numbered `s`, the gradients of the chunks already taken with it. -/
structure Carried (x : Inputs) (s : ℕ) (V : Valuation τ sig (Elt Ideal)) : Prop where
  holds : Holds x s V
  dq (n : Fin 64) (hn : 64 - s ≤ n.val) (h i d) : V (Proc.devRef .tc main_v20_10) (ix4 n h i d) = (x.at' n).dq h i d
  dk (n : Fin 64) (hn : 64 - s ≤ n.val) (h i d) : V (Proc.devRef .tc main_v20_11) (ix4 n h i d) = (x.at' n).dk h i d
  dv (n : Fin 64) (hn : 64 - s ≤ n.val) (h i d) : V (Proc.devRef .tc main_v20_12) (ix4 n h i d) = (x.at' n).dv h i d
  dg (n : Fin 64) (hn : 64 - s ≤ n.val) (h i) : V (Proc.devRef .tc main_v20_13) (ix3 n h i) = (x.at' n).dg h i
  dbeta (n : Fin 64) (hn : 64 - s ≤ n.val) (h i) : V (Proc.devRef .tc main_v20_14) (ix3 n h i) = (x.at' n).dbeta h i

theorem carried_entry : Carried (inputs m c) 0 (entryContents preI m c) where
  holds :=
    { ctr := ctr_entry m c
      sh := entry_sh m c
      ph := entry_ph m c
      dO := entry_dO m c
      q := entry_q m c
      k := entry_k m c
      v := entry_v m c
      g := entry_gt m c
      beta := entry_bt m c
      dS := entry_dS m c }
  dq n hn := absurd hn (by omega)
  dk n hn := absurd hn (by omega)
  dv n hn := absurd hn (by omega)
  dg n hn := absurd hn (by omega)
  dbeta n hn := absurd hn (by omega)

theorem cur_eq (x : Inputs) {s : ℕ} (hs : s < 64) : cur x s = x.at' (nth s) := (x.at'_nth s hs).symm

theorem later {s : ℕ} {n : Fin 64} (hn : 64 - (s + 1) ≤ n.val) (e : ¬ n = nth s) : 64 - s ≤ n.val := by
  have : n.val ≠ 63 - s := fun h => e (Fin.ext h)
  omega

theorem carried_step {x : Inputs} {s : ℕ} {V : Valuation τ sig (Elt Ideal)} (C : Carried x s V) (hs : s < 64) :
    Carried x (s + 1) (STEP V) where
  holds :=
    { ctr := by
        rw [STEP_main_v20_8]; unfold step_main_v20_8; rw [C.holds.ctr]
        funext y
        exact (BitVec.ofNat_add s 1).symm
      sh := by rw [STEP_main_v20_0]; exact C.holds.sh
      ph := by rw [STEP_main_v20_1]; exact C.holds.ph
      dO := by rw [STEP_main_v20_2]; exact C.holds.dO
      q := by rw [STEP_main_v20_3]; exact C.holds.q
      k := by rw [STEP_main_v20_4]; exact C.holds.k
      v := by rw [STEP_main_v20_5]; exact C.holds.v
      g := by rw [STEP_main_v20_6]; exact C.holds.g
      beta := by rw [STEP_main_v20_7]; exact C.holds.beta
      dS := by rw [STEP_main_v20_9]; exact step9 C.holds hs }
  dq n hn h i d := by
    rw [STEP_main_v20_10]
    refine (step10 C.holds hs n h i d).trans ?_
    by_cases e : n = nth s
    · rw [if_pos e, cur_eq x hs, e]
    · rw [if_neg e]; exact C.dq n (later hn e) h i d
  dk n hn h i d := by
    rw [STEP_main_v20_11]
    refine (step11 C.holds hs n h i d).trans ?_
    by_cases e : n = nth s
    · rw [if_pos e, cur_eq x hs, e]
    · rw [if_neg e]; exact C.dk n (later hn e) h i d
  dv n hn h i d := by
    rw [STEP_main_v20_12]
    refine (step12 C.holds hs n h i d).trans ?_
    by_cases e : n = nth s
    · rw [if_pos e, cur_eq x hs, e]
    · rw [if_neg e]; exact C.dv n (later hn e) h i d
  dg n hn h i := by
    rw [STEP_main_v20_13]
    refine (step13 C.holds hs n h i).trans ?_
    by_cases e : n = nth s
    · rw [if_pos e, cur_eq x hs, e]
    · rw [if_neg e]; exact C.dg n (later hn e) h i
  dbeta n hn h i := by
    rw [STEP_main_v20_14]
    refine (step14 C.holds hs n h i).trans ?_
    by_cases e : n = nth s
    · rw [if_pos e, cur_eq x hs, e]
    · rw [if_neg e]; exact C.dbeta n (later hn e) h i

theorem carried : ∀ s : ℕ, s ≤ 64 → Carried (inputs m c) s (STEP^[s] (entryContents preI m c))
  | 0, _ => carried_entry m c
  | s + 1, hs => by
    rw [Function.iterate_succ_apply']
    exact carried_step (carried s (by omega)) (by omega)

/-- The five results, each the gradient of the sequence's array. -/
theorem out_dq : out_main_v26 (STEP^[64] (entryContents preI m c))
    = fun y : S4096x512.Idx => (inputs m c).dq (y 0) (y 1) := by
  funext y
  obtain ⟨r, l, rfl⟩ : ∃ r l, y = ix2 r l := ⟨y 0, y 1, (ix2_eta y).symm⟩
  unfold out_main_v26
  pointwise
  exact (carried m c 64 le_rfl).dq _ (by simp) _ _ _

theorem out_dk : out_main_v24 (STEP^[64] (entryContents preI m c))
    = fun y : S4096x512.Idx => (inputs m c).dk (y 0) (y 1) := by
  funext y
  obtain ⟨r, l, rfl⟩ : ∃ r l, y = ix2 r l := ⟨y 0, y 1, (ix2_eta y).symm⟩
  unfold out_main_v24
  pointwise
  exact (carried m c 64 le_rfl).dk _ (by simp) _ _ _

theorem out_dv : out_main_v22 (STEP^[64] (entryContents preI m c))
    = fun y : S4096x512.Idx => (inputs m c).dv (y 0) (y 1) := by
  funext y
  obtain ⟨r, l, rfl⟩ : ∃ r l, y = ix2 r l := ⟨y 0, y 1, (ix2_eta y).symm⟩
  unfold out_main_v22
  pointwise
  exact (carried m c 64 le_rfl).dv _ (by simp) _ _ _

theorem out_dbt : out_main_v32 (STEP^[64] (entryContents preI m c))
    = fun y : S4096x128.Idx => (inputs m c).dbt (y 0) (y 1) := by
  funext y
  obtain ⟨r, l, rfl⟩ : ∃ r l, y = ix2 r l := ⟨y 0, y 1, (ix2_eta y).symm⟩
  unfold out_main_v32
  pointwise
  have hc := (carried m c 64 le_rfl).dbeta
  simp only [Inputs.dbt]
  by_cases h : l.val < 8
  · rw [dif_pos h, dif_pos h]; exact hc _ (by simp) _ _
  · rw [dif_neg h, dif_neg h]

theorem out_dgt : out_main_v29 (STEP^[64] (entryContents preI m c))
    = fun y : S4096x128.Idx => (inputs m c).dgt (y 0) (y 1) := by
  funext y
  obtain ⟨r, l, rfl⟩ : ∃ r l, y = ix2 r l := ⟨y 0, y 1, (ix2_eta y).symm⟩
  unfold out_main_v29
  pointwise
  have hc := (carried m c 64 le_rfl).dg
  simp only [Inputs.dgt]
  by_cases h : 8 ≤ l.val ∧ l.val < 16
  · have h' : 8 ≤ l.val ∧ l.val - 8 < 8 := ⟨h.1, by omega⟩
    rw [dif_pos h, dif_pos h']; exact hc _ (by simp) _ _
  · have h' : ¬ (8 ≤ l.val ∧ l.val - 8 < 8) := fun hh => h ⟨hh.1, by omega⟩
    rw [dif_neg h, dif_neg h']

end Cert.ReferenceIdeal.Trip

end
-- ==== Proof.Common.lean ====
module

public import Idealize.ShloMosaic.Lib.StableHlo.Run

@[expose] public section

/-! What the further programs' proofs share. -/

noncomputable section

namespace Cert.Common

open Idealize.ShloMosaic Idealize.SL.Sem

/-- A program without semaphores has no counters. -/
theorem no_counters {nD : ℕ} {τ : Topo} {sig : RefSig} (hr : Fin sig.nSem → False) (hd : Fin sig.nDmaSem → False)
    (f : GSem nD τ sig → Int) : f = fun _ => 0 := by
  funext ⟨t, s⟩
  cases s with
  | reg s => exact (hr s).elim
  | dma s => exact (hd s).elim

end Cert.Common

end
-- ==== Proof.Product2.lean ====
module

public import proofs.«01_k».proof.Defs
public import proofs.«01_k».proof.Proof.Gen.Kernel2Ideal
public import proofs.«01_k».proof.Proof.Gen.Kernel2Ideal.Value
public import proofs.«01_k».proof.Proof.Gen.Reference2Ideal.Run
public import proofs.«01_k».proof.Proof.Common
public import Idealize.ShloMosaic.Lib.Pipeline.ReadBack
public import Idealize.ShloMosaic.Lib.Pipeline.ValueKit

@[expose] public section

/-! The gradient of the channel mixer's first weight: the tiled product is the plain one. -/

set_option maxRecDepth 16384

noncomputable section

namespace Cert.Kernel2Ideal.Product

open Idealize.ShloMosaic Idealize.ShloMosaic.TcCoe Idealize.SL.Sem Idealize.ShloMosaic.Tactic
open Cert.Kernel2Ideal Cert.Kernel2Ideal.Gen

variable (m : (ℓ : Loc nD τ sig) → Buf (Elt Ideal) ℓ)

/-- What the reference computes from its arguments. -/
abbrev REF (x0 : FVec Ideal Cert.Reference2Ideal.S4096x1024 .bf16) (x1 : FVec Ideal Cert.Reference2Ideal.S4096x5632 .bf16) : FVec Ideal Cert.Reference2Ideal.S4x1024x1408 .f32 :=
  transpose Cert.Reference2Ideal.S4x1024x1408 [1, 0, 2] (shapeCast _ (transpose Cert.Reference2Ideal.S1024x5632 [1, 0] (Host.dotGeneral Cert.Reference2Ideal.dot_S4096x5632_S4096x1024_S5632x1024_0_0_1_1_n_n none (extf .f32 x1 Cert.Reference2Ideal.Gen.bitsLt_bf16_f32) (extf .f32 x0 Cert.Reference2Ideal.Gen.bitsLt_bf16_f32)) Cert.Reference2Ideal.Gen.transposes_S5632x1024_S1024x5632_1_0) Cert.Reference2Ideal.Gen.shapeCasts_S1024x5632_S1024x4x1408) Cert.Reference2Ideal.Gen.transposes_S1024x4x1408_S4x1024x1408_1_0_2

/-- The blocks that point `t` takes of the two factors and of the result. -/
theorem idx : ∀ t : Fin cfg0.N, win0_0.index t = ![t.val % 2, 0] ∧ win0_1.index t = ![t.val % 2, t.val / 2] ∧ win0_2.index t = ![t.val / 2, 0, 0] :=
  (by decide +kernel : ∀ t : Fin grid0.N, win0_0.index t = ![t.val % 2, 0] ∧ win0_1.index t = ![t.val % 2, t.val / 2] ∧ win0_2.index t = ![t.val / 2, 0, 0])

/-- The accumulator starts at zero. -/
theorem zero_at (j) : k0_pay1 (F := Ideal) j = 0 := by
  pointwise [k0_pay1]

/-- A point adds its blocks' product to the accumulator. -/
theorem part_at (x1 : FVec Ideal S2048x1408 .bf16) (acc : FVec Ideal S1024x1408 .f32) (x0 : FVec Ideal S2048x1024 .bf16) (j) :
    k0_pay2 x1 acc x0 j = acc j + ∑ k : Fin 2048, x0 (ix2 k (j 0)) * x1 (ix2 k (j 1)) := by
  pointwise [k0_pay2]

/-- The last point of a block stores what it leaves in the accumulator. -/
theorem stored (c : Dev nD) (t : Fin cfg0.N) (h : t.val % 2 = 1) :
    (outsAt0 m c t.val t.isLt).1 = k0_pay3 ((outsAt0 m c t.val t.isLt).2) := by
  rw [outsAt0_B m c t (by omega) h]
  dsimp only
  frame_out

theorem pay3_at (x : FVec Ideal S1024x1408 .f32) (y : S1x1024x1408.Idx) : k0_pay3 x y = x (ix2 (y 1) (y 2)) := by
  pointwise [k0_pay3]

theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  have h := (flush0_2 t).mp hf
  rw [after0_2, stored m c t h]
  rw [pay3_at]
  rw [Pipeline.eq_sum_fin_of_reset_step_apply_of_flush (fun n h => (outsAt0 m c n h).2) 2 (fun _ => 0) _
    (fun t h j => by rw [outsAt0_A m c t h (by omega)]; frame_out; rw [part_at, zero_at])
    (fun t h j => by rw [outsAt0_B m c t h (by omega)]; frame_out; rw [part_at, read_unread_whole])
    t h _, zero_add]
  pointwise [REF]
  refine Fin.sum_mul_add_congr fun s k hl => ?_
  refine (mul_comm (G := EReal) _ _).trans ?_
  blk_point [iblk, V, idx t, idx ⟨_, Pipeline.run_point_lt_of_flush t ((flush0_2 t).mp hf) s⟩]

/-- Kernel and reference leave the same array. -/
theorem values : Cert.algebraic_Kernel2Ideal_Reference2Ideal (hKernel2Ideal := Cert.Kernel2Ideal.Gen.facts) (hReference2Ideal := Cert.Reference2Ideal.Gen.facts) := by
  intro m g m' g' _ hm
  refine ⟨fun c => REF (m ((c : Thread nD τ).loc main_arg0)) (m ((c : Thread nD τ).loc main_arg1)), ?_, ?_⟩
  · refine (θ_run _ _ _).mono (fun r h c => ?_) (Cert.Kernel2Ideal.Value.run_blocks m g)
    exact ⟨(h c).1.trans (final m c), (h c).2⟩
  · refine (θ_run _ _ _).mono (fun r h c => ?_) (Cert.Reference2Ideal.Value.run m' g')
    have e := hm c
    refine ⟨(h c).1.trans ?_, (h c).2⟩
    rw [e.1, e.2]

theorem frame_reference : Cert.quiescent_Reference2Ideal (hReference2Ideal := Cert.Reference2Ideal.Gen.facts) := fun m ρ _ =>
  (θ_run _ _ _).mono (fun r h => ⟨fun c => (h c).2, Cert.Common.no_counters (fun s => s.elim0) (fun s => s.elim0) _⟩) (Cert.Reference2Ideal.Value.run m ρ)

end Cert.Kernel2Ideal.Product

end
-- ==== Proof.Product3.lean ====
module

public import proofs.«01_k».proof.Defs
public import proofs.«01_k».proof.Proof.Gen.Kernel3Ideal
public import proofs.«01_k».proof.Proof.Gen.Kernel3Ideal.Value
public import proofs.«01_k».proof.Proof.Gen.Reference3Ideal.Run
public import proofs.«01_k».proof.Proof.Common
public import Idealize.ShloMosaic.Lib.Pipeline.ValueKit

@[expose] public section

/-! The gradient of the channel mixer's gated activations: the tiled product is the plain one. -/

set_option maxRecDepth 16384

noncomputable section

namespace Cert.Kernel3Ideal.Product

open Idealize.ShloMosaic Idealize.ShloMosaic.TcCoe Idealize.SL.Sem Idealize.ShloMosaic.Tactic
open Cert.Kernel3Ideal Cert.Kernel3Ideal.Gen

variable (m : (ℓ : Loc nD τ sig) → Buf (Elt Ideal) ℓ)

/-- What the reference computes from its arguments. -/
abbrev REF (x0 : FVec Ideal Cert.Reference3Ideal.S2816x1024 .f32) (x1 : FVec Ideal Cert.Reference3Ideal.S4096x1024 .bf16) : FVec Ideal Cert.Reference3Ideal.S4096x2816 .f32 :=
  Host.dotGeneral Cert.Reference3Ideal.dot_S4096x1024_S2816x1024_S4096x2816_1_1_0_0_n_n none (extf .f32 x1 Cert.Reference3Ideal.Gen.bitsLt_bf16_f32) x0

/-- The blocks that point `t` takes of the two factors and of the result. -/
theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- What a point stores is the reference's result at the place of its block. -/
theorem point (c : Dev nD) (t : Fin cfg0.N) (y) : k0_pay1 (iblk m c 1 t) (iblk m c 0 t) y
    = REF (m ((c : Thread nD τ).loc main_arg0)) (m ((c : Thread nD τ).loc main_arg1)) (((cfg0.win 2).blk t).view.emb y) := by
  pointwise [k0_pay1, REF]
  blk_point [iblk, V, idx t]

theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Kernel and reference leave the same array. -/
theorem values : Cert.algebraic_Kernel3Ideal_Reference3Ideal (hKernel3Ideal := Cert.Kernel3Ideal.Gen.facts) (hReference3Ideal := Cert.Reference3Ideal.Gen.facts) := by
  intro m g m' g' _ hm
  refine ⟨fun c => REF (m ((c : Thread nD τ).loc main_arg0)) (m ((c : Thread nD τ).loc main_arg1)), ?_, ?_⟩
  · refine (θ_run _ _ _).mono (fun r h c => ?_) (Cert.Kernel3Ideal.Value.run_blocks m g)
    exact ⟨(h c).1.trans (final m c), (h c).2⟩
  · refine (θ_run _ _ _).mono (fun r h c => ?_) (Cert.Reference3Ideal.Value.run m' g')
    have e := hm c
    refine ⟨(h c).1.trans ?_, (h c).2⟩
    rw [e.1, e.2]

theorem frame_reference : Cert.quiescent_Reference3Ideal (hReference3Ideal := Cert.Reference3Ideal.Gen.facts) := fun m ρ _ =>
  (θ_run _ _ _).mono (fun r h => ⟨fun c => (h c).2, Cert.Common.no_counters (fun s => s.elim0) (fun s => s.elim0) _⟩) (Cert.Reference3Ideal.Value.run m ρ)

end Cert.Kernel3Ideal.Product

end
-- ==== Proof.Product4.lean ====
module

public import proofs.«01_k».proof.Defs
public import proofs.«01_k».proof.Proof.Gen.Kernel4Ideal
public import proofs.«01_k».proof.Proof.Gen.Kernel4Ideal.Value
public import proofs.«01_k».proof.Proof.Gen.Reference4Ideal.Run
public import proofs.«01_k».proof.Proof.Common
public import Idealize.ShloMosaic.Lib.Pipeline.ReadBack
public import Idealize.ShloMosaic.Lib.Pipeline.ValueKit

@[expose] public section

/-! The gradient of the channel mixer's second weight: the tiled product is the plain one. -/

set_option maxRecDepth 16384

noncomputable section

namespace Cert.Kernel4Ideal.Product

open Idealize.ShloMosaic Idealize.ShloMosaic.TcCoe Idealize.SL.Sem Idealize.ShloMosaic.Tactic
open Cert.Kernel4Ideal Cert.Kernel4Ideal.Gen

variable (m : (ℓ : Loc nD τ sig) → Buf (Elt Ideal) ℓ)

/-- What the reference computes from its arguments. -/
abbrev REF (x0 : FVec Ideal Cert.Reference4Ideal.S4096x2816 .bf16) (x1 : FVec Ideal Cert.Reference4Ideal.S4096x1024 .bf16) : FVec Ideal Cert.Reference4Ideal.S2816x1024 .f32 :=
  transpose Cert.Reference4Ideal.S2816x1024 [1, 0] (Host.dotGeneral Cert.Reference4Ideal.dot_S4096x1024_S4096x2816_S1024x2816_0_0_1_1_n_n none (extf .f32 x1 Cert.Reference4Ideal.Gen.bitsLt_bf16_f32) (extf .f32 x0 Cert.Reference4Ideal.Gen.bitsLt_bf16_f32)) Cert.Reference4Ideal.Gen.transposes_S1024x2816_S2816x1024_1_0

/-- The blocks that point `t` takes of the two factors and of the result. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, win0_0.index t = ![t.val % 2, t.val / 2] ∧ win0_1.index t = ![t.val % 2, 0] ∧ win0_2.index t = ![t.val / 2, 0])

/-- The accumulator starts at zero. -/
theorem zero_at (j) : k0_pay1 (F := Ideal) j = 0 := by
  pointwise [k0_pay1]

/-- A point adds its blocks' product to the accumulator. -/
theorem part_at (x1 : FVec Ideal S2048x1024 .bf16) (acc : FVec Ideal S1408x1024 .f32) (x0 : FVec Ideal S2048x1408 .bf16) (j) :
    k0_pay2 x1 acc x0 j = acc j + ∑ k : Fin 2048, x0 (ix2 k (j 0)) * x1 (ix2 k (j 1)) := by
  pointwise [k0_pay2]

/-- The last point of a block stores what it leaves in the accumulator. -/
theorem stored (c : Dev nD) (t : Fin cfg0.N) (h : t.val % 2 = 1) :
    (outsAt0 m c t.val t.isLt).1 = (outsAt0 m c t.val t.isLt).2 := by
  rw [outsAt0_B m c t (by omega) h]
  dsimp only
  frame_out

theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  have h := (flush0_2 t).mp hf
  rw [after0_2, stored m c t h]
  rw [Pipeline.eq_sum_fin_of_reset_step_apply_of_flush (fun n h => (outsAt0 m c n h).2) 2 (fun _ => 0) _
    (fun t h j => by rw [outsAt0_A m c t h (by omega)]; frame_out; rw [part_at, zero_at])
    (fun t h j => by rw [outsAt0_B m c t h (by omega)]; frame_out; rw [part_at, read_unread_whole])
    t h _, zero_add]
  pointwise [REF]
  refine Fin.sum_mul_add_congr fun s k hl => ?_
  refine (mul_comm (G := EReal) _ _).trans ?_
  blk_point [iblk, V, idx t, idx ⟨_, Pipeline.run_point_lt_of_flush t ((flush0_2 t).mp hf) s⟩]

/-- Kernel and reference leave the same array. -/
theorem values : Cert.algebraic_Kernel4Ideal_Reference4Ideal (hKernel4Ideal := Cert.Kernel4Ideal.Gen.facts) (hReference4Ideal := Cert.Reference4Ideal.Gen.facts) := by
  intro m g m' g' _ hm
  refine ⟨fun c => REF (m ((c : Thread nD τ).loc main_arg0)) (m ((c : Thread nD τ).loc main_arg1)), ?_, ?_⟩
  · refine (θ_run _ _ _).mono (fun r h c => ?_) (Cert.Kernel4Ideal.Value.run_blocks m g)
    exact ⟨(h c).1.trans (final m c), (h c).2⟩
  · refine (θ_run _ _ _).mono (fun r h c => ?_) (Cert.Reference4Ideal.Value.run m' g')
    have e := hm c
    refine ⟨(h c).1.trans ?_, (h c).2⟩
    rw [e.1, e.2]

theorem frame_reference : Cert.quiescent_Reference4Ideal (hReference4Ideal := Cert.Reference4Ideal.Gen.facts) := fun m ρ _ =>
  (θ_run _ _ _).mono (fun r h => ⟨fun c => (h c).2, Cert.Common.no_counters (fun s => s.elim0) (fun s => s.elim0) _⟩) (Cert.Reference4Ideal.Value.run m ρ)

end Cert.Kernel4Ideal.Product

end
-- ==== Proof.Product5.lean ====
module

public import proofs.«01_k».proof.Defs
public import proofs.«01_k».proof.Proof.Gen.Kernel5Ideal
public import proofs.«01_k».proof.Proof.Gen.Kernel5Ideal.Value
public import proofs.«01_k».proof.Proof.Gen.Reference5Ideal.Run
public import proofs.«01_k».proof.Proof.Common
public import Idealize.ShloMosaic.Lib.Pipeline.ValueKit

@[expose] public section

/-! The gradient of the merged branches: the tiled product is the plain one. -/

set_option maxRecDepth 16384

noncomputable section

namespace Cert.Kernel5Ideal.Product

open Idealize.ShloMosaic Idealize.ShloMosaic.TcCoe Idealize.SL.Sem Idealize.ShloMosaic.Tactic
open Cert.Kernel5Ideal Cert.Kernel5Ideal.Gen

variable (m : (ℓ : Loc nD τ sig) → Buf (Elt Ideal) ℓ)

/-- What the reference computes from its arguments. -/
abbrev REF (x0 : FVec Ideal Cert.Reference5Ideal.S1024x1024 .f32) (x1 : FVec Ideal Cert.Reference5Ideal.S4096x1024 .bf16) : FVec Ideal Cert.Reference5Ideal.S4096x1024 .f32 :=
  Host.dotGeneral Cert.Reference5Ideal.dot_S4096x1024_S1024x1024_S4096x1024_1_1_0_0_n_n none (extf .f32 x1 Cert.Reference5Ideal.Gen.bitsLt_bf16_f32) x0

/-- The blocks that point `t` takes of the two factors and of the result. -/
theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- What a point stores is the reference's result at the place of its block. -/
theorem point (c : Dev nD) (t : Fin cfg0.N) (y) : k0_pay1 (iblk m c 1 t) (iblk m c 0 t) y
    = REF (m ((c : Thread nD τ).loc main_arg0)) (m ((c : Thread nD τ).loc main_arg1)) (((cfg0.win 2).blk t).view.emb y) := by
  pointwise [k0_pay1, REF]
  blk_point [iblk, V, idx t]

theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Kernel and reference leave the same array. -/
theorem values : Cert.algebraic_Kernel5Ideal_Reference5Ideal (hKernel5Ideal := Cert.Kernel5Ideal.Gen.facts) (hReference5Ideal := Cert.Reference5Ideal.Gen.facts) := by
  intro m g m' g' _ hm
  refine ⟨fun c => REF (m ((c : Thread nD τ).loc main_arg0)) (m ((c : Thread nD τ).loc main_arg1)), ?_, ?_⟩
  · refine (θ_run _ _ _).mono (fun r h c => ?_) (Cert.Kernel5Ideal.Value.run_blocks m g)
    exact ⟨(h c).1.trans (final m c), (h c).2⟩
  · refine (θ_run _ _ _).mono (fun r h c => ?_) (Cert.Reference5Ideal.Value.run m' g')
    have e := hm c
    refine ⟨(h c).1.trans ?_, (h c).2⟩
    rw [e.1, e.2]

theorem frame_reference : Cert.quiescent_Reference5Ideal (hReference5Ideal := Cert.Reference5Ideal.Gen.facts) := fun m ρ _ =>
  (θ_run _ _ _).mono (fun r h => ⟨fun c => (h c).2, Cert.Common.no_counters (fun s => s.elim0) (fun s => s.elim0) _⟩) (Cert.Reference5Ideal.Value.run m ρ)

end Cert.Kernel5Ideal.Product

end
-- ==== Proof.Product6.lean ====
module

public import proofs.«01_k».proof.Defs
public import proofs.«01_k».proof.Proof.Gen.Kernel6Ideal
public import proofs.«01_k».proof.Proof.Gen.Kernel6Ideal.Value
public import proofs.«01_k».proof.Proof.Gen.Reference6Ideal.Run
public import proofs.«01_k».proof.Proof.Common
public import Idealize.ShloMosaic.Lib.Pipeline.ValueKit

@[expose] public section

/-! The gradient of the weight on the merged branches: the tiled product is the plain one. -/

set_option maxRecDepth 16384

noncomputable section

namespace Cert.Kernel6Ideal.Product

open Idealize.ShloMosaic Idealize.ShloMosaic.TcCoe Idealize.SL.Sem Idealize.ShloMosaic.Tactic
open Cert.Kernel6Ideal Cert.Kernel6Ideal.Gen

variable (m : (ℓ : Loc nD τ sig) → Buf (Elt Ideal) ℓ)

/-- What the reference computes from its arguments. -/
abbrev REF (x0 : FVec Ideal Cert.Reference6Ideal.S4096x1024 .bf16) (x1 : FVec Ideal Cert.Reference6Ideal.S4096x1024 .bf16) : FVec Ideal Cert.Reference6Ideal.S1024x1024 .f32 :=
  transpose Cert.Reference6Ideal.S1024x1024 [1, 0] (Host.dotGeneral Cert.Reference6Ideal.dot_S4096x1024_S4096x1024_S1024x1024_0_0_1_1_n_n none (extf .f32 x1 Cert.Reference6Ideal.Gen.bitsLt_bf16_f32) (extf .f32 x0 Cert.Reference6Ideal.Gen.bitsLt_bf16_f32)) Cert.Reference6Ideal.Gen.transposes_S1024x1024_S1024x1024_1_0

/-- The blocks that point `t` takes of the two factors and of the result. -/
theorem idx : ∀ t : Fin cfg0.N, win0_0.index t = ![0, 0] ∧ win0_1.index t = ![0, 0] ∧ win0_2.index t = ![0, 0] :=
  (by decide +kernel : ∀ t : Fin grid0.N, win0_0.index t = ![0, 0] ∧ win0_1.index t = ![0, 0] ∧ win0_2.index t = ![0, 0])

/-- What a point stores is the reference's result at the place of its block. -/
theorem point (c : Dev nD) (t : Fin cfg0.N) (y) : k0_pay1 (iblk m c 1 t) (iblk m c 0 t) y
    = REF (m ((c : Thread nD τ).loc main_arg0)) (m ((c : Thread nD τ).loc main_arg1)) (((cfg0.win 2).blk t).view.emb y) := by
  pointwise [k0_pay1, REF]
  refine Fin.sum_fin_congr fun k => (mul_comm _ _).trans ?_
  blk_point [iblk, V, idx t]

theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Kernel and reference leave the same array. -/
theorem values : Cert.algebraic_Kernel6Ideal_Reference6Ideal (hKernel6Ideal := Cert.Kernel6Ideal.Gen.facts) (hReference6Ideal := Cert.Reference6Ideal.Gen.facts) := by
  intro m g m' g' _ hm
  refine ⟨fun c => REF (m ((c : Thread nD τ).loc main_arg0)) (m ((c : Thread nD τ).loc main_arg1)), ?_, ?_⟩
  · refine (θ_run _ _ _).mono (fun r h c => ?_) (Cert.Kernel6Ideal.Value.run_blocks m g)
    exact ⟨(h c).1.trans (final m c), (h c).2⟩
  · refine (θ_run _ _ _).mono (fun r h c => ?_) (Cert.Reference6Ideal.Value.run m' g')
    have e := hm c
    refine ⟨(h c).1.trans ?_, (h c).2⟩
    rw [e.1, e.2]

theorem frame_reference : Cert.quiescent_Reference6Ideal (hReference6Ideal := Cert.Reference6Ideal.Gen.facts) := fun m ρ _ =>
  (θ_run _ _ _).mono (fun r h => ⟨fun c => (h c).2, Cert.Common.no_counters (fun s => s.elim0) (fun s => s.elim0) _⟩) (Cert.Reference6Ideal.Value.run m ρ)

end Cert.Kernel6Ideal.Product

end
-- ==== Proof.Product7.lean ====
module

public import proofs.«01_k».proof.Defs
public import proofs.«01_k».proof.Proof.Gen.Kernel7Ideal
public import proofs.«01_k».proof.Proof.Gen.Kernel7Ideal.Value
public import proofs.«01_k».proof.Proof.Gen.Reference7Ideal.Run
public import proofs.«01_k».proof.Proof.Common
public import Idealize.ShloMosaic.Lib.Pipeline.ValueKit

@[expose] public section

/-! The gradient of the weight on a branch: the tiled product is the plain one. -/

set_option maxRecDepth 16384

noncomputable section

namespace Cert.Kernel7Ideal.Product

open Idealize.ShloMosaic Idealize.ShloMosaic.TcCoe Idealize.SL.Sem Idealize.ShloMosaic.Tactic
open Cert.Kernel7Ideal Cert.Kernel7Ideal.Gen

variable (m : (ℓ : Loc nD τ sig) → Buf (Elt Ideal) ℓ)

/-- What the reference computes from its arguments. -/
abbrev REF (x0 : FVec Ideal Cert.Reference7Ideal.S4096x512 .bf16) (x1 : FVec Ideal Cert.Reference7Ideal.S4096x1024 .bf16) : FVec Ideal Cert.Reference7Ideal.S4x512x256 .f32 :=
  transpose Cert.Reference7Ideal.S4x512x256 [1, 0, 2] (shapeCast _ (transpose Cert.Reference7Ideal.S512x1024 [1, 0] (Host.dotGeneral Cert.Reference7Ideal.dot_S4096x1024_S4096x512_S1024x512_0_0_1_1_n_n none (extf .f32 x1 Cert.Reference7Ideal.Gen.bitsLt_bf16_f32) (extf .f32 x0 Cert.Reference7Ideal.Gen.bitsLt_bf16_f32)) Cert.Reference7Ideal.Gen.transposes_S1024x512_S512x1024_1_0) Cert.Reference7Ideal.Gen.shapeCasts_S512x1024_S512x4x256) Cert.Reference7Ideal.Gen.transposes_S512x4x256_S4x512x256_1_0_2

/-- The blocks that point `t` takes of the two factors and of the result. -/
theorem idx : ∀ t : Fin cfg0.N, win0_0.index t = ![0, 0] ∧ win0_1.index t = ![0, t.val] ∧ win0_2.index t = ![t.val, 0, 0] :=
  (by decide +kernel : ∀ t : Fin grid0.N, win0_0.index t = ![0, 0] ∧ win0_1.index t = ![0, t.val] ∧ win0_2.index t = ![t.val, 0, 0])

/-- What a point stores is the reference's result at the place of its block. -/
theorem point (c : Dev nD) (t : Fin cfg0.N) (y) : k0_pay1 (iblk m c 1 t) (iblk m c 0 t) y
    = REF (m ((c : Thread nD τ).loc main_arg0)) (m ((c : Thread nD τ).loc main_arg1)) (((cfg0.win 2).blk t).view.emb y) := by
  pointwise [k0_pay1, REF]
  refine Fin.sum_fin_congr fun k => (mul_comm _ _).trans ?_
  blk_point [iblk, V, idx t]

theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Kernel and reference leave the same array. -/
theorem values : Cert.algebraic_Kernel7Ideal_Reference7Ideal (hKernel7Ideal := Cert.Kernel7Ideal.Gen.facts) (hReference7Ideal := Cert.Reference7Ideal.Gen.facts) := by
  intro m g m' g' _ hm
  refine ⟨fun c => REF (m ((c : Thread nD τ).loc main_arg0)) (m ((c : Thread nD τ).loc main_arg1)), ?_, ?_⟩
  · refine (θ_run _ _ _).mono (fun r h c => ?_) (Cert.Kernel7Ideal.Value.run_blocks m g)
    exact ⟨(h c).1.trans (final m c), (h c).2⟩
  · refine (θ_run _ _ _).mono (fun r h c => ?_) (Cert.Reference7Ideal.Value.run m' g')
    have e := hm c
    refine ⟨(h c).1.trans ?_, (h c).2⟩
    rw [e.1, e.2]

theorem frame_reference : Cert.quiescent_Reference7Ideal (hReference7Ideal := Cert.Reference7Ideal.Gen.facts) := fun m ρ _ =>
  (θ_run _ _ _).mono (fun r h => ⟨fun c => (h c).2, Cert.Common.no_counters (fun s => s.elim0) (fun s => s.elim0) _⟩) (Cert.Reference7Ideal.Value.run m ρ)

end Cert.Kernel7Ideal.Product

end
-- ==== Proof.Product8.lean ====
module

public import proofs.«01_k».proof.Defs
public import proofs.«01_k».proof.Proof.Gen.Kernel8Ideal
public import proofs.«01_k».proof.Proof.Gen.Kernel8Ideal.Value
public import proofs.«01_k».proof.Proof.Gen.Reference8Ideal.Run
public import proofs.«01_k».proof.Proof.Common
public import Idealize.ShloMosaic.Lib.Pipeline.ReadBack
public import Idealize.ShloMosaic.Lib.Pipeline.ValueKit

@[expose] public section

/-! The gradient of a branch: the tiled product is the plain one. -/

set_option maxRecDepth 16384

noncomputable section

namespace Cert.Kernel8Ideal.Product

open Idealize.ShloMosaic Idealize.ShloMosaic.TcCoe Idealize.SL.Sem Idealize.ShloMosaic.Tactic
open Cert.Kernel8Ideal Cert.Kernel8Ideal.Gen

variable (m : (ℓ : Loc nD τ sig) → Buf (Elt Ideal) ℓ)

/-- What the reference computes from its arguments. -/
abbrev REF (x0 : FVec Ideal Cert.Reference8Ideal.S4x512x256 .f32) (x1 : FVec Ideal Cert.Reference8Ideal.S4096x1024 .bf16) : FVec Ideal Cert.Reference8Ideal.S4096x512 .f32 :=
  Host.dotGeneral Cert.Reference8Ideal.dot_S4096x1024_S512x1024_S4096x512_1_1_0_0_n_n none (extf .f32 x1 Cert.Reference8Ideal.Gen.bitsLt_bf16_f32) (shapeCast _ (transpose Cert.Reference8Ideal.S512x4x256 [1, 0, 2] x0 Cert.Reference8Ideal.Gen.transposes_S4x512x256_S512x4x256_1_0_2) Cert.Reference8Ideal.Gen.shapeCasts_S512x4x256_S512x1024)

/-- The blocks that point `t` takes of the two factors and of the result. -/
theorem idx : ∀ t : Fin cfg0.N, win0_0.index t = ![t.val / 4, t.val % 4] ∧ win0_1.index t = ![t.val % 4, 0, 0] ∧ win0_2.index t = ![t.val / 4, 0] :=
  (by decide +kernel : ∀ t : Fin grid0.N, win0_0.index t = ![t.val / 4, t.val % 4] ∧ win0_1.index t = ![t.val % 4, 0, 0] ∧ win0_2.index t = ![t.val / 4, 0])

/-- The accumulator starts at zero. -/
theorem zero_at (j) : k0_pay1 (F := Ideal) j = 0 := by
  pointwise [k0_pay1]

/-- A point adds its blocks' product to the accumulator. -/
theorem part_at (x1 : FVec Ideal S1x512x256 .bf16) (acc : FVec Ideal S1024x512 .f32) (x0 : FVec Ideal S1024x256 .bf16) (j) :
    k0_pay2 x1 acc x0 j = acc j + ∑ k : Fin 256, x0 (ix2 (j 0) k) * x1 (ix3 0 (j 1) k) := by
  pointwise [k0_pay2]

/-- The last point of a block stores what it leaves in the accumulator. -/
theorem stored (c : Dev nD) (t : Fin cfg0.N) (h : t.val % 4 = 3) :
    (outsAt0 m c t.val t.isLt).1 = (outsAt0 m c t.val t.isLt).2 := by
  rw [outsAt0_C m c t (by omega) h]
  dsimp only
  frame_out

theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  have h := (flush0_2 t).mp hf
  rw [after0_2, stored m c t h]
  rw [Pipeline.eq_sum_fin_of_reset_step_apply_of_flush (fun n h => (outsAt0 m c n h).2) 4 (fun _ => 0) _
    (fun t h j => by rw [outsAt0_A m c t h (by omega)]; frame_out; rw [part_at, zero_at])
    (fun t h j => by
        by_cases h3 : t.val % 4 = 3
        · rw [outsAt0_C m c t h h3]; frame_out; rw [part_at, read_unread_whole]
        · rw [outsAt0_B m c t h h3]; frame_out; rw [part_at, read_unread_whole])
    t h _, zero_add]
  pointwise [REF]
  refine Fin.sum_mul_add_congr fun s k hl => ?_
  blk_point [iblk, V, idx t, idx ⟨_, Pipeline.run_point_lt_of_flush t ((flush0_2 t).mp hf) s⟩]

/-- Kernel and reference leave the same array. -/
theorem values : Cert.algebraic_Kernel8Ideal_Reference8Ideal (hKernel8Ideal := Cert.Kernel8Ideal.Gen.facts) (hReference8Ideal := Cert.Reference8Ideal.Gen.facts) := by
  intro m g m' g' _ hm
  refine ⟨fun c => REF (m ((c : Thread nD τ).loc main_arg0)) (m ((c : Thread nD τ).loc main_arg1)), ?_, ?_⟩
  · refine (θ_run _ _ _).mono (fun r h c => ?_) (Cert.Kernel8Ideal.Value.run_blocks m g)
    exact ⟨(h c).1.trans (final m c), (h c).2⟩
  · refine (θ_run _ _ _).mono (fun r h c => ?_) (Cert.Reference8Ideal.Value.run m' g')
    have e := hm c
    refine ⟨(h c).1.trans ?_, (h c).2⟩
    rw [e.1, e.2]

theorem frame_reference : Cert.quiescent_Reference8Ideal (hReference8Ideal := Cert.Reference8Ideal.Gen.facts) := fun m ρ _ =>
  (θ_run _ _ _).mono (fun r h => ⟨fun c => (h c).2, Cert.Common.no_counters (fun s => s.elim0) (fun s => s.elim0) _⟩) (Cert.Reference8Ideal.Value.run m ρ)

end Cert.Kernel8Ideal.Product

end
-- ==== Proof.Product9.lean ====
module

public import proofs.«01_k».proof.Defs
public import proofs.«01_k».proof.Proof.Gen.Kernel9Ideal
public import proofs.«01_k».proof.Proof.Gen.Kernel9Ideal.Value
public import proofs.«01_k».proof.Proof.Gen.Reference9Ideal.Run
public import proofs.«01_k».proof.Proof.Common
public import Idealize.ShloMosaic.Lib.Pipeline.ValueKit

@[expose] public section

/-! The gradient of the weight that makes the modulation: the tiled product is the plain one. -/

set_option maxRecDepth 16384

noncomputable section

namespace Cert.Kernel9Ideal.Product

open Idealize.ShloMosaic Idealize.ShloMosaic.TcCoe Idealize.SL.Sem Idealize.ShloMosaic.Tactic
open Cert.Kernel9Ideal Cert.Kernel9Ideal.Gen

variable (m : (ℓ : Loc nD τ sig) → Buf (Elt Ideal) ℓ)

/-- What the reference computes from its arguments. -/
abbrev REF (x0 : FVec Ideal Cert.Reference9Ideal.S16x1024 .f32) (x1 : FVec Ideal Cert.Reference9Ideal.S16x1536 .f32) : FVec Ideal Cert.Reference9Ideal.S1024x1536 .f32 :=
  transpose Cert.Reference9Ideal.S1024x1536 [1, 0] (Host.dotGeneral Cert.Reference9Ideal.dot_S16x1536_S16x1024_S1536x1024_0_0_1_1_n_n none x1 x0) Cert.Reference9Ideal.Gen.transposes_S1536x1024_S1024x1536_1_0

/-- The blocks that point `t` takes of the two factors and of the result. -/
theorem idx : ∀ t : Fin cfg0.N, win0_0.index t = ![0, 0] ∧ win0_1.index t = ![0, t.val] ∧ win0_2.index t = ![0, t.val] :=
  (by decide +kernel : ∀ t : Fin grid0.N, win0_0.index t = ![0, 0] ∧ win0_1.index t = ![0, t.val] ∧ win0_2.index t = ![0, t.val])

/-- What a point stores is the reference's result at the place of its block. -/
theorem point (c : Dev nD) (t : Fin cfg0.N) (y) : k0_pay1 (iblk m c 1 t) (iblk m c 0 t) y
    = REF (m ((c : Thread nD τ).loc main_arg0)) (m ((c : Thread nD τ).loc main_arg1)) (((cfg0.win 2).blk t).view.emb y) := by
  pointwise [k0_pay1, REF]
  refine Fin.sum_fin_congr fun k => (mul_comm _ _).trans ?_
  blk_point [iblk, V, idx t]

theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Kernel and reference leave the same array. -/
theorem values : Cert.algebraic_Kernel9Ideal_Reference9Ideal (hKernel9Ideal := Cert.Kernel9Ideal.Gen.facts) (hReference9Ideal := Cert.Reference9Ideal.Gen.facts) := by
  intro m g m' g' _ hm
  refine ⟨fun c => REF (m ((c : Thread nD τ).loc main_arg0)) (m ((c : Thread nD τ).loc main_arg1)), ?_, ?_⟩
  · refine (θ_run _ _ _).mono (fun r h c => ?_) (Cert.Kernel9Ideal.Value.run_blocks m g)
    exact ⟨(h c).1.trans (final m c), (h c).2⟩
  · refine (θ_run _ _ _).mono (fun r h c => ?_) (Cert.Reference9Ideal.Value.run m' g')
    have e := hm c
    refine ⟨(h c).1.trans ?_, (h c).2⟩
    rw [e.1, e.2]

theorem frame_reference : Cert.quiescent_Reference9Ideal (hReference9Ideal := Cert.Reference9Ideal.Gen.facts) := fun m ρ _ =>
  (θ_run _ _ _).mono (fun r h => ⟨fun c => (h c).2, Cert.Common.no_counters (fun s => s.elim0) (fun s => s.elim0) _⟩) (Cert.Reference9Ideal.Value.run m ρ)

end Cert.Kernel9Ideal.Product

end
-- ==== Proof.Product10.lean ====
module

public import proofs.«01_k».proof.Defs
public import proofs.«01_k».proof.Proof.Gen.Kernel10Ideal
public import proofs.«01_k».proof.Proof.Gen.Kernel10Ideal.Value
public import proofs.«01_k».proof.Proof.Gen.Reference10Ideal.Run
public import proofs.«01_k».proof.Proof.Common
public import Idealize.ShloMosaic.Lib.Pipeline.ValueKit

@[expose] public section

/-! The input projection: the tiled product is the plain one. -/

set_option maxRecDepth 16384

noncomputable section

namespace Cert.Kernel10Ideal.Product

open Idealize.ShloMosaic Idealize.ShloMosaic.TcCoe Idealize.SL.Sem Idealize.ShloMosaic.Tactic
open Cert.Kernel10Ideal Cert.Kernel10Ideal.Gen

variable (m : (ℓ : Loc nD τ sig) → Buf (Elt Ideal) ℓ)

/-- What the reference computes from its arguments. -/
abbrev REF (x0 : FVec Ideal Cert.Reference10Ideal.S4096x1024 .bf16) (x1 : FVec Ideal Cert.Reference10Ideal.S1024x6144 .f32) : FVec Ideal Cert.Reference10Ideal.S4096x6144 .f32 :=
  Host.dotGeneral Cert.Reference10Ideal.dot_S4096x1024_S1024x6144_S4096x6144_1_0_0_1_n_n none (extf .f32 x0 Cert.Reference10Ideal.Gen.bitsLt_bf16_f32) x1

/-- The blocks that point `t` takes of the two factors and of the result. -/
theorem idx : ∀ t : Fin cfg0.N, win0_0.index t = ![t.val / 6, 0] ∧ win0_1.index t = ![0, t.val % 6] ∧ win0_2.index t = ![t.val / 6, t.val % 6] :=
  (by decide +kernel : ∀ t : Fin grid0.N, win0_0.index t = ![t.val / 6, 0] ∧ win0_1.index t = ![0, t.val % 6] ∧ win0_2.index t = ![t.val / 6, t.val % 6])

/-- What a point stores is the reference's result at the place of its block. -/
theorem point (c : Dev nD) (t : Fin cfg0.N) (y) : k0_pay1 (iblk m c 1 t) (iblk m c 0 t) y
    = REF (m ((c : Thread nD τ).loc main_arg0)) (m ((c : Thread nD τ).loc main_arg1)) (((cfg0.win 2).blk t).view.emb y) := by
  pointwise [k0_pay1, REF]
  blk_point [iblk, V, idx t]

theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Kernel and reference leave the same array. -/
theorem values : Cert.algebraic_Kernel10Ideal_Reference10Ideal (hKernel10Ideal := Cert.Kernel10Ideal.Gen.facts) (hReference10Ideal := Cert.Reference10Ideal.Gen.facts) := by
  intro m g m' g' _ hm
  refine ⟨fun c => REF (m ((c : Thread nD τ).loc main_arg0)) (m ((c : Thread nD τ).loc main_arg1)), ?_, ?_⟩
  · refine (θ_run _ _ _).mono (fun r h c => ?_) (Cert.Kernel10Ideal.Value.run_blocks m g)
    exact ⟨(h c).1.trans (final m c), (h c).2⟩
  · refine (θ_run _ _ _).mono (fun r h c => ?_) (Cert.Reference10Ideal.Value.run m' g')
    have e := hm c
    refine ⟨(h c).1.trans ?_, (h c).2⟩
    rw [e.1, e.2]

theorem frame_reference : Cert.quiescent_Reference10Ideal (hReference10Ideal := Cert.Reference10Ideal.Gen.facts) := fun m ρ _ =>
  (θ_run _ _ _).mono (fun r h => ⟨fun c => (h c).2, Cert.Common.no_counters (fun s => s.elim0) (fun s => s.elim0) _⟩) (Cert.Reference10Ideal.Value.run m ρ)

end Cert.Kernel10Ideal.Product

end
-- ==== Proof.Product11.lean ====
module

public import proofs.«01_k».proof.Defs
public import proofs.«01_k».proof.Proof.Gen.Kernel11Ideal
public import proofs.«01_k».proof.Proof.Gen.Kernel11Ideal.Value
public import proofs.«01_k».proof.Proof.Gen.Reference11Ideal.Run
public import proofs.«01_k».proof.Proof.Common
public import Idealize.ShloMosaic.Lib.Pipeline.ValueKit

@[expose] public section

/-! The channel mixer's first product: the tiled product is the plain one. -/

set_option maxRecDepth 16384

noncomputable section

namespace Cert.Kernel11Ideal.Product

open Idealize.ShloMosaic Idealize.ShloMosaic.TcCoe Idealize.SL.Sem Idealize.ShloMosaic.Tactic
open Cert.Kernel11Ideal Cert.Kernel11Ideal.Gen

variable (m : (ℓ : Loc nD τ sig) → Buf (Elt Ideal) ℓ)

/-- What the reference computes from its arguments. -/
abbrev REF (x0 : FVec Ideal Cert.Reference11Ideal.S4096x1024 .bf16) (x1 : FVec Ideal Cert.Reference11Ideal.S4x1024x1408 .f32) : FVec Ideal Cert.Reference11Ideal.S4096x5632 .f32 :=
  Host.dotGeneral Cert.Reference11Ideal.dot_S4096x1024_S1024x5632_S4096x5632_1_0_0_1_n_n none (extf .f32 x0 Cert.Reference11Ideal.Gen.bitsLt_bf16_f32) (shapeCast _ (transpose Cert.Reference11Ideal.S1024x4x1408 [1, 0, 2] x1 Cert.Reference11Ideal.Gen.transposes_S4x1024x1408_S1024x4x1408_1_0_2) Cert.Reference11Ideal.Gen.shapeCasts_S1024x4x1408_S1024x5632)

/-- The blocks that point `t` takes of the two factors and of the result. -/
theorem idx : ∀ t : Fin cfg0.N, win0_0.index t = ![t.val / 4, 0] ∧ win0_1.index t = ![t.val % 4, 0, 0] ∧ win0_2.index t = ![t.val / 4, t.val % 4] :=
  (by decide +kernel : ∀ t : Fin grid0.N, win0_0.index t = ![t.val / 4, 0] ∧ win0_1.index t = ![t.val % 4, 0, 0] ∧ win0_2.index t = ![t.val / 4, t.val % 4])

/-- What a point stores is the reference's result at the place of its block. -/
theorem point (c : Dev nD) (t : Fin cfg0.N) (y) : k0_pay1 (iblk m c 1 t) (iblk m c 0 t) y
    = REF (m ((c : Thread nD τ).loc main_arg0)) (m ((c : Thread nD τ).loc main_arg1)) (((cfg0.win 2).blk t).view.emb y) := by
  pointwise [k0_pay1, REF]
  blk_point [iblk, V, idx t]

theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Kernel and reference leave the same array. -/
theorem values : Cert.algebraic_Kernel11Ideal_Reference11Ideal (hKernel11Ideal := Cert.Kernel11Ideal.Gen.facts) (hReference11Ideal := Cert.Reference11Ideal.Gen.facts) := by
  intro m g m' g' _ hm
  refine ⟨fun c => REF (m ((c : Thread nD τ).loc main_arg0)) (m ((c : Thread nD τ).loc main_arg1)), ?_, ?_⟩
  · refine (θ_run _ _ _).mono (fun r h c => ?_) (Cert.Kernel11Ideal.Value.run_blocks m g)
    exact ⟨(h c).1.trans (final m c), (h c).2⟩
  · refine (θ_run _ _ _).mono (fun r h c => ?_) (Cert.Reference11Ideal.Value.run m' g')
    have e := hm c
    refine ⟨(h c).1.trans ?_, (h c).2⟩
    rw [e.1, e.2]

theorem frame_reference : Cert.quiescent_Reference11Ideal (hReference11Ideal := Cert.Reference11Ideal.Gen.facts) := fun m ρ _ =>
  (θ_run _ _ _).mono (fun r h => ⟨fun c => (h c).2, Cert.Common.no_counters (fun s => s.elim0) (fun s => s.elim0) _⟩) (Cert.Reference11Ideal.Value.run m ρ)

end Cert.Kernel11Ideal.Product

end
-- ==== Proof.Product12.lean ====
module

public import proofs.«01_k».proof.Defs
public import proofs.«01_k».proof.Proof.Gen.Kernel12Ideal
public import proofs.«01_k».proof.Proof.Gen.Kernel12Ideal.Value
public import proofs.«01_k».proof.Proof.Gen.Reference12Ideal.Run
public import proofs.«01_k».proof.Proof.Common
public import Idealize.ShloMosaic.Lib.Pipeline.ValueKit

@[expose] public section

/-! The channel mixer's second product: the tiled product is the plain one. -/

set_option maxRecDepth 16384

noncomputable section

namespace Cert.Kernel12Ideal.Product

open Idealize.ShloMosaic Idealize.ShloMosaic.TcCoe Idealize.SL.Sem Idealize.ShloMosaic.Tactic
open Cert.Kernel12Ideal Cert.Kernel12Ideal.Gen

variable (m : (ℓ : Loc nD τ sig) → Buf (Elt Ideal) ℓ)

/-- What the reference computes from its arguments. -/
abbrev REF (x0 : FVec Ideal Cert.Reference12Ideal.S4096x2816 .bf16) (x1 : FVec Ideal Cert.Reference12Ideal.S2816x1024 .f32) : FVec Ideal Cert.Reference12Ideal.S4096x1024 .f32 :=
  Host.dotGeneral Cert.Reference12Ideal.dot_S4096x2816_S2816x1024_S4096x1024_1_0_0_1_n_n none (extf .f32 x0 Cert.Reference12Ideal.Gen.bitsLt_bf16_f32) x1

/-- The blocks that point `t` takes of the two factors and of the result. -/
theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- What a point stores is the reference's result at the place of its block. -/
theorem point (c : Dev nD) (t : Fin cfg0.N) (y) : k0_pay1 (iblk m c 1 t) (iblk m c 0 t) y
    = REF (m ((c : Thread nD τ).loc main_arg0)) (m ((c : Thread nD τ).loc main_arg1)) (((cfg0.win 2).blk t).view.emb y) := by
  pointwise [k0_pay1, REF]
  blk_point [iblk, V, idx t]

theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Kernel and reference leave the same array. -/
theorem values : Cert.algebraic_Kernel12Ideal_Reference12Ideal (hKernel12Ideal := Cert.Kernel12Ideal.Gen.facts) (hReference12Ideal := Cert.Reference12Ideal.Gen.facts) := by
  intro m g m' g' _ hm
  refine ⟨fun c => REF (m ((c : Thread nD τ).loc main_arg0)) (m ((c : Thread nD τ).loc main_arg1)), ?_, ?_⟩
  · refine (θ_run _ _ _).mono (fun r h c => ?_) (Cert.Kernel12Ideal.Value.run_blocks m g)
    exact ⟨(h c).1.trans (final m c), (h c).2⟩
  · refine (θ_run _ _ _).mono (fun r h c => ?_) (Cert.Reference12Ideal.Value.run m' g')
    have e := hm c
    refine ⟨(h c).1.trans ?_, (h c).2⟩
    rw [e.1, e.2]

theorem frame_reference : Cert.quiescent_Reference12Ideal (hReference12Ideal := Cert.Reference12Ideal.Gen.facts) := fun m ρ _ =>
  (θ_run _ _ _).mono (fun r h => ⟨fun c => (h c).2, Cert.Common.no_counters (fun s => s.elim0) (fun s => s.elim0) _⟩) (Cert.Reference12Ideal.Value.run m ρ)

end Cert.Kernel12Ideal.Product

end
-- ==== Proof.Product13.lean ====
module

public import proofs.«01_k».proof.Defs
public import proofs.«01_k».proof.Proof.Gen.Kernel13Ideal
public import proofs.«01_k».proof.Proof.Gen.Kernel13Ideal.Value
public import proofs.«01_k».proof.Proof.Gen.Reference13Ideal.Run
public import proofs.«01_k».proof.Proof.Common
public import Idealize.ShloMosaic.Lib.Pipeline.ValueKit

@[expose] public section

/-! The product on the merged branches: the tiled product is the plain one. -/

set_option maxRecDepth 16384

noncomputable section

namespace Cert.Kernel13Ideal.Product

open Idealize.ShloMosaic Idealize.ShloMosaic.TcCoe Idealize.SL.Sem Idealize.ShloMosaic.Tactic
open Cert.Kernel13Ideal Cert.Kernel13Ideal.Gen

variable (m : (ℓ : Loc nD τ sig) → Buf (Elt Ideal) ℓ)

/-- What the reference computes from its arguments. -/
abbrev REF (x0 : FVec Ideal Cert.Reference13Ideal.S4096x1024 .bf16) (x1 : FVec Ideal Cert.Reference13Ideal.S1024x1024 .f32) : FVec Ideal Cert.Reference13Ideal.S4096x1024 .f32 :=
  Host.dotGeneral Cert.Reference13Ideal.dot_S4096x1024_S1024x1024_S4096x1024_1_0_0_1_n_n none (extf .f32 x0 Cert.Reference13Ideal.Gen.bitsLt_bf16_f32) x1

/-- The blocks that point `t` takes of the two factors and of the result. -/
theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- What a point stores is the reference's result at the place of its block. -/
theorem point (c : Dev nD) (t : Fin cfg0.N) (y) : k0_pay1 (iblk m c 1 t) (iblk m c 0 t) y
    = REF (m ((c : Thread nD τ).loc main_arg0)) (m ((c : Thread nD τ).loc main_arg1)) (((cfg0.win 2).blk t).view.emb y) := by
  pointwise [k0_pay1, REF]
  blk_point [iblk, V, idx t]

theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Kernel and reference leave the same array. -/
theorem values : Cert.algebraic_Kernel13Ideal_Reference13Ideal (hKernel13Ideal := Cert.Kernel13Ideal.Gen.facts) (hReference13Ideal := Cert.Reference13Ideal.Gen.facts) := by
  intro m g m' g' _ hm
  refine ⟨fun c => REF (m ((c : Thread nD τ).loc main_arg0)) (m ((c : Thread nD τ).loc main_arg1)), ?_, ?_⟩
  · refine (θ_run _ _ _).mono (fun r h c => ?_) (Cert.Kernel13Ideal.Value.run_blocks m g)
    exact ⟨(h c).1.trans (final m c), (h c).2⟩
  · refine (θ_run _ _ _).mono (fun r h c => ?_) (Cert.Reference13Ideal.Value.run m' g')
    have e := hm c
    refine ⟨(h c).1.trans ?_, (h c).2⟩
    rw [e.1, e.2]

theorem frame_reference : Cert.quiescent_Reference13Ideal (hReference13Ideal := Cert.Reference13Ideal.Gen.facts) := fun m ρ _ =>
  (θ_run _ _ _).mono (fun r h => ⟨fun c => (h c).2, Cert.Common.no_counters (fun s => s.elim0) (fun s => s.elim0) _⟩) (Cert.Reference13Ideal.Value.run m ρ)

end Cert.Kernel13Ideal.Product

end
-- ==== Proof.Product14.lean ====
module

public import proofs.«01_k».proof.Defs
public import proofs.«01_k».proof.Proof.Gen.Kernel14Ideal
public import proofs.«01_k».proof.Proof.Gen.Kernel14Ideal.Value
public import proofs.«01_k».proof.Proof.Gen.Reference14Ideal.Run
public import proofs.«01_k».proof.Proof.Common
public import Idealize.ShloMosaic.Lib.Pipeline.ValueKit

@[expose] public section

/-! The product on a branch: the tiled product is the plain one. -/

set_option maxRecDepth 16384

noncomputable section

namespace Cert.Kernel14Ideal.Product

open Idealize.ShloMosaic Idealize.ShloMosaic.TcCoe Idealize.SL.Sem Idealize.ShloMosaic.Tactic
open Cert.Kernel14Ideal Cert.Kernel14Ideal.Gen

variable (m : (ℓ : Loc nD τ sig) → Buf (Elt Ideal) ℓ)

/-- What the reference computes from its arguments. -/
abbrev REF (x0 : FVec Ideal Cert.Reference14Ideal.S4096x512 .bf16) (x1 : FVec Ideal Cert.Reference14Ideal.S4x512x256 .f32) : FVec Ideal Cert.Reference14Ideal.S4096x1024 .f32 :=
  Host.dotGeneral Cert.Reference14Ideal.dot_S4096x512_S512x1024_S4096x1024_1_0_0_1_n_n none (extf .f32 x0 Cert.Reference14Ideal.Gen.bitsLt_bf16_f32) (shapeCast _ (transpose Cert.Reference14Ideal.S512x4x256 [1, 0, 2] x1 Cert.Reference14Ideal.Gen.transposes_S4x512x256_S512x4x256_1_0_2) Cert.Reference14Ideal.Gen.shapeCasts_S512x4x256_S512x1024)

/-- The blocks that point `t` takes of the two factors and of the result. -/
theorem idx : ∀ t : Fin cfg0.N, win0_0.index t = ![t.val / 4, 0] ∧ win0_1.index t = ![t.val % 4, 0, 0] ∧ win0_2.index t = ![t.val / 4, t.val % 4] :=
  (by decide +kernel : ∀ t : Fin grid0.N, win0_0.index t = ![t.val / 4, 0] ∧ win0_1.index t = ![t.val % 4, 0, 0] ∧ win0_2.index t = ![t.val / 4, t.val % 4])

/-- What a point stores is the reference's result at the place of its block. -/
theorem point (c : Dev nD) (t : Fin cfg0.N) (y) : k0_pay1 (iblk m c 1 t) (iblk m c 0 t) y
    = REF (m ((c : Thread nD τ).loc main_arg0)) (m ((c : Thread nD τ).loc main_arg1)) (((cfg0.win 2).blk t).view.emb y) := by
  pointwise [k0_pay1, REF]
  blk_point [iblk, V, idx t]

theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Kernel and reference leave the same array. -/
theorem values : Cert.algebraic_Kernel14Ideal_Reference14Ideal (hKernel14Ideal := Cert.Kernel14Ideal.Gen.facts) (hReference14Ideal := Cert.Reference14Ideal.Gen.facts) := by
  intro m g m' g' _ hm
  refine ⟨fun c => REF (m ((c : Thread nD τ).loc main_arg0)) (m ((c : Thread nD τ).loc main_arg1)), ?_, ?_⟩
  · refine (θ_run _ _ _).mono (fun r h c => ?_) (Cert.Kernel14Ideal.Value.run_blocks m g)
    exact ⟨(h c).1.trans (final m c), (h c).2⟩
  · refine (θ_run _ _ _).mono (fun r h c => ?_) (Cert.Reference14Ideal.Value.run m' g')
    have e := hm c
    refine ⟨(h c).1.trans ?_, (h c).2⟩
    rw [e.1, e.2]

theorem frame_reference : Cert.quiescent_Reference14Ideal (hReference14Ideal := Cert.Reference14Ideal.Gen.facts) := fun m ρ _ =>
  (θ_run _ _ _).mono (fun r h => ⟨fun c => (h c).2, Cert.Common.no_counters (fun s => s.elim0) (fun s => s.elim0) _⟩) (Cert.Reference14Ideal.Value.run m ρ)

end Cert.Kernel14Ideal.Product

end
-- ==== Proof.Step15.lean ====
module

public import proofs.«01_k».proof.Defs
public import proofs.«01_k».proof.Proof.Gen.Kernel15Ideal
public import proofs.«01_k».proof.Proof.Gen.Kernel15Ideal.Value
public import proofs.«01_k».proof.Proof.Gen.Reference15Ideal.Run
public import proofs.«01_k».proof.Proof.Common
public import Idealize.ShloMosaic.Lib.Pipeline.ValueKit

@[expose] public section

/-! One AdamW step of the input projection's weight: what the row blocks hold is the step of the whole arrays. -/

set_option maxRecDepth 16384

noncomputable section

namespace Cert.Kernel15Ideal.Step

open Idealize.ShloMosaic Idealize.ShloMosaic.TcCoe Idealize.SL.Sem Idealize.ShloMosaic.Tactic
open Cert.Kernel15Ideal Cert.Kernel15Ideal.Gen Cert.Kernel15Ideal.Value

/-- Kernel and reference leave the same change of the weight and the same two moments. -/
theorem values : Cert.algebraic_Kernel15Ideal_Reference15Ideal (hKernel15Ideal := Cert.Kernel15Ideal.Gen.facts) (hReference15Ideal := Cert.Reference15Ideal.Gen.facts) := by
  intro m g m' g' _ hm
  refine ⟨fun c => G4 (m ((c : Thread nD τ).loc main_arg1)) (m ((c : Thread nD τ).loc main_arg2)) (m ((c : Thread nD τ).loc main_arg3)) (m ((c : Thread nD τ).loc main_arg0)),
    fun c => G5 (m ((c : Thread nD τ).loc main_arg1)) (m ((c : Thread nD τ).loc main_arg2)),
    fun c => G6 (m ((c : Thread nD τ).loc main_arg1)) (m ((c : Thread nD τ).loc main_arg3)), Cert.Kernel15Ideal.Value.run m g, ?_⟩
  refine (θ_run _ _ _).mono (fun r h c => ?_) (Cert.Reference15Ideal.Value.run m' g')
  obtain ⟨h0, h1, h2, hargs⟩ := h c
  obtain ⟨e0, e1, e2, e3⟩ := hm c
  refine ⟨h0.trans ?_, h1.trans ?_, h2.trans ?_, hargs⟩
  · rw [e0, e1, e2, e3]; funext i; pointwise!
  · rw [e1, e2]; funext i; pointwise!
  · rw [e1, e3]; funext i; pointwise!

theorem frame_reference : Cert.quiescent_Reference15Ideal (hReference15Ideal := Cert.Reference15Ideal.Gen.facts) := fun m ρ _ =>
  (θ_run _ _ _).mono (fun r h => ⟨fun c => (h c).2.2.2, Cert.Common.no_counters (fun s => s.elim0) (fun s => s.elim0) _⟩) (Cert.Reference15Ideal.Value.run m ρ)

end Cert.Kernel15Ideal.Step

end
-- ==== Proof.Step16.lean ====
module

public import proofs.«01_k».proof.Defs
public import proofs.«01_k».proof.Proof.Gen.Kernel16Ideal
public import proofs.«01_k».proof.Proof.Gen.Kernel16Ideal.Value
public import proofs.«01_k».proof.Proof.Gen.Reference16Ideal.Run
public import proofs.«01_k».proof.Proof.Common
public import Idealize.ShloMosaic.Lib.Pipeline.ValueKit

@[expose] public section

/-! One AdamW step of the weight on a branch: what the row blocks hold is the step of the whole arrays. -/

set_option maxRecDepth 16384

noncomputable section

namespace Cert.Kernel16Ideal.Step

open Idealize.ShloMosaic Idealize.ShloMosaic.TcCoe Idealize.SL.Sem Idealize.ShloMosaic.Tactic
open Cert.Kernel16Ideal Cert.Kernel16Ideal.Gen Cert.Kernel16Ideal.Value

/-- Kernel and reference leave the same change of the weight and the same two moments. -/
theorem values : Cert.algebraic_Kernel16Ideal_Reference16Ideal (hKernel16Ideal := Cert.Kernel16Ideal.Gen.facts) (hReference16Ideal := Cert.Reference16Ideal.Gen.facts) := by
  intro m g m' g' _ hm
  refine ⟨fun c => G4 (m ((c : Thread nD τ).loc main_arg1)) (m ((c : Thread nD τ).loc main_arg2)) (m ((c : Thread nD τ).loc main_arg3)) (m ((c : Thread nD τ).loc main_arg0)),
    fun c => G5 (m ((c : Thread nD τ).loc main_arg1)) (m ((c : Thread nD τ).loc main_arg2)),
    fun c => G6 (m ((c : Thread nD τ).loc main_arg1)) (m ((c : Thread nD τ).loc main_arg3)), Cert.Kernel16Ideal.Value.run m g, ?_⟩
  refine (θ_run _ _ _).mono (fun r h c => ?_) (Cert.Reference16Ideal.Value.run m' g')
  obtain ⟨h0, h1, h2, hargs⟩ := h c
  obtain ⟨e0, e1, e2, e3⟩ := hm c
  refine ⟨h0.trans ?_, h1.trans ?_, h2.trans ?_, hargs⟩
  · rw [e0, e1, e2, e3]; funext i; pointwise!
  · rw [e1, e2]; funext i; pointwise!
  · rw [e1, e3]; funext i; pointwise!

theorem frame_reference : Cert.quiescent_Reference16Ideal (hReference16Ideal := Cert.Reference16Ideal.Gen.facts) := fun m ρ _ =>
  (θ_run _ _ _).mono (fun r h => ⟨fun c => (h c).2.2.2, Cert.Common.no_counters (fun s => s.elim0) (fun s => s.elim0) _⟩) (Cert.Reference16Ideal.Value.run m ρ)

end Cert.Kernel16Ideal.Step

end
-- ==== Proof.Step17.lean ====
module

public import proofs.«01_k».proof.Defs
public import proofs.«01_k».proof.Proof.Gen.Kernel17Ideal
public import proofs.«01_k».proof.Proof.Gen.Kernel17Ideal.Value
public import proofs.«01_k».proof.Proof.Gen.Reference17Ideal.Run
public import proofs.«01_k».proof.Proof.Common
public import Idealize.ShloMosaic.Lib.Pipeline.ValueKit

@[expose] public section

/-! One AdamW step of the weight on the merged branches: what the row blocks hold is the step of the whole arrays. -/

set_option maxRecDepth 16384

noncomputable section

namespace Cert.Kernel17Ideal.Step

open Idealize.ShloMosaic Idealize.ShloMosaic.TcCoe Idealize.SL.Sem Idealize.ShloMosaic.Tactic
open Cert.Kernel17Ideal Cert.Kernel17Ideal.Gen Cert.Kernel17Ideal.Value

/-- Kernel and reference leave the same change of the weight and the same two moments. -/
theorem values : Cert.algebraic_Kernel17Ideal_Reference17Ideal (hKernel17Ideal := Cert.Kernel17Ideal.Gen.facts) (hReference17Ideal := Cert.Reference17Ideal.Gen.facts) := by
  intro m g m' g' _ hm
  refine ⟨fun c => G4 (m ((c : Thread nD τ).loc main_arg1)) (m ((c : Thread nD τ).loc main_arg2)) (m ((c : Thread nD τ).loc main_arg3)) (m ((c : Thread nD τ).loc main_arg0)),
    fun c => G5 (m ((c : Thread nD τ).loc main_arg1)) (m ((c : Thread nD τ).loc main_arg2)),
    fun c => G6 (m ((c : Thread nD τ).loc main_arg1)) (m ((c : Thread nD τ).loc main_arg3)), Cert.Kernel17Ideal.Value.run m g, ?_⟩
  refine (θ_run _ _ _).mono (fun r h c => ?_) (Cert.Reference17Ideal.Value.run m' g')
  obtain ⟨h0, h1, h2, hargs⟩ := h c
  obtain ⟨e0, e1, e2, e3⟩ := hm c
  refine ⟨h0.trans ?_, h1.trans ?_, h2.trans ?_, hargs⟩
  · rw [e0, e1, e2, e3]; funext i; pointwise!
  · rw [e1, e2]; funext i; pointwise!
  · rw [e1, e3]; funext i; pointwise!

theorem frame_reference : Cert.quiescent_Reference17Ideal (hReference17Ideal := Cert.Reference17Ideal.Gen.facts) := fun m ρ _ =>
  (θ_run _ _ _).mono (fun r h => ⟨fun c => (h c).2.2.2, Cert.Common.no_counters (fun s => s.elim0) (fun s => s.elim0) _⟩) (Cert.Reference17Ideal.Value.run m ρ)

end Cert.Kernel17Ideal.Step

end
-- ==== Proof.Step18.lean ====
module

public import proofs.«01_k».proof.Defs
public import proofs.«01_k».proof.Proof.Gen.Kernel18Ideal
public import proofs.«01_k».proof.Proof.Gen.Kernel18Ideal.Value
public import proofs.«01_k».proof.Proof.Gen.Reference18Ideal.Run
public import proofs.«01_k».proof.Proof.Common
public import Idealize.ShloMosaic.Lib.Pipeline.ValueKit

@[expose] public section

/-! One AdamW step of the channel mixer's first weight: what the row blocks hold is the step of the whole arrays. -/

set_option maxRecDepth 16384

noncomputable section

namespace Cert.Kernel18Ideal.Step

open Idealize.ShloMosaic Idealize.ShloMosaic.TcCoe Idealize.SL.Sem Idealize.ShloMosaic.Tactic
open Cert.Kernel18Ideal Cert.Kernel18Ideal.Gen Cert.Kernel18Ideal.Value

/-- Kernel and reference leave the same change of the weight and the same two moments. -/
theorem values : Cert.algebraic_Kernel18Ideal_Reference18Ideal (hKernel18Ideal := Cert.Kernel18Ideal.Gen.facts) (hReference18Ideal := Cert.Reference18Ideal.Gen.facts) := by
  intro m g m' g' _ hm
  refine ⟨fun c => G4 (m ((c : Thread nD τ).loc main_arg1)) (m ((c : Thread nD τ).loc main_arg2)) (m ((c : Thread nD τ).loc main_arg3)) (m ((c : Thread nD τ).loc main_arg0)),
    fun c => G5 (m ((c : Thread nD τ).loc main_arg1)) (m ((c : Thread nD τ).loc main_arg2)),
    fun c => G6 (m ((c : Thread nD τ).loc main_arg1)) (m ((c : Thread nD τ).loc main_arg3)), Cert.Kernel18Ideal.Value.run m g, ?_⟩
  refine (θ_run _ _ _).mono (fun r h c => ?_) (Cert.Reference18Ideal.Value.run m' g')
  obtain ⟨h0, h1, h2, hargs⟩ := h c
  obtain ⟨e0, e1, e2, e3⟩ := hm c
  refine ⟨h0.trans ?_, h1.trans ?_, h2.trans ?_, hargs⟩
  · rw [e0, e1, e2, e3]; funext i; pointwise!
  · rw [e1, e2]; funext i; pointwise!
  · rw [e1, e3]; funext i; pointwise!

theorem frame_reference : Cert.quiescent_Reference18Ideal (hReference18Ideal := Cert.Reference18Ideal.Gen.facts) := fun m ρ _ =>
  (θ_run _ _ _).mono (fun r h => ⟨fun c => (h c).2.2.2, Cert.Common.no_counters (fun s => s.elim0) (fun s => s.elim0) _⟩) (Cert.Reference18Ideal.Value.run m ρ)

end Cert.Kernel18Ideal.Step

end
-- ==== Proof.Step19.lean ====
module

public import proofs.«01_k».proof.Defs
public import proofs.«01_k».proof.Proof.Gen.Kernel19Ideal
public import proofs.«01_k».proof.Proof.Gen.Kernel19Ideal.Value
public import proofs.«01_k».proof.Proof.Gen.Reference19Ideal.Run
public import proofs.«01_k».proof.Proof.Common
public import Idealize.ShloMosaic.Lib.Pipeline.ValueKit

@[expose] public section

/-! One AdamW step of the channel mixer's second weight: what the row blocks hold is the step of the whole arrays. -/

set_option maxRecDepth 16384

noncomputable section

namespace Cert.Kernel19Ideal.Step

open Idealize.ShloMosaic Idealize.ShloMosaic.TcCoe Idealize.SL.Sem Idealize.ShloMosaic.Tactic
open Cert.Kernel19Ideal Cert.Kernel19Ideal.Gen Cert.Kernel19Ideal.Value

/-- Kernel and reference leave the same change of the weight and the same two moments. -/
theorem values : Cert.algebraic_Kernel19Ideal_Reference19Ideal (hKernel19Ideal := Cert.Kernel19Ideal.Gen.facts) (hReference19Ideal := Cert.Reference19Ideal.Gen.facts) := by
  intro m g m' g' _ hm
  refine ⟨fun c => G4 (m ((c : Thread nD τ).loc main_arg1)) (m ((c : Thread nD τ).loc main_arg2)) (m ((c : Thread nD τ).loc main_arg3)) (m ((c : Thread nD τ).loc main_arg0)),
    fun c => G5 (m ((c : Thread nD τ).loc main_arg1)) (m ((c : Thread nD τ).loc main_arg2)),
    fun c => G6 (m ((c : Thread nD τ).loc main_arg1)) (m ((c : Thread nD τ).loc main_arg3)), Cert.Kernel19Ideal.Value.run m g, ?_⟩
  refine (θ_run _ _ _).mono (fun r h c => ?_) (Cert.Reference19Ideal.Value.run m' g')
  obtain ⟨h0, h1, h2, hargs⟩ := h c
  obtain ⟨e0, e1, e2, e3⟩ := hm c
  refine ⟨h0.trans ?_, h1.trans ?_, h2.trans ?_, hargs⟩
  · rw [e0, e1, e2, e3]; funext i; pointwise!
  · rw [e1, e2]; funext i; pointwise!
  · rw [e1, e3]; funext i; pointwise!

theorem frame_reference : Cert.quiescent_Reference19Ideal (hReference19Ideal := Cert.Reference19Ideal.Gen.facts) := fun m ρ _ =>
  (θ_run _ _ _).mono (fun r h => ⟨fun c => (h c).2.2.2, Cert.Common.no_counters (fun s => s.elim0) (fun s => s.elim0) _⟩) (Cert.Reference19Ideal.Value.run m ρ)

end Cert.Kernel19Ideal.Step

end
-- ==== Proof.Step20.lean ====
module

public import proofs.«01_k».proof.Defs
public import proofs.«01_k».proof.Proof.Gen.Kernel20Ideal
public import proofs.«01_k».proof.Proof.Gen.Kernel20Ideal.Value
public import proofs.«01_k».proof.Proof.Gen.Reference20Ideal.Run
public import proofs.«01_k».proof.Proof.Common
public import Idealize.ShloMosaic.Lib.Pipeline.ValueKit

@[expose] public section

/-! One AdamW step of the weight that makes the modulation: what the row blocks hold is the step of the whole arrays. -/

set_option maxRecDepth 16384

noncomputable section

namespace Cert.Kernel20Ideal.Step

open Idealize.ShloMosaic Idealize.ShloMosaic.TcCoe Idealize.SL.Sem Idealize.ShloMosaic.Tactic
open Cert.Kernel20Ideal Cert.Kernel20Ideal.Gen Cert.Kernel20Ideal.Value

/-- Kernel and reference leave the same change of the weight and the same two moments. -/
theorem values : Cert.algebraic_Kernel20Ideal_Reference20Ideal (hKernel20Ideal := Cert.Kernel20Ideal.Gen.facts) (hReference20Ideal := Cert.Reference20Ideal.Gen.facts) := by
  intro m g m' g' _ hm
  refine ⟨fun c => G4 (m ((c : Thread nD τ).loc main_arg1)) (m ((c : Thread nD τ).loc main_arg2)) (m ((c : Thread nD τ).loc main_arg3)) (m ((c : Thread nD τ).loc main_arg0)),
    fun c => G5 (m ((c : Thread nD τ).loc main_arg1)) (m ((c : Thread nD τ).loc main_arg2)),
    fun c => G6 (m ((c : Thread nD τ).loc main_arg1)) (m ((c : Thread nD τ).loc main_arg3)), Cert.Kernel20Ideal.Value.run m g, ?_⟩
  refine (θ_run _ _ _).mono (fun r h c => ?_) (Cert.Reference20Ideal.Value.run m' g')
  obtain ⟨h0, h1, h2, hargs⟩ := h c
  obtain ⟨e0, e1, e2, e3⟩ := hm c
  refine ⟨h0.trans ?_, h1.trans ?_, h2.trans ?_, hargs⟩
  · rw [e0, e1, e2, e3]; funext i; pointwise!
  · rw [e1, e2]; funext i; pointwise!
  · rw [e1, e3]; funext i; pointwise!

theorem frame_reference : Cert.quiescent_Reference20Ideal (hReference20Ideal := Cert.Reference20Ideal.Gen.facts) := fun m ρ _ =>
  (θ_run _ _ _).mono (fun r h => ⟨fun c => (h c).2.2.2, Cert.Common.no_counters (fun s => s.elim0) (fun s => s.elim0) _⟩) (Cert.Reference20Ideal.Value.run m ρ)

end Cert.Kernel20Ideal.Step

end
-- ==== Proof.Step21.lean ====
module

public import proofs.«01_k».proof.Defs
public import proofs.«01_k».proof.Proof.Gen.Kernel21Ideal
public import proofs.«01_k».proof.Proof.Gen.Kernel21Ideal.Value
public import proofs.«01_k».proof.Proof.Gen.Reference21Ideal.Run
public import proofs.«01_k».proof.Proof.Common
public import Idealize.ShloMosaic.Lib.Pipeline.ValueKit

@[expose] public section

/-! One AdamW step of the small weights, packed into rows: what the row blocks hold is the step of the whole arrays. -/

set_option maxRecDepth 16384

noncomputable section

namespace Cert.Kernel21Ideal.Step

open Idealize.ShloMosaic Idealize.ShloMosaic.TcCoe Idealize.SL.Sem Idealize.ShloMosaic.Tactic
open Cert.Kernel21Ideal Cert.Kernel21Ideal.Gen Cert.Kernel21Ideal.Value

/-- Kernel and reference leave the same change of the weight and the same two moments. -/
theorem values : Cert.algebraic_Kernel21Ideal_Reference21Ideal (hKernel21Ideal := Cert.Kernel21Ideal.Gen.facts) (hReference21Ideal := Cert.Reference21Ideal.Gen.facts) := by
  intro m g m' g' _ hm
  refine ⟨fun c => G4 (m ((c : Thread nD τ).loc main_arg1)) (m ((c : Thread nD τ).loc main_arg2)) (m ((c : Thread nD τ).loc main_arg3)) (m ((c : Thread nD τ).loc main_arg0)),
    fun c => G5 (m ((c : Thread nD τ).loc main_arg1)) (m ((c : Thread nD τ).loc main_arg2)),
    fun c => G6 (m ((c : Thread nD τ).loc main_arg1)) (m ((c : Thread nD τ).loc main_arg3)), Cert.Kernel21Ideal.Value.run m g, ?_⟩
  refine (θ_run _ _ _).mono (fun r h c => ?_) (Cert.Reference21Ideal.Value.run m' g')
  obtain ⟨h0, h1, h2, hargs⟩ := h c
  obtain ⟨e0, e1, e2, e3⟩ := hm c
  refine ⟨h0.trans ?_, h1.trans ?_, h2.trans ?_, hargs⟩
  · rw [e0, e1, e2, e3]; funext i; pointwise!
  · rw [e1, e2]; funext i; pointwise!
  · rw [e1, e3]; funext i; pointwise!

theorem frame_reference : Cert.quiescent_Reference21Ideal (hReference21Ideal := Cert.Reference21Ideal.Gen.facts) := fun m ρ _ =>
  (θ_run _ _ _).mono (fun r h => ⟨fun c => (h c).2.2.2, Cert.Common.no_counters (fun s => s.elim0) (fun s => s.elim0) _⟩) (Cert.Reference21Ideal.Value.run m ρ)

end Cert.Kernel21Ideal.Step

end
-- ==== Proof.Stage22.lean ====
module

public import proofs.«01_k».proof.Defs
public import proofs.«01_k».proof.Proof.Gen.Kernel22Ideal
public import proofs.«01_k».proof.Proof.Gen.Kernel22Ideal.Value
public import proofs.«01_k».proof.Proof.Gen.Reference22Ideal.Run
public import proofs.«01_k».proof.Proof.Common
public import Idealize.ShloMosaic.Lib.Pipeline.ReadBack
public import Idealize.ShloMosaic.Lib.Pipeline.ValueKit

@[expose] public section

/-! The gradient of the first norm: its input's gradient a block of rows at a point, and the three
parameter gradients summed over the eight blocks of rows. -/

set_option maxRecDepth 16384

noncomputable section

namespace Cert.Reference22Ideal.Stage

open Idealize.ShloMosaic Idealize.ShloMosaic.TcCoe
open Cert.Reference22Ideal Cert.Reference22Ideal.Gen

/-- The reference's result 0, of its arguments. -/
abbrev REF0 (x0 : FVec Ideal S4096x1024 .f32) (x1 : FVec Ideal S1x1024 .f32) (x3 : FVec Ideal S1x1024 .f32) (x4 : FVec Ideal S4096x1024 .f32) (x5 : FVec Ideal S4096x1024 .f32) : FVec Ideal S4096x1024 .f32 :=
  addf (addf (addf x5 (mulf (mulf (mulf (shapeCast _ x4 shapeCasts_S4096x1024_S4096x1024) (broadcastInDim S4096x1024 ![0, 1] bcast_S1x1024_S4096x1024_0_1 (addf (broadcastInDim S1x1024 ![] bcast_S_S1x1024 (constant S_ .f32 0x3F800000#32)) x3))) (broadcastInDim S4096x1024 ![0, 1] bcast_S1x1024_S4096x1024_0_1 x1)) (broadcastInDim S4096x1024 ![0, 1] bcast_S4096x1_S4096x1024_0_1 (Host.rsqrt (addf (Host.divf (broadcastInDim S4096x1 ![0] bcast_S4096_S4096x1_0 (Host.reduceAdd (mulf x0 x0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))))))) (mulf x0 (broadcastInDim S4096x1024 ![0] bcast_S4096_S4096x1024_0 (Host.reduceAdd (Host.divf (mulf (shapeCast _ (Host.reduceAdd (mulf x0 (mulf (mulf (shapeCast _ x4 shapeCasts_S4096x1024_S4096x1024) (broadcastInDim S4096x1024 ![0, 1] bcast_S1x1024_S4096x1024_0_1 (addf (broadcastInDim S1x1024 ![] bcast_S_S1x1024 (constant S_ .f32 0x3F800000#32)) x3))) (broadcastInDim S4096x1024 ![0, 1] bcast_S1x1024_S4096x1024_0_1 x1))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x0 x0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x0 x0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf x0 (mulf (mulf (shapeCast _ x4 shapeCasts_S4096x1024_S4096x1024) (broadcastInDim S4096x1024 ![0, 1] bcast_S1x1024_S4096x1024_0_1 (addf (broadcastInDim S1x1024 ![] bcast_S_S1x1024 (constant S_ .f32 0x3F800000#32)) x3))) (broadcastInDim S4096x1024 ![0, 1] bcast_S1x1024_S4096x1024_0_1 x1))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x0 x0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x0 x0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) x0)

/-- The reference's result 1, of its arguments. -/
abbrev REF1 (x0 : FVec Ideal S4096x1024 .f32) (x3 : FVec Ideal S1x1024 .f32) (x4 : FVec Ideal S4096x1024 .f32) : FVec Ideal S1x1024 .f32 :=
  shapeCast _ (Host.reduceAdd (mulf (mulf x0 (broadcastInDim S4096x1024 ![0, 1] bcast_S4096x1_S4096x1024_0_1 (Host.rsqrt (addf (Host.divf (broadcastInDim S4096x1 ![0] bcast_S4096_S4096x1_0 (Host.reduceAdd (mulf x0 x0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf (shapeCast _ x4 shapeCasts_S4096x1024_S4096x1024) (broadcastInDim S4096x1024 ![0, 1] bcast_S1x1024_S4096x1024_0_1 (addf (broadcastInDim S1x1024 ![] bcast_S_S1x1024 (constant S_ .f32 0x3F800000#32)) x3)))) (constant S_ .f32 0x00000000#32) reducesTo_S4096x1024_S1024_d0 h_S_) shapeCasts_S1024_S1x1024

/-- The reference's result 2, of its arguments. -/
abbrev REF2 (x4 : FVec Ideal S4096x1024 .f32) : FVec Ideal S1x1024 .f32 :=
  shapeCast _ (Host.reduceAdd x4 (constant S_ .f32 0x00000000#32) reducesTo_S4096x1024_S1024_d0 h_S_) shapeCasts_S1024_S1x1024

/-- The reference's result 3, of its arguments. -/
abbrev REF3 (x0 : FVec Ideal S4096x1024 .f32) (x1 : FVec Ideal S1x1024 .f32) (x4 : FVec Ideal S4096x1024 .f32) : FVec Ideal S1x1024 .f32 :=
  shapeCast _ (Host.reduceAdd (mulf (mulf (mulf x0 (broadcastInDim S4096x1024 ![0, 1] bcast_S4096x1_S4096x1024_0_1 (Host.rsqrt (addf (Host.divf (broadcastInDim S4096x1 ![0] bcast_S4096_S4096x1_0 (Host.reduceAdd (mulf x0 x0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 x1)) (shapeCast _ x4 shapeCasts_S4096x1024_S4096x1024)) (constant S_ .f32 0x00000000#32) reducesTo_S4096x1024_S1024_d0 h_S_) shapeCasts_S1024_S1x1024

end Cert.Reference22Ideal.Stage

namespace Cert.Kernel22Ideal.Stage

open Idealize.ShloMosaic Idealize.ShloMosaic.TcCoe Idealize.SL.Sem Idealize.ShloMosaic.Tactic
open Cert.Kernel22Ideal Cert.Kernel22Ideal.Gen Cert.Reference22Ideal.Stage

variable (m : (ℓ : Loc nD τ sig) → Buf (Elt Ideal) ℓ)

/-- The block that point `t` takes of every array. -/
theorem idx : ∀ t : Fin cfg0.N, win0_0.index t = ![7 - t.val, 0] ∧ win0_1.index t = ![0, 0] ∧ win0_2.index t = ![0, 0] ∧ win0_3.index t = ![0, 0] ∧ win0_4.index t = ![7 - t.val, 0] ∧ win0_5.index t = ![7 - t.val, 0] ∧ win0_6.index t = ![7 - t.val, 0] ∧ win0_7.index t = ![0, 0] ∧ win0_8.index t = ![0, 0] ∧ win0_9.index t = ![0, 0] :=
  (by decide +kernel : ∀ t : Fin grid0.N, win0_0.index t = ![7 - t.val, 0] ∧ win0_1.index t = ![0, 0] ∧ win0_2.index t = ![0, 0] ∧ win0_3.index t = ![0, 0] ∧ win0_4.index t = ![7 - t.val, 0] ∧ win0_5.index t = ![7 - t.val, 0] ∧ win0_6.index t = ![7 - t.val, 0] ∧ win0_7.index t = ![0, 0] ∧ win0_8.index t = ![0, 0] ∧ win0_9.index t = ![0, 0])

theorem zero_at2 (j) : k0_pay2 (F := Ideal) j = 0 := by
  pointwise [k0_pay2]

theorem zero_at3 (j) : k0_pay3 (F := Ideal) j = 0 := by
  pointwise [k0_pay3]

theorem zero_at4 (j) : k0_pay4 (F := Ideal) j = 0 := by
  pointwise [k0_pay4]

theorem part_at5 (v acc : FVec Ideal S1x1024 .f32) (j) : k0_pay5 v acc j = acc j + v j := by
  pointwise [k0_pay5]

theorem part_at6 (v acc : FVec Ideal S1x1024 .f32) (j) : k0_pay6 v acc j = acc j + v j := by
  pointwise [k0_pay6]

theorem part_at7 (v acc : FVec Ideal S1x1024 .f32) (j) : k0_pay7 v acc j = acc j + v j := by
  pointwise [k0_pay7]

theorem final0 (c : Dev nD) : (dats m 0 c).arrAt 6 cfg0.N = REF0 (m ((c : Thread nD τ).loc main_arg0)) (m ((c : Thread nD τ).loc main_arg1)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  by_cases h : t.val % 8 = 0
  · rw [outsAt0_A m c t h]
    frame_out
    pointwise [k0_pay1, k0_pay8, k0_pay9, k0_pay10, k0_pay11, k0_pay12, k0_pay13, k0_pay14, k0_pay15, k0_pay16, k0_pay17, k0_pay18, k0_pay19, REF0]
    blk_point [iblk, V, idx t]
  · rw [outsAt0_B m c t h]
    frame_out
    pointwise [k0_pay1, k0_pay8, k0_pay9, k0_pay10, k0_pay11, k0_pay12, k0_pay13, k0_pay14, k0_pay15, k0_pay16, k0_pay17, k0_pay18, k0_pay19, REF0]
    blk_point [iblk, V, idx t]

theorem final1 (c : Dev nD) : (dats m 0 c).arrAt 7 cfg0.N = REF1 (m ((c : Thread nD τ).loc main_arg0)) (m ((c : Thread nD τ).loc main_arg3)) (m ((c : Thread nD τ).loc main_arg4)) := by
  refine (dats m 0 c).arrAt_eq_of_covers 7 _ (by decide +kernel) fun t hf y => ?_
  blk_simp
  rw [after0_7]
  rw [Pipeline.eq_sum_fin_of_reset_step_apply_of_flush (fun n h => (outsAt0 m c n h).2.1) 8 (fun _ => 0) _
    (fun t h j => by rw [outsAt0_A m c t h]; frame_out; simp only [part_at5, part_at6, part_at7, zero_at2, zero_at3, zero_at4] <;> rfl)
    (fun t h j => by rw [outsAt0_B m c t h]; frame_out; simp only [part_at5, part_at6, part_at7] <;> rfl)
    t ((flush0_7 t).mp hf) _, zero_add, ← Equiv.sum_comp Fin.revPerm]
  pointwise [k0_pay1, k0_pay8, k0_pay9, k0_pay10, k0_pay11, k0_pay12, k0_pay13, k0_pay14, k0_pay15, k0_pay16, k0_pay17, k0_pay18, k0_pay19, REF1]
  refine Fin.sum_mul_add_congr fun s k hl => ?_
  have hr : (Fin.revPerm s).val = 7 - s.val := by
    have := Fin.val_rev s
    rw [Fin.revPerm_apply]
    omega
  blk_point [iblk, V, idx t, idx ⟨8 * (t.val / 8) + (Fin.revPerm s).val, Pipeline.run_point_lt_of_flush t ((flush0_7 t).mp hf) _⟩]

theorem final2 (c : Dev nD) : (dats m 0 c).arrAt 8 cfg0.N = REF2 (m ((c : Thread nD τ).loc main_arg4)) := by
  refine (dats m 0 c).arrAt_eq_of_covers 8 _ (by decide +kernel) fun t hf y => ?_
  blk_simp
  rw [after0_8]
  rw [Pipeline.eq_sum_fin_of_reset_step_apply_of_flush (fun n h => (outsAt0 m c n h).2.2.1) 8 (fun _ => 0) _
    (fun t h j => by rw [outsAt0_A m c t h]; frame_out; simp only [part_at5, part_at6, part_at7, zero_at2, zero_at3, zero_at4] <;> rfl)
    (fun t h j => by rw [outsAt0_B m c t h]; frame_out; simp only [part_at5, part_at6, part_at7] <;> rfl)
    t ((flush0_8 t).mp hf) _, zero_add, ← Equiv.sum_comp Fin.revPerm]
  pointwise [k0_pay1, k0_pay8, k0_pay9, k0_pay10, k0_pay11, k0_pay12, k0_pay13, k0_pay14, k0_pay15, k0_pay16, k0_pay17, k0_pay18, k0_pay19, REF2]
  refine Fin.sum_mul_add_congr fun s k hl => ?_
  have hr : (Fin.revPerm s).val = 7 - s.val := by
    have := Fin.val_rev s
    rw [Fin.revPerm_apply]
    omega
  blk_point [iblk, V, idx t, idx ⟨8 * (t.val / 8) + (Fin.revPerm s).val, Pipeline.run_point_lt_of_flush t ((flush0_8 t).mp hf) _⟩]

theorem final3 (c : Dev nD) : (dats m 0 c).arrAt 9 cfg0.N = REF3 (m ((c : Thread nD τ).loc main_arg0)) (m ((c : Thread nD τ).loc main_arg1)) (m ((c : Thread nD τ).loc main_arg4)) := by
  refine (dats m 0 c).arrAt_eq_of_covers 9 _ (by decide +kernel) fun t hf y => ?_
  blk_simp
  rw [after0_9]
  rw [Pipeline.eq_sum_fin_of_reset_step_apply_of_flush (fun n h => (outsAt0 m c n h).2.2.2) 8 (fun _ => 0) _
    (fun t h j => by rw [outsAt0_A m c t h]; frame_out; simp only [part_at5, part_at6, part_at7, zero_at2, zero_at3, zero_at4] <;> rfl)
    (fun t h j => by rw [outsAt0_B m c t h]; frame_out; simp only [part_at5, part_at6, part_at7] <;> rfl)
    t ((flush0_9 t).mp hf) _, zero_add, ← Equiv.sum_comp Fin.revPerm]
  pointwise [k0_pay1, k0_pay8, k0_pay9, k0_pay10, k0_pay11, k0_pay12, k0_pay13, k0_pay14, k0_pay15, k0_pay16, k0_pay17, k0_pay18, k0_pay19, REF3]
  refine Fin.sum_mul_add_congr fun s k hl => ?_
  have hr : (Fin.revPerm s).val = 7 - s.val := by
    have := Fin.val_rev s
    rw [Fin.revPerm_apply]
    omega
  blk_point [iblk, V, idx t, idx ⟨8 * (t.val / 8) + (Fin.revPerm s).val, Pipeline.run_point_lt_of_flush t ((flush0_9 t).mp hf) _⟩]

/-- Kernel and reference leave the same arrays. -/
theorem values : Cert.algebraic_Kernel22Ideal_Reference22Ideal (hKernel22Ideal := Cert.Kernel22Ideal.Gen.facts) (hReference22Ideal := Cert.Reference22Ideal.Gen.facts) := by
  intro m g m' g' _ hm
  refine ⟨fun c => REF0 (m ((c : Thread nD τ).loc main_arg0)) (m ((c : Thread nD τ).loc main_arg1)) (m ((c : Thread nD τ).loc main_arg3)) (m ((c : Thread nD τ).loc main_arg4)) (m ((c : Thread nD τ).loc main_arg5)), fun c => REF1 (m ((c : Thread nD τ).loc main_arg0)) (m ((c : Thread nD τ).loc main_arg3)) (m ((c : Thread nD τ).loc main_arg4)), fun c => REF2 (m ((c : Thread nD τ).loc main_arg4)), fun c => REF3 (m ((c : Thread nD τ).loc main_arg0)) (m ((c : Thread nD τ).loc main_arg1)) (m ((c : Thread nD τ).loc main_arg4)), ?_, ?_⟩
  · refine (θ_run _ _ _).mono (fun r h c => ?_) (Cert.Kernel22Ideal.Value.run_blocks m g)
    obtain ⟨h0, h1, h2, h3, hargs⟩ := h c
    exact ⟨h0.trans (final0 m c), h1.trans (final1 m c), h2.trans (final2 m c), h3.trans (final3 m c), hargs⟩
  · refine (θ_run _ _ _).mono (fun r h c => ?_) (Cert.Reference22Ideal.Value.run m' g')
    obtain ⟨h0, h1, h2, h3, hargs⟩ := h c
    obtain ⟨e0, e1, e2, e3, e4, e5⟩ := hm c
    refine ⟨h0.trans ?_, h1.trans ?_, h2.trans ?_, h3.trans ?_, hargs⟩
    · unfold Cert.Reference22Ideal.Value.res_main_v48
      rw [e0, e1, e3, e4, e5]
      try rfl
    · rw [e0, e3, e4]
      try rfl
    · rw [e4]
      try rfl
    · rw [e0, e1, e4]
      try rfl

theorem frame_reference : Cert.quiescent_Reference22Ideal (hReference22Ideal := Cert.Reference22Ideal.Gen.facts) := fun m ρ _ =>
  (θ_run _ _ _).mono (fun r h => ⟨fun c => (h c).2.2.2.2, Cert.Common.no_counters (fun s => s.elim0) (fun s => s.elim0) _⟩) (Cert.Reference22Ideal.Value.run m ρ)

end Cert.Kernel22Ideal.Stage

end
-- ==== Proof.Stage23.lean ====
module

public import proofs.«01_k».proof.Defs
public import proofs.«01_k».proof.Proof.Gen.Kernel23Ideal
public import proofs.«01_k».proof.Proof.Gen.Kernel23Ideal.Value
public import proofs.«01_k».proof.Proof.Gen.Reference23Ideal.Run
public import proofs.«01_k».proof.Proof.Common
public import Idealize.ShloMosaic.Lib.Pipeline.ReadBack
public import Idealize.ShloMosaic.Lib.Pipeline.ValueKit

@[expose] public section

/-! The gradient of the residual and the second norm: the two gradients of the rows a block at a
point, and the four parameter gradients summed over the eight blocks of rows. -/

set_option maxRecDepth 16384

noncomputable section

namespace Cert.Reference23Ideal.Stage

open Idealize.ShloMosaic Idealize.ShloMosaic.TcCoe
open Cert.Reference23Ideal Cert.Reference23Ideal.Gen

/-- The reference's result 0, of its arguments. -/
abbrev REF0 (x0 : FVec Ideal S4096x1024 .f32) (x1 : FVec Ideal S4096x1024 .f32) (x2 : FVec Ideal S1x1024 .f32) (x3 : FVec Ideal S1x1024 .f32) (x5 : FVec Ideal S1x1024 .f32) (x6 : FVec Ideal S4096x1024 .f32) (x7 : FVec Ideal S4096x1024 .f32) : FVec Ideal S4096x1024 .f32 :=
  addf (addf (addf x6 (mulf (mulf (mulf (shapeCast _ x7 shapeCasts_S4096x1024_S4096x1024) (broadcastInDim S4096x1024 ![0, 1] bcast_S1x1024_S4096x1024_0_1 (addf (broadcastInDim S1x1024 ![] bcast_S_S1x1024 (constant S_ .f32 0x3F800000#32)) x5))) (broadcastInDim S4096x1024 ![0, 1] bcast_S1x1024_S4096x1024_0_1 x3)) (broadcastInDim S4096x1024 ![0, 1] bcast_S4096x1_S4096x1024_0_1 (Host.rsqrt (addf (Host.divf (broadcastInDim S4096x1 ![0] bcast_S4096_S4096x1_0 (Host.reduceAdd (mulf (addf x0 (mulf (broadcastInDim S4096x1024 ![0, 1] bcast_S1x1024_S4096x1024_0_1 x2) x1)) (addf x0 (mulf (broadcastInDim S4096x1024 ![0, 1] bcast_S1x1024_S4096x1024_0_1 x2) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))))))) (mulf (addf x0 (mulf (broadcastInDim S4096x1024 ![0, 1] bcast_S1x1024_S4096x1024_0_1 x2) x1)) (broadcastInDim S4096x1024 ![0] bcast_S4096_S4096x1024_0 (Host.reduceAdd (Host.divf (mulf (shapeCast _ (Host.reduceAdd (mulf (addf x0 (mulf (broadcastInDim S4096x1024 ![0, 1] bcast_S1x1024_S4096x1024_0_1 x2) x1)) (mulf (mulf (shapeCast _ x7 shapeCasts_S4096x1024_S4096x1024) (broadcastInDim S4096x1024 ![0, 1] bcast_S1x1024_S4096x1024_0_1 (addf (broadcastInDim S1x1024 ![] bcast_S_S1x1024 (constant S_ .f32 0x3F800000#32)) x5))) (broadcastInDim S4096x1024 ![0, 1] bcast_S1x1024_S4096x1024_0_1 x3))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (addf x0 (mulf (broadcastInDim S4096x1024 ![0, 1] bcast_S1x1024_S4096x1024_0_1 x2) x1)) (addf x0 (mulf (broadcastInDim S4096x1024 ![0, 1] bcast_S1x1024_S4096x1024_0_1 x2) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf (addf x0 (mulf (broadcastInDim S4096x1024 ![0, 1] bcast_S1x1024_S4096x1024_0_1 x2) x1)) (addf x0 (mulf (broadcastInDim S4096x1024 ![0, 1] bcast_S1x1024_S4096x1024_0_1 x2) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf (addf x0 (mulf (broadcastInDim S4096x1024 ![0, 1] bcast_S1x1024_S4096x1024_0_1 x2) x1)) (mulf (mulf (shapeCast _ x7 shapeCasts_S4096x1024_S4096x1024) (broadcastInDim S4096x1024 ![0, 1] bcast_S1x1024_S4096x1024_0_1 (addf (broadcastInDim S1x1024 ![] bcast_S_S1x1024 (constant S_ .f32 0x3F800000#32)) x5))) (broadcastInDim S4096x1024 ![0, 1] bcast_S1x1024_S4096x1024_0_1 x3))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (addf x0 (mulf (broadcastInDim S4096x1024 ![0, 1] bcast_S1x1024_S4096x1024_0_1 x2) x1)) (addf x0 (mulf (broadcastInDim S4096x1024 ![0, 1] bcast_S1x1024_S4096x1024_0_1 x2) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf (addf x0 (mulf (broadcastInDim S4096x1024 ![0, 1] bcast_S1x1024_S4096x1024_0_1 x2) x1)) (addf x0 (mulf (broadcastInDim S4096x1024 ![0, 1] bcast_S1x1024_S4096x1024_0_1 x2) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) (addf x0 (mulf (broadcastInDim S4096x1024 ![0, 1] bcast_S1x1024_S4096x1024_0_1 x2) x1)))

/-- The reference's result 1, of its arguments. -/
abbrev REF1 (x0 : FVec Ideal S4096x1024 .f32) (x1 : FVec Ideal S4096x1024 .f32) (x2 : FVec Ideal S1x1024 .f32) (x3 : FVec Ideal S1x1024 .f32) (x5 : FVec Ideal S1x1024 .f32) (x6 : FVec Ideal S4096x1024 .f32) (x7 : FVec Ideal S4096x1024 .f32) : FVec Ideal S4096x1024 .bf16 :=
  truncf .bf16 (mulf (broadcastInDim S4096x1024 ![0, 1] bcast_S1x1024_S4096x1024_0_1 x2) (shapeCast _ (addf (addf (addf x6 (mulf (mulf (mulf (shapeCast _ x7 shapeCasts_S4096x1024_S4096x1024) (broadcastInDim S4096x1024 ![0, 1] bcast_S1x1024_S4096x1024_0_1 (addf (broadcastInDim S1x1024 ![] bcast_S_S1x1024 (constant S_ .f32 0x3F800000#32)) x5))) (broadcastInDim S4096x1024 ![0, 1] bcast_S1x1024_S4096x1024_0_1 x3)) (broadcastInDim S4096x1024 ![0, 1] bcast_S4096x1_S4096x1024_0_1 (Host.rsqrt (addf (Host.divf (broadcastInDim S4096x1 ![0] bcast_S4096_S4096x1_0 (Host.reduceAdd (mulf (addf x0 (mulf (broadcastInDim S4096x1024 ![0, 1] bcast_S1x1024_S4096x1024_0_1 x2) x1)) (addf x0 (mulf (broadcastInDim S4096x1024 ![0, 1] bcast_S1x1024_S4096x1024_0_1 x2) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))))))) (mulf (addf x0 (mulf (broadcastInDim S4096x1024 ![0, 1] bcast_S1x1024_S4096x1024_0_1 x2) x1)) (broadcastInDim S4096x1024 ![0] bcast_S4096_S4096x1024_0 (Host.reduceAdd (Host.divf (mulf (shapeCast _ (Host.reduceAdd (mulf (addf x0 (mulf (broadcastInDim S4096x1024 ![0, 1] bcast_S1x1024_S4096x1024_0_1 x2) x1)) (mulf (mulf (shapeCast _ x7 shapeCasts_S4096x1024_S4096x1024) (broadcastInDim S4096x1024 ![0, 1] bcast_S1x1024_S4096x1024_0_1 (addf (broadcastInDim S1x1024 ![] bcast_S_S1x1024 (constant S_ .f32 0x3F800000#32)) x5))) (broadcastInDim S4096x1024 ![0, 1] bcast_S1x1024_S4096x1024_0_1 x3))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (addf x0 (mulf (broadcastInDim S4096x1024 ![0, 1] bcast_S1x1024_S4096x1024_0_1 x2) x1)) (addf x0 (mulf (broadcastInDim S4096x1024 ![0, 1] bcast_S1x1024_S4096x1024_0_1 x2) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf (addf x0 (mulf (broadcastInDim S4096x1024 ![0, 1] bcast_S1x1024_S4096x1024_0_1 x2) x1)) (addf x0 (mulf (broadcastInDim S4096x1024 ![0, 1] bcast_S1x1024_S4096x1024_0_1 x2) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf (addf x0 (mulf (broadcastInDim S4096x1024 ![0, 1] bcast_S1x1024_S4096x1024_0_1 x2) x1)) (mulf (mulf (shapeCast _ x7 shapeCasts_S4096x1024_S4096x1024) (broadcastInDim S4096x1024 ![0, 1] bcast_S1x1024_S4096x1024_0_1 (addf (broadcastInDim S1x1024 ![] bcast_S_S1x1024 (constant S_ .f32 0x3F800000#32)) x5))) (broadcastInDim S4096x1024 ![0, 1] bcast_S1x1024_S4096x1024_0_1 x3))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (addf x0 (mulf (broadcastInDim S4096x1024 ![0, 1] bcast_S1x1024_S4096x1024_0_1 x2) x1)) (addf x0 (mulf (broadcastInDim S4096x1024 ![0, 1] bcast_S1x1024_S4096x1024_0_1 x2) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf (addf x0 (mulf (broadcastInDim S4096x1024 ![0, 1] bcast_S1x1024_S4096x1024_0_1 x2) x1)) (addf x0 (mulf (broadcastInDim S4096x1024 ![0, 1] bcast_S1x1024_S4096x1024_0_1 x2) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) (addf x0 (mulf (broadcastInDim S4096x1024 ![0, 1] bcast_S1x1024_S4096x1024_0_1 x2) x1)))) shapeCasts_S4096x1024_S4096x1024)) bitsLt_bf16_f32

/-- The reference's result 2, of its arguments. -/
abbrev REF2 (x0 : FVec Ideal S4096x1024 .f32) (x1 : FVec Ideal S4096x1024 .f32) (x2 : FVec Ideal S1x1024 .f32) (x3 : FVec Ideal S1x1024 .f32) (x5 : FVec Ideal S1x1024 .f32) (x6 : FVec Ideal S4096x1024 .f32) (x7 : FVec Ideal S4096x1024 .f32) : FVec Ideal S1x1024 .f32 :=
  shapeCast _ (Host.reduceAdd (mulf (shapeCast _ (addf (addf (addf x6 (mulf (mulf (mulf (shapeCast _ x7 shapeCasts_S4096x1024_S4096x1024) (broadcastInDim S4096x1024 ![0, 1] bcast_S1x1024_S4096x1024_0_1 (addf (broadcastInDim S1x1024 ![] bcast_S_S1x1024 (constant S_ .f32 0x3F800000#32)) x5))) (broadcastInDim S4096x1024 ![0, 1] bcast_S1x1024_S4096x1024_0_1 x3)) (broadcastInDim S4096x1024 ![0, 1] bcast_S4096x1_S4096x1024_0_1 (Host.rsqrt (addf (Host.divf (broadcastInDim S4096x1 ![0] bcast_S4096_S4096x1_0 (Host.reduceAdd (mulf (addf x0 (mulf (broadcastInDim S4096x1024 ![0, 1] bcast_S1x1024_S4096x1024_0_1 x2) x1)) (addf x0 (mulf (broadcastInDim S4096x1024 ![0, 1] bcast_S1x1024_S4096x1024_0_1 x2) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))))))) (mulf (addf x0 (mulf (broadcastInDim S4096x1024 ![0, 1] bcast_S1x1024_S4096x1024_0_1 x2) x1)) (broadcastInDim S4096x1024 ![0] bcast_S4096_S4096x1024_0 (Host.reduceAdd (Host.divf (mulf (shapeCast _ (Host.reduceAdd (mulf (addf x0 (mulf (broadcastInDim S4096x1024 ![0, 1] bcast_S1x1024_S4096x1024_0_1 x2) x1)) (mulf (mulf (shapeCast _ x7 shapeCasts_S4096x1024_S4096x1024) (broadcastInDim S4096x1024 ![0, 1] bcast_S1x1024_S4096x1024_0_1 (addf (broadcastInDim S1x1024 ![] bcast_S_S1x1024 (constant S_ .f32 0x3F800000#32)) x5))) (broadcastInDim S4096x1024 ![0, 1] bcast_S1x1024_S4096x1024_0_1 x3))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (addf x0 (mulf (broadcastInDim S4096x1024 ![0, 1] bcast_S1x1024_S4096x1024_0_1 x2) x1)) (addf x0 (mulf (broadcastInDim S4096x1024 ![0, 1] bcast_S1x1024_S4096x1024_0_1 x2) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf (addf x0 (mulf (broadcastInDim S4096x1024 ![0, 1] bcast_S1x1024_S4096x1024_0_1 x2) x1)) (addf x0 (mulf (broadcastInDim S4096x1024 ![0, 1] bcast_S1x1024_S4096x1024_0_1 x2) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf (addf x0 (mulf (broadcastInDim S4096x1024 ![0, 1] bcast_S1x1024_S4096x1024_0_1 x2) x1)) (mulf (mulf (shapeCast _ x7 shapeCasts_S4096x1024_S4096x1024) (broadcastInDim S4096x1024 ![0, 1] bcast_S1x1024_S4096x1024_0_1 (addf (broadcastInDim S1x1024 ![] bcast_S_S1x1024 (constant S_ .f32 0x3F800000#32)) x5))) (broadcastInDim S4096x1024 ![0, 1] bcast_S1x1024_S4096x1024_0_1 x3))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (addf x0 (mulf (broadcastInDim S4096x1024 ![0, 1] bcast_S1x1024_S4096x1024_0_1 x2) x1)) (addf x0 (mulf (broadcastInDim S4096x1024 ![0, 1] bcast_S1x1024_S4096x1024_0_1 x2) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf (addf x0 (mulf (broadcastInDim S4096x1024 ![0, 1] bcast_S1x1024_S4096x1024_0_1 x2) x1)) (addf x0 (mulf (broadcastInDim S4096x1024 ![0, 1] bcast_S1x1024_S4096x1024_0_1 x2) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) (addf x0 (mulf (broadcastInDim S4096x1024 ![0, 1] bcast_S1x1024_S4096x1024_0_1 x2) x1)))) shapeCasts_S4096x1024_S4096x1024) x1) (constant S_ .f32 0x00000000#32) reducesTo_S4096x1024_S1024_d0 h_S_) shapeCasts_S1024_S1x1024

/-- The reference's result 3, of its arguments. -/
abbrev REF3 (x0 : FVec Ideal S4096x1024 .f32) (x1 : FVec Ideal S4096x1024 .f32) (x2 : FVec Ideal S1x1024 .f32) (x5 : FVec Ideal S1x1024 .f32) (x7 : FVec Ideal S4096x1024 .f32) : FVec Ideal S1x1024 .f32 :=
  shapeCast _ (Host.reduceAdd (mulf (mulf (addf x0 (mulf (broadcastInDim S4096x1024 ![0, 1] bcast_S1x1024_S4096x1024_0_1 x2) x1)) (broadcastInDim S4096x1024 ![0, 1] bcast_S4096x1_S4096x1024_0_1 (Host.rsqrt (addf (Host.divf (broadcastInDim S4096x1 ![0] bcast_S4096_S4096x1_0 (Host.reduceAdd (mulf (addf x0 (mulf (broadcastInDim S4096x1024 ![0, 1] bcast_S1x1024_S4096x1024_0_1 x2) x1)) (addf x0 (mulf (broadcastInDim S4096x1024 ![0, 1] bcast_S1x1024_S4096x1024_0_1 x2) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf (shapeCast _ x7 shapeCasts_S4096x1024_S4096x1024) (broadcastInDim S4096x1024 ![0, 1] bcast_S1x1024_S4096x1024_0_1 (addf (broadcastInDim S1x1024 ![] bcast_S_S1x1024 (constant S_ .f32 0x3F800000#32)) x5)))) (constant S_ .f32 0x00000000#32) reducesTo_S4096x1024_S1024_d0 h_S_) shapeCasts_S1024_S1x1024

/-- The reference's result 4, of its arguments. -/
abbrev REF4 (x7 : FVec Ideal S4096x1024 .f32) : FVec Ideal S1x1024 .f32 :=
  shapeCast _ (Host.reduceAdd x7 (constant S_ .f32 0x00000000#32) reducesTo_S4096x1024_S1024_d0 h_S_) shapeCasts_S1024_S1x1024

/-- The reference's result 5, of its arguments. -/
abbrev REF5 (x0 : FVec Ideal S4096x1024 .f32) (x1 : FVec Ideal S4096x1024 .f32) (x2 : FVec Ideal S1x1024 .f32) (x3 : FVec Ideal S1x1024 .f32) (x7 : FVec Ideal S4096x1024 .f32) : FVec Ideal S1x1024 .f32 :=
  shapeCast _ (Host.reduceAdd (mulf (mulf (mulf (addf x0 (mulf (broadcastInDim S4096x1024 ![0, 1] bcast_S1x1024_S4096x1024_0_1 x2) x1)) (broadcastInDim S4096x1024 ![0, 1] bcast_S4096x1_S4096x1024_0_1 (Host.rsqrt (addf (Host.divf (broadcastInDim S4096x1 ![0] bcast_S4096_S4096x1_0 (Host.reduceAdd (mulf (addf x0 (mulf (broadcastInDim S4096x1024 ![0, 1] bcast_S1x1024_S4096x1024_0_1 x2) x1)) (addf x0 (mulf (broadcastInDim S4096x1024 ![0, 1] bcast_S1x1024_S4096x1024_0_1 x2) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 x3)) (shapeCast _ x7 shapeCasts_S4096x1024_S4096x1024)) (constant S_ .f32 0x00000000#32) reducesTo_S4096x1024_S1024_d0 h_S_) shapeCasts_S1024_S1x1024

end Cert.Reference23Ideal.Stage

namespace Cert.Kernel23Ideal.Stage

open Idealize.ShloMosaic Idealize.ShloMosaic.TcCoe Idealize.SL.Sem Idealize.ShloMosaic.Tactic
open Cert.Kernel23Ideal Cert.Kernel23Ideal.Gen Cert.Reference23Ideal.Stage

variable (m : (ℓ : Loc nD τ sig) → Buf (Elt Ideal) ℓ)

/-- The block that point `t` takes of every array. -/
theorem idx : ∀ t : Fin cfg0.N, win0_0.index t = ![7 - t.val, 0] ∧ win0_1.index t = ![7 - t.val, 0] ∧ win0_2.index t = ![0, 0] ∧ win0_3.index t = ![0, 0] ∧ win0_4.index t = ![0, 0] ∧ win0_5.index t = ![0, 0] ∧ win0_6.index t = ![7 - t.val, 0] ∧ win0_7.index t = ![7 - t.val, 0] ∧ win0_8.index t = ![7 - t.val, 0] ∧ win0_9.index t = ![7 - t.val, 0] ∧ win0_10.index t = ![0, 0] ∧ win0_11.index t = ![0, 0] ∧ win0_12.index t = ![0, 0] ∧ win0_13.index t = ![0, 0] :=
  (by decide +kernel : ∀ t : Fin grid0.N, win0_0.index t = ![7 - t.val, 0] ∧ win0_1.index t = ![7 - t.val, 0] ∧ win0_2.index t = ![0, 0] ∧ win0_3.index t = ![0, 0] ∧ win0_4.index t = ![0, 0] ∧ win0_5.index t = ![0, 0] ∧ win0_6.index t = ![7 - t.val, 0] ∧ win0_7.index t = ![7 - t.val, 0] ∧ win0_8.index t = ![7 - t.val, 0] ∧ win0_9.index t = ![7 - t.val, 0] ∧ win0_10.index t = ![0, 0] ∧ win0_11.index t = ![0, 0] ∧ win0_12.index t = ![0, 0] ∧ win0_13.index t = ![0, 0])

theorem zero_at15 (j) : k0_pay15 (F := Ideal) j = 0 := by
  pointwise [k0_pay15]

theorem zero_at16 (j) : k0_pay16 (F := Ideal) j = 0 := by
  pointwise [k0_pay16]

theorem zero_at17 (j) : k0_pay17 (F := Ideal) j = 0 := by
  pointwise [k0_pay17]

theorem zero_at18 (j) : k0_pay18 (F := Ideal) j = 0 := by
  pointwise [k0_pay18]

theorem part_at1 (v acc : FVec Ideal S1x1024 .f32) (j) : k0_pay1 v acc j = acc j + v j := by
  pointwise [k0_pay1]

theorem part_at2 (v acc : FVec Ideal S1x1024 .f32) (j) : k0_pay2 v acc j = acc j + v j := by
  pointwise [k0_pay2]

theorem part_at20 (v1 : FVec Ideal S512x1024 .f32) (v3 : FVec Ideal S1x1024 .f32) (v7 : FVec Ideal S512x1024 .f32) (v15 v18 : FVec Ideal S512x1 .f32) (v25 v34 : FVec Ideal S512x1024 .f32) (acc : FVec Ideal S1x1024 .f32) (j) : k0_pay20 v1 v3 v7 v15 v18 v25 v34 acc j = acc j + ∑ k : Fin 512, k0_pay14 v3 v7 v15 v18 v25 v34 (ix2 k (j 1)) * v1 (ix2 k (j 1)) := by
  pointwise [k0_pay20]

theorem part_at21 (v : FVec Ideal S1024 .f32) (acc : FVec Ideal S1x1024 .f32) (j) : k0_pay21 v acc j = acc j + v (ix1 (j 1)) := by
  pointwise [k0_pay21]

theorem final0 (c : Dev nD) : (dats m 0 c).arrAt 8 cfg0.N = REF0 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8]
  by_cases h : t.val % 8 = 0
  · rw [outsAt0_A m c t h]
    frame_out
    pointwise [k0_pay3, k0_pay4, k0_pay5, k0_pay6, k0_pay7, k0_pay8, k0_pay9, k0_pay10, k0_pay11, k0_pay12, k0_pay13, k0_pay14, k0_pay19, REF0]
    blk_point [iblk, V, idx t]
  · rw [outsAt0_B m c t h]
    frame_out
    pointwise [k0_pay3, k0_pay4, k0_pay5, k0_pay6, k0_pay7, k0_pay8, k0_pay9, k0_pay10, k0_pay11, k0_pay12, k0_pay13, k0_pay14, k0_pay19, REF0]
    blk_point [iblk, V, idx t]

theorem final1 (c : Dev nD) : (dats m 0 c).arrAt 9 cfg0.N = REF1 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) := by
  refine (dats m 0 c).arrAt_eq_of_covers 9 _ (by decide +kernel) fun t hf y => ?_
  blk_simp
  rw [after0_9]
  by_cases h : t.val % 8 = 0
  · rw [outsAt0_A m c t h]
    frame_out
    pointwise [k0_pay3, k0_pay4, k0_pay5, k0_pay6, k0_pay7, k0_pay8, k0_pay9, k0_pay10, k0_pay11, k0_pay12, k0_pay13, k0_pay14, k0_pay19, REF1]
    blk_point [iblk, V, idx t]
  · rw [outsAt0_B m c t h]
    frame_out
    pointwise [k0_pay3, k0_pay4, k0_pay5, k0_pay6, k0_pay7, k0_pay8, k0_pay9, k0_pay10, k0_pay11, k0_pay12, k0_pay13, k0_pay14, k0_pay19, REF1]
    blk_point [iblk, V, idx t]

theorem final2 (c : Dev nD) : (dats m 0 c).arrAt 10 cfg0.N = REF2 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) := by
  refine (dats m 0 c).arrAt_eq_of_covers 10 _ (by decide +kernel) fun t hf y => ?_
  blk_simp
  rw [after0_10]
  rw [Pipeline.eq_sum_fin_of_reset_step_apply_of_flush (fun n h => (outsAt0 m c n h).2.2.1) 8 (fun _ => 0) _
    (fun t h j => by rw [outsAt0_A m c t h]; frame_out; simp only [part_at1, part_at2, part_at20, part_at21, zero_at15, zero_at16, zero_at17, zero_at18] <;> rfl)
    (fun t h j => by rw [outsAt0_B m c t h]; frame_out; simp only [part_at1, part_at2, part_at20, part_at21] <;> rfl)
    t ((flush0_10 t).mp hf) _, zero_add, ← Equiv.sum_comp Fin.revPerm]
  pointwise [k0_pay3, k0_pay4, k0_pay5, k0_pay6, k0_pay7, k0_pay8, k0_pay9, k0_pay10, k0_pay11, k0_pay12, k0_pay13, k0_pay14, k0_pay19, REF2]
  refine Fin.sum_mul_add_congr fun s k hl => ?_
  have hr : (Fin.revPerm s).val = 7 - s.val := by
    have := Fin.val_rev s
    rw [Fin.revPerm_apply]
    omega
  blk_point [iblk, V, idx t, idx ⟨8 * (t.val / 8) + (Fin.revPerm s).val, Pipeline.run_point_lt_of_flush t ((flush0_10 t).mp hf) _⟩]

theorem final3 (c : Dev nD) : (dats m 0 c).arrAt 11 cfg0.N = REF3 (m ((c : Thread nD τ).loc main_arg0)) (m ((c : Thread nD τ).loc main_arg1)) (m ((c : Thread nD τ).loc main_arg2)) (m ((c : Thread nD τ).loc main_arg5)) (m ((c : Thread nD τ).loc main_arg7)) := by
  refine (dats m 0 c).arrAt_eq_of_covers 11 _ (by decide +kernel) fun t hf y => ?_
  blk_simp
  rw [after0_11]
  rw [Pipeline.eq_sum_fin_of_reset_step_apply_of_flush (fun n h => (outsAt0 m c n h).2.2.2.1) 8 (fun _ => 0) _
    (fun t h j => by rw [outsAt0_A m c t h]; frame_out; simp only [part_at1, part_at2, part_at20, part_at21, zero_at15, zero_at16, zero_at17, zero_at18] <;> rfl)
    (fun t h j => by rw [outsAt0_B m c t h]; frame_out; simp only [part_at1, part_at2, part_at20, part_at21] <;> rfl)
    t ((flush0_11 t).mp hf) _, zero_add, ← Equiv.sum_comp Fin.revPerm]
  pointwise [k0_pay3, k0_pay4, k0_pay5, k0_pay6, k0_pay7, k0_pay8, k0_pay9, k0_pay10, k0_pay11, k0_pay12, k0_pay13, k0_pay14, k0_pay19, REF3]
  refine Fin.sum_mul_add_congr fun s k hl => ?_
  have hr : (Fin.revPerm s).val = 7 - s.val := by
    have := Fin.val_rev s
    rw [Fin.revPerm_apply]
    omega
  blk_point [iblk, V, idx t, idx ⟨8 * (t.val / 8) + (Fin.revPerm s).val, Pipeline.run_point_lt_of_flush t ((flush0_11 t).mp hf) _⟩]

theorem final4 (c : Dev nD) : (dats m 0 c).arrAt 12 cfg0.N = REF4 (m ((c : Thread nD τ).loc main_arg7)) := by
  refine (dats m 0 c).arrAt_eq_of_covers 12 _ (by decide +kernel) fun t hf y => ?_
  blk_simp
  rw [after0_12]
  rw [Pipeline.eq_sum_fin_of_reset_step_apply_of_flush (fun n h => (outsAt0 m c n h).2.2.2.2.1) 8 (fun _ => 0) _
    (fun t h j => by rw [outsAt0_A m c t h]; frame_out; simp only [part_at1, part_at2, part_at20, part_at21, zero_at15, zero_at16, zero_at17, zero_at18] <;> rfl)
    (fun t h j => by rw [outsAt0_B m c t h]; frame_out; simp only [part_at1, part_at2, part_at20, part_at21] <;> rfl)
    t ((flush0_12 t).mp hf) _, zero_add, ← Equiv.sum_comp Fin.revPerm]
  pointwise [k0_pay3, k0_pay4, k0_pay5, k0_pay6, k0_pay7, k0_pay8, k0_pay9, k0_pay10, k0_pay11, k0_pay12, k0_pay13, k0_pay14, k0_pay19, REF4]
  refine Fin.sum_mul_add_congr fun s k hl => ?_
  have hr : (Fin.revPerm s).val = 7 - s.val := by
    have := Fin.val_rev s
    rw [Fin.revPerm_apply]
    omega
  blk_point [iblk, V, idx t, idx ⟨8 * (t.val / 8) + (Fin.revPerm s).val, Pipeline.run_point_lt_of_flush t ((flush0_12 t).mp hf) _⟩]

theorem final5 (c : Dev nD) : (dats m 0 c).arrAt 13 cfg0.N = REF5 (m ((c : Thread nD τ).loc main_arg0)) (m ((c : Thread nD τ).loc main_arg1)) (m ((c : Thread nD τ).loc main_arg2)) (m ((c : Thread nD τ).loc main_arg3)) (m ((c : Thread nD τ).loc main_arg7)) := by
  refine (dats m 0 c).arrAt_eq_of_covers 13 _ (by decide +kernel) fun t hf y => ?_
  blk_simp
  rw [after0_13]
  rw [Pipeline.eq_sum_fin_of_reset_step_apply_of_flush (fun n h => (outsAt0 m c n h).2.2.2.2.2) 8 (fun _ => 0) _
    (fun t h j => by rw [outsAt0_A m c t h]; frame_out; simp only [part_at1, part_at2, part_at20, part_at21, zero_at15, zero_at16, zero_at17, zero_at18] <;> rfl)
    (fun t h j => by rw [outsAt0_B m c t h]; frame_out; simp only [part_at1, part_at2, part_at20, part_at21] <;> rfl)
    t ((flush0_13 t).mp hf) _, zero_add, ← Equiv.sum_comp Fin.revPerm]
  pointwise [k0_pay3, k0_pay4, k0_pay5, k0_pay6, k0_pay7, k0_pay8, k0_pay9, k0_pay10, k0_pay11, k0_pay12, k0_pay13, k0_pay14, k0_pay19, REF5]
  refine Fin.sum_mul_add_congr fun s k hl => ?_
  have hr : (Fin.revPerm s).val = 7 - s.val := by
    have := Fin.val_rev s
    rw [Fin.revPerm_apply]
    omega
  blk_point [iblk, V, idx t, idx ⟨8 * (t.val / 8) + (Fin.revPerm s).val, Pipeline.run_point_lt_of_flush t ((flush0_13 t).mp hf) _⟩]

set_option maxHeartbeats 1000000 in
/-- Kernel and reference leave the same arrays. -/
theorem values : Cert.algebraic_Kernel23Ideal_Reference23Ideal (hKernel23Ideal := Cert.Kernel23Ideal.Gen.facts) (hReference23Ideal := Cert.Reference23Ideal.Gen.facts) := by
  intro m g m' g' _ hm
  refine ⟨fun c => REF0 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)), fun c => REF1 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)), fun c => REF2 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)), fun c => REF3 (m ((c : Thread nD τ).loc main_arg0)) (m ((c : Thread nD τ).loc main_arg1)) (m ((c : Thread nD τ).loc main_arg2)) (m ((c : Thread nD τ).loc main_arg5)) (m ((c : Thread nD τ).loc main_arg7)), fun c => REF4 (m ((c : Thread nD τ).loc main_arg7)), fun c => REF5 (m ((c : Thread nD τ).loc main_arg0)) (m ((c : Thread nD τ).loc main_arg1)) (m ((c : Thread nD τ).loc main_arg2)) (m ((c : Thread nD τ).loc main_arg3)) (m ((c : Thread nD τ).loc main_arg7)), ?_, ?_⟩
  · refine (θ_run _ _ _).mono (fun r h c => ?_) (Cert.Kernel23Ideal.Value.run_blocks m g)
    obtain ⟨h0, h1, h2, h3, h4, h5, hargs⟩ := h c
    exact ⟨h0.trans (final0 m c), h1.trans (final1 m c), h2.trans (final2 m c), h3.trans (final3 m c), h4.trans (final4 m c), h5.trans (final5 m c), hargs⟩
  · refine (θ_run _ _ _).mono (fun r h c => ?_) (Cert.Reference23Ideal.Value.run m' g')
    obtain ⟨h0, h1, h2, h3, h4, h5, hargs⟩ := h c
    obtain ⟨e0, e1, e2, e3, e4, e5, e6, e7⟩ := hm c
    refine ⟨h0.trans ?_, h1.trans ?_, h2.trans ?_, h3.trans ?_, h4.trans ?_, h5.trans ?_, hargs⟩
    · unfold Cert.Reference23Ideal.Value.res_main_v51
      rw [e0, e1, e2, e3, e5, e6, e7]
      try rfl
    · unfold Cert.Reference23Ideal.Value.res_main_v58
      rw [e0, e1, e2, e3, e5, e6, e7]
      try rfl
    · unfold Cert.Reference23Ideal.Value.res_main_v57
      rw [e0, e1, e2, e3, e5, e6, e7]
      try rfl
    · rw [e0, e1, e2, e5, e7]
      try rfl
    · rw [e7]
      try rfl
    · rw [e0, e1, e2, e3, e7]
      try rfl

theorem frame_reference : Cert.quiescent_Reference23Ideal (hReference23Ideal := Cert.Reference23Ideal.Gen.facts) := fun m ρ _ =>
  (θ_run _ _ _).mono (fun r h => ⟨fun c => (h c).2.2.2.2.2.2, Cert.Common.no_counters (fun s => s.elim0) (fun s => s.elim0) _⟩) (Cert.Reference23Ideal.Value.run m ρ)

end Cert.Kernel23Ideal.Stage

end
-- ==== Proof.Halo.lean ====
module

public import Idealize.ShloMosaic.Lib.Pipeline.ValueKit
public import Idealize.ShloMosaic.PureOps

@[expose] public section

/-! Rows moved down by one or two inside a block of 128, the first of them taken from the eight rows before the block. -/

noncomputable section

namespace Cert.Halo

open Idealize.ShloMosaic

/-- The first block is told by its word. -/
theorem select_first (t : Fin 32) (a b : EReal) :
    Scalar.select (Scalar.cmpi CmpIPredicate.eq (BitVec.ofNat 32 t.val) 0#32) a b = if t.val = 0 then a else b := by
  fin_cases t <;> rfl

/-- The first row of eight is told by its word. -/
theorem select_row1 (r : ℕ) (h : r < 8) (a b : EReal) :
    Scalar.select (IntOp.cmpi CmpIPredicate.slt (BitVec.ofNat 32 r) 1#32) a b = if r < 1 then a else b := by
  interval_cases r <;> rfl

/-- The first two rows of eight are told by their words. -/
theorem select_row2 (r : ℕ) (h : r < 8) (a b : EReal) :
    Scalar.select (IntOp.cmpi CmpIPredicate.slt (BitVec.ofNat 32 r) 2#32) a b = if r < 2 then a else b := by
  interval_cases r <;> rfl

/-- A block moved down by 1: the array moved down by 1, zero above its first row. -/
theorem moved1 (b : ℕ) (hb : b < 32) (w : BitVec 1) (hw : ∀ u v : EReal, Scalar.select w u v = if b = 0 then u else v)
    (x : Fin 128 → EReal) (h : Fin 8 → EReal) (a : Fin 4096 → EReal)
    (hx : ∀ r : Fin 128, x r = a ⟨128 * b + r.val, by omega⟩)
    (hh : ∀ (r : Fin 8) (h0 : b ≠ 0), h r = a ⟨128 * b - 8 + r.val, by omega⟩)
    (r : ℕ) (hr : r < 128) (R : ℕ) (hR : R = 128 * b + r)
    (h1 : (r + 8 - 1) % 8 < 8) (h2 : (r + 128 - 1) % 128 < 128) (h3 : (8 + (r - 8) + 128 - 1) % 128 < 128) :
    (if _h : r < 8 then
        Scalar.select (IntOp.cmpi CmpIPredicate.slt (BitVec.ofNat 32 r) 1#32)
          (Scalar.select w 0 (h ⟨(r + 8 - 1) % 8, h1⟩)) (x ⟨(r + 128 - 1) % 128, h2⟩)
      else x ⟨(8 + (r - 8) + 128 - 1) % 128, h3⟩)
      = if _h : R < 1 then 0 else a ⟨R - 1, by omega⟩ := by
  subst hR
  by_cases h8 : r < 8
  · rw [dif_pos h8, select_row1 r h8, hw]
    by_cases hs : r < 1
    · rw [if_pos hs]
      by_cases h0 : b = 0
      · rw [if_pos h0, dif_pos (by omega)]
      · rw [if_neg h0, dif_neg (by omega), hh _ h0]
        congr 2
        simp only
        omega
    · rw [if_neg hs, dif_neg (by omega), hx]
      congr 2
      simp only
      omega
  · rw [dif_neg h8, dif_neg (by omega), hx]
    congr 2
    simp only
    omega

/-- A block moved down by 2: the array moved down by 2, zero above its first row. -/
theorem moved2 (b : ℕ) (hb : b < 32) (w : BitVec 1) (hw : ∀ u v : EReal, Scalar.select w u v = if b = 0 then u else v)
    (x : Fin 128 → EReal) (h : Fin 8 → EReal) (a : Fin 4096 → EReal)
    (hx : ∀ r : Fin 128, x r = a ⟨128 * b + r.val, by omega⟩)
    (hh : ∀ (r : Fin 8) (h0 : b ≠ 0), h r = a ⟨128 * b - 8 + r.val, by omega⟩)
    (r : ℕ) (hr : r < 128) (R : ℕ) (hR : R = 128 * b + r)
    (h1 : (r + 8 - 2) % 8 < 8) (h2 : (r + 128 - 2) % 128 < 128) (h3 : (8 + (r - 8) + 128 - 2) % 128 < 128) :
    (if _h : r < 8 then
        Scalar.select (IntOp.cmpi CmpIPredicate.slt (BitVec.ofNat 32 r) 2#32)
          (Scalar.select w 0 (h ⟨(r + 8 - 2) % 8, h1⟩)) (x ⟨(r + 128 - 2) % 128, h2⟩)
      else x ⟨(8 + (r - 8) + 128 - 2) % 128, h3⟩)
      = if _h : R < 2 then 0 else a ⟨R - 2, by omega⟩ := by
  subst hR
  by_cases h8 : r < 8
  · rw [dif_pos h8, select_row2 r h8, hw]
    by_cases hs : r < 2
    · rw [if_pos hs]
      by_cases h0 : b = 0
      · rw [if_pos h0, dif_pos (by omega)]
      · rw [if_neg h0, dif_neg (by omega), hh _ h0]
        congr 2
        simp only
        omega
    · rw [if_neg hs, dif_neg (by omega), hx]
      congr 2
      simp only
      omega
  · rw [dif_neg h8, dif_neg (by omega), hx]
    congr 2
    simp only
    omega

/-- All but the last row of 128 are told by their words. -/
theorem select_row127 (r : ℕ) (h : r < 128) (a b : EReal) :
    Scalar.select (IntOp.cmpi CmpIPredicate.slt (BitVec.ofNat 32 r) 127#32) a b = if r < 127 then a else b := by
  interval_cases r <;> rfl

/-- All but the last two rows of 128 are told by their words. -/
theorem select_row126 (r : ℕ) (h : r < 128) (a b : EReal) :
    Scalar.select (IntOp.cmpi CmpIPredicate.slt (BitVec.ofNat 32 r) 126#32) a b = if r < 126 then a else b := by
  interval_cases r <;> rfl

/-- The last row of eight is told by its word. -/
theorem select_row7 (r : ℕ) (h : r < 8) (a b : EReal) :
    Scalar.select (IntOp.cmpi CmpIPredicate.sge (BitVec.ofNat 32 r) 7#32) a b = if 7 ≤ r then a else b := by
  interval_cases r <;> rfl

/-- The last two rows of eight are told by their words. -/
theorem select_row6 (r : ℕ) (h : r < 8) (a b : EReal) :
    Scalar.select (IntOp.cmpi CmpIPredicate.sge (BitVec.ofNat 32 r) 6#32) a b = if 6 ≤ r then a else b := by
  interval_cases r <;> rfl

/-- The parts of a row's gradient from the row itself, the row below and the one below that: a block's own rows and, at
    its last rows, what the block below carried. -/
theorem unmoved (b : ℕ) (hb : b < 32) (D0 D1 D2 : Fin 4096 → EReal) (d0 d1 d2 : Fin 128 → EReal) (car : Fin 8 → EReal)
    (h0 : ∀ r : Fin 128, d0 r = D0 ⟨128 * b + r.val, by omega⟩)
    (h1 : ∀ r : Fin 128, d1 r = D1 ⟨128 * b + r.val, by omega⟩)
    (h2 : ∀ r : Fin 128, d2 r = D2 ⟨128 * b + r.val, by omega⟩)
    (hc : ∀ r : Fin 8, car r = if h : b + 1 < 32 then
        (if 7 ≤ r.val then D1 ⟨128 * (b + 1) + (r.val + 8 - 7) % 8, by omega⟩ else 0)
          + (if 6 ≤ r.val then D2 ⟨128 * (b + 1) + (r.val + 8 - 6) % 8, by omega⟩ else 0)
      else 0)
    (r : ℕ) (hr : r < 128) (R : ℕ) (hR : R = 128 * b + r)
    (p1 : (r + 128 - 127) % 128 < 128) (p2 : (r + 128 - 126) % 128 < 128) (p3 : 120 + (r - 120) < 128)
    (p4 : (120 + (r - 120) + 128 - 127) % 128 < 128) (p5 : (120 + (r - 120) + 128 - 126) % 128 < 128)
    (p6 : ¬ r < 120 → r - 120 < 8) :
    (if h : r < 120 then
        d0 ⟨r, hr⟩ + Scalar.select (IntOp.cmpi CmpIPredicate.slt (BitVec.ofNat 32 r) 127#32) (d1 ⟨(r + 128 - 127) % 128, p1⟩) 0
          + Scalar.select (IntOp.cmpi CmpIPredicate.slt (BitVec.ofNat 32 r) 126#32) (d2 ⟨(r + 128 - 126) % 128, p2⟩) 0
      else
        d0 ⟨120 + (r - 120), p3⟩
            + Scalar.select (IntOp.cmpi CmpIPredicate.slt (BitVec.ofNat 32 (120 + (r - 120))) 127#32)
                (d1 ⟨(120 + (r - 120) + 128 - 127) % 128, p4⟩) 0
          + Scalar.select (IntOp.cmpi CmpIPredicate.slt (BitVec.ofNat 32 (120 + (r - 120))) 126#32)
                (d2 ⟨(120 + (r - 120) + 128 - 126) % 128, p5⟩) 0
          + car ⟨r - 120, p6 h⟩)
      = ((if _h : R < 4094 then D2 ⟨2 + R, by omega⟩ else 0) + (if _h : R < 4095 then D1 ⟨1 + R, by omega⟩ else 0))
        + D0 ⟨R, by omega⟩ := by
  have e0 : ∀ (i j : ℕ) (hi : i < 4096) (hj : j < 4096), i = j → D0 ⟨i, hi⟩ = D0 ⟨j, hj⟩ := fun i j _ _ h => by subst h; rfl
  have e1 : ∀ (i j : ℕ) (hi : i < 4096) (hj : j < 4096), i = j → D1 ⟨i, hi⟩ = D1 ⟨j, hj⟩ := fun i j _ _ h => by subst h; rfl
  have e2 : ∀ (i j : ℕ) (hi : i < 4096) (hj : j < 4096), i = j → D2 ⟨i, hi⟩ = D2 ⟨j, hj⟩ := fun i j _ _ h => by subst h; rfl
  have swap : ∀ x y z : EReal, x + y + z = z + y + x := fun x y z => by rw [add_comm x y, add_comm _ z, ← add_assoc, add_comm z y, add_comm y z]
  by_cases h120 : r < 120
  · rw [dif_pos h120, select_row127 r hr, select_row126 r hr, if_pos (show r < 127 by omega), if_pos (show r < 126 by omega),
      dif_pos (show R < 4094 by omega), dif_pos (show R < 4095 by omega), h0, h1, h2, swap]
    rw [e0 _ R _ (by omega) (by simp only; omega), e1 _ (1 + R) _ (by omega) (by simp only; omega), e2 _ (2 + R) _ (by omega) (by simp only; omega)]
  · rw [dif_neg h120, select_row127 _ p3, select_row126 _ p3, h0, e0 _ R _ (by omega) (by simp only; omega)]
    have h8 : r - 120 < 8 := by omega
    by_cases h126 : r < 126
    · have hz : car ⟨r - 120, h8⟩ = 0 := by
        rw [hc]
        split
        · rw [if_neg (show ¬ 7 ≤ r - 120 by omega), if_neg (show ¬ 6 ≤ r - 120 by omega), add_zero]
        · rfl
      rw [if_pos (show 120 + (r - 120) < 127 by omega), if_pos (show 120 + (r - 120) < 126 by omega),
        dif_pos (show R < 4094 by omega), dif_pos (show R < 4095 by omega), hz, add_zero, h1, h2, swap]
      rw [e1 _ (1 + R) _ (by omega) (by simp only; omega), e2 _ (2 + R) _ (by omega) (by simp only; omega)]
    · by_cases h127 : r < 127
      · have hz : car ⟨r - 120, h8⟩ = if _h : R < 4094 then D2 ⟨2 + R, by omega⟩ else 0 := by
          rw [hc]
          by_cases hl : b + 1 < 32
          · rw [dif_pos hl, dif_pos (show R < 4094 by omega), if_neg (show ¬ 7 ≤ r - 120 by omega), if_pos (show 6 ≤ r - 120 by omega), zero_add]
            exact e2 _ _ _ _ (by simp only; omega)
          · rw [dif_neg hl, dif_neg (show ¬ R < 4094 by omega)]
        rw [if_pos (show 120 + (r - 120) < 127 by omega), if_neg (show ¬ 120 + (r - 120) < 126 by omega), hz,
          dif_pos (show R < 4095 by omega), add_zero, h1, swap, e1 _ (1 + R) _ (by omega) (by simp only; omega), swap, add_comm (D0 _), swap]
      · have hz : car ⟨r - 120, h8⟩ = (if _h : R < 4095 then D1 ⟨1 + R, by omega⟩ else 0) + (if _h : R < 4094 then D2 ⟨2 + R, by omega⟩ else 0) := by
          rw [hc]
          by_cases hl : b + 1 < 32
          · rw [dif_pos hl, dif_pos (show R < 4094 by omega), dif_pos (show R < 4095 by omega), if_pos (show 7 ≤ r - 120 by omega), if_pos (show 6 ≤ r - 120 by omega)]
            rw [e1 _ (1 + R) _ (by omega) (by simp only; omega), e2 _ (2 + R) _ (by omega) (by simp only; omega)]
          · rw [dif_neg hl, dif_neg (show ¬ R < 4094 by omega), dif_neg (show ¬ R < 4095 by omega), add_zero]
        rw [if_neg (show ¬ 120 + (r - 120) < 127 by omega), if_neg (show ¬ 120 + (r - 120) < 126 by omega), hz, add_zero, add_zero, ← add_assoc, swap]

/-- Two equal values under one name. -/
theorem both {x y : EReal} (h : x = y) : ∃ z, x = z ∧ y = z := ⟨_, h, rfl⟩

end Cert.Halo

end
-- ==== Proof.Stage24.lean ====
module

public import proofs.«01_k».proof.Defs
public import proofs.«01_k».proof.Proof.Gen.Kernel24Ideal
public import proofs.«01_k».proof.Proof.Gen.Kernel24Ideal.Value
public import proofs.«01_k».proof.Proof.Gen.Reference24Ideal.Run
public import proofs.«01_k».proof.Proof.Common
public import Idealize.ShloMosaic.Lib.Pipeline.ReadBack
public import proofs.«01_k».proof.Proof.Halo
public import Idealize.ShloMosaic.Lib.Pipeline.ValueKit

@[expose] public section

/-! The gradient of the convolved gated linear unit: a block of rows at a point, from the last to the first; what the
block above takes of a block's gate is carried, and the taps' gradients are summed over the thirty-two blocks. -/

set_option maxRecDepth 16384

noncomputable section

namespace Cert.Reference24Ideal.Stage

open Idealize.ShloMosaic Idealize.ShloMosaic.TcCoe
open Cert.Reference24Ideal Cert.Reference24Ideal.Gen

/-- The gate moved down by one row. -/
def SH1 (x0 : FVec Ideal S4096x5632 .f32) : FVec Ideal S4096x2816 .f32 :=
  concatenate S4096x2816 0 [⟨S1x2816, (broadcastInDim S1x2816 ![] bcast_S_S1x2816 (constant S_ .f32 0x00000000#32))⟩, ⟨S4095x2816, (extractStridedSlice S4095x2816 ![0, 0] (extractStridedSlice S4096x2816 ![0, 0] x0 slices_S4096x5632_S4096x2816_0_0) slices_S4096x2816_S4095x2816_0_0)⟩] concatenates_S1x2816_S4095x2816_S4096x2816_d0

/-- The gate moved down by two rows. -/
def SH2 (x0 : FVec Ideal S4096x5632 .f32) : FVec Ideal S4096x2816 .f32 :=
  concatenate S4096x2816 0 [⟨S2x2816, (broadcastInDim S2x2816 ![] bcast_S_S2x2816 (constant S_ .f32 0x00000000#32))⟩, ⟨S4094x2816, (extractStridedSlice S4094x2816 ![0, 0] (extractStridedSlice S4096x2816 ![0, 0] x0 slices_S4096x5632_S4096x2816_0_0) slices_S4096x2816_S4094x2816_0_0)⟩] concatenates_S2x2816_S4094x2816_S4096x2816_d0

/-- The convolved gate. -/
def ZZ (x0 : FVec Ideal S4096x5632 .f32) (x1 : FVec Ideal S3x2816 .f32) : FVec Ideal S4096x2816 .f32 :=
  addf (addf (mulf (broadcastInDim S4096x2816 ![0, 1] bcast_S1x2816_S4096x2816_0_1 (extractStridedSlice S1x2816 ![2, 0] x1 slices_S3x2816_S1x2816_2_0)) (extractStridedSlice S4096x2816 ![0, 0] x0 slices_S4096x5632_S4096x2816_0_0)) (mulf (broadcastInDim S4096x2816 ![0, 1] bcast_S1x2816_S4096x2816_0_1 (extractStridedSlice S1x2816 ![1, 0] x1 slices_S3x2816_S1x2816_1_0)) (SH1 x0))) (mulf (broadcastInDim S4096x2816 ![0, 1] bcast_S1x2816_S4096x2816_0_1 (extractStridedSlice S1x2816 ![0, 0] x1 slices_S3x2816_S1x2816_0_0)) (SH2 x0))

/-- The sigmoid of the convolved gate. -/
def SG (x0 : FVec Ideal S4096x5632 .f32) (x1 : FVec Ideal S3x2816 .f32) : FVec Ideal S4096x2816 .f32 :=
  Host.divf (broadcastInDim S4096x2816 ![] bcast_S_S4096x2816 (constant S_ .f32 0x3F800000#32)) (addf (broadcastInDim S4096x2816 ![] bcast_S_S4096x2816 (constant S_ .f32 0x3F800000#32)) (Host.exp (Host.negf (ZZ x0 x1))))

/-- The gradient of the convolved gate. -/
def DZ (x0 : FVec Ideal S4096x5632 .f32) (x1 : FVec Ideal S3x2816 .f32) (x2 : FVec Ideal S4096x2816 .f32) : FVec Ideal S4096x2816 .f32 :=
  addf (mulf (mulf x2 (extractStridedSlice S4096x2816 ![0, 2816] x0 slices_S4096x5632_S4096x2816_0_2816)) (SG x0 x1)) (mulf (mulf (ZZ x0 x1) (mulf x2 (extractStridedSlice S4096x2816 ![0, 2816] x0 slices_S4096x5632_S4096x2816_0_2816))) (mulf (SG x0 x1) (subf (broadcastInDim S4096x2816 ![] bcast_S_S4096x2816 (constant S_ .f32 0x3F800000#32)) (SG x0 x1))))

/-- The reference's result 0, of its arguments. -/
abbrev REF0 (x0 : FVec Ideal S4096x5632 .f32) (x1 : FVec Ideal S3x2816 .f32) (x2 : FVec Ideal S4096x2816 .f32) : FVec Ideal S4096x5632 .bf16 :=
  truncf .bf16 (concatenate S4096x5632 1 [⟨S4096x2816, (addf (addf (pad S4096x2816 ![0, 0] ![2, 0] ![0, 0] (extractStridedSlice S4094x2816 ![2, 0] (mulf (broadcastInDim S4096x2816 ![0, 1] bcast_S1x2816_S4096x2816_0_1 (extractStridedSlice S1x2816 ![0, 0] x1 slices_S3x2816_S1x2816_0_0)) (DZ x0 x1 x2)) slices_S4096x2816_S4094x2816_2_0) (constant S_ .f32 0x00000000#32) pads_S4094x2816_S4096x2816_020_000 h_S_) (pad S4096x2816 ![0, 0] ![1, 0] ![0, 0] (extractStridedSlice S4095x2816 ![1, 0] (mulf (broadcastInDim S4096x2816 ![0, 1] bcast_S1x2816_S4096x2816_0_1 (extractStridedSlice S1x2816 ![1, 0] x1 slices_S3x2816_S1x2816_1_0)) (DZ x0 x1 x2)) slices_S4096x2816_S4095x2816_1_0) (constant S_ .f32 0x00000000#32) pads_S4095x2816_S4096x2816_010_000 h_S_)) (mulf (broadcastInDim S4096x2816 ![0, 1] bcast_S1x2816_S4096x2816_0_1 (extractStridedSlice S1x2816 ![2, 0] x1 slices_S3x2816_S1x2816_2_0)) (DZ x0 x1 x2)))⟩, ⟨S4096x2816, (mulf (mulf (ZZ x0 x1) (SG x0 x1)) x2)⟩] concatenates_S4096x2816_S4096x2816_S4096x5632_d1) bitsLt_bf16_f32

/-- The reference's result 1, of its arguments. -/
abbrev REF1 (x0 : FVec Ideal S4096x5632 .f32) (x1 : FVec Ideal S3x2816 .f32) (x2 : FVec Ideal S4096x2816 .f32) : FVec Ideal S1x2816 .f32 :=
  extractStridedSlice S1x2816 ![0, 0] (addf (addf (pad S3x2816 ![0, 0] ![2, 0] ![0, 0] (shapeCast _ (Host.reduceAdd (mulf (DZ x0 x1 x2) (SH2 x0)) (constant S_ .f32 0x00000000#32) reducesTo_S4096x2816_S2816_d0 h_S_) shapeCasts_S2816_S1x2816) (constant S_ .f32 0x00000000#32) pads_S1x2816_S3x2816_020_000 h_S_) (pad S3x2816 ![1, 0] ![1, 0] ![0, 0] (shapeCast _ (Host.reduceAdd (mulf (DZ x0 x1 x2) (SH1 x0)) (constant S_ .f32 0x00000000#32) reducesTo_S4096x2816_S2816_d0 h_S_) shapeCasts_S2816_S1x2816) (constant S_ .f32 0x00000000#32) pads_S1x2816_S3x2816_110_000 h_S_)) (pad S3x2816 ![2, 0] ![0, 0] ![0, 0] (shapeCast _ (Host.reduceAdd (mulf (DZ x0 x1 x2) (extractStridedSlice S4096x2816 ![0, 0] x0 slices_S4096x5632_S4096x2816_0_0)) (constant S_ .f32 0x00000000#32) reducesTo_S4096x2816_S2816_d0 h_S_) shapeCasts_S2816_S1x2816) (constant S_ .f32 0x00000000#32) pads_S1x2816_S3x2816_200_000 h_S_)) slices_S3x2816_S1x2816_0_0

/-- The reference's result 2, of its arguments. -/
abbrev REF2 (x0 : FVec Ideal S4096x5632 .f32) (x1 : FVec Ideal S3x2816 .f32) (x2 : FVec Ideal S4096x2816 .f32) : FVec Ideal S1x2816 .f32 :=
  extractStridedSlice S1x2816 ![1, 0] (addf (addf (pad S3x2816 ![0, 0] ![2, 0] ![0, 0] (shapeCast _ (Host.reduceAdd (mulf (DZ x0 x1 x2) (SH2 x0)) (constant S_ .f32 0x00000000#32) reducesTo_S4096x2816_S2816_d0 h_S_) shapeCasts_S2816_S1x2816) (constant S_ .f32 0x00000000#32) pads_S1x2816_S3x2816_020_000 h_S_) (pad S3x2816 ![1, 0] ![1, 0] ![0, 0] (shapeCast _ (Host.reduceAdd (mulf (DZ x0 x1 x2) (SH1 x0)) (constant S_ .f32 0x00000000#32) reducesTo_S4096x2816_S2816_d0 h_S_) shapeCasts_S2816_S1x2816) (constant S_ .f32 0x00000000#32) pads_S1x2816_S3x2816_110_000 h_S_)) (pad S3x2816 ![2, 0] ![0, 0] ![0, 0] (shapeCast _ (Host.reduceAdd (mulf (DZ x0 x1 x2) (extractStridedSlice S4096x2816 ![0, 0] x0 slices_S4096x5632_S4096x2816_0_0)) (constant S_ .f32 0x00000000#32) reducesTo_S4096x2816_S2816_d0 h_S_) shapeCasts_S2816_S1x2816) (constant S_ .f32 0x00000000#32) pads_S1x2816_S3x2816_200_000 h_S_)) slices_S3x2816_S1x2816_1_0

/-- The reference's result 3, of its arguments. -/
abbrev REF3 (x0 : FVec Ideal S4096x5632 .f32) (x1 : FVec Ideal S3x2816 .f32) (x2 : FVec Ideal S4096x2816 .f32) : FVec Ideal S1x2816 .f32 :=
  extractStridedSlice S1x2816 ![2, 0] (addf (addf (pad S3x2816 ![0, 0] ![2, 0] ![0, 0] (shapeCast _ (Host.reduceAdd (mulf (DZ x0 x1 x2) (SH2 x0)) (constant S_ .f32 0x00000000#32) reducesTo_S4096x2816_S2816_d0 h_S_) shapeCasts_S2816_S1x2816) (constant S_ .f32 0x00000000#32) pads_S1x2816_S3x2816_020_000 h_S_) (pad S3x2816 ![1, 0] ![1, 0] ![0, 0] (shapeCast _ (Host.reduceAdd (mulf (DZ x0 x1 x2) (SH1 x0)) (constant S_ .f32 0x00000000#32) reducesTo_S4096x2816_S2816_d0 h_S_) shapeCasts_S2816_S1x2816) (constant S_ .f32 0x00000000#32) pads_S1x2816_S3x2816_110_000 h_S_)) (pad S3x2816 ![2, 0] ![0, 0] ![0, 0] (shapeCast _ (Host.reduceAdd (mulf (DZ x0 x1 x2) (extractStridedSlice S4096x2816 ![0, 0] x0 slices_S4096x5632_S4096x2816_0_0)) (constant S_ .f32 0x00000000#32) reducesTo_S4096x2816_S2816_d0 h_S_) shapeCasts_S2816_S1x2816) (constant S_ .f32 0x00000000#32) pads_S1x2816_S3x2816_200_000 h_S_)) slices_S3x2816_S1x2816_2_0

end Cert.Reference24Ideal.Stage

namespace Cert.Kernel24Ideal.Stage

open Idealize.ShloMosaic Idealize.ShloMosaic.TcCoe Idealize.SL.Sem Idealize.ShloMosaic.Tactic
open Cert.Kernel24Ideal Cert.Kernel24Ideal.Gen Cert.Reference24Ideal.Stage

variable (m : (ℓ : Loc nD τ sig) → Buf (Elt Ideal) ℓ)

/-- The block that point `t` takes of every array. -/
theorem idx : ∀ t : Fin cfg0.N, win0_0.index t = ![31 - t.val, 0] ∧ win0_1.index t = ![16 * (31 - t.val) - 1, 0] ∧ win0_2.index t = ![31 - t.val, 1] ∧ win0_3.index t = ![0, 0] ∧ win0_4.index t = ![0, 0] ∧ win0_5.index t = ![0, 0] ∧ win0_6.index t = ![31 - t.val, 0] ∧ win0_7.index t = ![31 - t.val, 0] ∧ win0_8.index t = ![0, 0] ∧ win0_9.index t = ![0, 0] ∧ win0_10.index t = ![0, 0] :=
  (by decide +kernel : ∀ t : Fin grid0.N, win0_0.index t = ![31 - t.val, 0] ∧ win0_1.index t = ![16 * (31 - t.val) - 1, 0] ∧ win0_2.index t = ![31 - t.val, 1] ∧ win0_3.index t = ![0, 0] ∧ win0_4.index t = ![0, 0] ∧ win0_5.index t = ![0, 0] ∧ win0_6.index t = ![31 - t.val, 0] ∧ win0_7.index t = ![31 - t.val, 0] ∧ win0_8.index t = ![0, 0] ∧ win0_9.index t = ![0, 0] ∧ win0_10.index t = ![0, 0])

theorem coord : ∀ t : Fin cfg0.N, (grid0.coords t 0).val = t.val :=
  (by decide +kernel : ∀ t : Fin grid0.N, (grid0.coords t 0).val = t.val)

/-- Row `r` of the block of point `t`. -/
def row (t : Fin cfg0.N) (r : Fin 128) : Fin 4096 := ⟨128 * (31 - t.val) + r.val, by have := r.isLt; omega⟩

/-- The first block of rows, the last point's, is told by its word. -/
theorem select_first (t : Fin cfg0.N) (u v : EReal) :
    Scalar.select (Scalar.cmpi CmpIPredicate.eq (Scalar.subi 31#32 (BitVec.ofNat 32 (grid0.coords t 0).val)) 0#32) u v = if 31 - t.val = 0 then u else v := by
  rw [coord t]
  have h : ∀ s : Fin 32, Scalar.select (Scalar.cmpi CmpIPredicate.eq (Scalar.subi 31#32 (BitVec.ofNat 32 s.val)) 0#32) u v = if 31 - s.val = 0 then u else v := by
    intro s
    fin_cases s <;> rfl
  exact h t

theorem gate_rows (c : Dev nD) (t : Fin cfg0.N) (q : Fin 2816) (r : Fin 128) :
    (iblk m c 0 t (ix2 r q : S128x2816.Idx) : EReal) = ((m ((c : Thread nD τ).loc main_arg0)) (ix2 ⟨128 * (31 - t.val) + r.val, by have := r.isLt; omega⟩ ⟨q.val, by omega⟩ : S4096x5632.Idx) : EReal) := by
  blk_point [iblk, V, idx t]

theorem halo_rows (c : Dev nD) (t : Fin cfg0.N) (q : Fin 2816) (r : Fin 8) (h : 31 - t.val ≠ 0) :
    (iblk m c 1 t (ix2 r q : S8x2816.Idx) : EReal) = ((m ((c : Thread nD τ).loc main_arg0)) (ix2 ⟨128 * (31 - t.val) - 8 + r.val, by have := r.isLt; omega⟩ ⟨q.val, by omega⟩ : S4096x5632.Idx) : EReal) := by
  blk_point [iblk, V, idx t]

theorem sh1_at (c : Dev nD) (t : Fin cfg0.N) (r : Fin 128) (q : Fin 2816) :
    k0_pay3 (F := Ideal) (grid0.coords t) (iblk m c 0 t) (iblk m c 1 t) (ix2 r q) = SH1 (m ((c : Thread nD τ).loc main_arg0)) (ix2 (row t r) q) := by
  pointwise [k0_pay3, k0_pay2, SH1]
  exact Cert.Halo.moved1 (31 - t.val) (by omega) _ (select_first t) (fun r => iblk m c 0 t (ix2 r q : S128x2816.Idx)) (fun r => iblk m c 1 t (ix2 r q : S8x2816.Idx))
    (fun r => (m ((c : Thread nD τ).loc main_arg0)) (ix2 r ⟨q.val, by omega⟩ : S4096x5632.Idx)) (gate_rows m c t q) (halo_rows m c t q) r.val r.isLt _ rfl (Nat.mod_lt _ (by decide)) (Nat.mod_lt _ (by decide)) (Nat.mod_lt _ (by decide))

theorem sh2_at (c : Dev nD) (t : Fin cfg0.N) (r : Fin 128) (q : Fin 2816) :
    k0_pay4 (F := Ideal) (grid0.coords t) (iblk m c 0 t) (iblk m c 1 t) (ix2 r q) = SH2 (m ((c : Thread nD τ).loc main_arg0)) (ix2 (row t r) q) := by
  pointwise [k0_pay4, k0_pay2, SH2]
  exact Cert.Halo.moved2 (31 - t.val) (by omega) _ (select_first t) (fun r => iblk m c 0 t (ix2 r q : S128x2816.Idx)) (fun r => iblk m c 1 t (ix2 r q : S8x2816.Idx))
    (fun r => (m ((c : Thread nD τ).loc main_arg0)) (ix2 r ⟨q.val, by omega⟩ : S4096x5632.Idx)) (gate_rows m c t q) (halo_rows m c t q) r.val r.isLt _ rfl (Nat.mod_lt _ (by decide)) (Nat.mod_lt _ (by decide)) (Nat.mod_lt _ (by decide))

/-- The convolved gate of a block. -/
abbrev zb (c : Dev nD) (t : Fin cfg0.N) : FVec Ideal S128x2816 .f32 :=
  k0_pay8 (F := Ideal) (grid0.coords t) (iblk m c 0 t) (iblk m c 1 t) (iblk m c 3 t) (iblk m c 4 t) (iblk m c 5 t)

theorem z_at (c : Dev nD) (t : Fin cfg0.N) (r : Fin 128) (q : Fin 2816) : zb m c t (ix2 r q) = ZZ (m ((c : Thread nD τ).loc main_arg0)) (m ((c : Thread nD τ).loc main_arg1)) (ix2 (row t r) q) := by
  unfold zb
  pointwise [k0_pay5, k0_pay6, k0_pay7, k0_pay8, ZZ]
  rw [sh1_at m c t r q, sh2_at m c t r q]
  blk_point [iblk, V, idx t, row]

theorem dz_at (c : Dev nD) (t : Fin cfg0.N) (r : Fin 128) (q : Fin 2816) :
    k0_pay11 (F := Ideal) (iblk m c 2 t) (zb m c t) (iblk m c 6 t) (ix2 r q) = DZ (m ((c : Thread nD τ).loc main_arg0)) (m ((c : Thread nD τ).loc main_arg1)) (m ((c : Thread nD τ).loc main_arg2)) (ix2 (row t r) q) := by
  have z := z_at m c t r q
  generalize zb m c t = zz at z
  pointwise [k0_pay11, k0_pay9, DZ, SG]
  simp only [Ideal.logistic]
  rw [z]
  blk_point [iblk, V, idx t, row]

theorem tap0 (c : Dev nD) (t : Fin cfg0.N) (q : Fin 2816) : k0_pay5 (F := Ideal) (iblk m c 3 t) (ix2 0 q) = (m ((c : Thread nD τ).loc main_arg1)) (ix2 0 q : S3x2816.Idx) := by
  pointwise [k0_pay5]
  blk_point [iblk, V, idx t]

theorem tap1 (c : Dev nD) (t : Fin cfg0.N) (q : Fin 2816) : k0_pay6 (F := Ideal) (iblk m c 4 t) (ix2 0 q) = (m ((c : Thread nD τ).loc main_arg1)) (ix2 1 q : S3x2816.Idx) := by
  pointwise [k0_pay6]
  blk_point [iblk, V, idx t]

theorem tap2 (c : Dev nD) (t : Fin cfg0.N) (q : Fin 2816) : k0_pay7 (F := Ideal) (iblk m c 5 t) (ix2 0 q) = (m ((c : Thread nD τ).loc main_arg1)) (ix2 2 q : S3x2816.Idx) := by
  pointwise [k0_pay7]
  blk_point [iblk, V, idx t]

/-- The gate's gradient in the reference: the taps' parts from two rows below, one below and the row itself. -/
theorem ref_gate (x0 x1 x2) (R : Fin 4096) (q : Fin 2816) : REF0 x0 x1 x2 (ix2 R ⟨q.val, by omega⟩ : S4096x5632.Idx)
    = ((if _h : R.val < 4094 then x1 (ix2 0 q) * DZ x0 x1 x2 (ix2 ⟨2 + R.val, by omega⟩ q) else 0)
      + (if _h : R.val < 4095 then x1 (ix2 1 q) * DZ x0 x1 x2 (ix2 ⟨1 + R.val, by omega⟩ q) else 0)) + x1 (ix2 2 q) * DZ x0 x1 x2 (ix2 R q) := by
  pointwise [REF0]

/-- The linear part's gradient in the reference. -/
theorem ref_up (x0 x1 x2) (R : Fin 4096) (q : Fin 2816) : REF0 x0 x1 x2 (ix2 R ⟨2816 + q.val, by omega⟩ : S4096x5632.Idx)
    = ZZ x0 x1 (ix2 R q) * SG x0 x1 (ix2 R q) * x2 (ix2 R q) := by
  pointwise [REF0]

/-- A tap of the convolution. -/
abbrev tap (c : Dev nD) (k : Fin 3) (q : Fin 2816) : EReal := (m ((c : Thread nD τ).loc main_arg1)) (ix2 k q : S3x2816.Idx)

/-- The gradient of the convolved gate at a row. -/
abbrev dzr (c : Dev nD) (R : Fin 4096) (q : Fin 2816) : EReal := DZ (m ((c : Thread nD τ).loc main_arg0)) (m ((c : Thread nD τ).loc main_arg1)) (m ((c : Thread nD τ).loc main_arg2)) (ix2 R q)

/-- What a point leaves for the block above: its first rows' parts from one and two rows below. -/
theorem carry_point (c : Dev nD) (t : Fin cfg0.N) (r : Fin 8) (q : Fin 2816) : (outsAt0 m c t.val t.isLt).2.2.2.2 (ix2 r q)
    = (if 7 ≤ r.val then tap m c 1 q * dzr m c ⟨128 * (31 - t.val) + (r.val + 8 - 7) % 8, by omega⟩ q else 0)
      + (if 6 ≤ r.val then tap m c 0 q * dzr m c ⟨128 * (31 - t.val) + (r.val + 8 - 6) % 8, by omega⟩ q else 0) := by
  have d1 := dz_at m c t ⟨(r.val + 8 - 7) % 8, by omega⟩ q
  have d2 := dz_at m c t ⟨(r.val + 8 - 6) % 8, by omega⟩ q
  have e : (outsAt0 m c t.val t.isLt).2.2.2.2 = k0_pay26 (F := Ideal) (k0_pay12 (iblk m c 2 t) (k0_pay5 (iblk m c 3 t)) (zb m c t) (iblk m c 6 t))
      (iota Kind.tc S8x2816 32 [0] iota_S8x2816_d0_w32) k0_pay22 k0_pay24 (k0_pay25 (iblk m c 2 t) (k0_pay6 (iblk m c 4 t)) (zb m c t) (iblk m c 6 t)) := by
    by_cases h : t.val % 32 = 0
    · rw [outsAt0_A m c t h]
      frame_out
    · rw [outsAt0_B m c t h]
      frame_out
  rw [e]
  generalize zb m c t = zz at d1 d2
  pointwise [k0_pay26, k0_pay24, k0_pay25, k0_pay22, k0_pay12, k0_pay14]
  rw [Cert.Halo.select_row7 r.val r.isLt, Cert.Halo.select_row6 r.val r.isLt, tap0, tap1, d1, d2]
  rfl

set_option maxHeartbeats 1000000 in
/-- The gate's gradient in the block of a point, over what the point before carried. -/
theorem gate_point (c : Dev nD) (t : Fin cfg0.N) (car : FVec Ideal S8x2816 .f32) (r : Fin 128) (q : Fin 2816)
    (hc : ∀ s : Fin 8, car (ix2 s q) = if h : (31 - t.val) + 1 < 32 then
        (if 7 ≤ s.val then tap m c 1 q * dzr m c ⟨128 * ((31 - t.val) + 1) + (s.val + 8 - 7) % 8, by omega⟩ q else 0)
          + (if 6 ≤ s.val then tap m c 0 q * dzr m c ⟨128 * ((31 - t.val) + 1) + (s.val + 8 - 6) % 8, by omega⟩ q else 0)
      else 0) :
    k0_pay27 (F := Ideal) (k0_pay12 (iblk m c 2 t) (k0_pay5 (iblk m c 3 t)) (zb m c t) (iblk m c 6 t)) (k0_pay16 (iblk m c 2 t) (k0_pay7 (iblk m c 5 t)) (zb m c t) (iblk m c 6 t)) car
      (iota Kind.tc S128x2816 32 [0] iota_S128x2816_d0_w32) (k0_pay23 (iblk m c 2 t) (k0_pay6 (iblk m c 4 t)) (zb m c t) (iblk m c 6 t)) (ix2 r q)
      = REF0 (m ((c : Thread nD τ).loc main_arg0)) (m ((c : Thread nD τ).loc main_arg1)) (m ((c : Thread nD τ).loc main_arg2)) (ix2 (row t r) ⟨q.val, by omega⟩ : S4096x5632.Idx) := by
  have d := dz_at m c t
  rw [ref_gate]
  generalize zb m c t = zz at d
  pointwise [k0_pay27, k0_pay12, k0_pay16, k0_pay23, k0_pay14]
  rw [tap0, tap1, tap2]
  exact Cert.Halo.unmoved (31 - t.val) (by omega) (fun R => tap m c 2 q * dzr m c R q)
    (fun R => tap m c 1 q * dzr m c R q) (fun R => tap m c 0 q * dzr m c R q)
    (fun s => tap m c 2 q * k0_pay11 (F := Ideal) (iblk m c 2 t) zz (iblk m c 6 t) (ix2 s q))
    (fun s => tap m c 1 q * k0_pay11 (F := Ideal) (iblk m c 2 t) zz (iblk m c 6 t) (ix2 s q))
    (fun s => tap m c 0 q * k0_pay11 (F := Ideal) (iblk m c 2 t) zz (iblk m c 6 t) (ix2 s q))
    (fun s => car (ix2 s q)) (fun s => congrArg _ (d s q)) (fun s => congrArg _ (d s q)) (fun s => congrArg _ (d s q)) hc r.val r.isLt _ rfl
    (Nat.mod_lt _ (by decide)) (Nat.mod_lt _ (by decide)) (by omega) (Nat.mod_lt _ (by decide)) (Nat.mod_lt _ (by decide)) (fun _ => by omega)

/-- The linear part's gradient in the block of a point. -/
theorem up_point (c : Dev nD) (t : Fin cfg0.N) (r : Fin 128) (q : Fin 2816) :
    k0_pay28 (F := Ideal) (k0_pay10 (zb m c t) (iblk m c 6 t)) (ix2 r q) = REF0 (m ((c : Thread nD τ).loc main_arg0)) (m ((c : Thread nD τ).loc main_arg1)) (m ((c : Thread nD τ).loc main_arg2)) (ix2 (row t r) ⟨2816 + q.val, by omega⟩ : S4096x5632.Idx) := by
  have z := z_at m c t r q
  rw [ref_up]
  generalize zb m c t = zz at z
  pointwise [k0_pay28, k0_pay10, k0_pay9, SG]
  simp only [Ideal.logistic]
  rw [z]
  blk_point [iblk, V, idx t, row]

/-- Two stored halves of a block's columns, read back. -/
theorem canon_halves (inb1 : ∀ a, (![0, 2816] : Fin 2 → Nat) a + (![128, 2816] : Fin 2 → Nat) a ≤ S128x5632.size a)
    (inb0 : ∀ a, (![0, 0] : Fin 2 → Nat) a + (![128, 2816] : Fin 2 → Nat) a ≤ S128x5632.size a)
    (w1 w0 : FVec Ideal S128x2816 .bf16) (r : Fin 128) (k : Fin 5632) :
    View.canon [(⟨Rect.unit ![0, 2816] ![128, 2816] inb1, w1⟩ : View.Piece (Elt Ideal) S128x5632 .bf16), ⟨Rect.unit ![0, 0] ![128, 2816] inb0, w0⟩] (ix2 r k)
      = if h : k.val < 2816 then w0 (ix2 r ⟨k.val, h⟩) else w1 (ix2 r ⟨k.val - 2816, by omega⟩) := by
  by_cases h : k.val < 2816
  · rw [dif_pos h, View.canon_cons_of_not_mem]
    · have e : (ix2 r k : S128x5632.Idx) = (Rect.unit (s := S128x5632) ![0, 0] ![128, 2816] inb0).emb (ix2 r ⟨k.val, h⟩ : S128x2816.Idx) := by
        funext a
        apply Fin.ext
        rw [Rect.emb_apply]
        fin_cases a <;> simp
      conv_lhs => rw [e]
      rw [View.canon_cons_emb]
    · intro hm
      obtain ⟨x, hx⟩ := (Rect.unit _ _ inb1).exists_idx_of_mem hm
      have e := congrArg (fun z : S128x5632.Idx => (z 1).val) hx
      simp at e
      omega
  · rw [dif_neg h]
    have e : (ix2 r k : S128x5632.Idx) = (Rect.unit (s := S128x5632) ![0, 2816] ![128, 2816] inb1).emb (ix2 r ⟨k.val - 2816, by omega⟩ : S128x2816.Idx) := by
      funext a
      apply Fin.ext
      rw [Rect.emb_apply]
      fin_cases a
      · simp
      · simp
        omega
    conv_lhs => rw [e]
    rw [View.canon_cons_emb]

/-- The block of both gradients that a point leaves. -/
theorem block_point (c : Dev nD) (t : Fin cfg0.N) (r : Fin 128) (k : Fin 5632) :
    (outsAt0 m c t.val t.isLt).1 (ix2 r k) = REF0 (m ((c : Thread nD τ).loc main_arg0)) (m ((c : Thread nD τ).loc main_arg1)) (m ((c : Thread nD τ).loc main_arg2)) (ix2 (row t r) k : S4096x5632.Idx) := by
  by_cases h : t.val % 32 = 0
  · rw [outsAt0_A m c t h]
    frame_out
    rw [canon_halves]
    by_cases hk : k.val < 2816
    · rw [dif_pos hk]
      refine (gate_point m c t _ r ⟨k.val, hk⟩ fun s => ?_).trans rfl
      rw [dif_neg (show ¬ (31 - t.val) + 1 < 32 by have : t.val < 32 := t.isLt; omega)]
      pointwise [k0_pay21]
    · rw [dif_neg hk]
      refine (up_point m c t r ⟨k.val - 2816, by omega⟩).trans (congrArg _ ?_)
      congr 1
      apply Fin.ext
      simp only
      omega
  · rw [outsAt0_B m c t h]
    frame_out
    simp only [read_unread_whole]
    rw [canon_halves]
    by_cases hk : k.val < 2816
    · rw [dif_pos hk]
      refine (gate_point m c t _ r ⟨k.val, hk⟩ fun s => ?_).trans rfl
      rw [dif_pos (show (31 - t.val) + 1 < 32 by omega)]
      have ht : 31 - (t.val - 1) = 31 - t.val + 1 := by have : t.val < 32 := t.isLt; omega
      refine (carry_point m c ⟨t.val - 1, lt_of_le_of_lt (Nat.sub_le _ _) t.isLt⟩ s ⟨k.val, hk⟩).trans ?_
      simp only [ht]
    · rw [dif_neg hk]
      refine (up_point m c t r ⟨k.val - 2816, by omega⟩).trans (congrArg _ ?_)
      congr 1
      apply Fin.ext
      simp only
      omega

theorem final0 (c : Dev nD) : (dats m 0 c).arrAt 7 cfg0.N = REF0 (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  have hy : y = (ix2 (y 0) (y 1) : S128x5632.Idx) := by
    funext a
    fin_cases a <;> rfl
  have he : ((View.whole main_v9_0).slice (win0_7.rect t)).emb y = (ix2 (row t (y 0)) (y 1) : S4096x5632.Idx) := by
    funext a
    apply Fin.ext
    have e := win0_7.rect_emb_val t y a
    have k := congrFun (idx t).2.2.2.2.2.2.2.1 a
    rw [k] at e
    refine e.trans ?_
    fin_cases a
    · show (31 - t.val) * 128 + (y 0).val = 128 * (31 - t.val) + (y 0).val
      omega
    · show 0 * 5632 + (y 1).val = (y 1).val
      omega
  rw [he, hy]
  exact block_point m c t (y 0) (y 1)

theorem zero_at18 (j) : k0_pay18 (F := Ideal) j = 0 := by
  pointwise [k0_pay18]

theorem part_at29 (v acc : FVec Ideal S1x2816 .f32) (j) : k0_pay29 v acc j = acc j + v j := by
  pointwise [k0_pay29]

theorem final1 (c : Dev nD) : (dats m 0 c).arrAt 8 cfg0.N = REF1 (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]
  rw [Pipeline.eq_sum_fin_of_reset_step_apply_of_flush (fun n h => (outsAt0 m c n h).2.1) 32 (fun _ => 0) _
    (fun t h j => by rw [outsAt0_A m c t h]; frame_out; simp only [part_at29, zero_at18] <;> rfl)
    (fun t h j => by rw [outsAt0_B m c t h]; frame_out; simp only [part_at29] <;> rfl)
    t ((flush0_8 t).mp hf) _, zero_add, ← Equiv.sum_comp Fin.revPerm]
  pointwise [k0_pay13, REF1]
  refine Fin.sum_mul_add_congr fun s k hl => ?_
  have hr : (Fin.revPerm s).val = 31 - s.val := by
    have := Fin.val_rev s
    rw [Fin.revPerm_apply]
    omega
  have ht : t.val < 32 := t.isLt
  have hR : (⟨s.val * 128 + k.val, hl⟩ : Fin 4096) = row ⟨32 * (t.val / 32) + (Fin.revPerm s).val, Pipeline.run_point_lt_of_flush t ((flush0_8 t).mp hf) _⟩ k := by
    apply Fin.ext
    show s.val * 128 + k.val = 128 * (31 - (32 * (t.val / 32) + (Fin.revPerm s).val)) + k.val
    rw [hr]
    have := s.isLt
    omega
  have hq : (((View.whole main_v9_1).slice (win0_8.rect t)).emb y 1 : Fin 2816) = y 1 := by
    apply Fin.ext
    have e := win0_8.rect_emb_val t y 1
    have k := congrFun (idx t).2.2.2.2.2.2.2.2.1 1
    rw [k] at e
    exact e.trans (show 0 * 2816 + (y 1).val = (y 1).val by omega)
  rw [hR, hq]
  exact congrArg₂ (fun a b : EReal => a * b) (dz_at m c _ k (y 1)) (sh2_at m c _ k (y 1))

theorem zero_at19 (j) : k0_pay19 (F := Ideal) j = 0 := by
  pointwise [k0_pay19]

theorem part_at30 (v acc : FVec Ideal S1x2816 .f32) (j) : k0_pay30 v acc j = acc j + v j := by
  pointwise [k0_pay30]

theorem final2 (c : Dev nD) : (dats m 0 c).arrAt 9 cfg0.N = REF2 (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9]
  rw [Pipeline.eq_sum_fin_of_reset_step_apply_of_flush (fun n h => (outsAt0 m c n h).2.2.1) 32 (fun _ => 0) _
    (fun t h j => by rw [outsAt0_A m c t h]; frame_out; simp only [part_at30, zero_at19] <;> rfl)
    (fun t h j => by rw [outsAt0_B m c t h]; frame_out; simp only [part_at30] <;> rfl)
    t ((flush0_9 t).mp hf) _, zero_add, ← Equiv.sum_comp Fin.revPerm]
  pointwise [k0_pay15, REF2]
  refine Fin.sum_mul_add_congr fun s k hl => ?_
  have hr : (Fin.revPerm s).val = 31 - s.val := by
    have := Fin.val_rev s
    rw [Fin.revPerm_apply]
    omega
  have ht : t.val < 32 := t.isLt
  have hR : (⟨s.val * 128 + k.val, hl⟩ : Fin 4096) = row ⟨32 * (t.val / 32) + (Fin.revPerm s).val, Pipeline.run_point_lt_of_flush t ((flush0_9 t).mp hf) _⟩ k := by
    apply Fin.ext
    show s.val * 128 + k.val = 128 * (31 - (32 * (t.val / 32) + (Fin.revPerm s).val)) + k.val
    rw [hr]
    have := s.isLt
    omega
  have hq : (((View.whole main_v9_2).slice (win0_9.rect t)).emb y 1 : Fin 2816) = y 1 := by
    apply Fin.ext
    have e := win0_9.rect_emb_val t y 1
    have k := congrFun (idx t).2.2.2.2.2.2.2.2.2.1 1
    rw [k] at e
    exact e.trans (show 0 * 2816 + (y 1).val = (y 1).val by omega)
  rw [hR, hq]
  exact congrArg₂ (fun a b : EReal => a * b) (dz_at m c _ k (y 1)) (sh1_at m c _ k (y 1))

theorem zero_at20 (j) : k0_pay20 (F := Ideal) j = 0 := by
  pointwise [k0_pay20]

theorem part_at1 (v acc : FVec Ideal S1x2816 .f32) (j) : k0_pay1 v acc j = acc j + v j := by
  pointwise [k0_pay1]

theorem final3 (c : Dev nD) : (dats m 0 c).arrAt 10 cfg0.N = REF3 (m ((c : Thread nD τ).loc main_arg0)) (m ((c : Thread nD τ).loc main_arg1)) (m ((c : Thread nD τ).loc main_arg2)) := by
  refine (dats m 0 c).arrAt_eq_of_covers 10 _ (by decide +kernel) fun t hf y => ?_
  blk_simp
  rw [after0_10]
  rw [Pipeline.eq_sum_fin_of_reset_step_apply_of_flush (fun n h => (outsAt0 m c n h).2.2.2.1) 32 (fun _ => 0) _
    (fun t h j => by rw [outsAt0_A m c t h]; frame_out; simp only [part_at1, zero_at20] <;> rfl)
    (fun t h j => by rw [outsAt0_B m c t h]; frame_out; simp only [part_at1] <;> rfl)
    t ((flush0_10 t).mp hf) _, zero_add, ← Equiv.sum_comp Fin.revPerm]
  pointwise [k0_pay17, REF3]
  refine Fin.sum_mul_add_congr fun s k hl => ?_
  have hr : (Fin.revPerm s).val = 31 - s.val := by
    have := Fin.val_rev s
    rw [Fin.revPerm_apply]
    omega
  have ht : t.val < 32 := t.isLt
  have hR : (⟨s.val * 128 + k.val, hl⟩ : Fin 4096) = row ⟨32 * (t.val / 32) + (Fin.revPerm s).val, Pipeline.run_point_lt_of_flush t ((flush0_10 t).mp hf) _⟩ k := by
    apply Fin.ext
    show s.val * 128 + k.val = 128 * (31 - (32 * (t.val / 32) + (Fin.revPerm s).val)) + k.val
    rw [hr]
    have := s.isLt
    omega
  have hq : (((View.whole main_v9_3).slice (win0_10.rect t)).emb y 1 : Fin 2816) = y 1 := by
    apply Fin.ext
    have e := win0_10.rect_emb_val t y 1
    have k := congrFun (idx t).2.2.2.2.2.2.2.2.2.2 1
    rw [k] at e
    exact e.trans (show 0 * 2816 + (y 1).val = (y 1).val by omega)
  rw [hR, hq]
  exact congrArg₂ (fun a b : EReal => a * b) (dz_at m c _ k (y 1)) (gate_rows m c _ (y 1) k)

/-- Kernel and reference leave the same arrays. -/
theorem values : Cert.algebraic_Kernel24Ideal_Reference24Ideal (hKernel24Ideal := Cert.Kernel24Ideal.Gen.facts) (hReference24Ideal := Cert.Reference24Ideal.Gen.facts) := by
  intro m g m' g' _ hm
  refine ⟨fun c => REF0 (m ((c : Thread nD τ).loc main_arg0)) (m ((c : Thread nD τ).loc main_arg1)) (m ((c : Thread nD τ).loc main_arg2)), fun c => REF1 (m ((c : Thread nD τ).loc main_arg0)) (m ((c : Thread nD τ).loc main_arg1)) (m ((c : Thread nD τ).loc main_arg2)), fun c => REF2 (m ((c : Thread nD τ).loc main_arg0)) (m ((c : Thread nD τ).loc main_arg1)) (m ((c : Thread nD τ).loc main_arg2)), fun c => REF3 (m ((c : Thread nD τ).loc main_arg0)) (m ((c : Thread nD τ).loc main_arg1)) (m ((c : Thread nD τ).loc main_arg2)), ?_, ?_⟩
  · refine (θ_run _ _ _).mono (fun r h c => ?_) (Cert.Kernel24Ideal.Value.run_blocks m g)
    obtain ⟨h0, h1, h2, h3, hargs⟩ := h c
    exact ⟨h0.trans (final0 m c), h1.trans (final1 m c), h2.trans (final2 m c), h3.trans (final3 m c), hargs⟩
  · refine (θ_run _ _ _).mono (fun r h c => ?_) (Cert.Reference24Ideal.Value.run m' g')
    obtain ⟨h0, h1, h2, h3, hargs⟩ := h c
    obtain ⟨e0, e1, e2⟩ := hm c
    refine ⟨h0.trans ?_, h1.trans ?_, h2.trans ?_, h3.trans ?_, hargs⟩
    · unfold Cert.Reference24Ideal.Value.res_main_v55
      rw [e0, e1, e2]
      try rfl
    · unfold Cert.Reference24Ideal.Value.res_main_v56
      rw [e0, e1, e2]
      try rfl
    · unfold Cert.Reference24Ideal.Value.res_main_v57
      rw [e0, e1, e2]
      try rfl
    · unfold Cert.Reference24Ideal.Value.res_main_v58
      rw [e0, e1, e2]
      try rfl

theorem frame_reference : Cert.quiescent_Reference24Ideal (hReference24Ideal := Cert.Reference24Ideal.Gen.facts) := fun m ρ _ =>
  (θ_run _ _ _).mono (fun r h => ⟨fun c => (h c).2.2.2.2, Cert.Common.no_counters (fun s => s.elim0) (fun s => s.elim0) _⟩) (Cert.Reference24Ideal.Value.run m ρ)

end Cert.Kernel24Ideal.Stage

end
-- ==== Proof.Stage25.lean ====
module

public import proofs.«01_k».proof.Defs
public import proofs.«01_k».proof.Proof.Gen.Kernel25Ideal
public import proofs.«01_k».proof.Proof.Gen.Kernel25Ideal.Value
public import proofs.«01_k».proof.Proof.Gen.Reference25Ideal.Run
public import proofs.«01_k».proof.Proof.Common
public import Idealize.ShloMosaic.Lib.Pipeline.ReadBack
public import Idealize.ShloMosaic.Lib.Pipeline.ValueKit

@[expose] public section

/-! The loss head: the loss and its gradients, the rows' gradients a block at a point, the parameters' and
the loss summed over the eight blocks of rows. -/

set_option maxRecDepth 16384

noncomputable section

namespace Cert.Reference25Ideal.Stage

open Idealize.ShloMosaic Idealize.ShloMosaic.TcCoe
open Cert.Reference25Ideal Cert.Reference25Ideal.Gen

/-- The reference's result 0, of its arguments. -/
abbrev REF0 (x0 : FVec Ideal S4096x1024 .f32) (x1 : FVec Ideal S4096x1024 .f32) (x2 : FVec Ideal S4096x1024 .f32) (x3 : FVec Ideal S1x1024 .f32) (x4 : FVec Ideal S1x1024 .f32) : FVec Ideal S4096x1024 .f32 :=
  addf (addf (mulf (mulf (mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf (mulf (mulf (addf x0 (mulf (broadcastInDim S4096x1024 ![0, 1] bcast_S1x1024_S4096x1024_0_1 x3) x1)) (broadcastInDim S4096x1024 ![0, 1] bcast_S4096x1_S4096x1024_0_1 (Host.rsqrt (addf (Host.divf (broadcastInDim S4096x1 ![0] bcast_S4096_S4096x1_0 (Host.reduceAdd (mulf (addf x0 (mulf (broadcastInDim S4096x1024 ![0, 1] bcast_S1x1024_S4096x1024_0_1 x3) x1)) (addf x0 (mulf (broadcastInDim S4096x1024 ![0, 1] bcast_S1x1024_S4096x1024_0_1 x3) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 x4)) x2))) (broadcastInDim S4096x1024 ![0, 1] bcast_S1x1024_S4096x1024_0_1 x4)) (broadcastInDim S4096x1024 ![0, 1] bcast_S4096x1_S4096x1024_0_1 (Host.rsqrt (addf (Host.divf (broadcastInDim S4096x1 ![0] bcast_S4096_S4096x1_0 (Host.reduceAdd (mulf (addf x0 (mulf (broadcastInDim S4096x1024 ![0, 1] bcast_S1x1024_S4096x1024_0_1 x3) x1)) (addf x0 (mulf (broadcastInDim S4096x1024 ![0, 1] bcast_S1x1024_S4096x1024_0_1 x3) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf (addf x0 (mulf (broadcastInDim S4096x1024 ![0, 1] bcast_S1x1024_S4096x1024_0_1 x3) x1)) (broadcastInDim S4096x1024 ![0] bcast_S4096_S4096x1024_0 (Host.reduceAdd (Host.divf (mulf (shapeCast _ (Host.reduceAdd (mulf (addf x0 (mulf (broadcastInDim S4096x1024 ![0, 1] bcast_S1x1024_S4096x1024_0_1 x3) x1)) (mulf (mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf (mulf (mulf (addf x0 (mulf (broadcastInDim S4096x1024 ![0, 1] bcast_S1x1024_S4096x1024_0_1 x3) x1)) (broadcastInDim S4096x1024 ![0, 1] bcast_S4096x1_S4096x1024_0_1 (Host.rsqrt (addf (Host.divf (broadcastInDim S4096x1 ![0] bcast_S4096_S4096x1_0 (Host.reduceAdd (mulf (addf x0 (mulf (broadcastInDim S4096x1024 ![0, 1] bcast_S1x1024_S4096x1024_0_1 x3) x1)) (addf x0 (mulf (broadcastInDim S4096x1024 ![0, 1] bcast_S1x1024_S4096x1024_0_1 x3) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 x4)) x2))) (broadcastInDim S4096x1024 ![0, 1] bcast_S1x1024_S4096x1024_0_1 x4))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (addf x0 (mulf (broadcastInDim S4096x1024 ![0, 1] bcast_S1x1024_S4096x1024_0_1 x3) x1)) (addf x0 (mulf (broadcastInDim S4096x1024 ![0, 1] bcast_S1x1024_S4096x1024_0_1 x3) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf (addf x0 (mulf (broadcastInDim S4096x1024 ![0, 1] bcast_S1x1024_S4096x1024_0_1 x3) x1)) (addf x0 (mulf (broadcastInDim S4096x1024 ![0, 1] bcast_S1x1024_S4096x1024_0_1 x3) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf (addf x0 (mulf (broadcastInDim S4096x1024 ![0, 1] bcast_S1x1024_S4096x1024_0_1 x3) x1)) (mulf (mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf (mulf (mulf (addf x0 (mulf (broadcastInDim S4096x1024 ![0, 1] bcast_S1x1024_S4096x1024_0_1 x3) x1)) (broadcastInDim S4096x1024 ![0, 1] bcast_S4096x1_S4096x1024_0_1 (Host.rsqrt (addf (Host.divf (broadcastInDim S4096x1 ![0] bcast_S4096_S4096x1_0 (Host.reduceAdd (mulf (addf x0 (mulf (broadcastInDim S4096x1024 ![0, 1] bcast_S1x1024_S4096x1024_0_1 x3) x1)) (addf x0 (mulf (broadcastInDim S4096x1024 ![0, 1] bcast_S1x1024_S4096x1024_0_1 x3) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 x4)) x2))) (broadcastInDim S4096x1024 ![0, 1] bcast_S1x1024_S4096x1024_0_1 x4))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (addf x0 (mulf (broadcastInDim S4096x1024 ![0, 1] bcast_S1x1024_S4096x1024_0_1 x3) x1)) (addf x0 (mulf (broadcastInDim S4096x1024 ![0, 1] bcast_S1x1024_S4096x1024_0_1 x3) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf (addf x0 (mulf (broadcastInDim S4096x1024 ![0, 1] bcast_S1x1024_S4096x1024_0_1 x3) x1)) (addf x0 (mulf (broadcastInDim S4096x1024 ![0, 1] bcast_S1x1024_S4096x1024_0_1 x3) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) (addf x0 (mulf (broadcastInDim S4096x1024 ![0, 1] bcast_S1x1024_S4096x1024_0_1 x3) x1)))

/-- The reference's result 1, of its arguments. -/
abbrev REF1 (x0 : FVec Ideal S4096x1024 .f32) (x1 : FVec Ideal S4096x1024 .f32) (x2 : FVec Ideal S4096x1024 .f32) (x3 : FVec Ideal S1x1024 .f32) (x4 : FVec Ideal S1x1024 .f32) : FVec Ideal S4096x1024 .bf16 :=
  truncf .bf16 (mulf (broadcastInDim S4096x1024 ![0, 1] bcast_S1x1024_S4096x1024_0_1 x3) (addf (addf (mulf (mulf (mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf (mulf (mulf (addf x0 (mulf (broadcastInDim S4096x1024 ![0, 1] bcast_S1x1024_S4096x1024_0_1 x3) x1)) (broadcastInDim S4096x1024 ![0, 1] bcast_S4096x1_S4096x1024_0_1 (Host.rsqrt (addf (Host.divf (broadcastInDim S4096x1 ![0] bcast_S4096_S4096x1_0 (Host.reduceAdd (mulf (addf x0 (mulf (broadcastInDim S4096x1024 ![0, 1] bcast_S1x1024_S4096x1024_0_1 x3) x1)) (addf x0 (mulf (broadcastInDim S4096x1024 ![0, 1] bcast_S1x1024_S4096x1024_0_1 x3) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 x4)) x2))) (broadcastInDim S4096x1024 ![0, 1] bcast_S1x1024_S4096x1024_0_1 x4)) (broadcastInDim S4096x1024 ![0, 1] bcast_S4096x1_S4096x1024_0_1 (Host.rsqrt (addf (Host.divf (broadcastInDim S4096x1 ![0] bcast_S4096_S4096x1_0 (Host.reduceAdd (mulf (addf x0 (mulf (broadcastInDim S4096x1024 ![0, 1] bcast_S1x1024_S4096x1024_0_1 x3) x1)) (addf x0 (mulf (broadcastInDim S4096x1024 ![0, 1] bcast_S1x1024_S4096x1024_0_1 x3) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf (addf x0 (mulf (broadcastInDim S4096x1024 ![0, 1] bcast_S1x1024_S4096x1024_0_1 x3) x1)) (broadcastInDim S4096x1024 ![0] bcast_S4096_S4096x1024_0 (Host.reduceAdd (Host.divf (mulf (shapeCast _ (Host.reduceAdd (mulf (addf x0 (mulf (broadcastInDim S4096x1024 ![0, 1] bcast_S1x1024_S4096x1024_0_1 x3) x1)) (mulf (mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf (mulf (mulf (addf x0 (mulf (broadcastInDim S4096x1024 ![0, 1] bcast_S1x1024_S4096x1024_0_1 x3) x1)) (broadcastInDim S4096x1024 ![0, 1] bcast_S4096x1_S4096x1024_0_1 (Host.rsqrt (addf (Host.divf (broadcastInDim S4096x1 ![0] bcast_S4096_S4096x1_0 (Host.reduceAdd (mulf (addf x0 (mulf (broadcastInDim S4096x1024 ![0, 1] bcast_S1x1024_S4096x1024_0_1 x3) x1)) (addf x0 (mulf (broadcastInDim S4096x1024 ![0, 1] bcast_S1x1024_S4096x1024_0_1 x3) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 x4)) x2))) (broadcastInDim S4096x1024 ![0, 1] bcast_S1x1024_S4096x1024_0_1 x4))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (addf x0 (mulf (broadcastInDim S4096x1024 ![0, 1] bcast_S1x1024_S4096x1024_0_1 x3) x1)) (addf x0 (mulf (broadcastInDim S4096x1024 ![0, 1] bcast_S1x1024_S4096x1024_0_1 x3) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf (addf x0 (mulf (broadcastInDim S4096x1024 ![0, 1] bcast_S1x1024_S4096x1024_0_1 x3) x1)) (addf x0 (mulf (broadcastInDim S4096x1024 ![0, 1] bcast_S1x1024_S4096x1024_0_1 x3) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf (addf x0 (mulf (broadcastInDim S4096x1024 ![0, 1] bcast_S1x1024_S4096x1024_0_1 x3) x1)) (mulf (mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf (mulf (mulf (addf x0 (mulf (broadcastInDim S4096x1024 ![0, 1] bcast_S1x1024_S4096x1024_0_1 x3) x1)) (broadcastInDim S4096x1024 ![0, 1] bcast_S4096x1_S4096x1024_0_1 (Host.rsqrt (addf (Host.divf (broadcastInDim S4096x1 ![0] bcast_S4096_S4096x1_0 (Host.reduceAdd (mulf (addf x0 (mulf (broadcastInDim S4096x1024 ![0, 1] bcast_S1x1024_S4096x1024_0_1 x3) x1)) (addf x0 (mulf (broadcastInDim S4096x1024 ![0, 1] bcast_S1x1024_S4096x1024_0_1 x3) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 x4)) x2))) (broadcastInDim S4096x1024 ![0, 1] bcast_S1x1024_S4096x1024_0_1 x4))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (addf x0 (mulf (broadcastInDim S4096x1024 ![0, 1] bcast_S1x1024_S4096x1024_0_1 x3) x1)) (addf x0 (mulf (broadcastInDim S4096x1024 ![0, 1] bcast_S1x1024_S4096x1024_0_1 x3) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf (addf x0 (mulf (broadcastInDim S4096x1024 ![0, 1] bcast_S1x1024_S4096x1024_0_1 x3) x1)) (addf x0 (mulf (broadcastInDim S4096x1024 ![0, 1] bcast_S1x1024_S4096x1024_0_1 x3) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) (addf x0 (mulf (broadcastInDim S4096x1024 ![0, 1] bcast_S1x1024_S4096x1024_0_1 x3) x1))))) bitsLt_bf16_f32

/-- The reference's result 2, of its arguments. -/
abbrev REF2 (x0 : FVec Ideal S4096x1024 .f32) (x1 : FVec Ideal S4096x1024 .f32) (x2 : FVec Ideal S4096x1024 .f32) (x3 : FVec Ideal S1x1024 .f32) (x4 : FVec Ideal S1x1024 .f32) : FVec Ideal S1x1024 .f32 :=
  shapeCast _ (Host.reduceAdd (mulf (addf (addf (mulf (mulf (mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf (mulf (mulf (addf x0 (mulf (broadcastInDim S4096x1024 ![0, 1] bcast_S1x1024_S4096x1024_0_1 x3) x1)) (broadcastInDim S4096x1024 ![0, 1] bcast_S4096x1_S4096x1024_0_1 (Host.rsqrt (addf (Host.divf (broadcastInDim S4096x1 ![0] bcast_S4096_S4096x1_0 (Host.reduceAdd (mulf (addf x0 (mulf (broadcastInDim S4096x1024 ![0, 1] bcast_S1x1024_S4096x1024_0_1 x3) x1)) (addf x0 (mulf (broadcastInDim S4096x1024 ![0, 1] bcast_S1x1024_S4096x1024_0_1 x3) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 x4)) x2))) (broadcastInDim S4096x1024 ![0, 1] bcast_S1x1024_S4096x1024_0_1 x4)) (broadcastInDim S4096x1024 ![0, 1] bcast_S4096x1_S4096x1024_0_1 (Host.rsqrt (addf (Host.divf (broadcastInDim S4096x1 ![0] bcast_S4096_S4096x1_0 (Host.reduceAdd (mulf (addf x0 (mulf (broadcastInDim S4096x1024 ![0, 1] bcast_S1x1024_S4096x1024_0_1 x3) x1)) (addf x0 (mulf (broadcastInDim S4096x1024 ![0, 1] bcast_S1x1024_S4096x1024_0_1 x3) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf (addf x0 (mulf (broadcastInDim S4096x1024 ![0, 1] bcast_S1x1024_S4096x1024_0_1 x3) x1)) (broadcastInDim S4096x1024 ![0] bcast_S4096_S4096x1024_0 (Host.reduceAdd (Host.divf (mulf (shapeCast _ (Host.reduceAdd (mulf (addf x0 (mulf (broadcastInDim S4096x1024 ![0, 1] bcast_S1x1024_S4096x1024_0_1 x3) x1)) (mulf (mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf (mulf (mulf (addf x0 (mulf (broadcastInDim S4096x1024 ![0, 1] bcast_S1x1024_S4096x1024_0_1 x3) x1)) (broadcastInDim S4096x1024 ![0, 1] bcast_S4096x1_S4096x1024_0_1 (Host.rsqrt (addf (Host.divf (broadcastInDim S4096x1 ![0] bcast_S4096_S4096x1_0 (Host.reduceAdd (mulf (addf x0 (mulf (broadcastInDim S4096x1024 ![0, 1] bcast_S1x1024_S4096x1024_0_1 x3) x1)) (addf x0 (mulf (broadcastInDim S4096x1024 ![0, 1] bcast_S1x1024_S4096x1024_0_1 x3) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 x4)) x2))) (broadcastInDim S4096x1024 ![0, 1] bcast_S1x1024_S4096x1024_0_1 x4))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (addf x0 (mulf (broadcastInDim S4096x1024 ![0, 1] bcast_S1x1024_S4096x1024_0_1 x3) x1)) (addf x0 (mulf (broadcastInDim S4096x1024 ![0, 1] bcast_S1x1024_S4096x1024_0_1 x3) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf (addf x0 (mulf (broadcastInDim S4096x1024 ![0, 1] bcast_S1x1024_S4096x1024_0_1 x3) x1)) (addf x0 (mulf (broadcastInDim S4096x1024 ![0, 1] bcast_S1x1024_S4096x1024_0_1 x3) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf (addf x0 (mulf (broadcastInDim S4096x1024 ![0, 1] bcast_S1x1024_S4096x1024_0_1 x3) x1)) (mulf (mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf (mulf (mulf (addf x0 (mulf (broadcastInDim S4096x1024 ![0, 1] bcast_S1x1024_S4096x1024_0_1 x3) x1)) (broadcastInDim S4096x1024 ![0, 1] bcast_S4096x1_S4096x1024_0_1 (Host.rsqrt (addf (Host.divf (broadcastInDim S4096x1 ![0] bcast_S4096_S4096x1_0 (Host.reduceAdd (mulf (addf x0 (mulf (broadcastInDim S4096x1024 ![0, 1] bcast_S1x1024_S4096x1024_0_1 x3) x1)) (addf x0 (mulf (broadcastInDim S4096x1024 ![0, 1] bcast_S1x1024_S4096x1024_0_1 x3) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 x4)) x2))) (broadcastInDim S4096x1024 ![0, 1] bcast_S1x1024_S4096x1024_0_1 x4))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (addf x0 (mulf (broadcastInDim S4096x1024 ![0, 1] bcast_S1x1024_S4096x1024_0_1 x3) x1)) (addf x0 (mulf (broadcastInDim S4096x1024 ![0, 1] bcast_S1x1024_S4096x1024_0_1 x3) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf (addf x0 (mulf (broadcastInDim S4096x1024 ![0, 1] bcast_S1x1024_S4096x1024_0_1 x3) x1)) (addf x0 (mulf (broadcastInDim S4096x1024 ![0, 1] bcast_S1x1024_S4096x1024_0_1 x3) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) (addf x0 (mulf (broadcastInDim S4096x1024 ![0, 1] bcast_S1x1024_S4096x1024_0_1 x3) x1)))) x1) (constant S_ .f32 0x00000000#32) reducesTo_S4096x1024_S1024_d0 h_S_) shapeCasts_S1024_S1x1024

/-- The reference's result 3, of its arguments. -/
abbrev REF3 (x0 : FVec Ideal S4096x1024 .f32) (x1 : FVec Ideal S4096x1024 .f32) (x2 : FVec Ideal S4096x1024 .f32) (x3 : FVec Ideal S1x1024 .f32) (x4 : FVec Ideal S1x1024 .f32) : FVec Ideal S1x1024 .f32 :=
  shapeCast _ (Host.reduceAdd (mulf (mulf (addf x0 (mulf (broadcastInDim S4096x1024 ![0, 1] bcast_S1x1024_S4096x1024_0_1 x3) x1)) (broadcastInDim S4096x1024 ![0, 1] bcast_S4096x1_S4096x1024_0_1 (Host.rsqrt (addf (Host.divf (broadcastInDim S4096x1 ![0] bcast_S4096_S4096x1_0 (Host.reduceAdd (mulf (addf x0 (mulf (broadcastInDim S4096x1024 ![0, 1] bcast_S1x1024_S4096x1024_0_1 x3) x1)) (addf x0 (mulf (broadcastInDim S4096x1024 ![0, 1] bcast_S1x1024_S4096x1024_0_1 x3) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf (mulf (mulf (addf x0 (mulf (broadcastInDim S4096x1024 ![0, 1] bcast_S1x1024_S4096x1024_0_1 x3) x1)) (broadcastInDim S4096x1024 ![0, 1] bcast_S4096x1_S4096x1024_0_1 (Host.rsqrt (addf (Host.divf (broadcastInDim S4096x1 ![0] bcast_S4096_S4096x1_0 (Host.reduceAdd (mulf (addf x0 (mulf (broadcastInDim S4096x1024 ![0, 1] bcast_S1x1024_S4096x1024_0_1 x3) x1)) (addf x0 (mulf (broadcastInDim S4096x1024 ![0, 1] bcast_S1x1024_S4096x1024_0_1 x3) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 x4)) x2)))) (constant S_ .f32 0x00000000#32) reducesTo_S4096x1024_S1024_d0 h_S_) shapeCasts_S1024_S1x1024

/-- The reference's result 4, of its arguments. -/
abbrev REF4 (x0 : FVec Ideal S4096x1024 .f32) (x1 : FVec Ideal S4096x1024 .f32) (x2 : FVec Ideal S4096x1024 .f32) (x3 : FVec Ideal S1x1024 .f32) (x4 : FVec Ideal S1x1024 .f32) : FVec Ideal S1x128 .f32 :=
  broadcastInDim S1x128 ![] bcast_S_S1x128 (mulf (constant S_ .f32 0x3F000000#32) (Host.reduceAdd (Host.divf (Host.reduceAdd (mulf (subf (mulf (mulf (addf x0 (mulf (broadcastInDim S4096x1024 ![0, 1] bcast_S1x1024_S4096x1024_0_1 x3) x1)) (broadcastInDim S4096x1024 ![0, 1] bcast_S4096x1_S4096x1024_0_1 (Host.rsqrt (addf (Host.divf (broadcastInDim S4096x1 ![0] bcast_S4096_S4096x1_0 (Host.reduceAdd (mulf (addf x0 (mulf (broadcastInDim S4096x1024 ![0, 1] bcast_S1x1024_S4096x1024_0_1 x3) x1)) (addf x0 (mulf (broadcastInDim S4096x1024 ![0, 1] bcast_S1x1024_S4096x1024_0_1 x3) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 x4)) x2) (subf (mulf (mulf (addf x0 (mulf (broadcastInDim S4096x1024 ![0, 1] bcast_S1x1024_S4096x1024_0_1 x3) x1)) (broadcastInDim S4096x1024 ![0, 1] bcast_S4096x1_S4096x1024_0_1 (Host.rsqrt (addf (Host.divf (broadcastInDim S4096x1 ![0] bcast_S4096_S4096x1_0 (Host.reduceAdd (mulf (addf x0 (mulf (broadcastInDim S4096x1024 ![0, 1] bcast_S1x1024_S4096x1024_0_1 x3) x1)) (addf x0 (mulf (broadcastInDim S4096x1024 ![0, 1] bcast_S1x1024_S4096x1024_0_1 x3) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 x4)) x2)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_))

end Cert.Reference25Ideal.Stage

namespace Cert.Kernel25Ideal.Stage

open Idealize.ShloMosaic Idealize.ShloMosaic.TcCoe Idealize.SL.Sem Idealize.ShloMosaic.Tactic
open Cert.Kernel25Ideal Cert.Kernel25Ideal.Gen Cert.Reference25Ideal.Stage

variable (m : (ℓ : Loc nD τ sig) → Buf (Elt Ideal) ℓ)

/-- The block that point `t` takes of every array. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![t.val, 0] ∧ win0_6.index t = ![t.val, 0] ∧ win0_7.index t = ![0, 0] ∧ win0_8.index t = ![0, 0] ∧ win0_9.index t = ![0, 0] :=
  (by decide +kernel : ∀ t : Fin grid0.N, win0_0.index t = ![t.val, 0] ∧ win0_1.index t = ![t.val, 0] ∧ win0_2.index t = ![t.val, 0] ∧ win0_3.index t = ![0, 0] ∧ win0_4.index t = ![0, 0] ∧ win0_5.index t = ![t.val, 0] ∧ win0_6.index t = ![t.val, 0] ∧ win0_7.index t = ![0, 0] ∧ win0_8.index t = ![0, 0] ∧ win0_9.index t = ![0, 0])

theorem zero_at1 (j) : k0_pay1 (F := Ideal) j = 0 := by
  pointwise [k0_pay1]

theorem zero_at2 (j) : k0_pay2 (F := Ideal) j = 0 := by
  pointwise [k0_pay2]

theorem zero_at3 (j) : k0_pay3 (F := Ideal) j = 0 := by
  pointwise [k0_pay3]

theorem part_at4 (v acc : FVec Ideal S1x1024 .f32) (j) : k0_pay4 v acc j = acc j + v j := by
  pointwise [k0_pay4]

theorem part_at5 (v acc : FVec Ideal S1x1024 .f32) (j) : k0_pay5 v acc j = acc j + v j := by
  pointwise [k0_pay5]

theorem part_at6 (v : FVec Ideal S1x1 .f32) (acc : FVec Ideal S1x128 .f32) (j) : k0_pay6 v acc j = acc j + v (ix2 0 0) := by
  pointwise [k0_pay6]

/-- A half times a sum is the sum of the halves, infinite terms included. -/
theorem half_sum {n : ℕ} (f : Fin n → EReal) :
    ∑ i, Ideal.ofBits .f32 0x3F000000#32 * f i = Ideal.ofBits .f32 0x3F000000#32 * ∑ i, f i := by
  have hh : Ideal.ofBits .f32 0x3F000000#32 = ((1 / 2 : ℝ) : EReal) := by
    simp [Ideal.ofBits, Ideal.ieee, -EReal.coe_mul]
    norm_num
  rw [hh]
  induction n with
  | zero => simp
  | succ n ih =>
    rw [Fin.sum_univ_succ, Fin.sum_univ_succ, ih,
      EReal.left_distrib_of_nonneg_of_ne_top (EReal.coe_nonneg.mpr (by norm_num)) (EReal.coe_ne_top _)]

theorem final0 (c : Dev nD) : (dats m 0 c).arrAt 5 cfg0.N = REF0 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  by_cases h : t.val % 8 = 0
  · rw [outsAt0_A m c t h]
    frame_out
    pointwise [k0_pay7, k0_pay8, k0_pay9, k0_pay10, k0_pay11, k0_pay12, k0_pay13, k0_pay14, k0_pay15, k0_pay16, k0_pay17, k0_pay18, k0_pay19, k0_pay20, REF0]
    simp only [Fin.sum_univ_one]
    blk_point [iblk, V, idx t]
  · rw [outsAt0_B m c t h]
    frame_out
    pointwise [k0_pay7, k0_pay8, k0_pay9, k0_pay10, k0_pay11, k0_pay12, k0_pay13, k0_pay14, k0_pay15, k0_pay16, k0_pay17, k0_pay18, k0_pay19, k0_pay20, REF0]
    simp only [Fin.sum_univ_one]
    blk_point [iblk, V, idx t]

theorem final1 (c : Dev nD) : (dats m 0 c).arrAt 6 cfg0.N = REF1 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  by_cases h : t.val % 8 = 0
  · rw [outsAt0_A m c t h]
    frame_out
    pointwise [k0_pay7, k0_pay8, k0_pay9, k0_pay10, k0_pay11, k0_pay12, k0_pay13, k0_pay14, k0_pay15, k0_pay16, k0_pay17, k0_pay18, k0_pay19, k0_pay20, REF1]
    simp only [Fin.sum_univ_one]
    blk_point [iblk, V, idx t]
  · rw [outsAt0_B m c t h]
    frame_out
    pointwise [k0_pay7, k0_pay8, k0_pay9, k0_pay10, k0_pay11, k0_pay12, k0_pay13, k0_pay14, k0_pay15, k0_pay16, k0_pay17, k0_pay18, k0_pay19, k0_pay20, REF1]
    simp only [Fin.sum_univ_one]
    blk_point [iblk, V, idx t]

theorem final2 (c : Dev nD) : (dats m 0 c).arrAt 7 cfg0.N = REF2 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  rw [Pipeline.eq_sum_fin_of_reset_step_apply_of_flush (fun n h => (outsAt0 m c n h).2.2.1) 8 (fun _ => 0) _
    (fun t h j => by rw [outsAt0_A m c t h]; frame_out; simp only [part_at4, part_at5, part_at6, zero_at1, zero_at2, zero_at3] <;> rfl)
    (fun t h j => by rw [outsAt0_B m c t h]; frame_out; simp only [part_at4, part_at5, part_at6] <;> rfl)
    t ((flush0_7 t).mp hf) _, zero_add]
  pointwise [k0_pay7, k0_pay8, k0_pay9, k0_pay10, k0_pay11, k0_pay12, k0_pay13, k0_pay14, k0_pay15, k0_pay16, k0_pay17, k0_pay18, k0_pay19, k0_pay20, REF2]
  simp only [Fin.sum_univ_one]
  refine Fin.sum_mul_add_congr fun s k hl => ?_
  blk_point [iblk, V, idx t, idx ⟨8 * (t.val / 8) + s.val, Pipeline.run_point_lt_of_flush t ((flush0_7 t).mp hf) _⟩]

theorem final3 (c : Dev nD) : (dats m 0 c).arrAt 8 cfg0.N = REF3 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  rw [Pipeline.eq_sum_fin_of_reset_step_apply_of_flush (fun n h => (outsAt0 m c n h).2.2.2.1) 8 (fun _ => 0) _
    (fun t h j => by rw [outsAt0_A m c t h]; frame_out; simp only [part_at4, part_at5, part_at6, zero_at1, zero_at2, zero_at3] <;> rfl)
    (fun t h j => by rw [outsAt0_B m c t h]; frame_out; simp only [part_at4, part_at5, part_at6] <;> rfl)
    t ((flush0_8 t).mp hf) _, zero_add]
  pointwise [k0_pay7, k0_pay8, k0_pay9, k0_pay10, k0_pay11, k0_pay12, k0_pay13, k0_pay14, k0_pay15, k0_pay16, k0_pay17, k0_pay18, k0_pay19, k0_pay20, REF3]
  simp only [Fin.sum_univ_one]
  refine Fin.sum_mul_add_congr fun s k hl => ?_
  blk_point [iblk, V, idx t, idx ⟨8 * (t.val / 8) + s.val, Pipeline.run_point_lt_of_flush t ((flush0_8 t).mp hf) _⟩]

theorem final4 (c : Dev nD) : (dats m 0 c).arrAt 9 cfg0.N = REF4 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after0_9]
  rw [Pipeline.eq_sum_fin_of_reset_step_apply_of_flush (fun n h => (outsAt0 m c n h).2.2.2.2) 8 (fun _ => 0) _
    (fun t h j => by rw [outsAt0_A m c t h]; frame_out; simp only [part_at4, part_at5, part_at6, zero_at1, zero_at2, zero_at3] <;> rfl)
    (fun t h j => by rw [outsAt0_B m c t h]; frame_out; simp only [part_at4, part_at5, part_at6] <;> rfl)
    t ((flush0_9 t).mp hf) _, zero_add]
  pointwise [k0_pay7, k0_pay8, k0_pay9, k0_pay10, k0_pay11, k0_pay12, k0_pay13, k0_pay14, k0_pay15, k0_pay16, k0_pay17, k0_pay18, k0_pay19, k0_pay20, REF4]
  refine (half_sum _).trans (congrArg _ ?_)
  refine Fin.sum_mul_add_congr fun s k hl => ?_
  blk_point [iblk, V, idx t, idx ⟨8 * (t.val / 8) + s.val, Pipeline.run_point_lt_of_flush t ((flush0_9 t).mp hf) _⟩]

/-- Kernel and reference leave the same arrays. -/
theorem values : Cert.algebraic_Kernel25Ideal_Reference25Ideal (hKernel25Ideal := Cert.Kernel25Ideal.Gen.facts) (hReference25Ideal := Cert.Reference25Ideal.Gen.facts) := by
  intro m g m' g' _ hm
  refine ⟨fun c => REF0 (m ((c : Thread nD τ).loc main_arg0)) (m ((c : Thread nD τ).loc main_arg1)) (m ((c : Thread nD τ).loc main_arg2)) (m ((c : Thread nD τ).loc main_arg3)) (m ((c : Thread nD τ).loc main_arg4)), fun c => REF1 (m ((c : Thread nD τ).loc main_arg0)) (m ((c : Thread nD τ).loc main_arg1)) (m ((c : Thread nD τ).loc main_arg2)) (m ((c : Thread nD τ).loc main_arg3)) (m ((c : Thread nD τ).loc main_arg4)), fun c => REF2 (m ((c : Thread nD τ).loc main_arg0)) (m ((c : Thread nD τ).loc main_arg1)) (m ((c : Thread nD τ).loc main_arg2)) (m ((c : Thread nD τ).loc main_arg3)) (m ((c : Thread nD τ).loc main_arg4)), fun c => REF3 (m ((c : Thread nD τ).loc main_arg0)) (m ((c : Thread nD τ).loc main_arg1)) (m ((c : Thread nD τ).loc main_arg2)) (m ((c : Thread nD τ).loc main_arg3)) (m ((c : Thread nD τ).loc main_arg4)), fun c => REF4 (m ((c : Thread nD τ).loc main_arg0)) (m ((c : Thread nD τ).loc main_arg1)) (m ((c : Thread nD τ).loc main_arg2)) (m ((c : Thread nD τ).loc main_arg3)) (m ((c : Thread nD τ).loc main_arg4)), ?_, ?_⟩
  · refine (θ_run _ _ _).mono (fun r h c => ?_) (Cert.Kernel25Ideal.Value.run_blocks m g)
    obtain ⟨h0, h1, h2, h3, h4, hargs⟩ := h c
    exact ⟨h0.trans (final0 m c), h1.trans (final1 m c), h2.trans (final2 m c), h3.trans (final3 m c), h4.trans (final4 m c), hargs⟩
  · refine (θ_run _ _ _).mono (fun r h c => ?_) (Cert.Reference25Ideal.Value.run m' g')
    obtain ⟨h0, h1, h2, h3, h4, hargs⟩ := h c
    obtain ⟨e0, e1, e2, e3, e4⟩ := hm c
    refine ⟨h0.trans ?_, h1.trans ?_, h2.trans ?_, h3.trans ?_, h4.trans ?_, hargs⟩
    · unfold Cert.Reference25Ideal.Value.res_main_v51
      rw [e0, e1, e2, e3, e4]
      try rfl
    · unfold Cert.Reference25Ideal.Value.res_main_v57
      rw [e0, e1, e2, e3, e4]
      try rfl
    · unfold Cert.Reference25Ideal.Value.res_main_v56
      rw [e0, e1, e2, e3, e4]
      try rfl
    · rw [e0, e1, e2, e3, e4]
      try rfl
    · rw [e0, e1, e2, e3, e4]
      try rfl

theorem frame_reference : Cert.quiescent_Reference25Ideal (hReference25Ideal := Cert.Reference25Ideal.Gen.facts) := fun m ρ _ =>
  (θ_run _ _ _).mono (fun r h => ⟨fun c => (h c).2.2.2.2.2, Cert.Common.no_counters (fun s => s.elim0) (fun s => s.elim0) _⟩) (Cert.Reference25Ideal.Value.run m ρ)

end Cert.Kernel25Ideal.Stage

end
-- ==== Proof.Stage26.lean ====
module

public import proofs.«01_k».proof.Defs
public import proofs.«01_k».proof.Proof.Gen.Kernel26Ideal
public import proofs.«01_k».proof.Proof.Gen.Kernel26Ideal.Value
public import proofs.«01_k».proof.Proof.Gen.Reference26Ideal.Run
public import proofs.«01_k».proof.Proof.Common
public import Idealize.ShloMosaic.Lib.Pipeline.ReadBack
public import Idealize.ShloMosaic.Lib.KernelVsHost
public import Idealize.ShloMosaic.Lib.Pipeline.ValueKit

@[expose] public section

/-! The sums of the small gradients over the devices, from the arrays gathered of all of them. -/

set_option maxRecDepth 16384

noncomputable section

namespace Cert.Reference26Ideal.Stage

open Idealize.ShloMosaic Idealize.ShloMosaic.TcCoe
open Cert.Reference26Ideal Cert.Reference26Ideal.Gen

/-- The reference's result 0, of its arguments. -/
abbrev REF0 (x0 : FVec Ideal S8x176x1024 .f32) (x1 : FVec Ideal S8x8x1024 .f32) : FVec Ideal S176x1024 .f32 :=
  (concatenate S176x1024 0 [⟨S2x1024, ((extractStridedSlice S2x1024 ![0, 0] (Host.reduceAdd x1 (constant S_ .f32 0x00000000#32) reducesTo_S8x8x1024_S8x1024_d0 h_S_) slices_S8x1024_S2x1024_0_0) : FVec Ideal S2x1024 .f32)⟩, ⟨S4x1024, ((extractStridedSlice S4x1024 ![2, 0] (Host.reduceAdd x0 (constant S_ .f32 0x00000000#32) reducesTo_S8x176x1024_S176x1024_d0 h_S_) slices_S176x1024_S4x1024_2_0) : FVec Ideal S4x1024 .f32)⟩, ⟨S1x1024, ((extractStridedSlice S1x1024 ![2, 0] (Host.reduceAdd x1 (constant S_ .f32 0x00000000#32) reducesTo_S8x8x1024_S8x1024_d0 h_S_) slices_S8x1024_S1x1024_2_0) : FVec Ideal S1x1024 .f32)⟩, ⟨S169x1024, ((extractStridedSlice S169x1024 ![7, 0] (Host.reduceAdd x0 (constant S_ .f32 0x00000000#32) reducesTo_S8x176x1024_S176x1024_d0 h_S_) slices_S176x1024_S169x1024_7_0) : FVec Ideal S169x1024 .f32)⟩] concatenates_S2x1024_S4x1024_S1x1024_S169x1024_S176x1024_d0 : FVec Ideal S176x1024 .f32)

/-- The reference's result 1, of its arguments. -/
abbrev REF1 (x0 : FVec Ideal S8x176x1024 .f32) : FVec Ideal S8x128 .f32 :=
  pad S8x128 ![0, 0] ![7, 64] ![0, 0] (shapeCast _ (Host.reduceAdd (shapeCast _ (shapeCast _ (extractStridedSlice S1x512 ![173, 0] (Host.reduceAdd x0 (constant S_ .f32 0x00000000#32) reducesTo_S8x176x1024_S176x1024_d0 h_S_) slices_S176x1024_S1x512_173_0) shapeCasts_S1x512_S512) shapeCasts_S512_S8x64) (constant S_ .f32 0x00000000#32) reducesTo_S8x64_S64_d0 h_S_) shapeCasts_S64_S1x64) (sitofp .f32 (constantI S_ 32 0#32)) pads_S1x64_S8x128_070_0640 h_S_

end Cert.Reference26Ideal.Stage

namespace Cert.Kernel26Ideal.Stage

open Idealize.ShloMosaic Idealize.ShloMosaic.TcCoe Idealize.SL.Sem Idealize.ShloMosaic.Tactic
open Cert.Kernel26Ideal Cert.Kernel26Ideal.Gen Cert.Reference26Ideal.Stage

variable (m : (ℓ : Loc nD τ sig) → Buf (Elt Ideal) ℓ)

/-- The block of every array is the whole of it. -/
theorem idx : ∀ t : Fin cfg0.N, win0_0.index t = ![0, 0, 0] ∧ win0_1.index t = ![0, 0, 0] ∧ win0_2.index t = ![0, 0] ∧ win0_3.index t = ![0, 0] :=
  (by decide +kernel : ∀ t : Fin grid0.N, win0_0.index t = ![0, 0, 0] ∧ win0_1.index t = ![0, 0, 0] ∧ win0_2.index t = ![0, 0] ∧ win0_3.index t = ![0, 0])

/-- A stored row, read back: the row where it lies, what was stored before elsewhere. -/
theorem canon_row (r : Nat) (inb : ∀ a, (![r, 0] : Fin 2 → Nat) a + (![1, 1024] : Fin 2 → Nat) a ≤ S176x1024.size a)
    (w : FVec Ideal S1x1024 .f32) (L : List (View.Piece (Elt Ideal) S176x1024 .f32)) (y : S176x1024.Idx) :
    View.canon ((⟨Rect.unit ![r, 0] ![1, 1024] inb, w⟩ : View.Piece (Elt Ideal) S176x1024 .f32) :: L) y
      = if (y 0).val = r then w (ix2 0 (y 1)) else View.canon L y := by
  split
  case isTrue h =>
    have e : y = (Rect.unit (s := S176x1024) ![r, 0] ![1, 1024] inb).emb (ix2 0 (y 1) : S1x1024.Idx) := by
      funext a
      apply Fin.ext
      rw [Rect.emb_apply]
      fin_cases a
      · simp [h]
      · simp
    conv_lhs => rw [e]
    rw [View.canon_cons_emb]
  case isFalse h =>
    rw [View.canon_cons_of_not_mem]
    intro hm
    obtain ⟨x, hx⟩ := (Rect.unit _ _ inb).exists_idx_of_mem hm
    apply h
    have e := congrArg (fun z : S176x1024.Idx => (z 0).val) hx
    have := (x 0).isLt
    simp at e this
    omega

/-- A stored corner of a row, read back: the corner where it lies, what was stored before elsewhere. -/
theorem canon_corner (inb : ∀ a, (![0, 0] : Fin 2 → Nat) a + (![1, 64] : Fin 2 → Nat) a ≤ S8x128.size a)
    (w : FVec Ideal S1x64 .f32) (L : List (View.Piece (Elt Ideal) S8x128 .f32)) (y : S8x128.Idx) :
    View.canon ((⟨Rect.unit ![0, 0] ![1, 64] inb, w⟩ : View.Piece (Elt Ideal) S8x128 .f32) :: L) y
      = if h : (y 0).val = 0 ∧ (y 1).val < 64 then w (ix2 0 ⟨(y 1).val, h.2⟩) else View.canon L y := by
  split
  case isTrue h =>
    have e : y = (Rect.unit (s := S8x128) ![0, 0] ![1, 64] inb).emb (ix2 0 ⟨(y 1).val, h.2⟩ : S1x64.Idx) := by
      funext a
      apply Fin.ext
      rw [Rect.emb_apply]
      fin_cases a
      · simp [h.1]
      · simp
    conv_lhs => rw [e]
    rw [View.canon_cons_emb]
  case isFalse h =>
    rw [View.canon_cons_of_not_mem]
    intro hm
    obtain ⟨x, hx⟩ := (Rect.unit _ _ inb).exists_idx_of_mem hm
    apply h
    have e0 := congrArg (fun z : S8x128.Idx => (z 0).val) hx
    have e1 := congrArg (fun z : S8x128.Idx => (z 1).val) hx
    have h0 := (x 0).isLt
    have h1 := (x 1).isLt
    simp at e0 e1 h0 h1
    omega

theorem final0 (c : Dev nD) : (dats m 0 c).arrAt 2 cfg0.N = REF0 (m ((c : Thread nD τ).loc main_arg0)) (m ((c : Thread nD τ).loc main_arg1)) := by
  refine (dats m 0 c).arrAt_eq_of_covers 2 _ (by decide +kernel) fun t hf y => ?_
  blk_simp
  rw [after0_2]
  dsimp only [outsAt0]
  frame_out
  simp only [read_unread_whole]
  rw [canon_row, canon_row, canon_row, View.canon_cons_unit_lit _ _ _ (by intro a; fin_cases a <;> rfl)]
  pointwise [k0_pay1, k0_pay2, k0_pay3, k0_pay4, k0_pay5, k0_pay6, k0_pay7, k0_pay8, k0_pay9, k0_pay10, k0_pay11, k0_pay12, REF0]
  simp only [Fin.sum_univ_eight]
  have e0 : (((View.whole main_v0_0).slice (win0_2.rect t)).emb y 0).val = (y 0).val := by
    blk_point [idx t]
  split_ifs <;> first | (exfalso; omega) | blk_point [iblk, V, idx t]

set_option maxHeartbeats 2000000 in
theorem final1 (c : Dev nD) : (dats m 0 c).arrAt 3 cfg0.N = REF1 (m ((c : Thread nD τ).loc main_arg0)) := by
  refine (dats m 0 c).arrAt_eq_of_covers 3 _ (by decide +kernel) fun t hf y => ?_
  blk_simp
  rw [after0_3]
  dsimp only [outsAt0]
  frame_out
  simp only [read_unread_whole]
  rw [canon_corner, View.canon_cons_unit_lit _ _ _ (by intro a; fin_cases a <;> rfl)]
  pointwise [k0_pay1, k0_pay2, k0_pay3, k0_pay4, k0_pay5, k0_pay6, k0_pay7, k0_pay8, k0_pay9, k0_pay10, k0_pay11, k0_pay12, REF1]
  simp only [Fin.sum_univ_eight]
  have e0 : (((View.whole main_v0_1).slice (win0_3.rect t)).emb y 0).val = (y 0).val := by
    blk_point [idx t]
  have e1 : (((View.whole main_v0_1).slice (win0_3.rect t)).emb y 1).val = (y 1).val := by
    blk_point [idx t]
  split_ifs
  · blk_point [iblk, V, idx t]
  · exfalso
    omega
  · exfalso
    omega
  · exact (sitofp_zero (φ := .f32)).symm

/-- Kernel and reference leave the same arrays. -/
theorem values : Cert.algebraic_Kernel26Ideal_Reference26Ideal (hKernel26Ideal := Cert.Kernel26Ideal.Gen.facts) (hReference26Ideal := Cert.Reference26Ideal.Gen.facts) := by
  intro m g m' g' _ hm
  refine ⟨fun c => REF0 (m ((c : Thread nD τ).loc main_arg0)) (m ((c : Thread nD τ).loc main_arg1)), fun c => REF1 (m ((c : Thread nD τ).loc main_arg0)), ?_, ?_⟩
  · refine (θ_run _ _ _).mono (fun r h c => ?_) (Cert.Kernel26Ideal.Value.run_blocks m g)
    obtain ⟨h0, h1, hargs⟩ := h c
    exact ⟨h0.trans (final0 m c), h1.trans (final1 m c), hargs⟩
  · refine (θ_run _ _ _).mono (fun r h c => ?_) (Cert.Reference26Ideal.Value.run m' g')
    obtain ⟨h0, h1, hargs⟩ := h c
    obtain ⟨e0, e1⟩ := hm c
    refine ⟨h0.trans ?_, h1.trans ?_, hargs⟩
    · rw [e0, e1]
      try rfl
    · rw [e0]
      try rfl

theorem frame_reference : Cert.quiescent_Reference26Ideal (hReference26Ideal := Cert.Reference26Ideal.Gen.facts) := fun m ρ _ =>
  (θ_run _ _ _).mono (fun r h => ⟨fun c => (h c).2.2, Cert.Common.no_counters (fun s => s.elim0) (fun s => s.elim0) _⟩) (Cert.Reference26Ideal.Value.run m ρ)

end Cert.Kernel26Ideal.Stage

end
-- ==== Proof.Stage27.lean ====
module

public import proofs.«01_k».proof.Defs
public import proofs.«01_k».proof.Proof.Gen.Kernel27Ideal
public import proofs.«01_k».proof.Proof.Gen.Kernel27Ideal.Value
public import proofs.«01_k».proof.Proof.Gen.Reference27Ideal.Run
public import proofs.«01_k».proof.Proof.Common
public import Idealize.ShloMosaic.Lib.Pipeline.ReadBack
public import Idealize.ShloMosaic.Lib.Pipeline.ValueKit

@[expose] public section

/-! The first norm, a block of rows at a point. -/

set_option maxRecDepth 16384

noncomputable section

namespace Cert.Reference27Ideal.Stage

open Idealize.ShloMosaic Idealize.ShloMosaic.TcCoe
open Cert.Reference27Ideal Cert.Reference27Ideal.Gen

/-- The reference's result 0, of its arguments. -/
abbrev REF0 (x0 : FVec Ideal S4096x1024 .f32) (x1 : FVec Ideal S1x1024 .f32) (x2 : FVec Ideal S1x1024 .f32) (x3 : FVec Ideal S1x1024 .f32) : FVec Ideal S4096x1024 .bf16 :=
  truncf .bf16 (addf (mulf (mulf (mulf x0 (broadcastInDim S4096x1024 ![0, 1] bcast_S4096x1_S4096x1024_0_1 (Host.rsqrt (addf (Host.divf (broadcastInDim S4096x1 ![0] bcast_S4096_S4096x1_0 (Host.reduceAdd (mulf x0 x0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 x1)) (broadcastInDim S4096x1024 ![0, 1] bcast_S1x1024_S4096x1024_0_1 (addf (broadcastInDim S1x1024 ![] bcast_S_S1x1024 (constant S_ .f32 0x3F800000#32)) x3))) (broadcastInDim S4096x1024 ![0, 1] bcast_S1x1024_S4096x1024_0_1 x2)) bitsLt_bf16_f32

end Cert.Reference27Ideal.Stage

namespace Cert.Kernel27Ideal.Stage

open Idealize.ShloMosaic Idealize.ShloMosaic.TcCoe Idealize.SL.Sem Idealize.ShloMosaic.Tactic
open Cert.Kernel27Ideal Cert.Kernel27Ideal.Gen Cert.Reference27Ideal.Stage

variable (m : (ℓ : Loc nD τ sig) → Buf (Elt Ideal) ℓ)

/-- The block that point `t` takes of every array. -/
theorem idx : ∀ t : Fin cfg0.N, win0_0.index t = ![t.val, 0] ∧ win0_1.index t = ![0, 0] ∧ win0_2.index t = ![0, 0] ∧ win0_3.index t = ![0, 0] ∧ win0_4.index t = ![t.val, 0] :=
  (by decide +kernel : ∀ t : Fin grid0.N, win0_0.index t = ![t.val, 0] ∧ win0_1.index t = ![0, 0] ∧ win0_2.index t = ![0, 0] ∧ win0_3.index t = ![0, 0] ∧ win0_4.index t = ![t.val, 0])

theorem final0 (c : Dev nD) : (dats m 0 c).arrAt 4 cfg0.N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, REF0]
  blk_point [iblk, V, idx t]

/-- Kernel and reference leave the same arrays. -/
theorem values : Cert.algebraic_Kernel27Ideal_Reference27Ideal (hKernel27Ideal := Cert.Kernel27Ideal.Gen.facts) (hReference27Ideal := Cert.Reference27Ideal.Gen.facts) := by
  intro m g m' g' _ hm
  refine ⟨fun c => REF0 (m ((c : Thread nD τ).loc main_arg0)) (m ((c : Thread nD τ).loc main_arg1)) (m ((c : Thread nD τ).loc main_arg2)) (m ((c : Thread nD τ).loc main_arg3)), ?_, ?_⟩
  · refine (θ_run _ _ _).mono (fun r h c => ?_) (Cert.Kernel27Ideal.Value.run_blocks m g)
    obtain ⟨h0, hargs⟩ := h c
    exact ⟨h0.trans (final0 m c), hargs⟩
  · refine (θ_run _ _ _).mono (fun r h c => ?_) (Cert.Reference27Ideal.Value.run m' g')
    obtain ⟨h0, hargs⟩ := h c
    obtain ⟨e0, e1, e2, e3⟩ := hm c
    exact ⟨h0.trans (by rw [e0, e1, e2, e3]), hargs⟩

theorem frame_reference : Cert.quiescent_Reference27Ideal (hReference27Ideal := Cert.Reference27Ideal.Gen.facts) := fun m ρ _ =>
  (θ_run _ _ _).mono (fun r h => ⟨fun c => (h c).2, Cert.Common.no_counters (fun s => s.elim0) (fun s => s.elim0) _⟩) (Cert.Reference27Ideal.Value.run m ρ)

end Cert.Kernel27Ideal.Stage

end
-- ==== Proof.Stage28.lean ====
module

public import proofs.«01_k».proof.Defs
public import proofs.«01_k».proof.Proof.Gen.Kernel28Ideal
public import proofs.«01_k».proof.Proof.Gen.Kernel28Ideal.Value
public import proofs.«01_k».proof.Proof.Gen.Reference28Ideal.Run
public import proofs.«01_k».proof.Proof.Common
public import Idealize.ShloMosaic.Lib.Pipeline.ReadBack
public import Idealize.ShloMosaic.Lib.Pipeline.ValueKit

@[expose] public section

/-! The residual and the second norm, a block of rows at a point. -/

set_option maxRecDepth 16384

noncomputable section

namespace Cert.Reference28Ideal.Stage

open Idealize.ShloMosaic Idealize.ShloMosaic.TcCoe
open Cert.Reference28Ideal Cert.Reference28Ideal.Gen

/-- The reference's result 0, of its arguments. -/
abbrev REF0 (x0 : FVec Ideal S4096x1024 .f32) (x1 : FVec Ideal S4096x1024 .f32) (x2 : FVec Ideal S1x1024 .f32) : FVec Ideal S4096x1024 .f32 :=
  addf x0 (mulf (broadcastInDim S4096x1024 ![0, 1] bcast_S1x1024_S4096x1024_0_1 x2) x1)

/-- The reference's result 1, of its arguments. -/
abbrev REF1 (x0 : FVec Ideal S4096x1024 .f32) (x1 : FVec Ideal S4096x1024 .f32) (x2 : FVec Ideal S1x1024 .f32) (x3 : FVec Ideal S1x1024 .f32) (x4 : FVec Ideal S1x1024 .f32) (x5 : FVec Ideal S1x1024 .f32) : FVec Ideal S4096x1024 .bf16 :=
  truncf .bf16 (addf (mulf (mulf (mulf (addf x0 (mulf (broadcastInDim S4096x1024 ![0, 1] bcast_S1x1024_S4096x1024_0_1 x2) x1)) (broadcastInDim S4096x1024 ![0, 1] bcast_S4096x1_S4096x1024_0_1 (Host.rsqrt (addf (Host.divf (broadcastInDim S4096x1 ![0] bcast_S4096_S4096x1_0 (Host.reduceAdd (mulf (addf x0 (mulf (broadcastInDim S4096x1024 ![0, 1] bcast_S1x1024_S4096x1024_0_1 x2) x1)) (addf x0 (mulf (broadcastInDim S4096x1024 ![0, 1] bcast_S1x1024_S4096x1024_0_1 x2) x1))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 x3)) (broadcastInDim S4096x1024 ![0, 1] bcast_S1x1024_S4096x1024_0_1 (addf (broadcastInDim S1x1024 ![] bcast_S_S1x1024 (constant S_ .f32 0x3F800000#32)) x5))) (broadcastInDim S4096x1024 ![0, 1] bcast_S1x1024_S4096x1024_0_1 x4)) bitsLt_bf16_f32

end Cert.Reference28Ideal.Stage

namespace Cert.Kernel28Ideal.Stage

open Idealize.ShloMosaic Idealize.ShloMosaic.TcCoe Idealize.SL.Sem Idealize.ShloMosaic.Tactic
open Cert.Kernel28Ideal Cert.Kernel28Ideal.Gen Cert.Reference28Ideal.Stage

variable (m : (ℓ : Loc nD τ sig) → Buf (Elt Ideal) ℓ)

/-- The block that point `t` takes of every array. -/
theorem idx : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![0, 0] ∧ win0_6.index t = ![t.val, 0] ∧ win0_7.index t = ![t.val, 0] :=
  (by decide +kernel : ∀ t : Fin grid0.N, win0_0.index t = ![t.val, 0] ∧ win0_1.index t = ![t.val, 0] ∧ win0_2.index t = ![0, 0] ∧ win0_3.index t = ![0, 0] ∧ win0_4.index t = ![0, 0] ∧ win0_5.index t = ![0, 0] ∧ win0_6.index t = ![t.val, 0] ∧ win0_7.index t = ![t.val, 0])

theorem final0 (c : Dev nD) : (dats m 0 c).arrAt 6 cfg0.N = REF0 (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  frame_out
  pointwise [k0_pay1, k0_pay2, REF0]
  blk_point [iblk, V, idx t]

theorem final1 (c : Dev nD) : (dats m 0 c).arrAt 7 cfg0.N = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  frame_out
  pointwise [k0_pay1, k0_pay2, REF1]
  blk_point [iblk, V, idx t]

/-- Kernel and reference leave the same arrays. -/
theorem values : Cert.algebraic_Kernel28Ideal_Reference28Ideal (hKernel28Ideal := Cert.Kernel28Ideal.Gen.facts) (hReference28Ideal := Cert.Reference28Ideal.Gen.facts) := by
  intro m g m' g' _ hm
  refine ⟨fun c => REF0 (m ((c : Thread nD τ).loc main_arg0)) (m ((c : Thread nD τ).loc main_arg1)) (m ((c : Thread nD τ).loc main_arg2)), fun c => REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)), ?_, ?_⟩
  · refine (θ_run _ _ _).mono (fun r h c => ?_) (Cert.Kernel28Ideal.Value.run_blocks m g)
    obtain ⟨h0, h1, hargs⟩ := h c
    exact ⟨h0.trans (final0 m c), h1.trans (final1 m c), hargs⟩
  · refine (θ_run _ _ _).mono (fun r h c => ?_) (Cert.Reference28Ideal.Value.run m' g')
    obtain ⟨h0, h1, hargs⟩ := h c
    obtain ⟨e0, e1, e2, e3, e4, e5⟩ := hm c
    exact ⟨h0.trans (by rw [e0, e1, e2]), h1.trans (by rw [e0, e1, e2, e3, e4, e5]), hargs⟩

theorem frame_reference : Cert.quiescent_Reference28Ideal (hReference28Ideal := Cert.Reference28Ideal.Gen.facts) := fun m ρ _ =>
  (θ_run _ _ _).mono (fun r h => ⟨fun c => (h c).2.2, Cert.Common.no_counters (fun s => s.elim0) (fun s => s.elim0) _⟩) (Cert.Reference28Ideal.Value.run m ρ)

end Cert.Kernel28Ideal.Stage

end
-- ==== Proof.Stage29.lean ====
module

public import proofs.«01_k».proof.Defs
public import proofs.«01_k».proof.Proof.Gen.Kernel29Ideal
public import proofs.«01_k».proof.Proof.Gen.Kernel29Ideal.Value
public import proofs.«01_k».proof.Proof.Gen.Reference29Ideal.Run
public import proofs.«01_k».proof.Proof.Common
public import Idealize.ShloMosaic.Lib.Pipeline.ReadBack
public import proofs.«01_k».proof.Proof.Halo
public import Idealize.ShloMosaic.Lib.Pipeline.ValueKit

@[expose] public section

/-! The convolved gated linear unit, a block of rows and the eight rows before it at a point. -/

set_option maxRecDepth 16384

noncomputable section

namespace Cert.Reference29Ideal.Stage

open Idealize.ShloMosaic Idealize.ShloMosaic.TcCoe
open Cert.Reference29Ideal Cert.Reference29Ideal.Gen

/-- The reference's result 0, of its arguments. -/
abbrev REF0 (x0 : FVec Ideal S4096x5632 .f32) (x1 : FVec Ideal S3x2816 .f32) : FVec Ideal S4096x2816 .bf16 :=
  truncf .bf16 (mulf (mulf (addf (addf (mulf (broadcastInDim S4096x2816 ![0, 1] bcast_S1x2816_S4096x2816_0_1 (extractStridedSlice S1x2816 ![2, 0] x1 slices_S3x2816_S1x2816_2_0)) (extractStridedSlice S4096x2816 ![0, 0] x0 slices_S4096x5632_S4096x2816_0_0)) (mulf (broadcastInDim S4096x2816 ![0, 1] bcast_S1x2816_S4096x2816_0_1 (extractStridedSlice S1x2816 ![1, 0] x1 slices_S3x2816_S1x2816_1_0)) (concatenate S4096x2816 0 [⟨S1x2816, (broadcastInDim S1x2816 ![] bcast_S_S1x2816 (constant S_ .f32 0x00000000#32))⟩, ⟨S4095x2816, (extractStridedSlice S4095x2816 ![0, 0] (extractStridedSlice S4096x2816 ![0, 0] x0 slices_S4096x5632_S4096x2816_0_0) slices_S4096x2816_S4095x2816_0_0)⟩] concatenates_S1x2816_S4095x2816_S4096x2816_d0))) (mulf (broadcastInDim S4096x2816 ![0, 1] bcast_S1x2816_S4096x2816_0_1 (extractStridedSlice S1x2816 ![0, 0] x1 slices_S3x2816_S1x2816_0_0)) (concatenate S4096x2816 0 [⟨S2x2816, (broadcastInDim S2x2816 ![] bcast_S_S2x2816 (constant S_ .f32 0x00000000#32))⟩, ⟨S4094x2816, (extractStridedSlice S4094x2816 ![0, 0] (extractStridedSlice S4096x2816 ![0, 0] x0 slices_S4096x5632_S4096x2816_0_0) slices_S4096x2816_S4094x2816_0_0)⟩] concatenates_S2x2816_S4094x2816_S4096x2816_d0))) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (addf (addf (mulf (broadcastInDim S4096x2816 ![0, 1] bcast_S1x2816_S4096x2816_0_1 (extractStridedSlice S1x2816 ![2, 0] x1 slices_S3x2816_S1x2816_2_0)) (extractStridedSlice S4096x2816 ![0, 0] x0 slices_S4096x5632_S4096x2816_0_0)) (mulf (broadcastInDim S4096x2816 ![0, 1] bcast_S1x2816_S4096x2816_0_1 (extractStridedSlice S1x2816 ![1, 0] x1 slices_S3x2816_S1x2816_1_0)) (concatenate S4096x2816 0 [⟨S1x2816, (broadcastInDim S1x2816 ![] bcast_S_S1x2816 (constant S_ .f32 0x00000000#32))⟩, ⟨S4095x2816, (extractStridedSlice S4095x2816 ![0, 0] (extractStridedSlice S4096x2816 ![0, 0] x0 slices_S4096x5632_S4096x2816_0_0) slices_S4096x2816_S4095x2816_0_0)⟩] concatenates_S1x2816_S4095x2816_S4096x2816_d0))) (mulf (broadcastInDim S4096x2816 ![0, 1] bcast_S1x2816_S4096x2816_0_1 (extractStridedSlice S1x2816 ![0, 0] x1 slices_S3x2816_S1x2816_0_0)) (concatenate S4096x2816 0 [⟨S2x2816, (broadcastInDim S2x2816 ![] bcast_S_S2x2816 (constant S_ .f32 0x00000000#32))⟩, ⟨S4094x2816, (extractStridedSlice S4094x2816 ![0, 0] (extractStridedSlice S4096x2816 ![0, 0] x0 slices_S4096x5632_S4096x2816_0_0) slices_S4096x2816_S4094x2816_0_0)⟩] concatenates_S2x2816_S4094x2816_S4096x2816_d0)))))))) (extractStridedSlice S4096x2816 ![0, 2816] x0 slices_S4096x5632_S4096x2816_0_2816)) bitsLt_bf16_f32

end Cert.Reference29Ideal.Stage

namespace Cert.Kernel29Ideal.Stage

open Idealize.ShloMosaic Idealize.ShloMosaic.TcCoe Idealize.SL.Sem Idealize.ShloMosaic.Tactic
open Cert.Kernel29Ideal Cert.Kernel29Ideal.Gen Cert.Reference29Ideal.Stage

variable (m : (ℓ : Loc nD τ sig) → Buf (Elt Ideal) ℓ)

/-- The block that point `t` takes of every array. -/
theorem idx : ∀ t : Fin cfg0.N, win0_0.index t = ![t.val, 0] ∧ win0_1.index t = ![16 * t.val - 1, 0] ∧ win0_2.index t = ![t.val, 1] ∧ win0_3.index t = ![0, 0] ∧ win0_4.index t = ![0, 0] ∧ win0_5.index t = ![0, 0] ∧ win0_6.index t = ![t.val, 0] :=
  (by decide +kernel : ∀ t : Fin grid0.N, win0_0.index t = ![t.val, 0] ∧ win0_1.index t = ![16 * t.val - 1, 0] ∧ win0_2.index t = ![t.val, 1] ∧ win0_3.index t = ![0, 0] ∧ win0_4.index t = ![0, 0] ∧ win0_5.index t = ![0, 0] ∧ win0_6.index t = ![t.val, 0])

theorem coord : ∀ t : Fin cfg0.N, (grid0.coords t 0).val = t.val :=
  (by decide +kernel : ∀ t : Fin grid0.N, (grid0.coords t 0).val = t.val)

set_option maxHeartbeats 2000000 in
theorem final0 (c : Dev nD) : (dats m 0 c).arrAt 6 cfg0.N = REF0 (m ((c : Thread nD τ).loc main_arg0)) (m ((c : Thread nD τ).loc main_arg1)) := by
  refine (dats m 0 c).arrAt_eq_of_covers 6 _ (by decide +kernel) fun t hf y => ?_
  blk_simp
  rw [after0_6]
  frame_out
  pointwise [k0_pay1, k0_pay2, REF0]
  simp only [Ideal.logistic]
  have e0 : (((View.whole main_v9).slice (win0_6.rect t)).emb y 0).val = 128 * t.val + (y 0).val := by
    have e := win0_6.rect_emb_val t y 0
    have k := congrFun (idx t).2.2.2.2.2.2 0
    rw [k] at e
    exact e.trans (show t.val * 128 + (y 0).val = _ by omega)
  have e1 : (((View.whole main_v9).slice (win0_6.rect t)).emb y 1).val = (y 1).val := by
    blk_point [idx t]
  have hw : ∀ u v : EReal, Scalar.select (Scalar.cmpi CmpIPredicate.eq (BitVec.ofNat 32 (grid0.coords t 0).val) 0#32) u v = if t.val = 0 then u else v := by
    rw [coord t]
    exact Cert.Halo.select_first t
  have hx : ∀ r : Fin 128, (iblk m c 0 t (ix2 r (y 1) : S128x2816.Idx) : EReal) = (m ((c : Thread nD τ).loc main_arg0) (ix2 ⟨128 * t.val + r.val, by have ht : t.val < 32 := t.isLt; have := r.isLt; omega⟩ ⟨(((View.whole main_v9).slice (win0_6.rect t)).emb y 1).val, lt_of_lt_of_le (Fin.isLt _) (show 2816 ≤ 5632 by decide)⟩ : S4096x5632.Idx) : EReal) := fun r => by
    blk_point [iblk, V, idx t]
  have hh : ∀ (r : Fin 8) (h0 : t.val ≠ 0), (iblk m c 1 t (ix2 r (y 1) : S8x2816.Idx) : EReal) = (m ((c : Thread nD τ).loc main_arg0) (ix2 ⟨128 * t.val - 8 + r.val, by have ht : t.val < 32 := t.isLt; have := r.isLt; omega⟩ ⟨(((View.whole main_v9).slice (win0_6.rect t)).emb y 1).val, lt_of_lt_of_le (Fin.isLt _) (show 2816 ≤ 5632 by decide)⟩ : S4096x5632.Idx) : EReal) := fun r h0 => by
    blk_point [iblk, V, idx t]
  have s1 := Cert.Halo.moved1 t.val t.isLt _ hw (fun r => iblk m c 0 t (ix2 r (y 1) : S128x2816.Idx)) (fun r => iblk m c 1 t (ix2 r (y 1) : S8x2816.Idx)) (fun r => m ((c : Thread nD τ).loc main_arg0) (ix2 r ⟨(((View.whole main_v9).slice (win0_6.rect t)).emb y 1).val, lt_of_lt_of_le (Fin.isLt _) (show 2816 ≤ 5632 by decide)⟩ : S4096x5632.Idx)) hx hh (y 0).val (y 0).isLt _ e0 (Nat.mod_lt _ (by decide)) (Nat.mod_lt _ (by decide)) (Nat.mod_lt _ (by decide))
  have s2 := Cert.Halo.moved2 t.val t.isLt _ hw (fun r => iblk m c 0 t (ix2 r (y 1) : S128x2816.Idx)) (fun r => iblk m c 1 t (ix2 r (y 1) : S8x2816.Idx)) (fun r => m ((c : Thread nD τ).loc main_arg0) (ix2 r ⟨(((View.whole main_v9).slice (win0_6.rect t)).emb y 1).val, lt_of_lt_of_le (Fin.isLt _) (show 2816 ≤ 5632 by decide)⟩ : S4096x5632.Idx)) hx hh (y 0).val (y 0).isLt _ e0 (Nat.mod_lt _ (by decide)) (Nat.mod_lt _ (by decide)) (Nat.mod_lt _ (by decide))
  beta_reduce at s1 s2
  obtain ⟨A, a1, a2⟩ := Cert.Halo.both s1
  obtain ⟨B, b1, b2⟩ := Cert.Halo.both s2
  rw [a1, a2, b1, b2]
  blk_point [iblk, V, idx t]

/-- Kernel and reference leave the same arrays. -/
theorem values : Cert.algebraic_Kernel29Ideal_Reference29Ideal (hKernel29Ideal := Cert.Kernel29Ideal.Gen.facts) (hReference29Ideal := Cert.Reference29Ideal.Gen.facts) := by
  intro m g m' g' _ hm
  refine ⟨fun c => REF0 (m ((c : Thread nD τ).loc main_arg0)) (m ((c : Thread nD τ).loc main_arg1)), ?_, ?_⟩
  · refine (θ_run _ _ _).mono (fun r h c => ?_) (Cert.Kernel29Ideal.Value.run_blocks m g)
    obtain ⟨h0, hargs⟩ := h c
    exact ⟨h0.trans (final0 m c), hargs⟩
  · refine (θ_run _ _ _).mono (fun r h c => ?_) (Cert.Reference29Ideal.Value.run m' g')
    obtain ⟨h0, hargs⟩ := h c
    obtain ⟨e0, e1⟩ := hm c
    refine ⟨h0.trans ?_, hargs⟩
    · rw [e0, e1]
      try rfl

theorem frame_reference : Cert.quiescent_Reference29Ideal (hReference29Ideal := Cert.Reference29Ideal.Gen.facts) := fun m ρ _ =>
  (θ_run _ _ _).mono (fun r h => ⟨fun c => (h c).2, Cert.Common.no_counters (fun s => s.elim0) (fun s => s.elim0) _⟩) (Cert.Reference29Ideal.Value.run m ρ)

end Cert.Kernel29Ideal.Stage

end
-- ==== Proof.Stage30.lean ====
module

public import proofs.«01_k».proof.Defs
public import proofs.«01_k».proof.Proof.Gen.Kernel30Ideal
public import proofs.«01_k».proof.Proof.Gen.Kernel30Ideal.Value
public import proofs.«01_k».proof.Proof.Gen.Reference30Ideal.Run
public import proofs.«01_k».proof.Proof.Common
public import Idealize.ShloMosaic.Lib.Pipeline.ReadBack
public import Idealize.ShloMosaic.Lib.Pipeline.ValueKit

@[expose] public section

/-! The gate of the two branches, a block of rows at a point. -/

set_option maxRecDepth 16384

noncomputable section

namespace Cert.Reference30Ideal.Stage

open Idealize.ShloMosaic Idealize.ShloMosaic.TcCoe
open Cert.Reference30Ideal Cert.Reference30Ideal.Gen

/-- The reference's result 0, of its arguments. -/
abbrev REF0 (x0 : FVec Ideal S4096x6144 .f32) (x1 : FVec Ideal S4096x1024 .f32) (x2 : FVec Ideal S4096x1024 .f32) : FVec Ideal S4096x1024 .bf16 :=
  truncf .bf16 (addf (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 4096] x0 slices_S4096x6144_S4096x1024_0_4096))))) x1) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 5120] x0 slices_S4096x6144_S4096x1024_0_5120))))) x2)) bitsLt_bf16_f32

end Cert.Reference30Ideal.Stage

namespace Cert.Kernel30Ideal.Stage

open Idealize.ShloMosaic Idealize.ShloMosaic.TcCoe Idealize.SL.Sem Idealize.ShloMosaic.Tactic
open Cert.Kernel30Ideal Cert.Kernel30Ideal.Gen Cert.Reference30Ideal.Stage

variable (m : (ℓ : Loc nD τ sig) → Buf (Elt Ideal) ℓ)

/-- The block that point `t` takes of every array. -/
theorem idx : ∀ t : Fin cfg0.N, win0_0.index t = ![t.val, 4] ∧ win0_1.index t = ![t.val, 5] ∧ win0_2.index t = ![t.val, 0] ∧ win0_3.index t = ![t.val, 0] ∧ win0_4.index t = ![t.val, 0] :=
  (by decide +kernel : ∀ t : Fin grid0.N, win0_0.index t = ![t.val, 4] ∧ win0_1.index t = ![t.val, 5] ∧ win0_2.index t = ![t.val, 0] ∧ win0_3.index t = ![t.val, 0] ∧ win0_4.index t = ![t.val, 0])

theorem final0 (c : Dev nD) : (dats m 0 c).arrAt 4 cfg0.N = REF0 (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  pointwise [k0_pay1, REF0]
  simp only [Ideal.logistic]
  blk_point [iblk, V, idx t]

/-- Kernel and reference leave the same arrays. -/
theorem values : Cert.algebraic_Kernel30Ideal_Reference30Ideal (hKernel30Ideal := Cert.Kernel30Ideal.Gen.facts) (hReference30Ideal := Cert.Reference30Ideal.Gen.facts) := by
  intro m g m' g' _ hm
  refine ⟨fun c => REF0 (m ((c : Thread nD τ).loc main_arg0)) (m ((c : Thread nD τ).loc main_arg1)) (m ((c : Thread nD τ).loc main_arg2)), ?_, ?_⟩
  · refine (θ_run _ _ _).mono (fun r h c => ?_) (Cert.Kernel30Ideal.Value.run_blocks m g)
    obtain ⟨h0, hargs⟩ := h c
    exact ⟨h0.trans (final0 m c), hargs⟩
  · refine (θ_run _ _ _).mono (fun r h c => ?_) (Cert.Reference30Ideal.Value.run m' g')
    obtain ⟨h0, hargs⟩ := h c
    obtain ⟨e0, e1, e2⟩ := hm c
    refine ⟨h0.trans ?_, hargs⟩
    · rw [e0, e1, e2]
      try rfl

theorem frame_reference : Cert.quiescent_Reference30Ideal (hReference30Ideal := Cert.Reference30Ideal.Gen.facts) := fun m ρ _ =>
  (θ_run _ _ _).mono (fun r h => ⟨fun c => (h c).2, Cert.Common.no_counters (fun s => s.elim0) (fun s => s.elim0) _⟩) (Cert.Reference30Ideal.Value.run m ρ)

end Cert.Kernel30Ideal.Stage

end
-- ==== Proof.Stage31.lean ====
module

public import proofs.«01_k».proof.Defs
public import proofs.«01_k».proof.Proof.Gen.Kernel31Ideal
public import proofs.«01_k».proof.Proof.Gen.Kernel31Ideal.Value
public import proofs.«01_k».proof.Proof.Gen.Reference31Ideal.Run
public import proofs.«01_k».proof.Proof.Common
public import Idealize.ShloMosaic.Lib.Pipeline.ReadBack
public import Idealize.ShloMosaic.Lib.Pipeline.ValueKit

@[expose] public section

/-! The modulation of every layer from the conditioning. -/

set_option maxRecDepth 16384

noncomputable section

namespace Cert.Reference31Ideal.Stage

open Idealize.ShloMosaic Idealize.ShloMosaic.TcCoe
open Cert.Reference31Ideal Cert.Reference31Ideal.Gen

/-- The reference's result 0, of its arguments. -/
abbrev REF0 (x0 : FVec Ideal S16x1024 .f32) : FVec Ideal S16x1024 .f32 :=
  mulf x0 (Host.divf (broadcastInDim S16x1024 ![] bcast_S_S16x1024 (constant S_ .f32 0x3F800000#32)) (addf (broadcastInDim S16x1024 ![] bcast_S_S16x1024 (constant S_ .f32 0x3F800000#32)) (Host.exp (Host.negf x0))))

/-- The reference's result 1, of its arguments. -/
abbrev REF1 (x0 : FVec Ideal S16x1024 .f32) (x1 : FVec Ideal S1024x1536 .f32) (x2 : FVec Ideal S1x1536 .f32) : FVec Ideal S16x1536 .f32 :=
  addf (Host.dotGeneral dot_S16x1024_S1024x1536_S16x1536_1_0_0_1_n_n none (mulf x0 (Host.divf (broadcastInDim S16x1024 ![] bcast_S_S16x1024 (constant S_ .f32 0x3F800000#32)) (addf (broadcastInDim S16x1024 ![] bcast_S_S16x1024 (constant S_ .f32 0x3F800000#32)) (Host.exp (Host.negf x0))))) x1) (broadcastInDim S16x1536 ![0, 1] bcast_S1x1536_S16x1536_0_1 x2)

end Cert.Reference31Ideal.Stage

namespace Cert.Kernel31Ideal.Stage

open Idealize.ShloMosaic Idealize.ShloMosaic.TcCoe Idealize.SL.Sem Idealize.ShloMosaic.Tactic
open Cert.Kernel31Ideal Cert.Kernel31Ideal.Gen Cert.Reference31Ideal.Stage

variable (m : (ℓ : Loc nD τ sig) → Buf (Elt Ideal) ℓ)

/-- The block that point `t` takes of every array. -/
theorem idx : ∀ t : Fin cfg0.N, win0_0.index t = ![0, 0] ∧ win0_1.index t = ![0, 0] ∧ win0_2.index t = ![0, 0] ∧ win0_3.index t = ![0, 0] ∧ win0_4.index t = ![0, 0] :=
  (by decide +kernel : ∀ t : Fin grid0.N, win0_0.index t = ![0, 0] ∧ win0_1.index t = ![0, 0] ∧ win0_2.index t = ![0, 0] ∧ win0_3.index t = ![0, 0] ∧ win0_4.index t = ![0, 0])

theorem final0 (c : Dev nD) : (dats m 0 c).arrAt 3 cfg0.N = REF0 (m ((c : Thread nD τ).loc main_arg0)) := by
  refine (dats m 0 c).arrAt_eq_of_covers 3 _ (by decide +kernel) fun t hf y => ?_
  blk_simp
  rw [after0_3]
  frame_out
  pointwise [k0_pay1, k0_pay2, REF0]
  simp only [Ideal.logistic]
  blk_point [iblk, V, idx t]

theorem final1 (c : Dev nD) : (dats m 0 c).arrAt 4 cfg0.N = REF1 (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  pointwise [k0_pay1, k0_pay2, REF1]
  simp only [Ideal.logistic]
  blk_point [iblk, V, idx t]

/-- Kernel and reference leave the same arrays. -/
theorem values : Cert.algebraic_Kernel31Ideal_Reference31Ideal (hKernel31Ideal := Cert.Kernel31Ideal.Gen.facts) (hReference31Ideal := Cert.Reference31Ideal.Gen.facts) := by
  intro m g m' g' _ hm
  refine ⟨fun c => REF0 (m ((c : Thread nD τ).loc main_arg0)), fun c => REF1 (m ((c : Thread nD τ).loc main_arg0)) (m ((c : Thread nD τ).loc main_arg1)) (m ((c : Thread nD τ).loc main_arg2)), ?_, ?_⟩
  · refine (θ_run _ _ _).mono (fun r h c => ?_) (Cert.Kernel31Ideal.Value.run_blocks m g)
    obtain ⟨h0, h1, hargs⟩ := h c
    exact ⟨h0.trans (final0 m c), h1.trans (final1 m c), hargs⟩
  · refine (θ_run _ _ _).mono (fun r h c => ?_) (Cert.Reference31Ideal.Value.run m' g')
    obtain ⟨h0, h1, hargs⟩ := h c
    obtain ⟨e0, e1, e2⟩ := hm c
    refine ⟨h0.trans ?_, h1.trans ?_, hargs⟩
    · rw [e0]
      try rfl
    · rw [e0, e1, e2]
      try rfl

theorem frame_reference : Cert.quiescent_Reference31Ideal (hReference31Ideal := Cert.Reference31Ideal.Gen.facts) := fun m ρ _ =>
  (θ_run _ _ _).mono (fun r h => ⟨fun c => (h c).2.2, Cert.Common.no_counters (fun s => s.elim0) (fun s => s.elim0) _⟩) (Cert.Reference31Ideal.Value.run m ρ)

end Cert.Kernel31Ideal.Stage

end
-- ==== Proof.Stage32.lean ====
module

public import proofs.«01_k».proof.Defs
public import proofs.«01_k».proof.Proof.Gen.Kernel32Ideal
public import proofs.«01_k».proof.Proof.Gen.Kernel32Ideal.Frame
public import proofs.«01_k».proof.Proof.Gen.Reference32Ideal.Run
public import proofs.«01_k».proof.Proof.Common
public import Idealize.ShloMosaic.Lib.Pipeline.ReadBack
public import Idealize.ShloMosaic.Lib.Pipeline.ValueKit

@[expose] public section

/-! The derivative of the gate of the two branches, a block of rows at a point. -/

set_option maxRecDepth 16384

noncomputable section

namespace Cert.Reference32Ideal.Stage

open Idealize.ShloMosaic Idealize.ShloMosaic.TcCoe
open Cert.Reference32Ideal Cert.Reference32Ideal.Gen

/-- The reference's result 0, of its arguments. -/
abbrev REF0 (x0 : FVec Ideal S4096x6144 .f32) (x1 : FVec Ideal S4096x1024 .f32) (x2 : FVec Ideal S4096x1024 .f32) (x3 : FVec Ideal S4096x1024 .f32) : FVec Ideal S4096x1024 .bf16 :=
  truncf .bf16 (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 0] (extractStridedSlice S4096x2048 ![0, 4096] x0 slices_S4096x6144_S4096x2048_0_4096) slices_S4096x2048_S4096x1024_0_0))))) (shapeCast _ x3 shapeCasts_S4096x1024_S4096x1024)) bitsLt_bf16_f32

/-- The reference's result 1, of its arguments. -/
abbrev REF1 (x0 : FVec Ideal S4096x6144 .f32) (x1 : FVec Ideal S4096x1024 .f32) (x2 : FVec Ideal S4096x1024 .f32) (x3 : FVec Ideal S4096x1024 .f32) : FVec Ideal S4096x1024 .bf16 :=
  truncf .bf16 (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] (extractStridedSlice S4096x2048 ![0, 4096] x0 slices_S4096x6144_S4096x2048_0_4096) slices_S4096x2048_S4096x1024_0_1024))))) (shapeCast _ x3 shapeCasts_S4096x1024_S4096x1024)) bitsLt_bf16_f32

/-- The reference's result 2, of its arguments. -/
abbrev REF2 (x0 : FVec Ideal S4096x6144 .f32) (x1 : FVec Ideal S4096x1024 .f32) (x2 : FVec Ideal S4096x1024 .f32) (x3 : FVec Ideal S4096x1024 .f32) : FVec Ideal S4096x2048 .bf16 :=
  truncf .bf16 (addf (pad S4096x2048 ![0, 1024] ![0, 0] ![0, 0] (mulf (mulf (shapeCast _ x3 shapeCasts_S4096x1024_S4096x1024) x2) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] (extractStridedSlice S4096x2048 ![0, 4096] x0 slices_S4096x6144_S4096x2048_0_4096) slices_S4096x2048_S4096x1024_0_1024))))) (subf (broadcastInDim S4096x1024 ![] bcast_S_S4096x1024 (constant S_ .f32 0x3F800000#32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] (extractStridedSlice S4096x2048 ![0, 4096] x0 slices_S4096x6144_S4096x2048_0_4096) slices_S4096x2048_S4096x1024_0_1024)))))))) (constant S_ .f32 0x00000000#32) pads_S4096x1024_S4096x2048_000_102400 h_S_) (pad S4096x2048 ![0, 0] ![0, 1024] ![0, 0] (mulf (mulf (shapeCast _ x3 shapeCasts_S4096x1024_S4096x1024) x1) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 0] (extractStridedSlice S4096x2048 ![0, 4096] x0 slices_S4096x6144_S4096x2048_0_4096) slices_S4096x2048_S4096x1024_0_0))))) (subf (broadcastInDim S4096x1024 ![] bcast_S_S4096x1024 (constant S_ .f32 0x3F800000#32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 0] (extractStridedSlice S4096x2048 ![0, 4096] x0 slices_S4096x6144_S4096x2048_0_4096) slices_S4096x2048_S4096x1024_0_0)))))))) (constant S_ .f32 0x00000000#32) pads_S4096x1024_S4096x2048_000_010240 h_S_)) bitsLt_bf16_f32

end Cert.Reference32Ideal.Stage

namespace Cert.Kernel32Ideal.Stage

open Idealize.ShloMosaic Idealize.ShloMosaic.TcCoe Idealize.SL.Sem Idealize.ShloMosaic.Tactic
open Cert.Kernel32Ideal Cert.Kernel32Ideal.Gen Cert.Reference32Ideal.Stage

variable (m : (ℓ : Loc nD τ sig) → Buf (Elt Ideal) ℓ)

/-- The block that point `t` takes of every array. -/
theorem idx : ∀ t : Fin cfg0.N, win0_0.index t = ![7 - t.val, 4] ∧ win0_1.index t = ![7 - t.val, 5] ∧ win0_2.index t = ![7 - t.val, 0] ∧ win0_3.index t = ![7 - t.val, 0] ∧ win0_4.index t = ![7 - t.val, 0] ∧ win0_5.index t = ![7 - t.val, 0] ∧ win0_6.index t = ![7 - t.val, 0] ∧ win0_7.index t = ![7 - t.val, 2] :=
  (by decide +kernel : ∀ t : Fin grid0.N, win0_0.index t = ![7 - t.val, 4] ∧ win0_1.index t = ![7 - t.val, 5] ∧ win0_2.index t = ![7 - t.val, 0] ∧ win0_3.index t = ![7 - t.val, 0] ∧ win0_4.index t = ![7 - t.val, 0] ∧ win0_5.index t = ![7 - t.val, 0] ∧ win0_6.index t = ![7 - t.val, 0] ∧ win0_7.index t = ![7 - t.val, 2])

theorem final0 (c : Dev nD) : (dats m 0 c).arrAt 5 cfg0.N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay5, k0_pay1, k0_pay3, REF0]
  simp only [Ideal.logistic]
  blk_point [iblk, V, idx t]

theorem final1 (c : Dev nD) : (dats m 0 c).arrAt 6 cfg0.N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  pointwise [k0_pay6, k0_pay2, k0_pay4, REF1]
  simp only [Ideal.logistic]
  blk_point [iblk, V, idx t]

/-- The columns of the projection that hold the gates, as columns of the result. -/
def cut (i : S4096x6144.Idx) : S4096x2048.Idx := fun a =>
  match a with
  | ⟨0, _⟩ => i 0
  | ⟨1, _⟩ => ⟨(i 1).val % 2048, Nat.mod_lt _ (by decide)⟩

/-- The derivative of the gate `g` of a branch `y`, the cotangent `d`. -/
def slope (g y d : Ideal .f32) : Ideal .f32 := d * y * (Ideal.div 1 (1 + Ideal.exp (-g)) * (1 - Ideal.div 1 (1 + Ideal.exp (-g))))

theorem ref_lo (x0 : FVec Ideal S4096x6144 .f32) (x1 : FVec Ideal S4096x1024 .f32) (x2 : FVec Ideal S4096x1024 .f32) (x3 : FVec Ideal S4096x1024 .f32) (a : Fin 4096) (b : Fin 1024) (h : b.val < 2048) (h' : 4096 + b.val < 6144) : REF2 x0 x1 x2 x3 (ix2 a ⟨b.val, h⟩) = slope (x0 (ix2 a ⟨4096 + b.val, h'⟩)) (x1 (ix2 a b)) (x3 (ix2 a b)) := by
  pointwise [REF2]
  rw [dif_neg (fun h => h.1), zero_add]
  rfl

theorem ref_hi (x0 : FVec Ideal S4096x6144 .f32) (x1 : FVec Ideal S4096x1024 .f32) (x2 : FVec Ideal S4096x1024 .f32) (x3 : FVec Ideal S4096x1024 .f32) (a : Fin 4096) (b : Fin 1024) (h : 1024 + b.val < 2048) (h' : 4096 + (1024 + b.val) < 6144) : REF2 x0 x1 x2 x3 (ix2 a ⟨1024 + b.val, h⟩) = slope (x0 (ix2 a ⟨4096 + (1024 + b.val), h'⟩)) (x2 (ix2 a b)) (x3 (ix2 a b)) := by
  pointwise [REF2]
  rfl

theorem pay_lo (g y d : Vec Ideal S512x1024 .f32) (j : S512x1024.Idx) : k0_pay7 g y d j = slope (g j) (y j) (d j) := by
  pointwise [k0_pay7, k0_pay1, k0_pay3]
  simp only [Ideal.logistic]
  rfl

theorem pay_hi (g y d : Vec Ideal S512x1024 .f32) (j : S512x1024.Idx) : k0_pay8 g y d j = slope (g j) (y j) (d j) := by
  pointwise [k0_pay8, k0_pay2, k0_pay4]
  simp only [Ideal.logistic]
  rfl

theorem piece_lo (c : Dev nD) (t : Fin cfg0.N) (x : S512x1024.Idx) :
    k0_pay7 (iblk m c 0 t) (iblk m c 2 t) (iblk m c 4 t) x = REF2 (m ((c : Thread nD τ).loc main_arg0)) (m ((c : Thread nD τ).loc main_arg1)) (m ((c : Thread nD τ).loc main_arg2)) (m ((c : Thread nD τ).loc main_arg3)) (cut (((View.whole main_v0_2).slice (win0_7.rect t)).emb (r0_1.emb x))) := by
  have hx0 : (x 0).val < 512 := (x 0).isLt
  have hx1 : (x 1).val < 1024 := (x 1).isLt
  have ht : t.val < 8 := t.isLt
  have hcut : cut (((View.whole main_v0_2).slice (win0_7.rect t)).emb (r0_1.emb x)) = ix2 ⟨(7 - t.val) * 512 + (x 0).val, by omega⟩ ⟨(x 1).val, by omega⟩ := by
    obtain ⟨-, -, -, -, -, -, -, h7⟩ := idx t
    funext a
    apply Fin.ext
    match a with
    | ⟨0, _⟩ =>
      show win0_7.index t (0 : Fin 2) * 512 + 1 * (0 + 1 * (x 0).val) = (7 - t.val) * 512 + (x 0).val
      rw [h7]
      show (7 - t.val) * 512 + 1 * (0 + 1 * (x 0).val) = (7 - t.val) * 512 + (x 0).val
      omega
    | ⟨1, _⟩ =>
      show (win0_7.index t (1 : Fin 2) * 2048 + 1 * (0 + 1 * (x 1).val)) % 2048 = (x 1).val
      rw [h7]
      show (2 * 2048 + 1 * (0 + 1 * (x 1).val)) % 2048 = (x 1).val
      omega
  rw [hcut]
  refine (pay_lo _ _ _ x).trans (Eq.trans ?_ (ref_lo _ _ _ _ _ ⟨(x 1).val, hx1⟩ _ (by show 4096 + (x 1).val < 6144; omega)).symm)
  blk_point [iblk, V, idx t]

theorem piece_hi (c : Dev nD) (t : Fin cfg0.N) (x : S512x1024.Idx) :
    k0_pay8 (iblk m c 1 t) (iblk m c 3 t) (iblk m c 4 t) x = REF2 (m ((c : Thread nD τ).loc main_arg0)) (m ((c : Thread nD τ).loc main_arg1)) (m ((c : Thread nD τ).loc main_arg2)) (m ((c : Thread nD τ).loc main_arg3)) (cut (((View.whole main_v0_2).slice (win0_7.rect t)).emb (r0_2.emb x))) := by
  have hx0 : (x 0).val < 512 := (x 0).isLt
  have hx1 : (x 1).val < 1024 := (x 1).isLt
  have ht : t.val < 8 := t.isLt
  have hcut : cut (((View.whole main_v0_2).slice (win0_7.rect t)).emb (r0_2.emb x)) = ix2 ⟨(7 - t.val) * 512 + (x 0).val, by omega⟩ ⟨1024 + (x 1).val, by omega⟩ := by
    obtain ⟨-, -, -, -, -, -, -, h7⟩ := idx t
    funext a
    apply Fin.ext
    match a with
    | ⟨0, _⟩ =>
      show win0_7.index t (0 : Fin 2) * 512 + 1 * (0 + 1 * (x 0).val) = (7 - t.val) * 512 + (x 0).val
      rw [h7]
      show (7 - t.val) * 512 + 1 * (0 + 1 * (x 0).val) = (7 - t.val) * 512 + (x 0).val
      omega
    | ⟨1, _⟩ =>
      show (win0_7.index t (1 : Fin 2) * 2048 + 1 * (1024 + 1 * (x 1).val)) % 2048 = 1024 + (x 1).val
      rw [h7]
      show (2 * 2048 + 1 * (1024 + 1 * (x 1).val)) % 2048 = 1024 + (x 1).val
      omega
  rw [hcut]
  refine (pay_hi _ _ _ x).trans (Eq.trans ?_ (ref_hi _ _ _ _ _ ⟨(x 1).val, hx1⟩ _ (by show 4096 + (1024 + (x 1).val) < 6144; omega)).symm)
  blk_point [iblk, V, idx t]

/-- The array that holds the gates' derivatives, after the run. -/
abbrev out (c : Dev nD) : FVec Ideal S4096x6144 .bf16 := (dats m 0 c).arrAt 7 cfg0.N

theorem final2 (c : Dev nD) (i : S4096x6144.Idx) : out m c i = if (i 1).val / 2048 = 2 then REF2 (m ((c : Thread nD τ).loc main_arg0)) (m ((c : Thread nD τ).loc main_arg1)) (m ((c : Thread nD τ).loc main_arg2)) (m ((c : Thread nD τ).loc main_arg3)) (cut i) else m ((c : Thread nD τ).loc main_v0_2) i := by
  refine ((dats m 0 c).arrAt_apply_of_coversWhere 7 (fun i : S4096x6144.Idx => REF2 (m ((c : Thread nD τ).loc main_arg0)) (m ((c : Thread nD τ).loc main_arg1)) (m ((c : Thread nD τ).loc main_arg2)) (m ((c : Thread nD τ).loc main_arg3)) (cut i)) (P := fun i : S4096x6144.Idx => (i 1).val / 2048 = 2) (fun β => β (1 : Fin 2) = 2) (by decide +kernel) (fun t hf y => ?_) (fun j => Iff.rfl) i).trans ?_
  · blk_simp
    rw [after0_7]
    frame_out
    exact View.canon_append_of_piecesOf (Val := Elt Ideal) (s := S512x2048) (e := .bf16) (fun y : S512x2048.Idx => REF2 (m ((c : Thread nD τ).loc main_arg0)) (m ((c : Thread nD τ).loc main_arg1)) (m ((c : Thread nD τ).loc main_arg2)) (m ((c : Thread nD τ).loc main_arg3)) (cut (((View.whole main_v0_2).slice (win0_7.rect t)).emb y))) []
      [⟨r0_2, k0_pay8 (iblk m c 1 t) (iblk m c 3 t) (iblk m c 4 t)⟩, ⟨r0_1, k0_pay7 (iblk m c 0 t) (iblk m c 2 t) (iblk m c 4 t)⟩]
      ⟨piece_hi m c t, piece_lo m c t, trivial⟩ y (cover0_7 _ _ y)
  · rfl

/-- The result's columns are those that the blocks cover. -/
theorem cols (c : Dev nD) : extractStridedSlice S4096x2048 ![0, 4096] (out m c) facts.slices_S4096x6144_S4096x2048_0_4096 = REF2 (m ((c : Thread nD τ).loc main_arg0)) (m ((c : Thread nD τ).loc main_arg1)) (m ((c : Thread nD τ).loc main_arg2)) (m ((c : Thread nD τ).loc main_arg3)) := by
  funext j
  have hj1 : (j 1).val < 2048 := (j 1).isLt
  generalize hX : REF2 (m ((c : Thread nD τ).loc main_arg0)) (m ((c : Thread nD τ).loc main_arg1)) (m ((c : Thread nD τ).loc main_arg2)) (m ((c : Thread nD τ).loc main_arg3)) = X
  pointwise
  refine (final2 m c _).trans ?_
  rw [hX]
  refine (if_pos (show (4096 + (j 1).val) / 2048 = 2 by omega)).trans ?_
  refine congrArg X (funext fun a => Fin.ext ?_)
  match a with
  | ⟨0, _⟩ => rfl
  | ⟨1, _⟩ => exact (show (4096 + (j 1).val) % 2048 = (j 1).val by omega)

theorem run (g : Dev nD → PrngReg) : θ_run defs (onTc (τ := τ) (main (F := Ideal))) ⟨m, fun _ => 0, g⟩ fun r => ∀ c : Dev nD,
      r.2.mem ((c : Thread nD τ).loc main_v0_0) = REF0 (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = REF1 (m ((c : Thread nD τ).loc main_arg0)) (m ((c : Thread nD τ).loc main_arg1)) (m ((c : Thread nD τ).loc main_arg2)) (m ((c : Thread nD τ).loc main_arg3))
      ∧ r.2.mem ((c : Thread nD τ).loc main_v1) = REF2 (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨((h c).1 5).trans (final0 m c), ((h c).1 6).trans (final1 m c), ?_,
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c)))⟩) (run_main m g)
  refine ((h c).2 main_v1 (show main_v1 ∈ Pipeline.restRefs sig spec0 by decide)).trans ?_
  unfold Pipeline.afterTail₀
  simp only [List.flatten_cons, List.flatten_nil, List.append_nil]
  after_results
  refine Eq.trans ?_ (cols m c)
  exact congrArg (fun X : FVec Ideal S4096x6144 .bf16 => extractStridedSlice S4096x2048 ![0, 4096] X facts.slices_S4096x6144_S4096x2048_0_4096)
    (Pipeline.withArrays_arr_shared spec0 c (V0 m c) (fun w => (dats m 0 c).arrAt w cfg0.N) ((dats m 0 c).arrAt_sharedIn (show Pipeline.SharedIn spec0 by decide) (V0 m c) (fun w => A_eq m c w) cfg0.N) 7)

/-- Kernel and reference leave the same arrays. -/
theorem values : Cert.algebraic_Kernel32Ideal_Reference32Ideal (hKernel32Ideal := Cert.Kernel32Ideal.Gen.facts) (hReference32Ideal := Cert.Reference32Ideal.Gen.facts) := by
  intro m g m' g' _ hm
  refine ⟨fun c => REF0 (m ((c : Thread nD τ).loc main_arg0)) (m ((c : Thread nD τ).loc main_arg1)) (m ((c : Thread nD τ).loc main_arg2)) (m ((c : Thread nD τ).loc main_arg3)), fun c => REF1 (m ((c : Thread nD τ).loc main_arg0)) (m ((c : Thread nD τ).loc main_arg1)) (m ((c : Thread nD τ).loc main_arg2)) (m ((c : Thread nD τ).loc main_arg3)), fun c => REF2 (m ((c : Thread nD τ).loc main_arg0)) (m ((c : Thread nD τ).loc main_arg1)) (m ((c : Thread nD τ).loc main_arg2)) (m ((c : Thread nD τ).loc main_arg3)), run m g, ?_⟩
  refine (θ_run _ _ _).mono (fun r h c => ?_) (Cert.Reference32Ideal.Value.run m' g')
  obtain ⟨h0, h1, h2, hargs⟩ := h c
  obtain ⟨e0, e1, e2, e3⟩ := hm c
  refine ⟨h0.trans ?_, h1.trans ?_, h2.trans ?_, hargs⟩
  · rw [e0, e3]
    try rfl
  · rw [e0, e3]
    try rfl
  · rw [e0, e1, e2, e3]
    try rfl

theorem frame_reference : Cert.quiescent_Reference32Ideal (hReference32Ideal := Cert.Reference32Ideal.Gen.facts) := fun m ρ _ =>
  (θ_run _ _ _).mono (fun r h => ⟨fun c => (h c).2.2.2, Cert.Common.no_counters (fun s => s.elim0) (fun s => s.elim0) _⟩) (Cert.Reference32Ideal.Value.run m ρ)

end Cert.Kernel32Ideal.Stage

end
-- ==== Proof.Stage33.lean ====
module

public import proofs.«01_k».proof.Defs
public import proofs.«01_k».proof.Proof.Gen.Kernel33
public import proofs.«01_k».proof.Proof.Gen.Kernel33.Frame
public import proofs.«01_k».proof.Proof.Gen.Kernel33Ideal
public import proofs.«01_k».proof.Proof.Gen.Kernel33Ideal.Frame
public import proofs.«01_k».proof.Proof.Gen.Reference33Ideal.Run
public import proofs.«01_k».proof.Proof.Common
public import Idealize.ShloMosaic.Lib.Pipeline.ReadBack
public import Idealize.ShloMosaic.Lib.Pipeline.ValueKit

@[expose] public section

/-! The sum of the rows of four chips, a block of rows at a point, written to the core's half of the array. -/

set_option maxRecDepth 16384

noncomputable section

namespace Cert.Kernel33.Stage

open Idealize.ShloMosaic Idealize.ShloMosaic.TcCoe Idealize.SL.Sem Idealize.ShloMosaic.Tactic
open Cert.Kernel33 Cert.Kernel33.Gen

variable {F : FTy → Type} [FloatOps F]
variable (m : (ℓ : Loc nD τ sig) → Buf (Elt F) ℓ)

/-- The table that the index map reads holds the core's index 0. -/
abbrev zero : pre0.Contents (Elt F) := fun | 0 => fun _ => (0#32 : BitVec 32)

theorem tbl_eq : tbl m = zero := by
  funext j
  fin_cases j
  show StableHlo.after (List.flatten [hostOps0]) (fun b => m ((0 : Dev nD), b)) (Proc.devRef .tc main_v0) = fun _ => (0#32 : BitVec 32)
  simp only [List.flatten_cons, List.flatten_nil, List.append_nil]
  after_results
  funext i
  rfl

theorem map_zero (i : grid0.Coords) : cc0_transform_2 (F := F) facts.inb_S1_S1_0 facts.numel1_S1 zero i = ![(i 0).val, 0] := by
  have hz : (zero (F := F)).at 0 (Rect.unit (s := S1) ![0] S1.size facts.inb_S1_S1_0) facts.numel1_S1 = (0#32 : BitVec 32) := rfl
  have hk : ∀ k : Fin 2, (Scalar.addi (Scalar.muli (0#32 : BitVec 32) 2#32) (BitVec.ofNat 32 k.val)).toNat = k.val := by decide
  unfold cc0_transform_2
  simp only [hz]
  exact congrArg (fun n => ![n, 0]) (hk (i 0))

theorem ok_zero : ok0 (F := F) zero := by
  intro i
  rw [map_zero]
  refine ⟨?_, Or.inl rfl⟩
  revert i
  decide +kernel

theorem ok : Ok m := by
  show ok0 (tbl m)
  rw [tbl_eq]
  exact ok_zero

theorem frame_kernel : Cert.quiescent_Kernel33 (hKernel33 := Cert.Kernel33.Gen.facts) := fun m ρ _ => Cert.Kernel33.Gen.frame m ρ (ok m)

end Cert.Kernel33.Stage

namespace Cert.Kernel33Ideal.Stage

open Idealize.ShloMosaic Idealize.ShloMosaic.TcCoe Idealize.SL.Sem Idealize.ShloMosaic.Tactic
open Cert.Kernel33Ideal Cert.Kernel33Ideal.Gen

section
variable {F : FTy → Type} [FloatOps F]
variable (m : (ℓ : Loc nD τ sig) → Buf (Elt F) ℓ)

/-- The table that the index map reads holds the core's index 0. -/
abbrev zero : pre0.Contents (Elt F) := fun | 0 => fun _ => (0#32 : BitVec 32)

theorem tbl_eq : tbl m = zero := by
  funext j
  fin_cases j
  show StableHlo.after (List.flatten [hostOps0]) (fun b => m ((0 : Dev nD), b)) (Proc.devRef .tc main_v0) = fun _ => (0#32 : BitVec 32)
  simp only [List.flatten_cons, List.flatten_nil, List.append_nil]
  after_results
  funext i
  rfl

theorem map_zero (i : grid0.Coords) : cc0_transform_2 (F := F) facts.inb_S1_S1_0 facts.numel1_S1 zero i = ![(i 0).val, 0] := by
  have hz : (zero (F := F)).at 0 (Rect.unit (s := S1) ![0] S1.size facts.inb_S1_S1_0) facts.numel1_S1 = (0#32 : BitVec 32) := rfl
  have hk : ∀ k : Fin 2, (Scalar.addi (Scalar.muli (0#32 : BitVec 32) 2#32) (BitVec.ofNat 32 k.val)).toNat = k.val := by decide
  unfold cc0_transform_2
  simp only [hz]
  exact congrArg (fun n => ![n, 0]) (hk (i 0))

theorem ok_zero : ok0 (F := F) zero := by
  intro i
  rw [map_zero]
  refine ⟨?_, Or.inl rfl⟩
  revert i
  decide +kernel

theorem ok : Ok m := by
  show ok0 (tbl m)
  rw [tbl_eq]
  exact ok_zero

/-- The configuration at the table that the region finds. -/
theorem cfg_eq : adm m (ok m) = ⟨zero, ok_zero⟩ := Subtype.ext (tbl_eq m)

/-- The block that point `t` takes of every array. -/
theorem idx (a : (pcfg0 (F := F)).Adm) (ha : a = ⟨zero, ok_zero⟩) (t : Fin (cfg0 a).N) :
    ((cfg0 a).win 0).index t = ![t.val, 0] ∧ ((cfg0 a).win 1).index t = ![0, t.val, 0] ∧ ((cfg0 a).win 2).index t = ![t.val, 0] := by
  subst ha
  have hc : ∀ t : Fin grid0.N, (grid0.coords t 0).val = t.val := by decide +kernel
  refine ⟨?_, ?_, (map_zero _).trans (congrArg (fun n => ![n, 0]) (hc t))⟩
  · revert t
    exact (by decide +kernel : ∀ t : Fin grid0.N, cc0_transform_0 (grid0.coords t) = ![t.val, 0])
  · revert t
    exact (by decide +kernel : ∀ t : Fin grid0.N, cc0_transform_1 (grid0.coords t) = ![0, t.val, 0])

theorem covers (a : (pcfg0 (F := Ideal)).Adm) (ha : a = ⟨zero, ok_zero⟩) :
    ((cfg0 a).win 2).CoversWhere (fun β => β (0 : Fin 2) < 2) := by
  subst ha
  decide +kernel
end

variable (m : (ℓ : Loc nD τ sig) → Buf (Elt Ideal) ℓ)

abbrev REF0 (x0 : FVec Ideal S512x1484 .f32) (x1 : FVec Ideal S3x512x1484 .bf16) : FVec Ideal S512x1484 .f32 :=
  addf x0 (Host.reduceAdd (extf .f32 x1 Cert.Reference33Ideal.Gen.facts.bitsLt_bf16_f32) (constant Cert.Reference33Ideal.S_ .f32 0x00000000#32) Cert.Reference33Ideal.Gen.facts.reducesTo_S3x512x1484_S512x1484_d0 Cert.Reference33Ideal.Gen.facts.h_S_)

/-- A row of the result from a row of the array that the blocks lie in. -/
def cut (i : S1024x1484.Idx) : S512x1484.Idx := fun a =>
  match a with
  | ⟨0, _⟩ => ⟨(i 0).val % 512, Nat.mod_lt _ (by decide)⟩
  | ⟨1, _⟩ => i 1

theorem pay_at (x0 : Vec Ideal S256x1484 .f32) (x1 : Vec Ideal S3x256x1484 .bf16) (j : S256x1484.Idx) :
    k0_pay1 x0 (View.ld x1 (Rect.unit ![0, 0, 0] ![1, 256, 1484] facts.inb_S3x256x1484_S1x256x1484_0_0_0)) (View.ld x1 (Rect.unit ![1, 0, 0] ![1, 256, 1484] facts.inb_S3x256x1484_S1x256x1484_1_0_0)) (View.ld x1 (Rect.unit ![2, 0, 0] ![1, 256, 1484] facts.inb_S3x256x1484_S1x256x1484_2_0_0)) j = x0 j + ∑ k : Fin 3, x1 (ix3 k (j 0) (j 1)) := by
  pointwise [k0_pay1]
  rw [Fin.sum_univ_three, ← add_assoc, ← add_assoc]

theorem ref_at (x0 : FVec Ideal S512x1484 .f32) (x1 : FVec Ideal S3x512x1484 .bf16) (j : S512x1484.Idx) : REF0 x0 x1 j = x0 j + ∑ k : Fin 3, x1 (ix3 k (j 0) (j 1)) := by
  pointwise [REF0]

theorem blk0 (c : Dev nD) (t : Fin (cfgM m (ok m)).N) (y : S256x1484.Idx) :
    iblk m (ok m) c 0 t y = m ((c : Thread nD τ).loc main_arg0) (cut ((((cfgM m (ok m)).win 2).blk t).view.emb y)) := by
  refine (congrFun (V_main_arg0 m c) _).trans ?_
  congr 1
  obtain ⟨h0, -, h2⟩ := idx _ (cfg_eq m) t
  have ht : t.val < 2 := t.isLt
  have hy0 : (y 0).val < 256 := (y 0).isLt
  funext a
  apply Fin.ext
  match a with
  | ⟨0, _⟩ =>
    show ((cfgM m (ok m)).win 0).index t (0 : Fin 2) * 256 + 1 * (y 0).val = (((cfgM m (ok m)).win 2).index t (0 : Fin 2) * 256 + 1 * (y 0).val) % 512
    rw [h0, h2]
    show t.val * 256 + 1 * (y 0).val = (t.val * 256 + 1 * (y 0).val) % 512
    omega
  | ⟨1, _⟩ =>
    show ((cfgM m (ok m)).win 0).index t (1 : Fin 2) * 1484 + 1 * (y 1).val = ((cfgM m (ok m)).win 2).index t (1 : Fin 2) * 1484 + 1 * (y 1).val
    rw [h0, h2]

theorem blk1 (c : Dev nD) (t : Fin (cfgM m (ok m)).N) (y : S256x1484.Idx) (k : Fin 3) :
    iblk m (ok m) c 1 t (ix3 k (y 0) (y 1)) = m ((c : Thread nD τ).loc main_arg1) (ix3 k (cut ((((cfgM m (ok m)).win 2).blk t).view.emb y) 0) (cut ((((cfgM m (ok m)).win 2).blk t).view.emb y) 1)) := by
  refine (congrFun (V_main_arg1 m c) _).trans ?_
  congr 1
  obtain ⟨-, h1, h2⟩ := idx _ (cfg_eq m) t
  have ht : t.val < 2 := t.isLt
  have hy0 : (y 0).val < 256 := (y 0).isLt
  funext a
  apply Fin.ext
  match a with
  | ⟨0, _⟩ =>
    show ((cfgM m (ok m)).win 1).index t (0 : Fin 3) * 3 + 1 * k.val = k.val
    rw [h1]
    show 0 * 3 + 1 * k.val = k.val
    omega
  | ⟨1, _⟩ =>
    show ((cfgM m (ok m)).win 1).index t (1 : Fin 3) * 256 + 1 * (y 0).val = (((cfgM m (ok m)).win 2).index t (0 : Fin 2) * 256 + 1 * (y 0).val) % 512
    rw [h1, h2]
    show t.val * 256 + 1 * (y 0).val = (t.val * 256 + 1 * (y 0).val) % 512
    omega
  | ⟨2, _⟩ =>
    show ((cfgM m (ok m)).win 1).index t (2 : Fin 3) * 1484 + 1 * (y 1).val = ((cfgM m (ok m)).win 2).index t (1 : Fin 2) * 1484 + 1 * (y 1).val
    rw [h1, h2]
    rfl

/-- The array that the blocks lie in, after the run. -/
abbrev out (c : Dev nD) : FVec Ideal S1024x1484 .f32 := (dats m (ok m) 0 c).arrAt 2 (cfgM m (ok m)).N

theorem final0 (c : Dev nD) (i : S1024x1484.Idx) : out m c i = if (i 0).val / 256 < 2 then REF0 (m ((c : Thread nD τ).loc main_arg0)) (m ((c : Thread nD τ).loc main_arg1)) (cut i) else m ((c : Thread nD τ).loc main_v1) i := by
  refine ((dats m (ok m) 0 c).arrAt_apply_of_coversWhere 2 (fun i : S1024x1484.Idx => REF0 (m ((c : Thread nD τ).loc main_arg0)) (m ((c : Thread nD τ).loc main_arg1)) (cut i)) (P := fun i : S1024x1484.Idx => (i 0).val / 256 < 2) (fun β => β (0 : Fin 2) < 2) (covers _ (cfg_eq m)) (fun t hf y => ?_) (fun j => Iff.rfl) i).trans ?_
  · rw [after0_2]
    unfold outsAt0 out0_A_2
    blk_simp
    frame_out
    exact (pay_at _ _ y).trans ((congrArg₂ (· + ·) ((congrFun ((hs0_0 m (ok m) t).read_unread _) y).trans (blk0 m c t y))
      (Finset.sum_congr rfl fun k _ => (congrFun ((hs0_1 m (ok m) t).read_unread _) _).trans (blk1 m c t y k))).trans (ref_at _ _ _).symm)
  · rfl

/-- The result's rows are those that the blocks cover. -/
theorem rows (c : Dev nD) : extractStridedSlice S512x1484 ![0, 0] (out m c) facts.slices_S1024x1484_S512x1484_0_0 = REF0 (m ((c : Thread nD τ).loc main_arg0)) (m ((c : Thread nD τ).loc main_arg1)) := by
  funext j
  have hj0 : (j 0).val < 512 := (j 0).isLt
  generalize hX : REF0 (m ((c : Thread nD τ).loc main_arg0)) (m ((c : Thread nD τ).loc main_arg1)) = X
  pointwise
  refine (final0 m c _).trans ?_
  rw [hX]
  refine (if_pos (show (j 0).val / 256 < 2 by omega)).trans ?_
  refine congrArg X (funext fun a => Fin.ext ?_)
  match a with
  | ⟨0, _⟩ => exact Nat.mod_eq_of_lt hj0
  | ⟨1, _⟩ => rfl

theorem run (g : Dev nD → PrngReg) : θ_run defs (onTc (τ := τ) (main (F := Ideal))) ⟨m, fun _ => 0, g⟩ fun r => ∀ c : Dev nD,
      r.2.mem ((c : Thread nD τ).loc main_v2) = REF0 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨?_, ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c)))⟩) (run_main m g (ok m))
  refine ((h c).2 main_v2 (show main_v2 ∈ Pipeline.restRefs sig spec0 by decide)).trans ?_
  unfold Pipeline.afterTail
  simp only [List.flatten_cons, List.flatten_nil, List.append_nil]
  after_results
  refine Eq.trans ?_ (rows m c)
  exact congrArg (fun X : FVec Ideal S1024x1484 .f32 => extractStridedSlice S512x1484 ![0, 0] X facts.slices_S1024x1484_S512x1484_0_0) (Pipeline.withArrays_arr spec0 (by decide) c (V0 m c) (fun w => (dats m (ok m) 0 c).arrAt w (cfgM m (ok m)).N) 2)

/-- Kernel and reference leave the same arrays. -/
theorem values : Cert.algebraic_Kernel33Ideal_Reference33Ideal (hKernel33Ideal := Cert.Kernel33Ideal.Gen.facts) (hReference33Ideal := Cert.Reference33Ideal.Gen.facts) := by
  intro m g m' g' _ hm
  refine ⟨fun c => REF0 (m ((c : Thread nD τ).loc main_arg0)) (m ((c : Thread nD τ).loc main_arg1)), run m g, ?_⟩
  refine (θ_run _ _ _).mono (fun r h c => ?_) (Cert.Reference33Ideal.Value.run m' g')
  obtain ⟨h0, hargs⟩ := h c
  obtain ⟨e0, e1⟩ := hm c
  refine ⟨h0.trans ?_, hargs⟩
  rw [e0, e1]

theorem frame_reference : Cert.quiescent_Reference33Ideal (hReference33Ideal := Cert.Reference33Ideal.Gen.facts) := fun m ρ _ =>
  (θ_run _ _ _).mono (fun r h => ⟨fun c => (h c).2, Cert.Common.no_counters (fun s => s.elim0) (fun s => s.elim0) _⟩) (Cert.Reference33Ideal.Value.run m ρ)

theorem frame_ideal : Cert.quiescent_Kernel33Ideal (hKernel33Ideal := Cert.Kernel33Ideal.Gen.facts) := fun m ρ _ => Cert.Kernel33Ideal.Gen.frame m ρ (ok m)

end Cert.Kernel33Ideal.Stage

end
-- ==== Proof.Stage34.lean ====
module

public import proofs.«01_k».proof.Defs
public import proofs.«01_k».proof.Proof.Gen.Kernel34
public import proofs.«01_k».proof.Proof.Gen.Kernel34.Frame
public import proofs.«01_k».proof.Proof.Gen.Kernel34Ideal
public import proofs.«01_k».proof.Proof.Gen.Kernel34Ideal.Frame
public import proofs.«01_k».proof.Proof.Gen.Reference34Ideal.Run
public import proofs.«01_k».proof.Proof.Common
public import Idealize.ShloMosaic.Lib.Pipeline.ReadBack
public import Idealize.ShloMosaic.Lib.Pipeline.ValueKit

@[expose] public section

/-! The sum of the rows of four chips, a block of rows at a point, written to the core's half of the array. -/

set_option maxRecDepth 16384

noncomputable section

namespace Cert.Kernel34.Stage

open Idealize.ShloMosaic Idealize.ShloMosaic.TcCoe Idealize.SL.Sem Idealize.ShloMosaic.Tactic
open Cert.Kernel34 Cert.Kernel34.Gen

variable {F : FTy → Type} [FloatOps F]
variable (m : (ℓ : Loc nD τ sig) → Buf (Elt F) ℓ)

/-- The table that the index map reads holds the core's index 0. -/
abbrev zero : pre0.Contents (Elt F) := fun | 0 => fun _ => (0#32 : BitVec 32)

theorem tbl_eq : tbl m = zero := by
  funext j
  fin_cases j
  show StableHlo.after (List.flatten [hostOps0]) (fun b => m ((0 : Dev nD), b)) (Proc.devRef .tc main_v0) = fun _ => (0#32 : BitVec 32)
  simp only [List.flatten_cons, List.flatten_nil, List.append_nil]
  after_results
  funext i
  rfl

theorem map_zero (i : grid0.Coords) : cc0_transform_2 (F := F) facts.inb_S1_S1_0 facts.numel1_S1 zero i = ![(i 0).val, 0] := by
  have hz : (zero (F := F)).at 0 (Rect.unit (s := S1) ![0] S1.size facts.inb_S1_S1_0) facts.numel1_S1 = (0#32 : BitVec 32) := rfl
  have hk : ∀ k : Fin 1, (Scalar.addi (Scalar.muli (0#32 : BitVec 32) 1#32) (BitVec.ofNat 32 k.val)).toNat = k.val := by decide
  unfold cc0_transform_2
  simp only [hz]
  exact congrArg (fun n => ![n, 0]) (hk (i 0))

theorem ok_zero : ok0 (F := F) zero := by
  intro i
  rw [map_zero]
  refine ⟨?_, Or.inl rfl⟩
  revert i
  decide +kernel

theorem ok : Ok m := by
  show ok0 (tbl m)
  rw [tbl_eq]
  exact ok_zero

theorem frame_kernel : Cert.quiescent_Kernel34 (hKernel34 := Cert.Kernel34.Gen.facts) := fun m ρ _ => Cert.Kernel34.Gen.frame m ρ (ok m)

end Cert.Kernel34.Stage

namespace Cert.Kernel34Ideal.Stage

open Idealize.ShloMosaic Idealize.ShloMosaic.TcCoe Idealize.SL.Sem Idealize.ShloMosaic.Tactic
open Cert.Kernel34Ideal Cert.Kernel34Ideal.Gen

section
variable {F : FTy → Type} [FloatOps F]
variable (m : (ℓ : Loc nD τ sig) → Buf (Elt F) ℓ)

/-- The table that the index map reads holds the core's index 0. -/
abbrev zero : pre0.Contents (Elt F) := fun | 0 => fun _ => (0#32 : BitVec 32)

theorem tbl_eq : tbl m = zero := by
  funext j
  fin_cases j
  show StableHlo.after (List.flatten [hostOps0]) (fun b => m ((0 : Dev nD), b)) (Proc.devRef .tc main_v0) = fun _ => (0#32 : BitVec 32)
  simp only [List.flatten_cons, List.flatten_nil, List.append_nil]
  after_results
  funext i
  rfl

theorem map_zero (i : grid0.Coords) : cc0_transform_2 (F := F) facts.inb_S1_S1_0 facts.numel1_S1 zero i = ![(i 0).val, 0] := by
  have hz : (zero (F := F)).at 0 (Rect.unit (s := S1) ![0] S1.size facts.inb_S1_S1_0) facts.numel1_S1 = (0#32 : BitVec 32) := rfl
  have hk : ∀ k : Fin 1, (Scalar.addi (Scalar.muli (0#32 : BitVec 32) 1#32) (BitVec.ofNat 32 k.val)).toNat = k.val := by decide
  unfold cc0_transform_2
  simp only [hz]
  exact congrArg (fun n => ![n, 0]) (hk (i 0))

theorem ok_zero : ok0 (F := F) zero := by
  intro i
  rw [map_zero]
  refine ⟨?_, Or.inl rfl⟩
  revert i
  decide +kernel

theorem ok : Ok m := by
  show ok0 (tbl m)
  rw [tbl_eq]
  exact ok_zero

/-- The configuration at the table that the region finds. -/
theorem cfg_eq : adm m (ok m) = ⟨zero, ok_zero⟩ := Subtype.ext (tbl_eq m)

/-- The block that point `t` takes of every array. -/
theorem idx (a : (pcfg0 (F := F)).Adm) (ha : a = ⟨zero, ok_zero⟩) (t : Fin (cfg0 a).N) :
    ((cfg0 a).win 0).index t = ![t.val, 0] ∧ ((cfg0 a).win 1).index t = ![0, t.val, 0] ∧ ((cfg0 a).win 2).index t = ![t.val, 0] := by
  subst ha
  have hc : ∀ t : Fin grid0.N, (grid0.coords t 0).val = t.val := by decide +kernel
  refine ⟨?_, ?_, (map_zero _).trans (congrArg (fun n => ![n, 0]) (hc t))⟩
  · revert t
    exact (by decide +kernel : ∀ t : Fin grid0.N, cc0_transform_0 (grid0.coords t) = ![t.val, 0])
  · revert t
    exact (by decide +kernel : ∀ t : Fin grid0.N, cc0_transform_1 (grid0.coords t) = ![0, t.val, 0])

theorem covers (a : (pcfg0 (F := Ideal)).Adm) (ha : a = ⟨zero, ok_zero⟩) :
    ((cfg0 a).win 2).CoversWhere (fun β => β (0 : Fin 2) < 1) := by
  subst ha
  decide +kernel
end

variable (m : (ℓ : Loc nD τ sig) → Buf (Elt Ideal) ℓ)

abbrev REF0 (x0 : FVec Ideal S256x256 .f32) (x1 : FVec Ideal S3x256x256 .bf16) : FVec Ideal S256x256 .f32 :=
  addf x0 (Host.reduceAdd (extf .f32 x1 Cert.Reference34Ideal.Gen.facts.bitsLt_bf16_f32) (constant Cert.Reference34Ideal.S_ .f32 0x00000000#32) Cert.Reference34Ideal.Gen.facts.reducesTo_S3x256x256_S256x256_d0 Cert.Reference34Ideal.Gen.facts.h_S_)

/-- A row of the result from a row of the array that the blocks lie in. -/
def cut (i : S512x256.Idx) : S256x256.Idx := fun a =>
  match a with
  | ⟨0, _⟩ => ⟨(i 0).val % 256, Nat.mod_lt _ (by decide)⟩
  | ⟨1, _⟩ => i 1

theorem pay_at (x0 : Vec Ideal S256x256 .f32) (x1 : Vec Ideal S3x256x256 .bf16) (j : S256x256.Idx) :
    k0_pay1 x0 (View.ld x1 (Rect.unit ![0, 0, 0] ![1, 256, 256] facts.inb_S3x256x256_S1x256x256_0_0_0)) (View.ld x1 (Rect.unit ![1, 0, 0] ![1, 256, 256] facts.inb_S3x256x256_S1x256x256_1_0_0)) (View.ld x1 (Rect.unit ![2, 0, 0] ![1, 256, 256] facts.inb_S3x256x256_S1x256x256_2_0_0)) j = x0 j + ∑ k : Fin 3, x1 (ix3 k (j 0) (j 1)) := by
  pointwise [k0_pay1]
  rw [Fin.sum_univ_three, ← add_assoc, ← add_assoc]

theorem ref_at (x0 : FVec Ideal S256x256 .f32) (x1 : FVec Ideal S3x256x256 .bf16) (j : S256x256.Idx) : REF0 x0 x1 j = x0 j + ∑ k : Fin 3, x1 (ix3 k (j 0) (j 1)) := by
  pointwise [REF0]

theorem blk0 (c : Dev nD) (t : Fin (cfgM m (ok m)).N) (y : S256x256.Idx) :
    iblk m (ok m) c 0 t y = m ((c : Thread nD τ).loc main_arg0) (cut ((((cfgM m (ok m)).win 2).blk t).view.emb y)) := by
  refine (congrFun (V_main_arg0 m c) _).trans ?_
  congr 1
  obtain ⟨h0, -, h2⟩ := idx _ (cfg_eq m) t
  have ht : t.val < 1 := t.isLt
  have hy0 : (y 0).val < 256 := (y 0).isLt
  funext a
  apply Fin.ext
  match a with
  | ⟨0, _⟩ =>
    show ((cfgM m (ok m)).win 0).index t (0 : Fin 2) * 256 + 1 * (y 0).val = (((cfgM m (ok m)).win 2).index t (0 : Fin 2) * 256 + 1 * (y 0).val) % 256
    rw [h0, h2]
    show t.val * 256 + 1 * (y 0).val = (t.val * 256 + 1 * (y 0).val) % 256
    omega
  | ⟨1, _⟩ =>
    show ((cfgM m (ok m)).win 0).index t (1 : Fin 2) * 256 + 1 * (y 1).val = ((cfgM m (ok m)).win 2).index t (1 : Fin 2) * 256 + 1 * (y 1).val
    rw [h0, h2]

theorem blk1 (c : Dev nD) (t : Fin (cfgM m (ok m)).N) (y : S256x256.Idx) (k : Fin 3) :
    iblk m (ok m) c 1 t (ix3 k (y 0) (y 1)) = m ((c : Thread nD τ).loc main_arg1) (ix3 k (cut ((((cfgM m (ok m)).win 2).blk t).view.emb y) 0) (cut ((((cfgM m (ok m)).win 2).blk t).view.emb y) 1)) := by
  refine (congrFun (V_main_arg1 m c) _).trans ?_
  congr 1
  obtain ⟨-, h1, h2⟩ := idx _ (cfg_eq m) t
  have ht : t.val < 1 := t.isLt
  have hy0 : (y 0).val < 256 := (y 0).isLt
  funext a
  apply Fin.ext
  match a with
  | ⟨0, _⟩ =>
    show ((cfgM m (ok m)).win 1).index t (0 : Fin 3) * 3 + 1 * k.val = k.val
    rw [h1]
    show 0 * 3 + 1 * k.val = k.val
    omega
  | ⟨1, _⟩ =>
    show ((cfgM m (ok m)).win 1).index t (1 : Fin 3) * 256 + 1 * (y 0).val = (((cfgM m (ok m)).win 2).index t (0 : Fin 2) * 256 + 1 * (y 0).val) % 256
    rw [h1, h2]
    show t.val * 256 + 1 * (y 0).val = (t.val * 256 + 1 * (y 0).val) % 256
    omega
  | ⟨2, _⟩ =>
    show ((cfgM m (ok m)).win 1).index t (2 : Fin 3) * 256 + 1 * (y 1).val = ((cfgM m (ok m)).win 2).index t (1 : Fin 2) * 256 + 1 * (y 1).val
    rw [h1, h2]
    rfl

/-- The array that the blocks lie in, after the run. -/
abbrev out (c : Dev nD) : FVec Ideal S512x256 .f32 := (dats m (ok m) 0 c).arrAt 2 (cfgM m (ok m)).N

theorem final0 (c : Dev nD) (i : S512x256.Idx) : out m c i = if (i 0).val / 256 < 1 then REF0 (m ((c : Thread nD τ).loc main_arg0)) (m ((c : Thread nD τ).loc main_arg1)) (cut i) else m ((c : Thread nD τ).loc main_v1) i := by
  refine ((dats m (ok m) 0 c).arrAt_apply_of_coversWhere 2 (fun i : S512x256.Idx => REF0 (m ((c : Thread nD τ).loc main_arg0)) (m ((c : Thread nD τ).loc main_arg1)) (cut i)) (P := fun i : S512x256.Idx => (i 0).val / 256 < 1) (fun β => β (0 : Fin 2) < 1) (covers _ (cfg_eq m)) (fun t hf y => ?_) (fun j => Iff.rfl) i).trans ?_
  · rw [after0_2]
    unfold outsAt0 out0_A_2
    blk_simp
    frame_out
    exact (pay_at _ _ y).trans ((congrArg₂ (· + ·) ((congrFun ((hs0_0 m (ok m) t).read_unread _) y).trans (blk0 m c t y))
      (Finset.sum_congr rfl fun k _ => (congrFun ((hs0_1 m (ok m) t).read_unread _) _).trans (blk1 m c t y k))).trans (ref_at _ _ _).symm)
  · rfl

/-- The result's rows are those that the blocks cover. -/
theorem rows (c : Dev nD) : extractStridedSlice S256x256 ![0, 0] (out m c) facts.slices_S512x256_S256x256_0_0 = REF0 (m ((c : Thread nD τ).loc main_arg0)) (m ((c : Thread nD τ).loc main_arg1)) := by
  funext j
  have hj0 : (j 0).val < 256 := (j 0).isLt
  generalize hX : REF0 (m ((c : Thread nD τ).loc main_arg0)) (m ((c : Thread nD τ).loc main_arg1)) = X
  pointwise
  refine (final0 m c _).trans ?_
  rw [hX]
  refine (if_pos (show (j 0).val / 256 < 1 by omega)).trans ?_
  refine congrArg X (funext fun a => Fin.ext ?_)
  match a with
  | ⟨0, _⟩ => exact Nat.mod_eq_of_lt hj0
  | ⟨1, _⟩ => rfl

theorem run (g : Dev nD → PrngReg) : θ_run defs (onTc (τ := τ) (main (F := Ideal))) ⟨m, fun _ => 0, g⟩ fun r => ∀ c : Dev nD,
      r.2.mem ((c : Thread nD τ).loc main_v2) = REF0 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨?_, ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c)))⟩) (run_main m g (ok m))
  refine ((h c).2 main_v2 (show main_v2 ∈ Pipeline.restRefs sig spec0 by decide)).trans ?_
  unfold Pipeline.afterTail
  simp only [List.flatten_cons, List.flatten_nil, List.append_nil]
  after_results
  refine Eq.trans ?_ (rows m c)
  exact congrArg (fun X : FVec Ideal S512x256 .f32 => extractStridedSlice S256x256 ![0, 0] X facts.slices_S512x256_S256x256_0_0) (Pipeline.withArrays_arr spec0 (by decide) c (V0 m c) (fun w => (dats m (ok m) 0 c).arrAt w (cfgM m (ok m)).N) 2)

/-- Kernel and reference leave the same arrays. -/
theorem values : Cert.algebraic_Kernel34Ideal_Reference34Ideal (hKernel34Ideal := Cert.Kernel34Ideal.Gen.facts) (hReference34Ideal := Cert.Reference34Ideal.Gen.facts) := by
  intro m g m' g' _ hm
  refine ⟨fun c => REF0 (m ((c : Thread nD τ).loc main_arg0)) (m ((c : Thread nD τ).loc main_arg1)), run m g, ?_⟩
  refine (θ_run _ _ _).mono (fun r h c => ?_) (Cert.Reference34Ideal.Value.run m' g')
  obtain ⟨h0, hargs⟩ := h c
  obtain ⟨e0, e1⟩ := hm c
  refine ⟨h0.trans ?_, hargs⟩
  rw [e0, e1]

theorem frame_reference : Cert.quiescent_Reference34Ideal (hReference34Ideal := Cert.Reference34Ideal.Gen.facts) := fun m ρ _ =>
  (θ_run _ _ _).mono (fun r h => ⟨fun c => (h c).2, Cert.Common.no_counters (fun s => s.elim0) (fun s => s.elim0) _⟩) (Cert.Reference34Ideal.Value.run m ρ)

theorem frame_ideal : Cert.quiescent_Kernel34Ideal (hKernel34Ideal := Cert.Kernel34Ideal.Gen.facts) := fun m ρ _ => Cert.Kernel34Ideal.Gen.frame m ρ (ok m)

end Cert.Kernel34Ideal.Stage

end
-- ==== Proof.Stage35.lean ====
module

public import proofs.«01_k».proof.Defs
public import proofs.«01_k».proof.Proof.Gen.Kernel35
public import proofs.«01_k».proof.Proof.Gen.Kernel35.Frame
public import proofs.«01_k».proof.Proof.Gen.Kernel35Ideal
public import proofs.«01_k».proof.Proof.Gen.Kernel35Ideal.Frame
public import proofs.«01_k».proof.Proof.Gen.Reference35Ideal.Run
public import proofs.«01_k».proof.Proof.Common
public import Idealize.ShloMosaic.Lib.Pipeline.ReadBack
public import Idealize.ShloMosaic.Lib.Pipeline.ValueKit

@[expose] public section

/-! The sum of the rows of four chips, a block of rows at a point, written to the core's half of the array. -/

set_option maxRecDepth 16384

noncomputable section

namespace Cert.Kernel35.Stage

open Idealize.ShloMosaic Idealize.ShloMosaic.TcCoe Idealize.SL.Sem Idealize.ShloMosaic.Tactic
open Cert.Kernel35 Cert.Kernel35.Gen

variable {F : FTy → Type} [FloatOps F]
variable (m : (ℓ : Loc nD τ sig) → Buf (Elt F) ℓ)

/-- The table that the index map reads holds the core's index 0. -/
abbrev zero : pre0.Contents (Elt F) := fun | 0 => fun _ => (0#32 : BitVec 32)

theorem tbl_eq : tbl m = zero := by
  funext j
  fin_cases j
  show StableHlo.after (List.flatten [hostOps0]) (fun b => m ((0 : Dev nD), b)) (Proc.devRef .tc main_v0) = fun _ => (0#32 : BitVec 32)
  simp only [List.flatten_cons, List.flatten_nil, List.append_nil]
  after_results
  funext i
  rfl

theorem map_zero (i : grid0.Coords) : cc0_transform_2 (F := F) facts.inb_S1_S1_0 facts.numel1_S1 zero i = ![(i 0).val, 0] := by
  have hz : (zero (F := F)).at 0 (Rect.unit (s := S1) ![0] S1.size facts.inb_S1_S1_0) facts.numel1_S1 = (0#32 : BitVec 32) := rfl
  have hk : ∀ k : Fin 1, (Scalar.addi (Scalar.muli (0#32 : BitVec 32) 1#32) (BitVec.ofNat 32 k.val)).toNat = k.val := by decide
  unfold cc0_transform_2
  simp only [hz]
  exact congrArg (fun n => ![n, 0]) (hk (i 0))

theorem ok_zero : ok0 (F := F) zero := by
  intro i
  rw [map_zero]
  refine ⟨?_, Or.inl rfl⟩
  revert i
  decide +kernel

theorem ok : Ok m := by
  show ok0 (tbl m)
  rw [tbl_eq]
  exact ok_zero

theorem frame_kernel : Cert.quiescent_Kernel35 (hKernel35 := Cert.Kernel35.Gen.facts) := fun m ρ _ => Cert.Kernel35.Gen.frame m ρ (ok m)

end Cert.Kernel35.Stage

namespace Cert.Kernel35Ideal.Stage

open Idealize.ShloMosaic Idealize.ShloMosaic.TcCoe Idealize.SL.Sem Idealize.ShloMosaic.Tactic
open Cert.Kernel35Ideal Cert.Kernel35Ideal.Gen

section
variable {F : FTy → Type} [FloatOps F]
variable (m : (ℓ : Loc nD τ sig) → Buf (Elt F) ℓ)

/-- The table that the index map reads holds the core's index 0. -/
abbrev zero : pre0.Contents (Elt F) := fun | 0 => fun _ => (0#32 : BitVec 32)

theorem tbl_eq : tbl m = zero := by
  funext j
  fin_cases j
  show StableHlo.after (List.flatten [hostOps0]) (fun b => m ((0 : Dev nD), b)) (Proc.devRef .tc main_v0) = fun _ => (0#32 : BitVec 32)
  simp only [List.flatten_cons, List.flatten_nil, List.append_nil]
  after_results
  funext i
  rfl

theorem map_zero (i : grid0.Coords) : cc0_transform_2 (F := F) facts.inb_S1_S1_0 facts.numel1_S1 zero i = ![(i 0).val, 0] := by
  have hz : (zero (F := F)).at 0 (Rect.unit (s := S1) ![0] S1.size facts.inb_S1_S1_0) facts.numel1_S1 = (0#32 : BitVec 32) := rfl
  have hk : ∀ k : Fin 1, (Scalar.addi (Scalar.muli (0#32 : BitVec 32) 1#32) (BitVec.ofNat 32 k.val)).toNat = k.val := by decide
  unfold cc0_transform_2
  simp only [hz]
  exact congrArg (fun n => ![n, 0]) (hk (i 0))

theorem ok_zero : ok0 (F := F) zero := by
  intro i
  rw [map_zero]
  refine ⟨?_, Or.inl rfl⟩
  revert i
  decide +kernel

theorem ok : Ok m := by
  show ok0 (tbl m)
  rw [tbl_eq]
  exact ok_zero

/-- The configuration at the table that the region finds. -/
theorem cfg_eq : adm m (ok m) = ⟨zero, ok_zero⟩ := Subtype.ext (tbl_eq m)

/-- The block that point `t` takes of every array. -/
theorem idx (a : (pcfg0 (F := F)).Adm) (ha : a = ⟨zero, ok_zero⟩) (t : Fin (cfg0 a).N) :
    ((cfg0 a).win 0).index t = ![t.val, 0] ∧ ((cfg0 a).win 1).index t = ![0, t.val, 0] ∧ ((cfg0 a).win 2).index t = ![t.val, 0] := by
  subst ha
  have hc : ∀ t : Fin grid0.N, (grid0.coords t 0).val = t.val := by decide +kernel
  refine ⟨?_, ?_, (map_zero _).trans (congrArg (fun n => ![n, 0]) (hc t))⟩
  · revert t
    exact (by decide +kernel : ∀ t : Fin grid0.N, cc0_transform_0 (grid0.coords t) = ![t.val, 0])
  · revert t
    exact (by decide +kernel : ∀ t : Fin grid0.N, cc0_transform_1 (grid0.coords t) = ![0, t.val, 0])

theorem covers (a : (pcfg0 (F := Ideal)).Adm) (ha : a = ⟨zero, ok_zero⟩) :
    ((cfg0 a).win 2).CoversWhere (fun β => β (0 : Fin 2) < 1) := by
  subst ha
  decide +kernel
end

variable (m : (ℓ : Loc nD τ sig) → Buf (Elt Ideal) ℓ)

abbrev REF0 (x0 : FVec Ideal S128x1024 .f32) (x1 : FVec Ideal S3x128x1024 .bf16) : FVec Ideal S128x1024 .f32 :=
  addf x0 (Host.reduceAdd (extf .f32 x1 Cert.Reference35Ideal.Gen.facts.bitsLt_bf16_f32) (constant Cert.Reference35Ideal.S_ .f32 0x00000000#32) Cert.Reference35Ideal.Gen.facts.reducesTo_S3x128x1024_S128x1024_d0 Cert.Reference35Ideal.Gen.facts.h_S_)

/-- A row of the result from a row of the array that the blocks lie in. -/
def cut (i : S256x1024.Idx) : S128x1024.Idx := fun a =>
  match a with
  | ⟨0, _⟩ => ⟨(i 0).val % 128, Nat.mod_lt _ (by decide)⟩
  | ⟨1, _⟩ => i 1

theorem pay_at (x0 : Vec Ideal S128x1024 .f32) (x1 : Vec Ideal S3x128x1024 .bf16) (j : S128x1024.Idx) :
    k0_pay1 x0 (View.ld x1 (Rect.unit ![0, 0, 0] ![1, 128, 1024] facts.inb_S3x128x1024_S1x128x1024_0_0_0)) (View.ld x1 (Rect.unit ![1, 0, 0] ![1, 128, 1024] facts.inb_S3x128x1024_S1x128x1024_1_0_0)) (View.ld x1 (Rect.unit ![2, 0, 0] ![1, 128, 1024] facts.inb_S3x128x1024_S1x128x1024_2_0_0)) j = x0 j + ∑ k : Fin 3, x1 (ix3 k (j 0) (j 1)) := by
  pointwise [k0_pay1]
  rw [Fin.sum_univ_three, ← add_assoc, ← add_assoc]

theorem ref_at (x0 : FVec Ideal S128x1024 .f32) (x1 : FVec Ideal S3x128x1024 .bf16) (j : S128x1024.Idx) : REF0 x0 x1 j = x0 j + ∑ k : Fin 3, x1 (ix3 k (j 0) (j 1)) := by
  pointwise [REF0]

theorem blk0 (c : Dev nD) (t : Fin (cfgM m (ok m)).N) (y : S128x1024.Idx) :
    iblk m (ok m) c 0 t y = m ((c : Thread nD τ).loc main_arg0) (cut ((((cfgM m (ok m)).win 2).blk t).view.emb y)) := by
  refine (congrFun (V_main_arg0 m c) _).trans ?_
  congr 1
  obtain ⟨h0, -, h2⟩ := idx _ (cfg_eq m) t
  have ht : t.val < 1 := t.isLt
  have hy0 : (y 0).val < 128 := (y 0).isLt
  funext a
  apply Fin.ext
  match a with
  | ⟨0, _⟩ =>
    show ((cfgM m (ok m)).win 0).index t (0 : Fin 2) * 128 + 1 * (y 0).val = (((cfgM m (ok m)).win 2).index t (0 : Fin 2) * 128 + 1 * (y 0).val) % 128
    rw [h0, h2]
    show t.val * 128 + 1 * (y 0).val = (t.val * 128 + 1 * (y 0).val) % 128
    omega
  | ⟨1, _⟩ =>
    show ((cfgM m (ok m)).win 0).index t (1 : Fin 2) * 1024 + 1 * (y 1).val = ((cfgM m (ok m)).win 2).index t (1 : Fin 2) * 1024 + 1 * (y 1).val
    rw [h0, h2]

theorem blk1 (c : Dev nD) (t : Fin (cfgM m (ok m)).N) (y : S128x1024.Idx) (k : Fin 3) :
    iblk m (ok m) c 1 t (ix3 k (y 0) (y 1)) = m ((c : Thread nD τ).loc main_arg1) (ix3 k (cut ((((cfgM m (ok m)).win 2).blk t).view.emb y) 0) (cut ((((cfgM m (ok m)).win 2).blk t).view.emb y) 1)) := by
  refine (congrFun (V_main_arg1 m c) _).trans ?_
  congr 1
  obtain ⟨-, h1, h2⟩ := idx _ (cfg_eq m) t
  have ht : t.val < 1 := t.isLt
  have hy0 : (y 0).val < 128 := (y 0).isLt
  funext a
  apply Fin.ext
  match a with
  | ⟨0, _⟩ =>
    show ((cfgM m (ok m)).win 1).index t (0 : Fin 3) * 3 + 1 * k.val = k.val
    rw [h1]
    show 0 * 3 + 1 * k.val = k.val
    omega
  | ⟨1, _⟩ =>
    show ((cfgM m (ok m)).win 1).index t (1 : Fin 3) * 128 + 1 * (y 0).val = (((cfgM m (ok m)).win 2).index t (0 : Fin 2) * 128 + 1 * (y 0).val) % 128
    rw [h1, h2]
    show t.val * 128 + 1 * (y 0).val = (t.val * 128 + 1 * (y 0).val) % 128
    omega
  | ⟨2, _⟩ =>
    show ((cfgM m (ok m)).win 1).index t (2 : Fin 3) * 1024 + 1 * (y 1).val = ((cfgM m (ok m)).win 2).index t (1 : Fin 2) * 1024 + 1 * (y 1).val
    rw [h1, h2]
    rfl

/-- The array that the blocks lie in, after the run. -/
abbrev out (c : Dev nD) : FVec Ideal S256x1024 .f32 := (dats m (ok m) 0 c).arrAt 2 (cfgM m (ok m)).N

theorem final0 (c : Dev nD) (i : S256x1024.Idx) : out m c i = if (i 0).val / 128 < 1 then REF0 (m ((c : Thread nD τ).loc main_arg0)) (m ((c : Thread nD τ).loc main_arg1)) (cut i) else m ((c : Thread nD τ).loc main_v1) i := by
  refine ((dats m (ok m) 0 c).arrAt_apply_of_coversWhere 2 (fun i : S256x1024.Idx => REF0 (m ((c : Thread nD τ).loc main_arg0)) (m ((c : Thread nD τ).loc main_arg1)) (cut i)) (P := fun i : S256x1024.Idx => (i 0).val / 128 < 1) (fun β => β (0 : Fin 2) < 1) (covers _ (cfg_eq m)) (fun t hf y => ?_) (fun j => Iff.rfl) i).trans ?_
  · rw [after0_2]
    unfold outsAt0 out0_A_2
    blk_simp
    frame_out
    exact (pay_at _ _ y).trans ((congrArg₂ (· + ·) ((congrFun ((hs0_0 m (ok m) t).read_unread _) y).trans (blk0 m c t y))
      (Finset.sum_congr rfl fun k _ => (congrFun ((hs0_1 m (ok m) t).read_unread _) _).trans (blk1 m c t y k))).trans (ref_at _ _ _).symm)
  · rfl

/-- The result's rows are those that the blocks cover. -/
theorem rows (c : Dev nD) : extractStridedSlice S128x1024 ![0, 0] (out m c) facts.slices_S256x1024_S128x1024_0_0 = REF0 (m ((c : Thread nD τ).loc main_arg0)) (m ((c : Thread nD τ).loc main_arg1)) := by
  funext j
  have hj0 : (j 0).val < 128 := (j 0).isLt
  generalize hX : REF0 (m ((c : Thread nD τ).loc main_arg0)) (m ((c : Thread nD τ).loc main_arg1)) = X
  pointwise
  refine (final0 m c _).trans ?_
  rw [hX]
  refine (if_pos (show (j 0).val / 128 < 1 by omega)).trans ?_
  refine congrArg X (funext fun a => Fin.ext ?_)
  match a with
  | ⟨0, _⟩ => exact Nat.mod_eq_of_lt hj0
  | ⟨1, _⟩ => rfl

theorem run (g : Dev nD → PrngReg) : θ_run defs (onTc (τ := τ) (main (F := Ideal))) ⟨m, fun _ => 0, g⟩ fun r => ∀ c : Dev nD,
      r.2.mem ((c : Thread nD τ).loc main_v2) = REF0 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨?_, ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c)))⟩) (run_main m g (ok m))
  refine ((h c).2 main_v2 (show main_v2 ∈ Pipeline.restRefs sig spec0 by decide)).trans ?_
  unfold Pipeline.afterTail
  simp only [List.flatten_cons, List.flatten_nil, List.append_nil]
  after_results
  refine Eq.trans ?_ (rows m c)
  exact congrArg (fun X : FVec Ideal S256x1024 .f32 => extractStridedSlice S128x1024 ![0, 0] X facts.slices_S256x1024_S128x1024_0_0) (Pipeline.withArrays_arr spec0 (by decide) c (V0 m c) (fun w => (dats m (ok m) 0 c).arrAt w (cfgM m (ok m)).N) 2)

/-- Kernel and reference leave the same arrays. -/
theorem values : Cert.algebraic_Kernel35Ideal_Reference35Ideal (hKernel35Ideal := Cert.Kernel35Ideal.Gen.facts) (hReference35Ideal := Cert.Reference35Ideal.Gen.facts) := by
  intro m g m' g' _ hm
  refine ⟨fun c => REF0 (m ((c : Thread nD τ).loc main_arg0)) (m ((c : Thread nD τ).loc main_arg1)), run m g, ?_⟩
  refine (θ_run _ _ _).mono (fun r h c => ?_) (Cert.Reference35Ideal.Value.run m' g')
  obtain ⟨h0, hargs⟩ := h c
  obtain ⟨e0, e1⟩ := hm c
  refine ⟨h0.trans ?_, hargs⟩
  rw [e0, e1]

theorem frame_reference : Cert.quiescent_Reference35Ideal (hReference35Ideal := Cert.Reference35Ideal.Gen.facts) := fun m ρ _ =>
  (θ_run _ _ _).mono (fun r h => ⟨fun c => (h c).2, Cert.Common.no_counters (fun s => s.elim0) (fun s => s.elim0) _⟩) (Cert.Reference35Ideal.Value.run m ρ)

theorem frame_ideal : Cert.quiescent_Kernel35Ideal (hKernel35Ideal := Cert.Kernel35Ideal.Gen.facts) := fun m ρ _ => Cert.Kernel35Ideal.Gen.frame m ρ (ok m)

end Cert.Kernel35Ideal.Stage

end
-- ==== Proof.Stage36.lean ====
module

public import proofs.«01_k».proof.Defs
public import proofs.«01_k».proof.Proof.Gen.Kernel36
public import proofs.«01_k».proof.Proof.Gen.Kernel36.Frame
public import proofs.«01_k».proof.Proof.Gen.Kernel36Ideal
public import proofs.«01_k».proof.Proof.Gen.Kernel36Ideal.Frame
public import proofs.«01_k».proof.Proof.Gen.Reference36Ideal.Run
public import proofs.«01_k».proof.Proof.Common
public import Idealize.ShloMosaic.Lib.Pipeline.ReadBack
public import Idealize.ShloMosaic.Lib.Pipeline.ValueKit

@[expose] public section

/-! The sum of the rows of four chips, a block of rows at a point, written to the core's half of the array. -/

set_option maxRecDepth 16384

noncomputable section

namespace Cert.Kernel36.Stage

open Idealize.ShloMosaic Idealize.ShloMosaic.TcCoe Idealize.SL.Sem Idealize.ShloMosaic.Tactic
open Cert.Kernel36 Cert.Kernel36.Gen

variable {F : FTy → Type} [FloatOps F]
variable (m : (ℓ : Loc nD τ sig) → Buf (Elt F) ℓ)

/-- The table that the index map reads holds the core's index 0. -/
abbrev zero : pre0.Contents (Elt F) := fun | 0 => fun _ => (0#32 : BitVec 32)

theorem tbl_eq : tbl m = zero := by
  funext j
  fin_cases j
  show StableHlo.after (List.flatten [hostOps0]) (fun b => m ((0 : Dev nD), b)) (Proc.devRef .tc main_v0) = fun _ => (0#32 : BitVec 32)
  simp only [List.flatten_cons, List.flatten_nil, List.append_nil]
  after_results
  funext i
  rfl

theorem map_zero (i : grid0.Coords) : cc0_transform_2 (F := F) facts.inb_S1_S1_0 facts.numel1_S1 zero i = ![(i 0).val, 0] := by
  have hz : (zero (F := F)).at 0 (Rect.unit (s := S1) ![0] S1.size facts.inb_S1_S1_0) facts.numel1_S1 = (0#32 : BitVec 32) := rfl
  have hk : ∀ k : Fin 2, (Scalar.addi (Scalar.muli (0#32 : BitVec 32) 2#32) (BitVec.ofNat 32 k.val)).toNat = k.val := by decide
  unfold cc0_transform_2
  simp only [hz]
  exact congrArg (fun n => ![n, 0]) (hk (i 0))

theorem ok_zero : ok0 (F := F) zero := by
  intro i
  rw [map_zero]
  refine ⟨?_, Or.inl rfl⟩
  revert i
  decide +kernel

theorem ok : Ok m := by
  show ok0 (tbl m)
  rw [tbl_eq]
  exact ok_zero

theorem frame_kernel : Cert.quiescent_Kernel36 (hKernel36 := Cert.Kernel36.Gen.facts) := fun m ρ _ => Cert.Kernel36.Gen.frame m ρ (ok m)

end Cert.Kernel36.Stage

namespace Cert.Kernel36Ideal.Stage

open Idealize.ShloMosaic Idealize.ShloMosaic.TcCoe Idealize.SL.Sem Idealize.ShloMosaic.Tactic
open Cert.Kernel36Ideal Cert.Kernel36Ideal.Gen

section
variable {F : FTy → Type} [FloatOps F]
variable (m : (ℓ : Loc nD τ sig) → Buf (Elt F) ℓ)

/-- The table that the index map reads holds the core's index 0. -/
abbrev zero : pre0.Contents (Elt F) := fun | 0 => fun _ => (0#32 : BitVec 32)

theorem tbl_eq : tbl m = zero := by
  funext j
  fin_cases j
  show StableHlo.after (List.flatten [hostOps0]) (fun b => m ((0 : Dev nD), b)) (Proc.devRef .tc main_v0) = fun _ => (0#32 : BitVec 32)
  simp only [List.flatten_cons, List.flatten_nil, List.append_nil]
  after_results
  funext i
  rfl

theorem map_zero (i : grid0.Coords) : cc0_transform_2 (F := F) facts.inb_S1_S1_0 facts.numel1_S1 zero i = ![(i 0).val, 0] := by
  have hz : (zero (F := F)).at 0 (Rect.unit (s := S1) ![0] S1.size facts.inb_S1_S1_0) facts.numel1_S1 = (0#32 : BitVec 32) := rfl
  have hk : ∀ k : Fin 2, (Scalar.addi (Scalar.muli (0#32 : BitVec 32) 2#32) (BitVec.ofNat 32 k.val)).toNat = k.val := by decide
  unfold cc0_transform_2
  simp only [hz]
  exact congrArg (fun n => ![n, 0]) (hk (i 0))

theorem ok_zero : ok0 (F := F) zero := by
  intro i
  rw [map_zero]
  refine ⟨?_, Or.inl rfl⟩
  revert i
  decide +kernel

theorem ok : Ok m := by
  show ok0 (tbl m)
  rw [tbl_eq]
  exact ok_zero

/-- The configuration at the table that the region finds. -/
theorem cfg_eq : adm m (ok m) = ⟨zero, ok_zero⟩ := Subtype.ext (tbl_eq m)

/-- The block that point `t` takes of every array. -/
theorem idx (a : (pcfg0 (F := F)).Adm) (ha : a = ⟨zero, ok_zero⟩) (t : Fin (cfg0 a).N) :
    ((cfg0 a).win 0).index t = ![t.val, 0] ∧ ((cfg0 a).win 1).index t = ![0, t.val, 0] ∧ ((cfg0 a).win 2).index t = ![t.val, 0] := by
  subst ha
  have hc : ∀ t : Fin grid0.N, (grid0.coords t 0).val = t.val := by decide +kernel
  refine ⟨?_, ?_, (map_zero _).trans (congrArg (fun n => ![n, 0]) (hc t))⟩
  · revert t
    exact (by decide +kernel : ∀ t : Fin grid0.N, cc0_transform_0 (grid0.coords t) = ![t.val, 0])
  · revert t
    exact (by decide +kernel : ∀ t : Fin grid0.N, cc0_transform_1 (grid0.coords t) = ![0, t.val, 0])

theorem covers (a : (pcfg0 (F := Ideal)).Adm) (ha : a = ⟨zero, ok_zero⟩) :
    ((cfg0 a).win 2).CoversWhere (fun β => β (0 : Fin 2) < 2) := by
  subst ha
  decide +kernel
end

variable (m : (ℓ : Loc nD τ sig) → Buf (Elt Ideal) ℓ)

abbrev REF0 (x0 : FVec Ideal S512x1408 .f32) (x1 : FVec Ideal S3x512x1408 .bf16) : FVec Ideal S512x1408 .f32 :=
  addf x0 (Host.reduceAdd (extf .f32 x1 Cert.Reference36Ideal.Gen.facts.bitsLt_bf16_f32) (constant Cert.Reference36Ideal.S_ .f32 0x00000000#32) Cert.Reference36Ideal.Gen.facts.reducesTo_S3x512x1408_S512x1408_d0 Cert.Reference36Ideal.Gen.facts.h_S_)

/-- A row of the result from a row of the array that the blocks lie in. -/
def cut (i : S1024x1408.Idx) : S512x1408.Idx := fun a =>
  match a with
  | ⟨0, _⟩ => ⟨(i 0).val % 512, Nat.mod_lt _ (by decide)⟩
  | ⟨1, _⟩ => i 1

theorem pay_at (x0 : Vec Ideal S256x1408 .f32) (x1 : Vec Ideal S3x256x1408 .bf16) (j : S256x1408.Idx) :
    k0_pay1 x0 (View.ld x1 (Rect.unit ![0, 0, 0] ![1, 256, 1408] facts.inb_S3x256x1408_S1x256x1408_0_0_0)) (View.ld x1 (Rect.unit ![1, 0, 0] ![1, 256, 1408] facts.inb_S3x256x1408_S1x256x1408_1_0_0)) (View.ld x1 (Rect.unit ![2, 0, 0] ![1, 256, 1408] facts.inb_S3x256x1408_S1x256x1408_2_0_0)) j = x0 j + ∑ k : Fin 3, x1 (ix3 k (j 0) (j 1)) := by
  pointwise [k0_pay1]
  rw [Fin.sum_univ_three, ← add_assoc, ← add_assoc]

theorem ref_at (x0 : FVec Ideal S512x1408 .f32) (x1 : FVec Ideal S3x512x1408 .bf16) (j : S512x1408.Idx) : REF0 x0 x1 j = x0 j + ∑ k : Fin 3, x1 (ix3 k (j 0) (j 1)) := by
  pointwise [REF0]

theorem blk0 (c : Dev nD) (t : Fin (cfgM m (ok m)).N) (y : S256x1408.Idx) :
    iblk m (ok m) c 0 t y = m ((c : Thread nD τ).loc main_arg0) (cut ((((cfgM m (ok m)).win 2).blk t).view.emb y)) := by
  refine (congrFun (V_main_arg0 m c) _).trans ?_
  congr 1
  obtain ⟨h0, -, h2⟩ := idx _ (cfg_eq m) t
  have ht : t.val < 2 := t.isLt
  have hy0 : (y 0).val < 256 := (y 0).isLt
  funext a
  apply Fin.ext
  match a with
  | ⟨0, _⟩ =>
    show ((cfgM m (ok m)).win 0).index t (0 : Fin 2) * 256 + 1 * (y 0).val = (((cfgM m (ok m)).win 2).index t (0 : Fin 2) * 256 + 1 * (y 0).val) % 512
    rw [h0, h2]
    show t.val * 256 + 1 * (y 0).val = (t.val * 256 + 1 * (y 0).val) % 512
    omega
  | ⟨1, _⟩ =>
    show ((cfgM m (ok m)).win 0).index t (1 : Fin 2) * 1408 + 1 * (y 1).val = ((cfgM m (ok m)).win 2).index t (1 : Fin 2) * 1408 + 1 * (y 1).val
    rw [h0, h2]

theorem blk1 (c : Dev nD) (t : Fin (cfgM m (ok m)).N) (y : S256x1408.Idx) (k : Fin 3) :
    iblk m (ok m) c 1 t (ix3 k (y 0) (y 1)) = m ((c : Thread nD τ).loc main_arg1) (ix3 k (cut ((((cfgM m (ok m)).win 2).blk t).view.emb y) 0) (cut ((((cfgM m (ok m)).win 2).blk t).view.emb y) 1)) := by
  refine (congrFun (V_main_arg1 m c) _).trans ?_
  congr 1
  obtain ⟨-, h1, h2⟩ := idx _ (cfg_eq m) t
  have ht : t.val < 2 := t.isLt
  have hy0 : (y 0).val < 256 := (y 0).isLt
  funext a
  apply Fin.ext
  match a with
  | ⟨0, _⟩ =>
    show ((cfgM m (ok m)).win 1).index t (0 : Fin 3) * 3 + 1 * k.val = k.val
    rw [h1]
    show 0 * 3 + 1 * k.val = k.val
    omega
  | ⟨1, _⟩ =>
    show ((cfgM m (ok m)).win 1).index t (1 : Fin 3) * 256 + 1 * (y 0).val = (((cfgM m (ok m)).win 2).index t (0 : Fin 2) * 256 + 1 * (y 0).val) % 512
    rw [h1, h2]
    show t.val * 256 + 1 * (y 0).val = (t.val * 256 + 1 * (y 0).val) % 512
    omega
  | ⟨2, _⟩ =>
    show ((cfgM m (ok m)).win 1).index t (2 : Fin 3) * 1408 + 1 * (y 1).val = ((cfgM m (ok m)).win 2).index t (1 : Fin 2) * 1408 + 1 * (y 1).val
    rw [h1, h2]
    rfl

/-- The array that the blocks lie in, after the run. -/
abbrev out (c : Dev nD) : FVec Ideal S1024x1408 .f32 := (dats m (ok m) 0 c).arrAt 2 (cfgM m (ok m)).N

theorem final0 (c : Dev nD) (i : S1024x1408.Idx) : out m c i = if (i 0).val / 256 < 2 then REF0 (m ((c : Thread nD τ).loc main_arg0)) (m ((c : Thread nD τ).loc main_arg1)) (cut i) else m ((c : Thread nD τ).loc main_v1) i := by
  refine ((dats m (ok m) 0 c).arrAt_apply_of_coversWhere 2 (fun i : S1024x1408.Idx => REF0 (m ((c : Thread nD τ).loc main_arg0)) (m ((c : Thread nD τ).loc main_arg1)) (cut i)) (P := fun i : S1024x1408.Idx => (i 0).val / 256 < 2) (fun β => β (0 : Fin 2) < 2) (covers _ (cfg_eq m)) (fun t hf y => ?_) (fun j => Iff.rfl) i).trans ?_
  · rw [after0_2]
    unfold outsAt0 out0_A_2
    blk_simp
    frame_out
    exact (pay_at _ _ y).trans ((congrArg₂ (· + ·) ((congrFun ((hs0_0 m (ok m) t).read_unread _) y).trans (blk0 m c t y))
      (Finset.sum_congr rfl fun k _ => (congrFun ((hs0_1 m (ok m) t).read_unread _) _).trans (blk1 m c t y k))).trans (ref_at _ _ _).symm)
  · rfl

/-- The result's rows are those that the blocks cover. -/
theorem rows (c : Dev nD) : extractStridedSlice S512x1408 ![0, 0] (out m c) facts.slices_S1024x1408_S512x1408_0_0 = REF0 (m ((c : Thread nD τ).loc main_arg0)) (m ((c : Thread nD τ).loc main_arg1)) := by
  funext j
  have hj0 : (j 0).val < 512 := (j 0).isLt
  generalize hX : REF0 (m ((c : Thread nD τ).loc main_arg0)) (m ((c : Thread nD τ).loc main_arg1)) = X
  pointwise
  refine (final0 m c _).trans ?_
  rw [hX]
  refine (if_pos (show (j 0).val / 256 < 2 by omega)).trans ?_
  refine congrArg X (funext fun a => Fin.ext ?_)
  match a with
  | ⟨0, _⟩ => exact Nat.mod_eq_of_lt hj0
  | ⟨1, _⟩ => rfl

theorem run (g : Dev nD → PrngReg) : θ_run defs (onTc (τ := τ) (main (F := Ideal))) ⟨m, fun _ => 0, g⟩ fun r => ∀ c : Dev nD,
      r.2.mem ((c : Thread nD τ).loc main_v2) = REF0 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨?_, ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c)))⟩) (run_main m g (ok m))
  refine ((h c).2 main_v2 (show main_v2 ∈ Pipeline.restRefs sig spec0 by decide)).trans ?_
  unfold Pipeline.afterTail
  simp only [List.flatten_cons, List.flatten_nil, List.append_nil]
  after_results
  refine Eq.trans ?_ (rows m c)
  exact congrArg (fun X : FVec Ideal S1024x1408 .f32 => extractStridedSlice S512x1408 ![0, 0] X facts.slices_S1024x1408_S512x1408_0_0) (Pipeline.withArrays_arr spec0 (by decide) c (V0 m c) (fun w => (dats m (ok m) 0 c).arrAt w (cfgM m (ok m)).N) 2)

/-- Kernel and reference leave the same arrays. -/
theorem values : Cert.algebraic_Kernel36Ideal_Reference36Ideal (hKernel36Ideal := Cert.Kernel36Ideal.Gen.facts) (hReference36Ideal := Cert.Reference36Ideal.Gen.facts) := by
  intro m g m' g' _ hm
  refine ⟨fun c => REF0 (m ((c : Thread nD τ).loc main_arg0)) (m ((c : Thread nD τ).loc main_arg1)), run m g, ?_⟩
  refine (θ_run _ _ _).mono (fun r h c => ?_) (Cert.Reference36Ideal.Value.run m' g')
  obtain ⟨h0, hargs⟩ := h c
  obtain ⟨e0, e1⟩ := hm c
  refine ⟨h0.trans ?_, hargs⟩
  rw [e0, e1]

theorem frame_reference : Cert.quiescent_Reference36Ideal (hReference36Ideal := Cert.Reference36Ideal.Gen.facts) := fun m ρ _ =>
  (θ_run _ _ _).mono (fun r h => ⟨fun c => (h c).2, Cert.Common.no_counters (fun s => s.elim0) (fun s => s.elim0) _⟩) (Cert.Reference36Ideal.Value.run m ρ)

theorem frame_ideal : Cert.quiescent_Kernel36Ideal (hKernel36Ideal := Cert.Kernel36Ideal.Gen.facts) := fun m ρ _ => Cert.Kernel36Ideal.Gen.frame m ρ (ok m)

end Cert.Kernel36Ideal.Stage

end
-- ==== Proof.Stage37.lean ====
module

public import proofs.«01_k».proof.Defs
public import proofs.«01_k».proof.Proof.Gen.Kernel37
public import proofs.«01_k».proof.Proof.Gen.Kernel37.Frame
public import proofs.«01_k».proof.Proof.Gen.Kernel37Ideal
public import proofs.«01_k».proof.Proof.Gen.Kernel37Ideal.Frame
public import proofs.«01_k».proof.Proof.Gen.Reference37Ideal.Run
public import proofs.«01_k».proof.Proof.Common
public import Idealize.ShloMosaic.Lib.Pipeline.ReadBack
public import Idealize.ShloMosaic.Lib.Pipeline.ValueKit

@[expose] public section

/-! The sum of the rows of four chips, a block of rows at a point, written to the core's half of the array. -/

set_option maxRecDepth 16384

noncomputable section

namespace Cert.Kernel37.Stage

open Idealize.ShloMosaic Idealize.ShloMosaic.TcCoe Idealize.SL.Sem Idealize.ShloMosaic.Tactic
open Cert.Kernel37 Cert.Kernel37.Gen

variable {F : FTy → Type} [FloatOps F]
variable (m : (ℓ : Loc nD τ sig) → Buf (Elt F) ℓ)

/-- The table that the index map reads holds the core's index 0. -/
abbrev zero : pre0.Contents (Elt F) := fun | 0 => fun _ => (0#32 : BitVec 32)

theorem tbl_eq : tbl m = zero := by
  funext j
  fin_cases j
  show StableHlo.after (List.flatten [hostOps0]) (fun b => m ((0 : Dev nD), b)) (Proc.devRef .tc main_v0) = fun _ => (0#32 : BitVec 32)
  simp only [List.flatten_cons, List.flatten_nil, List.append_nil]
  after_results
  funext i
  rfl

theorem map_zero (i : grid0.Coords) : cc0_transform_2 (F := F) facts.inb_S1_S1_0 facts.numel1_S1 zero i = ![(i 0).val, 0] := by
  have hz : (zero (F := F)).at 0 (Rect.unit (s := S1) ![0] S1.size facts.inb_S1_S1_0) facts.numel1_S1 = (0#32 : BitVec 32) := rfl
  have hk : ∀ k : Fin 2, (Scalar.addi (Scalar.muli (0#32 : BitVec 32) 2#32) (BitVec.ofNat 32 k.val)).toNat = k.val := by decide
  unfold cc0_transform_2
  simp only [hz]
  exact congrArg (fun n => ![n, 0]) (hk (i 0))

theorem ok_zero : ok0 (F := F) zero := by
  intro i
  rw [map_zero]
  refine ⟨?_, Or.inl rfl⟩
  revert i
  decide +kernel

theorem ok : Ok m := by
  show ok0 (tbl m)
  rw [tbl_eq]
  exact ok_zero

theorem frame_kernel : Cert.quiescent_Kernel37 (hKernel37 := Cert.Kernel37.Gen.facts) := fun m ρ _ => Cert.Kernel37.Gen.frame m ρ (ok m)

end Cert.Kernel37.Stage

namespace Cert.Kernel37Ideal.Stage

open Idealize.ShloMosaic Idealize.ShloMosaic.TcCoe Idealize.SL.Sem Idealize.ShloMosaic.Tactic
open Cert.Kernel37Ideal Cert.Kernel37Ideal.Gen

section
variable {F : FTy → Type} [FloatOps F]
variable (m : (ℓ : Loc nD τ sig) → Buf (Elt F) ℓ)

/-- The table that the index map reads holds the core's index 0. -/
abbrev zero : pre0.Contents (Elt F) := fun | 0 => fun _ => (0#32 : BitVec 32)

theorem tbl_eq : tbl m = zero := by
  funext j
  fin_cases j
  show StableHlo.after (List.flatten [hostOps0]) (fun b => m ((0 : Dev nD), b)) (Proc.devRef .tc main_v0) = fun _ => (0#32 : BitVec 32)
  simp only [List.flatten_cons, List.flatten_nil, List.append_nil]
  after_results
  funext i
  rfl

theorem map_zero (i : grid0.Coords) : cc0_transform_2 (F := F) facts.inb_S1_S1_0 facts.numel1_S1 zero i = ![(i 0).val, 0] := by
  have hz : (zero (F := F)).at 0 (Rect.unit (s := S1) ![0] S1.size facts.inb_S1_S1_0) facts.numel1_S1 = (0#32 : BitVec 32) := rfl
  have hk : ∀ k : Fin 2, (Scalar.addi (Scalar.muli (0#32 : BitVec 32) 2#32) (BitVec.ofNat 32 k.val)).toNat = k.val := by decide
  unfold cc0_transform_2
  simp only [hz]
  exact congrArg (fun n => ![n, 0]) (hk (i 0))

theorem ok_zero : ok0 (F := F) zero := by
  intro i
  rw [map_zero]
  refine ⟨?_, Or.inl rfl⟩
  revert i
  decide +kernel

theorem ok : Ok m := by
  show ok0 (tbl m)
  rw [tbl_eq]
  exact ok_zero

/-- The configuration at the table that the region finds. -/
theorem cfg_eq : adm m (ok m) = ⟨zero, ok_zero⟩ := Subtype.ext (tbl_eq m)

/-- The block that point `t` takes of every array. -/
theorem idx (a : (pcfg0 (F := F)).Adm) (ha : a = ⟨zero, ok_zero⟩) (t : Fin (cfg0 a).N) :
    ((cfg0 a).win 0).index t = ![t.val, 0] ∧ ((cfg0 a).win 1).index t = ![0, t.val, 0] ∧ ((cfg0 a).win 2).index t = ![t.val, 0] := by
  subst ha
  have hc : ∀ t : Fin grid0.N, (grid0.coords t 0).val = t.val := by decide +kernel
  refine ⟨?_, ?_, (map_zero _).trans (congrArg (fun n => ![n, 0]) (hc t))⟩
  · revert t
    exact (by decide +kernel : ∀ t : Fin grid0.N, cc0_transform_0 (grid0.coords t) = ![t.val, 0])
  · revert t
    exact (by decide +kernel : ∀ t : Fin grid0.N, cc0_transform_1 (grid0.coords t) = ![0, t.val, 0])

theorem covers (a : (pcfg0 (F := Ideal)).Adm) (ha : a = ⟨zero, ok_zero⟩) :
    ((cfg0 a).win 2).CoversWhere (fun β => β (0 : Fin 2) < 2) := by
  subst ha
  decide +kernel
end

variable (m : (ℓ : Loc nD τ sig) → Buf (Elt Ideal) ℓ)

abbrev REF0 (x0 : FVec Ideal S352x1024 .f32) (x1 : FVec Ideal S3x352x1024 .bf16) : FVec Ideal S352x1024 .f32 :=
  addf x0 (Host.reduceAdd (extf .f32 x1 Cert.Reference37Ideal.Gen.facts.bitsLt_bf16_f32) (constant Cert.Reference37Ideal.S_ .f32 0x00000000#32) Cert.Reference37Ideal.Gen.facts.reducesTo_S3x352x1024_S352x1024_d0 Cert.Reference37Ideal.Gen.facts.h_S_)

/-- A row of the result from a row of the array that the blocks lie in. -/
def cut (i : S704x1024.Idx) : S352x1024.Idx := fun a =>
  match a with
  | ⟨0, _⟩ => ⟨(i 0).val % 352, Nat.mod_lt _ (by decide)⟩
  | ⟨1, _⟩ => i 1

theorem pay_at (x0 : Vec Ideal S176x1024 .f32) (x1 : Vec Ideal S3x176x1024 .bf16) (j : S176x1024.Idx) :
    k0_pay1 x0 (View.ld x1 (Rect.unit ![0, 0, 0] ![1, 176, 1024] facts.inb_S3x176x1024_S1x176x1024_0_0_0)) (View.ld x1 (Rect.unit ![1, 0, 0] ![1, 176, 1024] facts.inb_S3x176x1024_S1x176x1024_1_0_0)) (View.ld x1 (Rect.unit ![2, 0, 0] ![1, 176, 1024] facts.inb_S3x176x1024_S1x176x1024_2_0_0)) j = x0 j + ∑ k : Fin 3, x1 (ix3 k (j 0) (j 1)) := by
  pointwise [k0_pay1]
  rw [Fin.sum_univ_three, ← add_assoc, ← add_assoc]

theorem ref_at (x0 : FVec Ideal S352x1024 .f32) (x1 : FVec Ideal S3x352x1024 .bf16) (j : S352x1024.Idx) : REF0 x0 x1 j = x0 j + ∑ k : Fin 3, x1 (ix3 k (j 0) (j 1)) := by
  pointwise [REF0]

theorem blk0 (c : Dev nD) (t : Fin (cfgM m (ok m)).N) (y : S176x1024.Idx) :
    iblk m (ok m) c 0 t y = m ((c : Thread nD τ).loc main_arg0) (cut ((((cfgM m (ok m)).win 2).blk t).view.emb y)) := by
  refine (congrFun (V_main_arg0 m c) _).trans ?_
  congr 1
  obtain ⟨h0, -, h2⟩ := idx _ (cfg_eq m) t
  have ht : t.val < 2 := t.isLt
  have hy0 : (y 0).val < 176 := (y 0).isLt
  funext a
  apply Fin.ext
  match a with
  | ⟨0, _⟩ =>
    show ((cfgM m (ok m)).win 0).index t (0 : Fin 2) * 176 + 1 * (y 0).val = (((cfgM m (ok m)).win 2).index t (0 : Fin 2) * 176 + 1 * (y 0).val) % 352
    rw [h0, h2]
    show t.val * 176 + 1 * (y 0).val = (t.val * 176 + 1 * (y 0).val) % 352
    omega
  | ⟨1, _⟩ =>
    show ((cfgM m (ok m)).win 0).index t (1 : Fin 2) * 1024 + 1 * (y 1).val = ((cfgM m (ok m)).win 2).index t (1 : Fin 2) * 1024 + 1 * (y 1).val
    rw [h0, h2]

theorem blk1 (c : Dev nD) (t : Fin (cfgM m (ok m)).N) (y : S176x1024.Idx) (k : Fin 3) :
    iblk m (ok m) c 1 t (ix3 k (y 0) (y 1)) = m ((c : Thread nD τ).loc main_arg1) (ix3 k (cut ((((cfgM m (ok m)).win 2).blk t).view.emb y) 0) (cut ((((cfgM m (ok m)).win 2).blk t).view.emb y) 1)) := by
  refine (congrFun (V_main_arg1 m c) _).trans ?_
  congr 1
  obtain ⟨-, h1, h2⟩ := idx _ (cfg_eq m) t
  have ht : t.val < 2 := t.isLt
  have hy0 : (y 0).val < 176 := (y 0).isLt
  funext a
  apply Fin.ext
  match a with
  | ⟨0, _⟩ =>
    show ((cfgM m (ok m)).win 1).index t (0 : Fin 3) * 3 + 1 * k.val = k.val
    rw [h1]
    show 0 * 3 + 1 * k.val = k.val
    omega
  | ⟨1, _⟩ =>
    show ((cfgM m (ok m)).win 1).index t (1 : Fin 3) * 176 + 1 * (y 0).val = (((cfgM m (ok m)).win 2).index t (0 : Fin 2) * 176 + 1 * (y 0).val) % 352
    rw [h1, h2]
    show t.val * 176 + 1 * (y 0).val = (t.val * 176 + 1 * (y 0).val) % 352
    omega
  | ⟨2, _⟩ =>
    show ((cfgM m (ok m)).win 1).index t (2 : Fin 3) * 1024 + 1 * (y 1).val = ((cfgM m (ok m)).win 2).index t (1 : Fin 2) * 1024 + 1 * (y 1).val
    rw [h1, h2]
    rfl

/-- The array that the blocks lie in, after the run. -/
abbrev out (c : Dev nD) : FVec Ideal S704x1024 .f32 := (dats m (ok m) 0 c).arrAt 2 (cfgM m (ok m)).N

theorem final0 (c : Dev nD) (i : S704x1024.Idx) : out m c i = if (i 0).val / 176 < 2 then REF0 (m ((c : Thread nD τ).loc main_arg0)) (m ((c : Thread nD τ).loc main_arg1)) (cut i) else m ((c : Thread nD τ).loc main_v1) i := by
  refine ((dats m (ok m) 0 c).arrAt_apply_of_coversWhere 2 (fun i : S704x1024.Idx => REF0 (m ((c : Thread nD τ).loc main_arg0)) (m ((c : Thread nD τ).loc main_arg1)) (cut i)) (P := fun i : S704x1024.Idx => (i 0).val / 176 < 2) (fun β => β (0 : Fin 2) < 2) (covers _ (cfg_eq m)) (fun t hf y => ?_) (fun j => Iff.rfl) i).trans ?_
  · rw [after0_2]
    unfold outsAt0 out0_A_2
    blk_simp
    frame_out
    exact (pay_at _ _ y).trans ((congrArg₂ (· + ·) ((congrFun ((hs0_0 m (ok m) t).read_unread _) y).trans (blk0 m c t y))
      (Finset.sum_congr rfl fun k _ => (congrFun ((hs0_1 m (ok m) t).read_unread _) _).trans (blk1 m c t y k))).trans (ref_at _ _ _).symm)
  · rfl

/-- The result's rows are those that the blocks cover. -/
theorem rows (c : Dev nD) : extractStridedSlice S352x1024 ![0, 0] (out m c) facts.slices_S704x1024_S352x1024_0_0 = REF0 (m ((c : Thread nD τ).loc main_arg0)) (m ((c : Thread nD τ).loc main_arg1)) := by
  funext j
  have hj0 : (j 0).val < 352 := (j 0).isLt
  generalize hX : REF0 (m ((c : Thread nD τ).loc main_arg0)) (m ((c : Thread nD τ).loc main_arg1)) = X
  pointwise
  refine (final0 m c _).trans ?_
  rw [hX]
  refine (if_pos (show (j 0).val / 176 < 2 by omega)).trans ?_
  refine congrArg X (funext fun a => Fin.ext ?_)
  match a with
  | ⟨0, _⟩ => exact Nat.mod_eq_of_lt hj0
  | ⟨1, _⟩ => rfl

theorem run (g : Dev nD → PrngReg) : θ_run defs (onTc (τ := τ) (main (F := Ideal))) ⟨m, fun _ => 0, g⟩ fun r => ∀ c : Dev nD,
      r.2.mem ((c : Thread nD τ).loc main_v2) = REF0 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨?_, ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c)))⟩) (run_main m g (ok m))
  refine ((h c).2 main_v2 (show main_v2 ∈ Pipeline.restRefs sig spec0 by decide)).trans ?_
  unfold Pipeline.afterTail
  simp only [List.flatten_cons, List.flatten_nil, List.append_nil]
  after_results
  refine Eq.trans ?_ (rows m c)
  exact congrArg (fun X : FVec Ideal S704x1024 .f32 => extractStridedSlice S352x1024 ![0, 0] X facts.slices_S704x1024_S352x1024_0_0) (Pipeline.withArrays_arr spec0 (by decide) c (V0 m c) (fun w => (dats m (ok m) 0 c).arrAt w (cfgM m (ok m)).N) 2)

/-- Kernel and reference leave the same arrays. -/
theorem values : Cert.algebraic_Kernel37Ideal_Reference37Ideal (hKernel37Ideal := Cert.Kernel37Ideal.Gen.facts) (hReference37Ideal := Cert.Reference37Ideal.Gen.facts) := by
  intro m g m' g' _ hm
  refine ⟨fun c => REF0 (m ((c : Thread nD τ).loc main_arg0)) (m ((c : Thread nD τ).loc main_arg1)), run m g, ?_⟩
  refine (θ_run _ _ _).mono (fun r h c => ?_) (Cert.Reference37Ideal.Value.run m' g')
  obtain ⟨h0, hargs⟩ := h c
  obtain ⟨e0, e1⟩ := hm c
  refine ⟨h0.trans ?_, hargs⟩
  rw [e0, e1]

theorem frame_reference : Cert.quiescent_Reference37Ideal (hReference37Ideal := Cert.Reference37Ideal.Gen.facts) := fun m ρ _ =>
  (θ_run _ _ _).mono (fun r h => ⟨fun c => (h c).2, Cert.Common.no_counters (fun s => s.elim0) (fun s => s.elim0) _⟩) (Cert.Reference37Ideal.Value.run m ρ)

theorem frame_ideal : Cert.quiescent_Kernel37Ideal (hKernel37Ideal := Cert.Kernel37Ideal.Gen.facts) := fun m ρ _ => Cert.Kernel37Ideal.Gen.frame m ρ (ok m)

end Cert.Kernel37Ideal.Stage

end
-- ==== Proof.Inverse.lean ====
module

public import Idealize.ShloMosaic.PureOps.Ideal
public import Mathlib.Data.Matrix.Mul
public import Mathlib.Tactic.NoncommRing

@[expose] public section

/-! Two ways to the inverse of `1 + L` for a strictly lower triangular `L` of real numbers, over the extended reals:
the blockwise Neumann products and the rounds `X = 1 - L X`. They are equal. -/

noncomputable section

namespace Cert

/-- A square of extended reals. -/
abbrev Sq := Fin 64 → Fin 64 → EReal

namespace Sq

def mul (a b : Sq) : Sq := fun i j => ∑ x, a i x * b x j
def one : Sq := fun i j => if i = j then 1 else 0
def add (a b : Sq) : Sq := fun i j => a i j + b i j
def sub (a b : Sq) : Sq := fun i j => a i j - b i j
def neg (a : Sq) : Sq := fun i j => 0 - a i j

/-- The sum of the first eight powers of `m`, by three doublings. -/
def powers (m : Sq) : Sq :=
  add (add (add one m) (mul (add one m) (mul m m)))
    (mul (add (add one m) (mul (add one m) (mul m m))) (mul (mul m m) (mul m m)))

/-- The part of `m` inside the blocks of eight on the diagonal. -/
def inside (m : Sq) : Sq := fun i j => if i.val / 8 = j.val / 8 then m i j else 0

/-- The inverse of `1 - m`, block by block. -/
def blockInv (m : Sq) : Sq :=
  mul (powers (mul (powers (inside m)) (sub m (inside m)))) (powers (inside m))

/-- One round of the substitution. -/
def round (l x : Sq) : Sq := sub one (mul l x)

/-- The inverse of `1 + l`, by rounds. -/
def roundInv (l : Sq) : Sq := (round l)^[63] one

/-! Real squares. -/

abbrev Re := Matrix (Fin 64) (Fin 64) ℝ

def up (a : Re) : Sq := fun i j => ((a i j : ℝ) : EReal)

theorem coe_sum (f : Fin 64 → ℝ) (s : Finset (Fin 64)) : ((∑ x ∈ s, f x : ℝ) : EReal) = ∑ x ∈ s, (f x : EReal) := by
  induction s using Finset.induction_on with
  | empty => simp
  | insert a s ha ih => rw [Finset.sum_insert ha, Finset.sum_insert ha, EReal.coe_add, ih]

theorem up_mul (a b : Re) : mul (up a) (up b) = up (a * b) := by
  funext i j
  simp only [mul, up, Matrix.mul_apply, coe_sum, EReal.coe_mul]

theorem up_one : one = up 1 := by
  funext i j
  by_cases h : i = j <;> simp [one, up, h, Matrix.one_apply]

theorem up_add (a b : Re) : add (up a) (up b) = up (a + b) := by
  funext i j; simp [add, up]

theorem up_sub (a b : Re) : sub (up a) (up b) = up (a - b) := by
  funext i j; simp [sub, up]

theorem up_neg (a : Re) : neg (up a) = up (-a) := by
  funext i j; simp [neg, up]

def rPowers (m : Re) : Re := 1 + m + (1 + m) * (m * m) + (1 + m + (1 + m) * (m * m)) * ((m * m) * (m * m))

def rInside (m : Re) : Re := fun i j => if i.val / 8 = j.val / 8 then m i j else 0

theorem up_powers (m : Re) : powers (up m) = up (rPowers m) := by
  simp only [powers, up_one, up_mul, up_add, rPowers]

theorem up_inside (m : Re) : inside (up m) = up (rInside m) := by
  funext i j; by_cases h : i.val / 8 = j.val / 8 <;> simp [inside, up, rInside, h]

theorem powers_mul (m : Re) : rPowers m * (1 - m) = 1 - m ^ 8 := by
  simp only [rPowers]; noncomm_ring

/-- A square that only leads from higher to lower grades has powers that lower the grade by as much. -/
theorem pow_grade (m : Re) (f : Fin 64 → ℕ) (hm : ∀ i j, m i j ≠ 0 → f j < f i) (n : ℕ) (i j : Fin 64)
    (h : (m ^ n) i j ≠ 0) : f j + n ≤ f i := by
  induction n generalizing j with
  | zero =>
    by_cases hij : i = j
    · subst hij; simp
    · simp [Matrix.one_apply, hij] at h
  | succ n ih =>
    rw [pow_succ, Matrix.mul_apply] at h
    obtain ⟨x, -, hx⟩ := Finset.exists_ne_zero_of_sum_ne_zero h
    have h1 := ih x (left_ne_zero_of_mul hx)
    have h2 := hm x j (right_ne_zero_of_mul hx)
    omega

theorem pow_zero_of (m : Re) (f : Fin 64 → ℕ) (hm : ∀ i j, m i j ≠ 0 → f j < f i) (n : ℕ) (hf : ∀ i, f i < n) : m ^ n = 0 := by
  funext i j
  by_contra h
  have h1 := pow_grade m f hm n i j h
  have h2 := hf i
  omega

/-- Zero outside the blocks of eight. -/
def Blocky (m : Re) : Prop := ∀ i j, m i j ≠ 0 → i.val / 8 = j.val / 8

theorem Blocky.one : Blocky 1 := by
  intro i j h
  by_cases hij : i = j
  · rw [hij]
  · simp [Matrix.one_apply, hij] at h

theorem Blocky.add {a b : Re} (ha : Blocky a) (hb : Blocky b) : Blocky (a + b) := by
  intro i j h
  by_contra hn
  have h1 : a i j = 0 := by by_contra h'; exact hn (ha i j h')
  have h2 : b i j = 0 := by by_contra h'; exact hn (hb i j h')
  exact h (by rw [Matrix.add_apply, h1, h2, add_zero])

theorem Blocky.mul {a b : Re} (ha : Blocky a) (hb : Blocky b) : Blocky (a * b) := by
  intro i j h
  rw [Matrix.mul_apply] at h
  obtain ⟨x, -, hx⟩ := Finset.exists_ne_zero_of_sum_ne_zero h
  exact (ha i x (left_ne_zero_of_mul hx)).trans (hb x j (right_ne_zero_of_mul hx))

theorem Blocky.powers {m : Re} (hm : Blocky m) : Blocky (rPowers m) := by
  have h1 := Blocky.one.add hm
  have h2 := hm.mul hm
  have h3 := h1.add (h1.mul h2)
  exact h3.add (h3.mul (h2.mul h2))

theorem Blocky.inside (m : Re) : Blocky (rInside m) := by
  intro i j h
  by_contra hn
  exact h (by simp [rInside, hn])

/-- Strictly lower triangular. -/
def Lower (m : Re) : Prop := ∀ i j, m i j ≠ 0 → j < i

theorem inside_inv {m : Re} (hm : Lower m) : rPowers (rInside m) * (1 - rInside m) = 1 := by
  rw [powers_mul, pow_zero_of (rInside m) (fun i => i.val % 8) _ 8 (fun i => Nat.mod_lt _ (by norm_num)), sub_zero]
  intro i j h
  by_cases hb : i.val / 8 = j.val / 8
  · have h1 : m i j ≠ 0 := by simpa [rInside, hb] using h
    have h2 : j.val < i.val := hm i j h1
    show j.val % 8 < i.val % 8
    omega
  · exact absurd (by simp [rInside, hb]) h

def rBlockInv (m : Re) : Re := rPowers (rPowers (rInside m) * (m - rInside m)) * rPowers (rInside m)

theorem up_blockInv (m : Re) : blockInv (up m) = up (rBlockInv m) := by
  simp only [blockInv, up_inside, up_powers, up_sub, up_mul, rBlockInv]

theorem blockInv_mul {m : Re} (hm : Lower m) : rBlockInv m * (1 - m) = 1 := by
  have h0 : (rPowers (rInside m) * (m - rInside m)) ^ 8 = 0 := by
    refine pow_zero_of _ (fun i => i.val / 8) ?_ 8 (fun i => by have := i.isLt; show i.val / 8 < 8; omega)
    intro i j h
    rw [Matrix.mul_apply] at h
    obtain ⟨x, -, hx⟩ := Finset.exists_ne_zero_of_sum_ne_zero h
    have h1 := (Blocky.inside m).powers i x (left_ne_zero_of_mul hx)
    have h2 := right_ne_zero_of_mul hx
    rw [Matrix.sub_apply] at h2
    show j.val / 8 < i.val / 8
    by_cases hb : x.val / 8 = j.val / 8
    · exact absurd (by simp [rInside, hb]) h2
    · have h3 : m x j ≠ 0 := by simpa [rInside, hb] using h2
      have h4 : j.val < x.val := hm x j h3
      omega
  have h1 : rPowers (rInside m) * (1 - m) = 1 - rPowers (rInside m) * (m - rInside m) := by
    have h2 : (1 : Re) - m = (1 - rInside m) - (m - rInside m) := by abel
    rw [h2, mul_sub, inside_inv hm]
  rw [rBlockInv, Matrix.mul_assoc, h1, powers_mul, h0, sub_zero]

def rRound (l x : Re) : Re := 1 - l * x

theorem up_round (l x : Re) : round (up l) (up x) = up (rRound l x) := by
  simp only [round, up_mul, up_one, up_sub, rRound]

theorem up_rounds (l : Re) (n : ℕ) : (round (up l))^[n] one = up ((rRound l)^[n] 1) := by
  induction n with
  | zero => exact up_one
  | succ n ih => rw [Function.iterate_succ_apply', Function.iterate_succ_apply', ih, up_round]

theorem rounds_mul (l : Re) (n : ℕ) : (1 + l) * (rRound l)^[n] 1 = 1 - (-l) ^ (n + 1) := by
  induction n with
  | zero => simp
  | succ n ih =>
    rw [Function.iterate_succ_apply', rRound, pow_succ']
    have h : (1 + l) * (1 - l * (rRound l)^[n] 1) = 1 + l - l * ((1 + l) * (rRound l)^[n] 1) := by noncomm_ring
    rw [h, ih]; noncomm_ring

/-- The two inverses agree. -/
theorem blockInv_eq {l : Re} (hl : Lower l) : blockInv (neg (up l)) = roundInv (up l) := by
  rw [up_neg, up_blockInv, roundInv, up_rounds]
  have hn : Lower (-l) := fun i j h => hl i j (by simpa using h)
  have h1 := blockInv_mul hn
  have h2 : (1 - -l) * (rRound l)^[63] 1 = 1 := by
    rw [sub_neg_eq_add, rounds_mul, pow_zero_of (-l) (fun i => i.val) (fun i j h => hn i j h) 64 (fun i => i.isLt), sub_zero]
  rw [left_inv_eq_right_inv h1 h2]

/-- The two inverses agree on a strictly lower square of real values. -/
theorem blockInv_eq_of (l : Sq) (hr : ∀ i j, ∃ r : ℝ, l i j = r) (hl : ∀ i j, ¬ j < i → l i j = 0) :
    blockInv (neg l) = roundInv l := by
  choose f hf using hr
  have e : l = up f := by funext i j; exact hf i j
  rw [e]
  refine blockInv_eq fun i j h => ?_
  by_contra hn
  have := hl i j hn
  rw [hf] at this
  exact h (by exact_mod_cast this)

end Sq

end Cert

end
-- ==== Proof.Forward.lean ====
module

public import proofs.«01_k».proof.Proof.Sweep
public import proofs.«01_k».proof.Proof.Inverse

@[expose] public section

/-! The forward sweep of the gated delta rule over the extended reals: the chunks of one sequence, first to last, the
state carried from a chunk to the one after it. -/

noncomputable section

namespace Cert

open Idealize.ShloMosaic

namespace Chunk

variable (c : Chunk) (h : Fin 8) (i j d : Fin 64)

/-- What the inverse is taken of, less the unit: strictly lower triangular. -/
def lower : EReal := if j < i then c.KK h i j * c.D h i j else 0

/-- The chunk's output, and the state after it. -/
def out : EReal := (∑ x, c.qe h i x * c.S h x d) + ∑ x, c.A h i x * c.vn h x d
def next : EReal := c.S h i d * c.egl h + ∑ x, c.kd h x i * c.vn h x d

/-- The chunk with another state before it and another inverse. -/
def withState (S T : Fin 8 → Fin 64 → Fin 64 → EReal) : Chunk := { c with S := S, T := T, dO := S, dS := S }

end Chunk

namespace Inputs

variable (x : Inputs)

/-- The inverse of chunk `n`. -/
def inverse (n : Fin 64) (h : Fin 8) : Sq := Sq.roundInv ((x.chunk n fun _ _ _ => 0).lower h)

/-- Chunk `n` with the state `S` before it. -/
def fwd (n : Fin 64) (S : Fin 8 → Fin 64 → Fin 64 → EReal) : Chunk := (x.chunk n fun _ _ _ => 0).withState S (x.inverse n)

/-- The chunk taken `s`-th, from the first. -/
def nthF (s : ℕ) : Fin 64 := ⟨s % 64, by omega⟩

/-- The state before the chunk taken `s`-th. -/
def fState : ℕ → Fin 8 → Fin 64 → Fin 64 → EReal
  | 0 => fun _ _ _ => 0
  | s + 1 => (x.fwd (nthF s) (fState s)).next

/-- The state before chunk `n`. -/
def state (n : Fin 64) (h : Fin 8) (i d : Fin 64) : EReal := x.fState n.val h i d

/-- The outputs of the sequence. -/
def o (r : Fin 4096) (l : Fin 512) : EReal :=
  (x.fwd (chunkOf r) (x.fState (chunkOf r).val)).out (headOf l) (rowOf r) (laneOf l)

/-- Real keys and gates. -/
structure Finite : Prop where
  k (r l) : ∃ a : ℝ, x.k r l = a
  bt (r l) : ∃ a : ℝ, x.bt r l = a
  gt (r l) : ∃ a : ℝ, x.gt r l = a

theorem re_mul {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

theorem re_sub {a b : EReal} (ha : ∃ r : ℝ, a = r) (hb : ∃ r : ℝ, b = r) : ∃ r : ℝ, a - b = r := by
  obtain ⟨r, rfl⟩ := ha
  obtain ⟨s, rfl⟩ := hb
  exact ⟨r - s, (EReal.coe_sub r s).symm⟩

theorem re_exp {a : EReal} (ha : ∃ r : ℝ, a = r) : ∃ r : ℝ, Ideal.exp a = r := by
  obtain ⟨r, rfl⟩ := ha
  exact ⟨Real.exp r, rfl⟩

theorem re_ite {a b : EReal} (p : Prop) [Decidable p] (ha : ∃ r : ℝ, a = r) (hb : ∃ r : ℝ, b = r) :
    ∃ r : ℝ, (if p then a else b) = r := by
  by_cases h : p
  · rw [if_pos h]; exact ha
  · rw [if_neg h]; exact hb

theorem re_zero : ∃ r : ℝ, (0 : EReal) = r := ⟨0, EReal.coe_zero.symm⟩

theorem re_sum {f : Fin 64 → EReal} (hf : ∀ x, ∃ r : ℝ, f x = r) : ∃ r : ℝ, ∑ x, f x = r := by
  choose g hg using hf
  exact ⟨∑ x, g x, by rw [Sq.coe_sum]; exact Finset.sum_congr rfl fun x _ => hg x⟩

theorem lower_re {x : Inputs} (hx : x.Finite) (n : Fin 64) (S : Fin 8 → Fin 64 → Fin 64 → EReal) (h : Fin 8) (i j : Fin 64) :
    ∃ r : ℝ, (x.chunk n S).lower h i j = r := by
  refine re_ite _ (re_mul (re_sum fun d => re_mul (re_mul (hx.k _ _) (hx.bt _ _)) (hx.k _ _)) ?_) re_zero
  exact re_ite _ (re_exp (re_ite _ (re_sub (hx.gt _ _) (hx.gt _ _)) re_zero)) re_zero

/-- The blockwise inverse is the chunk's inverse. -/
theorem blockInv_lower {x : Inputs} (hx : x.Finite) (n : Fin 64) (S : Fin 8 → Fin 64 → Fin 64 → EReal) (h : Fin 8) :
    Sq.blockInv (Sq.neg ((x.chunk n S).lower h)) = x.inverse n h :=
  Sq.blockInv_eq_of _ (lower_re hx n S h) fun i j hn => if_neg hn

end Inputs

end Cert

end
-- ==== Proof.FwdChain.lean ====
module

public import proofs.«01_k».proof.Proof.Gen.Kernel38Ideal.Skeleton
public import proofs.«01_k».proof.Proof.Blocks
public import proofs.«01_k».proof.Proof.Forward

@[expose] public section

/-! One chunk of the forward kernel's body: the inverse it takes, the chunk's output and the state after it, as named
arrays and at an index. The rest of the chain is that of the gradient's kernel. -/

set_option maxRecDepth 16384

noncomputable section

namespace Cert.Kernel38Ideal.Chain

open Idealize.ShloMosaic Idealize.ShloMosaic.TcCoe Idealize.ShloMosaic.Tactic Cert.Kernel38Ideal Cert.Kernel38Ideal.Gen
open Cert.KernelIdeal.Chain

variable {F : FTy → Type} [FloatOps F]

/-- The product of two stacks of squares. -/
def mm (a b : FVec F S8x64x64 .f32) : FVec F S8x64x64 .f32 :=
  matmul dot_S8x64x64_S8x64x64_S8x64x64_2_1_1_2_0_0 none (truncf .bf16 a bitsLt_bf16_f32) (truncf .bf16 b bitsLt_bf16_f32) (constant S8x64x64 .f32 0x00000000#32)

/-- The stack of units. -/
def oneF : FVec F S8x64x64 .f32 := broadcastTo S8x64x64 (k0_pay21 (F := F)) broadcasts_S1x64x64_S8x64x64

/-- The mask of the blocks of eight on the diagonal. -/
def blocks : IVec S1x64x64 1 :=
  k0_pay23 (iota .tc S64x64 32 [0] iota_S64x64_d0_w32) (iota .tc S64x64 32 [1] iota_S64x64_d1_w32) 8#32 k0_pay22 0#32

/-- The part inside those blocks. -/
def insideF (l : FVec F S8x64x64 .f32) : FVec F S8x64x64 .f32 :=
  select (broadcastTo S8x64x64 (shapeCast S1x64x64 blocks shapeCasts_S1x64x64_S1x64x64) broadcasts_S1x64x64_S8x64x64) l (broadcast S8x64x64 (Scalar.ofBits .f32 0x00000000#32))

/-- The sum of the first eight powers. -/
def powersF (m : FVec F S8x64x64 .f32) : FVec F S8x64x64 .f32 :=
  addf (addf (addf oneF m) (mm (addf oneF m) (mm m m))) (mm (addf (addf oneF m) (mm (addf oneF m) (mm m m))) (mm (mm m m) (mm m m)))

/-- The inverse of the unit less `l`, block by block. -/
def invF (l : FVec F S8x64x64 .f32) : FVec F S8x64x64 .f32 :=
  mm (powersF (mm (powersF (insideF l)) (subf l (insideF l)))) (powersF (insideF l))

/-- The products of keys below the diagonal, decayed, with the sign changed. -/
def negLower (c : Raw F) : FVec F S8x64x64 .f32 :=
  subf (broadcast S8x64x64 (Scalar.ofBits .f32 0x00000000#32)) (select (broadcastTo S8x64x64 (shapeCast S1x64x64 (shapeCast S1x64x64 (cmpi .sgt (iota .tc S64x64 32 [0] iota_S64x64_d0_w32) (iota .tc S64x64 32 [1] iota_S64x64_d1_w32)) shapeCasts_S64x64_S1x64x64) shapeCasts_S1x64x64_S1x64x64) broadcasts_S1x64x64_S8x64x64) (mulf (KK c) (D c)) (broadcast S8x64x64 (Scalar.ofBits .f32 0x00000000#32)))

/-- The chunk of these arrays with the state `S` before it and the inverse it takes. -/
def pick (r : Raw F) (S : FVec F S8x64x64 .f32) : Raw F := { r with S := S, T := invF (negLower r), dO := S, dS := S }

/-- The chunk's output. -/
def outF (c : Raw F) : FVec F S8x64x64 .f32 := addf (mm (qe c) c.S) (mm (A c) (vn c))

/-- The state after the chunk. -/
def nextF (c : Raw F) : FVec F S8x64x64 .f32 :=
  addf (mulf c.S (broadcastTo S8x64x64 (egl c) broadcasts_S8x1x1_S8x64x64)) (matmul dot_S8x64x64_S8x64x64_S8x64x64_1_1_2_2_0_0 none (truncf .bf16 (kd c) bitsLt_bf16_f32) (truncf .bf16 (vn c) bitsLt_bf16_f32) (constant S8x64x64 .f32 0x00000000#32))

/-! ## At an index -/

/-- Head `h` of a stack. -/
def sl (a : FVec Ideal S8x64x64 .f32) (h : Fin 8) : Sq := fun i j => a (ix3 h i j)

theorem sl_mm (a b : FVec Ideal S8x64x64 .f32) (h : Fin 8) : sl (mm a b) h = Sq.mul (sl a h) (sl b h) := by
  funext i j; unfold sl mm; pointwise; rfl

theorem sl_addf (a b : FVec Ideal S8x64x64 .f32) (h : Fin 8) : sl (addf a b) h = Sq.add (sl a h) (sl b h) := by
  funext i j; unfold sl; pointwise; rfl

theorem sl_subf (a b : FVec Ideal S8x64x64 .f32) (h : Fin 8) : sl (subf a b) h = Sq.sub (sl a h) (sl b h) := by
  funext i j; unfold sl; pointwise; rfl

theorem eq_word (i j : Fin 64) : IntOp.cmpi .eq (BitVec.ofNat 32 i.val) (BitVec.ofNat 32 j.val) = BitVec.ofBool (decide (i = j)) := by
  revert i j; decide +kernel

theorem word_one : FloatOps.sitofp (F := Ideal) .f32 1#32 = 1 := by
  show ((((1#32 : BitVec 32).toInt : ℤ) : ℝ) : EReal) = 1
  rw [show (1#32 : BitVec 32).toInt = 1 from by decide]; simp

theorem word_zero : FloatOps.sitofp (F := Ideal) .f32 0#32 = 0 := by
  show ((((0#32 : BitVec 32).toInt : ℤ) : ℝ) : EReal) = 0
  rw [show (0#32 : BitVec 32).toInt = 0 from by decide]; simp

theorem sl_one (h : Fin 8) : sl oneF h = Sq.one := by
  funext i j; unfold sl oneF k0_pay21; pointwise; rw [eq_word]
  by_cases e : i = j <;> simp [e, Sq.one, word_one, word_zero]

theorem blocks_at (i j : Fin 64) : blocks (ix3 0 i j) = BitVec.ofBool (decide (i.val / 8 = j.val / 8)) := by
  unfold blocks k0_pay23 k0_pay22; pointwise
  revert i j; decide +kernel

theorem sl_inside (l : FVec Ideal S8x64x64 .f32) (h : Fin 8) : sl (insideF l) h = Sq.inside (sl l h) := by
  funext i j; unfold sl insideF; pointwise; rw [blocks_at]
  by_cases e : i.val / 8 = j.val / 8 <;> simp [e, Sq.inside, Scalar.select]

theorem sl_powers (m : FVec Ideal S8x64x64 .f32) (h : Fin 8) : sl (powersF m) h = Sq.powers (sl m h) := by
  unfold powersF Sq.powers; simp only [sl_addf, sl_mm, sl_one]

theorem sl_inv (l : FVec Ideal S8x64x64 .f32) (h : Fin 8) : sl (invF l) h = Sq.blockInv (sl l h) := by
  unfold invF Sq.blockInv; simp only [sl_powers, sl_mm, sl_subf, sl_inside]

theorem sl_negLower (c : Raw Ideal) (hc : Tied c) (h : Fin 8) : sl (negLower c) h = Sq.neg ((toChunk c).lower h) := by
  funext i j; unfold sl negLower; pointwise
  simp only [Sq.neg, Chunk.lower, Cert.select_gt, KK_at c hc, D_at c hc]

theorem outF_at (c : Raw Ideal) (hc : Tied c) (h : Fin 8) (i j : Fin 64) : outF c (ix3 h i j) = (toChunk c).out h i j := by
  unfold outF mm; pointwise; simp only [Chunk.out, toChunk, qe_at c hc, A_at c hc, vn_at c hc]

theorem nextF_at (c : Raw Ideal) (hc : Tied c) (h : Fin 8) (i j : Fin 64) : nextF c (ix3 h i j) = (toChunk c).next h i j := by
  unfold nextF; pointwise; simp only [Chunk.next, toChunk, egl_at c hc, kd_at c hc, vn_at c hc]

theorem pick_tied {r : Raw Ideal} (hr : Tied r) (S : FVec Ideal S8x64x64 .f32) : Tied (pick r S) := hr

/-- The chunk picked is the sweep's, when the arrays are those of chunk `n`. -/
theorem toChunk_pick {x : Inputs} (hx : x.Finite) (n : Fin 64) (r : Raw Ideal) (hr : Tied r) (S' : Fin 8 → Fin 64 → Fin 64 → EReal)
    (e : toChunk r = x.chunk n S') (S : FVec Ideal S8x64x64 .f32) :
    toChunk (pick r S) = x.fwd n fun h i d => S (ix3 h i d) := by
  have h1 : toChunk (pick r S) = (toChunk r).withState (fun h i d => S (ix3 h i d)) fun h => sl (invF (negLower r)) h := rfl
  have h2 : (fun h => sl (invF (negLower r)) h) = x.inverse n := by
    funext h
    rw [sl_inv, sl_negLower r hr, e]
    exact Inputs.blockInv_lower hx n S' h
  rw [h1, h2, e]; rfl

end Cert.Kernel38Ideal.Chain

end
-- ==== Proof.FwdPoints.lean ====
module

public import proofs.«01_k».proof.Proof.Gen.Kernel38Ideal.Value
public import proofs.«01_k».proof.Proof.FwdChain
public import Idealize.ShloMosaic.Lib.Pipeline.ReadBack

@[expose] public section

/-! What the forward kernel's body leaves after each grid point, in the terms of the chain of one chunk: the carried
state, and the three output blocks, each a list of the pieces stored in it. -/

set_option maxRecDepth 16384
set_option maxHeartbeats 4000000

noncomputable section

namespace Cert.Kernel38Ideal.Chain

open Idealize.ShloMosaic Idealize.ShloMosaic.TcCoe Idealize.SL.Sem Idealize.ShloMosaic.Tactic
open Cert.Kernel38Ideal Cert.Kernel38Ideal.Gen
open Cert.KernelIdeal.Chain (Raw late early head0 head1 head2 head3 head4 head5 head6 head7)

variable {F : FTy → Type} [FloatOps F]
variable (m : (ℓ : Loc nD τ sig) → Buf (Elt F) ℓ)

/-- Two chunks of zeros, in place of the saved arrays only a gradient reads. -/
def zeros : FVec F S2x8x64x64 .f32 := broadcast S2x8x64x64 (Scalar.ofBits .f32 0x00000000#32)

/-- The arrays of the first chunk of point `t`'s blocks, and of the second. -/
def firstRaw (c : Dev nD) (t : Fin cfg0.N) (S : FVec F S8x64x64 .f32) : Raw F :=
  early (iblk m c 0 t) (iblk m c 1 t) (iblk m c 2 t) (iblk m c 3 t) (iblk m c 4 t) zeros zeros (iblk m c 0 t) S
def secondRaw (c : Dev nD) (t : Fin cfg0.N) (S : FVec F S8x64x64 .f32) : Raw F :=
  late (iblk m c 0 t) (iblk m c 1 t) (iblk m c 2 t) (iblk m c 3 t) (iblk m c 4 t) zeros zeros (iblk m c 0 t) S

/-- The first chunk of point `t`'s blocks, `S` the state carried into it. -/
def firstAt (c : Dev nD) (t : Fin cfg0.N) (S : FVec F S8x64x64 .f32) : Raw F := pick (firstRaw m c t S) S

/-- The second chunk, after the first. -/
def secondAt (c : Dev nD) (t : Fin cfg0.N) (S : FVec F S8x64x64 .f32) : Raw F :=
  pick (secondRaw m c t S) (nextF (firstAt m c t S))

/-- The block of the outputs. -/
def oBlk (c : Dev nD) (t : Fin cfg0.N) (S : FVec F S8x64x64 .f32) : Vec F S128x512 .f32 :=
  View.canon (Val := Elt F) (s := S128x512) (e := .f32)
      [ ⟨Rect.unit (s := S128x512) ![64, 448] S64x64.size inb_S128x512_S64x64_64_448, head7 (outF (secondAt m c t S))⟩,
        ⟨Rect.unit (s := S128x512) ![64, 384] S64x64.size inb_S128x512_S64x64_64_384, head6 (outF (secondAt m c t S))⟩,
        ⟨Rect.unit (s := S128x512) ![64, 320] S64x64.size inb_S128x512_S64x64_64_320, head5 (outF (secondAt m c t S))⟩,
        ⟨Rect.unit (s := S128x512) ![64, 256] S64x64.size inb_S128x512_S64x64_64_256, head4 (outF (secondAt m c t S))⟩,
        ⟨Rect.unit (s := S128x512) ![64, 192] S64x64.size inb_S128x512_S64x64_64_192, head3 (outF (secondAt m c t S))⟩,
        ⟨Rect.unit (s := S128x512) ![64, 128] S64x64.size inb_S128x512_S64x64_64_128, head2 (outF (secondAt m c t S))⟩,
        ⟨Rect.unit (s := S128x512) ![64, 64] S64x64.size inb_S128x512_S64x64_64_64, head1 (outF (secondAt m c t S))⟩,
        ⟨Rect.unit (s := S128x512) ![64, 0] S64x64.size inb_S128x512_S64x64_64_0, head0 (outF (secondAt m c t S))⟩,
        ⟨Rect.unit (s := S128x512) ![0, 448] S64x64.size inb_S128x512_S64x64_0_448, head7 (outF (firstAt m c t S))⟩,
        ⟨Rect.unit (s := S128x512) ![0, 384] S64x64.size inb_S128x512_S64x64_0_384, head6 (outF (firstAt m c t S))⟩,
        ⟨Rect.unit (s := S128x512) ![0, 320] S64x64.size inb_S128x512_S64x64_0_320, head5 (outF (firstAt m c t S))⟩,
        ⟨Rect.unit (s := S128x512) ![0, 256] S64x64.size inb_S128x512_S64x64_0_256, head4 (outF (firstAt m c t S))⟩,
        ⟨Rect.unit (s := S128x512) ![0, 192] S64x64.size inb_S128x512_S64x64_0_192, head3 (outF (firstAt m c t S))⟩,
        ⟨Rect.unit (s := S128x512) ![0, 128] S64x64.size inb_S128x512_S64x64_0_128, head2 (outF (firstAt m c t S))⟩,
        ⟨Rect.unit (s := S128x512) ![0, 64] S64x64.size inb_S128x512_S64x64_0_64, head1 (outF (firstAt m c t S))⟩,
        ⟨Rect.unit (s := S128x512) ![0, 0] S64x64.size inb_S128x512_S64x64_0_0, head0 (outF (firstAt m c t S))⟩]

/-- A block of two chunks' stacks. -/
def pair (E L : FVec F S8x64x64 .f32) : Vec F S2x8x64x64 .f32 :=
  View.canon (Val := Elt F) (s := S2x8x64x64) (e := .f32)
    [ ⟨Rect.unit (s := S2x8x64x64) ![1, 0, 0, 0] S1x8x64x64.size inb_S2x8x64x64_S1x8x64x64_1_0_0_0, k0_pay40 L⟩,
      ⟨Rect.unit (s := S2x8x64x64) ![0, 0, 0, 0] S1x8x64x64.size inb_S2x8x64x64_S1x8x64x64_0_0_0_0, k0_pay40 E⟩]

/-- The block of the states, and that of the inverses. -/
def sBlk (c : Dev nD) (t : Fin cfg0.N) (S : FVec F S8x64x64 .f32) : Vec F S2x8x64x64 .f32 :=
  pair (firstAt m c t S).S (secondAt m c t S).S
def tBlk (c : Dev nD) (t : Fin cfg0.N) (S : FVec F S8x64x64 .f32) : Vec F S2x8x64x64 .f32 :=
  pair (firstAt m c t S).T (secondAt m c t S).T

theorem left5_A (c : Dev nD) (t : Fin cfg0.N) (h0 : t.val % 32 = 0) :
    (outsAt0 m c t.val t.isLt).1 = oBlk m c t k0_pay3 := by
  rw [outsAt0_A m c t h0]
  frame_out
  have e0 : View.read (Elt F) (ms0_0 t).view ((hs0_0 t).unread (iblk m c 0 t)) = iblk m c 0 t := (hs0_0 t).read_unread _
  have e1 : View.read (Elt F) (ms0_1 t).view ((hs0_1 t).unread (iblk m c 1 t)) = iblk m c 1 t := (hs0_1 t).read_unread _
  have e2 : View.read (Elt F) (ms0_2 t).view ((hs0_2 t).unread (iblk m c 2 t)) = iblk m c 2 t := (hs0_2 t).read_unread _
  have e3 : View.read (Elt F) (ms0_3 t).view ((hs0_3 t).unread (iblk m c 3 t)) = iblk m c 3 t := (hs0_3 t).read_unread _
  have e4 : View.read (Elt F) (ms0_4 t).view ((hs0_4 t).unread (iblk m c 4 t)) = iblk m c 4 t := (hs0_4 t).read_unread _
  try rw [e0]
  try rw [e1]
  try rw [e2]
  try rw [e3]
  try rw [e4]
  try simp only [Idealize.ShloMosaic.read_unread_whole]
  rfl

theorem left6_A (c : Dev nD) (t : Fin cfg0.N) (h0 : t.val % 32 = 0) :
    (outsAt0 m c t.val t.isLt).2.1 = sBlk m c t k0_pay3 := by
  rw [outsAt0_A m c t h0]
  frame_out
  have e0 : View.read (Elt F) (ms0_0 t).view ((hs0_0 t).unread (iblk m c 0 t)) = iblk m c 0 t := (hs0_0 t).read_unread _
  have e1 : View.read (Elt F) (ms0_1 t).view ((hs0_1 t).unread (iblk m c 1 t)) = iblk m c 1 t := (hs0_1 t).read_unread _
  have e2 : View.read (Elt F) (ms0_2 t).view ((hs0_2 t).unread (iblk m c 2 t)) = iblk m c 2 t := (hs0_2 t).read_unread _
  have e3 : View.read (Elt F) (ms0_3 t).view ((hs0_3 t).unread (iblk m c 3 t)) = iblk m c 3 t := (hs0_3 t).read_unread _
  have e4 : View.read (Elt F) (ms0_4 t).view ((hs0_4 t).unread (iblk m c 4 t)) = iblk m c 4 t := (hs0_4 t).read_unread _
  try rw [e0]
  try rw [e1]
  try rw [e2]
  try rw [e3]
  try rw [e4]
  try simp only [Idealize.ShloMosaic.read_unread_whole]
  rfl

theorem left7_A (c : Dev nD) (t : Fin cfg0.N) (h0 : t.val % 32 = 0) :
    (outsAt0 m c t.val t.isLt).2.2.1 = tBlk m c t k0_pay3 := by
  rw [outsAt0_A m c t h0]
  frame_out
  have e0 : View.read (Elt F) (ms0_0 t).view ((hs0_0 t).unread (iblk m c 0 t)) = iblk m c 0 t := (hs0_0 t).read_unread _
  have e1 : View.read (Elt F) (ms0_1 t).view ((hs0_1 t).unread (iblk m c 1 t)) = iblk m c 1 t := (hs0_1 t).read_unread _
  have e2 : View.read (Elt F) (ms0_2 t).view ((hs0_2 t).unread (iblk m c 2 t)) = iblk m c 2 t := (hs0_2 t).read_unread _
  have e3 : View.read (Elt F) (ms0_3 t).view ((hs0_3 t).unread (iblk m c 3 t)) = iblk m c 3 t := (hs0_3 t).read_unread _
  have e4 : View.read (Elt F) (ms0_4 t).view ((hs0_4 t).unread (iblk m c 4 t)) = iblk m c 4 t := (hs0_4 t).read_unread _
  try rw [e0]
  try rw [e1]
  try rw [e2]
  try rw [e3]
  try rw [e4]
  try simp only [Idealize.ShloMosaic.read_unread_whole]
  rfl

theorem lefts_A (c : Dev nD) (t : Fin cfg0.N) (h0 : t.val % 32 = 0) :
    (outsAt0 m c t.val t.isLt).2.2.2 = k0_pay2 (nextF (secondAt m c t k0_pay3)) := by
  rw [outsAt0_A m c t h0]
  frame_out
  have e0 : View.read (Elt F) (ms0_0 t).view ((hs0_0 t).unread (iblk m c 0 t)) = iblk m c 0 t := (hs0_0 t).read_unread _
  have e1 : View.read (Elt F) (ms0_1 t).view ((hs0_1 t).unread (iblk m c 1 t)) = iblk m c 1 t := (hs0_1 t).read_unread _
  have e2 : View.read (Elt F) (ms0_2 t).view ((hs0_2 t).unread (iblk m c 2 t)) = iblk m c 2 t := (hs0_2 t).read_unread _
  have e3 : View.read (Elt F) (ms0_3 t).view ((hs0_3 t).unread (iblk m c 3 t)) = iblk m c 3 t := (hs0_3 t).read_unread _
  have e4 : View.read (Elt F) (ms0_4 t).view ((hs0_4 t).unread (iblk m c 4 t)) = iblk m c 4 t := (hs0_4 t).read_unread _
  try rw [e0]
  try rw [e1]
  try rw [e2]
  try rw [e3]
  try rw [e4]
  try simp only [Idealize.ShloMosaic.read_unread_whole]
  rfl

theorem left5_B (c : Dev nD) (t : Fin cfg0.N) (h0 : ¬t.val % 32 = 0) :
    (outsAt0 m c t.val t.isLt).1 = oBlk m c t (outsAt0 m c (t.val - 1) (by have := t.isLt; omega)).2.2.2 := by
  rw [outsAt0_B m c t h0]
  frame_out
  have e0 : View.read (Elt F) (ms0_0 t).view ((hs0_0 t).unread (iblk m c 0 t)) = iblk m c 0 t := (hs0_0 t).read_unread _
  have e1 : View.read (Elt F) (ms0_1 t).view ((hs0_1 t).unread (iblk m c 1 t)) = iblk m c 1 t := (hs0_1 t).read_unread _
  have e2 : View.read (Elt F) (ms0_2 t).view ((hs0_2 t).unread (iblk m c 2 t)) = iblk m c 2 t := (hs0_2 t).read_unread _
  have e3 : View.read (Elt F) (ms0_3 t).view ((hs0_3 t).unread (iblk m c 3 t)) = iblk m c 3 t := (hs0_3 t).read_unread _
  have e4 : View.read (Elt F) (ms0_4 t).view ((hs0_4 t).unread (iblk m c 4 t)) = iblk m c 4 t := (hs0_4 t).read_unread _
  try rw [e0]
  try rw [e1]
  try rw [e2]
  try rw [e3]
  try rw [e4]
  try simp only [Idealize.ShloMosaic.read_unread_whole]
  rfl

theorem left6_B (c : Dev nD) (t : Fin cfg0.N) (h0 : ¬t.val % 32 = 0) :
    (outsAt0 m c t.val t.isLt).2.1 = sBlk m c t (outsAt0 m c (t.val - 1) (by have := t.isLt; omega)).2.2.2 := by
  rw [outsAt0_B m c t h0]
  frame_out
  have e0 : View.read (Elt F) (ms0_0 t).view ((hs0_0 t).unread (iblk m c 0 t)) = iblk m c 0 t := (hs0_0 t).read_unread _
  have e1 : View.read (Elt F) (ms0_1 t).view ((hs0_1 t).unread (iblk m c 1 t)) = iblk m c 1 t := (hs0_1 t).read_unread _
  have e2 : View.read (Elt F) (ms0_2 t).view ((hs0_2 t).unread (iblk m c 2 t)) = iblk m c 2 t := (hs0_2 t).read_unread _
  have e3 : View.read (Elt F) (ms0_3 t).view ((hs0_3 t).unread (iblk m c 3 t)) = iblk m c 3 t := (hs0_3 t).read_unread _
  have e4 : View.read (Elt F) (ms0_4 t).view ((hs0_4 t).unread (iblk m c 4 t)) = iblk m c 4 t := (hs0_4 t).read_unread _
  try rw [e0]
  try rw [e1]
  try rw [e2]
  try rw [e3]
  try rw [e4]
  try simp only [Idealize.ShloMosaic.read_unread_whole]
  rfl

theorem left7_B (c : Dev nD) (t : Fin cfg0.N) (h0 : ¬t.val % 32 = 0) :
    (outsAt0 m c t.val t.isLt).2.2.1 = tBlk m c t (outsAt0 m c (t.val - 1) (by have := t.isLt; omega)).2.2.2 := by
  rw [outsAt0_B m c t h0]
  frame_out
  have e0 : View.read (Elt F) (ms0_0 t).view ((hs0_0 t).unread (iblk m c 0 t)) = iblk m c 0 t := (hs0_0 t).read_unread _
  have e1 : View.read (Elt F) (ms0_1 t).view ((hs0_1 t).unread (iblk m c 1 t)) = iblk m c 1 t := (hs0_1 t).read_unread _
  have e2 : View.read (Elt F) (ms0_2 t).view ((hs0_2 t).unread (iblk m c 2 t)) = iblk m c 2 t := (hs0_2 t).read_unread _
  have e3 : View.read (Elt F) (ms0_3 t).view ((hs0_3 t).unread (iblk m c 3 t)) = iblk m c 3 t := (hs0_3 t).read_unread _
  have e4 : View.read (Elt F) (ms0_4 t).view ((hs0_4 t).unread (iblk m c 4 t)) = iblk m c 4 t := (hs0_4 t).read_unread _
  try rw [e0]
  try rw [e1]
  try rw [e2]
  try rw [e3]
  try rw [e4]
  try simp only [Idealize.ShloMosaic.read_unread_whole]
  rfl

theorem lefts_B (c : Dev nD) (t : Fin cfg0.N) (h0 : ¬t.val % 32 = 0) :
    (outsAt0 m c t.val t.isLt).2.2.2 = k0_pay2 (nextF (secondAt m c t (outsAt0 m c (t.val - 1) (by have := t.isLt; omega)).2.2.2)) := by
  rw [outsAt0_B m c t h0]
  frame_out
  have e0 : View.read (Elt F) (ms0_0 t).view ((hs0_0 t).unread (iblk m c 0 t)) = iblk m c 0 t := (hs0_0 t).read_unread _
  have e1 : View.read (Elt F) (ms0_1 t).view ((hs0_1 t).unread (iblk m c 1 t)) = iblk m c 1 t := (hs0_1 t).read_unread _
  have e2 : View.read (Elt F) (ms0_2 t).view ((hs0_2 t).unread (iblk m c 2 t)) = iblk m c 2 t := (hs0_2 t).read_unread _
  have e3 : View.read (Elt F) (ms0_3 t).view ((hs0_3 t).unread (iblk m c 3 t)) = iblk m c 3 t := (hs0_3 t).read_unread _
  have e4 : View.read (Elt F) (ms0_4 t).view ((hs0_4 t).unread (iblk m c 4 t)) = iblk m c 4 t := (hs0_4 t).read_unread _
  try rw [e0]
  try rw [e1]
  try rw [e2]
  try rw [e3]
  try rw [e4]
  try simp only [Idealize.ShloMosaic.read_unread_whole]
  rfl

end Cert.Kernel38Ideal.Chain

end
-- ==== Proof.FwdAt.lean ====
module

public import proofs.«01_k».proof.Proof.FwdPoints

@[expose] public section

/-! What the forward kernel leaves in its output arrays: the outputs, the states and the inverses of the sequence. -/

set_option maxRecDepth 16384

noncomputable section

namespace Cert.Kernel38Ideal.Chain

open Idealize.ShloMosaic Idealize.ShloMosaic.TcCoe Idealize.SL.Sem Idealize.ShloMosaic.Tactic
open Cert.Kernel38Ideal Cert.Kernel38Ideal.Gen
open Cert.KernelIdeal.Chain (Raw Tied toChunk early_tied late_tied toChunk_early toChunk_late head0 head1 head2 head3 head4 head5 head6 head7
  head0_at head1_at head2_at head3_at head4_at head5_at head6_at head7_at)

variable (m : (ℓ : Loc nD τ sig) → Buf (Elt Ideal) ℓ)

/-- The sequence's arrays on device `c`; the three only a gradient reads filled with anything. -/
def inputs (c : Dev nD) : Inputs where
  q r l := m ((c : Thread nD τ).loc main_arg0) (ix2 r l)
  k r l := m ((c : Thread nD τ).loc main_arg1) (ix2 r l)
  v r l := m ((c : Thread nD τ).loc main_arg2) (ix2 r l)
  bt r l := m ((c : Thread nD τ).loc main_arg3) (ix2 r l)
  gt r l := m ((c : Thread nD τ).loc main_arg4) (ix2 r l)
  sh _ _ _ _ := 0
  ph _ _ _ _ := 0
  dO r l := m ((c : Thread nD τ).loc main_arg0) (ix2 r l)

/-- Point `t` takes block `t` of every array. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0, 0, 0] ∧ win0_7.index t = ![t.val, 0, 0, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0, 0, 0] ∧ win0_7.index t = ![t.val, 0, 0, 0])

theorem points (t : Fin cfg0.N) : t.val < 32 := lt_of_lt_of_eq t.isLt (show cfg0.N = 32 from N_0)

theorem zeros_at (s : Fin 2) (h : Fin 8) (i d : Fin 64) : zeros (F := Ideal) (ix4 s h i d) = 0 := by
  unfold zeros; pointwise

theorem iblk0_at (c : Dev nD) (t : Fin cfg0.N) (r : Fin 128) (l : Fin 512) (R : Fin 4096) (hR : R.val = 128 * t.val + r.val) :
    iblk m c 0 t (ix2 r l) = m ((c : Thread nD τ).loc main_arg0) (ix2 R l) := by
  blk_ext [iblk, V, idx t]

theorem iblk1_at (c : Dev nD) (t : Fin cfg0.N) (r : Fin 128) (l : Fin 512) (R : Fin 4096) (hR : R.val = 128 * t.val + r.val) :
    iblk m c 1 t (ix2 r l) = m ((c : Thread nD τ).loc main_arg1) (ix2 R l) := by
  blk_ext [iblk, V, idx t]

theorem iblk2_at (c : Dev nD) (t : Fin cfg0.N) (r : Fin 128) (l : Fin 512) (R : Fin 4096) (hR : R.val = 128 * t.val + r.val) :
    iblk m c 2 t (ix2 r l) = m ((c : Thread nD τ).loc main_arg2) (ix2 R l) := by
  blk_ext [iblk, V, idx t]

theorem iblk3_at (c : Dev nD) (t : Fin cfg0.N) (r : Fin 128) (l : Fin 128) (R : Fin 4096) (hR : R.val = 128 * t.val + r.val) :
    iblk m c 3 t (ix2 r l) = m ((c : Thread nD τ).loc main_arg3) (ix2 R l) := by
  blk_ext [iblk, V, idx t]

theorem iblk4_at (c : Dev nD) (t : Fin cfg0.N) (r : Fin 128) (l : Fin 128) (R : Fin 4096) (hR : R.val = 128 * t.val + r.val) :
    iblk m c 4 t (ix2 r l) = m ((c : Thread nD τ).loc main_arg4) (ix2 R l) := by
  blk_ext [iblk, V, idx t]

theorem firstRaw_tied (c : Dev nD) (t : Fin cfg0.N) (S : FVec Ideal S8x64x64 .f32) : Tied (firstRaw m c t S) :=
  early_tied _ _ _ _ _ _ _ _ _

theorem toChunk_firstRaw (c : Dev nD) (t : Fin cfg0.N) (S : FVec Ideal S8x64x64 .f32) :
    toChunk (firstRaw m c t S) = (inputs m c).chunk (Inputs.nthF (2 * t.val)) fun h i d => S (ix3 h i d) := by
  have ht := points t
  refine toChunk_early (inputs m c) (Inputs.nthF (2 * t.val)) _ _ _ _ _ _ _ _ _ ?_ ?_ ?_ ?_ ?_ ?_ ?_ ?_
  · exact fun i l => iblk0_at m c t _ l _ (by simp only [Inputs.row, Inputs.nthF]; omega)
  · exact fun i l => iblk1_at m c t _ l _ (by simp only [Inputs.row, Inputs.nthF]; omega)
  · exact fun i l => iblk2_at m c t _ l _ (by simp only [Inputs.row, Inputs.nthF]; omega)
  · exact fun i l => iblk3_at m c t _ l _ (by simp only [Inputs.row, Inputs.nthF]; omega)
  · exact fun i l => iblk4_at m c t _ l _ (by simp only [Inputs.row, Inputs.nthF]; omega)
  · exact fun h i d => zeros_at _ _ _ _
  · exact fun h i d => zeros_at _ _ _ _
  · exact fun i l => iblk0_at m c t _ l _ (by simp only [Inputs.row, Inputs.nthF]; omega)

theorem secondRaw_tied (c : Dev nD) (t : Fin cfg0.N) (S : FVec Ideal S8x64x64 .f32) : Tied (secondRaw m c t S) :=
  late_tied _ _ _ _ _ _ _ _ _

theorem toChunk_secondRaw (c : Dev nD) (t : Fin cfg0.N) (S : FVec Ideal S8x64x64 .f32) :
    toChunk (secondRaw m c t S) = (inputs m c).chunk (Inputs.nthF (2 * t.val + 1)) fun h i d => S (ix3 h i d) := by
  have ht := points t
  refine toChunk_late (inputs m c) (Inputs.nthF (2 * t.val + 1)) _ _ _ _ _ _ _ _ _ ?_ ?_ ?_ ?_ ?_ ?_ ?_ ?_
  · exact fun i l => iblk0_at m c t _ l _ (by simp only [Inputs.row, Inputs.nthF]; omega)
  · exact fun i l => iblk1_at m c t _ l _ (by simp only [Inputs.row, Inputs.nthF]; omega)
  · exact fun i l => iblk2_at m c t _ l _ (by simp only [Inputs.row, Inputs.nthF]; omega)
  · exact fun i l => iblk3_at m c t _ l _ (by simp only [Inputs.row, Inputs.nthF]; omega)
  · exact fun i l => iblk4_at m c t _ l _ (by simp only [Inputs.row, Inputs.nthF]; omega)
  · exact fun h i d => zeros_at _ _ _ _
  · exact fun h i d => zeros_at _ _ _ _
  · exact fun i l => iblk0_at m c t _ l _ (by simp only [Inputs.row, Inputs.nthF]; omega)

/-- What is carried into point `t`. -/
def carried (c : Dev nD) (t : Fin cfg0.N) : FVec Ideal S8x64x64 .f32 :=
  if t.val % 32 = 0 then k0_pay3 else (outsAt0 m c (t.val - 1) (by have := t.isLt; omega)).2.2.2

theorem left (c : Dev nD) (t : Fin cfg0.N) :
    (outsAt0 m c t.val t.isLt).1 = oBlk m c t (carried m c t)
    ∧ (outsAt0 m c t.val t.isLt).2.1 = sBlk m c t (carried m c t)
    ∧ (outsAt0 m c t.val t.isLt).2.2.1 = tBlk m c t (carried m c t)
    ∧ (outsAt0 m c t.val t.isLt).2.2.2 = k0_pay2 (nextF (secondAt m c t (carried m c t))) := by
  by_cases h0 : t.val % 32 = 0
  · have e : carried m c t = k0_pay3 := if_pos h0
    rw [e]
    exact ⟨left5_A m c t h0, left6_A m c t h0, left7_A m c t h0, lefts_A m c t h0⟩
  · have e : carried m c t = (outsAt0 m c (t.val - 1) (by have := t.isLt; omega)).2.2.2 := if_neg h0
    rw [e]
    exact ⟨left5_B m c t h0, left6_B m c t h0, left7_B m c t h0, lefts_B m c t h0⟩

theorem pay3_at (h : Fin 8) (i d : Fin 64) : k0_pay3 (F := Ideal) (ix3 h i d) = 0 := by
  unfold k0_pay3; pointwise

theorem pay2_at (x : FVec Ideal S8x64x64 .f32) (h : Fin 8) (i d : Fin 64) : k0_pay2 x (ix3 h i d) = x (ix3 h i d) := by
  unfold k0_pay2; pointwise

section

variable (hx : ∀ c, (inputs m c).Finite)
include hx

theorem toChunk_firstAt (c : Dev nD) (t : Fin cfg0.N) (S : FVec Ideal S8x64x64 .f32) :
    toChunk (firstAt m c t S) = (inputs m c).fwd (Inputs.nthF (2 * t.val)) fun h i d => S (ix3 h i d) :=
  toChunk_pick (hx c) _ _ (firstRaw_tied m c t S) _ (toChunk_firstRaw m c t S) S

theorem toChunk_secondAt (c : Dev nD) (t : Fin cfg0.N) (S : FVec Ideal S8x64x64 .f32) :
    toChunk (secondAt m c t S) = (inputs m c).fwd (Inputs.nthF (2 * t.val + 1)) fun h i d => nextF (firstAt m c t S) (ix3 h i d) :=
  toChunk_pick (hx c) _ _ (secondRaw_tied m c t S) _ (toChunk_secondRaw m c t S) _

/-- The first chunk's state into the second, from what is carried in. -/
theorem first_next (c : Dev nD) (t : Fin cfg0.N) (S : FVec Ideal S8x64x64 .f32)
    (hS : (fun h i d => S (ix3 h i d)) = (inputs m c).fState (2 * t.val)) :
    (fun h i d => nextF (firstAt m c t S) (ix3 h i d)) = (inputs m c).fState (2 * t.val + 1) := by
  funext h i d
  rw [nextF_at (firstAt m c t S) (pick_tied (firstRaw_tied m c t S) _), toChunk_firstAt m hx, hS]; rfl

theorem second_next (c : Dev nD) (t : Fin cfg0.N) (S : FVec Ideal S8x64x64 .f32)
    (hS : (fun h i d => S (ix3 h i d)) = (inputs m c).fState (2 * t.val)) :
    (fun h i d => nextF (secondAt m c t S) (ix3 h i d)) = (inputs m c).fState (2 * t.val + 2) := by
  funext h i d
  rw [nextF_at (secondAt m c t S) (pick_tied (secondRaw_tied m c t S) _), toChunk_secondAt m hx, first_next m hx c t S hS]; rfl

/-- The state carried into point `t` is that before its first chunk. -/
theorem carried_at (c : Dev nD) : ∀ (n : ℕ) (hn : n < cfg0.N),
    (fun h i d => carried m c ⟨n, hn⟩ (ix3 h i d)) = (inputs m c).fState (2 * n) := by
  intro n
  induction n with
  | zero =>
    intro hn
    funext h i d
    have e : carried m c ⟨0, hn⟩ = k0_pay3 := if_pos rfl
    rw [e, pay3_at]; rfl
  | succ n ih =>
    intro hn
    have hN := points ⟨n + 1, hn⟩
    have hn' : n < cfg0.N := by omega
    have e : carried m c ⟨n + 1, hn⟩ = (outsAt0 m c n hn').2.2.2 := if_neg (by dsimp only at hN ⊢; omega)
    have e2 := (left m c ⟨n, hn'⟩).2.2.2
    funext h i d
    rw [e]
    rw [show (outsAt0 m c n hn').2.2.2 = _ from e2, pay2_at]
    exact congrFun (congrFun (congrFun (second_next m hx c ⟨n, hn'⟩ _ (ih hn')) h) i) d

theorem chunk_first (c : Dev nD) (t : Fin cfg0.N) :
    toChunk (firstAt m c t (carried m c t)) = (inputs m c).fwd (Inputs.nthF (2 * t.val)) ((inputs m c).fState (2 * t.val)) := by
  rw [toChunk_firstAt m hx, carried_at m hx c t.val t.isLt]

theorem chunk_second (c : Dev nD) (t : Fin cfg0.N) :
    toChunk (secondAt m c t (carried m c t)) = (inputs m c).fwd (Inputs.nthF (2 * t.val + 1)) ((inputs m c).fState (2 * t.val + 1)) := by
  rw [toChunk_secondAt m hx, first_next m hx c t _ (carried_at m hx c t.val t.isLt)]

end

/-- Two stacks of heads laid into a block: the first in its upper rows, the second in its lower rows. -/
theorem canon_heads (E L : FVec Ideal S8x64x64 .f32) (r : Fin 128) (l : Fin 512) :
    View.canon (Val := Elt Ideal) (s := S128x512) (e := .f32)
      [ ⟨Rect.unit (s := S128x512) ![64, 448] S64x64.size inb_S128x512_S64x64_64_448, head7 L⟩,
        ⟨Rect.unit (s := S128x512) ![64, 384] S64x64.size inb_S128x512_S64x64_64_384, head6 L⟩,
        ⟨Rect.unit (s := S128x512) ![64, 320] S64x64.size inb_S128x512_S64x64_64_320, head5 L⟩,
        ⟨Rect.unit (s := S128x512) ![64, 256] S64x64.size inb_S128x512_S64x64_64_256, head4 L⟩,
        ⟨Rect.unit (s := S128x512) ![64, 192] S64x64.size inb_S128x512_S64x64_64_192, head3 L⟩,
        ⟨Rect.unit (s := S128x512) ![64, 128] S64x64.size inb_S128x512_S64x64_64_128, head2 L⟩,
        ⟨Rect.unit (s := S128x512) ![64, 64] S64x64.size inb_S128x512_S64x64_64_64, head1 L⟩,
        ⟨Rect.unit (s := S128x512) ![64, 0] S64x64.size inb_S128x512_S64x64_64_0, head0 L⟩,
        ⟨Rect.unit (s := S128x512) ![0, 448] S64x64.size inb_S128x512_S64x64_0_448, head7 E⟩,
        ⟨Rect.unit (s := S128x512) ![0, 384] S64x64.size inb_S128x512_S64x64_0_384, head6 E⟩,
        ⟨Rect.unit (s := S128x512) ![0, 320] S64x64.size inb_S128x512_S64x64_0_320, head5 E⟩,
        ⟨Rect.unit (s := S128x512) ![0, 256] S64x64.size inb_S128x512_S64x64_0_256, head4 E⟩,
        ⟨Rect.unit (s := S128x512) ![0, 192] S64x64.size inb_S128x512_S64x64_0_192, head3 E⟩,
        ⟨Rect.unit (s := S128x512) ![0, 128] S64x64.size inb_S128x512_S64x64_0_128, head2 E⟩,
        ⟨Rect.unit (s := S128x512) ![0, 64] S64x64.size inb_S128x512_S64x64_0_64, head1 E⟩,
        ⟨Rect.unit (s := S128x512) ![0, 0] S64x64.size inb_S128x512_S64x64_0_0, head0 E⟩] (ix2 r l)
      = (if r.val < 64 then E else L) (ix3 (Inputs.headOf l) ⟨r.val % 64, by omega⟩ (Inputs.laneOf l)) := by
  canon_tiles x h
  · have h0 : r.val = 64 + (x 0).val := by simpa using h0
    have h1 : l.val = 448 + (x 1).val := by simpa using h1
    rw [if_neg (by omega)]
    exact head7_at _ _ _ _ _ (show l.val / 64 = 7 by omega) (show r.val % 64 = _ by omega) (show l.val % 64 = _ by omega)
  · have h0 : r.val = 64 + (x 0).val := by simpa using h0
    have h1 : l.val = 384 + (x 1).val := by simpa using h1
    rw [if_neg (by omega)]
    exact head6_at _ _ _ _ _ (show l.val / 64 = 6 by omega) (show r.val % 64 = _ by omega) (show l.val % 64 = _ by omega)
  · have h0 : r.val = 64 + (x 0).val := by simpa using h0
    have h1 : l.val = 320 + (x 1).val := by simpa using h1
    rw [if_neg (by omega)]
    exact head5_at _ _ _ _ _ (show l.val / 64 = 5 by omega) (show r.val % 64 = _ by omega) (show l.val % 64 = _ by omega)
  · have h0 : r.val = 64 + (x 0).val := by simpa using h0
    have h1 : l.val = 256 + (x 1).val := by simpa using h1
    rw [if_neg (by omega)]
    exact head4_at _ _ _ _ _ (show l.val / 64 = 4 by omega) (show r.val % 64 = _ by omega) (show l.val % 64 = _ by omega)
  · have h0 : r.val = 64 + (x 0).val := by simpa using h0
    have h1 : l.val = 192 + (x 1).val := by simpa using h1
    rw [if_neg (by omega)]
    exact head3_at _ _ _ _ _ (show l.val / 64 = 3 by omega) (show r.val % 64 = _ by omega) (show l.val % 64 = _ by omega)
  · have h0 : r.val = 64 + (x 0).val := by simpa using h0
    have h1 : l.val = 128 + (x 1).val := by simpa using h1
    rw [if_neg (by omega)]
    exact head2_at _ _ _ _ _ (show l.val / 64 = 2 by omega) (show r.val % 64 = _ by omega) (show l.val % 64 = _ by omega)
  · have h0 : r.val = 64 + (x 0).val := by simpa using h0
    have h1 : l.val = 64 + (x 1).val := by simpa using h1
    rw [if_neg (by omega)]
    exact head1_at _ _ _ _ _ (show l.val / 64 = 1 by omega) (show r.val % 64 = _ by omega) (show l.val % 64 = _ by omega)
  · have h0 : r.val = 64 + (x 0).val := by simpa using h0
    have h1 : l.val = 0 + (x 1).val := by simpa using h1
    rw [if_neg (by omega)]
    exact head0_at _ _ _ _ _ (show l.val / 64 = 0 by omega) (show r.val % 64 = _ by omega) (show l.val % 64 = _ by omega)
  · have h0 : r.val = 0 + (x 0).val := by simpa using h0
    have h1 : l.val = 448 + (x 1).val := by simpa using h1
    rw [if_pos (by omega)]
    exact head7_at _ _ _ _ _ (show l.val / 64 = 7 by omega) (show r.val % 64 = _ by omega) (show l.val % 64 = _ by omega)
  · have h0 : r.val = 0 + (x 0).val := by simpa using h0
    have h1 : l.val = 384 + (x 1).val := by simpa using h1
    rw [if_pos (by omega)]
    exact head6_at _ _ _ _ _ (show l.val / 64 = 6 by omega) (show r.val % 64 = _ by omega) (show l.val % 64 = _ by omega)
  · have h0 : r.val = 0 + (x 0).val := by simpa using h0
    have h1 : l.val = 320 + (x 1).val := by simpa using h1
    rw [if_pos (by omega)]
    exact head5_at _ _ _ _ _ (show l.val / 64 = 5 by omega) (show r.val % 64 = _ by omega) (show l.val % 64 = _ by omega)
  · have h0 : r.val = 0 + (x 0).val := by simpa using h0
    have h1 : l.val = 256 + (x 1).val := by simpa using h1
    rw [if_pos (by omega)]
    exact head4_at _ _ _ _ _ (show l.val / 64 = 4 by omega) (show r.val % 64 = _ by omega) (show l.val % 64 = _ by omega)
  · have h0 : r.val = 0 + (x 0).val := by simpa using h0
    have h1 : l.val = 192 + (x 1).val := by simpa using h1
    rw [if_pos (by omega)]
    exact head3_at _ _ _ _ _ (show l.val / 64 = 3 by omega) (show r.val % 64 = _ by omega) (show l.val % 64 = _ by omega)
  · have h0 : r.val = 0 + (x 0).val := by simpa using h0
    have h1 : l.val = 128 + (x 1).val := by simpa using h1
    rw [if_pos (by omega)]
    exact head2_at _ _ _ _ _ (show l.val / 64 = 2 by omega) (show r.val % 64 = _ by omega) (show l.val % 64 = _ by omega)
  · have h0 : r.val = 0 + (x 0).val := by simpa using h0
    have h1 : l.val = 64 + (x 1).val := by simpa using h1
    rw [if_pos (by omega)]
    exact head1_at _ _ _ _ _ (show l.val / 64 = 1 by omega) (show r.val % 64 = _ by omega) (show l.val % 64 = _ by omega)
  · have h0 : r.val = 0 + (x 0).val := by simpa using h0
    have h1 : l.val = 0 + (x 1).val := by simpa using h1
    rw [if_pos (by omega)]
    exact head0_at _ _ _ _ _ (show l.val / 64 = 0 by omega) (show r.val % 64 = _ by omega) (show l.val % 64 = _ by omega)

theorem pay40_at (x : FVec Ideal S8x64x64 .f32) (y : S1x8x64x64.Idx) (h : Fin 8) (i d : Fin 64) (hh : h.val = (y 1).val)
    (hi : i.val = (y 2).val) (hd : d.val = (y 3).val) : k0_pay40 x y = x (ix3 h i d) := by
  obtain rfl : h = y 1 := Fin.ext hh
  obtain rfl : i = y 2 := Fin.ext hi
  obtain rfl : d = y 3 := Fin.ext hd
  have h0 : (y 0 : Fin 1) = (0 : Fin 1) := Subsingleton.elim (α := Fin 1) _ _
  have e : y = ix4 0 (y 1) (y 2) (y 3) := by funext a; match a with | 0 => exact h0 | 1 => rfl | 2 => rfl | 3 => rfl
  rw [e]; unfold k0_pay40; pointwise

theorem pair_at (E L : FVec Ideal S8x64x64 .f32) (s : Fin 2) (h : Fin 8) (i d : Fin 64) :
    pair E L (ix4 s h i d) = (if s.val = 0 then E else L) (ix3 h i d) := by
  unfold pair
  canon_tiles x e
  · have h0 : s.val = 1 + (x 0).val := by simpa using e0
    have h1 : h.val = (x 1).val := by simpa using e1
    have h2 : i.val = (x 2).val := by simpa using e2
    have h3 : d.val = (x 3).val := by simpa using e3
    rw [if_neg (by omega)]
    exact pay40_at _ _ _ _ _ h1 h2 h3
  · have h0 : s.val = 0 + (x 0).val := by simpa using e0
    have h1 : h.val = (x 1).val := by simpa using e1
    have h2 : i.val = (x 2).val := by simpa using e2
    have h3 : d.val = (x 3).val := by simpa using e3
    rw [if_pos (by omega)]
    exact pay40_at _ _ _ _ _ h1 h2 h3

section

variable (hx : ∀ c, (inputs m c).Finite)
include hx

theorem oBlk_at (c : Dev nD) (t : Fin cfg0.N) (r : Fin 128) (l : Fin 512) (R : Fin 4096) (hR : R.val = 128 * t.val + r.val) :
    oBlk m c t (carried m c t) (ix2 r l) = (inputs m c).o R l := by
  have ht := points t
  refine (canon_heads _ _ r l).trans ?_
  unfold Inputs.o
  rw [show (⟨r.val % 64, by omega⟩ : Fin 64) = Inputs.rowOf R from Fin.ext (by simp only [Inputs.rowOf]; omega)]
  by_cases h : r.val < 64
  · rw [if_pos h, outF_at (firstAt m c t _) (pick_tied (firstRaw_tied m c t _) _), chunk_first m hx]
    rw [show Inputs.nthF (2 * t.val) = Inputs.chunkOf R from Fin.ext (by simp only [Inputs.nthF, Inputs.chunkOf]; omega),
      show 2 * t.val = (Inputs.chunkOf R).val by simp only [Inputs.chunkOf]; omega]
  · rw [if_neg h, outF_at (secondAt m c t _) (pick_tied (secondRaw_tied m c t _) _), chunk_second m hx]
    rw [show Inputs.nthF (2 * t.val + 1) = Inputs.chunkOf R from Fin.ext (by simp only [Inputs.nthF, Inputs.chunkOf]; omega),
      show 2 * t.val + 1 = (Inputs.chunkOf R).val by simp only [Inputs.chunkOf]; omega]

theorem sBlk_at (c : Dev nD) (t : Fin cfg0.N) (s : Fin 2) (h : Fin 8) (i d : Fin 64) (n : Fin 64) (hn : n.val = 2 * t.val + s.val) :
    sBlk m c t (carried m c t) (ix4 s h i d) = (inputs m c).fState n.val h i d := by
  refine (pair_at _ _ s h i d).trans ?_
  by_cases e : s.val = 0
  · rw [if_pos e, show n.val = 2 * t.val by omega]
    exact congrFun (congrFun (congrFun (carried_at m hx c t.val t.isLt) h) i) d
  · rw [if_neg e, show n.val = 2 * t.val + 1 by omega]
    exact congrFun (congrFun (congrFun (first_next m hx c t _ (carried_at m hx c t.val t.isLt)) h) i) d

theorem tBlk_at (c : Dev nD) (t : Fin cfg0.N) (s : Fin 2) (h : Fin 8) (i d : Fin 64) (n : Fin 64) (hn : n.val = 2 * t.val + s.val) :
    tBlk m c t (carried m c t) (ix4 s h i d) = (inputs m c).inverse n h i d := by
  refine (pair_at _ _ s h i d).trans ?_
  by_cases e : s.val = 0
  · rw [if_pos e]
    have e1 := congrArg (fun k : Chunk => k.T h i d) (chunk_first m hx c t)
    rw [show Inputs.nthF (2 * t.val) = n from Fin.ext (by simp only [Inputs.nthF]; omega)] at e1
    exact e1
  · rw [if_neg e]
    have e1 := congrArg (fun k : Chunk => k.T h i d) (chunk_second m hx c t)
    rw [show Inputs.nthF (2 * t.val + 1) = n from Fin.ext (by simp only [Inputs.nthF]; omega)] at e1
    exact e1

theorem oBlk_place (c : Dev nD) (t : Fin cfg0.N) (y : S128x512.Idx) (Y : S4096x512.Idx) (h0 : (Y 0).val = 128 * t.val + (y 0).val)
    (h1 : (Y 1).val = (y 1).val) : oBlk m c t (carried m c t) y = (inputs m c).o (Y 0) (Y 1) := by
  have hy : y = ix2 (y 0) (y 1) := by funext a; match a with | 0 => rfl | 1 => rfl
  have e : (Y 1 : Fin 512) = y 1 := Fin.ext h1
  rw [hy]
  exact (oBlk_at m hx c t (y 0) (y 1) (Y 0) h0).trans (by rw [e])

theorem sBlk_place (c : Dev nD) (t : Fin cfg0.N) (y : S2x8x64x64.Idx) (Y : S64x8x64x64.Idx) (h0 : (Y 0).val = 2 * t.val + (y 0).val)
    (h1 : (Y 1).val = (y 1).val) (h2 : (Y 2).val = (y 2).val) (h3 : (Y 3).val = (y 3).val) :
    sBlk m c t (carried m c t) y = (inputs m c).state (Y 0) (Y 1) (Y 2) (Y 3) := by
  have hy : y = ix4 (y 0) (y 1) (y 2) (y 3) := by funext a; match a with | 0 => rfl | 1 => rfl | 2 => rfl | 3 => rfl
  have e1 : (Y 1 : Fin 8) = y 1 := Fin.ext h1
  have e2 : (Y 2 : Fin 64) = y 2 := Fin.ext h2
  have e3 : (Y 3 : Fin 64) = y 3 := Fin.ext h3
  rw [hy]
  exact (sBlk_at m hx c t (y 0) (y 1) (y 2) (y 3) (Y 0) h0).trans (by rw [e1, e2, e3]; rfl)

theorem tBlk_place (c : Dev nD) (t : Fin cfg0.N) (y : S2x8x64x64.Idx) (Y : S64x8x64x64.Idx) (h0 : (Y 0).val = 2 * t.val + (y 0).val)
    (h1 : (Y 1).val = (y 1).val) (h2 : (Y 2).val = (y 2).val) (h3 : (Y 3).val = (y 3).val) :
    tBlk m c t (carried m c t) y = (inputs m c).inverse (Y 0) (Y 1) (Y 2) (Y 3) := by
  have hy : y = ix4 (y 0) (y 1) (y 2) (y 3) := by funext a; match a with | 0 => rfl | 1 => rfl | 2 => rfl | 3 => rfl
  have e1 : (Y 1 : Fin 8) = y 1 := Fin.ext h1
  have e2 : (Y 2 : Fin 64) = y 2 := Fin.ext h2
  have e3 : (Y 3 : Fin 64) = y 3 := Fin.ext h3
  rw [hy]
  exact (tBlk_at m hx c t (y 0) (y 1) (y 2) (y 3) (Y 0) h0).trans (by rw [e1, e2, e3])

theorem final5 (c : Dev nD) : (dats m 0 c).arrAt 5 cfg0.N = fun y : S4096x512.Idx => (inputs m c).o (y 0) (y 1) := by
  refine (dats m 0 c).arrAt_eq_of_covers 5 _ (by decide +kernel) fun t hf y => ?_
  have ht := points t
  blk_simp
  rw [after0_5, (left m c t).1]
  exact oBlk_place m hx c t _ _ (by blk_simp [idx t]; omega) (by blk_simp [idx t])

theorem final6 (c : Dev nD) : (dats m 0 c).arrAt 6 cfg0.N
    = fun y : S64x8x64x64.Idx => (inputs m c).state (y 0) (y 1) (y 2) (y 3) := by
  refine (dats m 0 c).arrAt_eq_of_covers 6 _ (by decide +kernel) fun t hf y => ?_
  have ht := points t
  blk_simp
  rw [after0_6, (left m c t).2.1]
  exact sBlk_place m hx c t _ _ (by blk_simp [idx t]; omega) (by blk_simp [idx t]) (by blk_simp [idx t]) (by blk_simp [idx t])

theorem final7 (c : Dev nD) : (dats m 0 c).arrAt 7 cfg0.N
    = fun y : S64x8x64x64.Idx => (inputs m c).inverse (y 0) (y 1) (y 2) (y 3) := by
  refine (dats m 0 c).arrAt_eq_of_covers 7 _ (by decide +kernel) fun t hf y => ?_
  have ht := points t
  blk_simp
  rw [after0_7, (left m c t).2.2.1]
  exact tBlk_place m hx c t _ _ (by blk_simp [idx t]; omega) (by blk_simp [idx t]) (by blk_simp [idx t]) (by blk_simp [idx t])

end

end Cert.Kernel38Ideal.Chain

end
-- ==== Proof.FwdTrip.lean ====
module

public import proofs.«01_k».proof.Proof.Gen.Reference38Ideal.Run
public import proofs.«01_k».proof.Proof.Forward
public import proofs.«01_k».proof.Proof.ChainAt
public import Idealize.ShloMosaic.Lib.Pipeline.ValueKit
public import Idealize.ShloMosaic.Lib.WordCmp

@[expose] public section

/-! One trip of the forward reference's loop, its values at an index: each is the chunk's own function of the arrays the
loop carries. -/

set_option maxRecDepth 16384

noncomputable section

namespace Cert.Reference38Ideal.Trip

open Idealize.ShloMosaic Idealize.ShloMosaic.TcCoe Idealize.SL.Sem Idealize.ShloMosaic.Tactic
open Cert.Reference38Ideal Cert.Reference38Ideal.Gen Cert.Reference38Ideal.Value
open Cert.Inputs (row lane nthF)

/-- What the loop carries before the trip numbered `s`: the arrays chunk by chunk, the trip's number and the state. -/
structure Holds (x : Inputs) (s : ℕ) (V : Valuation τ sig (Elt Ideal)) : Prop where
  ctr : V (Proc.devRef .tc main_v16_5) = fun _ => BitVec.ofNat 32 s
  q (n h i d) : V (Proc.devRef .tc main_v16_0) (ix4 n h i d) = x.q (row n i) (lane h d)
  k (n h i d) : V (Proc.devRef .tc main_v16_1) (ix4 n h i d) = x.k (row n i) (lane h d)
  v (n h i d) : V (Proc.devRef .tc main_v16_2) (ix4 n h i d) = x.v (row n i) (lane h d)
  g (n h i) : V (Proc.devRef .tc main_v16_3) (ix3 n h i) = x.gt (row n i) ⟨8 + h.val, by omega⟩
  beta (n h i) : V (Proc.devRef .tc main_v16_4) (ix3 n h i) = x.bt (row n i) ⟨h.val, by omega⟩
  S (h i d) : V (Proc.devRef .tc main_v16_6) (ix3 h i d) = x.fState s h i d

/-- The chunk of the trip numbered `s`. -/
def cur (x : Inputs) (s : ℕ) : Chunk := x.fwd (nthF s) (x.fState s)

theorem slab4 (X : FVec Ideal S64x8x64x64 .f32) (w : IVec S_ 32) (n : Fin 64) (hw : w = fun _ => BitVec.ofNat 32 n.val)
    (h : Fin 8) (i d : Fin 64) :
    shapeCast S8x64x64 (Host.dynamicSlice S1x8x64x64 X (fun k => (((![w, constantI S_ 32 0#32, constantI S_ 32 0#32, constantI S_ 32 0#32] : Fin 4 → (⟨S_, .i32⟩ : BufTy).Contents (Elt Ideal))) k (Shape.Idx.first h_S_)).toInt) sliceFits_S64x8x64x64_S1x8x64x64) shapeCasts_S1x8x64x64_S8x64x64 (ix3 h i d)
      = X (ix4 n h i d) := by
  subst hw
  rw [Idealize.ShloMosaic.WordCmp.dynamicSlice_eq_extract S1x8x64x64 X _ _ ![n.val, 0, 0, 0]
    ⟨by decide, by intro a; fin_cases a <;> simp [S1x8x64x64, S64x8x64x64] <;> omega⟩
    (by
      intro a
      have hn : (BitVec.ofNat 32 n.val).toInt = (n.val : Int) := by revert n; decide +kernel
      fin_cases a
      · exact hn
      · rfl
      · rfl
      · rfl)]
  pointwise

theorem slab3 (X : FVec Ideal S64x8x64 .f32) (w : IVec S_ 32) (n : Fin 64) (hw : w = fun _ => BitVec.ofNat 32 n.val)
    (h : Fin 8) (i : Fin 64) :
    shapeCast S8x64 (Host.dynamicSlice S1x8x64 X (fun k => (((![w, constantI S_ 32 0#32, constantI S_ 32 0#32] : Fin 3 → (⟨S_, .i32⟩ : BufTy).Contents (Elt Ideal))) k (Shape.Idx.first h_S_)).toInt) sliceFits_S64x8x64_S1x8x64) shapeCasts_S1x8x64_S8x64 (ix2 h i)
      = X (ix3 n h i) := by
  subst hw
  rw [Idealize.ShloMosaic.WordCmp.dynamicSlice_eq_extract S1x8x64 X _ _ ![n.val, 0, 0]
    ⟨by decide, by intro a; fin_cases a <;> simp [S1x8x64, S64x8x64] <;> omega⟩
    (by
      intro a
      have hn : (BitVec.ofNat 32 n.val).toInt = (n.val : Int) := by revert n; decide +kernel
      fin_cases a
      · exact hn
      · rfl
      · rfl)]
  pointwise

theorem sel_ge {α : Type} (i j : Fin 64) (a b : α) :
    Scalar.select (IntOp.cmpi .sge (BitVec.ofNat 32 i.val) (BitVec.ofNat 32 j.val)) a b = if j ≤ i then a else b := by
  rw [Cert.cmpi_ge]; by_cases h : j ≤ i <;> simp [h, Scalar.select]

theorem sel_gt {α : Type} (i j : Fin 64) (a b : α) :
    Scalar.select (IntOp.cmpi .sgt (BitVec.ofNat 32 i.val) (BitVec.ofNat 32 j.val)) a b = if j < i then a else b := by
  rw [Cert.cmpi_gt]; by_cases h : j < i <;> simp [h, Scalar.select]

/-- The identity. -/
theorem v51_at (V : Valuation τ sig (Elt Ideal)) (h : Fin 8) (i j : Fin 64) : res_main_while0b_v51 V (ix3 h i j) = Sq.one i j := by
  unfold res_main_while0b_v51; pointwise
  have e : IntOp.cmpi .eq (IntOp.addi (BitVec.ofNat 32 i.val) (0#32)) (BitVec.ofNat 32 j.val) = if i = j then 1#1 else 0#1 := by
    revert i j; decide +kernel
  rw [e]
  by_cases hh : i = j
  · rw [if_pos hh]
    show (((1#1 : BitVec 1).toNat : ℝ) : EReal) = _
    simp [Sq.one, hh]
  · rw [if_neg hh]
    show (((0#1 : BitVec 1).toNat : ℝ) : EReal) = _
    simp [Sq.one, hh]

/-- One round of the solve: the identity less the lower part by what there is so far. -/
def rd (V : Valuation τ sig (Elt Ideal)) (X : FVec Ideal S8x64x64 .f32) : FVec Ideal S8x64x64 .f32 :=
  subf (res_main_while0b_v51 V) (Host.dotGeneral (φ₁ := .f32) (φ₂ := .f32) dot_S8x64x64_S8x64x64_S8x64x64_2_1_1_2_0_0 none (res_main_while0b_v44 V) X)

/-- The solve is sixty-three rounds from the identity. -/
theorem solve_eq (V : Valuation τ sig (Elt Ideal)) : res_main_while0b_v177 V = (rd V)^[63] (res_main_while0b_v51 V) := rfl

section

variable {x : Inputs} {s : ℕ} {V : Valuation τ sig (Elt Ideal)} (H : Holds x s V) (hs : s < 64)
include H hs

theorem index_eq : V (Proc.devRef .tc main_v16_5) = fun _ => BitVec.ofNat 32 (nthF s).val := by
  rw [H.ctr, show (nthF s).val = s from Nat.mod_eq_of_lt hs]

theorem S_at (h : Fin 8) (i d : Fin 64) : V (Proc.devRef .tc main_v16_6) (ix3 h i d) = (cur x s).S h i d := H.S h i d

theorem v19_at (h : Fin 8) (i d : Fin 64) : res_main_while0b_v19 V (ix3 h i d) = (cur x s).q h i d := by
  unfold res_main_while0b_v19; exact (slab4 _ _ (nthF s) (index_eq H hs) h i d).trans (H.q _ _ _ _)

theorem v20_at (h : Fin 8) (i d : Fin 64) : res_main_while0b_v20 V (ix3 h i d) = (cur x s).k h i d := by
  unfold res_main_while0b_v20; exact (slab4 _ _ (nthF s) (index_eq H hs) h i d).trans (H.k _ _ _ _)

theorem v22_at (h : Fin 8) (i : Fin 64) : res_main_while0b_v22 V (ix2 h i) = (cur x s).g h i := by
  unfold res_main_while0b_v22; exact (slab3 _ _ (nthF s) (index_eq H hs) h i).trans (H.g _ _ _)

theorem v23_at (h : Fin 8) (i : Fin 64) : res_main_while0b_v23 V (ix2 h i) = (cur x s).beta h i := by
  unfold res_main_while0b_v23; exact (slab3 _ _ (nthF s) (index_eq H hs) h i).trans (H.beta _ _ _)

omit H hs in
theorem v26_at (V : Valuation τ sig (Elt Ideal)) (i j : Fin 64) :
    res_main_while0b_v26 V (ix2 i j) = IntOp.cmpi .sge (BitVec.ofNat 32 i.val) (BitVec.ofNat 32 j.val) := by
  unfold res_main_while0b_v26 res_main_while0b_v24 res_main_while0b_v25; pointwise

theorem v35_at (h : Fin 8) (i j : Fin 64) : res_main_while0b_v35 V (ix3 h i j) = (cur x s).D h i j := by
  unfold res_main_while0b_v35; simp only [id]; pointwise; simp only [Chunk.D, Chunk.E, v22_at H hs, v26_at, sel_ge]

theorem v38_at (h : Fin 8) (i j : Fin 64) : res_main_while0b_v38 V (ix3 h i j) = (cur x s).kb h i j := by
  unfold res_main_while0b_v38; pointwise; simp only [Chunk.kb, v20_at H hs, v23_at H hs]

theorem v44_at (h : Fin 8) (i j : Fin 64) : res_main_while0b_v44 V (ix3 h i j) = (cur x s).lower h i j := by
  unfold res_main_while0b_v44 res_main_while0b_v24 res_main_while0b_v25; simp only [id]; pointwise
  simp only [Chunk.lower, Chunk.KK, v38_at H hs, v20_at H hs, v35_at H hs, sel_gt]

/-- A round, at an index. -/
theorem rd_at (h : Fin 8) (X : FVec Ideal S8x64x64 .f32) (i j : Fin 64) :
    rd V X (ix3 h i j) = Sq.round ((cur x s).lower h) (fun a b => X (ix3 h a b)) i j := by
  unfold rd; pointwise; simp only [Sq.round, Sq.sub, Sq.mul, v51_at, v44_at H hs]

theorem rounds_at (h : Fin 8) : ∀ n : ℕ, (fun a b => (rd V)^[n] (res_main_while0b_v51 V) (ix3 h a b)) = (Sq.round ((cur x s).lower h))^[n] Sq.one
  | 0 => by funext a b; exact v51_at V h a b
  | n + 1 => by
    rw [Function.iterate_succ_apply', Function.iterate_succ_apply', ← rounds_at h n]
    funext a b
    exact rd_at H hs h _ a b

/-- The solve, at an index. -/
theorem v177_at (h : Fin 8) (i j : Fin 64) : res_main_while0b_v177 V (ix3 h i j) = (cur x s).T h i j := by
  rw [solve_eq]
  exact congrFun (congrFun (rounds_at H hs h 63) i) j

theorem v179_at (h : Fin 8) (i : Fin 64) : res_main_while0b_v179 V (ix3 h i 0) = (cur x s).eg h i := by
  unfold res_main_while0b_v179; pointwise; simp only [Chunk.eg, v22_at H hs]

theorem v195_at (h : Fin 8) : res_main_while0b_v195 V (ix1 h) = (cur x s).g h 63 := by
  unfold res_main_while0b_v195; pointwise; simp only [v22_at H hs]

theorem v188_at (h : Fin 8) (i j : Fin 64) : res_main_while0b_v188 V (ix3 h i j) = (cur x s).vn h i j := by
  have hv := fun h i d => (slab4 (V (Proc.devRef .tc main_v16_2)) _ (nthF s) (index_eq H hs) h i d).trans (H.v _ _ _ _)
  unfold res_main_while0b_v188
  generalize shapeCast S8x64x64 (Host.dynamicSlice S1x8x64x64 (V (Proc.devRef .tc main_v16_2)) _ _) _ = G at hv ⊢
  pointwise
  simp only [Chunk.vn, Chunk.u, Chunk.w, Chunk.kbe, Chunk.vb, v177_at H hs, v23_at H hs, v38_at H hs, v179_at H hs, S_at H hs, hv]
  rfl

end

end Cert.Reference38Ideal.Trip

end
-- ==== Proof.FwdLoop.lean ====
module

public import proofs.«01_k».proof.Proof.FwdTrip

@[expose] public section

/-! The forward reference's loop: what it carries before every trip, and the results it leaves. -/

set_option maxRecDepth 16384

noncomputable section

namespace Cert.Reference38Ideal.Trip

open Idealize.ShloMosaic Idealize.ShloMosaic.TcCoe Idealize.SL.Sem Idealize.ShloMosaic.Tactic
open Cert.Reference38Ideal Cert.Reference38Ideal.Gen Cert.Reference38Ideal.Value
open Idealize.ShloMosaic.StableHlo
open Cert.Inputs (row lane nthF)

/-- A chunk's array put at its place of a history. -/
theorem put4 (X : FVec Ideal S64x8x64x64 .f32) (U : FVec Ideal S8x64x64 .f32) (w : IVec S_ 32) (n : Fin 64)
    (hw : w = fun _ => BitVec.ofNat 32 n.val) (n' : Fin 64) (h : Fin 8) (i d : Fin 64) :
    Host.dynamicUpdateSlice X (broadcastInDim S1x8x64x64 ![1, 2, 3] bcast_S8x64x64_S1x8x64x64_1_2_3 U) (fun k => (((![w, constantI S_ 32 0#32, constantI S_ 32 0#32, constantI S_ 32 0#32] : Fin 4 → (⟨S_, .i32⟩ : BufTy).Contents (Elt Ideal))) k (Shape.Idx.first h_S_)).toInt) updateFits_S64x8x64x64_S1x8x64x64 (ix4 n' h i d)
      = if n' = n then U (ix3 h i d) else X (ix4 n' h i d) := by
  subst hw
  rw [Idealize.ShloMosaic.WordCmp.dynamicUpdateSlice_eq_update X _ _ _ ![n.val, 0, 0, 0]
    ⟨by decide, by intro a; fin_cases a <;> simp [S1x8x64x64, S64x8x64x64] <;> omega⟩
    (by
      intro a
      have hn : (BitVec.ofNat 32 n.val).toInt = (n.val : Int) := by revert n; decide +kernel
      fin_cases a
      · exact hn
      · rfl
      · rfl
      · rfl)]
  pointwise
  by_cases e : n' = n
  · subst e; simp
  · rw [if_neg e]
    have hne : ¬ (n ≤ n' ∧ n' ≤ n) := fun hh => e (le_antisymm hh.2 hh.1)
    simp
    intro h1 h2
    exact absurd ⟨h1, h2⟩ hne

section

variable {x : Inputs} {s : ℕ} {V : Valuation τ sig (Elt Ideal)} (H : Holds x s V) (hs : s < 64)
include H hs

theorem step6 (h : Fin 8) (i d : Fin 64) : step_main_v16_6 V (ix3 h i d) = x.fState (s + 1) h i d := by
  show _ = (cur x s).next h i d
  unfold step_main_v16_6; simp only [id]; pointwise
  simp only [Chunk.next, Chunk.kd, Chunk.ed, Chunk.egl, S_at H hs, v195_at H hs, v20_at H hs, v22_at H hs, v188_at H hs]

theorem step7 (n : Fin 64) (h : Fin 8) (i d : Fin 64) : step_main_v16_7 V (ix4 n h i d)
    = if n = nthF s then (cur x s).out h i d else V (Proc.devRef .tc main_v16_7) (ix4 n h i d) := by
  unfold step_main_v16_7; simp only [id]
  refine (put4 _ _ _ (nthF s) (index_eq H hs) n h i d).trans ?_
  congr 1
  pointwise
  simp only [Chunk.out, Chunk.qe, Chunk.A, Chunk.QK, v19_at H hs, v20_at H hs, v179_at H hs, S_at H hs, v26_at, v35_at H hs, v188_at H hs, sel_ge, ite_mul, zero_mul]

theorem step8 (n : Fin 64) (h : Fin 8) (i d : Fin 64) : step_main_v16_8 V (ix4 n h i d)
    = if n = nthF s then (cur x s).S h i d else V (Proc.devRef .tc main_v16_8) (ix4 n h i d) := by
  unfold step_main_v16_8; simp only [id]
  refine (put4 _ _ _ (nthF s) (index_eq H hs) n h i d).trans ?_
  congr 1
  exact S_at H hs h i d

theorem step9 (n : Fin 64) (h : Fin 8) (i d : Fin 64) : step_main_v16_9 V (ix4 n h i d)
    = if n = nthF s then (cur x s).T h i d else V (Proc.devRef .tc main_v16_9) (ix4 n h i d) := by
  unfold step_main_v16_9; simp only [id]
  refine (put4 _ _ _ (nthF s) (index_eq H hs) n h i d).trans ?_
  congr 1
  exact v177_at H hs h i d

end

variable (m : (ℓ : Loc nD τ sig) → Buf (Elt Ideal) ℓ) (c : Dev nD)

/-- The arguments' contents, an array's coordinates one by one; those only a gradient reads filled with anything. -/
def inputs : Inputs where
  q r l := m ((c.tc : Thread nD τ).loc main_arg0) (ix2 r l)
  k r l := m ((c.tc : Thread nD τ).loc main_arg1) (ix2 r l)
  v r l := m ((c.tc : Thread nD τ).loc main_arg2) (ix2 r l)
  bt r l := m ((c.tc : Thread nD τ).loc main_arg3) (ix2 r l)
  gt r l := m ((c.tc : Thread nD τ).loc main_arg4) (ix2 r l)
  sh _ _ _ _ := 0
  ph _ _ _ _ := 0
  dO r l := m ((c.tc : Thread nD τ).loc main_arg0) (ix2 r l)

theorem entry_q (n : Fin 64) (h : Fin 8) (i d : Fin 64) :
    entryContents preI m c (Proc.devRef .tc main_v16_0) (ix4 n h i d) = (inputs m c).q (row n i) (lane h d) := by
  simp only [entryContents, afterL_cons, afterL_nil]
  after_reads_simp
  simp only [id]
  pointwise
  exact congrArg₂ (fun a b => m ((c.tc : Thread nD τ).loc main_arg0) (ix2 a b)) (Fin.ext (by simp only [row]; omega))
    (Fin.ext (by simp only [lane]; omega))

theorem entry_k (n : Fin 64) (h : Fin 8) (i d : Fin 64) :
    entryContents preI m c (Proc.devRef .tc main_v16_1) (ix4 n h i d) = (inputs m c).k (row n i) (lane h d) := by
  simp only [entryContents, afterL_cons, afterL_nil]
  after_reads_simp
  simp only [id]
  pointwise
  exact congrArg₂ (fun a b => m ((c.tc : Thread nD τ).loc main_arg1) (ix2 a b)) (Fin.ext (by simp only [row]; omega))
    (Fin.ext (by simp only [lane]; omega))

theorem entry_v (n : Fin 64) (h : Fin 8) (i d : Fin 64) :
    entryContents preI m c (Proc.devRef .tc main_v16_2) (ix4 n h i d) = (inputs m c).v (row n i) (lane h d) := by
  simp only [entryContents, afterL_cons, afterL_nil]
  after_reads_simp
  simp only [id]
  pointwise
  exact congrArg₂ (fun a b => m ((c.tc : Thread nD τ).loc main_arg2) (ix2 a b)) (Fin.ext (by simp only [row]; omega))
    (Fin.ext (by simp only [lane]; omega))

theorem entry_gt (n : Fin 64) (h : Fin 8) (i : Fin 64) :
    entryContents preI m c (Proc.devRef .tc main_v16_3) (ix3 n h i) = (inputs m c).gt (row n i) ⟨8 + h.val, by omega⟩ := by
  simp only [entryContents, afterL_cons, afterL_nil]
  after_reads_simp
  simp only [id]
  pointwise
  exact congrArg (fun a => m ((c.tc : Thread nD τ).loc main_arg4) (ix2 a ⟨8 + h.val, by omega⟩)) (Fin.ext (by simp only [row]; omega))

theorem entry_bt (n : Fin 64) (h : Fin 8) (i : Fin 64) :
    entryContents preI m c (Proc.devRef .tc main_v16_4) (ix3 n h i) = (inputs m c).bt (row n i) ⟨h.val, by omega⟩ := by
  simp only [entryContents, afterL_cons, afterL_nil]
  after_reads_simp
  simp only [id]
  pointwise
  exact congrArg (fun a => m ((c.tc : Thread nD τ).loc main_arg3) (ix2 a ⟨h.val, by omega⟩)) (Fin.ext (by simp only [row]; omega))

theorem entry_S (h : Fin 8) (i d : Fin 64) :
    entryContents preI m c (Proc.devRef .tc main_v16_6) (ix3 h i d) = (inputs m c).fState 0 h i d := by
  simp only [entryContents, afterL_cons, afterL_nil]
  after_reads_simp
  simp only [id]
  pointwise
  rfl

/-- What the loop carries before the trip numbered `s`, the results of the chunks already taken with it. -/
structure Carried (x : Inputs) (s : ℕ) (V : Valuation τ sig (Elt Ideal)) : Prop where
  holds : Holds x s V
  o (n : Fin 64) (hn : n.val < s) (h i d) : V (Proc.devRef .tc main_v16_7) (ix4 n h i d) = (x.fwd n (x.fState n.val)).out h i d
  st (n : Fin 64) (hn : n.val < s) (h i d) : V (Proc.devRef .tc main_v16_8) (ix4 n h i d) = x.state n h i d
  inv (n : Fin 64) (hn : n.val < s) (h i d) : V (Proc.devRef .tc main_v16_9) (ix4 n h i d) = x.inverse n h i d

theorem carried_entry : Carried (inputs m c) 0 (entryContents preI m c) where
  holds :=
    { ctr := ctr_entry m c
      q := entry_q m c
      k := entry_k m c
      v := entry_v m c
      g := entry_gt m c
      beta := entry_bt m c
      S := entry_S m c }
  o n hn := absurd hn (by omega)
  st n hn := absurd hn (by omega)
  inv n hn := absurd hn (by omega)

theorem nthF_val {s : ℕ} (hs : s < 64) : (nthF s).val = s := Nat.mod_eq_of_lt hs

theorem earlier {s : ℕ} (hs : s < 64) {n : Fin 64} (hn : n.val < s + 1) (e : ¬ n = nthF s) : n.val < s := by
  have : n.val ≠ s := fun h => e (Fin.ext (h.trans (nthF_val hs).symm))
  omega

theorem carried_step {x : Inputs} {s : ℕ} {V : Valuation τ sig (Elt Ideal)} (C : Carried x s V) (hs : s < 64) :
    Carried x (s + 1) (STEP V) where
  holds :=
    { ctr := by
        rw [STEP_main_v16_5]; unfold step_main_v16_5; rw [C.holds.ctr]
        funext y
        exact (BitVec.ofNat_add s 1).symm
      q := by rw [STEP_main_v16_0]; exact C.holds.q
      k := by rw [STEP_main_v16_1]; exact C.holds.k
      v := by rw [STEP_main_v16_2]; exact C.holds.v
      g := by rw [STEP_main_v16_3]; exact C.holds.g
      beta := by rw [STEP_main_v16_4]; exact C.holds.beta
      S := by rw [STEP_main_v16_6]; exact step6 C.holds hs }
  o n hn h i d := by
    rw [STEP_main_v16_7]
    refine (step7 C.holds hs n h i d).trans ?_
    by_cases e : n = nthF s
    · rw [if_pos e, e, nthF_val hs]; rfl
    · rw [if_neg e]; exact C.o n (earlier hs hn e) h i d
  st n hn h i d := by
    rw [STEP_main_v16_8]
    refine (step8 C.holds hs n h i d).trans ?_
    by_cases e : n = nthF s
    · rw [if_pos e, e]; unfold Inputs.state; rw [nthF_val hs]; rfl
    · rw [if_neg e]; exact C.st n (earlier hs hn e) h i d
  inv n hn h i d := by
    rw [STEP_main_v16_9]
    refine (step9 C.holds hs n h i d).trans ?_
    by_cases e : n = nthF s
    · rw [if_pos e, e]; rfl
    · rw [if_neg e]; exact C.inv n (earlier hs hn e) h i d

theorem carried : ∀ s : ℕ, s ≤ 64 → Carried (inputs m c) s (STEP^[s] (entryContents preI m c))
  | 0, _ => carried_entry m c
  | s + 1, hs => by
    rw [Function.iterate_succ_apply']
    exact carried_step (carried s (by omega)) (by omega)

/-- The three results: the outputs, the state before each chunk, each chunk's inverse. -/
theorem out_o : out_main_v18 (STEP^[64] (entryContents preI m c))
    = fun y : S4096x512.Idx => (inputs m c).o (y 0) (y 1) := by
  funext y
  obtain ⟨r, l, rfl⟩ : ∃ r l, y = ix2 r l := ⟨y 0, y 1, (ix2_eta y).symm⟩
  unfold out_main_v18
  pointwise
  exact (carried m c 64 le_rfl).o _ (by show r.val / 64 < 64; omega) _ _ _

theorem out_state : (STEP^[64] (entryContents preI m c)) (Proc.devRef .tc main_v16_8)
    = fun y : S64x8x64x64.Idx => (inputs m c).state (y 0) (y 1) (y 2) (y 3) := by
  funext y
  obtain ⟨n, h, i, d, rfl⟩ : ∃ (n : Fin 64) (h : Fin 8) (i d : Fin 64), y = ix4 n h i d :=
    ⟨y 0, y 1, y 2, y 3, by funext a; match a with | 0 => rfl | 1 => rfl | 2 => rfl | 3 => rfl⟩
  exact (carried m c 64 le_rfl).st n n.isLt h i d

theorem out_inverse : (STEP^[64] (entryContents preI m c)) (Proc.devRef .tc main_v16_9)
    = fun y : S64x8x64x64.Idx => (inputs m c).inverse (y 0) (y 1) (y 2) (y 3) := by
  funext y
  obtain ⟨n, h, i, d, rfl⟩ : ∃ (n : Fin 64) (h : Fin 8) (i d : Fin 64), y = ix4 n h i d :=
    ⟨y 0, y 1, y 2, y 3, by funext a; match a with | 0 => rfl | 1 => rfl | 2 => rfl | 3 => rfl⟩
  exact (carried m c 64 le_rfl).inv n n.isLt h i d

end Cert.Reference38Ideal.Trip

end
-- ==== Proof.Finite.lean ====
module

public import proofs.«01_k».proof.Pre_finite
public import proofs.«01_k».proof.Proof.Gen.Pre_finite
public import proofs.«01_k».proof.Proof.ChainAt
public import Idealize.ShloMosaic.Lib.ReduceAll
public import Idealize.ShloMosaic.Lib.Pipeline.ValueKit

@[expose] public section

/-! The precondition `finite`: its arrays hold real numbers. -/

noncomputable section

namespace Cert.Pre_finite

open Idealize.ShloMosaic Idealize.SL.Sem Idealize.ShloMosaic.Tactic
open Facts

/-- What is less than the greatest in absolute value is a real number. -/
theorem real_of_lt (a : EReal) (h : max a (-a) < ⊤) : ∃ r : ℝ, a = r := by
  induction a with
  | bot => simp at h
  | coe r => exact ⟨r, rfl⟩
  | top => simp at h

theorem real_of_cmpf (a : EReal) (h : FloatOps.cmpf (F := Ideal) (φ := .f32) .olt (FloatOps.hostAbsf (F := Ideal) (φ := .f32) a) (Scalar.ofBits .f32 0x7F800000#32) = 1#1) :
    ∃ r : ℝ, a = r := by
  refine real_of_lt a ?_
  have e : (Scalar.ofBits (F := Ideal) .f32 0x7F800000#32) = (⊤ : EReal) := by
    show Ideal.ofBits .f32 0x7F800000#32 = (⊤ : EReal)
    simp [Ideal.ofBits, Ideal.ieee]
  rw [e] at h
  by_contra hn
  have : FloatOps.cmpf (F := Ideal) (φ := .f32) .olt (FloatOps.hostAbsf (F := Ideal) (φ := .f32) a) (⊤ : EReal) = 0#1 := by
    show (BitVec.ofBool (decide (max a (-a) < ⊤))) = 0#1
    simp [hn]
  rw [this] at h
  exact absurd h (by decide)

theorem and_one {a b : BitVec 1} (h : IntOp.andi a b = 1#1) : a = 1#1 ∧ b = 1#1 := by
  revert a b; decide

instance : Subsingleton S_.Idx := ⟨fun a b => by funext i; exact i.elim0⟩

/-- The second, fourth and fifth arrays of `finite` hold real numbers. -/
theorem real_of_fn (q k v : FVec Ideal S4096x512 .f32) (bt gt : FVec Ideal S4096x128 .f32)
    (h : fn (F := Ideal) q k v bt gt = fun _ => 1#1) :
    (∀ i, ∃ r : ℝ, k i = r) ∧ (∀ i, ∃ r : ℝ, bt i = r) ∧ ∀ i, ∃ r : ℝ, gt i = r := by
  have h0 := congrFun h (Shape.Idx.first h_S_)
  unfold fn at h0
  obtain ⟨h01, hg⟩ := and_one h0
  obtain ⟨hk, hb⟩ := and_one h01
  exact ⟨fun i => real_of_cmpf _ (Host.reduce_andi_all _ _ _ _ _ hk i), fun i => real_of_cmpf _ (Host.reduce_andi_all _ _ _ _ _ hb i),
    fun i => real_of_cmpf _ (Host.reduce_andi_all _ _ _ _ _ hg i)⟩

end Cert.Pre_finite

end
-- ==== Proof.FwdValues.lean ====
module

public import proofs.«01_k».proof.Defs
public import proofs.«01_k».proof.Proof.FwdAt
public import proofs.«01_k».proof.Proof.FwdLoop
public import proofs.«01_k».proof.Proof.Finite
public import proofs.«01_k».proof.Proof.Gen.Kernel38Ideal
public import proofs.«01_k».proof.Proof.Gen.Kernel38Ideal.Value
public import proofs.«01_k».proof.Proof.Gen.Reference38Ideal.Run
public import Idealize.ShloMosaic.Adequacy
public import Idealize.ShloMosaic.Init

@[expose] public section

/-! The forward scan's claims: the reference's frame, and that kernel and reference leave the same arrays. -/

noncomputable section

namespace Cert.Kernel38Ideal.Forward

open Idealize.ShloMosaic Idealize.SL.Sem

/-- Memories that agree on the arguments hold the same arrays. -/
theorem same_inputs (m : (ℓ : Loc Cert.Kernel38Ideal.nD Cert.Kernel38Ideal.τ Cert.Kernel38Ideal.sig) → Buf (Elt Ideal) ℓ)
    (m' : (ℓ : Loc Cert.Reference38Ideal.nD Cert.Reference38Ideal.τ Cert.Reference38Ideal.sig) → Buf (Elt Ideal) ℓ)
    (c : Dev Cert.Kernel38Ideal.nD)
    (h :
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)
      ∧ m' ((c.tc : Thread Cert.Reference38Ideal.nD Cert.Reference38Ideal.τ).loc Cert.Reference38Ideal.main_arg4) = m ((c.tc : Thread Cert.Kernel38Ideal.nD Cert.Kernel38Ideal.τ).loc Cert.Kernel38Ideal.main_arg4)) :
    Cert.Reference38Ideal.Trip.inputs m' c = Cert.Kernel38Ideal.Chain.inputs m c := by
  obtain ⟨h0, h1, h2, h3, h4⟩ := h
  unfold Cert.Reference38Ideal.Trip.inputs Cert.Kernel38Ideal.Chain.inputs
  congr 1
  · funext r l; exact congrFun h0 (ix2 r l)
  · funext r l; exact congrFun h1 (ix2 r l)
  · funext r l; exact congrFun h2 (ix2 r l)
  · funext r l; exact congrFun h3 (ix2 r l)
  · funext r l; exact congrFun h4 (ix2 r l)
  · funext r l; exact congrFun h0 (ix2 r l)

/-- The precondition makes keys and gates real. -/
theorem finite_inputs (m : (ℓ : Loc Cert.Kernel38Ideal.nD Cert.Kernel38Ideal.τ Cert.Kernel38Ideal.sig) → Buf (Elt Ideal) ℓ)
    (h : Cert.Pre_Kernel38Ideal_finite (hPre_finite := Cert.Pre_finite.Gen.facts) m) (c : Dev Cert.Kernel38Ideal.nD) :
    (Cert.Kernel38Ideal.Chain.inputs m c).Finite := by
  obtain ⟨hk, hb, hg⟩ := Cert.Pre_finite.real_of_fn _ _ _ _ _ (h c)
  exact ⟨fun r l => hk (ix2 r l), fun r l => hb (ix2 r l), fun r l => hg (ix2 r l)⟩

/-- Kernel and reference leave the same outputs, states and inverses. -/
theorem values : Cert.algebraic_Kernel38Ideal_Reference38Ideal_pre_finite (hKernel38Ideal := Cert.Kernel38Ideal.Gen.facts)
    (hReference38Ideal := Cert.Reference38Ideal.Gen.facts) (hPre_finite := Cert.Pre_finite.Gen.facts) := by
  intro m g m' g' hp hm
  have hx := finite_inputs m hp
  refine ⟨fun c => (fun y : Cert.Kernel38Ideal.S4096x512.Idx => (Cert.Kernel38Ideal.Chain.inputs m c).o (y 0) (y 1)),
    fun c => (fun y : Cert.Kernel38Ideal.S64x8x64x64.Idx => (Cert.Kernel38Ideal.Chain.inputs m c).state (y 0) (y 1) (y 2) (y 3)),
    fun c => (fun y : Cert.Kernel38Ideal.S64x8x64x64.Idx => (Cert.Kernel38Ideal.Chain.inputs m c).inverse (y 0) (y 1) (y 2) (y 3)), ?_, ?_⟩
  · refine (θ_run _ _ _).mono (fun r h c => ?_) (Cert.Kernel38Ideal.Value.run_blocks m g)
    obtain ⟨h0, h1, h2, hargs⟩ := h c
    exact ⟨h0.trans (Cert.Kernel38Ideal.Chain.final5 m hx c), h1.trans (Cert.Kernel38Ideal.Chain.final6 m hx c),
      h2.trans (Cert.Kernel38Ideal.Chain.final7 m hx c), hargs⟩
  · refine (θ_run _ _ _).mono (fun r h c => ?_) (Cert.Reference38Ideal.Value.run m' g')
    obtain ⟨h0, h1, h2, hargs⟩ := h c
    have e := same_inputs m m' c (hm c)
    simp only [← e]
    exact ⟨h0.trans (Cert.Reference38Ideal.Trip.out_o m' c), h1.trans (Cert.Reference38Ideal.Trip.out_state m' c),
      h2.trans (Cert.Reference38Ideal.Trip.out_inverse m' c), hargs⟩

/-- The reference has no semaphore, so no counter. -/
theorem no_counters (f : GSem Cert.Reference38Ideal.nD Cert.Reference38Ideal.τ Cert.Reference38Ideal.sig → Int) : f = fun _ => 0 := by
  funext ⟨t, s⟩
  cases s with
  | reg s => exact s.elim0
  | dma s => exact s.elim0

theorem frame_reference : Cert.quiescent_Reference38Ideal (hReference38Ideal := Cert.Reference38Ideal.Gen.facts) :=
  fun m ρ _ => (θ_run _ _ _).mono (fun r h => ⟨fun c => (h c).2.2.2, no_counters _⟩) (Cert.Reference38Ideal.Value.run m ρ)

theorem frame_reference_finite : Cert.quiescent_Reference38Ideal_pre_finite (hReference38Ideal := Cert.Reference38Ideal.Gen.facts)
    (hPre_finite := Cert.Pre_finite.Gen.facts) :=
  fun m ρ _ => frame_reference m ρ trivial

end Cert.Kernel38Ideal.Forward

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Value
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Value
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Value
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Value
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Value
public import proofs.«01_k».proof.Proof.Gen.Reference21Ideal.Run
public import proofs.«01_k».proof.Proof.KernelAt
public import proofs.«01_k».proof.Proof.LoopAt
public import proofs.«01_k».proof.Proof.Product2
public import proofs.«01_k».proof.Proof.Product3
public import proofs.«01_k».proof.Proof.Product4
public import proofs.«01_k».proof.Proof.Product5
public import proofs.«01_k».proof.Proof.Product6
public import proofs.«01_k».proof.Proof.Product7
public import proofs.«01_k».proof.Proof.Product8
public import proofs.«01_k».proof.Proof.Product9
public import proofs.«01_k».proof.Proof.Product10
public import proofs.«01_k».proof.Proof.Product11
public import proofs.«01_k».proof.Proof.Product12
public import proofs.«01_k».proof.Proof.Product13
public import proofs.«01_k».proof.Proof.Product14
public import proofs.«01_k».proof.Proof.Step15
public import proofs.«01_k».proof.Proof.Step16
public import proofs.«01_k».proof.Proof.Step17
public import proofs.«01_k».proof.Proof.Step18
public import proofs.«01_k».proof.Proof.Step19
public import proofs.«01_k».proof.Proof.Step20
public import proofs.«01_k».proof.Proof.Step21
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Value
public import proofs.«01_k».proof.Proof.Gen.Reference22Ideal.Run
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Value
public import proofs.«01_k».proof.Proof.Gen.Reference23Ideal.Run
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Value
public import proofs.«01_k».proof.Proof.Gen.Reference24Ideal.Run
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Value
public import proofs.«01_k».proof.Proof.Gen.Reference25Ideal.Run
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Value
public import proofs.«01_k».proof.Proof.Gen.Reference26Ideal.Run
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Value
public import proofs.«01_k».proof.Proof.Gen.Reference27Ideal.Run
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Value
public import proofs.«01_k».proof.Proof.Gen.Reference28Ideal.Run
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Value
public import proofs.«01_k».proof.Proof.Gen.Reference29Ideal.Run
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Value
public import proofs.«01_k».proof.Proof.Gen.Reference30Ideal.Run
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Value
public import proofs.«01_k».proof.Proof.Gen.Reference31Ideal.Run
public import proofs.«01_k».proof.Proof.Gen.Kernel38
public import proofs.«01_k».proof.Proof.Gen.Kernel38.Frame
public import proofs.«01_k».proof.Proof.Gen.Kernel38Ideal
public import proofs.«01_k».proof.Proof.Gen.Kernel38Ideal.Value
public import proofs.«01_k».proof.Proof.Gen.Reference38Ideal.Run
public import proofs.«01_k».proof.Proof.Gen.Pre_finite
public import proofs.«01_k».proof.Proof.Stage22
public import proofs.«01_k».proof.Proof.Stage23
public import proofs.«01_k».proof.Proof.Stage24
public import proofs.«01_k».proof.Proof.Stage25
public import proofs.«01_k».proof.Proof.Stage26
public import proofs.«01_k».proof.Proof.Stage27
public import proofs.«01_k».proof.Proof.Stage28
public import proofs.«01_k».proof.Proof.Stage29
public import proofs.«01_k».proof.Proof.Stage30
public import proofs.«01_k».proof.Proof.Stage31
public import proofs.«01_k».proof.Proof.Gen.Kernel32
public import proofs.«01_k».proof.Proof.Gen.Kernel32.Frame
public import proofs.«01_k».proof.Proof.Gen.Kernel32Ideal
public import proofs.«01_k».proof.Proof.Gen.Kernel32Ideal.Frame
public import proofs.«01_k».proof.Proof.Gen.Reference32Ideal.Run
public import proofs.«01_k».proof.Proof.Gen.Kernel33
public import proofs.«01_k».proof.Proof.Gen.Kernel33.Frame
public import proofs.«01_k».proof.Proof.Gen.Kernel33Ideal
public import proofs.«01_k».proof.Proof.Gen.Kernel33Ideal.Frame
public import proofs.«01_k».proof.Proof.Gen.Reference33Ideal.Run
public import proofs.«01_k».proof.Proof.Gen.Kernel34
public import proofs.«01_k».proof.Proof.Gen.Kernel34.Frame
public import proofs.«01_k».proof.Proof.Gen.Kernel34Ideal
public import proofs.«01_k».proof.Proof.Gen.Kernel34Ideal.Frame
public import proofs.«01_k».proof.Proof.Gen.Reference34Ideal.Run
public import proofs.«01_k».proof.Proof.Gen.Kernel35
public import proofs.«01_k».proof.Proof.Gen.Kernel35.Frame
public import proofs.«01_k».proof.Proof.Gen.Kernel35Ideal
public import proofs.«01_k».proof.Proof.Gen.Kernel35Ideal.Frame
public import proofs.«01_k».proof.Proof.Gen.Reference35Ideal.Run
public import proofs.«01_k».proof.Proof.Gen.Kernel36
public import proofs.«01_k».proof.Proof.Gen.Kernel36.Frame
public import proofs.«01_k».proof.Proof.Gen.Kernel36Ideal
public import proofs.«01_k».proof.Proof.Gen.Kernel36Ideal.Frame
public import proofs.«01_k».proof.Proof.Gen.Reference36Ideal.Run
public import proofs.«01_k».proof.Proof.Gen.Kernel37
public import proofs.«01_k».proof.Proof.Gen.Kernel37.Frame
public import proofs.«01_k».proof.Proof.Gen.Kernel37Ideal
public import proofs.«01_k».proof.Proof.Gen.Kernel37Ideal.Frame
public import proofs.«01_k».proof.Proof.Gen.Reference37Ideal.Run
public import proofs.«01_k».proof.Proof.Stage32
public import proofs.«01_k».proof.Proof.Stage33
public import proofs.«01_k».proof.Proof.Stage34
public import proofs.«01_k».proof.Proof.Stage35
public import proofs.«01_k».proof.Proof.Stage36
public import proofs.«01_k».proof.Proof.Stage37
public import proofs.«01_k».proof.Proof.FwdValues
public import Idealize.ShloMosaic.Adequacy
public import Idealize.ShloMosaic.Init

@[expose] public section

noncomputable section

namespace Cert.Proof

open Idealize.ShloMosaic Idealize.SL.Sem Cert.Kernel

/-- Memories that agree on the arguments hold the same arrays. -/
theorem same_inputs (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Trip.inputs m' c = Cert.KernelIdeal.Chain.inputs m c := by
  obtain ⟨h0, h1, h2, h3, h4, h5, h6, h7⟩ := h
  unfold Cert.ReferenceIdeal.Trip.inputs Cert.KernelIdeal.Chain.inputs
  congr 1
  · funext r l; exact congrFun h0 (ix2 r l)
  · funext r l; exact congrFun h1 (ix2 r l)
  · funext r l; exact congrFun h2 (ix2 r l)
  · funext r l; exact congrFun h3 (ix2 r l)
  · funext r l; exact congrFun h4 (ix2 r l)
  · funext n h i d; exact congrFun h5 (ix4 n h i d)
  · funext n h i d; exact congrFun h6 (ix4 n h i d)
  · funext r l; exact congrFun h7 (ix2 r l)

/-- Kernel and reference leave the same gradients. -/
theorem values : Cert.algebraic_KernelIdeal_ReferenceIdeal (hKernelIdeal := Cert.KernelIdeal.Gen.facts)
    (hReferenceIdeal := Cert.ReferenceIdeal.Gen.facts) := by
  intro m g m' g' _ hm
  refine ⟨fun c => (fun y : Cert.KernelIdeal.S4096x512.Idx => (Cert.KernelIdeal.Chain.inputs m c).dq (y 0) (y 1)),
    fun c => (fun y : Cert.KernelIdeal.S4096x512.Idx => (Cert.KernelIdeal.Chain.inputs m c).dk (y 0) (y 1)),
    fun c => (fun y : Cert.KernelIdeal.S4096x512.Idx => (Cert.KernelIdeal.Chain.inputs m c).dv (y 0) (y 1)),
    fun c => (fun y : Cert.KernelIdeal.S4096x128.Idx => (Cert.KernelIdeal.Chain.inputs m c).dbt (y 0) (y 1)),
    fun c => (fun y : Cert.KernelIdeal.S4096x128.Idx => (Cert.KernelIdeal.Chain.inputs m c).dgt (y 0) (y 1)), ?_, ?_⟩
  · refine (θ_run _ _ _).mono (fun r h c => ?_) (Cert.KernelIdeal.Value.run_blocks m g)
    obtain ⟨h0, h1, h2, h3, h4, hargs⟩ := h c
    exact ⟨h0.trans (Cert.KernelIdeal.Chain.final8 m c), h1.trans (Cert.KernelIdeal.Chain.final9 m c),
      h2.trans (Cert.KernelIdeal.Chain.final10 m c), h3.trans (Cert.KernelIdeal.Chain.final11 m c),
      h4.trans (Cert.KernelIdeal.Chain.final12 m c), hargs⟩
  · refine (θ_run _ _ _).mono (fun r h c => ?_) (Cert.ReferenceIdeal.Value.run m' g')
    obtain ⟨h0, h1, h2, h3, h4, hargs⟩ := h c
    have e := same_inputs m m' c (hm c)
    simp only [← e]
    exact ⟨h0.trans (Cert.ReferenceIdeal.Trip.out_dq m' c), h1.trans (Cert.ReferenceIdeal.Trip.out_dk m' c),
      h2.trans (Cert.ReferenceIdeal.Trip.out_dv m' c), h3.trans (Cert.ReferenceIdeal.Trip.out_dbt m' c),
      h4.trans (Cert.ReferenceIdeal.Trip.out_dgt m' c), hargs⟩

/-- The reference has no semaphore, so no counter. -/
theorem no_counters (f : GSem Cert.ReferenceIdeal.nD Cert.ReferenceIdeal.τ Cert.ReferenceIdeal.sig → Int) : f = fun _ => 0 := by
  funext ⟨t, s⟩
  cases s with
  | reg s => exact s.elim0
  | dma s => exact s.elim0

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    Cert.Kernel37.Gen.facts, Cert.Kernel37Ideal.Gen.facts, Cert.Reference37Ideal.Gen.facts,
    Cert.Kernel38.Gen.facts, Cert.Kernel38Ideal.Gen.facts, Cert.Reference38Ideal.Gen.facts, Cert.Pre_finite.Gen.facts,
    fun m ρ _ => Cert.Kernel.Gen.frame m ρ,
    fun m ρ _ => Cert.KernelIdeal.Gen.frame m ρ,
    fun m ρ _ => (θ_run _ _ _).mono (fun r h => ⟨fun c => (h c).2.2.2.2.2, no_counters _⟩) (Cert.ReferenceIdeal.Value.run m ρ),
    fun m ρ _ => Cert.Kernel2.Gen.frame m ρ, fun m ρ _ => Cert.Kernel2Ideal.Gen.frame m ρ, Cert.Kernel2Ideal.Product.frame_reference,
    fun m ρ _ => Cert.Kernel3.Gen.frame m ρ, fun m ρ _ => Cert.Kernel3Ideal.Gen.frame m ρ, Cert.Kernel3Ideal.Product.frame_reference,
    fun m ρ _ => Cert.Kernel4.Gen.frame m ρ, fun m ρ _ => Cert.Kernel4Ideal.Gen.frame m ρ, Cert.Kernel4Ideal.Product.frame_reference,
    fun m ρ _ => Cert.Kernel5.Gen.frame m ρ, fun m ρ _ => Cert.Kernel5Ideal.Gen.frame m ρ, Cert.Kernel5Ideal.Product.frame_reference,
    fun m ρ _ => Cert.Kernel6.Gen.frame m ρ, fun m ρ _ => Cert.Kernel6Ideal.Gen.frame m ρ, Cert.Kernel6Ideal.Product.frame_reference,
    fun m ρ _ => Cert.Kernel7.Gen.frame m ρ, fun m ρ _ => Cert.Kernel7Ideal.Gen.frame m ρ, Cert.Kernel7Ideal.Product.frame_reference,
    fun m ρ _ => Cert.Kernel8.Gen.frame m ρ, fun m ρ _ => Cert.Kernel8Ideal.Gen.frame m ρ, Cert.Kernel8Ideal.Product.frame_reference,
    fun m ρ _ => Cert.Kernel9.Gen.frame m ρ, fun m ρ _ => Cert.Kernel9Ideal.Gen.frame m ρ, Cert.Kernel9Ideal.Product.frame_reference,
    fun m ρ _ => Cert.Kernel10.Gen.frame m ρ, fun m ρ _ => Cert.Kernel10Ideal.Gen.frame m ρ, Cert.Kernel10Ideal.Product.frame_reference,
    fun m ρ _ => Cert.Kernel11.Gen.frame m ρ, fun m ρ _ => Cert.Kernel11Ideal.Gen.frame m ρ, Cert.Kernel11Ideal.Product.frame_reference,
    fun m ρ _ => Cert.Kernel12.Gen.frame m ρ, fun m ρ _ => Cert.Kernel12Ideal.Gen.frame m ρ, Cert.Kernel12Ideal.Product.frame_reference,
    fun m ρ _ => Cert.Kernel13.Gen.frame m ρ, fun m ρ _ => Cert.Kernel13Ideal.Gen.frame m ρ, Cert.Kernel13Ideal.Product.frame_reference,
    fun m ρ _ => Cert.Kernel14.Gen.frame m ρ, fun m ρ _ => Cert.Kernel14Ideal.Gen.frame m ρ, Cert.Kernel14Ideal.Product.frame_reference,
    fun m ρ _ => Cert.Kernel15.Gen.frame m ρ, fun m ρ _ => Cert.Kernel15Ideal.Gen.frame m ρ, Cert.Kernel15Ideal.Step.frame_reference,
    fun m ρ _ => Cert.Kernel16.Gen.frame m ρ, fun m ρ _ => Cert.Kernel16Ideal.Gen.frame m ρ, Cert.Kernel16Ideal.Step.frame_reference,
    fun m ρ _ => Cert.Kernel17.Gen.frame m ρ, fun m ρ _ => Cert.Kernel17Ideal.Gen.frame m ρ, Cert.Kernel17Ideal.Step.frame_reference,
    fun m ρ _ => Cert.Kernel18.Gen.frame m ρ, fun m ρ _ => Cert.Kernel18Ideal.Gen.frame m ρ, Cert.Kernel18Ideal.Step.frame_reference,
    fun m ρ _ => Cert.Kernel19.Gen.frame m ρ, fun m ρ _ => Cert.Kernel19Ideal.Gen.frame m ρ, Cert.Kernel19Ideal.Step.frame_reference,
    fun m ρ _ => Cert.Kernel20.Gen.frame m ρ, fun m ρ _ => Cert.Kernel20Ideal.Gen.frame m ρ, Cert.Kernel20Ideal.Step.frame_reference,
    fun m ρ _ => Cert.Kernel21.Gen.frame m ρ, fun m ρ _ => Cert.Kernel21Ideal.Gen.frame m ρ, Cert.Kernel21Ideal.Step.frame_reference,
    fun m ρ _ => Cert.Kernel22.Gen.frame m ρ, fun m ρ _ => Cert.Kernel22Ideal.Gen.frame m ρ, Cert.Kernel22Ideal.Stage.frame_reference,
    fun m ρ _ => Cert.Kernel23.Gen.frame m ρ, fun m ρ _ => Cert.Kernel23Ideal.Gen.frame m ρ, Cert.Kernel23Ideal.Stage.frame_reference,
    fun m ρ _ => Cert.Kernel24.Gen.frame m ρ, fun m ρ _ => Cert.Kernel24Ideal.Gen.frame m ρ, Cert.Kernel24Ideal.Stage.frame_reference,
    fun m ρ _ => Cert.Kernel25.Gen.frame m ρ, fun m ρ _ => Cert.Kernel25Ideal.Gen.frame m ρ, Cert.Kernel25Ideal.Stage.frame_reference,
    fun m ρ _ => Cert.Kernel26.Gen.frame m ρ, fun m ρ _ => Cert.Kernel26Ideal.Gen.frame m ρ, Cert.Kernel26Ideal.Stage.frame_reference,
    fun m ρ _ => Cert.Kernel27.Gen.frame m ρ, fun m ρ _ => Cert.Kernel27Ideal.Gen.frame m ρ, Cert.Kernel27Ideal.Stage.frame_reference,
    fun m ρ _ => Cert.Kernel28.Gen.frame m ρ, fun m ρ _ => Cert.Kernel28Ideal.Gen.frame m ρ, Cert.Kernel28Ideal.Stage.frame_reference,
    fun m ρ _ => Cert.Kernel29.Gen.frame m ρ, fun m ρ _ => Cert.Kernel29Ideal.Gen.frame m ρ, Cert.Kernel29Ideal.Stage.frame_reference,
    fun m ρ _ => Cert.Kernel30.Gen.frame m ρ, fun m ρ _ => Cert.Kernel30Ideal.Gen.frame m ρ, Cert.Kernel30Ideal.Stage.frame_reference,
    fun m ρ _ => Cert.Kernel31.Gen.frame m ρ, fun m ρ _ => Cert.Kernel31Ideal.Gen.frame m ρ, Cert.Kernel31Ideal.Stage.frame_reference,
    fun m ρ _ => Cert.Kernel32.Gen.frame m ρ, fun m ρ _ => Cert.Kernel32Ideal.Gen.frame m ρ, Cert.Kernel32Ideal.Stage.frame_reference,
    Cert.Kernel33.Stage.frame_kernel, Cert.Kernel33Ideal.Stage.frame_ideal, Cert.Kernel33Ideal.Stage.frame_reference,
    Cert.Kernel34.Stage.frame_kernel, Cert.Kernel34Ideal.Stage.frame_ideal, Cert.Kernel34Ideal.Stage.frame_reference,
    Cert.Kernel35.Stage.frame_kernel, Cert.Kernel35Ideal.Stage.frame_ideal, Cert.Kernel35Ideal.Stage.frame_reference,
    Cert.Kernel36.Stage.frame_kernel, Cert.Kernel36Ideal.Stage.frame_ideal, Cert.Kernel36Ideal.Stage.frame_reference,
    Cert.Kernel37.Stage.frame_kernel, Cert.Kernel37Ideal.Stage.frame_ideal, Cert.Kernel37Ideal.Stage.frame_reference,
    fun m ρ _ => Cert.Kernel38.Gen.frame m ρ, fun m ρ _ => Cert.Kernel38Ideal.Gen.frame m ρ, fun m ρ _ => Cert.Kernel38Ideal.Gen.frame m ρ,
    Cert.Kernel38Ideal.Forward.frame_reference, Cert.Kernel38Ideal.Forward.frame_reference_finite,
    trivial, values,
    trivial, Cert.Kernel2Ideal.Product.values,
    trivial, Cert.Kernel3Ideal.Product.values,
    trivial, Cert.Kernel4Ideal.Product.values,
    trivial, Cert.Kernel5Ideal.Product.values,
    trivial, Cert.Kernel6Ideal.Product.values,
    trivial, Cert.Kernel7Ideal.Product.values,
    trivial, Cert.Kernel8Ideal.Product.values,
    trivial, Cert.Kernel9Ideal.Product.values,
    trivial, Cert.Kernel10Ideal.Product.values,
    trivial, Cert.Kernel11Ideal.Product.values,
    trivial, Cert.Kernel12Ideal.Product.values,
    trivial, Cert.Kernel13Ideal.Product.values,
    trivial, Cert.Kernel14Ideal.Product.values,
    trivial, Cert.Kernel15Ideal.Step.values,
    trivial, Cert.Kernel16Ideal.Step.values,
    trivial, Cert.Kernel17Ideal.Step.values,
    trivial, Cert.Kernel18Ideal.Step.values,
    trivial, Cert.Kernel19Ideal.Step.values,
    trivial, Cert.Kernel20Ideal.Step.values,
    trivial, Cert.Kernel21Ideal.Step.values,
    trivial, Cert.Kernel22Ideal.Stage.values,
    trivial, Cert.Kernel23Ideal.Stage.values,
    trivial, Cert.Kernel24Ideal.Stage.values,
    trivial, Cert.Kernel25Ideal.Stage.values,
    trivial, Cert.Kernel26Ideal.Stage.values,
    trivial, Cert.Kernel27Ideal.Stage.values,
    trivial, Cert.Kernel28Ideal.Stage.values,
    trivial, Cert.Kernel29Ideal.Stage.values,
    trivial, Cert.Kernel30Ideal.Stage.values,
    trivial, Cert.Kernel31Ideal.Stage.values,
    trivial, Cert.Kernel32Ideal.Stage.values,
    trivial, Cert.Kernel33Ideal.Stage.values,
    trivial, Cert.Kernel34Ideal.Stage.values,
    trivial, Cert.Kernel35Ideal.Stage.values,
    trivial, Cert.Kernel36Ideal.Stage.values,
    trivial, Cert.Kernel37Ideal.Stage.values,
    trivial, Cert.Kernel38Ideal.Forward.values⟩

end Cert.Proof

end
